-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelDh2 (m : (ℓ : Loc Cert.KernelDh2.nD Cert.KernelDh2.τ Cert.KernelDh2.sig) → Buf (Elt Bits) ℓ) : Prop :=
  True

def Pre_KernelDh2Ideal (m : (ℓ : Loc Cert.KernelDh2Ideal.nD Cert.KernelDh2Ideal.τ Cert.KernelDh2Ideal.sig) → Buf (Elt Ideal) ℓ) : Prop :=
  True

def Pre_ReferenceDh2Ideal (m : (ℓ : Loc Cert.ReferenceDh2Ideal.nD Cert.ReferenceDh2Ideal.τ Cert.ReferenceDh2Ideal.sig) → Buf (Elt Ideal) ℓ) : Prop :=
  True

def Pre_KernelDwup (m : (ℓ : Loc Cert.KernelDwup.nD Cert.KernelDwup.τ Cert.KernelDwup.sig) → Buf (Elt Bits) ℓ) : Prop :=
  True

def Pre_KernelDwupIdeal (m : (ℓ : Loc Cert.KernelDwupIdeal.nD Cert.KernelDwupIdeal.τ Cert.KernelDwupIdeal.sig) → Buf (Elt Ideal) ℓ) : Prop :=
  True

def Pre_ReferenceDwupIdeal (m : (ℓ : Loc Cert.ReferenceDwupIdeal.nD Cert.ReferenceDwupIdeal.τ Cert.ReferenceDwupIdeal.sig) → Buf (Elt Ideal) ℓ) : Prop :=
  True

def Pre_KernelDact (m : (ℓ : Loc Cert.KernelDact.nD Cert.KernelDact.τ Cert.KernelDact.sig) → Buf (Elt Bits) ℓ) : Prop :=
  True

def Pre_KernelDactIdeal (m : (ℓ : Loc Cert.KernelDactIdeal.nD Cert.KernelDactIdeal.τ Cert.KernelDactIdeal.sig) → Buf (Elt Ideal) ℓ) : Prop :=
  True

def Pre_ReferenceDactIdeal (m : (ℓ : Loc Cert.ReferenceDactIdeal.nD Cert.ReferenceDactIdeal.τ Cert.ReferenceDactIdeal.sig) → Buf (Elt Ideal) ℓ) : Prop :=
  True

def Pre_KernelDwdown (m : (ℓ : Loc Cert.KernelDwdown.nD Cert.KernelDwdown.τ Cert.KernelDwdown.sig) → Buf (Elt Bits) ℓ) : Prop :=
  True

def Pre_KernelDwdownIdeal (m : (ℓ : Loc Cert.KernelDwdownIdeal.nD Cert.KernelDwdownIdeal.τ Cert.KernelDwdownIdeal.sig) → Buf (Elt Ideal) ℓ) : Prop :=
  True

def Pre_ReferenceDwdownIdeal (m : (ℓ : Loc Cert.ReferenceDwdownIdeal.nD Cert.ReferenceDwdownIdeal.τ Cert.ReferenceDwdownIdeal.sig) → Buf (Elt Ideal) ℓ) : Prop :=
  True

def Pre_KernelDyn (m : (ℓ : Loc Cert.KernelDyn.nD Cert.KernelDyn.τ Cert.KernelDyn.sig) → Buf (Elt Bits) ℓ) : Prop :=
  True

def Pre_KernelDynIdeal (m : (ℓ : Loc Cert.KernelDynIdeal.nD Cert.KernelDynIdeal.τ Cert.KernelDynIdeal.sig) → Buf (Elt Ideal) ℓ) : Prop :=
  True

def Pre_ReferenceDynIdeal (m : (ℓ : Loc Cert.ReferenceDynIdeal.nD Cert.ReferenceDynIdeal.τ Cert.ReferenceDynIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDh1 (m : (ℓ : Loc Cert.KernelDh1.nD Cert.KernelDh1.τ Cert.KernelDh1.sig) → Buf (Elt Bits) ℓ) : Prop :=
  True

def Pre_KernelDh1Ideal (m : (ℓ : Loc Cert.KernelDh1Ideal.nD Cert.KernelDh1Ideal.τ Cert.KernelDh1Ideal.sig) → Buf (Elt Ideal) ℓ) : Prop :=
  True

def Pre_ReferenceDh1Ideal (m : (ℓ : Loc Cert.ReferenceDh1Ideal.nD Cert.ReferenceDh1Ideal.τ Cert.ReferenceDh1Ideal.sig) → Buf (Elt Ideal) ℓ) : Prop :=
  True

def Pre_KernelAdamWo (m : (ℓ : Loc Cert.KernelAdamWo.nD Cert.KernelAdamWo.τ Cert.KernelAdamWo.sig) → Buf (Elt Bits) ℓ) : Prop :=
  True

def Pre_KernelAdamWoIdeal (m : (ℓ : Loc Cert.KernelAdamWoIdeal.nD Cert.KernelAdamWoIdeal.τ Cert.KernelAdamWoIdeal.sig) → Buf (Elt Ideal) ℓ) : Prop :=
  True

def Pre_ReferenceAdamWoIdeal (m : (ℓ : Loc Cert.ReferenceAdamWoIdeal.nD Cert.ReferenceAdamWoIdeal.τ Cert.ReferenceAdamWoIdeal.sig) → Buf (Elt Ideal) ℓ) : Prop :=
  True

def Pre_KernelAdamWdown (m : (ℓ : Loc Cert.KernelAdamWdown.nD Cert.KernelAdamWdown.τ Cert.KernelAdamWdown.sig) → Buf (Elt Bits) ℓ) : Prop :=
  True

def Pre_KernelAdamWdownIdeal (m : (ℓ : Loc Cert.KernelAdamWdownIdeal.nD Cert.KernelAdamWdownIdeal.τ Cert.KernelAdamWdownIdeal.sig) → Buf (Elt Ideal) ℓ) : Prop :=
  True

def Pre_ReferenceAdamWdownIdeal (m : (ℓ : Loc Cert.ReferenceAdamWdownIdeal.nD Cert.ReferenceAdamWdownIdeal.τ Cert.ReferenceAdamWdownIdeal.sig) → Buf (Elt Ideal) ℓ) : Prop :=
  True

def Pre_KernelAdamWukv (m : (ℓ : Loc Cert.KernelAdamWukv.nD Cert.KernelAdamWukv.τ Cert.KernelAdamWukv.sig) → Buf (Elt Bits) ℓ) : Prop :=
  True

def Pre_KernelAdamWukvIdeal (m : (ℓ : Loc Cert.KernelAdamWukvIdeal.nD Cert.KernelAdamWukvIdeal.τ Cert.KernelAdamWukvIdeal.sig) → Buf (Elt Ideal) ℓ) : Prop :=
  True

def Pre_ReferenceAdamWukvIdeal (m : (ℓ : Loc Cert.ReferenceAdamWukvIdeal.nD Cert.ReferenceAdamWukvIdeal.τ Cert.ReferenceAdamWukvIdeal.sig) → Buf (Elt Ideal) ℓ) : Prop :=
  True

def Pre_KernelAdamWuq (m : (ℓ : Loc Cert.KernelAdamWuq.nD Cert.KernelAdamWuq.τ Cert.KernelAdamWuq.sig) → Buf (Elt Bits) ℓ) : Prop :=
  True

def Pre_KernelAdamWuqIdeal (m : (ℓ : Loc Cert.KernelAdamWuqIdeal.nD Cert.KernelAdamWuqIdeal.τ Cert.KernelAdamWuqIdeal.sig) → Buf (Elt Ideal) ℓ) : Prop :=
  True

def Pre_ReferenceAdamWuqIdeal (m : (ℓ : Loc Cert.ReferenceAdamWuqIdeal.nD Cert.ReferenceAdamWuqIdeal.τ Cert.ReferenceAdamWuqIdeal.sig) → Buf (Elt Ideal) ℓ) : Prop :=
  True

def Pre_KernelAdamWin (m : (ℓ : Loc Cert.KernelAdamWin.nD Cert.KernelAdamWin.τ Cert.KernelAdamWin.sig) → Buf (Elt Bits) ℓ) : Prop :=
  True

def Pre_KernelAdamWinIdeal (m : (ℓ : Loc Cert.KernelAdamWinIdeal.nD Cert.KernelAdamWinIdeal.τ Cert.KernelAdamWinIdeal.sig) → Buf (Elt Ideal) ℓ) : Prop :=
  True

def Pre_ReferenceAdamWinIdeal (m : (ℓ : Loc Cert.ReferenceAdamWinIdeal.nD Cert.ReferenceAdamWinIdeal.τ Cert.ReferenceAdamWinIdeal.sig) → Buf (Elt Ideal) ℓ) : Prop :=
  True

def Pre_KernelAdamWup (m : (ℓ : Loc Cert.KernelAdamWup.nD Cert.KernelAdamWup.τ Cert.KernelAdamWup.sig) → Buf (Elt Bits) ℓ) : Prop :=
  True

def Pre_KernelAdamWupIdeal (m : (ℓ : Loc Cert.KernelAdamWupIdeal.nD Cert.KernelAdamWupIdeal.τ Cert.KernelAdamWupIdeal.sig) → Buf (Elt Ideal) ℓ) : Prop :=
  True

def Pre_ReferenceAdamWupIdeal (m : (ℓ : Loc Cert.ReferenceAdamWupIdeal.nD Cert.ReferenceAdamWupIdeal.τ Cert.ReferenceAdamWupIdeal.sig) → Buf (Elt Ideal) ℓ) : Prop :=
  True

def Pre_KernelAdamConv (m : (ℓ : Loc Cert.KernelAdamConv.nD Cert.KernelAdamConv.τ Cert.KernelAdamConv.sig) → Buf (Elt Bits) ℓ) : Prop :=
  True

def Pre_KernelAdamConvIdeal (m : (ℓ : Loc Cert.KernelAdamConvIdeal.nD Cert.KernelAdamConvIdeal.τ Cert.KernelAdamConvIdeal.sig) → Buf (Elt Ideal) ℓ) : Prop :=
  True

def Pre_ReferenceAdamConvIdeal (m : (ℓ : Loc Cert.ReferenceAdamConvIdeal.nD Cert.ReferenceAdamConvIdeal.τ Cert.ReferenceAdamConvIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite17 [hPre_finite17 : Cert.Pre_finite17.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite17.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4))) = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite17 [hPre_finite17 : Cert.Pre_finite17.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite17.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelDh2 [hKernelDh2 : Cert.KernelDh2.Facts] : Prop :=
  ∀ (m : (ℓ : Loc Cert.KernelDh2.nD Cert.KernelDh2.τ Cert.KernelDh2.sig) → Buf (Elt Bits) ℓ) (g : Dev Cert.KernelDh2.nD → PrngReg), Pre_KernelDh2 m →
    θ_run (Cert.KernelDh2.defs (F := Bits)) (onTc (τ := Cert.KernelDh2.τ) (Cert.KernelDh2.main (F := Bits))) ⟨m, fun _ => 0, g⟩ (fun r => (∀ c : Dev Cert.KernelDh2.nD,
      r.2.mem ((c.tc : Thread Cert.KernelDh2.nD Cert.KernelDh2.τ).loc Cert.KernelDh2.main_arg0) = m ((c.tc : Thread Cert.KernelDh2.nD Cert.KernelDh2.τ).loc Cert.KernelDh2.main_arg0)
      ∧ r.2.mem ((c.tc : Thread Cert.KernelDh2.nD Cert.KernelDh2.τ).loc Cert.KernelDh2.main_arg1) = m ((c.tc : Thread Cert.KernelDh2.nD Cert.KernelDh2.τ).loc Cert.KernelDh2.main_arg1))
      ∧ r.2.sem = fun _ => 0)

def quiescent_KernelDh2Ideal [hKernelDh2Ideal : Cert.KernelDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg), Pre_KernelDh2Ideal m →
    θ_run (Cert.KernelDh2Ideal.defs (F := Ideal)) (onTc (τ := Cert.KernelDh2Ideal.τ) (Cert.KernelDh2Ideal.main (F := Ideal))) ⟨m, fun _ => 0, g⟩ (fun r => (∀ c : Dev Cert.KernelDh2Ideal.nD,
      r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
      ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1))
      ∧ r.2.sem = fun _ => 0)

def quiescent_ReferenceDh2Ideal [hReferenceDh2Ideal : Cert.ReferenceDh2Ideal.Facts] : Prop :=
  ∀ (m : (ℓ : Loc Cert.ReferenceDh2Ideal.nD Cert.ReferenceDh2Ideal.τ Cert.ReferenceDh2Ideal.sig) → Buf (Elt Ideal) ℓ) (g : Dev Cert.ReferenceDh2Ideal.nD → PrngReg), Pre_ReferenceDh2Ideal m →
    θ_run (Cert.ReferenceDh2Ideal.defs (F := Ideal)) (onTc (τ := Cert.ReferenceDh2Ideal.τ) (Cert.ReferenceDh2Ideal.main (F := Ideal))) ⟨m, fun _ => 0, g⟩ (fun r => (∀ c : Dev Cert.ReferenceDh2Ideal.nD,
      r.2.mem ((c.tc : Thread Cert.ReferenceDh2Ideal.nD Cert.ReferenceDh2Ideal.τ).loc Cert.ReferenceDh2Ideal.main_arg0) = m ((c.tc : Thread Cert.ReferenceDh2Ideal.nD Cert.ReferenceDh2Ideal.τ).loc Cert.ReferenceDh2Ideal.main_arg0)
      ∧ r.2.mem ((c.tc : Thread Cert.ReferenceDh2Ideal.nD Cert.ReferenceDh2Ideal.τ).loc Cert.ReferenceDh2Ideal.main_arg1) = m ((c.tc : Thread Cert.ReferenceDh2Ideal.nD Cert.ReferenceDh2Ideal.τ).loc Cert.ReferenceDh2Ideal.main_arg1))
      ∧ r.2.sem = fun _ => 0)

def quiescent_KernelDwup [hKernelDwup : Cert.KernelDwup.Facts] : Prop :=
  ∀ (m : (ℓ : Loc Cert.KernelDwup.nD Cert.KernelDwup.τ Cert.KernelDwup.sig) → Buf (Elt Bits) ℓ) (g : Dev Cert.KernelDwup.nD → PrngReg), Pre_KernelDwup m →
    θ_run (Cert.KernelDwup.defs (F := Bits)) (onTc (τ := Cert.KernelDwup.τ) (Cert.KernelDwup.main (F := Bits))) ⟨m, fun _ => 0, g⟩ (fun r => (∀ c : Dev Cert.KernelDwup.nD,
      r.2.mem ((c.tc : Thread Cert.KernelDwup.nD Cert.KernelDwup.τ).loc Cert.KernelDwup.main_arg0) = m ((c.tc : Thread Cert.KernelDwup.nD Cert.KernelDwup.τ).loc Cert.KernelDwup.main_arg0)
      ∧ r.2.mem ((c.tc : Thread Cert.KernelDwup.nD Cert.KernelDwup.τ).loc Cert.KernelDwup.main_arg1) = m ((c.tc : Thread Cert.KernelDwup.nD Cert.KernelDwup.τ).loc Cert.KernelDwup.main_arg1))
      ∧ r.2.sem = fun _ => 0)

def quiescent_KernelDwupIdeal [hKernelDwupIdeal : Cert.KernelDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg), Pre_KernelDwupIdeal m →
    θ_run (Cert.KernelDwupIdeal.defs (F := Ideal)) (onTc (τ := Cert.KernelDwupIdeal.τ) (Cert.KernelDwupIdeal.main (F := Ideal))) ⟨m, fun _ => 0, g⟩ (fun r => (∀ c : Dev Cert.KernelDwupIdeal.nD,
      r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
      ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1))
      ∧ r.2.sem = fun _ => 0)

def quiescent_ReferenceDwupIdeal [hReferenceDwupIdeal : Cert.ReferenceDwupIdeal.Facts] : Prop :=
  ∀ (m : (ℓ : Loc Cert.ReferenceDwupIdeal.nD Cert.ReferenceDwupIdeal.τ Cert.ReferenceDwupIdeal.sig) → Buf (Elt Ideal) ℓ) (g : Dev Cert.ReferenceDwupIdeal.nD → PrngReg), Pre_ReferenceDwupIdeal m →
    θ_run (Cert.ReferenceDwupIdeal.defs (F := Ideal)) (onTc (τ := Cert.ReferenceDwupIdeal.τ) (Cert.ReferenceDwupIdeal.main (F := Ideal))) ⟨m, fun _ => 0, g⟩ (fun r => (∀ c : Dev Cert.ReferenceDwupIdeal.nD,
      r.2.mem ((c.tc : Thread Cert.ReferenceDwupIdeal.nD Cert.ReferenceDwupIdeal.τ).loc Cert.ReferenceDwupIdeal.main_arg0) = m ((c.tc : Thread Cert.ReferenceDwupIdeal.nD Cert.ReferenceDwupIdeal.τ).loc Cert.ReferenceDwupIdeal.main_arg0)
      ∧ r.2.mem ((c.tc : Thread Cert.ReferenceDwupIdeal.nD Cert.ReferenceDwupIdeal.τ).loc Cert.ReferenceDwupIdeal.main_arg1) = m ((c.tc : Thread Cert.ReferenceDwupIdeal.nD Cert.ReferenceDwupIdeal.τ).loc Cert.ReferenceDwupIdeal.main_arg1))
      ∧ r.2.sem = fun _ => 0)

def quiescent_KernelDact [hKernelDact : Cert.KernelDact.Facts] : Prop :=
  ∀ (m : (ℓ : Loc Cert.KernelDact.nD Cert.KernelDact.τ Cert.KernelDact.sig) → Buf (Elt Bits) ℓ) (g : Dev Cert.KernelDact.nD → PrngReg), Pre_KernelDact m →
    θ_run (Cert.KernelDact.defs (F := Bits)) (onTc (τ := Cert.KernelDact.τ) (Cert.KernelDact.main (F := Bits))) ⟨m, fun _ => 0, g⟩ (fun r => (∀ c : Dev Cert.KernelDact.nD,
      r.2.mem ((c.tc : Thread Cert.KernelDact.nD Cert.KernelDact.τ).loc Cert.KernelDact.main_arg0) = m ((c.tc : Thread Cert.KernelDact.nD Cert.KernelDact.τ).loc Cert.KernelDact.main_arg0)
      ∧ r.2.mem ((c.tc : Thread Cert.KernelDact.nD Cert.KernelDact.τ).loc Cert.KernelDact.main_arg1) = m ((c.tc : Thread Cert.KernelDact.nD Cert.KernelDact.τ).loc Cert.KernelDact.main_arg1))
      ∧ r.2.sem = fun _ => 0)

def quiescent_KernelDactIdeal [hKernelDactIdeal : Cert.KernelDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1))
      ∧ r.2.sem = fun _ => 0)

def quiescent_KernelDwdown [hKernelDwdown : Cert.KernelDwdown.Facts] : Prop :=
  ∀ (m : (ℓ : Loc Cert.KernelDwdown.nD Cert.KernelDwdown.τ Cert.KernelDwdown.sig) → Buf (Elt Bits) ℓ) (g : Dev Cert.KernelDwdown.nD → PrngReg), Pre_KernelDwdown m →
    θ_run (Cert.KernelDwdown.defs (F := Bits)) (onTc (τ := Cert.KernelDwdown.τ) (Cert.KernelDwdown.main (F := Bits))) ⟨m, fun _ => 0, g⟩ (fun r => (∀ c : Dev Cert.KernelDwdown.nD,
      r.2.mem ((c.tc : Thread Cert.KernelDwdown.nD Cert.KernelDwdown.τ).loc Cert.KernelDwdown.main_arg0) = m ((c.tc : Thread Cert.KernelDwdown.nD Cert.KernelDwdown.τ).loc Cert.KernelDwdown.main_arg0)
      ∧ r.2.mem ((c.tc : Thread Cert.KernelDwdown.nD Cert.KernelDwdown.τ).loc Cert.KernelDwdown.main_arg1) = m ((c.tc : Thread Cert.KernelDwdown.nD Cert.KernelDwdown.τ).loc Cert.KernelDwdown.main_arg1))
      ∧ r.2.sem = fun _ => 0)

def quiescent_KernelDwdownIdeal [hKernelDwdownIdeal : Cert.KernelDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg), Pre_KernelDwdownIdeal m →
    θ_run (Cert.KernelDwdownIdeal.defs (F := Ideal)) (onTc (τ := Cert.KernelDwdownIdeal.τ) (Cert.KernelDwdownIdeal.main (F := Ideal))) ⟨m, fun _ => 0, g⟩ (fun r => (∀ c : Dev Cert.KernelDwdownIdeal.nD,
      r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
      ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1))
      ∧ r.2.sem = fun _ => 0)

def quiescent_ReferenceDwdownIdeal [hReferenceDwdownIdeal : Cert.ReferenceDwdownIdeal.Facts] : Prop :=
  ∀ (m : (ℓ : Loc Cert.ReferenceDwdownIdeal.nD Cert.ReferenceDwdownIdeal.τ Cert.ReferenceDwdownIdeal.sig) → Buf (Elt Ideal) ℓ) (g : Dev Cert.ReferenceDwdownIdeal.nD → PrngReg), Pre_ReferenceDwdownIdeal m →
    θ_run (Cert.ReferenceDwdownIdeal.defs (F := Ideal)) (onTc (τ := Cert.ReferenceDwdownIdeal.τ) (Cert.ReferenceDwdownIdeal.main (F := Ideal))) ⟨m, fun _ => 0, g⟩ (fun r => (∀ c : Dev Cert.ReferenceDwdownIdeal.nD,
      r.2.mem ((c.tc : Thread Cert.ReferenceDwdownIdeal.nD Cert.ReferenceDwdownIdeal.τ).loc Cert.ReferenceDwdownIdeal.main_arg0) = m ((c.tc : Thread Cert.ReferenceDwdownIdeal.nD Cert.ReferenceDwdownIdeal.τ).loc Cert.ReferenceDwdownIdeal.main_arg0)
      ∧ r.2.mem ((c.tc : Thread Cert.ReferenceDwdownIdeal.nD Cert.ReferenceDwdownIdeal.τ).loc Cert.ReferenceDwdownIdeal.main_arg1) = m ((c.tc : Thread Cert.ReferenceDwdownIdeal.nD Cert.ReferenceDwdownIdeal.τ).loc Cert.ReferenceDwdownIdeal.main_arg1))
      ∧ r.2.sem = fun _ => 0)

def quiescent_KernelDyn [hKernelDyn : Cert.KernelDyn.Facts] : Prop :=
  ∀ (m : (ℓ : Loc Cert.KernelDyn.nD Cert.KernelDyn.τ Cert.KernelDyn.sig) → Buf (Elt Bits) ℓ) (g : Dev Cert.KernelDyn.nD → PrngReg), Pre_KernelDyn m →
    θ_run (Cert.KernelDyn.defs (F := Bits)) (onTc (τ := Cert.KernelDyn.τ) (Cert.KernelDyn.main (F := Bits))) ⟨m, fun _ => 0, g⟩ (fun r => (∀ c : Dev Cert.KernelDyn.nD,
      r.2.mem ((c.tc : Thread Cert.KernelDyn.nD Cert.KernelDyn.τ).loc Cert.KernelDyn.main_arg0) = m ((c.tc : Thread Cert.KernelDyn.nD Cert.KernelDyn.τ).loc Cert.KernelDyn.main_arg0)
      ∧ r.2.mem ((c.tc : Thread Cert.KernelDyn.nD Cert.KernelDyn.τ).loc Cert.KernelDyn.main_arg1) = m ((c.tc : Thread Cert.KernelDyn.nD Cert.KernelDyn.τ).loc Cert.KernelDyn.main_arg1))
      ∧ r.2.sem = fun _ => 0)

def quiescent_KernelDynIdeal [hKernelDynIdeal : Cert.KernelDynIdeal.Facts] : Prop :=
  ∀ (m : (ℓ : Loc Cert.KernelDynIdeal.nD Cert.KernelDynIdeal.τ Cert.KernelDynIdeal.sig) → Buf (Elt Ideal) ℓ) (g : Dev Cert.KernelDynIdeal.nD → PrngReg), Pre_KernelDynIdeal m →
    θ_run (Cert.KernelDynIdeal.defs (F := Ideal)) (onTc (τ := Cert.KernelDynIdeal.τ) (Cert.KernelDynIdeal.main (F := Ideal))) ⟨m, fun _ => 0, g⟩ (fun r => (∀ c : Dev Cert.KernelDynIdeal.nD,
      r.2.mem ((c.tc : Thread Cert.KernelDynIdeal.nD Cert.KernelDynIdeal.τ).loc Cert.KernelDynIdeal.main_arg0) = m ((c.tc : Thread Cert.KernelDynIdeal.nD Cert.KernelDynIdeal.τ).loc Cert.KernelDynIdeal.main_arg0)
      ∧ r.2.mem ((c.tc : Thread Cert.KernelDynIdeal.nD Cert.KernelDynIdeal.τ).loc Cert.KernelDynIdeal.main_arg1) = m ((c.tc : Thread Cert.KernelDynIdeal.nD Cert.KernelDynIdeal.τ).loc Cert.KernelDynIdeal.main_arg1))
      ∧ r.2.sem = fun _ => 0)

def quiescent_ReferenceDynIdeal [hReferenceDynIdeal : Cert.ReferenceDynIdeal.Facts] : Prop :=
  ∀ (m : (ℓ : Loc Cert.ReferenceDynIdeal.nD Cert.ReferenceDynIdeal.τ Cert.ReferenceDynIdeal.sig) → Buf (Elt Ideal) ℓ) (g : Dev Cert.ReferenceDynIdeal.nD → PrngReg), Pre_ReferenceDynIdeal m →
    θ_run (Cert.ReferenceDynIdeal.defs (F := Ideal)) (onTc (τ := Cert.ReferenceDynIdeal.τ) (Cert.ReferenceDynIdeal.main (F := Ideal))) ⟨m, fun _ => 0, g⟩ (fun r => (∀ c : Dev Cert.ReferenceDynIdeal.nD,
      r.2.mem ((c.tc : Thread Cert.ReferenceDynIdeal.nD Cert.ReferenceDynIdeal.τ).loc Cert.ReferenceDynIdeal.main_arg0) = m ((c.tc : Thread Cert.ReferenceDynIdeal.nD Cert.ReferenceDynIdeal.τ).loc Cert.ReferenceDynIdeal.main_arg0)
      ∧ r.2.mem ((c.tc : Thread Cert.ReferenceDynIdeal.nD Cert.ReferenceDynIdeal.τ).loc Cert.ReferenceDynIdeal.main_arg1) = m ((c.tc : Thread Cert.ReferenceDynIdeal.nD Cert.ReferenceDynIdeal.τ).loc Cert.ReferenceDynIdeal.main_arg1))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1))
      ∧ r.2.sem = fun _ => 0)

def quiescent_KernelDh1 [hKernelDh1 : Cert.KernelDh1.Facts] : Prop :=
  ∀ (m : (ℓ : Loc Cert.KernelDh1.nD Cert.KernelDh1.τ Cert.KernelDh1.sig) → Buf (Elt Bits) ℓ) (g : Dev Cert.KernelDh1.nD → PrngReg), Pre_KernelDh1 m →
    θ_run (Cert.KernelDh1.defs (F := Bits)) (onTc (τ := Cert.KernelDh1.τ) (Cert.KernelDh1.main (F := Bits))) ⟨m, fun _ => 0, g⟩ (fun r => (∀ c : Dev Cert.KernelDh1.nD,
      r.2.mem ((c.tc : Thread Cert.KernelDh1.nD Cert.KernelDh1.τ).loc Cert.KernelDh1.main_arg0) = m ((c.tc : Thread Cert.KernelDh1.nD Cert.KernelDh1.τ).loc Cert.KernelDh1.main_arg0)
      ∧ r.2.mem ((c.tc : Thread Cert.KernelDh1.nD Cert.KernelDh1.τ).loc Cert.KernelDh1.main_arg1) = m ((c.tc : Thread Cert.KernelDh1.nD Cert.KernelDh1.τ).loc Cert.KernelDh1.main_arg1))
      ∧ r.2.sem = fun _ => 0)

def quiescent_KernelDh1Ideal [hKernelDh1Ideal : Cert.KernelDh1Ideal.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg), Pre_KernelDh1Ideal m →
    θ_run (Cert.KernelDh1Ideal.defs (F := Ideal)) (onTc (τ := Cert.KernelDh1Ideal.τ) (Cert.KernelDh1Ideal.main (F := Ideal))) ⟨m, fun _ => 0, g⟩ (fun r => (∀ c : Dev Cert.KernelDh1Ideal.nD,
      r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
      ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1))
      ∧ r.2.sem = fun _ => 0)

def quiescent_ReferenceDh1Ideal [hReferenceDh1Ideal : Cert.ReferenceDh1Ideal.Facts] : Prop :=
  ∀ (m : (ℓ : Loc Cert.ReferenceDh1Ideal.nD Cert.ReferenceDh1Ideal.τ Cert.ReferenceDh1Ideal.sig) → Buf (Elt Ideal) ℓ) (g : Dev Cert.ReferenceDh1Ideal.nD → PrngReg), Pre_ReferenceDh1Ideal m →
    θ_run (Cert.ReferenceDh1Ideal.defs (F := Ideal)) (onTc (τ := Cert.ReferenceDh1Ideal.τ) (Cert.ReferenceDh1Ideal.main (F := Ideal))) ⟨m, fun _ => 0, g⟩ (fun r => (∀ c : Dev Cert.ReferenceDh1Ideal.nD,
      r.2.mem ((c.tc : Thread Cert.ReferenceDh1Ideal.nD Cert.ReferenceDh1Ideal.τ).loc Cert.ReferenceDh1Ideal.main_arg0) = m ((c.tc : Thread Cert.ReferenceDh1Ideal.nD Cert.ReferenceDh1Ideal.τ).loc Cert.ReferenceDh1Ideal.main_arg0)
      ∧ r.2.mem ((c.tc : Thread Cert.ReferenceDh1Ideal.nD Cert.ReferenceDh1Ideal.τ).loc Cert.ReferenceDh1Ideal.main_arg1) = m ((c.tc : Thread Cert.ReferenceDh1Ideal.nD Cert.ReferenceDh1Ideal.τ).loc Cert.ReferenceDh1Ideal.main_arg1))
      ∧ r.2.sem = fun _ => 0)

def quiescent_KernelAdamWo [hKernelAdamWo : Cert.KernelAdamWo.Facts] : Prop :=
  ∀ (m : (ℓ : Loc Cert.KernelAdamWo.nD Cert.KernelAdamWo.τ Cert.KernelAdamWo.sig) → Buf (Elt Bits) ℓ) (g : Dev Cert.KernelAdamWo.nD → PrngReg), Pre_KernelAdamWo m →
    θ_run (Cert.KernelAdamWo.defs (F := Bits)) (onTc (τ := Cert.KernelAdamWo.τ) (Cert.KernelAdamWo.main (F := Bits))) ⟨m, fun _ => 0, g⟩ (fun r => (∀ c : Dev Cert.KernelAdamWo.nD,
      r.2.mem ((c.tc : Thread Cert.KernelAdamWo.nD Cert.KernelAdamWo.τ).loc Cert.KernelAdamWo.main_arg0) = m ((c.tc : Thread Cert.KernelAdamWo.nD Cert.KernelAdamWo.τ).loc Cert.KernelAdamWo.main_arg0)
      ∧ r.2.mem ((c.tc : Thread Cert.KernelAdamWo.nD Cert.KernelAdamWo.τ).loc Cert.KernelAdamWo.main_arg1) = m ((c.tc : Thread Cert.KernelAdamWo.nD Cert.KernelAdamWo.τ).loc Cert.KernelAdamWo.main_arg1)
      ∧ r.2.mem ((c.tc : Thread Cert.KernelAdamWo.nD Cert.KernelAdamWo.τ).loc Cert.KernelAdamWo.main_arg2) = m ((c.tc : Thread Cert.KernelAdamWo.nD Cert.KernelAdamWo.τ).loc Cert.KernelAdamWo.main_arg2)
      ∧ r.2.mem ((c.tc : Thread Cert.KernelAdamWo.nD Cert.KernelAdamWo.τ).loc Cert.KernelAdamWo.main_arg3) = m ((c.tc : Thread Cert.KernelAdamWo.nD Cert.KernelAdamWo.τ).loc Cert.KernelAdamWo.main_arg3))
      ∧ r.2.sem = fun _ => 0)

def quiescent_KernelAdamWoIdeal [hKernelAdamWoIdeal : Cert.KernelAdamWoIdeal.Facts] : Prop :=
  ∀ (m : (ℓ : Loc Cert.KernelAdamWoIdeal.nD Cert.KernelAdamWoIdeal.τ Cert.KernelAdamWoIdeal.sig) → Buf (Elt Ideal) ℓ) (g : Dev Cert.KernelAdamWoIdeal.nD → PrngReg), Pre_KernelAdamWoIdeal m →
    θ_run (Cert.KernelAdamWoIdeal.defs (F := Ideal)) (onTc (τ := Cert.KernelAdamWoIdeal.τ) (Cert.KernelAdamWoIdeal.main (F := Ideal))) ⟨m, fun _ => 0, g⟩ (fun r => (∀ c : Dev Cert.KernelAdamWoIdeal.nD,
      r.2.mem ((c.tc : Thread Cert.KernelAdamWoIdeal.nD Cert.KernelAdamWoIdeal.τ).loc Cert.KernelAdamWoIdeal.main_arg0) = m ((c.tc : Thread Cert.KernelAdamWoIdeal.nD Cert.KernelAdamWoIdeal.τ).loc Cert.KernelAdamWoIdeal.main_arg0)
      ∧ r.2.mem ((c.tc : Thread Cert.KernelAdamWoIdeal.nD Cert.KernelAdamWoIdeal.τ).loc Cert.KernelAdamWoIdeal.main_arg1) = m ((c.tc : Thread Cert.KernelAdamWoIdeal.nD Cert.KernelAdamWoIdeal.τ).loc Cert.KernelAdamWoIdeal.main_arg1)
      ∧ r.2.mem ((c.tc : Thread Cert.KernelAdamWoIdeal.nD Cert.KernelAdamWoIdeal.τ).loc Cert.KernelAdamWoIdeal.main_arg2) = m ((c.tc : Thread Cert.KernelAdamWoIdeal.nD Cert.KernelAdamWoIdeal.τ).loc Cert.KernelAdamWoIdeal.main_arg2)
      ∧ r.2.mem ((c.tc : Thread Cert.KernelAdamWoIdeal.nD Cert.KernelAdamWoIdeal.τ).loc Cert.KernelAdamWoIdeal.main_arg3) = m ((c.tc : Thread Cert.KernelAdamWoIdeal.nD Cert.KernelAdamWoIdeal.τ).loc Cert.KernelAdamWoIdeal.main_arg3))
      ∧ r.2.sem = fun _ => 0)

def quiescent_ReferenceAdamWoIdeal [hReferenceAdamWoIdeal : Cert.ReferenceAdamWoIdeal.Facts] : Prop :=
  ∀ (m : (ℓ : Loc Cert.ReferenceAdamWoIdeal.nD Cert.ReferenceAdamWoIdeal.τ Cert.ReferenceAdamWoIdeal.sig) → Buf (Elt Ideal) ℓ) (g : Dev Cert.ReferenceAdamWoIdeal.nD → PrngReg), Pre_ReferenceAdamWoIdeal m →
    θ_run (Cert.ReferenceAdamWoIdeal.defs (F := Ideal)) (onTc (τ := Cert.ReferenceAdamWoIdeal.τ) (Cert.ReferenceAdamWoIdeal.main (F := Ideal))) ⟨m, fun _ => 0, g⟩ (fun r => (∀ c : Dev Cert.ReferenceAdamWoIdeal.nD,
      r.2.mem ((c.tc : Thread Cert.ReferenceAdamWoIdeal.nD Cert.ReferenceAdamWoIdeal.τ).loc Cert.ReferenceAdamWoIdeal.main_arg0) = m ((c.tc : Thread Cert.ReferenceAdamWoIdeal.nD Cert.ReferenceAdamWoIdeal.τ).loc Cert.ReferenceAdamWoIdeal.main_arg0)
      ∧ r.2.mem ((c.tc : Thread Cert.ReferenceAdamWoIdeal.nD Cert.ReferenceAdamWoIdeal.τ).loc Cert.ReferenceAdamWoIdeal.main_arg1) = m ((c.tc : Thread Cert.ReferenceAdamWoIdeal.nD Cert.ReferenceAdamWoIdeal.τ).loc Cert.ReferenceAdamWoIdeal.main_arg1)
      ∧ r.2.mem ((c.tc : Thread Cert.ReferenceAdamWoIdeal.nD Cert.ReferenceAdamWoIdeal.τ).loc Cert.ReferenceAdamWoIdeal.main_arg2) = m ((c.tc : Thread Cert.ReferenceAdamWoIdeal.nD Cert.ReferenceAdamWoIdeal.τ).loc Cert.ReferenceAdamWoIdeal.main_arg2)
      ∧ r.2.mem ((c.tc : Thread Cert.ReferenceAdamWoIdeal.nD Cert.ReferenceAdamWoIdeal.τ).loc Cert.ReferenceAdamWoIdeal.main_arg3) = m ((c.tc : Thread Cert.ReferenceAdamWoIdeal.nD Cert.ReferenceAdamWoIdeal.τ).loc Cert.ReferenceAdamWoIdeal.main_arg3))
      ∧ r.2.sem = fun _ => 0)

def quiescent_KernelAdamWdown [hKernelAdamWdown : Cert.KernelAdamWdown.Facts] : Prop :=
  ∀ (m : (ℓ : Loc Cert.KernelAdamWdown.nD Cert.KernelAdamWdown.τ Cert.KernelAdamWdown.sig) → Buf (Elt Bits) ℓ) (g : Dev Cert.KernelAdamWdown.nD → PrngReg), Pre_KernelAdamWdown m →
    θ_run (Cert.KernelAdamWdown.defs (F := Bits)) (onTc (τ := Cert.KernelAdamWdown.τ) (Cert.KernelAdamWdown.main (F := Bits))) ⟨m, fun _ => 0, g⟩ (fun r => (∀ c : Dev Cert.KernelAdamWdown.nD,
      r.2.mem ((c.tc : Thread Cert.KernelAdamWdown.nD Cert.KernelAdamWdown.τ).loc Cert.KernelAdamWdown.main_arg0) = m ((c.tc : Thread Cert.KernelAdamWdown.nD Cert.KernelAdamWdown.τ).loc Cert.KernelAdamWdown.main_arg0)
      ∧ r.2.mem ((c.tc : Thread Cert.KernelAdamWdown.nD Cert.KernelAdamWdown.τ).loc Cert.KernelAdamWdown.main_arg1) = m ((c.tc : Thread Cert.KernelAdamWdown.nD Cert.KernelAdamWdown.τ).loc Cert.KernelAdamWdown.main_arg1)
      ∧ r.2.mem ((c.tc : Thread Cert.KernelAdamWdown.nD Cert.KernelAdamWdown.τ).loc Cert.KernelAdamWdown.main_arg2) = m ((c.tc : Thread Cert.KernelAdamWdown.nD Cert.KernelAdamWdown.τ).loc Cert.KernelAdamWdown.main_arg2)
      ∧ r.2.mem ((c.tc : Thread Cert.KernelAdamWdown.nD Cert.KernelAdamWdown.τ).loc Cert.KernelAdamWdown.main_arg3) = m ((c.tc : Thread Cert.KernelAdamWdown.nD Cert.KernelAdamWdown.τ).loc Cert.KernelAdamWdown.main_arg3))
      ∧ r.2.sem = fun _ => 0)

def quiescent_KernelAdamWdownIdeal [hKernelAdamWdownIdeal : Cert.KernelAdamWdownIdeal.Facts] : Prop :=
  ∀ (m : (ℓ : Loc Cert.KernelAdamWdownIdeal.nD Cert.KernelAdamWdownIdeal.τ Cert.KernelAdamWdownIdeal.sig) → Buf (Elt Ideal) ℓ) (g : Dev Cert.KernelAdamWdownIdeal.nD → PrngReg), Pre_KernelAdamWdownIdeal m →
    θ_run (Cert.KernelAdamWdownIdeal.defs (F := Ideal)) (onTc (τ := Cert.KernelAdamWdownIdeal.τ) (Cert.KernelAdamWdownIdeal.main (F := Ideal))) ⟨m, fun _ => 0, g⟩ (fun r => (∀ c : Dev Cert.KernelAdamWdownIdeal.nD,
      r.2.mem ((c.tc : Thread Cert.KernelAdamWdownIdeal.nD Cert.KernelAdamWdownIdeal.τ).loc Cert.KernelAdamWdownIdeal.main_arg0) = m ((c.tc : Thread Cert.KernelAdamWdownIdeal.nD Cert.KernelAdamWdownIdeal.τ).loc Cert.KernelAdamWdownIdeal.main_arg0)
      ∧ r.2.mem ((c.tc : Thread Cert.KernelAdamWdownIdeal.nD Cert.KernelAdamWdownIdeal.τ).loc Cert.KernelAdamWdownIdeal.main_arg1) = m ((c.tc : Thread Cert.KernelAdamWdownIdeal.nD Cert.KernelAdamWdownIdeal.τ).loc Cert.KernelAdamWdownIdeal.main_arg1)
      ∧ r.2.mem ((c.tc : Thread Cert.KernelAdamWdownIdeal.nD Cert.KernelAdamWdownIdeal.τ).loc Cert.KernelAdamWdownIdeal.main_arg2) = m ((c.tc : Thread Cert.KernelAdamWdownIdeal.nD Cert.KernelAdamWdownIdeal.τ).loc Cert.KernelAdamWdownIdeal.main_arg2)
      ∧ r.2.mem ((c.tc : Thread Cert.KernelAdamWdownIdeal.nD Cert.KernelAdamWdownIdeal.τ).loc Cert.KernelAdamWdownIdeal.main_arg3) = m ((c.tc : Thread Cert.KernelAdamWdownIdeal.nD Cert.KernelAdamWdownIdeal.τ).loc Cert.KernelAdamWdownIdeal.main_arg3))
      ∧ r.2.sem = fun _ => 0)

def quiescent_ReferenceAdamWdownIdeal [hReferenceAdamWdownIdeal : Cert.ReferenceAdamWdownIdeal.Facts] : Prop :=
  ∀ (m : (ℓ : Loc Cert.ReferenceAdamWdownIdeal.nD Cert.ReferenceAdamWdownIdeal.τ Cert.ReferenceAdamWdownIdeal.sig) → Buf (Elt Ideal) ℓ) (g : Dev Cert.ReferenceAdamWdownIdeal.nD → PrngReg), Pre_ReferenceAdamWdownIdeal m →
    θ_run (Cert.ReferenceAdamWdownIdeal.defs (F := Ideal)) (onTc (τ := Cert.ReferenceAdamWdownIdeal.τ) (Cert.ReferenceAdamWdownIdeal.main (F := Ideal))) ⟨m, fun _ => 0, g⟩ (fun r => (∀ c : Dev Cert.ReferenceAdamWdownIdeal.nD,
      r.2.mem ((c.tc : Thread Cert.ReferenceAdamWdownIdeal.nD Cert.ReferenceAdamWdownIdeal.τ).loc Cert.ReferenceAdamWdownIdeal.main_arg0) = m ((c.tc : Thread Cert.ReferenceAdamWdownIdeal.nD Cert.ReferenceAdamWdownIdeal.τ).loc Cert.ReferenceAdamWdownIdeal.main_arg0)
      ∧ r.2.mem ((c.tc : Thread Cert.ReferenceAdamWdownIdeal.nD Cert.ReferenceAdamWdownIdeal.τ).loc Cert.ReferenceAdamWdownIdeal.main_arg1) = m ((c.tc : Thread Cert.ReferenceAdamWdownIdeal.nD Cert.ReferenceAdamWdownIdeal.τ).loc Cert.ReferenceAdamWdownIdeal.main_arg1)
      ∧ r.2.mem ((c.tc : Thread Cert.ReferenceAdamWdownIdeal.nD Cert.ReferenceAdamWdownIdeal.τ).loc Cert.ReferenceAdamWdownIdeal.main_arg2) = m ((c.tc : Thread Cert.ReferenceAdamWdownIdeal.nD Cert.ReferenceAdamWdownIdeal.τ).loc Cert.ReferenceAdamWdownIdeal.main_arg2)
      ∧ r.2.mem ((c.tc : Thread Cert.ReferenceAdamWdownIdeal.nD Cert.ReferenceAdamWdownIdeal.τ).loc Cert.ReferenceAdamWdownIdeal.main_arg3) = m ((c.tc : Thread Cert.ReferenceAdamWdownIdeal.nD Cert.ReferenceAdamWdownIdeal.τ).loc Cert.ReferenceAdamWdownIdeal.main_arg3))
      ∧ r.2.sem = fun _ => 0)

def quiescent_KernelAdamWukv [hKernelAdamWukv : Cert.KernelAdamWukv.Facts] : Prop :=
  ∀ (m : (ℓ : Loc Cert.KernelAdamWukv.nD Cert.KernelAdamWukv.τ Cert.KernelAdamWukv.sig) → Buf (Elt Bits) ℓ) (g : Dev Cert.KernelAdamWukv.nD → PrngReg), Pre_KernelAdamWukv m →
    θ_run (Cert.KernelAdamWukv.defs (F := Bits)) (onTc (τ := Cert.KernelAdamWukv.τ) (Cert.KernelAdamWukv.main (F := Bits))) ⟨m, fun _ => 0, g⟩ (fun r => (∀ c : Dev Cert.KernelAdamWukv.nD,
      r.2.mem ((c.tc : Thread Cert.KernelAdamWukv.nD Cert.KernelAdamWukv.τ).loc Cert.KernelAdamWukv.main_arg0) = m ((c.tc : Thread Cert.KernelAdamWukv.nD Cert.KernelAdamWukv.τ).loc Cert.KernelAdamWukv.main_arg0)
      ∧ r.2.mem ((c.tc : Thread Cert.KernelAdamWukv.nD Cert.KernelAdamWukv.τ).loc Cert.KernelAdamWukv.main_arg1) = m ((c.tc : Thread Cert.KernelAdamWukv.nD Cert.KernelAdamWukv.τ).loc Cert.KernelAdamWukv.main_arg1)
      ∧ r.2.mem ((c.tc : Thread Cert.KernelAdamWukv.nD Cert.KernelAdamWukv.τ).loc Cert.KernelAdamWukv.main_arg2) = m ((c.tc : Thread Cert.KernelAdamWukv.nD Cert.KernelAdamWukv.τ).loc Cert.KernelAdamWukv.main_arg2)
      ∧ r.2.mem ((c.tc : Thread Cert.KernelAdamWukv.nD Cert.KernelAdamWukv.τ).loc Cert.KernelAdamWukv.main_arg3) = m ((c.tc : Thread Cert.KernelAdamWukv.nD Cert.KernelAdamWukv.τ).loc Cert.KernelAdamWukv.main_arg3))
      ∧ r.2.sem = fun _ => 0)

def quiescent_KernelAdamWukvIdeal [hKernelAdamWukvIdeal : Cert.KernelAdamWukvIdeal.Facts] : Prop :=
  ∀ (m : (ℓ : Loc Cert.KernelAdamWukvIdeal.nD Cert.KernelAdamWukvIdeal.τ Cert.KernelAdamWukvIdeal.sig) → Buf (Elt Ideal) ℓ) (g : Dev Cert.KernelAdamWukvIdeal.nD → PrngReg), Pre_KernelAdamWukvIdeal m →
    θ_run (Cert.KernelAdamWukvIdeal.defs (F := Ideal)) (onTc (τ := Cert.KernelAdamWukvIdeal.τ) (Cert.KernelAdamWukvIdeal.main (F := Ideal))) ⟨m, fun _ => 0, g⟩ (fun r => (∀ c : Dev Cert.KernelAdamWukvIdeal.nD,
      r.2.mem ((c.tc : Thread Cert.KernelAdamWukvIdeal.nD Cert.KernelAdamWukvIdeal.τ).loc Cert.KernelAdamWukvIdeal.main_arg0) = m ((c.tc : Thread Cert.KernelAdamWukvIdeal.nD Cert.KernelAdamWukvIdeal.τ).loc Cert.KernelAdamWukvIdeal.main_arg0)
      ∧ r.2.mem ((c.tc : Thread Cert.KernelAdamWukvIdeal.nD Cert.KernelAdamWukvIdeal.τ).loc Cert.KernelAdamWukvIdeal.main_arg1) = m ((c.tc : Thread Cert.KernelAdamWukvIdeal.nD Cert.KernelAdamWukvIdeal.τ).loc Cert.KernelAdamWukvIdeal.main_arg1)
      ∧ r.2.mem ((c.tc : Thread Cert.KernelAdamWukvIdeal.nD Cert.KernelAdamWukvIdeal.τ).loc Cert.KernelAdamWukvIdeal.main_arg2) = m ((c.tc : Thread Cert.KernelAdamWukvIdeal.nD Cert.KernelAdamWukvIdeal.τ).loc Cert.KernelAdamWukvIdeal.main_arg2)
      ∧ r.2.mem ((c.tc : Thread Cert.KernelAdamWukvIdeal.nD Cert.KernelAdamWukvIdeal.τ).loc Cert.KernelAdamWukvIdeal.main_arg3) = m ((c.tc : Thread Cert.KernelAdamWukvIdeal.nD Cert.KernelAdamWukvIdeal.τ).loc Cert.KernelAdamWukvIdeal.main_arg3))
      ∧ r.2.sem = fun _ => 0)

def quiescent_ReferenceAdamWukvIdeal [hReferenceAdamWukvIdeal : Cert.ReferenceAdamWukvIdeal.Facts] : Prop :=
  ∀ (m : (ℓ : Loc Cert.ReferenceAdamWukvIdeal.nD Cert.ReferenceAdamWukvIdeal.τ Cert.ReferenceAdamWukvIdeal.sig) → Buf (Elt Ideal) ℓ) (g : Dev Cert.ReferenceAdamWukvIdeal.nD → PrngReg), Pre_ReferenceAdamWukvIdeal m →
    θ_run (Cert.ReferenceAdamWukvIdeal.defs (F := Ideal)) (onTc (τ := Cert.ReferenceAdamWukvIdeal.τ) (Cert.ReferenceAdamWukvIdeal.main (F := Ideal))) ⟨m, fun _ => 0, g⟩ (fun r => (∀ c : Dev Cert.ReferenceAdamWukvIdeal.nD,
      r.2.mem ((c.tc : Thread Cert.ReferenceAdamWukvIdeal.nD Cert.ReferenceAdamWukvIdeal.τ).loc Cert.ReferenceAdamWukvIdeal.main_arg0) = m ((c.tc : Thread Cert.ReferenceAdamWukvIdeal.nD Cert.ReferenceAdamWukvIdeal.τ).loc Cert.ReferenceAdamWukvIdeal.main_arg0)
      ∧ r.2.mem ((c.tc : Thread Cert.ReferenceAdamWukvIdeal.nD Cert.ReferenceAdamWukvIdeal.τ).loc Cert.ReferenceAdamWukvIdeal.main_arg1) = m ((c.tc : Thread Cert.ReferenceAdamWukvIdeal.nD Cert.ReferenceAdamWukvIdeal.τ).loc Cert.ReferenceAdamWukvIdeal.main_arg1)
      ∧ r.2.mem ((c.tc : Thread Cert.ReferenceAdamWukvIdeal.nD Cert.ReferenceAdamWukvIdeal.τ).loc Cert.ReferenceAdamWukvIdeal.main_arg2) = m ((c.tc : Thread Cert.ReferenceAdamWukvIdeal.nD Cert.ReferenceAdamWukvIdeal.τ).loc Cert.ReferenceAdamWukvIdeal.main_arg2)
      ∧ r.2.mem ((c.tc : Thread Cert.ReferenceAdamWukvIdeal.nD Cert.ReferenceAdamWukvIdeal.τ).loc Cert.ReferenceAdamWukvIdeal.main_arg3) = m ((c.tc : Thread Cert.ReferenceAdamWukvIdeal.nD Cert.ReferenceAdamWukvIdeal.τ).loc Cert.ReferenceAdamWukvIdeal.main_arg3))
      ∧ r.2.sem = fun _ => 0)

def quiescent_KernelAdamWuq [hKernelAdamWuq : Cert.KernelAdamWuq.Facts] : Prop :=
  ∀ (m : (ℓ : Loc Cert.KernelAdamWuq.nD Cert.KernelAdamWuq.τ Cert.KernelAdamWuq.sig) → Buf (Elt Bits) ℓ) (g : Dev Cert.KernelAdamWuq.nD → PrngReg), Pre_KernelAdamWuq m →
    θ_run (Cert.KernelAdamWuq.defs (F := Bits)) (onTc (τ := Cert.KernelAdamWuq.τ) (Cert.KernelAdamWuq.main (F := Bits))) ⟨m, fun _ => 0, g⟩ (fun r => (∀ c : Dev Cert.KernelAdamWuq.nD,
      r.2.mem ((c.tc : Thread Cert.KernelAdamWuq.nD Cert.KernelAdamWuq.τ).loc Cert.KernelAdamWuq.main_arg0) = m ((c.tc : Thread Cert.KernelAdamWuq.nD Cert.KernelAdamWuq.τ).loc Cert.KernelAdamWuq.main_arg0)
      ∧ r.2.mem ((c.tc : Thread Cert.KernelAdamWuq.nD Cert.KernelAdamWuq.τ).loc Cert.KernelAdamWuq.main_arg1) = m ((c.tc : Thread Cert.KernelAdamWuq.nD Cert.KernelAdamWuq.τ).loc Cert.KernelAdamWuq.main_arg1)
      ∧ r.2.mem ((c.tc : Thread Cert.KernelAdamWuq.nD Cert.KernelAdamWuq.τ).loc Cert.KernelAdamWuq.main_arg2) = m ((c.tc : Thread Cert.KernelAdamWuq.nD Cert.KernelAdamWuq.τ).loc Cert.KernelAdamWuq.main_arg2)
      ∧ r.2.mem ((c.tc : Thread Cert.KernelAdamWuq.nD Cert.KernelAdamWuq.τ).loc Cert.KernelAdamWuq.main_arg3) = m ((c.tc : Thread Cert.KernelAdamWuq.nD Cert.KernelAdamWuq.τ).loc Cert.KernelAdamWuq.main_arg3))
      ∧ r.2.sem = fun _ => 0)

def quiescent_KernelAdamWuqIdeal [hKernelAdamWuqIdeal : Cert.KernelAdamWuqIdeal.Facts] : Prop :=
  ∀ (m : (ℓ : Loc Cert.KernelAdamWuqIdeal.nD Cert.KernelAdamWuqIdeal.τ Cert.KernelAdamWuqIdeal.sig) → Buf (Elt Ideal) ℓ) (g : Dev Cert.KernelAdamWuqIdeal.nD → PrngReg), Pre_KernelAdamWuqIdeal m →
    θ_run (Cert.KernelAdamWuqIdeal.defs (F := Ideal)) (onTc (τ := Cert.KernelAdamWuqIdeal.τ) (Cert.KernelAdamWuqIdeal.main (F := Ideal))) ⟨m, fun _ => 0, g⟩ (fun r => (∀ c : Dev Cert.KernelAdamWuqIdeal.nD,
      r.2.mem ((c.tc : Thread Cert.KernelAdamWuqIdeal.nD Cert.KernelAdamWuqIdeal.τ).loc Cert.KernelAdamWuqIdeal.main_arg0) = m ((c.tc : Thread Cert.KernelAdamWuqIdeal.nD Cert.KernelAdamWuqIdeal.τ).loc Cert.KernelAdamWuqIdeal.main_arg0)
      ∧ r.2.mem ((c.tc : Thread Cert.KernelAdamWuqIdeal.nD Cert.KernelAdamWuqIdeal.τ).loc Cert.KernelAdamWuqIdeal.main_arg1) = m ((c.tc : Thread Cert.KernelAdamWuqIdeal.nD Cert.KernelAdamWuqIdeal.τ).loc Cert.KernelAdamWuqIdeal.main_arg1)
      ∧ r.2.mem ((c.tc : Thread Cert.KernelAdamWuqIdeal.nD Cert.KernelAdamWuqIdeal.τ).loc Cert.KernelAdamWuqIdeal.main_arg2) = m ((c.tc : Thread Cert.KernelAdamWuqIdeal.nD Cert.KernelAdamWuqIdeal.τ).loc Cert.KernelAdamWuqIdeal.main_arg2)
      ∧ r.2.mem ((c.tc : Thread Cert.KernelAdamWuqIdeal.nD Cert.KernelAdamWuqIdeal.τ).loc Cert.KernelAdamWuqIdeal.main_arg3) = m ((c.tc : Thread Cert.KernelAdamWuqIdeal.nD Cert.KernelAdamWuqIdeal.τ).loc Cert.KernelAdamWuqIdeal.main_arg3))
      ∧ r.2.sem = fun _ => 0)

def quiescent_ReferenceAdamWuqIdeal [hReferenceAdamWuqIdeal : Cert.ReferenceAdamWuqIdeal.Facts] : Prop :=
  ∀ (m : (ℓ : Loc Cert.ReferenceAdamWuqIdeal.nD Cert.ReferenceAdamWuqIdeal.τ Cert.ReferenceAdamWuqIdeal.sig) → Buf (Elt Ideal) ℓ) (g : Dev Cert.ReferenceAdamWuqIdeal.nD → PrngReg), Pre_ReferenceAdamWuqIdeal m →
    θ_run (Cert.ReferenceAdamWuqIdeal.defs (F := Ideal)) (onTc (τ := Cert.ReferenceAdamWuqIdeal.τ) (Cert.ReferenceAdamWuqIdeal.main (F := Ideal))) ⟨m, fun _ => 0, g⟩ (fun r => (∀ c : Dev Cert.ReferenceAdamWuqIdeal.nD,
      r.2.mem ((c.tc : Thread Cert.ReferenceAdamWuqIdeal.nD Cert.ReferenceAdamWuqIdeal.τ).loc Cert.ReferenceAdamWuqIdeal.main_arg0) = m ((c.tc : Thread Cert.ReferenceAdamWuqIdeal.nD Cert.ReferenceAdamWuqIdeal.τ).loc Cert.ReferenceAdamWuqIdeal.main_arg0)
      ∧ r.2.mem ((c.tc : Thread Cert.ReferenceAdamWuqIdeal.nD Cert.ReferenceAdamWuqIdeal.τ).loc Cert.ReferenceAdamWuqIdeal.main_arg1) = m ((c.tc : Thread Cert.ReferenceAdamWuqIdeal.nD Cert.ReferenceAdamWuqIdeal.τ).loc Cert.ReferenceAdamWuqIdeal.main_arg1)
      ∧ r.2.mem ((c.tc : Thread Cert.ReferenceAdamWuqIdeal.nD Cert.ReferenceAdamWuqIdeal.τ).loc Cert.ReferenceAdamWuqIdeal.main_arg2) = m ((c.tc : Thread Cert.ReferenceAdamWuqIdeal.nD Cert.ReferenceAdamWuqIdeal.τ).loc Cert.ReferenceAdamWuqIdeal.main_arg2)
      ∧ r.2.mem ((c.tc : Thread Cert.ReferenceAdamWuqIdeal.nD Cert.ReferenceAdamWuqIdeal.τ).loc Cert.ReferenceAdamWuqIdeal.main_arg3) = m ((c.tc : Thread Cert.ReferenceAdamWuqIdeal.nD Cert.ReferenceAdamWuqIdeal.τ).loc Cert.ReferenceAdamWuqIdeal.main_arg3))
      ∧ r.2.sem = fun _ => 0)

def quiescent_KernelAdamWin [hKernelAdamWin : Cert.KernelAdamWin.Facts] : Prop :=
  ∀ (m : (ℓ : Loc Cert.KernelAdamWin.nD Cert.KernelAdamWin.τ Cert.KernelAdamWin.sig) → Buf (Elt Bits) ℓ) (g : Dev Cert.KernelAdamWin.nD → PrngReg), Pre_KernelAdamWin m →
    θ_run (Cert.KernelAdamWin.defs (F := Bits)) (onTc (τ := Cert.KernelAdamWin.τ) (Cert.KernelAdamWin.main (F := Bits))) ⟨m, fun _ => 0, g⟩ (fun r => (∀ c : Dev Cert.KernelAdamWin.nD,
      r.2.mem ((c.tc : Thread Cert.KernelAdamWin.nD Cert.KernelAdamWin.τ).loc Cert.KernelAdamWin.main_arg0) = m ((c.tc : Thread Cert.KernelAdamWin.nD Cert.KernelAdamWin.τ).loc Cert.KernelAdamWin.main_arg0)
      ∧ r.2.mem ((c.tc : Thread Cert.KernelAdamWin.nD Cert.KernelAdamWin.τ).loc Cert.KernelAdamWin.main_arg1) = m ((c.tc : Thread Cert.KernelAdamWin.nD Cert.KernelAdamWin.τ).loc Cert.KernelAdamWin.main_arg1)
      ∧ r.2.mem ((c.tc : Thread Cert.KernelAdamWin.nD Cert.KernelAdamWin.τ).loc Cert.KernelAdamWin.main_arg2) = m ((c.tc : Thread Cert.KernelAdamWin.nD Cert.KernelAdamWin.τ).loc Cert.KernelAdamWin.main_arg2)
      ∧ r.2.mem ((c.tc : Thread Cert.KernelAdamWin.nD Cert.KernelAdamWin.τ).loc Cert.KernelAdamWin.main_arg3) = m ((c.tc : Thread Cert.KernelAdamWin.nD Cert.KernelAdamWin.τ).loc Cert.KernelAdamWin.main_arg3))
      ∧ r.2.sem = fun _ => 0)

def quiescent_KernelAdamWinIdeal [hKernelAdamWinIdeal : Cert.KernelAdamWinIdeal.Facts] : Prop :=
  ∀ (m : (ℓ : Loc Cert.KernelAdamWinIdeal.nD Cert.KernelAdamWinIdeal.τ Cert.KernelAdamWinIdeal.sig) → Buf (Elt Ideal) ℓ) (g : Dev Cert.KernelAdamWinIdeal.nD → PrngReg), Pre_KernelAdamWinIdeal m →
    θ_run (Cert.KernelAdamWinIdeal.defs (F := Ideal)) (onTc (τ := Cert.KernelAdamWinIdeal.τ) (Cert.KernelAdamWinIdeal.main (F := Ideal))) ⟨m, fun _ => 0, g⟩ (fun r => (∀ c : Dev Cert.KernelAdamWinIdeal.nD,
      r.2.mem ((c.tc : Thread Cert.KernelAdamWinIdeal.nD Cert.KernelAdamWinIdeal.τ).loc Cert.KernelAdamWinIdeal.main_arg0) = m ((c.tc : Thread Cert.KernelAdamWinIdeal.nD Cert.KernelAdamWinIdeal.τ).loc Cert.KernelAdamWinIdeal.main_arg0)
      ∧ r.2.mem ((c.tc : Thread Cert.KernelAdamWinIdeal.nD Cert.KernelAdamWinIdeal.τ).loc Cert.KernelAdamWinIdeal.main_arg1) = m ((c.tc : Thread Cert.KernelAdamWinIdeal.nD Cert.KernelAdamWinIdeal.τ).loc Cert.KernelAdamWinIdeal.main_arg1)
      ∧ r.2.mem ((c.tc : Thread Cert.KernelAdamWinIdeal.nD Cert.KernelAdamWinIdeal.τ).loc Cert.KernelAdamWinIdeal.main_arg2) = m ((c.tc : Thread Cert.KernelAdamWinIdeal.nD Cert.KernelAdamWinIdeal.τ).loc Cert.KernelAdamWinIdeal.main_arg2)
      ∧ r.2.mem ((c.tc : Thread Cert.KernelAdamWinIdeal.nD Cert.KernelAdamWinIdeal.τ).loc Cert.KernelAdamWinIdeal.main_arg3) = m ((c.tc : Thread Cert.KernelAdamWinIdeal.nD Cert.KernelAdamWinIdeal.τ).loc Cert.KernelAdamWinIdeal.main_arg3))
      ∧ r.2.sem = fun _ => 0)

def quiescent_ReferenceAdamWinIdeal [hReferenceAdamWinIdeal : Cert.ReferenceAdamWinIdeal.Facts] : Prop :=
  ∀ (m : (ℓ : Loc Cert.ReferenceAdamWinIdeal.nD Cert.ReferenceAdamWinIdeal.τ Cert.ReferenceAdamWinIdeal.sig) → Buf (Elt Ideal) ℓ) (g : Dev Cert.ReferenceAdamWinIdeal.nD → PrngReg), Pre_ReferenceAdamWinIdeal m →
    θ_run (Cert.ReferenceAdamWinIdeal.defs (F := Ideal)) (onTc (τ := Cert.ReferenceAdamWinIdeal.τ) (Cert.ReferenceAdamWinIdeal.main (F := Ideal))) ⟨m, fun _ => 0, g⟩ (fun r => (∀ c : Dev Cert.ReferenceAdamWinIdeal.nD,
      r.2.mem ((c.tc : Thread Cert.ReferenceAdamWinIdeal.nD Cert.ReferenceAdamWinIdeal.τ).loc Cert.ReferenceAdamWinIdeal.main_arg0) = m ((c.tc : Thread Cert.ReferenceAdamWinIdeal.nD Cert.ReferenceAdamWinIdeal.τ).loc Cert.ReferenceAdamWinIdeal.main_arg0)
      ∧ r.2.mem ((c.tc : Thread Cert.ReferenceAdamWinIdeal.nD Cert.ReferenceAdamWinIdeal.τ).loc Cert.ReferenceAdamWinIdeal.main_arg1) = m ((c.tc : Thread Cert.ReferenceAdamWinIdeal.nD Cert.ReferenceAdamWinIdeal.τ).loc Cert.ReferenceAdamWinIdeal.main_arg1)
      ∧ r.2.mem ((c.tc : Thread Cert.ReferenceAdamWinIdeal.nD Cert.ReferenceAdamWinIdeal.τ).loc Cert.ReferenceAdamWinIdeal.main_arg2) = m ((c.tc : Thread Cert.ReferenceAdamWinIdeal.nD Cert.ReferenceAdamWinIdeal.τ).loc Cert.ReferenceAdamWinIdeal.main_arg2)
      ∧ r.2.mem ((c.tc : Thread Cert.ReferenceAdamWinIdeal.nD Cert.ReferenceAdamWinIdeal.τ).loc Cert.ReferenceAdamWinIdeal.main_arg3) = m ((c.tc : Thread Cert.ReferenceAdamWinIdeal.nD Cert.ReferenceAdamWinIdeal.τ).loc Cert.ReferenceAdamWinIdeal.main_arg3))
      ∧ r.2.sem = fun _ => 0)

def quiescent_KernelAdamWup [hKernelAdamWup : Cert.KernelAdamWup.Facts] : Prop :=
  ∀ (m : (ℓ : Loc Cert.KernelAdamWup.nD Cert.KernelAdamWup.τ Cert.KernelAdamWup.sig) → Buf (Elt Bits) ℓ) (g : Dev Cert.KernelAdamWup.nD → PrngReg), Pre_KernelAdamWup m →
    θ_run (Cert.KernelAdamWup.defs (F := Bits)) (onTc (τ := Cert.KernelAdamWup.τ) (Cert.KernelAdamWup.main (F := Bits))) ⟨m, fun _ => 0, g⟩ (fun r => (∀ c : Dev Cert.KernelAdamWup.nD,
      r.2.mem ((c.tc : Thread Cert.KernelAdamWup.nD Cert.KernelAdamWup.τ).loc Cert.KernelAdamWup.main_arg0) = m ((c.tc : Thread Cert.KernelAdamWup.nD Cert.KernelAdamWup.τ).loc Cert.KernelAdamWup.main_arg0)
      ∧ r.2.mem ((c.tc : Thread Cert.KernelAdamWup.nD Cert.KernelAdamWup.τ).loc Cert.KernelAdamWup.main_arg1) = m ((c.tc : Thread Cert.KernelAdamWup.nD Cert.KernelAdamWup.τ).loc Cert.KernelAdamWup.main_arg1)
      ∧ r.2.mem ((c.tc : Thread Cert.KernelAdamWup.nD Cert.KernelAdamWup.τ).loc Cert.KernelAdamWup.main_arg2) = m ((c.tc : Thread Cert.KernelAdamWup.nD Cert.KernelAdamWup.τ).loc Cert.KernelAdamWup.main_arg2)
      ∧ r.2.mem ((c.tc : Thread Cert.KernelAdamWup.nD Cert.KernelAdamWup.τ).loc Cert.KernelAdamWup.main_arg3) = m ((c.tc : Thread Cert.KernelAdamWup.nD Cert.KernelAdamWup.τ).loc Cert.KernelAdamWup.main_arg3))
      ∧ r.2.sem = fun _ => 0)

def quiescent_KernelAdamWupIdeal [hKernelAdamWupIdeal : Cert.KernelAdamWupIdeal.Facts] : Prop :=
  ∀ (m : (ℓ : Loc Cert.KernelAdamWupIdeal.nD Cert.KernelAdamWupIdeal.τ Cert.KernelAdamWupIdeal.sig) → Buf (Elt Ideal) ℓ) (g : Dev Cert.KernelAdamWupIdeal.nD → PrngReg), Pre_KernelAdamWupIdeal m →
    θ_run (Cert.KernelAdamWupIdeal.defs (F := Ideal)) (onTc (τ := Cert.KernelAdamWupIdeal.τ) (Cert.KernelAdamWupIdeal.main (F := Ideal))) ⟨m, fun _ => 0, g⟩ (fun r => (∀ c : Dev Cert.KernelAdamWupIdeal.nD,
      r.2.mem ((c.tc : Thread Cert.KernelAdamWupIdeal.nD Cert.KernelAdamWupIdeal.τ).loc Cert.KernelAdamWupIdeal.main_arg0) = m ((c.tc : Thread Cert.KernelAdamWupIdeal.nD Cert.KernelAdamWupIdeal.τ).loc Cert.KernelAdamWupIdeal.main_arg0)
      ∧ r.2.mem ((c.tc : Thread Cert.KernelAdamWupIdeal.nD Cert.KernelAdamWupIdeal.τ).loc Cert.KernelAdamWupIdeal.main_arg1) = m ((c.tc : Thread Cert.KernelAdamWupIdeal.nD Cert.KernelAdamWupIdeal.τ).loc Cert.KernelAdamWupIdeal.main_arg1)
      ∧ r.2.mem ((c.tc : Thread Cert.KernelAdamWupIdeal.nD Cert.KernelAdamWupIdeal.τ).loc Cert.KernelAdamWupIdeal.main_arg2) = m ((c.tc : Thread Cert.KernelAdamWupIdeal.nD Cert.KernelAdamWupIdeal.τ).loc Cert.KernelAdamWupIdeal.main_arg2)
      ∧ r.2.mem ((c.tc : Thread Cert.KernelAdamWupIdeal.nD Cert.KernelAdamWupIdeal.τ).loc Cert.KernelAdamWupIdeal.main_arg3) = m ((c.tc : Thread Cert.KernelAdamWupIdeal.nD Cert.KernelAdamWupIdeal.τ).loc Cert.KernelAdamWupIdeal.main_arg3))
      ∧ r.2.sem = fun _ => 0)

def quiescent_ReferenceAdamWupIdeal [hReferenceAdamWupIdeal : Cert.ReferenceAdamWupIdeal.Facts] : Prop :=
  ∀ (m : (ℓ : Loc Cert.ReferenceAdamWupIdeal.nD Cert.ReferenceAdamWupIdeal.τ Cert.ReferenceAdamWupIdeal.sig) → Buf (Elt Ideal) ℓ) (g : Dev Cert.ReferenceAdamWupIdeal.nD → PrngReg), Pre_ReferenceAdamWupIdeal m →
    θ_run (Cert.ReferenceAdamWupIdeal.defs (F := Ideal)) (onTc (τ := Cert.ReferenceAdamWupIdeal.τ) (Cert.ReferenceAdamWupIdeal.main (F := Ideal))) ⟨m, fun _ => 0, g⟩ (fun r => (∀ c : Dev Cert.ReferenceAdamWupIdeal.nD,
      r.2.mem ((c.tc : Thread Cert.ReferenceAdamWupIdeal.nD Cert.ReferenceAdamWupIdeal.τ).loc Cert.ReferenceAdamWupIdeal.main_arg0) = m ((c.tc : Thread Cert.ReferenceAdamWupIdeal.nD Cert.ReferenceAdamWupIdeal.τ).loc Cert.ReferenceAdamWupIdeal.main_arg0)
      ∧ r.2.mem ((c.tc : Thread Cert.ReferenceAdamWupIdeal.nD Cert.ReferenceAdamWupIdeal.τ).loc Cert.ReferenceAdamWupIdeal.main_arg1) = m ((c.tc : Thread Cert.ReferenceAdamWupIdeal.nD Cert.ReferenceAdamWupIdeal.τ).loc Cert.ReferenceAdamWupIdeal.main_arg1)
      ∧ r.2.mem ((c.tc : Thread Cert.ReferenceAdamWupIdeal.nD Cert.ReferenceAdamWupIdeal.τ).loc Cert.ReferenceAdamWupIdeal.main_arg2) = m ((c.tc : Thread Cert.ReferenceAdamWupIdeal.nD Cert.ReferenceAdamWupIdeal.τ).loc Cert.ReferenceAdamWupIdeal.main_arg2)
      ∧ r.2.mem ((c.tc : Thread Cert.ReferenceAdamWupIdeal.nD Cert.ReferenceAdamWupIdeal.τ).loc Cert.ReferenceAdamWupIdeal.main_arg3) = m ((c.tc : Thread Cert.ReferenceAdamWupIdeal.nD Cert.ReferenceAdamWupIdeal.τ).loc Cert.ReferenceAdamWupIdeal.main_arg3))
      ∧ r.2.sem = fun _ => 0)

def quiescent_KernelAdamConv [hKernelAdamConv : Cert.KernelAdamConv.Facts] : Prop :=
  ∀ (m : (ℓ : Loc Cert.KernelAdamConv.nD Cert.KernelAdamConv.τ Cert.KernelAdamConv.sig) → Buf (Elt Bits) ℓ) (g : Dev Cert.KernelAdamConv.nD → PrngReg), Pre_KernelAdamConv m →
    θ_run (Cert.KernelAdamConv.defs (F := Bits)) (onTc (τ := Cert.KernelAdamConv.τ) (Cert.KernelAdamConv.main (F := Bits))) ⟨m, fun _ => 0, g⟩ (fun r => (∀ c : Dev Cert.KernelAdamConv.nD,
      r.2.mem ((c.tc : Thread Cert.KernelAdamConv.nD Cert.KernelAdamConv.τ).loc Cert.KernelAdamConv.main_arg0) = m ((c.tc : Thread Cert.KernelAdamConv.nD Cert.KernelAdamConv.τ).loc Cert.KernelAdamConv.main_arg0)
      ∧ r.2.mem ((c.tc : Thread Cert.KernelAdamConv.nD Cert.KernelAdamConv.τ).loc Cert.KernelAdamConv.main_arg1) = m ((c.tc : Thread Cert.KernelAdamConv.nD Cert.KernelAdamConv.τ).loc Cert.KernelAdamConv.main_arg1)
      ∧ r.2.mem ((c.tc : Thread Cert.KernelAdamConv.nD Cert.KernelAdamConv.τ).loc Cert.KernelAdamConv.main_arg2) = m ((c.tc : Thread Cert.KernelAdamConv.nD Cert.KernelAdamConv.τ).loc Cert.KernelAdamConv.main_arg2)
      ∧ r.2.mem ((c.tc : Thread Cert.KernelAdamConv.nD Cert.KernelAdamConv.τ).loc Cert.KernelAdamConv.main_arg3) = m ((c.tc : Thread Cert.KernelAdamConv.nD Cert.KernelAdamConv.τ).loc Cert.KernelAdamConv.main_arg3))
      ∧ r.2.sem = fun _ => 0)

def quiescent_KernelAdamConvIdeal [hKernelAdamConvIdeal : Cert.KernelAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg), Pre_KernelAdamConvIdeal m →
    θ_run (Cert.KernelAdamConvIdeal.defs (F := Ideal)) (onTc (τ := Cert.KernelAdamConvIdeal.τ) (Cert.KernelAdamConvIdeal.main (F := Ideal))) ⟨m, fun _ => 0, g⟩ (fun r => (∀ c : Dev Cert.KernelAdamConvIdeal.nD,
      r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
      ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
      ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
      ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ r.2.sem = fun _ => 0)

def quiescent_ReferenceAdamConvIdeal [hReferenceAdamConvIdeal : Cert.ReferenceAdamConvIdeal.Facts] : Prop :=
  ∀ (m : (ℓ : Loc Cert.ReferenceAdamConvIdeal.nD Cert.ReferenceAdamConvIdeal.τ Cert.ReferenceAdamConvIdeal.sig) → Buf (Elt Ideal) ℓ) (g : Dev Cert.ReferenceAdamConvIdeal.nD → PrngReg), Pre_ReferenceAdamConvIdeal m →
    θ_run (Cert.ReferenceAdamConvIdeal.defs (F := Ideal)) (onTc (τ := Cert.ReferenceAdamConvIdeal.τ) (Cert.ReferenceAdamConvIdeal.main (F := Ideal))) ⟨m, fun _ => 0, g⟩ (fun r => (∀ c : Dev Cert.ReferenceAdamConvIdeal.nD,
      r.2.mem ((c.tc : Thread Cert.ReferenceAdamConvIdeal.nD Cert.ReferenceAdamConvIdeal.τ).loc Cert.ReferenceAdamConvIdeal.main_arg0) = m ((c.tc : Thread Cert.ReferenceAdamConvIdeal.nD Cert.ReferenceAdamConvIdeal.τ).loc Cert.ReferenceAdamConvIdeal.main_arg0)
      ∧ r.2.mem ((c.tc : Thread Cert.ReferenceAdamConvIdeal.nD Cert.ReferenceAdamConvIdeal.τ).loc Cert.ReferenceAdamConvIdeal.main_arg1) = m ((c.tc : Thread Cert.ReferenceAdamConvIdeal.nD Cert.ReferenceAdamConvIdeal.τ).loc Cert.ReferenceAdamConvIdeal.main_arg1)
      ∧ r.2.mem ((c.tc : Thread Cert.ReferenceAdamConvIdeal.nD Cert.ReferenceAdamConvIdeal.τ).loc Cert.ReferenceAdamConvIdeal.main_arg2) = m ((c.tc : Thread Cert.ReferenceAdamConvIdeal.nD Cert.ReferenceAdamConvIdeal.τ).loc Cert.ReferenceAdamConvIdeal.main_arg2)
      ∧ r.2.mem ((c.tc : Thread Cert.ReferenceAdamConvIdeal.nD Cert.ReferenceAdamConvIdeal.τ).loc Cert.ReferenceAdamConvIdeal.main_arg3) = m ((c.tc : Thread Cert.ReferenceAdamConvIdeal.nD Cert.ReferenceAdamConvIdeal.τ).loc Cert.ReferenceAdamConvIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_KernelFwdIdeal_pre_finite17 [hKernelFwdIdeal : Cert.KernelFwdIdeal.Facts] [hPre_finite17 : Cert.Pre_finite17.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite17 m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def quiescent_ReferenceFwdIdeal_pre_finite17 [hReferenceFwdIdeal : Cert.ReferenceFwdIdeal.Facts] [hPre_finite17 : Cert.Pre_finite17.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite17 m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3)
      ∧ r.2.mem ((c.tc : Thread Cert.KernelAdamSmall.nD Cert.KernelAdamSmall.τ).loc Cert.KernelAdamSmall.main_arg4) = m ((c.tc : Thread Cert.KernelAdamSmall.nD Cert.KernelAdamSmall.τ).loc Cert.KernelAdamSmall.main_arg4)
      ∧ r.2.mem ((c.tc : Thread Cert.KernelAdamSmall.nD Cert.KernelAdamSmall.τ).loc Cert.KernelAdamSmall.main_arg5) = m ((c.tc : Thread Cert.KernelAdamSmall.nD Cert.KernelAdamSmall.τ).loc Cert.KernelAdamSmall.main_arg5)
      ∧ r.2.mem ((c.tc : Thread Cert.KernelAdamSmall.nD Cert.KernelAdamSmall.τ).loc Cert.KernelAdamSmall.main_arg6) = m ((c.tc : Thread Cert.KernelAdamSmall.nD Cert.KernelAdamSmall.τ).loc Cert.KernelAdamSmall.main_arg6)
      ∧ r.2.mem ((c.tc : Thread Cert.KernelAdamSmall.nD Cert.KernelAdamSmall.τ).loc Cert.KernelAdamSmall.main_arg7) = m ((c.tc : Thread Cert.KernelAdamSmall.nD Cert.KernelAdamSmall.τ).loc Cert.KernelAdamSmall.main_arg7)
      ∧ r.2.mem ((c.tc : Thread Cert.KernelAdamSmall.nD Cert.KernelAdamSmall.τ).loc Cert.KernelAdamSmall.main_arg8) = m ((c.tc : Thread Cert.KernelAdamSmall.nD Cert.KernelAdamSmall.τ).loc Cert.KernelAdamSmall.main_arg8)
      ∧ r.2.mem ((c.tc : Thread Cert.KernelAdamSmall.nD Cert.KernelAdamSmall.τ).loc Cert.KernelAdamSmall.main_arg9) = m ((c.tc : Thread Cert.KernelAdamSmall.nD Cert.KernelAdamSmall.τ).loc Cert.KernelAdamSmall.main_arg9)
      ∧ r.2.mem ((c.tc : Thread Cert.KernelAdamSmall.nD Cert.KernelAdamSmall.τ).loc Cert.KernelAdamSmall.main_arg10) = m ((c.tc : Thread Cert.KernelAdamSmall.nD Cert.KernelAdamSmall.τ).loc Cert.KernelAdamSmall.main_arg10)
      ∧ r.2.mem ((c.tc : Thread Cert.KernelAdamSmall.nD Cert.KernelAdamSmall.τ).loc Cert.KernelAdamSmall.main_arg11) = m ((c.tc : Thread Cert.KernelAdamSmall.nD Cert.KernelAdamSmall.τ).loc Cert.KernelAdamSmall.main_arg11)
      ∧ r.2.mem ((c.tc : Thread Cert.KernelAdamSmall.nD Cert.KernelAdamSmall.τ).loc Cert.KernelAdamSmall.main_arg12) = m ((c.tc : Thread Cert.KernelAdamSmall.nD Cert.KernelAdamSmall.τ).loc Cert.KernelAdamSmall.main_arg12)
      ∧ r.2.mem ((c.tc : Thread Cert.KernelAdamSmall.nD Cert.KernelAdamSmall.τ).loc Cert.KernelAdamSmall.main_arg13) = m ((c.tc : Thread Cert.KernelAdamSmall.nD Cert.KernelAdamSmall.τ).loc Cert.KernelAdamSmall.main_arg13)
      ∧ r.2.mem ((c.tc : Thread Cert.KernelAdamSmall.nD Cert.KernelAdamSmall.τ).loc Cert.KernelAdamSmall.main_arg14) = m ((c.tc : Thread Cert.KernelAdamSmall.nD Cert.KernelAdamSmall.τ).loc Cert.KernelAdamSmall.main_arg14)
      ∧ r.2.mem ((c.tc : Thread Cert.KernelAdamSmall.nD Cert.KernelAdamSmall.τ).loc Cert.KernelAdamSmall.main_arg15) = m ((c.tc : Thread Cert.KernelAdamSmall.nD Cert.KernelAdamSmall.τ).loc Cert.KernelAdamSmall.main_arg15)
      ∧ r.2.mem ((c.tc : Thread Cert.KernelAdamSmall.nD Cert.KernelAdamSmall.τ).loc Cert.KernelAdamSmall.main_arg16) = m ((c.tc : Thread Cert.KernelAdamSmall.nD Cert.KernelAdamSmall.τ).loc Cert.KernelAdamSmall.main_arg16)
      ∧ r.2.mem ((c.tc : Thread Cert.KernelAdamSmall.nD Cert.KernelAdamSmall.τ).loc Cert.KernelAdamSmall.main_arg17) = m ((c.tc : Thread Cert.KernelAdamSmall.nD Cert.KernelAdamSmall.τ).loc Cert.KernelAdamSmall.main_arg17)
      ∧ r.2.mem ((c.tc : Thread Cert.KernelAdamSmall.nD Cert.KernelAdamSmall.τ).loc Cert.KernelAdamSmall.main_arg18) = m ((c.tc : Thread Cert.KernelAdamSmall.nD Cert.KernelAdamSmall.τ).loc Cert.KernelAdamSmall.main_arg18)
      ∧ r.2.mem ((c.tc : Thread Cert.KernelAdamSmall.nD Cert.KernelAdamSmall.τ).loc Cert.KernelAdamSmall.main_arg19) = m ((c.tc : Thread Cert.KernelAdamSmall.nD Cert.KernelAdamSmall.τ).loc Cert.KernelAdamSmall.main_arg19)
      ∧ r.2.mem ((c.tc : Thread Cert.KernelAdamSmall.nD Cert.KernelAdamSmall.τ).loc Cert.KernelAdamSmall.main_arg20) = m ((c.tc : Thread Cert.KernelAdamSmall.nD Cert.KernelAdamSmall.τ).loc Cert.KernelAdamSmall.main_arg20)
      ∧ r.2.mem ((c.tc : Thread Cert.KernelAdamSmall.nD Cert.KernelAdamSmall.τ).loc Cert.KernelAdamSmall.main_arg21) = m ((c.tc : Thread Cert.KernelAdamSmall.nD Cert.KernelAdamSmall.τ).loc Cert.KernelAdamSmall.main_arg21)
      ∧ r.2.mem ((c.tc : Thread Cert.KernelAdamSmall.nD Cert.KernelAdamSmall.τ).loc Cert.KernelAdamSmall.main_arg22) = m ((c.tc : Thread Cert.KernelAdamSmall.nD Cert.KernelAdamSmall.τ).loc Cert.KernelAdamSmall.main_arg22)
      ∧ r.2.mem ((c.tc : Thread Cert.KernelAdamSmall.nD Cert.KernelAdamSmall.τ).loc Cert.KernelAdamSmall.main_arg23) = m ((c.tc : Thread Cert.KernelAdamSmall.nD Cert.KernelAdamSmall.τ).loc Cert.KernelAdamSmall.main_arg23)
      ∧ r.2.mem ((c.tc : Thread Cert.KernelAdamSmall.nD Cert.KernelAdamSmall.τ).loc Cert.KernelAdamSmall.main_arg24) = m ((c.tc : Thread Cert.KernelAdamSmall.nD Cert.KernelAdamSmall.τ).loc Cert.KernelAdamSmall.main_arg24)
      ∧ r.2.mem ((c.tc : Thread Cert.KernelAdamSmall.nD Cert.KernelAdamSmall.τ).loc Cert.KernelAdamSmall.main_arg25) = m ((c.tc : Thread Cert.KernelAdamSmall.nD Cert.KernelAdamSmall.τ).loc Cert.KernelAdamSmall.main_arg25)
      ∧ r.2.mem ((c.tc : Thread Cert.KernelAdamSmall.nD Cert.KernelAdamSmall.τ).loc Cert.KernelAdamSmall.main_arg26) = m ((c.tc : Thread Cert.KernelAdamSmall.nD Cert.KernelAdamSmall.τ).loc Cert.KernelAdamSmall.main_arg26)
      ∧ r.2.mem ((c.tc : Thread Cert.KernelAdamSmall.nD Cert.KernelAdamSmall.τ).loc Cert.KernelAdamSmall.main_arg27) = m ((c.tc : Thread Cert.KernelAdamSmall.nD Cert.KernelAdamSmall.τ).loc Cert.KernelAdamSmall.main_arg27)
      ∧ r.2.mem ((c.tc : Thread Cert.KernelAdamSmall.nD Cert.KernelAdamSmall.τ).loc Cert.KernelAdamSmall.main_arg28) = m ((c.tc : Thread Cert.KernelAdamSmall.nD Cert.KernelAdamSmall.τ).loc Cert.KernelAdamSmall.main_arg28)
      ∧ r.2.mem ((c.tc : Thread Cert.KernelAdamSmall.nD Cert.KernelAdamSmall.τ).loc Cert.KernelAdamSmall.main_arg29) = m ((c.tc : Thread Cert.KernelAdamSmall.nD Cert.KernelAdamSmall.τ).loc Cert.KernelAdamSmall.main_arg29)
      ∧ r.2.mem ((c.tc : Thread Cert.KernelAdamSmall.nD Cert.KernelAdamSmall.τ).loc Cert.KernelAdamSmall.main_arg30) = m ((c.tc : Thread Cert.KernelAdamSmall.nD Cert.KernelAdamSmall.τ).loc Cert.KernelAdamSmall.main_arg30)
      ∧ r.2.mem ((c.tc : Thread Cert.KernelAdamSmall.nD Cert.KernelAdamSmall.τ).loc Cert.KernelAdamSmall.main_arg31) = m ((c.tc : Thread Cert.KernelAdamSmall.nD Cert.KernelAdamSmall.τ).loc Cert.KernelAdamSmall.main_arg31)
      ∧ r.2.mem ((c.tc : Thread Cert.KernelAdamSmall.nD Cert.KernelAdamSmall.τ).loc Cert.KernelAdamSmall.main_arg32) = m ((c.tc : Thread Cert.KernelAdamSmall.nD Cert.KernelAdamSmall.τ).loc Cert.KernelAdamSmall.main_arg32)
      ∧ r.2.mem ((c.tc : Thread Cert.KernelAdamSmall.nD Cert.KernelAdamSmall.τ).loc Cert.KernelAdamSmall.main_arg33) = m ((c.tc : Thread Cert.KernelAdamSmall.nD Cert.KernelAdamSmall.τ).loc Cert.KernelAdamSmall.main_arg33)
      ∧ r.2.mem ((c.tc : Thread Cert.KernelAdamSmall.nD Cert.KernelAdamSmall.τ).loc Cert.KernelAdamSmall.main_arg34) = m ((c.tc : Thread Cert.KernelAdamSmall.nD Cert.KernelAdamSmall.τ).loc Cert.KernelAdamSmall.main_arg34)
      ∧ r.2.mem ((c.tc : Thread Cert.KernelAdamSmall.nD Cert.KernelAdamSmall.τ).loc Cert.KernelAdamSmall.main_arg35) = m ((c.tc : Thread Cert.KernelAdamSmall.nD Cert.KernelAdamSmall.τ).loc Cert.KernelAdamSmall.main_arg35)
      ∧ r.2.mem ((c.tc : Thread Cert.KernelAdamSmall.nD Cert.KernelAdamSmall.τ).loc Cert.KernelAdamSmall.main_arg36) = m ((c.tc : Thread Cert.KernelAdamSmall.nD Cert.KernelAdamSmall.τ).loc Cert.KernelAdamSmall.main_arg36))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
      ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
      ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
      ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
      ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
      ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
      ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
      ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
      ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
      ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
      ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
      ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
      ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
      ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
      ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
      ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
      ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
      ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
      ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
      ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
      ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23)
      ∧ r.2.mem ((c.tc : Thread Cert.KernelAdamSmallIdeal.nD Cert.KernelAdamSmallIdeal.τ).loc Cert.KernelAdamSmallIdeal.main_arg24) = m ((c.tc : Thread Cert.KernelAdamSmallIdeal.nD Cert.KernelAdamSmallIdeal.τ).loc Cert.KernelAdamSmallIdeal.main_arg24)
      ∧ r.2.mem ((c.tc : Thread Cert.KernelAdamSmallIdeal.nD Cert.KernelAdamSmallIdeal.τ).loc Cert.KernelAdamSmallIdeal.main_arg25) = m ((c.tc : Thread Cert.KernelAdamSmallIdeal.nD Cert.KernelAdamSmallIdeal.τ).loc Cert.KernelAdamSmallIdeal.main_arg25)
      ∧ r.2.mem ((c.tc : Thread Cert.KernelAdamSmallIdeal.nD Cert.KernelAdamSmallIdeal.τ).loc Cert.KernelAdamSmallIdeal.main_arg26) = m ((c.tc : Thread Cert.KernelAdamSmallIdeal.nD Cert.KernelAdamSmallIdeal.τ).loc Cert.KernelAdamSmallIdeal.main_arg26)
      ∧ r.2.mem ((c.tc : Thread Cert.KernelAdamSmallIdeal.nD Cert.KernelAdamSmallIdeal.τ).loc Cert.KernelAdamSmallIdeal.main_arg27) = m ((c.tc : Thread Cert.KernelAdamSmallIdeal.nD Cert.KernelAdamSmallIdeal.τ).loc Cert.KernelAdamSmallIdeal.main_arg27)
      ∧ r.2.mem ((c.tc : Thread Cert.KernelAdamSmallIdeal.nD Cert.KernelAdamSmallIdeal.τ).loc Cert.KernelAdamSmallIdeal.main_arg28) = m ((c.tc : Thread Cert.KernelAdamSmallIdeal.nD Cert.KernelAdamSmallIdeal.τ).loc Cert.KernelAdamSmallIdeal.main_arg28)
      ∧ r.2.mem ((c.tc : Thread Cert.KernelAdamSmallIdeal.nD Cert.KernelAdamSmallIdeal.τ).loc Cert.KernelAdamSmallIdeal.main_arg29) = m ((c.tc : Thread Cert.KernelAdamSmallIdeal.nD Cert.KernelAdamSmallIdeal.τ).loc Cert.KernelAdamSmallIdeal.main_arg29)
      ∧ r.2.mem ((c.tc : Thread Cert.KernelAdamSmallIdeal.nD Cert.KernelAdamSmallIdeal.τ).loc Cert.KernelAdamSmallIdeal.main_arg30) = m ((c.tc : Thread Cert.KernelAdamSmallIdeal.nD Cert.KernelAdamSmallIdeal.τ).loc Cert.KernelAdamSmallIdeal.main_arg30)
      ∧ r.2.mem ((c.tc : Thread Cert.KernelAdamSmallIdeal.nD Cert.KernelAdamSmallIdeal.τ).loc Cert.KernelAdamSmallIdeal.main_arg31) = m ((c.tc : Thread Cert.KernelAdamSmallIdeal.nD Cert.KernelAdamSmallIdeal.τ).loc Cert.KernelAdamSmallIdeal.main_arg31)
      ∧ r.2.mem ((c.tc : Thread Cert.KernelAdamSmallIdeal.nD Cert.KernelAdamSmallIdeal.τ).loc Cert.KernelAdamSmallIdeal.main_arg32) = m ((c.tc : Thread Cert.KernelAdamSmallIdeal.nD Cert.KernelAdamSmallIdeal.τ).loc Cert.KernelAdamSmallIdeal.main_arg32)
      ∧ r.2.mem ((c.tc : Thread Cert.KernelAdamSmallIdeal.nD Cert.KernelAdamSmallIdeal.τ).loc Cert.KernelAdamSmallIdeal.main_arg33) = m ((c.tc : Thread Cert.KernelAdamSmallIdeal.nD Cert.KernelAdamSmallIdeal.τ).loc Cert.KernelAdamSmallIdeal.main_arg33)
      ∧ r.2.mem ((c.tc : Thread Cert.KernelAdamSmallIdeal.nD Cert.KernelAdamSmallIdeal.τ).loc Cert.KernelAdamSmallIdeal.main_arg34) = m ((c.tc : Thread Cert.KernelAdamSmallIdeal.nD Cert.KernelAdamSmallIdeal.τ).loc Cert.KernelAdamSmallIdeal.main_arg34)
      ∧ r.2.mem ((c.tc : Thread Cert.KernelAdamSmallIdeal.nD Cert.KernelAdamSmallIdeal.τ).loc Cert.KernelAdamSmallIdeal.main_arg35) = m ((c.tc : Thread Cert.KernelAdamSmallIdeal.nD Cert.KernelAdamSmallIdeal.τ).loc Cert.KernelAdamSmallIdeal.main_arg35)
      ∧ r.2.mem ((c.tc : Thread Cert.KernelAdamSmallIdeal.nD Cert.KernelAdamSmallIdeal.τ).loc Cert.KernelAdamSmallIdeal.main_arg36) = m ((c.tc : Thread Cert.KernelAdamSmallIdeal.nD Cert.KernelAdamSmallIdeal.τ).loc Cert.KernelAdamSmallIdeal.main_arg36))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3)
      ∧ r.2.mem ((c.tc : Thread Cert.ReferenceAdamSmallIdeal.nD Cert.ReferenceAdamSmallIdeal.τ).loc Cert.ReferenceAdamSmallIdeal.main_arg4) = m ((c.tc : Thread Cert.ReferenceAdamSmallIdeal.nD Cert.ReferenceAdamSmallIdeal.τ).loc Cert.ReferenceAdamSmallIdeal.main_arg4)
      ∧ r.2.mem ((c.tc : Thread Cert.ReferenceAdamSmallIdeal.nD Cert.ReferenceAdamSmallIdeal.τ).loc Cert.ReferenceAdamSmallIdeal.main_arg5) = m ((c.tc : Thread Cert.ReferenceAdamSmallIdeal.nD Cert.ReferenceAdamSmallIdeal.τ).loc Cert.ReferenceAdamSmallIdeal.main_arg5)
      ∧ r.2.mem ((c.tc : Thread Cert.ReferenceAdamSmallIdeal.nD Cert.ReferenceAdamSmallIdeal.τ).loc Cert.ReferenceAdamSmallIdeal.main_arg6) = m ((c.tc : Thread Cert.ReferenceAdamSmallIdeal.nD Cert.ReferenceAdamSmallIdeal.τ).loc Cert.ReferenceAdamSmallIdeal.main_arg6)
      ∧ r.2.mem ((c.tc : Thread Cert.ReferenceAdamSmallIdeal.nD Cert.ReferenceAdamSmallIdeal.τ).loc Cert.ReferenceAdamSmallIdeal.main_arg7) = m ((c.tc : Thread Cert.ReferenceAdamSmallIdeal.nD Cert.ReferenceAdamSmallIdeal.τ).loc Cert.ReferenceAdamSmallIdeal.main_arg7)
      ∧ r.2.mem ((c.tc : Thread Cert.ReferenceAdamSmallIdeal.nD Cert.ReferenceAdamSmallIdeal.τ).loc Cert.ReferenceAdamSmallIdeal.main_arg8) = m ((c.tc : Thread Cert.ReferenceAdamSmallIdeal.nD Cert.ReferenceAdamSmallIdeal.τ).loc Cert.ReferenceAdamSmallIdeal.main_arg8)
      ∧ r.2.mem ((c.tc : Thread Cert.ReferenceAdamSmallIdeal.nD Cert.ReferenceAdamSmallIdeal.τ).loc Cert.ReferenceAdamSmallIdeal.main_arg9) = m ((c.tc : Thread Cert.ReferenceAdamSmallIdeal.nD Cert.ReferenceAdamSmallIdeal.τ).loc Cert.ReferenceAdamSmallIdeal.main_arg9)
      ∧ r.2.mem ((c.tc : Thread Cert.ReferenceAdamSmallIdeal.nD Cert.ReferenceAdamSmallIdeal.τ).loc Cert.ReferenceAdamSmallIdeal.main_arg10) = m ((c.tc : Thread Cert.ReferenceAdamSmallIdeal.nD Cert.ReferenceAdamSmallIdeal.τ).loc Cert.ReferenceAdamSmallIdeal.main_arg10)
      ∧ r.2.mem ((c.tc : Thread Cert.ReferenceAdamSmallIdeal.nD Cert.ReferenceAdamSmallIdeal.τ).loc Cert.ReferenceAdamSmallIdeal.main_arg11) = m ((c.tc : Thread Cert.ReferenceAdamSmallIdeal.nD Cert.ReferenceAdamSmallIdeal.τ).loc Cert.ReferenceAdamSmallIdeal.main_arg11)
      ∧ r.2.mem ((c.tc : Thread Cert.ReferenceAdamSmallIdeal.nD Cert.ReferenceAdamSmallIdeal.τ).loc Cert.ReferenceAdamSmallIdeal.main_arg12) = m ((c.tc : Thread Cert.ReferenceAdamSmallIdeal.nD Cert.ReferenceAdamSmallIdeal.τ).loc Cert.ReferenceAdamSmallIdeal.main_arg12)
      ∧ r.2.mem ((c.tc : Thread Cert.ReferenceAdamSmallIdeal.nD Cert.ReferenceAdamSmallIdeal.τ).loc Cert.ReferenceAdamSmallIdeal.main_arg13) = m ((c.tc : Thread Cert.ReferenceAdamSmallIdeal.nD Cert.ReferenceAdamSmallIdeal.τ).loc Cert.ReferenceAdamSmallIdeal.main_arg13)
      ∧ r.2.mem ((c.tc : Thread Cert.ReferenceAdamSmallIdeal.nD Cert.ReferenceAdamSmallIdeal.τ).loc Cert.ReferenceAdamSmallIdeal.main_arg14) = m ((c.tc : Thread Cert.ReferenceAdamSmallIdeal.nD Cert.ReferenceAdamSmallIdeal.τ).loc Cert.ReferenceAdamSmallIdeal.main_arg14)
      ∧ r.2.mem ((c.tc : Thread Cert.ReferenceAdamSmallIdeal.nD Cert.ReferenceAdamSmallIdeal.τ).loc Cert.ReferenceAdamSmallIdeal.main_arg15) = m ((c.tc : Thread Cert.ReferenceAdamSmallIdeal.nD Cert.ReferenceAdamSmallIdeal.τ).loc Cert.ReferenceAdamSmallIdeal.main_arg15)
      ∧ r.2.mem ((c.tc : Thread Cert.ReferenceAdamSmallIdeal.nD Cert.ReferenceAdamSmallIdeal.τ).loc Cert.ReferenceAdamSmallIdeal.main_arg16) = m ((c.tc : Thread Cert.ReferenceAdamSmallIdeal.nD Cert.ReferenceAdamSmallIdeal.τ).loc Cert.ReferenceAdamSmallIdeal.main_arg16)
      ∧ r.2.mem ((c.tc : Thread Cert.ReferenceAdamSmallIdeal.nD Cert.ReferenceAdamSmallIdeal.τ).loc Cert.ReferenceAdamSmallIdeal.main_arg17) = m ((c.tc : Thread Cert.ReferenceAdamSmallIdeal.nD Cert.ReferenceAdamSmallIdeal.τ).loc Cert.ReferenceAdamSmallIdeal.main_arg17)
      ∧ r.2.mem ((c.tc : Thread Cert.ReferenceAdamSmallIdeal.nD Cert.ReferenceAdamSmallIdeal.τ).loc Cert.ReferenceAdamSmallIdeal.main_arg18) = m ((c.tc : Thread Cert.ReferenceAdamSmallIdeal.nD Cert.ReferenceAdamSmallIdeal.τ).loc Cert.ReferenceAdamSmallIdeal.main_arg18)
      ∧ r.2.mem ((c.tc : Thread Cert.ReferenceAdamSmallIdeal.nD Cert.ReferenceAdamSmallIdeal.τ).loc Cert.ReferenceAdamSmallIdeal.main_arg19) = m ((c.tc : Thread Cert.ReferenceAdamSmallIdeal.nD Cert.ReferenceAdamSmallIdeal.τ).loc Cert.ReferenceAdamSmallIdeal.main_arg19)
      ∧ r.2.mem ((c.tc : Thread Cert.ReferenceAdamSmallIdeal.nD Cert.ReferenceAdamSmallIdeal.τ).loc Cert.ReferenceAdamSmallIdeal.main_arg20) = m ((c.tc : Thread Cert.ReferenceAdamSmallIdeal.nD Cert.ReferenceAdamSmallIdeal.τ).loc Cert.ReferenceAdamSmallIdeal.main_arg20)
      ∧ r.2.mem ((c.tc : Thread Cert.ReferenceAdamSmallIdeal.nD Cert.ReferenceAdamSmallIdeal.τ).loc Cert.ReferenceAdamSmallIdeal.main_arg21) = m ((c.tc : Thread Cert.ReferenceAdamSmallIdeal.nD Cert.ReferenceAdamSmallIdeal.τ).loc Cert.ReferenceAdamSmallIdeal.main_arg21)
      ∧ r.2.mem ((c.tc : Thread Cert.ReferenceAdamSmallIdeal.nD Cert.ReferenceAdamSmallIdeal.τ).loc Cert.ReferenceAdamSmallIdeal.main_arg22) = m ((c.tc : Thread Cert.ReferenceAdamSmallIdeal.nD Cert.ReferenceAdamSmallIdeal.τ).loc Cert.ReferenceAdamSmallIdeal.main_arg22)
      ∧ r.2.mem ((c.tc : Thread Cert.ReferenceAdamSmallIdeal.nD Cert.ReferenceAdamSmallIdeal.τ).loc Cert.ReferenceAdamSmallIdeal.main_arg23) = m ((c.tc : Thread Cert.ReferenceAdamSmallIdeal.nD Cert.ReferenceAdamSmallIdeal.τ).loc Cert.ReferenceAdamSmallIdeal.main_arg23)
      ∧ r.2.mem ((c.tc : Thread Cert.ReferenceAdamSmallIdeal.nD Cert.ReferenceAdamSmallIdeal.τ).loc Cert.ReferenceAdamSmallIdeal.main_arg24) = m ((c.tc : Thread Cert.ReferenceAdamSmallIdeal.nD Cert.ReferenceAdamSmallIdeal.τ).loc Cert.ReferenceAdamSmallIdeal.main_arg24)
      ∧ r.2.mem ((c.tc : Thread Cert.ReferenceAdamSmallIdeal.nD Cert.ReferenceAdamSmallIdeal.τ).loc Cert.ReferenceAdamSmallIdeal.main_arg25) = m ((c.tc : Thread Cert.ReferenceAdamSmallIdeal.nD Cert.ReferenceAdamSmallIdeal.τ).loc Cert.ReferenceAdamSmallIdeal.main_arg25)
      ∧ r.2.mem ((c.tc : Thread Cert.ReferenceAdamSmallIdeal.nD Cert.ReferenceAdamSmallIdeal.τ).loc Cert.ReferenceAdamSmallIdeal.main_arg26) = m ((c.tc : Thread Cert.ReferenceAdamSmallIdeal.nD Cert.ReferenceAdamSmallIdeal.τ).loc Cert.ReferenceAdamSmallIdeal.main_arg26)
      ∧ r.2.mem ((c.tc : Thread Cert.ReferenceAdamSmallIdeal.nD Cert.ReferenceAdamSmallIdeal.τ).loc Cert.ReferenceAdamSmallIdeal.main_arg27) = m ((c.tc : Thread Cert.ReferenceAdamSmallIdeal.nD Cert.ReferenceAdamSmallIdeal.τ).loc Cert.ReferenceAdamSmallIdeal.main_arg27)
      ∧ r.2.mem ((c.tc : Thread Cert.ReferenceAdamSmallIdeal.nD Cert.ReferenceAdamSmallIdeal.τ).loc Cert.ReferenceAdamSmallIdeal.main_arg28) = m ((c.tc : Thread Cert.ReferenceAdamSmallIdeal.nD Cert.ReferenceAdamSmallIdeal.τ).loc Cert.ReferenceAdamSmallIdeal.main_arg28)
      ∧ r.2.mem ((c.tc : Thread Cert.ReferenceAdamSmallIdeal.nD Cert.ReferenceAdamSmallIdeal.τ).loc Cert.ReferenceAdamSmallIdeal.main_arg29) = m ((c.tc : Thread Cert.ReferenceAdamSmallIdeal.nD Cert.ReferenceAdamSmallIdeal.τ).loc Cert.ReferenceAdamSmallIdeal.main_arg29)
      ∧ r.2.mem ((c.tc : Thread Cert.ReferenceAdamSmallIdeal.nD Cert.ReferenceAdamSmallIdeal.τ).loc Cert.ReferenceAdamSmallIdeal.main_arg30) = m ((c.tc : Thread Cert.ReferenceAdamSmallIdeal.nD Cert.ReferenceAdamSmallIdeal.τ).loc Cert.ReferenceAdamSmallIdeal.main_arg30)
      ∧ r.2.mem ((c.tc : Thread Cert.ReferenceAdamSmallIdeal.nD Cert.ReferenceAdamSmallIdeal.τ).loc Cert.ReferenceAdamSmallIdeal.main_arg31) = m ((c.tc : Thread Cert.ReferenceAdamSmallIdeal.nD Cert.ReferenceAdamSmallIdeal.τ).loc Cert.ReferenceAdamSmallIdeal.main_arg31)
      ∧ r.2.mem ((c.tc : Thread Cert.ReferenceAdamSmallIdeal.nD Cert.ReferenceAdamSmallIdeal.τ).loc Cert.ReferenceAdamSmallIdeal.main_arg32) = m ((c.tc : Thread Cert.ReferenceAdamSmallIdeal.nD Cert.ReferenceAdamSmallIdeal.τ).loc Cert.ReferenceAdamSmallIdeal.main_arg32)
      ∧ r.2.mem ((c.tc : Thread Cert.ReferenceAdamSmallIdeal.nD Cert.ReferenceAdamSmallIdeal.τ).loc Cert.ReferenceAdamSmallIdeal.main_arg33) = m ((c.tc : Thread Cert.ReferenceAdamSmallIdeal.nD Cert.ReferenceAdamSmallIdeal.τ).loc Cert.ReferenceAdamSmallIdeal.main_arg33)
      ∧ r.2.mem ((c.tc : Thread Cert.ReferenceAdamSmallIdeal.nD Cert.ReferenceAdamSmallIdeal.τ).loc Cert.ReferenceAdamSmallIdeal.main_arg34) = m ((c.tc : Thread Cert.ReferenceAdamSmallIdeal.nD Cert.ReferenceAdamSmallIdeal.τ).loc Cert.ReferenceAdamSmallIdeal.main_arg34)
      ∧ r.2.mem ((c.tc : Thread Cert.ReferenceAdamSmallIdeal.nD Cert.ReferenceAdamSmallIdeal.τ).loc Cert.ReferenceAdamSmallIdeal.main_arg35) = m ((c.tc : Thread Cert.ReferenceAdamSmallIdeal.nD Cert.ReferenceAdamSmallIdeal.τ).loc Cert.ReferenceAdamSmallIdeal.main_arg35)
      ∧ r.2.mem ((c.tc : Thread Cert.ReferenceAdamSmallIdeal.nD Cert.ReferenceAdamSmallIdeal.τ).loc Cert.ReferenceAdamSmallIdeal.main_arg36) = m ((c.tc : Thread Cert.ReferenceAdamSmallIdeal.nD Cert.ReferenceAdamSmallIdeal.τ).loc Cert.ReferenceAdamSmallIdeal.main_arg36))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v74)) (v3 : (c : Dev Cert.KernelIdeal.nD) → Buf (Elt Ideal) ((c.tc : Thread Cert.KernelIdeal.nD Cert.KernelIdeal.τ).loc Cert.KernelIdeal.main_v76)) (v4 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_v76) = v3 c
          ∧ r.2.mem ((c.tc : Thread Cert.KernelIdeal.nD Cert.KernelIdeal.τ).loc Cert.KernelIdeal.main_v78) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelDh2_KernelDh2Ideal : Prop :=
  True

def algebraic_KernelDh2Ideal_ReferenceDh2Ideal [hKernelDh2Ideal : Cert.KernelDh2Ideal.Facts] [hReferenceDh2Ideal : Cert.ReferenceDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg)
    (m' : (ℓ : Loc Cert.ReferenceDh2Ideal.nD Cert.ReferenceDh2Ideal.τ Cert.ReferenceDh2Ideal.sig) → Buf (Elt Ideal) ℓ) (g' : Dev Cert.ReferenceDh2Ideal.nD → PrngReg), Pre_KernelDh2Ideal m →
    (∀ c : Dev Cert.KernelDh2Ideal.nD,
      m' ((c.tc : Thread Cert.ReferenceDh2Ideal.nD Cert.ReferenceDh2Ideal.τ).loc Cert.ReferenceDh2Ideal.main_arg0) = m ((c.tc : Thread Cert.KernelDh2Ideal.nD Cert.KernelDh2Ideal.τ).loc Cert.KernelDh2Ideal.main_arg0)
      ∧ m' ((c.tc : Thread Cert.ReferenceDh2Ideal.nD Cert.ReferenceDh2Ideal.τ).loc Cert.ReferenceDh2Ideal.main_arg1) = m ((c.tc : Thread Cert.KernelDh2Ideal.nD Cert.KernelDh2Ideal.τ).loc Cert.KernelDh2Ideal.main_arg1)) →
    ∃ (v0 : (c : Dev Cert.KernelDh2Ideal.nD) → Buf (Elt Ideal) ((c.tc : Thread Cert.KernelDh2Ideal.nD Cert.KernelDh2Ideal.τ).loc Cert.KernelDh2Ideal.main_v9)),
      θ_run (Cert.KernelDh2Ideal.defs (F := Ideal)) (onTc (τ := Cert.KernelDh2Ideal.τ) (Cert.KernelDh2Ideal.main (F := Ideal))) ⟨m, fun _ => 0, g⟩ (fun r => ∀ c : Dev Cert.KernelDh2Ideal.nD,
          r.2.mem ((c.tc : Thread Cert.KernelDh2Ideal.nD Cert.KernelDh2Ideal.τ).loc Cert.KernelDh2Ideal.main_v9) = v0 c
          ∧ r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
          ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1))
      ∧ θ_run (Cert.ReferenceDh2Ideal.defs (F := Ideal)) (onTc (τ := Cert.ReferenceDh2Ideal.τ) (Cert.ReferenceDh2Ideal.main (F := Ideal))) ⟨m', fun _ => 0, g'⟩ (fun r => ∀ c : Dev Cert.ReferenceDh2Ideal.nD,
          r.2.mem ((c.tc : Thread Cert.ReferenceDh2Ideal.nD Cert.ReferenceDh2Ideal.τ).loc Cert.ReferenceDh2Ideal.main_v2) = v0 c
          ∧ r.2.mem ((c.tc : Thread Cert.ReferenceDh2Ideal.nD Cert.ReferenceDh2Ideal.τ).loc Cert.ReferenceDh2Ideal.main_arg0) = m' ((c.tc : Thread Cert.ReferenceDh2Ideal.nD Cert.ReferenceDh2Ideal.τ).loc Cert.ReferenceDh2Ideal.main_arg0)
          ∧ r.2.mem ((c.tc : Thread Cert.ReferenceDh2Ideal.nD Cert.ReferenceDh2Ideal.τ).loc Cert.ReferenceDh2Ideal.main_arg1) = m' ((c.tc : Thread Cert.ReferenceDh2Ideal.nD Cert.ReferenceDh2Ideal.τ).loc Cert.ReferenceDh2Ideal.main_arg1))

def preserves_KernelDwup_KernelDwupIdeal : Prop :=
  True

def algebraic_KernelDwupIdeal_ReferenceDwupIdeal [hKernelDwupIdeal : Cert.KernelDwupIdeal.Facts] [hReferenceDwupIdeal : Cert.ReferenceDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg)
    (m' : (ℓ : Loc Cert.ReferenceDwupIdeal.nD Cert.ReferenceDwupIdeal.τ Cert.ReferenceDwupIdeal.sig) → Buf (Elt Ideal) ℓ) (g' : Dev Cert.ReferenceDwupIdeal.nD → PrngReg), Pre_KernelDwupIdeal m →
    (∀ c : Dev Cert.KernelDwupIdeal.nD,
      m' ((c.tc : Thread Cert.ReferenceDwupIdeal.nD Cert.ReferenceDwupIdeal.τ).loc Cert.ReferenceDwupIdeal.main_arg0) = m ((c.tc : Thread Cert.KernelDwupIdeal.nD Cert.KernelDwupIdeal.τ).loc Cert.KernelDwupIdeal.main_arg0)
      ∧ m' ((c.tc : Thread Cert.ReferenceDwupIdeal.nD Cert.ReferenceDwupIdeal.τ).loc Cert.ReferenceDwupIdeal.main_arg1) = m ((c.tc : Thread Cert.KernelDwupIdeal.nD Cert.KernelDwupIdeal.τ).loc Cert.KernelDwupIdeal.main_arg1)) →
    ∃ (v0 : (c : Dev Cert.KernelDwupIdeal.nD) → Buf (Elt Ideal) ((c.tc : Thread Cert.KernelDwupIdeal.nD Cert.KernelDwupIdeal.τ).loc Cert.KernelDwupIdeal.main_v10)),
      θ_run (Cert.KernelDwupIdeal.defs (F := Ideal)) (onTc (τ := Cert.KernelDwupIdeal.τ) (Cert.KernelDwupIdeal.main (F := Ideal))) ⟨m, fun _ => 0, g⟩ (fun r => ∀ c : Dev Cert.KernelDwupIdeal.nD,
          r.2.mem ((c.tc : Thread Cert.KernelDwupIdeal.nD Cert.KernelDwupIdeal.τ).loc Cert.KernelDwupIdeal.main_v10) = v0 c
          ∧ r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
          ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1))
      ∧ θ_run (Cert.ReferenceDwupIdeal.defs (F := Ideal)) (onTc (τ := Cert.ReferenceDwupIdeal.τ) (Cert.ReferenceDwupIdeal.main (F := Ideal))) ⟨m', fun _ => 0, g'⟩ (fun r => ∀ c : Dev Cert.ReferenceDwupIdeal.nD,
          r.2.mem ((c.tc : Thread Cert.ReferenceDwupIdeal.nD Cert.ReferenceDwupIdeal.τ).loc Cert.ReferenceDwupIdeal.main_v3) = v0 c
          ∧ r.2.mem ((c.tc : Thread Cert.ReferenceDwupIdeal.nD Cert.ReferenceDwupIdeal.τ).loc Cert.ReferenceDwupIdeal.main_arg0) = m' ((c.tc : Thread Cert.ReferenceDwupIdeal.nD Cert.ReferenceDwupIdeal.τ).loc Cert.ReferenceDwupIdeal.main_arg0)
          ∧ r.2.mem ((c.tc : Thread Cert.ReferenceDwupIdeal.nD Cert.ReferenceDwupIdeal.τ).loc Cert.ReferenceDwupIdeal.main_arg1) = m' ((c.tc : Thread Cert.ReferenceDwupIdeal.nD Cert.ReferenceDwupIdeal.τ).loc Cert.ReferenceDwupIdeal.main_arg1))

def preserves_KernelDact_KernelDactIdeal : Prop :=
  True

def algebraic_KernelDactIdeal_ReferenceDactIdeal [hKernelDactIdeal : Cert.KernelDactIdeal.Facts] [hReferenceDactIdeal : Cert.ReferenceDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_KernelDactIdeal m →
    (∀ c : Dev Cert.KernelDactIdeal.nD,
      m' ((c.tc : Thread Cert.ReferenceDactIdeal.nD Cert.ReferenceDactIdeal.τ).loc Cert.ReferenceDactIdeal.main_arg0) = m ((c.tc : Thread Cert.KernelDactIdeal.nD Cert.KernelDactIdeal.τ).loc Cert.KernelDactIdeal.main_arg0)
      ∧ m' ((c.tc : Thread Cert.ReferenceDactIdeal.nD Cert.ReferenceDactIdeal.τ).loc Cert.ReferenceDactIdeal.main_arg1) = m ((c.tc : Thread Cert.KernelDactIdeal.nD Cert.KernelDactIdeal.τ).loc Cert.KernelDactIdeal.main_arg1)) →
    ∃ (v0 : (c : Dev Cert.KernelDactIdeal.nD) → Buf (Elt Ideal) ((c.tc : Thread Cert.KernelDactIdeal.nD Cert.KernelDactIdeal.τ).loc Cert.KernelDactIdeal.main_v9)),
      θ_run (Cert.KernelDactIdeal.defs (F := Ideal)) (onTc (τ := Cert.KernelDactIdeal.τ) (Cert.KernelDactIdeal.main (F := Ideal))) ⟨m, fun _ => 0, g⟩ (fun r => ∀ c : Dev Cert.KernelDactIdeal.nD,
          r.2.mem ((c.tc : Thread Cert.KernelDactIdeal.nD Cert.KernelDactIdeal.τ).loc Cert.KernelDactIdeal.main_v9) = v0 c
          ∧ r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
          ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v2) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1))

def preserves_KernelDwdown_KernelDwdownIdeal : Prop :=
  True

def algebraic_KernelDwdownIdeal_ReferenceDwdownIdeal [hKernelDwdownIdeal : Cert.KernelDwdownIdeal.Facts] [hReferenceDwdownIdeal : Cert.ReferenceDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg)
    (m' : (ℓ : Loc Cert.ReferenceDwdownIdeal.nD Cert.ReferenceDwdownIdeal.τ Cert.ReferenceDwdownIdeal.sig) → Buf (Elt Ideal) ℓ) (g' : Dev Cert.ReferenceDwdownIdeal.nD → PrngReg), Pre_KernelDwdownIdeal m →
    (∀ c : Dev Cert.KernelDwdownIdeal.nD,
      m' ((c.tc : Thread Cert.ReferenceDwdownIdeal.nD Cert.ReferenceDwdownIdeal.τ).loc Cert.ReferenceDwdownIdeal.main_arg0) = m ((c.tc : Thread Cert.KernelDwdownIdeal.nD Cert.KernelDwdownIdeal.τ).loc Cert.KernelDwdownIdeal.main_arg0)
      ∧ m' ((c.tc : Thread Cert.ReferenceDwdownIdeal.nD Cert.ReferenceDwdownIdeal.τ).loc Cert.ReferenceDwdownIdeal.main_arg1) = m ((c.tc : Thread Cert.KernelDwdownIdeal.nD Cert.KernelDwdownIdeal.τ).loc Cert.KernelDwdownIdeal.main_arg1)) →
    ∃ (v0 : (c : Dev Cert.KernelDwdownIdeal.nD) → Buf (Elt Ideal) ((c.tc : Thread Cert.KernelDwdownIdeal.nD Cert.KernelDwdownIdeal.τ).loc Cert.KernelDwdownIdeal.main_v9)),
      θ_run (Cert.KernelDwdownIdeal.defs (F := Ideal)) (onTc (τ := Cert.KernelDwdownIdeal.τ) (Cert.KernelDwdownIdeal.main (F := Ideal))) ⟨m, fun _ => 0, g⟩ (fun r => ∀ c : Dev Cert.KernelDwdownIdeal.nD,
          r.2.mem ((c.tc : Thread Cert.KernelDwdownIdeal.nD Cert.KernelDwdownIdeal.τ).loc Cert.KernelDwdownIdeal.main_v9) = v0 c
          ∧ r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
          ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1))
      ∧ θ_run (Cert.ReferenceDwdownIdeal.defs (F := Ideal)) (onTc (τ := Cert.ReferenceDwdownIdeal.τ) (Cert.ReferenceDwdownIdeal.main (F := Ideal))) ⟨m', fun _ => 0, g'⟩ (fun r => ∀ c : Dev Cert.ReferenceDwdownIdeal.nD,
          r.2.mem ((c.tc : Thread Cert.ReferenceDwdownIdeal.nD Cert.ReferenceDwdownIdeal.τ).loc Cert.ReferenceDwdownIdeal.main_v3) = v0 c
          ∧ r.2.mem ((c.tc : Thread Cert.ReferenceDwdownIdeal.nD Cert.ReferenceDwdownIdeal.τ).loc Cert.ReferenceDwdownIdeal.main_arg0) = m' ((c.tc : Thread Cert.ReferenceDwdownIdeal.nD Cert.ReferenceDwdownIdeal.τ).loc Cert.ReferenceDwdownIdeal.main_arg0)
          ∧ r.2.mem ((c.tc : Thread Cert.ReferenceDwdownIdeal.nD Cert.ReferenceDwdownIdeal.τ).loc Cert.ReferenceDwdownIdeal.main_arg1) = m' ((c.tc : Thread Cert.ReferenceDwdownIdeal.nD Cert.ReferenceDwdownIdeal.τ).loc Cert.ReferenceDwdownIdeal.main_arg1))

def preserves_KernelDyn_KernelDynIdeal : Prop :=
  True

def algebraic_KernelDynIdeal_ReferenceDynIdeal [hKernelDynIdeal : Cert.KernelDynIdeal.Facts] [hReferenceDynIdeal : Cert.ReferenceDynIdeal.Facts] : Prop :=
  ∀ (m : (ℓ : Loc Cert.KernelDynIdeal.nD Cert.KernelDynIdeal.τ Cert.KernelDynIdeal.sig) → Buf (Elt Ideal) ℓ) (g : Dev Cert.KernelDynIdeal.nD → PrngReg)
    (m' : (ℓ : Loc Cert.ReferenceDynIdeal.nD Cert.ReferenceDynIdeal.τ Cert.ReferenceDynIdeal.sig) → Buf (Elt Ideal) ℓ) (g' : Dev Cert.ReferenceDynIdeal.nD → PrngReg), Pre_KernelDynIdeal m →
    (∀ c : Dev Cert.KernelDynIdeal.nD,
      m' ((c.tc : Thread Cert.ReferenceDynIdeal.nD Cert.ReferenceDynIdeal.τ).loc Cert.ReferenceDynIdeal.main_arg0) = m ((c.tc : Thread Cert.KernelDynIdeal.nD Cert.KernelDynIdeal.τ).loc Cert.KernelDynIdeal.main_arg0)
      ∧ m' ((c.tc : Thread Cert.ReferenceDynIdeal.nD Cert.ReferenceDynIdeal.τ).loc Cert.ReferenceDynIdeal.main_arg1) = m ((c.tc : Thread Cert.KernelDynIdeal.nD Cert.KernelDynIdeal.τ).loc Cert.KernelDynIdeal.main_arg1)) →
    ∃ (v0 : (c : Dev Cert.KernelDynIdeal.nD) → Buf (Elt Ideal) ((c.tc : Thread Cert.KernelDynIdeal.nD Cert.KernelDynIdeal.τ).loc Cert.KernelDynIdeal.main_v2)),
      θ_run (Cert.KernelDynIdeal.defs (F := Ideal)) (onTc (τ := Cert.KernelDynIdeal.τ) (Cert.KernelDynIdeal.main (F := Ideal))) ⟨m, fun _ => 0, g⟩ (fun r => ∀ c : Dev Cert.KernelDynIdeal.nD,
          r.2.mem ((c.tc : Thread Cert.KernelDynIdeal.nD Cert.KernelDynIdeal.τ).loc Cert.KernelDynIdeal.main_v2) = v0 c
          ∧ r.2.mem ((c.tc : Thread Cert.KernelDynIdeal.nD Cert.KernelDynIdeal.τ).loc Cert.KernelDynIdeal.main_arg0) = m ((c.tc : Thread Cert.KernelDynIdeal.nD Cert.KernelDynIdeal.τ).loc Cert.KernelDynIdeal.main_arg0)
          ∧ r.2.mem ((c.tc : Thread Cert.KernelDynIdeal.nD Cert.KernelDynIdeal.τ).loc Cert.KernelDynIdeal.main_arg1) = m ((c.tc : Thread Cert.KernelDynIdeal.nD Cert.KernelDynIdeal.τ).loc Cert.KernelDynIdeal.main_arg1))
      ∧ θ_run (Cert.ReferenceDynIdeal.defs (F := Ideal)) (onTc (τ := Cert.ReferenceDynIdeal.τ) (Cert.ReferenceDynIdeal.main (F := Ideal))) ⟨m', fun _ => 0, g'⟩ (fun r => ∀ c : Dev Cert.ReferenceDynIdeal.nD,
          r.2.mem ((c.tc : Thread Cert.ReferenceDynIdeal.nD Cert.ReferenceDynIdeal.τ).loc Cert.ReferenceDynIdeal.main_v2) = v0 c
          ∧ r.2.mem ((c.tc : Thread Cert.ReferenceDynIdeal.nD Cert.ReferenceDynIdeal.τ).loc Cert.ReferenceDynIdeal.main_arg0) = m' ((c.tc : Thread Cert.ReferenceDynIdeal.nD Cert.ReferenceDynIdeal.τ).loc Cert.ReferenceDynIdeal.main_arg0)
          ∧ r.2.mem ((c.tc : Thread Cert.ReferenceDynIdeal.nD Cert.ReferenceDynIdeal.τ).loc Cert.ReferenceDynIdeal.main_arg1) = m' ((c.tc : Thread Cert.ReferenceDynIdeal.nD Cert.ReferenceDynIdeal.τ).loc Cert.ReferenceDynIdeal.main_arg1))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)) →
    ∃ (v0 : (c : Dev Cert.KernelDwoIdeal.nD) → Buf (Elt Ideal) ((c.tc : Thread Cert.KernelDwoIdeal.nD Cert.KernelDwoIdeal.τ).loc Cert.KernelDwoIdeal.main_v3)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v3) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v3) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)) →
    ∃ (v0 : (c : Dev Cert.KernelDwinIdeal.nD) → Buf (Elt Ideal) ((c.tc : Thread Cert.KernelDwinIdeal.nD Cert.KernelDwinIdeal.τ).loc Cert.KernelDwinIdeal.main_v12)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v12) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v3) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1))

def preserves_KernelDh1_KernelDh1Ideal : Prop :=
  True

def algebraic_KernelDh1Ideal_ReferenceDh1Ideal [hKernelDh1Ideal : Cert.KernelDh1Ideal.Facts] [hReferenceDh1Ideal : Cert.ReferenceDh1Ideal.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg)
    (m' : (ℓ : Loc Cert.ReferenceDh1Ideal.nD Cert.ReferenceDh1Ideal.τ Cert.ReferenceDh1Ideal.sig) → Buf (Elt Ideal) ℓ) (g' : Dev Cert.ReferenceDh1Ideal.nD → PrngReg), Pre_KernelDh1Ideal m →
    (∀ c : Dev Cert.KernelDh1Ideal.nD,
      m' ((c.tc : Thread Cert.ReferenceDh1Ideal.nD Cert.ReferenceDh1Ideal.τ).loc Cert.ReferenceDh1Ideal.main_arg0) = m ((c.tc : Thread Cert.KernelDh1Ideal.nD Cert.KernelDh1Ideal.τ).loc Cert.KernelDh1Ideal.main_arg0)
      ∧ m' ((c.tc : Thread Cert.ReferenceDh1Ideal.nD Cert.ReferenceDh1Ideal.τ).loc Cert.ReferenceDh1Ideal.main_arg1) = m ((c.tc : Thread Cert.KernelDh1Ideal.nD Cert.KernelDh1Ideal.τ).loc Cert.KernelDh1Ideal.main_arg1)) →
    ∃ (v0 : (c : Dev Cert.KernelDh1Ideal.nD) → Buf (Elt Ideal) ((c.tc : Thread Cert.KernelDh1Ideal.nD Cert.KernelDh1Ideal.τ).loc Cert.KernelDh1Ideal.main_v13)),
      θ_run (Cert.KernelDh1Ideal.defs (F := Ideal)) (onTc (τ := Cert.KernelDh1Ideal.τ) (Cert.KernelDh1Ideal.main (F := Ideal))) ⟨m, fun _ => 0, g⟩ (fun r => ∀ c : Dev Cert.KernelDh1Ideal.nD,
          r.2.mem ((c.tc : Thread Cert.KernelDh1Ideal.nD Cert.KernelDh1Ideal.τ).loc Cert.KernelDh1Ideal.main_v13) = v0 c
          ∧ r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
          ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1))
      ∧ θ_run (Cert.ReferenceDh1Ideal.defs (F := Ideal)) (onTc (τ := Cert.ReferenceDh1Ideal.τ) (Cert.ReferenceDh1Ideal.main (F := Ideal))) ⟨m', fun _ => 0, g'⟩ (fun r => ∀ c : Dev Cert.ReferenceDh1Ideal.nD,
          r.2.mem ((c.tc : Thread Cert.ReferenceDh1Ideal.nD Cert.ReferenceDh1Ideal.τ).loc Cert.ReferenceDh1Ideal.main_v2) = v0 c
          ∧ r.2.mem ((c.tc : Thread Cert.ReferenceDh1Ideal.nD Cert.ReferenceDh1Ideal.τ).loc Cert.ReferenceDh1Ideal.main_arg0) = m' ((c.tc : Thread Cert.ReferenceDh1Ideal.nD Cert.ReferenceDh1Ideal.τ).loc Cert.ReferenceDh1Ideal.main_arg0)
          ∧ r.2.mem ((c.tc : Thread Cert.ReferenceDh1Ideal.nD Cert.ReferenceDh1Ideal.τ).loc Cert.ReferenceDh1Ideal.main_arg1) = m' ((c.tc : Thread Cert.ReferenceDh1Ideal.nD Cert.ReferenceDh1Ideal.τ).loc Cert.ReferenceDh1Ideal.main_arg1))

def preserves_KernelAdamWo_KernelAdamWoIdeal : Prop :=
  True

def algebraic_KernelAdamWoIdeal_ReferenceAdamWoIdeal [hKernelAdamWoIdeal : Cert.KernelAdamWoIdeal.Facts] [hReferenceAdamWoIdeal : Cert.ReferenceAdamWoIdeal.Facts] : Prop :=
  ∀ (m : (ℓ : Loc Cert.KernelAdamWoIdeal.nD Cert.KernelAdamWoIdeal.τ Cert.KernelAdamWoIdeal.sig) → Buf (Elt Ideal) ℓ) (g : Dev Cert.KernelAdamWoIdeal.nD → PrngReg)
    (m' : (ℓ : Loc Cert.ReferenceAdamWoIdeal.nD Cert.ReferenceAdamWoIdeal.τ Cert.ReferenceAdamWoIdeal.sig) → Buf (Elt Ideal) ℓ) (g' : Dev Cert.ReferenceAdamWoIdeal.nD → PrngReg), Pre_KernelAdamWoIdeal m →
    (∀ c : Dev Cert.KernelAdamWoIdeal.nD,
      m' ((c.tc : Thread Cert.ReferenceAdamWoIdeal.nD Cert.ReferenceAdamWoIdeal.τ).loc Cert.ReferenceAdamWoIdeal.main_arg0) = m ((c.tc : Thread Cert.KernelAdamWoIdeal.nD Cert.KernelAdamWoIdeal.τ).loc Cert.KernelAdamWoIdeal.main_arg0)
      ∧ m' ((c.tc : Thread Cert.ReferenceAdamWoIdeal.nD Cert.ReferenceAdamWoIdeal.τ).loc Cert.ReferenceAdamWoIdeal.main_arg1) = m ((c.tc : Thread Cert.KernelAdamWoIdeal.nD Cert.KernelAdamWoIdeal.τ).loc Cert.KernelAdamWoIdeal.main_arg1)
      ∧ m' ((c.tc : Thread Cert.ReferenceAdamWoIdeal.nD Cert.ReferenceAdamWoIdeal.τ).loc Cert.ReferenceAdamWoIdeal.main_arg2) = m ((c.tc : Thread Cert.KernelAdamWoIdeal.nD Cert.KernelAdamWoIdeal.τ).loc Cert.KernelAdamWoIdeal.main_arg2)
      ∧ m' ((c.tc : Thread Cert.ReferenceAdamWoIdeal.nD Cert.ReferenceAdamWoIdeal.τ).loc Cert.ReferenceAdamWoIdeal.main_arg3) = m ((c.tc : Thread Cert.KernelAdamWoIdeal.nD Cert.KernelAdamWoIdeal.τ).loc Cert.KernelAdamWoIdeal.main_arg3)) →
    ∃ (v0 : (c : Dev Cert.KernelAdamWoIdeal.nD) → Buf (Elt Ideal) ((c.tc : Thread Cert.KernelAdamWoIdeal.nD Cert.KernelAdamWoIdeal.τ).loc Cert.KernelAdamWoIdeal.main_v1_0)) (v1 : (c : Dev Cert.KernelAdamWoIdeal.nD) → Buf (Elt Ideal) ((c.tc : Thread Cert.KernelAdamWoIdeal.nD Cert.KernelAdamWoIdeal.τ).loc Cert.KernelAdamWoIdeal.main_v1_1)) (v2 : (c : Dev Cert.KernelAdamWoIdeal.nD) → Buf (Elt Ideal) ((c.tc : Thread Cert.KernelAdamWoIdeal.nD Cert.KernelAdamWoIdeal.τ).loc Cert.KernelAdamWoIdeal.main_v1_2)) (v3 : (c : Dev Cert.KernelAdamWoIdeal.nD) → Buf (Elt Ideal) ((c.tc : Thread Cert.KernelAdamWoIdeal.nD Cert.KernelAdamWoIdeal.τ).loc Cert.KernelAdamWoIdeal.main_v1_3)),
      θ_run (Cert.KernelAdamWoIdeal.defs (F := Ideal)) (onTc (τ := Cert.KernelAdamWoIdeal.τ) (Cert.KernelAdamWoIdeal.main (F := Ideal))) ⟨m, fun _ => 0, g⟩ (fun r => ∀ c : Dev Cert.KernelAdamWoIdeal.nD,
          r.2.mem ((c.tc : Thread Cert.KernelAdamWoIdeal.nD Cert.KernelAdamWoIdeal.τ).loc Cert.KernelAdamWoIdeal.main_v1_0) = v0 c
          ∧ r.2.mem ((c.tc : Thread Cert.KernelAdamWoIdeal.nD Cert.KernelAdamWoIdeal.τ).loc Cert.KernelAdamWoIdeal.main_v1_1) = v1 c
          ∧ r.2.mem ((c.tc : Thread Cert.KernelAdamWoIdeal.nD Cert.KernelAdamWoIdeal.τ).loc Cert.KernelAdamWoIdeal.main_v1_2) = v2 c
          ∧ r.2.mem ((c.tc : Thread Cert.KernelAdamWoIdeal.nD Cert.KernelAdamWoIdeal.τ).loc Cert.KernelAdamWoIdeal.main_v1_3) = v3 c
          ∧ r.2.mem ((c.tc : Thread Cert.KernelAdamWoIdeal.nD Cert.KernelAdamWoIdeal.τ).loc Cert.KernelAdamWoIdeal.main_arg0) = m ((c.tc : Thread Cert.KernelAdamWoIdeal.nD Cert.KernelAdamWoIdeal.τ).loc Cert.KernelAdamWoIdeal.main_arg0)
          ∧ r.2.mem ((c.tc : Thread Cert.KernelAdamWoIdeal.nD Cert.KernelAdamWoIdeal.τ).loc Cert.KernelAdamWoIdeal.main_arg1) = m ((c.tc : Thread Cert.KernelAdamWoIdeal.nD Cert.KernelAdamWoIdeal.τ).loc Cert.KernelAdamWoIdeal.main_arg1)
          ∧ r.2.mem ((c.tc : Thread Cert.KernelAdamWoIdeal.nD Cert.KernelAdamWoIdeal.τ).loc Cert.KernelAdamWoIdeal.main_arg2) = m ((c.tc : Thread Cert.KernelAdamWoIdeal.nD Cert.KernelAdamWoIdeal.τ).loc Cert.KernelAdamWoIdeal.main_arg2)
          ∧ r.2.mem ((c.tc : Thread Cert.KernelAdamWoIdeal.nD Cert.KernelAdamWoIdeal.τ).loc Cert.KernelAdamWoIdeal.main_arg3) = m ((c.tc : Thread Cert.KernelAdamWoIdeal.nD Cert.KernelAdamWoIdeal.τ).loc Cert.KernelAdamWoIdeal.main_arg3))
      ∧ θ_run (Cert.ReferenceAdamWoIdeal.defs (F := Ideal)) (onTc (τ := Cert.ReferenceAdamWoIdeal.τ) (Cert.ReferenceAdamWoIdeal.main (F := Ideal))) ⟨m', fun _ => 0, g'⟩ (fun r => ∀ c : Dev Cert.ReferenceAdamWoIdeal.nD,
          r.2.mem ((c.tc : Thread Cert.ReferenceAdamWoIdeal.nD Cert.ReferenceAdamWoIdeal.τ).loc Cert.ReferenceAdamWoIdeal.main_v0) = v0 c
          ∧ r.2.mem ((c.tc : Thread Cert.ReferenceAdamWoIdeal.nD Cert.ReferenceAdamWoIdeal.τ).loc Cert.ReferenceAdamWoIdeal.main_v24) = v1 c
          ∧ r.2.mem ((c.tc : Thread Cert.ReferenceAdamWoIdeal.nD Cert.ReferenceAdamWoIdeal.τ).loc Cert.ReferenceAdamWoIdeal.main_v5) = v2 c
          ∧ r.2.mem ((c.tc : Thread Cert.ReferenceAdamWoIdeal.nD Cert.ReferenceAdamWoIdeal.τ).loc Cert.ReferenceAdamWoIdeal.main_v11) = v3 c
          ∧ r.2.mem ((c.tc : Thread Cert.ReferenceAdamWoIdeal.nD Cert.ReferenceAdamWoIdeal.τ).loc Cert.ReferenceAdamWoIdeal.main_arg0) = m' ((c.tc : Thread Cert.ReferenceAdamWoIdeal.nD Cert.ReferenceAdamWoIdeal.τ).loc Cert.ReferenceAdamWoIdeal.main_arg0)
          ∧ r.2.mem ((c.tc : Thread Cert.ReferenceAdamWoIdeal.nD Cert.ReferenceAdamWoIdeal.τ).loc Cert.ReferenceAdamWoIdeal.main_arg1) = m' ((c.tc : Thread Cert.ReferenceAdamWoIdeal.nD Cert.ReferenceAdamWoIdeal.τ).loc Cert.ReferenceAdamWoIdeal.main_arg1)
          ∧ r.2.mem ((c.tc : Thread Cert.ReferenceAdamWoIdeal.nD Cert.ReferenceAdamWoIdeal.τ).loc Cert.ReferenceAdamWoIdeal.main_arg2) = m' ((c.tc : Thread Cert.ReferenceAdamWoIdeal.nD Cert.ReferenceAdamWoIdeal.τ).loc Cert.ReferenceAdamWoIdeal.main_arg2)
          ∧ r.2.mem ((c.tc : Thread Cert.ReferenceAdamWoIdeal.nD Cert.ReferenceAdamWoIdeal.τ).loc Cert.ReferenceAdamWoIdeal.main_arg3) = m' ((c.tc : Thread Cert.ReferenceAdamWoIdeal.nD Cert.ReferenceAdamWoIdeal.τ).loc Cert.ReferenceAdamWoIdeal.main_arg3))

def preserves_KernelAdamWdown_KernelAdamWdownIdeal : Prop :=
  True

def algebraic_KernelAdamWdownIdeal_ReferenceAdamWdownIdeal [hKernelAdamWdownIdeal : Cert.KernelAdamWdownIdeal.Facts] [hReferenceAdamWdownIdeal : Cert.ReferenceAdamWdownIdeal.Facts] : Prop :=
  ∀ (m : (ℓ : Loc Cert.KernelAdamWdownIdeal.nD Cert.KernelAdamWdownIdeal.τ Cert.KernelAdamWdownIdeal.sig) → Buf (Elt Ideal) ℓ) (g : Dev Cert.KernelAdamWdownIdeal.nD → PrngReg)
    (m' : (ℓ : Loc Cert.ReferenceAdamWdownIdeal.nD Cert.ReferenceAdamWdownIdeal.τ Cert.ReferenceAdamWdownIdeal.sig) → Buf (Elt Ideal) ℓ) (g' : Dev Cert.ReferenceAdamWdownIdeal.nD → PrngReg), Pre_KernelAdamWdownIdeal m →
    (∀ c : Dev Cert.KernelAdamWdownIdeal.nD,
      m' ((c.tc : Thread Cert.ReferenceAdamWdownIdeal.nD Cert.ReferenceAdamWdownIdeal.τ).loc Cert.ReferenceAdamWdownIdeal.main_arg0) = m ((c.tc : Thread Cert.KernelAdamWdownIdeal.nD Cert.KernelAdamWdownIdeal.τ).loc Cert.KernelAdamWdownIdeal.main_arg0)
      ∧ m' ((c.tc : Thread Cert.ReferenceAdamWdownIdeal.nD Cert.ReferenceAdamWdownIdeal.τ).loc Cert.ReferenceAdamWdownIdeal.main_arg1) = m ((c.tc : Thread Cert.KernelAdamWdownIdeal.nD Cert.KernelAdamWdownIdeal.τ).loc Cert.KernelAdamWdownIdeal.main_arg1)
      ∧ m' ((c.tc : Thread Cert.ReferenceAdamWdownIdeal.nD Cert.ReferenceAdamWdownIdeal.τ).loc Cert.ReferenceAdamWdownIdeal.main_arg2) = m ((c.tc : Thread Cert.KernelAdamWdownIdeal.nD Cert.KernelAdamWdownIdeal.τ).loc Cert.KernelAdamWdownIdeal.main_arg2)
      ∧ m' ((c.tc : Thread Cert.ReferenceAdamWdownIdeal.nD Cert.ReferenceAdamWdownIdeal.τ).loc Cert.ReferenceAdamWdownIdeal.main_arg3) = m ((c.tc : Thread Cert.KernelAdamWdownIdeal.nD Cert.KernelAdamWdownIdeal.τ).loc Cert.KernelAdamWdownIdeal.main_arg3)) →
    ∃ (v0 : (c : Dev Cert.KernelAdamWdownIdeal.nD) → Buf (Elt Ideal) ((c.tc : Thread Cert.KernelAdamWdownIdeal.nD Cert.KernelAdamWdownIdeal.τ).loc Cert.KernelAdamWdownIdeal.main_v1_0)) (v1 : (c : Dev Cert.KernelAdamWdownIdeal.nD) → Buf (Elt Ideal) ((c.tc : Thread Cert.KernelAdamWdownIdeal.nD Cert.KernelAdamWdownIdeal.τ).loc Cert.KernelAdamWdownIdeal.main_v1_1)) (v2 : (c : Dev Cert.KernelAdamWdownIdeal.nD) → Buf (Elt Ideal) ((c.tc : Thread Cert.KernelAdamWdownIdeal.nD Cert.KernelAdamWdownIdeal.τ).loc Cert.KernelAdamWdownIdeal.main_v1_2)) (v3 : (c : Dev Cert.KernelAdamWdownIdeal.nD) → Buf (Elt Ideal) ((c.tc : Thread Cert.KernelAdamWdownIdeal.nD Cert.KernelAdamWdownIdeal.τ).loc Cert.KernelAdamWdownIdeal.main_v1_3)),
      θ_run (Cert.KernelAdamWdownIdeal.defs (F := Ideal)) (onTc (τ := Cert.KernelAdamWdownIdeal.τ) (Cert.KernelAdamWdownIdeal.main (F := Ideal))) ⟨m, fun _ => 0, g⟩ (fun r => ∀ c : Dev Cert.KernelAdamWdownIdeal.nD,
          r.2.mem ((c.tc : Thread Cert.KernelAdamWdownIdeal.nD Cert.KernelAdamWdownIdeal.τ).loc Cert.KernelAdamWdownIdeal.main_v1_0) = v0 c
          ∧ r.2.mem ((c.tc : Thread Cert.KernelAdamWdownIdeal.nD Cert.KernelAdamWdownIdeal.τ).loc Cert.KernelAdamWdownIdeal.main_v1_1) = v1 c
          ∧ r.2.mem ((c.tc : Thread Cert.KernelAdamWdownIdeal.nD Cert.KernelAdamWdownIdeal.τ).loc Cert.KernelAdamWdownIdeal.main_v1_2) = v2 c
          ∧ r.2.mem ((c.tc : Thread Cert.KernelAdamWdownIdeal.nD Cert.KernelAdamWdownIdeal.τ).loc Cert.KernelAdamWdownIdeal.main_v1_3) = v3 c
          ∧ r.2.mem ((c.tc : Thread Cert.KernelAdamWdownIdeal.nD Cert.KernelAdamWdownIdeal.τ).loc Cert.KernelAdamWdownIdeal.main_arg0) = m ((c.tc : Thread Cert.KernelAdamWdownIdeal.nD Cert.KernelAdamWdownIdeal.τ).loc Cert.KernelAdamWdownIdeal.main_arg0)
          ∧ r.2.mem ((c.tc : Thread Cert.KernelAdamWdownIdeal.nD Cert.KernelAdamWdownIdeal.τ).loc Cert.KernelAdamWdownIdeal.main_arg1) = m ((c.tc : Thread Cert.KernelAdamWdownIdeal.nD Cert.KernelAdamWdownIdeal.τ).loc Cert.KernelAdamWdownIdeal.main_arg1)
          ∧ r.2.mem ((c.tc : Thread Cert.KernelAdamWdownIdeal.nD Cert.KernelAdamWdownIdeal.τ).loc Cert.KernelAdamWdownIdeal.main_arg2) = m ((c.tc : Thread Cert.KernelAdamWdownIdeal.nD Cert.KernelAdamWdownIdeal.τ).loc Cert.KernelAdamWdownIdeal.main_arg2)
          ∧ r.2.mem ((c.tc : Thread Cert.KernelAdamWdownIdeal.nD Cert.KernelAdamWdownIdeal.τ).loc Cert.KernelAdamWdownIdeal.main_arg3) = m ((c.tc : Thread Cert.KernelAdamWdownIdeal.nD Cert.KernelAdamWdownIdeal.τ).loc Cert.KernelAdamWdownIdeal.main_arg3))
      ∧ θ_run (Cert.ReferenceAdamWdownIdeal.defs (F := Ideal)) (onTc (τ := Cert.ReferenceAdamWdownIdeal.τ) (Cert.ReferenceAdamWdownIdeal.main (F := Ideal))) ⟨m', fun _ => 0, g'⟩ (fun r => ∀ c : Dev Cert.ReferenceAdamWdownIdeal.nD,
          r.2.mem ((c.tc : Thread Cert.ReferenceAdamWdownIdeal.nD Cert.ReferenceAdamWdownIdeal.τ).loc Cert.ReferenceAdamWdownIdeal.main_v0) = v0 c
          ∧ r.2.mem ((c.tc : Thread Cert.ReferenceAdamWdownIdeal.nD Cert.ReferenceAdamWdownIdeal.τ).loc Cert.ReferenceAdamWdownIdeal.main_v24) = v1 c
          ∧ r.2.mem ((c.tc : Thread Cert.ReferenceAdamWdownIdeal.nD Cert.ReferenceAdamWdownIdeal.τ).loc Cert.ReferenceAdamWdownIdeal.main_v5) = v2 c
          ∧ r.2.mem ((c.tc : Thread Cert.ReferenceAdamWdownIdeal.nD Cert.ReferenceAdamWdownIdeal.τ).loc Cert.ReferenceAdamWdownIdeal.main_v11) = v3 c
          ∧ r.2.mem ((c.tc : Thread Cert.ReferenceAdamWdownIdeal.nD Cert.ReferenceAdamWdownIdeal.τ).loc Cert.ReferenceAdamWdownIdeal.main_arg0) = m' ((c.tc : Thread Cert.ReferenceAdamWdownIdeal.nD Cert.ReferenceAdamWdownIdeal.τ).loc Cert.ReferenceAdamWdownIdeal.main_arg0)
          ∧ r.2.mem ((c.tc : Thread Cert.ReferenceAdamWdownIdeal.nD Cert.ReferenceAdamWdownIdeal.τ).loc Cert.ReferenceAdamWdownIdeal.main_arg1) = m' ((c.tc : Thread Cert.ReferenceAdamWdownIdeal.nD Cert.ReferenceAdamWdownIdeal.τ).loc Cert.ReferenceAdamWdownIdeal.main_arg1)
          ∧ r.2.mem ((c.tc : Thread Cert.ReferenceAdamWdownIdeal.nD Cert.ReferenceAdamWdownIdeal.τ).loc Cert.ReferenceAdamWdownIdeal.main_arg2) = m' ((c.tc : Thread Cert.ReferenceAdamWdownIdeal.nD Cert.ReferenceAdamWdownIdeal.τ).loc Cert.ReferenceAdamWdownIdeal.main_arg2)
          ∧ r.2.mem ((c.tc : Thread Cert.ReferenceAdamWdownIdeal.nD Cert.ReferenceAdamWdownIdeal.τ).loc Cert.ReferenceAdamWdownIdeal.main_arg3) = m' ((c.tc : Thread Cert.ReferenceAdamWdownIdeal.nD Cert.ReferenceAdamWdownIdeal.τ).loc Cert.ReferenceAdamWdownIdeal.main_arg3))

def preserves_KernelAdamWukv_KernelAdamWukvIdeal : Prop :=
  True

def algebraic_KernelAdamWukvIdeal_ReferenceAdamWukvIdeal [hKernelAdamWukvIdeal : Cert.KernelAdamWukvIdeal.Facts] [hReferenceAdamWukvIdeal : Cert.ReferenceAdamWukvIdeal.Facts] : Prop :=
  ∀ (m : (ℓ : Loc Cert.KernelAdamWukvIdeal.nD Cert.KernelAdamWukvIdeal.τ Cert.KernelAdamWukvIdeal.sig) → Buf (Elt Ideal) ℓ) (g : Dev Cert.KernelAdamWukvIdeal.nD → PrngReg)
    (m' : (ℓ : Loc Cert.ReferenceAdamWukvIdeal.nD Cert.ReferenceAdamWukvIdeal.τ Cert.ReferenceAdamWukvIdeal.sig) → Buf (Elt Ideal) ℓ) (g' : Dev Cert.ReferenceAdamWukvIdeal.nD → PrngReg), Pre_KernelAdamWukvIdeal m →
    (∀ c : Dev Cert.KernelAdamWukvIdeal.nD,
      m' ((c.tc : Thread Cert.ReferenceAdamWukvIdeal.nD Cert.ReferenceAdamWukvIdeal.τ).loc Cert.ReferenceAdamWukvIdeal.main_arg0) = m ((c.tc : Thread Cert.KernelAdamWukvIdeal.nD Cert.KernelAdamWukvIdeal.τ).loc Cert.KernelAdamWukvIdeal.main_arg0)
      ∧ m' ((c.tc : Thread Cert.ReferenceAdamWukvIdeal.nD Cert.ReferenceAdamWukvIdeal.τ).loc Cert.ReferenceAdamWukvIdeal.main_arg1) = m ((c.tc : Thread Cert.KernelAdamWukvIdeal.nD Cert.KernelAdamWukvIdeal.τ).loc Cert.KernelAdamWukvIdeal.main_arg1)
      ∧ m' ((c.tc : Thread Cert.ReferenceAdamWukvIdeal.nD Cert.ReferenceAdamWukvIdeal.τ).loc Cert.ReferenceAdamWukvIdeal.main_arg2) = m ((c.tc : Thread Cert.KernelAdamWukvIdeal.nD Cert.KernelAdamWukvIdeal.τ).loc Cert.KernelAdamWukvIdeal.main_arg2)
      ∧ m' ((c.tc : Thread Cert.ReferenceAdamWukvIdeal.nD Cert.ReferenceAdamWukvIdeal.τ).loc Cert.ReferenceAdamWukvIdeal.main_arg3) = m ((c.tc : Thread Cert.KernelAdamWukvIdeal.nD Cert.KernelAdamWukvIdeal.τ).loc Cert.KernelAdamWukvIdeal.main_arg3)) →
    ∃ (v0 : (c : Dev Cert.KernelAdamWukvIdeal.nD) → Buf (Elt Ideal) ((c.tc : Thread Cert.KernelAdamWukvIdeal.nD Cert.KernelAdamWukvIdeal.τ).loc Cert.KernelAdamWukvIdeal.main_v1_0)) (v1 : (c : Dev Cert.KernelAdamWukvIdeal.nD) → Buf (Elt Ideal) ((c.tc : Thread Cert.KernelAdamWukvIdeal.nD Cert.KernelAdamWukvIdeal.τ).loc Cert.KernelAdamWukvIdeal.main_v1_1)) (v2 : (c : Dev Cert.KernelAdamWukvIdeal.nD) → Buf (Elt Ideal) ((c.tc : Thread Cert.KernelAdamWukvIdeal.nD Cert.KernelAdamWukvIdeal.τ).loc Cert.KernelAdamWukvIdeal.main_v1_2)) (v3 : (c : Dev Cert.KernelAdamWukvIdeal.nD) → Buf (Elt Ideal) ((c.tc : Thread Cert.KernelAdamWukvIdeal.nD Cert.KernelAdamWukvIdeal.τ).loc Cert.KernelAdamWukvIdeal.main_v1_3)),
      θ_run (Cert.KernelAdamWukvIdeal.defs (F := Ideal)) (onTc (τ := Cert.KernelAdamWukvIdeal.τ) (Cert.KernelAdamWukvIdeal.main (F := Ideal))) ⟨m, fun _ => 0, g⟩ (fun r => ∀ c : Dev Cert.KernelAdamWukvIdeal.nD,
          r.2.mem ((c.tc : Thread Cert.KernelAdamWukvIdeal.nD Cert.KernelAdamWukvIdeal.τ).loc Cert.KernelAdamWukvIdeal.main_v1_0) = v0 c
          ∧ r.2.mem ((c.tc : Thread Cert.KernelAdamWukvIdeal.nD Cert.KernelAdamWukvIdeal.τ).loc Cert.KernelAdamWukvIdeal.main_v1_1) = v1 c
          ∧ r.2.mem ((c.tc : Thread Cert.KernelAdamWukvIdeal.nD Cert.KernelAdamWukvIdeal.τ).loc Cert.KernelAdamWukvIdeal.main_v1_2) = v2 c
          ∧ r.2.mem ((c.tc : Thread Cert.KernelAdamWukvIdeal.nD Cert.KernelAdamWukvIdeal.τ).loc Cert.KernelAdamWukvIdeal.main_v1_3) = v3 c
          ∧ r.2.mem ((c.tc : Thread Cert.KernelAdamWukvIdeal.nD Cert.KernelAdamWukvIdeal.τ).loc Cert.KernelAdamWukvIdeal.main_arg0) = m ((c.tc : Thread Cert.KernelAdamWukvIdeal.nD Cert.KernelAdamWukvIdeal.τ).loc Cert.KernelAdamWukvIdeal.main_arg0)
          ∧ r.2.mem ((c.tc : Thread Cert.KernelAdamWukvIdeal.nD Cert.KernelAdamWukvIdeal.τ).loc Cert.KernelAdamWukvIdeal.main_arg1) = m ((c.tc : Thread Cert.KernelAdamWukvIdeal.nD Cert.KernelAdamWukvIdeal.τ).loc Cert.KernelAdamWukvIdeal.main_arg1)
          ∧ r.2.mem ((c.tc : Thread Cert.KernelAdamWukvIdeal.nD Cert.KernelAdamWukvIdeal.τ).loc Cert.KernelAdamWukvIdeal.main_arg2) = m ((c.tc : Thread Cert.KernelAdamWukvIdeal.nD Cert.KernelAdamWukvIdeal.τ).loc Cert.KernelAdamWukvIdeal.main_arg2)
          ∧ r.2.mem ((c.tc : Thread Cert.KernelAdamWukvIdeal.nD Cert.KernelAdamWukvIdeal.τ).loc Cert.KernelAdamWukvIdeal.main_arg3) = m ((c.tc : Thread Cert.KernelAdamWukvIdeal.nD Cert.KernelAdamWukvIdeal.τ).loc Cert.KernelAdamWukvIdeal.main_arg3))
      ∧ θ_run (Cert.ReferenceAdamWukvIdeal.defs (F := Ideal)) (onTc (τ := Cert.ReferenceAdamWukvIdeal.τ) (Cert.ReferenceAdamWukvIdeal.main (F := Ideal))) ⟨m', fun _ => 0, g'⟩ (fun r => ∀ c : Dev Cert.ReferenceAdamWukvIdeal.nD,
          r.2.mem ((c.tc : Thread Cert.ReferenceAdamWukvIdeal.nD Cert.ReferenceAdamWukvIdeal.τ).loc Cert.ReferenceAdamWukvIdeal.main_v0) = v0 c
          ∧ r.2.mem ((c.tc : Thread Cert.ReferenceAdamWukvIdeal.nD Cert.ReferenceAdamWukvIdeal.τ).loc Cert.ReferenceAdamWukvIdeal.main_v24) = v1 c
          ∧ r.2.mem ((c.tc : Thread Cert.ReferenceAdamWukvIdeal.nD Cert.ReferenceAdamWukvIdeal.τ).loc Cert.ReferenceAdamWukvIdeal.main_v5) = v2 c
          ∧ r.2.mem ((c.tc : Thread Cert.ReferenceAdamWukvIdeal.nD Cert.ReferenceAdamWukvIdeal.τ).loc Cert.ReferenceAdamWukvIdeal.main_v11) = v3 c
          ∧ r.2.mem ((c.tc : Thread Cert.ReferenceAdamWukvIdeal.nD Cert.ReferenceAdamWukvIdeal.τ).loc Cert.ReferenceAdamWukvIdeal.main_arg0) = m' ((c.tc : Thread Cert.ReferenceAdamWukvIdeal.nD Cert.ReferenceAdamWukvIdeal.τ).loc Cert.ReferenceAdamWukvIdeal.main_arg0)
          ∧ r.2.mem ((c.tc : Thread Cert.ReferenceAdamWukvIdeal.nD Cert.ReferenceAdamWukvIdeal.τ).loc Cert.ReferenceAdamWukvIdeal.main_arg1) = m' ((c.tc : Thread Cert.ReferenceAdamWukvIdeal.nD Cert.ReferenceAdamWukvIdeal.τ).loc Cert.ReferenceAdamWukvIdeal.main_arg1)
          ∧ r.2.mem ((c.tc : Thread Cert.ReferenceAdamWukvIdeal.nD Cert.ReferenceAdamWukvIdeal.τ).loc Cert.ReferenceAdamWukvIdeal.main_arg2) = m' ((c.tc : Thread Cert.ReferenceAdamWukvIdeal.nD Cert.ReferenceAdamWukvIdeal.τ).loc Cert.ReferenceAdamWukvIdeal.main_arg2)
          ∧ r.2.mem ((c.tc : Thread Cert.ReferenceAdamWukvIdeal.nD Cert.ReferenceAdamWukvIdeal.τ).loc Cert.ReferenceAdamWukvIdeal.main_arg3) = m' ((c.tc : Thread Cert.ReferenceAdamWukvIdeal.nD Cert.ReferenceAdamWukvIdeal.τ).loc Cert.ReferenceAdamWukvIdeal.main_arg3))

def preserves_KernelAdamWuq_KernelAdamWuqIdeal : Prop :=
  True

def algebraic_KernelAdamWuqIdeal_ReferenceAdamWuqIdeal [hKernelAdamWuqIdeal : Cert.KernelAdamWuqIdeal.Facts] [hReferenceAdamWuqIdeal : Cert.ReferenceAdamWuqIdeal.Facts] : Prop :=
  ∀ (m : (ℓ : Loc Cert.KernelAdamWuqIdeal.nD Cert.KernelAdamWuqIdeal.τ Cert.KernelAdamWuqIdeal.sig) → Buf (Elt Ideal) ℓ) (g : Dev Cert.KernelAdamWuqIdeal.nD → PrngReg)
    (m' : (ℓ : Loc Cert.ReferenceAdamWuqIdeal.nD Cert.ReferenceAdamWuqIdeal.τ Cert.ReferenceAdamWuqIdeal.sig) → Buf (Elt Ideal) ℓ) (g' : Dev Cert.ReferenceAdamWuqIdeal.nD → PrngReg), Pre_KernelAdamWuqIdeal m →
    (∀ c : Dev Cert.KernelAdamWuqIdeal.nD,
      m' ((c.tc : Thread Cert.ReferenceAdamWuqIdeal.nD Cert.ReferenceAdamWuqIdeal.τ).loc Cert.ReferenceAdamWuqIdeal.main_arg0) = m ((c.tc : Thread Cert.KernelAdamWuqIdeal.nD Cert.KernelAdamWuqIdeal.τ).loc Cert.KernelAdamWuqIdeal.main_arg0)
      ∧ m' ((c.tc : Thread Cert.ReferenceAdamWuqIdeal.nD Cert.ReferenceAdamWuqIdeal.τ).loc Cert.ReferenceAdamWuqIdeal.main_arg1) = m ((c.tc : Thread Cert.KernelAdamWuqIdeal.nD Cert.KernelAdamWuqIdeal.τ).loc Cert.KernelAdamWuqIdeal.main_arg1)
      ∧ m' ((c.tc : Thread Cert.ReferenceAdamWuqIdeal.nD Cert.ReferenceAdamWuqIdeal.τ).loc Cert.ReferenceAdamWuqIdeal.main_arg2) = m ((c.tc : Thread Cert.KernelAdamWuqIdeal.nD Cert.KernelAdamWuqIdeal.τ).loc Cert.KernelAdamWuqIdeal.main_arg2)
      ∧ m' ((c.tc : Thread Cert.ReferenceAdamWuqIdeal.nD Cert.ReferenceAdamWuqIdeal.τ).loc Cert.ReferenceAdamWuqIdeal.main_arg3) = m ((c.tc : Thread Cert.KernelAdamWuqIdeal.nD Cert.KernelAdamWuqIdeal.τ).loc Cert.KernelAdamWuqIdeal.main_arg3)) →
    ∃ (v0 : (c : Dev Cert.KernelAdamWuqIdeal.nD) → Buf (Elt Ideal) ((c.tc : Thread Cert.KernelAdamWuqIdeal.nD Cert.KernelAdamWuqIdeal.τ).loc Cert.KernelAdamWuqIdeal.main_v6)) (v1 : (c : Dev Cert.KernelAdamWuqIdeal.nD) → Buf (Elt Ideal) ((c.tc : Thread Cert.KernelAdamWuqIdeal.nD Cert.KernelAdamWuqIdeal.τ).loc Cert.KernelAdamWuqIdeal.main_v7)) (v2 : (c : Dev Cert.KernelAdamWuqIdeal.nD) → Buf (Elt Ideal) ((c.tc : Thread Cert.KernelAdamWuqIdeal.nD Cert.KernelAdamWuqIdeal.τ).loc Cert.KernelAdamWuqIdeal.main_v8)) (v3 : (c : Dev Cert.KernelAdamWuqIdeal.nD) → Buf (Elt Ideal) ((c.tc : Thread Cert.KernelAdamWuqIdeal.nD Cert.KernelAdamWuqIdeal.τ).loc Cert.KernelAdamWuqIdeal.main_v9)),
      θ_run (Cert.KernelAdamWuqIdeal.defs (F := Ideal)) (onTc (τ := Cert.KernelAdamWuqIdeal.τ) (Cert.KernelAdamWuqIdeal.main (F := Ideal))) ⟨m, fun _ => 0, g⟩ (fun r => ∀ c : Dev Cert.KernelAdamWuqIdeal.nD,
          r.2.mem ((c.tc : Thread Cert.KernelAdamWuqIdeal.nD Cert.KernelAdamWuqIdeal.τ).loc Cert.KernelAdamWuqIdeal.main_v6) = v0 c
          ∧ r.2.mem ((c.tc : Thread Cert.KernelAdamWuqIdeal.nD Cert.KernelAdamWuqIdeal.τ).loc Cert.KernelAdamWuqIdeal.main_v7) = v1 c
          ∧ r.2.mem ((c.tc : Thread Cert.KernelAdamWuqIdeal.nD Cert.KernelAdamWuqIdeal.τ).loc Cert.KernelAdamWuqIdeal.main_v8) = v2 c
          ∧ r.2.mem ((c.tc : Thread Cert.KernelAdamWuqIdeal.nD Cert.KernelAdamWuqIdeal.τ).loc Cert.KernelAdamWuqIdeal.main_v9) = v3 c
          ∧ r.2.mem ((c.tc : Thread Cert.KernelAdamWuqIdeal.nD Cert.KernelAdamWuqIdeal.τ).loc Cert.KernelAdamWuqIdeal.main_arg0) = m ((c.tc : Thread Cert.KernelAdamWuqIdeal.nD Cert.KernelAdamWuqIdeal.τ).loc Cert.KernelAdamWuqIdeal.main_arg0)
          ∧ r.2.mem ((c.tc : Thread Cert.KernelAdamWuqIdeal.nD Cert.KernelAdamWuqIdeal.τ).loc Cert.KernelAdamWuqIdeal.main_arg1) = m ((c.tc : Thread Cert.KernelAdamWuqIdeal.nD Cert.KernelAdamWuqIdeal.τ).loc Cert.KernelAdamWuqIdeal.main_arg1)
          ∧ r.2.mem ((c.tc : Thread Cert.KernelAdamWuqIdeal.nD Cert.KernelAdamWuqIdeal.τ).loc Cert.KernelAdamWuqIdeal.main_arg2) = m ((c.tc : Thread Cert.KernelAdamWuqIdeal.nD Cert.KernelAdamWuqIdeal.τ).loc Cert.KernelAdamWuqIdeal.main_arg2)
          ∧ r.2.mem ((c.tc : Thread Cert.KernelAdamWuqIdeal.nD Cert.KernelAdamWuqIdeal.τ).loc Cert.KernelAdamWuqIdeal.main_arg3) = m ((c.tc : Thread Cert.KernelAdamWuqIdeal.nD Cert.KernelAdamWuqIdeal.τ).loc Cert.KernelAdamWuqIdeal.main_arg3))
      ∧ θ_run (Cert.ReferenceAdamWuqIdeal.defs (F := Ideal)) (onTc (τ := Cert.ReferenceAdamWuqIdeal.τ) (Cert.ReferenceAdamWuqIdeal.main (F := Ideal))) ⟨m', fun _ => 0, g'⟩ (fun r => ∀ c : Dev Cert.ReferenceAdamWuqIdeal.nD,
          r.2.mem ((c.tc : Thread Cert.ReferenceAdamWuqIdeal.nD Cert.ReferenceAdamWuqIdeal.τ).loc Cert.ReferenceAdamWuqIdeal.main_v0) = v0 c
          ∧ r.2.mem ((c.tc : Thread Cert.ReferenceAdamWuqIdeal.nD Cert.ReferenceAdamWuqIdeal.τ).loc Cert.ReferenceAdamWuqIdeal.main_v24) = v1 c
          ∧ r.2.mem ((c.tc : Thread Cert.ReferenceAdamWuqIdeal.nD Cert.ReferenceAdamWuqIdeal.τ).loc Cert.ReferenceAdamWuqIdeal.main_v5) = v2 c
          ∧ r.2.mem ((c.tc : Thread Cert.ReferenceAdamWuqIdeal.nD Cert.ReferenceAdamWuqIdeal.τ).loc Cert.ReferenceAdamWuqIdeal.main_v11) = v3 c
          ∧ r.2.mem ((c.tc : Thread Cert.ReferenceAdamWuqIdeal.nD Cert.ReferenceAdamWuqIdeal.τ).loc Cert.ReferenceAdamWuqIdeal.main_arg0) = m' ((c.tc : Thread Cert.ReferenceAdamWuqIdeal.nD Cert.ReferenceAdamWuqIdeal.τ).loc Cert.ReferenceAdamWuqIdeal.main_arg0)
          ∧ r.2.mem ((c.tc : Thread Cert.ReferenceAdamWuqIdeal.nD Cert.ReferenceAdamWuqIdeal.τ).loc Cert.ReferenceAdamWuqIdeal.main_arg1) = m' ((c.tc : Thread Cert.ReferenceAdamWuqIdeal.nD Cert.ReferenceAdamWuqIdeal.τ).loc Cert.ReferenceAdamWuqIdeal.main_arg1)
          ∧ r.2.mem ((c.tc : Thread Cert.ReferenceAdamWuqIdeal.nD Cert.ReferenceAdamWuqIdeal.τ).loc Cert.ReferenceAdamWuqIdeal.main_arg2) = m' ((c.tc : Thread Cert.ReferenceAdamWuqIdeal.nD Cert.ReferenceAdamWuqIdeal.τ).loc Cert.ReferenceAdamWuqIdeal.main_arg2)
          ∧ r.2.mem ((c.tc : Thread Cert.ReferenceAdamWuqIdeal.nD Cert.ReferenceAdamWuqIdeal.τ).loc Cert.ReferenceAdamWuqIdeal.main_arg3) = m' ((c.tc : Thread Cert.ReferenceAdamWuqIdeal.nD Cert.ReferenceAdamWuqIdeal.τ).loc Cert.ReferenceAdamWuqIdeal.main_arg3))

def preserves_KernelAdamWin_KernelAdamWinIdeal : Prop :=
  True

def algebraic_KernelAdamWinIdeal_ReferenceAdamWinIdeal [hKernelAdamWinIdeal : Cert.KernelAdamWinIdeal.Facts] [hReferenceAdamWinIdeal : Cert.ReferenceAdamWinIdeal.Facts] : Prop :=
  ∀ (m : (ℓ : Loc Cert.KernelAdamWinIdeal.nD Cert.KernelAdamWinIdeal.τ Cert.KernelAdamWinIdeal.sig) → Buf (Elt Ideal) ℓ) (g : Dev Cert.KernelAdamWinIdeal.nD → PrngReg)
    (m' : (ℓ : Loc Cert.ReferenceAdamWinIdeal.nD Cert.ReferenceAdamWinIdeal.τ Cert.ReferenceAdamWinIdeal.sig) → Buf (Elt Ideal) ℓ) (g' : Dev Cert.ReferenceAdamWinIdeal.nD → PrngReg), Pre_KernelAdamWinIdeal m →
    (∀ c : Dev Cert.KernelAdamWinIdeal.nD,
      m' ((c.tc : Thread Cert.ReferenceAdamWinIdeal.nD Cert.ReferenceAdamWinIdeal.τ).loc Cert.ReferenceAdamWinIdeal.main_arg0) = m ((c.tc : Thread Cert.KernelAdamWinIdeal.nD Cert.KernelAdamWinIdeal.τ).loc Cert.KernelAdamWinIdeal.main_arg0)
      ∧ m' ((c.tc : Thread Cert.ReferenceAdamWinIdeal.nD Cert.ReferenceAdamWinIdeal.τ).loc Cert.ReferenceAdamWinIdeal.main_arg1) = m ((c.tc : Thread Cert.KernelAdamWinIdeal.nD Cert.KernelAdamWinIdeal.τ).loc Cert.KernelAdamWinIdeal.main_arg1)
      ∧ m' ((c.tc : Thread Cert.ReferenceAdamWinIdeal.nD Cert.ReferenceAdamWinIdeal.τ).loc Cert.ReferenceAdamWinIdeal.main_arg2) = m ((c.tc : Thread Cert.KernelAdamWinIdeal.nD Cert.KernelAdamWinIdeal.τ).loc Cert.KernelAdamWinIdeal.main_arg2)
      ∧ m' ((c.tc : Thread Cert.ReferenceAdamWinIdeal.nD Cert.ReferenceAdamWinIdeal.τ).loc Cert.ReferenceAdamWinIdeal.main_arg3) = m ((c.tc : Thread Cert.KernelAdamWinIdeal.nD Cert.KernelAdamWinIdeal.τ).loc Cert.KernelAdamWinIdeal.main_arg3)) →
    ∃ (v0 : (c : Dev Cert.KernelAdamWinIdeal.nD) → Buf (Elt Ideal) ((c.tc : Thread Cert.KernelAdamWinIdeal.nD Cert.KernelAdamWinIdeal.τ).loc Cert.KernelAdamWinIdeal.main_v6)) (v1 : (c : Dev Cert.KernelAdamWinIdeal.nD) → Buf (Elt Ideal) ((c.tc : Thread Cert.KernelAdamWinIdeal.nD Cert.KernelAdamWinIdeal.τ).loc Cert.KernelAdamWinIdeal.main_v7)) (v2 : (c : Dev Cert.KernelAdamWinIdeal.nD) → Buf (Elt Ideal) ((c.tc : Thread Cert.KernelAdamWinIdeal.nD Cert.KernelAdamWinIdeal.τ).loc Cert.KernelAdamWinIdeal.main_v8)) (v3 : (c : Dev Cert.KernelAdamWinIdeal.nD) → Buf (Elt Ideal) ((c.tc : Thread Cert.KernelAdamWinIdeal.nD Cert.KernelAdamWinIdeal.τ).loc Cert.KernelAdamWinIdeal.main_v9)),
      θ_run (Cert.KernelAdamWinIdeal.defs (F := Ideal)) (onTc (τ := Cert.KernelAdamWinIdeal.τ) (Cert.KernelAdamWinIdeal.main (F := Ideal))) ⟨m, fun _ => 0, g⟩ (fun r => ∀ c : Dev Cert.KernelAdamWinIdeal.nD,
          r.2.mem ((c.tc : Thread Cert.KernelAdamWinIdeal.nD Cert.KernelAdamWinIdeal.τ).loc Cert.KernelAdamWinIdeal.main_v6) = v0 c
          ∧ r.2.mem ((c.tc : Thread Cert.KernelAdamWinIdeal.nD Cert.KernelAdamWinIdeal.τ).loc Cert.KernelAdamWinIdeal.main_v7) = v1 c
          ∧ r.2.mem ((c.tc : Thread Cert.KernelAdamWinIdeal.nD Cert.KernelAdamWinIdeal.τ).loc Cert.KernelAdamWinIdeal.main_v8) = v2 c
          ∧ r.2.mem ((c.tc : Thread Cert.KernelAdamWinIdeal.nD Cert.KernelAdamWinIdeal.τ).loc Cert.KernelAdamWinIdeal.main_v9) = v3 c
          ∧ r.2.mem ((c.tc : Thread Cert.KernelAdamWinIdeal.nD Cert.KernelAdamWinIdeal.τ).loc Cert.KernelAdamWinIdeal.main_arg0) = m ((c.tc : Thread Cert.KernelAdamWinIdeal.nD Cert.KernelAdamWinIdeal.τ).loc Cert.KernelAdamWinIdeal.main_arg0)
          ∧ r.2.mem ((c.tc : Thread Cert.KernelAdamWinIdeal.nD Cert.KernelAdamWinIdeal.τ).loc Cert.KernelAdamWinIdeal.main_arg1) = m ((c.tc : Thread Cert.KernelAdamWinIdeal.nD Cert.KernelAdamWinIdeal.τ).loc Cert.KernelAdamWinIdeal.main_arg1)
          ∧ r.2.mem ((c.tc : Thread Cert.KernelAdamWinIdeal.nD Cert.KernelAdamWinIdeal.τ).loc Cert.KernelAdamWinIdeal.main_arg2) = m ((c.tc : Thread Cert.KernelAdamWinIdeal.nD Cert.KernelAdamWinIdeal.τ).loc Cert.KernelAdamWinIdeal.main_arg2)
          ∧ r.2.mem ((c.tc : Thread Cert.KernelAdamWinIdeal.nD Cert.KernelAdamWinIdeal.τ).loc Cert.KernelAdamWinIdeal.main_arg3) = m ((c.tc : Thread Cert.KernelAdamWinIdeal.nD Cert.KernelAdamWinIdeal.τ).loc Cert.KernelAdamWinIdeal.main_arg3))
      ∧ θ_run (Cert.ReferenceAdamWinIdeal.defs (F := Ideal)) (onTc (τ := Cert.ReferenceAdamWinIdeal.τ) (Cert.ReferenceAdamWinIdeal.main (F := Ideal))) ⟨m', fun _ => 0, g'⟩ (fun r => ∀ c : Dev Cert.ReferenceAdamWinIdeal.nD,
          r.2.mem ((c.tc : Thread Cert.ReferenceAdamWinIdeal.nD Cert.ReferenceAdamWinIdeal.τ).loc Cert.ReferenceAdamWinIdeal.main_v0) = v0 c
          ∧ r.2.mem ((c.tc : Thread Cert.ReferenceAdamWinIdeal.nD Cert.ReferenceAdamWinIdeal.τ).loc Cert.ReferenceAdamWinIdeal.main_v24) = v1 c
          ∧ r.2.mem ((c.tc : Thread Cert.ReferenceAdamWinIdeal.nD Cert.ReferenceAdamWinIdeal.τ).loc Cert.ReferenceAdamWinIdeal.main_v5) = v2 c
          ∧ r.2.mem ((c.tc : Thread Cert.ReferenceAdamWinIdeal.nD Cert.ReferenceAdamWinIdeal.τ).loc Cert.ReferenceAdamWinIdeal.main_v11) = v3 c
          ∧ r.2.mem ((c.tc : Thread Cert.ReferenceAdamWinIdeal.nD Cert.ReferenceAdamWinIdeal.τ).loc Cert.ReferenceAdamWinIdeal.main_arg0) = m' ((c.tc : Thread Cert.ReferenceAdamWinIdeal.nD Cert.ReferenceAdamWinIdeal.τ).loc Cert.ReferenceAdamWinIdeal.main_arg0)
          ∧ r.2.mem ((c.tc : Thread Cert.ReferenceAdamWinIdeal.nD Cert.ReferenceAdamWinIdeal.τ).loc Cert.ReferenceAdamWinIdeal.main_arg1) = m' ((c.tc : Thread Cert.ReferenceAdamWinIdeal.nD Cert.ReferenceAdamWinIdeal.τ).loc Cert.ReferenceAdamWinIdeal.main_arg1)
          ∧ r.2.mem ((c.tc : Thread Cert.ReferenceAdamWinIdeal.nD Cert.ReferenceAdamWinIdeal.τ).loc Cert.ReferenceAdamWinIdeal.main_arg2) = m' ((c.tc : Thread Cert.ReferenceAdamWinIdeal.nD Cert.ReferenceAdamWinIdeal.τ).loc Cert.ReferenceAdamWinIdeal.main_arg2)
          ∧ r.2.mem ((c.tc : Thread Cert.ReferenceAdamWinIdeal.nD Cert.ReferenceAdamWinIdeal.τ).loc Cert.ReferenceAdamWinIdeal.main_arg3) = m' ((c.tc : Thread Cert.ReferenceAdamWinIdeal.nD Cert.ReferenceAdamWinIdeal.τ).loc Cert.ReferenceAdamWinIdeal.main_arg3))

def preserves_KernelAdamWup_KernelAdamWupIdeal : Prop :=
  True

def algebraic_KernelAdamWupIdeal_ReferenceAdamWupIdeal [hKernelAdamWupIdeal : Cert.KernelAdamWupIdeal.Facts] [hReferenceAdamWupIdeal : Cert.ReferenceAdamWupIdeal.Facts] : Prop :=
  ∀ (m : (ℓ : Loc Cert.KernelAdamWupIdeal.nD Cert.KernelAdamWupIdeal.τ Cert.KernelAdamWupIdeal.sig) → Buf (Elt Ideal) ℓ) (g : Dev Cert.KernelAdamWupIdeal.nD → PrngReg)
    (m' : (ℓ : Loc Cert.ReferenceAdamWupIdeal.nD Cert.ReferenceAdamWupIdeal.τ Cert.ReferenceAdamWupIdeal.sig) → Buf (Elt Ideal) ℓ) (g' : Dev Cert.ReferenceAdamWupIdeal.nD → PrngReg), Pre_KernelAdamWupIdeal m →
    (∀ c : Dev Cert.KernelAdamWupIdeal.nD,
      m' ((c.tc : Thread Cert.ReferenceAdamWupIdeal.nD Cert.ReferenceAdamWupIdeal.τ).loc Cert.ReferenceAdamWupIdeal.main_arg0) = m ((c.tc : Thread Cert.KernelAdamWupIdeal.nD Cert.KernelAdamWupIdeal.τ).loc Cert.KernelAdamWupIdeal.main_arg0)
      ∧ m' ((c.tc : Thread Cert.ReferenceAdamWupIdeal.nD Cert.ReferenceAdamWupIdeal.τ).loc Cert.ReferenceAdamWupIdeal.main_arg1) = m ((c.tc : Thread Cert.KernelAdamWupIdeal.nD Cert.KernelAdamWupIdeal.τ).loc Cert.KernelAdamWupIdeal.main_arg1)
      ∧ m' ((c.tc : Thread Cert.ReferenceAdamWupIdeal.nD Cert.ReferenceAdamWupIdeal.τ).loc Cert.ReferenceAdamWupIdeal.main_arg2) = m ((c.tc : Thread Cert.KernelAdamWupIdeal.nD Cert.KernelAdamWupIdeal.τ).loc Cert.KernelAdamWupIdeal.main_arg2)
      ∧ m' ((c.tc : Thread Cert.ReferenceAdamWupIdeal.nD Cert.ReferenceAdamWupIdeal.τ).loc Cert.ReferenceAdamWupIdeal.main_arg3) = m ((c.tc : Thread Cert.KernelAdamWupIdeal.nD Cert.KernelAdamWupIdeal.τ).loc Cert.KernelAdamWupIdeal.main_arg3)) →
    ∃ (v0 : (c : Dev Cert.KernelAdamWupIdeal.nD) → Buf (Elt Ideal) ((c.tc : Thread Cert.KernelAdamWupIdeal.nD Cert.KernelAdamWupIdeal.τ).loc Cert.KernelAdamWupIdeal.main_v7)) (v1 : (c : Dev Cert.KernelAdamWupIdeal.nD) → Buf (Elt Ideal) ((c.tc : Thread Cert.KernelAdamWupIdeal.nD Cert.KernelAdamWupIdeal.τ).loc Cert.KernelAdamWupIdeal.main_v8)) (v2 : (c : Dev Cert.KernelAdamWupIdeal.nD) → Buf (Elt Ideal) ((c.tc : Thread Cert.KernelAdamWupIdeal.nD Cert.KernelAdamWupIdeal.τ).loc Cert.KernelAdamWupIdeal.main_v9)) (v3 : (c : Dev Cert.KernelAdamWupIdeal.nD) → Buf (Elt Ideal) ((c.tc : Thread Cert.KernelAdamWupIdeal.nD Cert.KernelAdamWupIdeal.τ).loc Cert.KernelAdamWupIdeal.main_v10)),
      θ_run (Cert.KernelAdamWupIdeal.defs (F := Ideal)) (onTc (τ := Cert.KernelAdamWupIdeal.τ) (Cert.KernelAdamWupIdeal.main (F := Ideal))) ⟨m, fun _ => 0, g⟩ (fun r => ∀ c : Dev Cert.KernelAdamWupIdeal.nD,
          r.2.mem ((c.tc : Thread Cert.KernelAdamWupIdeal.nD Cert.KernelAdamWupIdeal.τ).loc Cert.KernelAdamWupIdeal.main_v7) = v0 c
          ∧ r.2.mem ((c.tc : Thread Cert.KernelAdamWupIdeal.nD Cert.KernelAdamWupIdeal.τ).loc Cert.KernelAdamWupIdeal.main_v8) = v1 c
          ∧ r.2.mem ((c.tc : Thread Cert.KernelAdamWupIdeal.nD Cert.KernelAdamWupIdeal.τ).loc Cert.KernelAdamWupIdeal.main_v9) = v2 c
          ∧ r.2.mem ((c.tc : Thread Cert.KernelAdamWupIdeal.nD Cert.KernelAdamWupIdeal.τ).loc Cert.KernelAdamWupIdeal.main_v10) = v3 c
          ∧ r.2.mem ((c.tc : Thread Cert.KernelAdamWupIdeal.nD Cert.KernelAdamWupIdeal.τ).loc Cert.KernelAdamWupIdeal.main_arg0) = m ((c.tc : Thread Cert.KernelAdamWupIdeal.nD Cert.KernelAdamWupIdeal.τ).loc Cert.KernelAdamWupIdeal.main_arg0)
          ∧ r.2.mem ((c.tc : Thread Cert.KernelAdamWupIdeal.nD Cert.KernelAdamWupIdeal.τ).loc Cert.KernelAdamWupIdeal.main_arg1) = m ((c.tc : Thread Cert.KernelAdamWupIdeal.nD Cert.KernelAdamWupIdeal.τ).loc Cert.KernelAdamWupIdeal.main_arg1)
          ∧ r.2.mem ((c.tc : Thread Cert.KernelAdamWupIdeal.nD Cert.KernelAdamWupIdeal.τ).loc Cert.KernelAdamWupIdeal.main_arg2) = m ((c.tc : Thread Cert.KernelAdamWupIdeal.nD Cert.KernelAdamWupIdeal.τ).loc Cert.KernelAdamWupIdeal.main_arg2)
          ∧ r.2.mem ((c.tc : Thread Cert.KernelAdamWupIdeal.nD Cert.KernelAdamWupIdeal.τ).loc Cert.KernelAdamWupIdeal.main_arg3) = m ((c.tc : Thread Cert.KernelAdamWupIdeal.nD Cert.KernelAdamWupIdeal.τ).loc Cert.KernelAdamWupIdeal.main_arg3))
      ∧ θ_run (Cert.ReferenceAdamWupIdeal.defs (F := Ideal)) (onTc (τ := Cert.ReferenceAdamWupIdeal.τ) (Cert.ReferenceAdamWupIdeal.main (F := Ideal))) ⟨m', fun _ => 0, g'⟩ (fun r => ∀ c : Dev Cert.ReferenceAdamWupIdeal.nD,
          r.2.mem ((c.tc : Thread Cert.ReferenceAdamWupIdeal.nD Cert.ReferenceAdamWupIdeal.τ).loc Cert.ReferenceAdamWupIdeal.main_v0) = v0 c
          ∧ r.2.mem ((c.tc : Thread Cert.ReferenceAdamWupIdeal.nD Cert.ReferenceAdamWupIdeal.τ).loc Cert.ReferenceAdamWupIdeal.main_v24) = v1 c
          ∧ r.2.mem ((c.tc : Thread Cert.ReferenceAdamWupIdeal.nD Cert.ReferenceAdamWupIdeal.τ).loc Cert.ReferenceAdamWupIdeal.main_v5) = v2 c
          ∧ r.2.mem ((c.tc : Thread Cert.ReferenceAdamWupIdeal.nD Cert.ReferenceAdamWupIdeal.τ).loc Cert.ReferenceAdamWupIdeal.main_v11) = v3 c
          ∧ r.2.mem ((c.tc : Thread Cert.ReferenceAdamWupIdeal.nD Cert.ReferenceAdamWupIdeal.τ).loc Cert.ReferenceAdamWupIdeal.main_arg0) = m' ((c.tc : Thread Cert.ReferenceAdamWupIdeal.nD Cert.ReferenceAdamWupIdeal.τ).loc Cert.ReferenceAdamWupIdeal.main_arg0)
          ∧ r.2.mem ((c.tc : Thread Cert.ReferenceAdamWupIdeal.nD Cert.ReferenceAdamWupIdeal.τ).loc Cert.ReferenceAdamWupIdeal.main_arg1) = m' ((c.tc : Thread Cert.ReferenceAdamWupIdeal.nD Cert.ReferenceAdamWupIdeal.τ).loc Cert.ReferenceAdamWupIdeal.main_arg1)
          ∧ r.2.mem ((c.tc : Thread Cert.ReferenceAdamWupIdeal.nD Cert.ReferenceAdamWupIdeal.τ).loc Cert.ReferenceAdamWupIdeal.main_arg2) = m' ((c.tc : Thread Cert.ReferenceAdamWupIdeal.nD Cert.ReferenceAdamWupIdeal.τ).loc Cert.ReferenceAdamWupIdeal.main_arg2)
          ∧ r.2.mem ((c.tc : Thread Cert.ReferenceAdamWupIdeal.nD Cert.ReferenceAdamWupIdeal.τ).loc Cert.ReferenceAdamWupIdeal.main_arg3) = m' ((c.tc : Thread Cert.ReferenceAdamWupIdeal.nD Cert.ReferenceAdamWupIdeal.τ).loc Cert.ReferenceAdamWupIdeal.main_arg3))

def preserves_KernelAdamConv_KernelAdamConvIdeal : Prop :=
  True

def algebraic_KernelAdamConvIdeal_ReferenceAdamConvIdeal [hKernelAdamConvIdeal : Cert.KernelAdamConvIdeal.Facts] [hReferenceAdamConvIdeal : Cert.ReferenceAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg)
    (m' : (ℓ : Loc Cert.ReferenceAdamConvIdeal.nD Cert.ReferenceAdamConvIdeal.τ Cert.ReferenceAdamConvIdeal.sig) → Buf (Elt Ideal) ℓ) (g' : Dev Cert.ReferenceAdamConvIdeal.nD → PrngReg), Pre_KernelAdamConvIdeal m →
    (∀ c : Dev Cert.KernelAdamConvIdeal.nD,
      m' ((c.tc : Thread Cert.ReferenceAdamConvIdeal.nD Cert.ReferenceAdamConvIdeal.τ).loc Cert.ReferenceAdamConvIdeal.main_arg0) = m ((c.tc : Thread Cert.KernelAdamConvIdeal.nD Cert.KernelAdamConvIdeal.τ).loc Cert.KernelAdamConvIdeal.main_arg0)
      ∧ m' ((c.tc : Thread Cert.ReferenceAdamConvIdeal.nD Cert.ReferenceAdamConvIdeal.τ).loc Cert.ReferenceAdamConvIdeal.main_arg1) = m ((c.tc : Thread Cert.KernelAdamConvIdeal.nD Cert.KernelAdamConvIdeal.τ).loc Cert.KernelAdamConvIdeal.main_arg1)
      ∧ m' ((c.tc : Thread Cert.ReferenceAdamConvIdeal.nD Cert.ReferenceAdamConvIdeal.τ).loc Cert.ReferenceAdamConvIdeal.main_arg2) = m ((c.tc : Thread Cert.KernelAdamConvIdeal.nD Cert.KernelAdamConvIdeal.τ).loc Cert.KernelAdamConvIdeal.main_arg2)
      ∧ m' ((c.tc : Thread Cert.ReferenceAdamConvIdeal.nD Cert.ReferenceAdamConvIdeal.τ).loc Cert.ReferenceAdamConvIdeal.main_arg3) = m ((c.tc : Thread Cert.KernelAdamConvIdeal.nD Cert.KernelAdamConvIdeal.τ).loc Cert.KernelAdamConvIdeal.main_arg3)) →
    ∃ (v0 : (c : Dev Cert.KernelAdamConvIdeal.nD) → Buf (Elt Ideal) ((c.tc : Thread Cert.KernelAdamConvIdeal.nD Cert.KernelAdamConvIdeal.τ).loc Cert.KernelAdamConvIdeal.main_v5)) (v1 : (c : Dev Cert.KernelAdamConvIdeal.nD) → Buf (Elt Ideal) ((c.tc : Thread Cert.KernelAdamConvIdeal.nD Cert.KernelAdamConvIdeal.τ).loc Cert.KernelAdamConvIdeal.main_v6)) (v2 : (c : Dev Cert.KernelAdamConvIdeal.nD) → Buf (Elt Ideal) ((c.tc : Thread Cert.KernelAdamConvIdeal.nD Cert.KernelAdamConvIdeal.τ).loc Cert.KernelAdamConvIdeal.main_v7)) (v3 : (c : Dev Cert.KernelAdamConvIdeal.nD) → Buf (Elt Ideal) ((c.tc : Thread Cert.KernelAdamConvIdeal.nD Cert.KernelAdamConvIdeal.τ).loc Cert.KernelAdamConvIdeal.main_v8)),
      θ_run (Cert.KernelAdamConvIdeal.defs (F := Ideal)) (onTc (τ := Cert.KernelAdamConvIdeal.τ) (Cert.KernelAdamConvIdeal.main (F := Ideal))) ⟨m, fun _ => 0, g⟩ (fun r => ∀ c : Dev Cert.KernelAdamConvIdeal.nD,
          r.2.mem ((c.tc : Thread Cert.KernelAdamConvIdeal.nD Cert.KernelAdamConvIdeal.τ).loc Cert.KernelAdamConvIdeal.main_v5) = v0 c
          ∧ r.2.mem ((c.tc : Thread Cert.KernelAdamConvIdeal.nD Cert.KernelAdamConvIdeal.τ).loc Cert.KernelAdamConvIdeal.main_v6) = v1 c
          ∧ r.2.mem ((c.tc : Thread Cert.KernelAdamConvIdeal.nD Cert.KernelAdamConvIdeal.τ).loc Cert.KernelAdamConvIdeal.main_v7) = v2 c
          ∧ r.2.mem ((c.tc : Thread Cert.KernelAdamConvIdeal.nD Cert.KernelAdamConvIdeal.τ).loc Cert.KernelAdamConvIdeal.main_v8) = v3 c
          ∧ r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
          ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
          ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
          ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ θ_run (Cert.ReferenceAdamConvIdeal.defs (F := Ideal)) (onTc (τ := Cert.ReferenceAdamConvIdeal.τ) (Cert.ReferenceAdamConvIdeal.main (F := Ideal))) ⟨m', fun _ => 0, g'⟩ (fun r => ∀ c : Dev Cert.ReferenceAdamConvIdeal.nD,
          r.2.mem ((c.tc : Thread Cert.ReferenceAdamConvIdeal.nD Cert.ReferenceAdamConvIdeal.τ).loc Cert.ReferenceAdamConvIdeal.main_v0) = v0 c
          ∧ r.2.mem ((c.tc : Thread Cert.ReferenceAdamConvIdeal.nD Cert.ReferenceAdamConvIdeal.τ).loc Cert.ReferenceAdamConvIdeal.main_v24) = v1 c
          ∧ r.2.mem ((c.tc : Thread Cert.ReferenceAdamConvIdeal.nD Cert.ReferenceAdamConvIdeal.τ).loc Cert.ReferenceAdamConvIdeal.main_v5) = v2 c
          ∧ r.2.mem ((c.tc : Thread Cert.ReferenceAdamConvIdeal.nD Cert.ReferenceAdamConvIdeal.τ).loc Cert.ReferenceAdamConvIdeal.main_v11) = v3 c
          ∧ r.2.mem ((c.tc : Thread Cert.ReferenceAdamConvIdeal.nD Cert.ReferenceAdamConvIdeal.τ).loc Cert.ReferenceAdamConvIdeal.main_arg0) = m' ((c.tc : Thread Cert.ReferenceAdamConvIdeal.nD Cert.ReferenceAdamConvIdeal.τ).loc Cert.ReferenceAdamConvIdeal.main_arg0)
          ∧ r.2.mem ((c.tc : Thread Cert.ReferenceAdamConvIdeal.nD Cert.ReferenceAdamConvIdeal.τ).loc Cert.ReferenceAdamConvIdeal.main_arg1) = m' ((c.tc : Thread Cert.ReferenceAdamConvIdeal.nD Cert.ReferenceAdamConvIdeal.τ).loc Cert.ReferenceAdamConvIdeal.main_arg1)
          ∧ r.2.mem ((c.tc : Thread Cert.ReferenceAdamConvIdeal.nD Cert.ReferenceAdamConvIdeal.τ).loc Cert.ReferenceAdamConvIdeal.main_arg2) = m' ((c.tc : Thread Cert.ReferenceAdamConvIdeal.nD Cert.ReferenceAdamConvIdeal.τ).loc Cert.ReferenceAdamConvIdeal.main_arg2)
          ∧ r.2.mem ((c.tc : Thread Cert.ReferenceAdamConvIdeal.nD Cert.ReferenceAdamConvIdeal.τ).loc Cert.ReferenceAdamConvIdeal.main_arg3) = m' ((c.tc : Thread Cert.ReferenceAdamConvIdeal.nD Cert.ReferenceAdamConvIdeal.τ).loc Cert.ReferenceAdamConvIdeal.main_arg3))

def preserves_KernelFwd_KernelFwdIdeal : Prop :=
  True

def algebraic_KernelFwdIdeal_ReferenceFwdIdeal_pre_finite17 [hKernelFwdIdeal : Cert.KernelFwdIdeal.Facts] [hReferenceFwdIdeal : Cert.ReferenceFwdIdeal.Facts] [hPre_finite17 : Cert.Pre_finite17.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite17 m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) →
    ∃ (v0 : (c : Dev Cert.KernelFwdIdeal.nD) → Buf (Elt Ideal) ((c.tc : Thread Cert.KernelFwdIdeal.nD Cert.KernelFwdIdeal.τ).loc Cert.KernelFwdIdeal.main_v25)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v25) = v0 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v18) = v0 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v2)) (v1 : (c : Dev Cert.KernelMixIdeal.nD) → Buf (Elt Ideal) ((c.tc : Thread Cert.KernelMixIdeal.nD Cert.KernelMixIdeal.τ).loc Cert.KernelMixIdeal.main_v1_1)) (v2 : (c : Dev Cert.KernelMixIdeal.nD) → Buf (Elt Ideal) ((c.tc : Thread Cert.KernelMixIdeal.nD Cert.KernelMixIdeal.τ).loc Cert.KernelMixIdeal.main_v1_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v2) = v0 c
          ∧ r.2.mem ((c.tc : Thread Cert.KernelMixIdeal.nD Cert.KernelMixIdeal.τ).loc Cert.KernelMixIdeal.main_v1_1) = v1 c
          ∧ r.2.mem ((c.tc : Thread Cert.KernelMixIdeal.nD Cert.KernelMixIdeal.τ).loc Cert.KernelMixIdeal.main_v1_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v28) = v0 c
          ∧ r.2.mem ((c.tc : Thread Cert.ReferenceMixIdeal.nD Cert.ReferenceMixIdeal.τ).loc Cert.ReferenceMixIdeal.main_v29) = v1 c
          ∧ r.2.mem ((c.tc : Thread Cert.ReferenceMixIdeal.nD Cert.ReferenceMixIdeal.τ).loc Cert.ReferenceMixIdeal.main_v44) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)
      ∧ m' ((c.tc : Thread Cert.ReferenceAdamSmallIdeal.nD Cert.ReferenceAdamSmallIdeal.τ).loc Cert.ReferenceAdamSmallIdeal.main_arg4) = m ((c.tc : Thread Cert.KernelAdamSmallIdeal.nD Cert.KernelAdamSmallIdeal.τ).loc Cert.KernelAdamSmallIdeal.main_arg4)
      ∧ m' ((c.tc : Thread Cert.ReferenceAdamSmallIdeal.nD Cert.ReferenceAdamSmallIdeal.τ).loc Cert.ReferenceAdamSmallIdeal.main_arg5) = m ((c.tc : Thread Cert.KernelAdamSmallIdeal.nD Cert.KernelAdamSmallIdeal.τ).loc Cert.KernelAdamSmallIdeal.main_arg5)
      ∧ m' ((c.tc : Thread Cert.ReferenceAdamSmallIdeal.nD Cert.ReferenceAdamSmallIdeal.τ).loc Cert.ReferenceAdamSmallIdeal.main_arg6) = m ((c.tc : Thread Cert.KernelAdamSmallIdeal.nD Cert.KernelAdamSmallIdeal.τ).loc Cert.KernelAdamSmallIdeal.main_arg6)
      ∧ m' ((c.tc : Thread Cert.ReferenceAdamSmallIdeal.nD Cert.ReferenceAdamSmallIdeal.τ).loc Cert.ReferenceAdamSmallIdeal.main_arg7) = m ((c.tc : Thread Cert.KernelAdamSmallIdeal.nD Cert.KernelAdamSmallIdeal.τ).loc Cert.KernelAdamSmallIdeal.main_arg7)
      ∧ m' ((c.tc : Thread Cert.ReferenceAdamSmallIdeal.nD Cert.ReferenceAdamSmallIdeal.τ).loc Cert.ReferenceAdamSmallIdeal.main_arg8) = m ((c.tc : Thread Cert.KernelAdamSmallIdeal.nD Cert.KernelAdamSmallIdeal.τ).loc Cert.KernelAdamSmallIdeal.main_arg8)
      ∧ m' ((c.tc : Thread Cert.ReferenceAdamSmallIdeal.nD Cert.ReferenceAdamSmallIdeal.τ).loc Cert.ReferenceAdamSmallIdeal.main_arg9) = m ((c.tc : Thread Cert.KernelAdamSmallIdeal.nD Cert.KernelAdamSmallIdeal.τ).loc Cert.KernelAdamSmallIdeal.main_arg9)
      ∧ m' ((c.tc : Thread Cert.ReferenceAdamSmallIdeal.nD Cert.ReferenceAdamSmallIdeal.τ).loc Cert.ReferenceAdamSmallIdeal.main_arg10) = m ((c.tc : Thread Cert.KernelAdamSmallIdeal.nD Cert.KernelAdamSmallIdeal.τ).loc Cert.KernelAdamSmallIdeal.main_arg10)
      ∧ m' ((c.tc : Thread Cert.ReferenceAdamSmallIdeal.nD Cert.ReferenceAdamSmallIdeal.τ).loc Cert.ReferenceAdamSmallIdeal.main_arg11) = m ((c.tc : Thread Cert.KernelAdamSmallIdeal.nD Cert.KernelAdamSmallIdeal.τ).loc Cert.KernelAdamSmallIdeal.main_arg11)
      ∧ m' ((c.tc : Thread Cert.ReferenceAdamSmallIdeal.nD Cert.ReferenceAdamSmallIdeal.τ).loc Cert.ReferenceAdamSmallIdeal.main_arg12) = m ((c.tc : Thread Cert.KernelAdamSmallIdeal.nD Cert.KernelAdamSmallIdeal.τ).loc Cert.KernelAdamSmallIdeal.main_arg12)
      ∧ m' ((c.tc : Thread Cert.ReferenceAdamSmallIdeal.nD Cert.ReferenceAdamSmallIdeal.τ).loc Cert.ReferenceAdamSmallIdeal.main_arg13) = m ((c.tc : Thread Cert.KernelAdamSmallIdeal.nD Cert.KernelAdamSmallIdeal.τ).loc Cert.KernelAdamSmallIdeal.main_arg13)
      ∧ m' ((c.tc : Thread Cert.ReferenceAdamSmallIdeal.nD Cert.ReferenceAdamSmallIdeal.τ).loc Cert.ReferenceAdamSmallIdeal.main_arg14) = m ((c.tc : Thread Cert.KernelAdamSmallIdeal.nD Cert.KernelAdamSmallIdeal.τ).loc Cert.KernelAdamSmallIdeal.main_arg14)
      ∧ m' ((c.tc : Thread Cert.ReferenceAdamSmallIdeal.nD Cert.ReferenceAdamSmallIdeal.τ).loc Cert.ReferenceAdamSmallIdeal.main_arg15) = m ((c.tc : Thread Cert.KernelAdamSmallIdeal.nD Cert.KernelAdamSmallIdeal.τ).loc Cert.KernelAdamSmallIdeal.main_arg15)
      ∧ m' ((c.tc : Thread Cert.ReferenceAdamSmallIdeal.nD Cert.ReferenceAdamSmallIdeal.τ).loc Cert.ReferenceAdamSmallIdeal.main_arg16) = m ((c.tc : Thread Cert.KernelAdamSmallIdeal.nD Cert.KernelAdamSmallIdeal.τ).loc Cert.KernelAdamSmallIdeal.main_arg16)
      ∧ m' ((c.tc : Thread Cert.ReferenceAdamSmallIdeal.nD Cert.ReferenceAdamSmallIdeal.τ).loc Cert.ReferenceAdamSmallIdeal.main_arg17) = m ((c.tc : Thread Cert.KernelAdamSmallIdeal.nD Cert.KernelAdamSmallIdeal.τ).loc Cert.KernelAdamSmallIdeal.main_arg17)
      ∧ m' ((c.tc : Thread Cert.ReferenceAdamSmallIdeal.nD Cert.ReferenceAdamSmallIdeal.τ).loc Cert.ReferenceAdamSmallIdeal.main_arg18) = m ((c.tc : Thread Cert.KernelAdamSmallIdeal.nD Cert.KernelAdamSmallIdeal.τ).loc Cert.KernelAdamSmallIdeal.main_arg18)
      ∧ m' ((c.tc : Thread Cert.ReferenceAdamSmallIdeal.nD Cert.ReferenceAdamSmallIdeal.τ).loc Cert.ReferenceAdamSmallIdeal.main_arg19) = m ((c.tc : Thread Cert.KernelAdamSmallIdeal.nD Cert.KernelAdamSmallIdeal.τ).loc Cert.KernelAdamSmallIdeal.main_arg19)
      ∧ m' ((c.tc : Thread Cert.ReferenceAdamSmallIdeal.nD Cert.ReferenceAdamSmallIdeal.τ).loc Cert.ReferenceAdamSmallIdeal.main_arg20) = m ((c.tc : Thread Cert.KernelAdamSmallIdeal.nD Cert.KernelAdamSmallIdeal.τ).loc Cert.KernelAdamSmallIdeal.main_arg20)
      ∧ m' ((c.tc : Thread Cert.ReferenceAdamSmallIdeal.nD Cert.ReferenceAdamSmallIdeal.τ).loc Cert.ReferenceAdamSmallIdeal.main_arg21) = m ((c.tc : Thread Cert.KernelAdamSmallIdeal.nD Cert.KernelAdamSmallIdeal.τ).loc Cert.KernelAdamSmallIdeal.main_arg21)
      ∧ m' ((c.tc : Thread Cert.ReferenceAdamSmallIdeal.nD Cert.ReferenceAdamSmallIdeal.τ).loc Cert.ReferenceAdamSmallIdeal.main_arg22) = m ((c.tc : Thread Cert.KernelAdamSmallIdeal.nD Cert.KernelAdamSmallIdeal.τ).loc Cert.KernelAdamSmallIdeal.main_arg22)
      ∧ m' ((c.tc : Thread Cert.ReferenceAdamSmallIdeal.nD Cert.ReferenceAdamSmallIdeal.τ).loc Cert.ReferenceAdamSmallIdeal.main_arg23) = m ((c.tc : Thread Cert.KernelAdamSmallIdeal.nD Cert.KernelAdamSmallIdeal.τ).loc Cert.KernelAdamSmallIdeal.main_arg23)
      ∧ m' ((c.tc : Thread Cert.ReferenceAdamSmallIdeal.nD Cert.ReferenceAdamSmallIdeal.τ).loc Cert.ReferenceAdamSmallIdeal.main_arg24) = m ((c.tc : Thread Cert.KernelAdamSmallIdeal.nD Cert.KernelAdamSmallIdeal.τ).loc Cert.KernelAdamSmallIdeal.main_arg24)
      ∧ m' ((c.tc : Thread Cert.ReferenceAdamSmallIdeal.nD Cert.ReferenceAdamSmallIdeal.τ).loc Cert.ReferenceAdamSmallIdeal.main_arg25) = m ((c.tc : Thread Cert.KernelAdamSmallIdeal.nD Cert.KernelAdamSmallIdeal.τ).loc Cert.KernelAdamSmallIdeal.main_arg25)
      ∧ m' ((c.tc : Thread Cert.ReferenceAdamSmallIdeal.nD Cert.ReferenceAdamSmallIdeal.τ).loc Cert.ReferenceAdamSmallIdeal.main_arg26) = m ((c.tc : Thread Cert.KernelAdamSmallIdeal.nD Cert.KernelAdamSmallIdeal.τ).loc Cert.KernelAdamSmallIdeal.main_arg26)
      ∧ m' ((c.tc : Thread Cert.ReferenceAdamSmallIdeal.nD Cert.ReferenceAdamSmallIdeal.τ).loc Cert.ReferenceAdamSmallIdeal.main_arg27) = m ((c.tc : Thread Cert.KernelAdamSmallIdeal.nD Cert.KernelAdamSmallIdeal.τ).loc Cert.KernelAdamSmallIdeal.main_arg27)
      ∧ m' ((c.tc : Thread Cert.ReferenceAdamSmallIdeal.nD Cert.ReferenceAdamSmallIdeal.τ).loc Cert.ReferenceAdamSmallIdeal.main_arg28) = m ((c.tc : Thread Cert.KernelAdamSmallIdeal.nD Cert.KernelAdamSmallIdeal.τ).loc Cert.KernelAdamSmallIdeal.main_arg28)
      ∧ m' ((c.tc : Thread Cert.ReferenceAdamSmallIdeal.nD Cert.ReferenceAdamSmallIdeal.τ).loc Cert.ReferenceAdamSmallIdeal.main_arg29) = m ((c.tc : Thread Cert.KernelAdamSmallIdeal.nD Cert.KernelAdamSmallIdeal.τ).loc Cert.KernelAdamSmallIdeal.main_arg29)
      ∧ m' ((c.tc : Thread Cert.ReferenceAdamSmallIdeal.nD Cert.ReferenceAdamSmallIdeal.τ).loc Cert.ReferenceAdamSmallIdeal.main_arg30) = m ((c.tc : Thread Cert.KernelAdamSmallIdeal.nD Cert.KernelAdamSmallIdeal.τ).loc Cert.KernelAdamSmallIdeal.main_arg30)
      ∧ m' ((c.tc : Thread Cert.ReferenceAdamSmallIdeal.nD Cert.ReferenceAdamSmallIdeal.τ).loc Cert.ReferenceAdamSmallIdeal.main_arg31) = m ((c.tc : Thread Cert.KernelAdamSmallIdeal.nD Cert.KernelAdamSmallIdeal.τ).loc Cert.KernelAdamSmallIdeal.main_arg31)
      ∧ m' ((c.tc : Thread Cert.ReferenceAdamSmallIdeal.nD Cert.ReferenceAdamSmallIdeal.τ).loc Cert.ReferenceAdamSmallIdeal.main_arg32) = m ((c.tc : Thread Cert.KernelAdamSmallIdeal.nD Cert.KernelAdamSmallIdeal.τ).loc Cert.KernelAdamSmallIdeal.main_arg32)
      ∧ m' ((c.tc : Thread Cert.ReferenceAdamSmallIdeal.nD Cert.ReferenceAdamSmallIdeal.τ).loc Cert.ReferenceAdamSmallIdeal.main_arg33) = m ((c.tc : Thread Cert.KernelAdamSmallIdeal.nD Cert.KernelAdamSmallIdeal.τ).loc Cert.KernelAdamSmallIdeal.main_arg33)
      ∧ m' ((c.tc : Thread Cert.ReferenceAdamSmallIdeal.nD Cert.ReferenceAdamSmallIdeal.τ).loc Cert.ReferenceAdamSmallIdeal.main_arg34) = m ((c.tc : Thread Cert.KernelAdamSmallIdeal.nD Cert.KernelAdamSmallIdeal.τ).loc Cert.KernelAdamSmallIdeal.main_arg34)
      ∧ m' ((c.tc : Thread Cert.ReferenceAdamSmallIdeal.nD Cert.ReferenceAdamSmallIdeal.τ).loc Cert.ReferenceAdamSmallIdeal.main_arg35) = m ((c.tc : Thread Cert.KernelAdamSmallIdeal.nD Cert.KernelAdamSmallIdeal.τ).loc Cert.KernelAdamSmallIdeal.main_arg35)
      ∧ m' ((c.tc : Thread Cert.ReferenceAdamSmallIdeal.nD Cert.ReferenceAdamSmallIdeal.τ).loc Cert.ReferenceAdamSmallIdeal.main_arg36) = m ((c.tc : Thread Cert.KernelAdamSmallIdeal.nD Cert.KernelAdamSmallIdeal.τ).loc Cert.KernelAdamSmallIdeal.main_arg36)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v60)) (v1 : (c : Dev Cert.KernelAdamSmallIdeal.nD) → Buf (Elt Ideal) ((c.tc : Thread Cert.KernelAdamSmallIdeal.nD Cert.KernelAdamSmallIdeal.τ).loc Cert.KernelAdamSmallIdeal.main_v17)) (v2 : (c : Dev Cert.KernelAdamSmallIdeal.nD) → Buf (Elt Ideal) ((c.tc : Thread Cert.KernelAdamSmallIdeal.nD Cert.KernelAdamSmallIdeal.τ).loc Cert.KernelAdamSmallIdeal.main_v18)) (v3 : (c : Dev Cert.KernelAdamSmallIdeal.nD) → Buf (Elt Ideal) ((c.tc : Thread Cert.KernelAdamSmallIdeal.nD Cert.KernelAdamSmallIdeal.τ).loc Cert.KernelAdamSmallIdeal.main_v19)) (v4 : (c : Dev Cert.KernelAdamSmallIdeal.nD) → Buf (Elt Ideal) ((c.tc : Thread Cert.KernelAdamSmallIdeal.nD Cert.KernelAdamSmallIdeal.τ).loc Cert.KernelAdamSmallIdeal.main_v20)) (v5 : (c : Dev Cert.KernelAdamSmallIdeal.nD) → Buf (Elt Ideal) ((c.tc : Thread Cert.KernelAdamSmallIdeal.nD Cert.KernelAdamSmallIdeal.τ).loc Cert.KernelAdamSmallIdeal.main_v21)) (v6 : (c : Dev Cert.KernelAdamSmallIdeal.nD) → Buf (Elt Ideal) ((c.tc : Thread Cert.KernelAdamSmallIdeal.nD Cert.KernelAdamSmallIdeal.τ).loc Cert.KernelAdamSmallIdeal.main_v22)) (v7 : (c : Dev Cert.KernelAdamSmallIdeal.nD) → Buf (Elt Ideal) ((c.tc : Thread Cert.KernelAdamSmallIdeal.nD Cert.KernelAdamSmallIdeal.τ).loc Cert.KernelAdamSmallIdeal.main_v23)) (v8 : (c : Dev Cert.KernelAdamSmallIdeal.nD) → Buf (Elt Ideal) ((c.tc : Thread Cert.KernelAdamSmallIdeal.nD Cert.KernelAdamSmallIdeal.τ).loc Cert.KernelAdamSmallIdeal.main_v24)) (v9 : (c : Dev Cert.KernelAdamSmallIdeal.nD) → Buf (Elt Ideal) ((c.tc : Thread Cert.KernelAdamSmallIdeal.nD Cert.KernelAdamSmallIdeal.τ).loc Cert.KernelAdamSmallIdeal.main_v25)) (v10 : (c : Dev Cert.KernelAdamSmallIdeal.nD) → Buf (Elt Ideal) ((c.tc : Thread Cert.KernelAdamSmallIdeal.nD Cert.KernelAdamSmallIdeal.τ).loc Cert.KernelAdamSmallIdeal.main_v28)) (v11 : (c : Dev Cert.KernelAdamSmallIdeal.nD) → Buf (Elt Ideal) ((c.tc : Thread Cert.KernelAdamSmallIdeal.nD Cert.KernelAdamSmallIdeal.τ).loc Cert.KernelAdamSmallIdeal.main_v29)) (v12 : (c : Dev Cert.KernelAdamSmallIdeal.nD) → Buf (Elt Ideal) ((c.tc : Thread Cert.KernelAdamSmallIdeal.nD Cert.KernelAdamSmallIdeal.τ).loc Cert.KernelAdamSmallIdeal.main_v30)) (v13 : (c : Dev Cert.KernelAdamSmallIdeal.nD) → Buf (Elt Ideal) ((c.tc : Thread Cert.KernelAdamSmallIdeal.nD Cert.KernelAdamSmallIdeal.τ).loc Cert.KernelAdamSmallIdeal.main_v31)) (v14 : (c : Dev Cert.KernelAdamSmallIdeal.nD) → Buf (Elt Ideal) ((c.tc : Thread Cert.KernelAdamSmallIdeal.nD Cert.KernelAdamSmallIdeal.τ).loc Cert.KernelAdamSmallIdeal.main_v32)) (v15 : (c : Dev Cert.KernelAdamSmallIdeal.nD) → Buf (Elt Ideal) ((c.tc : Thread Cert.KernelAdamSmallIdeal.nD Cert.KernelAdamSmallIdeal.τ).loc Cert.KernelAdamSmallIdeal.main_v33)) (v16 : (c : Dev Cert.KernelAdamSmallIdeal.nD) → Buf (Elt Ideal) ((c.tc : Thread Cert.KernelAdamSmallIdeal.nD Cert.KernelAdamSmallIdeal.τ).loc Cert.KernelAdamSmallIdeal.main_v34)) (v17 : (c : Dev Cert.KernelAdamSmallIdeal.nD) → Buf (Elt Ideal) ((c.tc : Thread Cert.KernelAdamSmallIdeal.nD Cert.KernelAdamSmallIdeal.τ).loc Cert.KernelAdamSmallIdeal.main_v35)) (v18 : (c : Dev Cert.KernelAdamSmallIdeal.nD) → Buf (Elt Ideal) ((c.tc : Thread Cert.KernelAdamSmallIdeal.nD Cert.KernelAdamSmallIdeal.τ).loc Cert.KernelAdamSmallIdeal.main_v36)) (v19 : (c : Dev Cert.KernelAdamSmallIdeal.nD) → Buf (Elt Ideal) ((c.tc : Thread Cert.KernelAdamSmallIdeal.nD Cert.KernelAdamSmallIdeal.τ).loc Cert.KernelAdamSmallIdeal.main_v39)) (v20 : (c : Dev Cert.KernelAdamSmallIdeal.nD) → Buf (Elt Ideal) ((c.tc : Thread Cert.KernelAdamSmallIdeal.nD Cert.KernelAdamSmallIdeal.τ).loc Cert.KernelAdamSmallIdeal.main_v40)) (v21 : (c : Dev Cert.KernelAdamSmallIdeal.nD) → Buf (Elt Ideal) ((c.tc : Thread Cert.KernelAdamSmallIdeal.nD Cert.KernelAdamSmallIdeal.τ).loc Cert.KernelAdamSmallIdeal.main_v41)) (v22 : (c : Dev Cert.KernelAdamSmallIdeal.nD) → Buf (Elt Ideal) ((c.tc : Thread Cert.KernelAdamSmallIdeal.nD Cert.KernelAdamSmallIdeal.τ).loc Cert.KernelAdamSmallIdeal.main_v42)) (v23 : (c : Dev Cert.KernelAdamSmallIdeal.nD) → Buf (Elt Ideal) ((c.tc : Thread Cert.KernelAdamSmallIdeal.nD Cert.KernelAdamSmallIdeal.τ).loc Cert.KernelAdamSmallIdeal.main_v43)) (v24 : (c : Dev Cert.KernelAdamSmallIdeal.nD) → Buf (Elt Ideal) ((c.tc : Thread Cert.KernelAdamSmallIdeal.nD Cert.KernelAdamSmallIdeal.τ).loc Cert.KernelAdamSmallIdeal.main_v44)) (v25 : (c : Dev Cert.KernelAdamSmallIdeal.nD) → Buf (Elt Ideal) ((c.tc : Thread Cert.KernelAdamSmallIdeal.nD Cert.KernelAdamSmallIdeal.τ).loc Cert.KernelAdamSmallIdeal.main_v45)) (v26 : (c : Dev Cert.KernelAdamSmallIdeal.nD) → Buf (Elt Ideal) ((c.tc : Thread Cert.KernelAdamSmallIdeal.nD Cert.KernelAdamSmallIdeal.τ).loc Cert.KernelAdamSmallIdeal.main_v46)) (v27 : (c : Dev Cert.KernelAdamSmallIdeal.nD) → Buf (Elt Ideal) ((c.tc : Thread Cert.KernelAdamSmallIdeal.nD Cert.KernelAdamSmallIdeal.τ).loc Cert.KernelAdamSmallIdeal.main_v47)) (v28 : (c : Dev Cert.KernelAdamSmallIdeal.nD) → Buf (Elt Ideal) ((c.tc : Thread Cert.KernelAdamSmallIdeal.nD Cert.KernelAdamSmallIdeal.τ).loc Cert.KernelAdamSmallIdeal.main_v50)) (v29 : (c : Dev Cert.KernelAdamSmallIdeal.nD) → Buf (Elt Ideal) ((c.tc : Thread Cert.KernelAdamSmallIdeal.nD Cert.KernelAdamSmallIdeal.τ).loc Cert.KernelAdamSmallIdeal.main_v51)) (v30 : (c : Dev Cert.KernelAdamSmallIdeal.nD) → Buf (Elt Ideal) ((c.tc : Thread Cert.KernelAdamSmallIdeal.nD Cert.KernelAdamSmallIdeal.τ).loc Cert.KernelAdamSmallIdeal.main_v52)) (v31 : (c : Dev Cert.KernelAdamSmallIdeal.nD) → Buf (Elt Ideal) ((c.tc : Thread Cert.KernelAdamSmallIdeal.nD Cert.KernelAdamSmallIdeal.τ).loc Cert.KernelAdamSmallIdeal.main_v53)) (v32 : (c : Dev Cert.KernelAdamSmallIdeal.nD) → Buf (Elt Ideal) ((c.tc : Thread Cert.KernelAdamSmallIdeal.nD Cert.KernelAdamSmallIdeal.τ).loc Cert.KernelAdamSmallIdeal.main_v54)) (v33 : (c : Dev Cert.KernelAdamSmallIdeal.nD) → Buf (Elt Ideal) ((c.tc : Thread Cert.KernelAdamSmallIdeal.nD Cert.KernelAdamSmallIdeal.τ).loc Cert.KernelAdamSmallIdeal.main_v55)) (v34 : (c : Dev Cert.KernelAdamSmallIdeal.nD) → Buf (Elt Ideal) ((c.tc : Thread Cert.KernelAdamSmallIdeal.nD Cert.KernelAdamSmallIdeal.τ).loc Cert.KernelAdamSmallIdeal.main_v56)) (v35 : (c : Dev Cert.KernelAdamSmallIdeal.nD) → Buf (Elt Ideal) ((c.tc : Thread Cert.KernelAdamSmallIdeal.nD Cert.KernelAdamSmallIdeal.τ).loc Cert.KernelAdamSmallIdeal.main_v57)) (v36 : (c : Dev Cert.KernelAdamSmallIdeal.nD) → Buf (Elt Ideal) ((c.tc : Thread Cert.KernelAdamSmallIdeal.nD Cert.KernelAdamSmallIdeal.τ).loc Cert.KernelAdamSmallIdeal.main_v58)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v60) = v0 c
          ∧ r.2.mem ((c.tc : Thread Cert.KernelAdamSmallIdeal.nD Cert.KernelAdamSmallIdeal.τ).loc Cert.KernelAdamSmallIdeal.main_v17) = v1 c
          ∧ r.2.mem ((c.tc : Thread Cert.KernelAdamSmallIdeal.nD Cert.KernelAdamSmallIdeal.τ).loc Cert.KernelAdamSmallIdeal.main_v18) = v2 c
          ∧ r.2.mem ((c.tc : Thread Cert.KernelAdamSmallIdeal.nD Cert.KernelAdamSmallIdeal.τ).loc Cert.KernelAdamSmallIdeal.main_v19) = v3 c
          ∧ r.2.mem ((c.tc : Thread Cert.KernelAdamSmallIdeal.nD Cert.KernelAdamSmallIdeal.τ).loc Cert.KernelAdamSmallIdeal.main_v20) = v4 c
          ∧ r.2.mem ((c.tc : Thread Cert.KernelAdamSmallIdeal.nD Cert.KernelAdamSmallIdeal.τ).loc Cert.KernelAdamSmallIdeal.main_v21) = v5 c
          ∧ r.2.mem ((c.tc : Thread Cert.KernelAdamSmallIdeal.nD Cert.KernelAdamSmallIdeal.τ).loc Cert.KernelAdamSmallIdeal.main_v22) = v6 c
          ∧ r.2.mem ((c.tc : Thread Cert.KernelAdamSmallIdeal.nD Cert.KernelAdamSmallIdeal.τ).loc Cert.KernelAdamSmallIdeal.main_v23) = v7 c
          ∧ r.2.mem ((c.tc : Thread Cert.KernelAdamSmallIdeal.nD Cert.KernelAdamSmallIdeal.τ).loc Cert.KernelAdamSmallIdeal.main_v24) = v8 c
          ∧ r.2.mem ((c.tc : Thread Cert.KernelAdamSmallIdeal.nD Cert.KernelAdamSmallIdeal.τ).loc Cert.KernelAdamSmallIdeal.main_v25) = v9 c
          ∧ r.2.mem ((c.tc : Thread Cert.KernelAdamSmallIdeal.nD Cert.KernelAdamSmallIdeal.τ).loc Cert.KernelAdamSmallIdeal.main_v28) = v10 c
          ∧ r.2.mem ((c.tc : Thread Cert.KernelAdamSmallIdeal.nD Cert.KernelAdamSmallIdeal.τ).loc Cert.KernelAdamSmallIdeal.main_v29) = v11 c
          ∧ r.2.mem ((c.tc : Thread Cert.KernelAdamSmallIdeal.nD Cert.KernelAdamSmallIdeal.τ).loc Cert.KernelAdamSmallIdeal.main_v30) = v12 c
          ∧ r.2.mem ((c.tc : Thread Cert.KernelAdamSmallIdeal.nD Cert.KernelAdamSmallIdeal.τ).loc Cert.KernelAdamSmallIdeal.main_v31) = v13 c
          ∧ r.2.mem ((c.tc : Thread Cert.KernelAdamSmallIdeal.nD Cert.KernelAdamSmallIdeal.τ).loc Cert.KernelAdamSmallIdeal.main_v32) = v14 c
          ∧ r.2.mem ((c.tc : Thread Cert.KernelAdamSmallIdeal.nD Cert.KernelAdamSmallIdeal.τ).loc Cert.KernelAdamSmallIdeal.main_v33) = v15 c
          ∧ r.2.mem ((c.tc : Thread Cert.KernelAdamSmallIdeal.nD Cert.KernelAdamSmallIdeal.τ).loc Cert.KernelAdamSmallIdeal.main_v34) = v16 c
          ∧ r.2.mem ((c.tc : Thread Cert.KernelAdamSmallIdeal.nD Cert.KernelAdamSmallIdeal.τ).loc Cert.KernelAdamSmallIdeal.main_v35) = v17 c
          ∧ r.2.mem ((c.tc : Thread Cert.KernelAdamSmallIdeal.nD Cert.KernelAdamSmallIdeal.τ).loc Cert.KernelAdamSmallIdeal.main_v36) = v18 c
          ∧ r.2.mem ((c.tc : Thread Cert.KernelAdamSmallIdeal.nD Cert.KernelAdamSmallIdeal.τ).loc Cert.KernelAdamSmallIdeal.main_v39) = v19 c
          ∧ r.2.mem ((c.tc : Thread Cert.KernelAdamSmallIdeal.nD Cert.KernelAdamSmallIdeal.τ).loc Cert.KernelAdamSmallIdeal.main_v40) = v20 c
          ∧ r.2.mem ((c.tc : Thread Cert.KernelAdamSmallIdeal.nD Cert.KernelAdamSmallIdeal.τ).loc Cert.KernelAdamSmallIdeal.main_v41) = v21 c
          ∧ r.2.mem ((c.tc : Thread Cert.KernelAdamSmallIdeal.nD Cert.KernelAdamSmallIdeal.τ).loc Cert.KernelAdamSmallIdeal.main_v42) = v22 c
          ∧ r.2.mem ((c.tc : Thread Cert.KernelAdamSmallIdeal.nD Cert.KernelAdamSmallIdeal.τ).loc Cert.KernelAdamSmallIdeal.main_v43) = v23 c
          ∧ r.2.mem ((c.tc : Thread Cert.KernelAdamSmallIdeal.nD Cert.KernelAdamSmallIdeal.τ).loc Cert.KernelAdamSmallIdeal.main_v44) = v24 c
          ∧ r.2.mem ((c.tc : Thread Cert.KernelAdamSmallIdeal.nD Cert.KernelAdamSmallIdeal.τ).loc Cert.KernelAdamSmallIdeal.main_v45) = v25 c
          ∧ r.2.mem ((c.tc : Thread Cert.KernelAdamSmallIdeal.nD Cert.KernelAdamSmallIdeal.τ).loc Cert.KernelAdamSmallIdeal.main_v46) = v26 c
          ∧ r.2.mem ((c.tc : Thread Cert.KernelAdamSmallIdeal.nD Cert.KernelAdamSmallIdeal.τ).loc Cert.KernelAdamSmallIdeal.main_v47) = v27 c
          ∧ r.2.mem ((c.tc : Thread Cert.KernelAdamSmallIdeal.nD Cert.KernelAdamSmallIdeal.τ).loc Cert.KernelAdamSmallIdeal.main_v50) = v28 c
          ∧ r.2.mem ((c.tc : Thread Cert.KernelAdamSmallIdeal.nD Cert.KernelAdamSmallIdeal.τ).loc Cert.KernelAdamSmallIdeal.main_v51) = v29 c
          ∧ r.2.mem ((c.tc : Thread Cert.KernelAdamSmallIdeal.nD Cert.KernelAdamSmallIdeal.τ).loc Cert.KernelAdamSmallIdeal.main_v52) = v30 c
          ∧ r.2.mem ((c.tc : Thread Cert.KernelAdamSmallIdeal.nD Cert.KernelAdamSmallIdeal.τ).loc Cert.KernelAdamSmallIdeal.main_v53) = v31 c
          ∧ r.2.mem ((c.tc : Thread Cert.KernelAdamSmallIdeal.nD Cert.KernelAdamSmallIdeal.τ).loc Cert.KernelAdamSmallIdeal.main_v54) = v32 c
          ∧ r.2.mem ((c.tc : Thread Cert.KernelAdamSmallIdeal.nD Cert.KernelAdamSmallIdeal.τ).loc Cert.KernelAdamSmallIdeal.main_v55) = v33 c
          ∧ r.2.mem ((c.tc : Thread Cert.KernelAdamSmallIdeal.nD Cert.KernelAdamSmallIdeal.τ).loc Cert.KernelAdamSmallIdeal.main_v56) = v34 c
          ∧ r.2.mem ((c.tc : Thread Cert.KernelAdamSmallIdeal.nD Cert.KernelAdamSmallIdeal.τ).loc Cert.KernelAdamSmallIdeal.main_v57) = v35 c
          ∧ r.2.mem ((c.tc : Thread Cert.KernelAdamSmallIdeal.nD Cert.KernelAdamSmallIdeal.τ).loc Cert.KernelAdamSmallIdeal.main_v58) = v36 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
          ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
          ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
          ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
          ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
          ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
          ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
          ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
          ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
          ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
          ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
          ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
          ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
          ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
          ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
          ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
          ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
          ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
          ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
          ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
          ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23)
          ∧ r.2.mem ((c.tc : Thread Cert.KernelAdamSmallIdeal.nD Cert.KernelAdamSmallIdeal.τ).loc Cert.KernelAdamSmallIdeal.main_arg24) = m ((c.tc : Thread Cert.KernelAdamSmallIdeal.nD Cert.KernelAdamSmallIdeal.τ).loc Cert.KernelAdamSmallIdeal.main_arg24)
          ∧ r.2.mem ((c.tc : Thread Cert.KernelAdamSmallIdeal.nD Cert.KernelAdamSmallIdeal.τ).loc Cert.KernelAdamSmallIdeal.main_arg25) = m ((c.tc : Thread Cert.KernelAdamSmallIdeal.nD Cert.KernelAdamSmallIdeal.τ).loc Cert.KernelAdamSmallIdeal.main_arg25)
          ∧ r.2.mem ((c.tc : Thread Cert.KernelAdamSmallIdeal.nD Cert.KernelAdamSmallIdeal.τ).loc Cert.KernelAdamSmallIdeal.main_arg26) = m ((c.tc : Thread Cert.KernelAdamSmallIdeal.nD Cert.KernelAdamSmallIdeal.τ).loc Cert.KernelAdamSmallIdeal.main_arg26)
          ∧ r.2.mem ((c.tc : Thread Cert.KernelAdamSmallIdeal.nD Cert.KernelAdamSmallIdeal.τ).loc Cert.KernelAdamSmallIdeal.main_arg27) = m ((c.tc : Thread Cert.KernelAdamSmallIdeal.nD Cert.KernelAdamSmallIdeal.τ).loc Cert.KernelAdamSmallIdeal.main_arg27)
          ∧ r.2.mem ((c.tc : Thread Cert.KernelAdamSmallIdeal.nD Cert.KernelAdamSmallIdeal.τ).loc Cert.KernelAdamSmallIdeal.main_arg28) = m ((c.tc : Thread Cert.KernelAdamSmallIdeal.nD Cert.KernelAdamSmallIdeal.τ).loc Cert.KernelAdamSmallIdeal.main_arg28)
          ∧ r.2.mem ((c.tc : Thread Cert.KernelAdamSmallIdeal.nD Cert.KernelAdamSmallIdeal.τ).loc Cert.KernelAdamSmallIdeal.main_arg29) = m ((c.tc : Thread Cert.KernelAdamSmallIdeal.nD Cert.KernelAdamSmallIdeal.τ).loc Cert.KernelAdamSmallIdeal.main_arg29)
          ∧ r.2.mem ((c.tc : Thread Cert.KernelAdamSmallIdeal.nD Cert.KernelAdamSmallIdeal.τ).loc Cert.KernelAdamSmallIdeal.main_arg30) = m ((c.tc : Thread Cert.KernelAdamSmallIdeal.nD Cert.KernelAdamSmallIdeal.τ).loc Cert.KernelAdamSmallIdeal.main_arg30)
          ∧ r.2.mem ((c.tc : Thread Cert.KernelAdamSmallIdeal.nD Cert.KernelAdamSmallIdeal.τ).loc Cert.KernelAdamSmallIdeal.main_arg31) = m ((c.tc : Thread Cert.KernelAdamSmallIdeal.nD Cert.KernelAdamSmallIdeal.τ).loc Cert.KernelAdamSmallIdeal.main_arg31)
          ∧ r.2.mem ((c.tc : Thread Cert.KernelAdamSmallIdeal.nD Cert.KernelAdamSmallIdeal.τ).loc Cert.KernelAdamSmallIdeal.main_arg32) = m ((c.tc : Thread Cert.KernelAdamSmallIdeal.nD Cert.KernelAdamSmallIdeal.τ).loc Cert.KernelAdamSmallIdeal.main_arg32)
          ∧ r.2.mem ((c.tc : Thread Cert.KernelAdamSmallIdeal.nD Cert.KernelAdamSmallIdeal.τ).loc Cert.KernelAdamSmallIdeal.main_arg33) = m ((c.tc : Thread Cert.KernelAdamSmallIdeal.nD Cert.KernelAdamSmallIdeal.τ).loc Cert.KernelAdamSmallIdeal.main_arg33)
          ∧ r.2.mem ((c.tc : Thread Cert.KernelAdamSmallIdeal.nD Cert.KernelAdamSmallIdeal.τ).loc Cert.KernelAdamSmallIdeal.main_arg34) = m ((c.tc : Thread Cert.KernelAdamSmallIdeal.nD Cert.KernelAdamSmallIdeal.τ).loc Cert.KernelAdamSmallIdeal.main_arg34)
          ∧ r.2.mem ((c.tc : Thread Cert.KernelAdamSmallIdeal.nD Cert.KernelAdamSmallIdeal.τ).loc Cert.KernelAdamSmallIdeal.main_arg35) = m ((c.tc : Thread Cert.KernelAdamSmallIdeal.nD Cert.KernelAdamSmallIdeal.τ).loc Cert.KernelAdamSmallIdeal.main_arg35)
          ∧ r.2.mem ((c.tc : Thread Cert.KernelAdamSmallIdeal.nD Cert.KernelAdamSmallIdeal.τ).loc Cert.KernelAdamSmallIdeal.main_arg36) = m ((c.tc : Thread Cert.KernelAdamSmallIdeal.nD Cert.KernelAdamSmallIdeal.τ).loc Cert.KernelAdamSmallIdeal.main_arg36))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v225) = v0 c
          ∧ r.2.mem ((c.tc : Thread Cert.ReferenceAdamSmallIdeal.nD Cert.ReferenceAdamSmallIdeal.τ).loc Cert.ReferenceAdamSmallIdeal.main_v0) = v1 c
          ∧ r.2.mem ((c.tc : Thread Cert.ReferenceAdamSmallIdeal.nD Cert.ReferenceAdamSmallIdeal.τ).loc Cert.ReferenceAdamSmallIdeal.main_v25) = v2 c
          ∧ r.2.mem ((c.tc : Thread Cert.ReferenceAdamSmallIdeal.nD Cert.ReferenceAdamSmallIdeal.τ).loc Cert.ReferenceAdamSmallIdeal.main_v50) = v3 c
          ∧ r.2.mem ((c.tc : Thread Cert.ReferenceAdamSmallIdeal.nD Cert.ReferenceAdamSmallIdeal.τ).loc Cert.ReferenceAdamSmallIdeal.main_v75) = v4 c
          ∧ r.2.mem ((c.tc : Thread Cert.ReferenceAdamSmallIdeal.nD Cert.ReferenceAdamSmallIdeal.τ).loc Cert.ReferenceAdamSmallIdeal.main_v100) = v5 c
          ∧ r.2.mem ((c.tc : Thread Cert.ReferenceAdamSmallIdeal.nD Cert.ReferenceAdamSmallIdeal.τ).loc Cert.ReferenceAdamSmallIdeal.main_v125) = v6 c
          ∧ r.2.mem ((c.tc : Thread Cert.ReferenceAdamSmallIdeal.nD Cert.ReferenceAdamSmallIdeal.τ).loc Cert.ReferenceAdamSmallIdeal.main_v150) = v7 c
          ∧ r.2.mem ((c.tc : Thread Cert.ReferenceAdamSmallIdeal.nD Cert.ReferenceAdamSmallIdeal.τ).loc Cert.ReferenceAdamSmallIdeal.main_v175) = v8 c
          ∧ r.2.mem ((c.tc : Thread Cert.ReferenceAdamSmallIdeal.nD Cert.ReferenceAdamSmallIdeal.τ).loc Cert.ReferenceAdamSmallIdeal.main_v200) = v9 c
          ∧ r.2.mem ((c.tc : Thread Cert.ReferenceAdamSmallIdeal.nD Cert.ReferenceAdamSmallIdeal.τ).loc Cert.ReferenceAdamSmallIdeal.main_v24) = v10 c
          ∧ r.2.mem ((c.tc : Thread Cert.ReferenceAdamSmallIdeal.nD Cert.ReferenceAdamSmallIdeal.τ).loc Cert.ReferenceAdamSmallIdeal.main_v49) = v11 c
          ∧ r.2.mem ((c.tc : Thread Cert.ReferenceAdamSmallIdeal.nD Cert.ReferenceAdamSmallIdeal.τ).loc Cert.ReferenceAdamSmallIdeal.main_v74) = v12 c
          ∧ r.2.mem ((c.tc : Thread Cert.ReferenceAdamSmallIdeal.nD Cert.ReferenceAdamSmallIdeal.τ).loc Cert.ReferenceAdamSmallIdeal.main_v99) = v13 c
          ∧ r.2.mem ((c.tc : Thread Cert.ReferenceAdamSmallIdeal.nD Cert.ReferenceAdamSmallIdeal.τ).loc Cert.ReferenceAdamSmallIdeal.main_v124) = v14 c
          ∧ r.2.mem ((c.tc : Thread Cert.ReferenceAdamSmallIdeal.nD Cert.ReferenceAdamSmallIdeal.τ).loc Cert.ReferenceAdamSmallIdeal.main_v149) = v15 c
          ∧ r.2.mem ((c.tc : Thread Cert.ReferenceAdamSmallIdeal.nD Cert.ReferenceAdamSmallIdeal.τ).loc Cert.ReferenceAdamSmallIdeal.main_v174) = v16 c
          ∧ r.2.mem ((c.tc : Thread Cert.ReferenceAdamSmallIdeal.nD Cert.ReferenceAdamSmallIdeal.τ).loc Cert.ReferenceAdamSmallIdeal.main_v199) = v17 c
          ∧ r.2.mem ((c.tc : Thread Cert.ReferenceAdamSmallIdeal.nD Cert.ReferenceAdamSmallIdeal.τ).loc Cert.ReferenceAdamSmallIdeal.main_v224) = v18 c
          ∧ r.2.mem ((c.tc : Thread Cert.ReferenceAdamSmallIdeal.nD Cert.ReferenceAdamSmallIdeal.τ).loc Cert.ReferenceAdamSmallIdeal.main_v5) = v19 c
          ∧ r.2.mem ((c.tc : Thread Cert.ReferenceAdamSmallIdeal.nD Cert.ReferenceAdamSmallIdeal.τ).loc Cert.ReferenceAdamSmallIdeal.main_v30) = v20 c
          ∧ r.2.mem ((c.tc : Thread Cert.ReferenceAdamSmallIdeal.nD Cert.ReferenceAdamSmallIdeal.τ).loc Cert.ReferenceAdamSmallIdeal.main_v55) = v21 c
          ∧ r.2.mem ((c.tc : Thread Cert.ReferenceAdamSmallIdeal.nD Cert.ReferenceAdamSmallIdeal.τ).loc Cert.ReferenceAdamSmallIdeal.main_v80) = v22 c
          ∧ r.2.mem ((c.tc : Thread Cert.ReferenceAdamSmallIdeal.nD Cert.ReferenceAdamSmallIdeal.τ).loc Cert.ReferenceAdamSmallIdeal.main_v105) = v23 c
          ∧ r.2.mem ((c.tc : Thread Cert.ReferenceAdamSmallIdeal.nD Cert.ReferenceAdamSmallIdeal.τ).loc Cert.ReferenceAdamSmallIdeal.main_v130) = v24 c
          ∧ r.2.mem ((c.tc : Thread Cert.ReferenceAdamSmallIdeal.nD Cert.ReferenceAdamSmallIdeal.τ).loc Cert.ReferenceAdamSmallIdeal.main_v155) = v25 c
          ∧ r.2.mem ((c.tc : Thread Cert.ReferenceAdamSmallIdeal.nD Cert.ReferenceAdamSmallIdeal.τ).loc Cert.ReferenceAdamSmallIdeal.main_v180) = v26 c
          ∧ r.2.mem ((c.tc : Thread Cert.ReferenceAdamSmallIdeal.nD Cert.ReferenceAdamSmallIdeal.τ).loc Cert.ReferenceAdamSmallIdeal.main_v205) = v27 c
          ∧ r.2.mem ((c.tc : Thread Cert.ReferenceAdamSmallIdeal.nD Cert.ReferenceAdamSmallIdeal.τ).loc Cert.ReferenceAdamSmallIdeal.main_v11) = v28 c
          ∧ r.2.mem ((c.tc : Thread Cert.ReferenceAdamSmallIdeal.nD Cert.ReferenceAdamSmallIdeal.τ).loc Cert.ReferenceAdamSmallIdeal.main_v36) = v29 c
          ∧ r.2.mem ((c.tc : Thread Cert.ReferenceAdamSmallIdeal.nD Cert.ReferenceAdamSmallIdeal.τ).loc Cert.ReferenceAdamSmallIdeal.main_v61) = v30 c
          ∧ r.2.mem ((c.tc : Thread Cert.ReferenceAdamSmallIdeal.nD Cert.ReferenceAdamSmallIdeal.τ).loc Cert.ReferenceAdamSmallIdeal.main_v86) = v31 c
          ∧ r.2.mem ((c.tc : Thread Cert.ReferenceAdamSmallIdeal.nD Cert.ReferenceAdamSmallIdeal.τ).loc Cert.ReferenceAdamSmallIdeal.main_v111) = v32 c
          ∧ r.2.mem ((c.tc : Thread Cert.ReferenceAdamSmallIdeal.nD Cert.ReferenceAdamSmallIdeal.τ).loc Cert.ReferenceAdamSmallIdeal.main_v136) = v33 c
          ∧ r.2.mem ((c.tc : Thread Cert.ReferenceAdamSmallIdeal.nD Cert.ReferenceAdamSmallIdeal.τ).loc Cert.ReferenceAdamSmallIdeal.main_v161) = v34 c
          ∧ r.2.mem ((c.tc : Thread Cert.ReferenceAdamSmallIdeal.nD Cert.ReferenceAdamSmallIdeal.τ).loc Cert.ReferenceAdamSmallIdeal.main_v186) = v35 c
          ∧ r.2.mem ((c.tc : Thread Cert.ReferenceAdamSmallIdeal.nD Cert.ReferenceAdamSmallIdeal.τ).loc Cert.ReferenceAdamSmallIdeal.main_v211) = v36 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3)
          ∧ r.2.mem ((c.tc : Thread Cert.ReferenceAdamSmallIdeal.nD Cert.ReferenceAdamSmallIdeal.τ).loc Cert.ReferenceAdamSmallIdeal.main_arg4) = m' ((c.tc : Thread Cert.ReferenceAdamSmallIdeal.nD Cert.ReferenceAdamSmallIdeal.τ).loc Cert.ReferenceAdamSmallIdeal.main_arg4)
          ∧ r.2.mem ((c.tc : Thread Cert.ReferenceAdamSmallIdeal.nD Cert.ReferenceAdamSmallIdeal.τ).loc Cert.ReferenceAdamSmallIdeal.main_arg5) = m' ((c.tc : Thread Cert.ReferenceAdamSmallIdeal.nD Cert.ReferenceAdamSmallIdeal.τ).loc Cert.ReferenceAdamSmallIdeal.main_arg5)
          ∧ r.2.mem ((c.tc : Thread Cert.ReferenceAdamSmallIdeal.nD Cert.ReferenceAdamSmallIdeal.τ).loc Cert.ReferenceAdamSmallIdeal.main_arg6) = m' ((c.tc : Thread Cert.ReferenceAdamSmallIdeal.nD Cert.ReferenceAdamSmallIdeal.τ).loc Cert.ReferenceAdamSmallIdeal.main_arg6)
          ∧ r.2.mem ((c.tc : Thread Cert.ReferenceAdamSmallIdeal.nD Cert.ReferenceAdamSmallIdeal.τ).loc Cert.ReferenceAdamSmallIdeal.main_arg7) = m' ((c.tc : Thread Cert.ReferenceAdamSmallIdeal.nD Cert.ReferenceAdamSmallIdeal.τ).loc Cert.ReferenceAdamSmallIdeal.main_arg7)
          ∧ r.2.mem ((c.tc : Thread Cert.ReferenceAdamSmallIdeal.nD Cert.ReferenceAdamSmallIdeal.τ).loc Cert.ReferenceAdamSmallIdeal.main_arg8) = m' ((c.tc : Thread Cert.ReferenceAdamSmallIdeal.nD Cert.ReferenceAdamSmallIdeal.τ).loc Cert.ReferenceAdamSmallIdeal.main_arg8)
          ∧ r.2.mem ((c.tc : Thread Cert.ReferenceAdamSmallIdeal.nD Cert.ReferenceAdamSmallIdeal.τ).loc Cert.ReferenceAdamSmallIdeal.main_arg9) = m' ((c.tc : Thread Cert.ReferenceAdamSmallIdeal.nD Cert.ReferenceAdamSmallIdeal.τ).loc Cert.ReferenceAdamSmallIdeal.main_arg9)
          ∧ r.2.mem ((c.tc : Thread Cert.ReferenceAdamSmallIdeal.nD Cert.ReferenceAdamSmallIdeal.τ).loc Cert.ReferenceAdamSmallIdeal.main_arg10) = m' ((c.tc : Thread Cert.ReferenceAdamSmallIdeal.nD Cert.ReferenceAdamSmallIdeal.τ).loc Cert.ReferenceAdamSmallIdeal.main_arg10)
          ∧ r.2.mem ((c.tc : Thread Cert.ReferenceAdamSmallIdeal.nD Cert.ReferenceAdamSmallIdeal.τ).loc Cert.ReferenceAdamSmallIdeal.main_arg11) = m' ((c.tc : Thread Cert.ReferenceAdamSmallIdeal.nD Cert.ReferenceAdamSmallIdeal.τ).loc Cert.ReferenceAdamSmallIdeal.main_arg11)
          ∧ r.2.mem ((c.tc : Thread Cert.ReferenceAdamSmallIdeal.nD Cert.ReferenceAdamSmallIdeal.τ).loc Cert.ReferenceAdamSmallIdeal.main_arg12) = m' ((c.tc : Thread Cert.ReferenceAdamSmallIdeal.nD Cert.ReferenceAdamSmallIdeal.τ).loc Cert.ReferenceAdamSmallIdeal.main_arg12)
          ∧ r.2.mem ((c.tc : Thread Cert.ReferenceAdamSmallIdeal.nD Cert.ReferenceAdamSmallIdeal.τ).loc Cert.ReferenceAdamSmallIdeal.main_arg13) = m' ((c.tc : Thread Cert.ReferenceAdamSmallIdeal.nD Cert.ReferenceAdamSmallIdeal.τ).loc Cert.ReferenceAdamSmallIdeal.main_arg13)
          ∧ r.2.mem ((c.tc : Thread Cert.ReferenceAdamSmallIdeal.nD Cert.ReferenceAdamSmallIdeal.τ).loc Cert.ReferenceAdamSmallIdeal.main_arg14) = m' ((c.tc : Thread Cert.ReferenceAdamSmallIdeal.nD Cert.ReferenceAdamSmallIdeal.τ).loc Cert.ReferenceAdamSmallIdeal.main_arg14)
          ∧ r.2.mem ((c.tc : Thread Cert.ReferenceAdamSmallIdeal.nD Cert.ReferenceAdamSmallIdeal.τ).loc Cert.ReferenceAdamSmallIdeal.main_arg15) = m' ((c.tc : Thread Cert.ReferenceAdamSmallIdeal.nD Cert.ReferenceAdamSmallIdeal.τ).loc Cert.ReferenceAdamSmallIdeal.main_arg15)
          ∧ r.2.mem ((c.tc : Thread Cert.ReferenceAdamSmallIdeal.nD Cert.ReferenceAdamSmallIdeal.τ).loc Cert.ReferenceAdamSmallIdeal.main_arg16) = m' ((c.tc : Thread Cert.ReferenceAdamSmallIdeal.nD Cert.ReferenceAdamSmallIdeal.τ).loc Cert.ReferenceAdamSmallIdeal.main_arg16)
          ∧ r.2.mem ((c.tc : Thread Cert.ReferenceAdamSmallIdeal.nD Cert.ReferenceAdamSmallIdeal.τ).loc Cert.ReferenceAdamSmallIdeal.main_arg17) = m' ((c.tc : Thread Cert.ReferenceAdamSmallIdeal.nD Cert.ReferenceAdamSmallIdeal.τ).loc Cert.ReferenceAdamSmallIdeal.main_arg17)
          ∧ r.2.mem ((c.tc : Thread Cert.ReferenceAdamSmallIdeal.nD Cert.ReferenceAdamSmallIdeal.τ).loc Cert.ReferenceAdamSmallIdeal.main_arg18) = m' ((c.tc : Thread Cert.ReferenceAdamSmallIdeal.nD Cert.ReferenceAdamSmallIdeal.τ).loc Cert.ReferenceAdamSmallIdeal.main_arg18)
          ∧ r.2.mem ((c.tc : Thread Cert.ReferenceAdamSmallIdeal.nD Cert.ReferenceAdamSmallIdeal.τ).loc Cert.ReferenceAdamSmallIdeal.main_arg19) = m' ((c.tc : Thread Cert.ReferenceAdamSmallIdeal.nD Cert.ReferenceAdamSmallIdeal.τ).loc Cert.ReferenceAdamSmallIdeal.main_arg19)
          ∧ r.2.mem ((c.tc : Thread Cert.ReferenceAdamSmallIdeal.nD Cert.ReferenceAdamSmallIdeal.τ).loc Cert.ReferenceAdamSmallIdeal.main_arg20) = m' ((c.tc : Thread Cert.ReferenceAdamSmallIdeal.nD Cert.ReferenceAdamSmallIdeal.τ).loc Cert.ReferenceAdamSmallIdeal.main_arg20)
          ∧ r.2.mem ((c.tc : Thread Cert.ReferenceAdamSmallIdeal.nD Cert.ReferenceAdamSmallIdeal.τ).loc Cert.ReferenceAdamSmallIdeal.main_arg21) = m' ((c.tc : Thread Cert.ReferenceAdamSmallIdeal.nD Cert.ReferenceAdamSmallIdeal.τ).loc Cert.ReferenceAdamSmallIdeal.main_arg21)
          ∧ r.2.mem ((c.tc : Thread Cert.ReferenceAdamSmallIdeal.nD Cert.ReferenceAdamSmallIdeal.τ).loc Cert.ReferenceAdamSmallIdeal.main_arg22) = m' ((c.tc : Thread Cert.ReferenceAdamSmallIdeal.nD Cert.ReferenceAdamSmallIdeal.τ).loc Cert.ReferenceAdamSmallIdeal.main_arg22)
          ∧ r.2.mem ((c.tc : Thread Cert.ReferenceAdamSmallIdeal.nD Cert.ReferenceAdamSmallIdeal.τ).loc Cert.ReferenceAdamSmallIdeal.main_arg23) = m' ((c.tc : Thread Cert.ReferenceAdamSmallIdeal.nD Cert.ReferenceAdamSmallIdeal.τ).loc Cert.ReferenceAdamSmallIdeal.main_arg23)
          ∧ r.2.mem ((c.tc : Thread Cert.ReferenceAdamSmallIdeal.nD Cert.ReferenceAdamSmallIdeal.τ).loc Cert.ReferenceAdamSmallIdeal.main_arg24) = m' ((c.tc : Thread Cert.ReferenceAdamSmallIdeal.nD Cert.ReferenceAdamSmallIdeal.τ).loc Cert.ReferenceAdamSmallIdeal.main_arg24)
          ∧ r.2.mem ((c.tc : Thread Cert.ReferenceAdamSmallIdeal.nD Cert.ReferenceAdamSmallIdeal.τ).loc Cert.ReferenceAdamSmallIdeal.main_arg25) = m' ((c.tc : Thread Cert.ReferenceAdamSmallIdeal.nD Cert.ReferenceAdamSmallIdeal.τ).loc Cert.ReferenceAdamSmallIdeal.main_arg25)
          ∧ r.2.mem ((c.tc : Thread Cert.ReferenceAdamSmallIdeal.nD Cert.ReferenceAdamSmallIdeal.τ).loc Cert.ReferenceAdamSmallIdeal.main_arg26) = m' ((c.tc : Thread Cert.ReferenceAdamSmallIdeal.nD Cert.ReferenceAdamSmallIdeal.τ).loc Cert.ReferenceAdamSmallIdeal.main_arg26)
          ∧ r.2.mem ((c.tc : Thread Cert.ReferenceAdamSmallIdeal.nD Cert.ReferenceAdamSmallIdeal.τ).loc Cert.ReferenceAdamSmallIdeal.main_arg27) = m' ((c.tc : Thread Cert.ReferenceAdamSmallIdeal.nD Cert.ReferenceAdamSmallIdeal.τ).loc Cert.ReferenceAdamSmallIdeal.main_arg27)
          ∧ r.2.mem ((c.tc : Thread Cert.ReferenceAdamSmallIdeal.nD Cert.ReferenceAdamSmallIdeal.τ).loc Cert.ReferenceAdamSmallIdeal.main_arg28) = m' ((c.tc : Thread Cert.ReferenceAdamSmallIdeal.nD Cert.ReferenceAdamSmallIdeal.τ).loc Cert.ReferenceAdamSmallIdeal.main_arg28)
          ∧ r.2.mem ((c.tc : Thread Cert.ReferenceAdamSmallIdeal.nD Cert.ReferenceAdamSmallIdeal.τ).loc Cert.ReferenceAdamSmallIdeal.main_arg29) = m' ((c.tc : Thread Cert.ReferenceAdamSmallIdeal.nD Cert.ReferenceAdamSmallIdeal.τ).loc Cert.ReferenceAdamSmallIdeal.main_arg29)
          ∧ r.2.mem ((c.tc : Thread Cert.ReferenceAdamSmallIdeal.nD Cert.ReferenceAdamSmallIdeal.τ).loc Cert.ReferenceAdamSmallIdeal.main_arg30) = m' ((c.tc : Thread Cert.ReferenceAdamSmallIdeal.nD Cert.ReferenceAdamSmallIdeal.τ).loc Cert.ReferenceAdamSmallIdeal.main_arg30)
          ∧ r.2.mem ((c.tc : Thread Cert.ReferenceAdamSmallIdeal.nD Cert.ReferenceAdamSmallIdeal.τ).loc Cert.ReferenceAdamSmallIdeal.main_arg31) = m' ((c.tc : Thread Cert.ReferenceAdamSmallIdeal.nD Cert.ReferenceAdamSmallIdeal.τ).loc Cert.ReferenceAdamSmallIdeal.main_arg31)
          ∧ r.2.mem ((c.tc : Thread Cert.ReferenceAdamSmallIdeal.nD Cert.ReferenceAdamSmallIdeal.τ).loc Cert.ReferenceAdamSmallIdeal.main_arg32) = m' ((c.tc : Thread Cert.ReferenceAdamSmallIdeal.nD Cert.ReferenceAdamSmallIdeal.τ).loc Cert.ReferenceAdamSmallIdeal.main_arg32)
          ∧ r.2.mem ((c.tc : Thread Cert.ReferenceAdamSmallIdeal.nD Cert.ReferenceAdamSmallIdeal.τ).loc Cert.ReferenceAdamSmallIdeal.main_arg33) = m' ((c.tc : Thread Cert.ReferenceAdamSmallIdeal.nD Cert.ReferenceAdamSmallIdeal.τ).loc Cert.ReferenceAdamSmallIdeal.main_arg33)
          ∧ r.2.mem ((c.tc : Thread Cert.ReferenceAdamSmallIdeal.nD Cert.ReferenceAdamSmallIdeal.τ).loc Cert.ReferenceAdamSmallIdeal.main_arg34) = m' ((c.tc : Thread Cert.ReferenceAdamSmallIdeal.nD Cert.ReferenceAdamSmallIdeal.τ).loc Cert.ReferenceAdamSmallIdeal.main_arg34)
          ∧ r.2.mem ((c.tc : Thread Cert.ReferenceAdamSmallIdeal.nD Cert.ReferenceAdamSmallIdeal.τ).loc Cert.ReferenceAdamSmallIdeal.main_arg35) = m' ((c.tc : Thread Cert.ReferenceAdamSmallIdeal.nD Cert.ReferenceAdamSmallIdeal.τ).loc Cert.ReferenceAdamSmallIdeal.main_arg35)
          ∧ r.2.mem ((c.tc : Thread Cert.ReferenceAdamSmallIdeal.nD Cert.ReferenceAdamSmallIdeal.τ).loc Cert.ReferenceAdamSmallIdeal.main_arg36) = m' ((c.tc : Thread Cert.ReferenceAdamSmallIdeal.nD Cert.ReferenceAdamSmallIdeal.τ).loc Cert.ReferenceAdamSmallIdeal.main_arg36))

def Claim : Prop :=
  ∃ (hKernel : Cert.Kernel.Facts) (hKernelIdeal : Cert.KernelIdeal.Facts) (hReferenceIdeal : Cert.ReferenceIdeal.Facts) (hKernelDh2 : Cert.KernelDh2.Facts) (hKernelDh2Ideal : Cert.KernelDh2Ideal.Facts) (hReferenceDh2Ideal : Cert.ReferenceDh2Ideal.Facts) (hKernelDwup : Cert.KernelDwup.Facts) (hKernelDwupIdeal : Cert.KernelDwupIdeal.Facts) (hReferenceDwupIdeal : Cert.ReferenceDwupIdeal.Facts) (hKernelDact : Cert.KernelDact.Facts) (hKernelDactIdeal : Cert.KernelDactIdeal.Facts) (hReferenceDactIdeal : Cert.ReferenceDactIdeal.Facts) (hKernelDwdown : Cert.KernelDwdown.Facts) (hKernelDwdownIdeal : Cert.KernelDwdownIdeal.Facts) (hReferenceDwdownIdeal : Cert.ReferenceDwdownIdeal.Facts) (hKernelDyn : Cert.KernelDyn.Facts) (hKernelDynIdeal : Cert.KernelDynIdeal.Facts) (hReferenceDynIdeal : Cert.ReferenceDynIdeal.Facts) (hKernelDwo : Cert.KernelDwo.Facts) (hKernelDwoIdeal : Cert.KernelDwoIdeal.Facts) (hReferenceDwoIdeal : Cert.ReferenceDwoIdeal.Facts) (hKernelDwin : Cert.KernelDwin.Facts) (hKernelDwinIdeal : Cert.KernelDwinIdeal.Facts) (hReferenceDwinIdeal : Cert.ReferenceDwinIdeal.Facts) (hKernelDh1 : Cert.KernelDh1.Facts) (hKernelDh1Ideal : Cert.KernelDh1Ideal.Facts) (hReferenceDh1Ideal : Cert.ReferenceDh1Ideal.Facts) (hKernelAdamWo : Cert.KernelAdamWo.Facts) (hKernelAdamWoIdeal : Cert.KernelAdamWoIdeal.Facts) (hReferenceAdamWoIdeal : Cert.ReferenceAdamWoIdeal.Facts) (hKernelAdamWdown : Cert.KernelAdamWdown.Facts) (hKernelAdamWdownIdeal : Cert.KernelAdamWdownIdeal.Facts) (hReferenceAdamWdownIdeal : Cert.ReferenceAdamWdownIdeal.Facts) (hKernelAdamWukv : Cert.KernelAdamWukv.Facts) (hKernelAdamWukvIdeal : Cert.KernelAdamWukvIdeal.Facts) (hReferenceAdamWukvIdeal : Cert.ReferenceAdamWukvIdeal.Facts) (hKernelAdamWuq : Cert.KernelAdamWuq.Facts) (hKernelAdamWuqIdeal : Cert.KernelAdamWuqIdeal.Facts) (hReferenceAdamWuqIdeal : Cert.ReferenceAdamWuqIdeal.Facts) (hKernelAdamWin : Cert.KernelAdamWin.Facts) (hKernelAdamWinIdeal : Cert.KernelAdamWinIdeal.Facts) (hReferenceAdamWinIdeal : Cert.ReferenceAdamWinIdeal.Facts) (hKernelAdamWup : Cert.KernelAdamWup.Facts) (hKernelAdamWupIdeal : Cert.KernelAdamWupIdeal.Facts) (hReferenceAdamWupIdeal : Cert.ReferenceAdamWupIdeal.Facts) (hKernelAdamConv : Cert.KernelAdamConv.Facts) (hKernelAdamConvIdeal : Cert.KernelAdamConvIdeal.Facts) (hReferenceAdamConvIdeal : Cert.ReferenceAdamConvIdeal.Facts) (hKernelFwd : Cert.KernelFwd.Facts) (hKernelFwdIdeal : Cert.KernelFwdIdeal.Facts) (hReferenceFwdIdeal : Cert.ReferenceFwdIdeal.Facts) (hKernelMix : Cert.KernelMix.Facts) (hKernelMixIdeal : Cert.KernelMixIdeal.Facts) (hReferenceMixIdeal : Cert.ReferenceMixIdeal.Facts) (hKernelAdamSmall : Cert.KernelAdamSmall.Facts) (hKernelAdamSmallIdeal : Cert.KernelAdamSmallIdeal.Facts) (hReferenceAdamSmallIdeal : Cert.ReferenceAdamSmallIdeal.Facts) (hPre_finite : Cert.Pre_finite.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDh2 (hKernelDh2 := hKernelDh2)
    ∧ quiescent_KernelDh2Ideal (hKernelDh2Ideal := hKernelDh2Ideal)
    ∧ quiescent_ReferenceDh2Ideal (hReferenceDh2Ideal := hReferenceDh2Ideal)
    ∧ quiescent_KernelDwup (hKernelDwup := hKernelDwup)
    ∧ quiescent_KernelDwupIdeal (hKernelDwupIdeal := hKernelDwupIdeal)
    ∧ quiescent_ReferenceDwupIdeal (hReferenceDwupIdeal := hReferenceDwupIdeal)
    ∧ quiescent_KernelDact (hKernelDact := hKernelDact)
    ∧ quiescent_KernelDactIdeal (hKernelDactIdeal := hKernelDactIdeal)
    ∧ quiescent_ReferenceDactIdeal (hReferenceDactIdeal := hReferenceDactIdeal)
    ∧ quiescent_KernelDwdown (hKernelDwdown := hKernelDwdown)
    ∧ quiescent_KernelDwdownIdeal (hKernelDwdownIdeal := hKernelDwdownIdeal)
    ∧ quiescent_ReferenceDwdownIdeal (hReferenceDwdownIdeal := hReferenceDwdownIdeal)
    ∧ quiescent_KernelDyn (hKernelDyn := hKernelDyn)
    ∧ quiescent_KernelDynIdeal (hKernelDynIdeal := hKernelDynIdeal)
    ∧ quiescent_ReferenceDynIdeal (hReferenceDynIdeal := hReferenceDynIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDh1 (hKernelDh1 := hKernelDh1)
    ∧ quiescent_KernelDh1Ideal (hKernelDh1Ideal := hKernelDh1Ideal)
    ∧ quiescent_ReferenceDh1Ideal (hReferenceDh1Ideal := hReferenceDh1Ideal)
    ∧ quiescent_KernelAdamWo (hKernelAdamWo := hKernelAdamWo)
    ∧ quiescent_KernelAdamWoIdeal (hKernelAdamWoIdeal := hKernelAdamWoIdeal)
    ∧ quiescent_ReferenceAdamWoIdeal (hReferenceAdamWoIdeal := hReferenceAdamWoIdeal)
    ∧ quiescent_KernelAdamWdown (hKernelAdamWdown := hKernelAdamWdown)
    ∧ quiescent_KernelAdamWdownIdeal (hKernelAdamWdownIdeal := hKernelAdamWdownIdeal)
    ∧ quiescent_ReferenceAdamWdownIdeal (hReferenceAdamWdownIdeal := hReferenceAdamWdownIdeal)
    ∧ quiescent_KernelAdamWukv (hKernelAdamWukv := hKernelAdamWukv)
    ∧ quiescent_KernelAdamWukvIdeal (hKernelAdamWukvIdeal := hKernelAdamWukvIdeal)
    ∧ quiescent_ReferenceAdamWukvIdeal (hReferenceAdamWukvIdeal := hReferenceAdamWukvIdeal)
    ∧ quiescent_KernelAdamWuq (hKernelAdamWuq := hKernelAdamWuq)
    ∧ quiescent_KernelAdamWuqIdeal (hKernelAdamWuqIdeal := hKernelAdamWuqIdeal)
    ∧ quiescent_ReferenceAdamWuqIdeal (hReferenceAdamWuqIdeal := hReferenceAdamWuqIdeal)
    ∧ quiescent_KernelAdamWin (hKernelAdamWin := hKernelAdamWin)
    ∧ quiescent_KernelAdamWinIdeal (hKernelAdamWinIdeal := hKernelAdamWinIdeal)
    ∧ quiescent_ReferenceAdamWinIdeal (hReferenceAdamWinIdeal := hReferenceAdamWinIdeal)
    ∧ quiescent_KernelAdamWup (hKernelAdamWup := hKernelAdamWup)
    ∧ quiescent_KernelAdamWupIdeal (hKernelAdamWupIdeal := hKernelAdamWupIdeal)
    ∧ quiescent_ReferenceAdamWupIdeal (hReferenceAdamWupIdeal := hReferenceAdamWupIdeal)
    ∧ quiescent_KernelAdamConv (hKernelAdamConv := hKernelAdamConv)
    ∧ quiescent_KernelAdamConvIdeal (hKernelAdamConvIdeal := hKernelAdamConvIdeal)
    ∧ quiescent_ReferenceAdamConvIdeal (hReferenceAdamConvIdeal := hReferenceAdamConvIdeal)
    ∧ quiescent_KernelFwd (hKernelFwd := hKernelFwd)
    ∧ quiescent_KernelFwdIdeal (hKernelFwdIdeal := hKernelFwdIdeal)
    ∧ quiescent_KernelFwdIdeal_pre_finite17 (hKernelFwdIdeal := hKernelFwdIdeal) (hPre_finite17 := hPre_finite17)
    ∧ quiescent_ReferenceFwdIdeal (hReferenceFwdIdeal := hReferenceFwdIdeal)
    ∧ quiescent_ReferenceFwdIdeal_pre_finite17 (hReferenceFwdIdeal := hReferenceFwdIdeal) (hPre_finite17 := hPre_finite17)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDh2_KernelDh2Ideal
    ∧ algebraic_KernelDh2Ideal_ReferenceDh2Ideal (hKernelDh2Ideal := hKernelDh2Ideal) (hReferenceDh2Ideal := hReferenceDh2Ideal)
    ∧ preserves_KernelDwup_KernelDwupIdeal
    ∧ algebraic_KernelDwupIdeal_ReferenceDwupIdeal (hKernelDwupIdeal := hKernelDwupIdeal) (hReferenceDwupIdeal := hReferenceDwupIdeal)
    ∧ preserves_KernelDact_KernelDactIdeal
    ∧ algebraic_KernelDactIdeal_ReferenceDactIdeal (hKernelDactIdeal := hKernelDactIdeal) (hReferenceDactIdeal := hReferenceDactIdeal)
    ∧ preserves_KernelDwdown_KernelDwdownIdeal
    ∧ algebraic_KernelDwdownIdeal_ReferenceDwdownIdeal (hKernelDwdownIdeal := hKernelDwdownIdeal) (hReferenceDwdownIdeal := hReferenceDwdownIdeal)
    ∧ preserves_KernelDyn_KernelDynIdeal
    ∧ algebraic_KernelDynIdeal_ReferenceDynIdeal (hKernelDynIdeal := hKernelDynIdeal) (hReferenceDynIdeal := hReferenceDynIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDh1_KernelDh1Ideal
    ∧ algebraic_KernelDh1Ideal_ReferenceDh1Ideal (hKernelDh1Ideal := hKernelDh1Ideal) (hReferenceDh1Ideal := hReferenceDh1Ideal)
    ∧ preserves_KernelAdamWo_KernelAdamWoIdeal
    ∧ algebraic_KernelAdamWoIdeal_ReferenceAdamWoIdeal (hKernelAdamWoIdeal := hKernelAdamWoIdeal) (hReferenceAdamWoIdeal := hReferenceAdamWoIdeal)
    ∧ preserves_KernelAdamWdown_KernelAdamWdownIdeal
    ∧ algebraic_KernelAdamWdownIdeal_ReferenceAdamWdownIdeal (hKernelAdamWdownIdeal := hKernelAdamWdownIdeal) (hReferenceAdamWdownIdeal := hReferenceAdamWdownIdeal)
    ∧ preserves_KernelAdamWukv_KernelAdamWukvIdeal
    ∧ algebraic_KernelAdamWukvIdeal_ReferenceAdamWukvIdeal (hKernelAdamWukvIdeal := hKernelAdamWukvIdeal) (hReferenceAdamWukvIdeal := hReferenceAdamWukvIdeal)
    ∧ preserves_KernelAdamWuq_KernelAdamWuqIdeal
    ∧ algebraic_KernelAdamWuqIdeal_ReferenceAdamWuqIdeal (hKernelAdamWuqIdeal := hKernelAdamWuqIdeal) (hReferenceAdamWuqIdeal := hReferenceAdamWuqIdeal)
    ∧ preserves_KernelAdamWin_KernelAdamWinIdeal
    ∧ algebraic_KernelAdamWinIdeal_ReferenceAdamWinIdeal (hKernelAdamWinIdeal := hKernelAdamWinIdeal) (hReferenceAdamWinIdeal := hReferenceAdamWinIdeal)
    ∧ preserves_KernelAdamWup_KernelAdamWupIdeal
    ∧ algebraic_KernelAdamWupIdeal_ReferenceAdamWupIdeal (hKernelAdamWupIdeal := hKernelAdamWupIdeal) (hReferenceAdamWupIdeal := hReferenceAdamWupIdeal)
    ∧ preserves_KernelAdamConv_KernelAdamConvIdeal
    ∧ algebraic_KernelAdamConvIdeal_ReferenceAdamConvIdeal (hKernelAdamConvIdeal := hKernelAdamConvIdeal) (hReferenceAdamConvIdeal := hReferenceAdamConvIdeal)
    ∧ preserves_KernelFwd_KernelFwdIdeal
    ∧ algebraic_KernelFwdIdeal_ReferenceFwdIdeal_pre_finite17 (hKernelFwdIdeal := hKernelFwdIdeal) (hReferenceFwdIdeal := hReferenceFwdIdeal) (hPre_finite17 := hPre_finite17)
    ∧ preserves_KernelMix_KernelMixIdeal
    ∧ algebraic_KernelMixIdeal_ReferenceMixIdeal (hKernelMixIdeal := hKernelMixIdeal) (hReferenceMixIdeal := hReferenceMixIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
-- ==== Pre_finite.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg4 : FVec F S8192x8x64 .f32) (main_arg5 : FVec F S8192x8x64 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  let main_v24 : FVec F S8192x8x64 .f32 := Host.absf main_arg5
  let main_cst_8 : FVec F S_ .f32 := constant S_ .f32 0x7F800000#32
  let main_v25 : FVec F S8192x8x64 .f32 := broadcastInDim S8192x8x64 ![] bcast_S_S8192x8x64 main_cst_8
  let main_v26 : IVec S8192x8x64 1 := cmpf .olt main_v24 main_v25
  let main_c_9 : IVec S_ 1 := constantI S_ 1 1#1
  let main_v27 : IVec S_ 1 := (fun x v => Host.reduce IntOp.andi x v reducesTo_S8192x8x64_S_d0_1_2 h_S_) main_v26 main_c_9
  let main_v28 : IVec S_ 1 := andi main_v23 main_v27
  main_v28

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) (main_arg5 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Pre_finite17.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg4 : FVec F S8192x8x64 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  main_v23

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_v13 main_v16
-- ==== Kernel.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩
abbrev S8x8192x8192 : Shape := ⟨3, ![8, 8192, 8192]⟩
abbrev S8192x8192x8 : Shape := ⟨3, ![8192, 8192, 8]⟩
abbrev S8x8192 : Shape := ⟨2, ![8, 8192]⟩
abbrev S8x8192x1 : Shape := ⟨3, ![8, 8192, 1]⟩
abbrev S8x64x8192 : Shape := ⟨3, ![8, 64, 8192]⟩
abbrev S8192x8x1 : Shape := ⟨3, ![8192, 8, 1]⟩
abbrev S8192x8 : Shape := ⟨2, ![8192, 8]⟩
abbrev S8192x1x32 : Shape := ⟨3, ![8192, 1, 32]⟩
abbrev S8192x8x30 : Shape := ⟨3, ![8192, 8, 30]⟩
abbrev S8192x8x128 : Shape := ⟨3, ![8192, 8, 128]⟩
abbrev S8192x1024 : Shape := ⟨2, ![8192, 1024]⟩
abbrev S8192x8x2 : Shape := ⟨3, ![8192, 8, 2]⟩
abbrev S8192x8x62 : Shape := ⟨3, ![8192, 8, 62]⟩
abbrev S8192x256 : Shape := ⟨2, ![8192, 256]⟩
abbrev S512x256 : Shape := ⟨2, ![512, 256]⟩
abbrev S1024x128 : Shape := ⟨2, ![1024, 128]⟩
abbrev S512x128 : Shape := ⟨2, ![512, 128]⟩
abbrev S512x1024 : Shape := ⟨2, ![512, 1024]⟩

abbrev nBuf : Space → Nat
  | .hbm => 101
  | .vmem => 14
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x8x64, .f32⟩
  | .hbm, ⟨6, _⟩ => ⟨S_, .f32⟩
  | .hbm, ⟨7, _⟩ => ⟨S_, .f32⟩
  | .hbm, ⟨8, _⟩ => ⟨S8x8192x8192, .f32⟩
  | .hbm, ⟨9, _⟩ => ⟨S8192x8192x8, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x64x8192, .f32⟩
  | .hbm, ⟨27, _⟩ => ⟨S8192x8x64, .f32⟩
  | .hbm, ⟨28, _⟩ => ⟨S8x8192x1, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8192x8x1, .f32⟩
  | .hbm, ⟨33, _⟩ => ⟨S8192x8x64, .f32⟩
  | .hbm, ⟨34, _⟩ => ⟨S_, .f32⟩
  | .hbm, ⟨35, _⟩ => ⟨S8192x8, .f32⟩
  | .hbm, ⟨36, _⟩ => ⟨S8192x8x1, .f32⟩
  | .hbm, ⟨37, _⟩ => ⟨S8192x8x1, .bf16⟩
  | .hbm, ⟨38, _⟩ => ⟨S8192x8x1, .f32⟩
  | .hbm, ⟨39, _⟩ => ⟨S8192x8x1, .f32⟩
  | .hbm, ⟨40, _⟩ => ⟨S8192x8x1, .bf16⟩
  | .hbm, ⟨41, _⟩ => ⟨S8192x8x1, .bf16⟩
  | .hbm, ⟨42, _⟩ => ⟨S8192x8x1, .f32⟩
  | .hbm, ⟨43, _⟩ => ⟨S8192x8x1, .f32⟩
  | .hbm, ⟨44, _⟩ => ⟨S8192x8x1, .bf16⟩
  | .hbm, ⟨45, _⟩ => ⟨S_, .f32⟩
  | .hbm, ⟨46, _⟩ => ⟨S_, .f32⟩
  | .hbm, ⟨47, _⟩ => ⟨S8192x32, .bf16⟩
  | .hbm, ⟨48, _⟩ => ⟨S8192x1x32, .bf16⟩
  | .hbm, ⟨49, _⟩ => ⟨S8192x8x32, .bf16⟩
  | .hbm, ⟨50, _⟩ => ⟨S8192x8x64, .f32⟩
  | .hbm, ⟨51, _⟩ => ⟨S8192x8x64, .f32⟩
  | .hbm, ⟨52, _⟩ => ⟨S8192x8x64, .bf16⟩
  | .hbm, ⟨53, _⟩ => ⟨S8192x8x32, .f32⟩
  | .hbm, ⟨54, _⟩ => ⟨S8192x8x32, .f32⟩
  | .hbm, ⟨55, _⟩ => ⟨S8192x8x32, .bf16⟩
  | .hbm, ⟨56, _⟩ => ⟨S8192x8x1, .bf16⟩
  | .hbm, ⟨57, _⟩ => ⟨S8192x8x1, .bf16⟩
  | .hbm, ⟨58, _⟩ => ⟨S_, .bf16⟩
  | .hbm, ⟨59, _⟩ => ⟨S8192x8x30, .bf16⟩
  | .hbm, ⟨60, _⟩ => ⟨S8192x8x128, .bf16⟩
  | .hbm, ⟨61, _⟩ => ⟨S8192x1024, .bf16⟩
  | .hbm, ⟨62, _⟩ => ⟨S8192x8x64, .bf16⟩
  | .hbm, ⟨63, _⟩ => ⟨S_, .bf16⟩
  | .hbm, ⟨64, _⟩ => ⟨S8192x8x2, .bf16⟩
  | .hbm, ⟨65, _⟩ => ⟨S_, .bf16⟩
  | .hbm, ⟨66, _⟩ => ⟨S8192x8x30, .bf16⟩
  | .hbm, ⟨67, _⟩ => ⟨S8192x8x128, .bf16⟩
  | .hbm, ⟨68, _⟩ => ⟨S8192x1024, .bf16⟩
  | .hbm, ⟨69, _⟩ => ⟨S_, .bf16⟩
  | .hbm, ⟨70, _⟩ => ⟨S8192x8x2, .bf16⟩
  | .hbm, ⟨71, _⟩ => ⟨S_, .bf16⟩
  | .hbm, ⟨72, _⟩ => ⟨S8192x8x62, .bf16⟩
  | .hbm, ⟨73, _⟩ => ⟨S8192x8x64, .bf16⟩
  | .hbm, ⟨74, _⟩ => ⟨S8192x8x128, .bf16⟩
  | .hbm, ⟨75, _⟩ => ⟨S8192x1024, .bf16⟩
  | .hbm, ⟨76, _⟩ => ⟨S8192x8x1, .bf16⟩
  | .hbm, ⟨77, _⟩ => ⟨S8192x8x1, .bf16⟩
  | .hbm, ⟨78, _⟩ => ⟨S_, .bf16⟩
  | .hbm, ⟨79, _⟩ => ⟨S8192x8x62, .bf16⟩
  | .hbm, ⟨80, _⟩ => ⟨S8192x8x64, .bf16⟩
  | .hbm, ⟨81, _⟩ => ⟨S8192x8x128, .bf16⟩
  | .hbm, ⟨82, _⟩ => ⟨S8192x1024, .bf16⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x8x128, .f32⟩
  | .hbm, ⟨87, _⟩ => ⟨S_, .f32⟩
  | .hbm, ⟨88, _⟩ => ⟨S8192x8x128, .f32⟩
  | .hbm, ⟨89, _⟩ => ⟨S8192x8x128, .f32⟩
  | .hbm, ⟨90, _⟩ => ⟨S8192x8x128, .f32⟩
  | .hbm, ⟨91, _⟩ => ⟨S8192x8x128, .f32⟩
  | .hbm, ⟨92, _⟩ => ⟨S8192x8x128, .f32⟩
  | .hbm, ⟨93, _⟩ => ⟨S8192x8x64, .f32⟩
  | .hbm, ⟨94, _⟩ => ⟨S8192x8x32, .f32⟩
  | .hbm, ⟨95, _⟩ => ⟨S8192x8x64, .f32⟩
  | .hbm, ⟨96, _⟩ => ⟨S8192x8x32, .f32⟩
  | .hbm, ⟨97, _⟩ => ⟨S_, .f32⟩
  | .hbm, ⟨98, _⟩ => ⟨S8192x32, .f32⟩
  | .hbm, ⟨99, _⟩ => ⟨S8192x8x128, .f32⟩
  | .hbm, ⟨100, _⟩ => ⟨S8192x8x64, .f32⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S8192x256, .f32⟩
  | .local _ .vmem, ⟨9, _⟩ => ⟨S8192x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65_0 : Ref sig .tc := ⟨.hbm, 83, rfl⟩
abbrev main_v65_1 : Ref sig .tc := ⟨.hbm, 84, rfl⟩
abbrev main_v65_2 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_5 : BitVec 32 := 0#32
  let c8_i32 : BitVec 32 := 8#32
  let v7 : BitVec 32 := Scalar.addi c0_i32_5 c8_i32
  let c1_i32 : BitVec 32 := 1#32
  ⟨c0_i32_5, v7, c1_i32⟩
def k0_mult1 (k0_t1 : Fin k0_t1_loop.trips) : BitVec 32 :=
  let c0_i32_5 : BitVec 32 := 0#32
  let c1_i32 : BitVec 32 := 1#32
  let arg9 : BitVec 32 := Scf.iv c0_i32_5 c1_i32 k0_t1
  let c1024_i32 : BitVec 32 := 1024#32
  let v8 : BitVec 32 := Scalar.muli arg9 c1024_i32
  v8
def k0_off1 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c1024_i32 : BitVec 32 := 1024#32
  let v8 : BitVec 32 := Scalar.muli arg9 c1024_i32
  let v9 : BitVec 32 := v8
  let v10 : Index := Scalar.indexCast v9
  let c0_7 : Index := 0#32
  ![v10.toNat, 0]
def k0_off2 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c1024_i32 : BitVec 32 := 1024#32
  let v8 : BitVec 32 := Scalar.muli arg9 c1024_i32
  let v9 : BitVec 32 := v8
  let v13 : Index := Scalar.indexCast v9
  let c128 : Index := 128#32
  ![v13.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x8x64 : Shape := ⟨3, ![8192, 8, 64]⟩
abbrev S8192x8x32 : Shape := ⟨3, ![8192, 8, 32]⟩
abbrev S8192x32 : Shape := ⟨2, ![8192, 32]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x64 : Shape := ⟨3, ![8, 8192, 64]⟩

abbrev nBuf : Space → Nat
  | .hbm => 81
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x8x64, .f32⟩
  | .hbm, ⟨6, _⟩ => ⟨S8x8192x8192, .f32⟩
  | .hbm, ⟨7, _⟩ => ⟨S8192x8192x8, .f32⟩
  | .hbm, ⟨8, _⟩ => ⟨S8x8192x8192, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .i1⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S_, .f32⟩
  | .hbm, ⟨22, _⟩ => ⟨S8x8192, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S8x8192, .i1⟩
  | .hbm, ⟨27, _⟩ => ⟨S_, .f32⟩
  | .hbm, ⟨28, _⟩ => ⟨S8x8192, .f32⟩
  | .hbm, ⟨29, _⟩ => ⟨S8x8192, .i1⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8x64x8192, .f32⟩
  | .hbm, ⟨52, _⟩ => ⟨S8192x8x64, .f32⟩
  | .hbm, ⟨53, _⟩ => ⟨S8x64x8192, .f32⟩
  | .hbm, ⟨54, _⟩ => ⟨S8x8192x8192, .f32⟩
  | .hbm, ⟨55, _⟩ => ⟨S8x64x8192, .f32⟩
  | .hbm, ⟨56, _⟩ => ⟨S8192x8x64, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192x8192, .f32⟩
  | .hbm, ⟨73, _⟩ => ⟨S8x8192x8192, .f32⟩
  | .hbm, ⟨74, _⟩ => ⟨S8192x8192x8, .f32⟩
  | .hbm, ⟨75, _⟩ => ⟨S8192x8x32, .f32⟩
  | .hbm, ⟨76, _⟩ => ⟨S8192x32, .f32⟩
  | .hbm, ⟨77, _⟩ => ⟨S8x8192x64, .f32⟩
  | .hbm, ⟨78, _⟩ => ⟨S8192x8x64, .f32⟩
  | .hbm, ⟨79, _⟩ => ⟨S8x8192x64, .f32⟩
  | .hbm, ⟨80, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== KernelDh2.lean ====
abbrev S1024x5632 : Shape := ⟨2, ![1024, 5632]⟩
abbrev S8192x5632 : Shape := ⟨2, ![8192, 5632]⟩
abbrev S5632x1024 : Shape := ⟨2, ![5632, 1024]⟩
abbrev S8x704x1024 : Shape := ⟨3, ![8, 704, 1024]⟩
abbrev S_ : Shape := ⟨0, ![]⟩
abbrev S8x768x1024 : Shape := ⟨3, ![8, 768, 1024]⟩
abbrev S8192x2x4x704 : Shape := ⟨4, ![8192, 2, 4, 704]⟩
abbrev S2x8192x4x704 : Shape := ⟨4, ![2, 8192, 4, 704]⟩
abbrev S2x8192x4x768 : Shape := ⟨4, ![2, 8192, 4, 768]⟩
abbrev S2x8192x3072 : Shape := ⟨3, ![2, 8192, 3072]⟩
abbrev S8192x1024 : Shape := ⟨2, ![8192, 1024]⟩
abbrev S1x2048x768 : Shape := ⟨3, ![1, 2048, 768]⟩
abbrev S1x768x1024 : Shape := ⟨3, ![1, 768, 1024]⟩
abbrev S2048x1024 : Shape := ⟨2, ![2048, 1024]⟩
abbrev S2048x768 : Shape := ⟨2, ![2048, 768]⟩
abbrev S768x1024 : Shape := ⟨2, ![768, 1024]⟩

abbrev nBuf : Space → Nat
  | .hbm => 16
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S5632x1024, .f32⟩
  | .hbm, ⟨3, _⟩ => ⟨S5632x1024, .bf16⟩
  | .hbm, ⟨4, _⟩ => ⟨S8x704x1024, .bf16⟩
  | .hbm, ⟨5, _⟩ => ⟨S_, .i32⟩
  | .hbm, ⟨6, _⟩ => ⟨S_, .bf16⟩
  | .hbm, ⟨7, _⟩ => ⟨S8x768x1024, .bf16⟩
  | .hbm, ⟨8, _⟩ => ⟨S8192x5632, .bf16⟩
  | .hbm, ⟨9, _⟩ => ⟨S8192x2x4x704, .bf16⟩
  | .hbm, ⟨10, _⟩ => ⟨S2x8192x4x704, .bf16⟩
  | .hbm, ⟨11, _⟩ => ⟨S_, .i32⟩
  | .hbm, ⟨12, _⟩ => ⟨S_, .bf16⟩
  | .hbm, ⟨13, _⟩ => ⟨S2x8192x4x768, .bf16⟩
  | .hbm, ⟨14, _⟩ => ⟨S2x8192x3072, .bf16⟩
  | .hbm, ⟨15, _⟩ => ⟨S8192x1024, .f32⟩
  | .local _ .vmem, ⟨0, _⟩ => ⟨S1x2048x768, .bf16⟩
  | .local _ .vmem, ⟨1, _⟩ => ⟨S1x2048x768, .bf16⟩
  | .local _ .vmem, ⟨2, _⟩ => ⟨S1x768x1024, .bf16⟩
  | .local _ .vmem, ⟨3, _⟩ => ⟨S1x768x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDh2Ideal.lean ====
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDwup.lean ====
abbrev S8192x1024 : Shape := ⟨2, ![8192, 1024]⟩
abbrev S8192x5632 : Shape := ⟨2, ![8192, 5632]⟩
abbrev S8192x2x4x704 : Shape := ⟨4, ![8192, 2, 4, 704]⟩
abbrev S2x8192x4x704 : Shape := ⟨4, ![2, 8192, 4, 704]⟩
abbrev S_ : Shape := ⟨0, ![]⟩
abbrev S2x8192x4x768 : Shape := ⟨4, ![2, 8192, 4, 768]⟩
abbrev S2x8192x3072 : Shape := ⟨3, ![2, 8192, 3072]⟩
abbrev S8x768x1024 : Shape := ⟨3, ![8, 768, 1024]⟩
abbrev S1x2048x768 : Shape := ⟨3, ![1, 2048, 768]⟩
abbrev S2048x1024 : Shape := ⟨2, ![2048, 1024]⟩
abbrev S1x768x1024 : Shape := ⟨3, ![1, 768, 1024]⟩
abbrev S768x1024 : Shape := ⟨2, ![768, 1024]⟩
abbrev S2048x768 : Shape := ⟨2, ![2048, 768]⟩
abbrev S8x704x1024 : Shape := ⟨3, ![8, 704, 1024]⟩
abbrev S5632x1024 : Shape := ⟨2, ![5632, 1024]⟩
abbrev S1024x5632 : Shape := ⟨2, ![1024, 5632]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x5632, .bf16⟩
  | .hbm, ⟨3, _⟩ => ⟨S8192x2x4x704, .bf16⟩
  | .hbm, ⟨4, _⟩ => ⟨S2x8192x4x704, .bf16⟩
  | .hbm, ⟨5, _⟩ => ⟨S_, .i32⟩
  | .hbm, ⟨6, _⟩ => ⟨S_, .bf16⟩
  | .hbm, ⟨7, _⟩ => ⟨S2x8192x4x768, .bf16⟩
  | .hbm, ⟨8, _⟩ => ⟨S2x8192x3072, .bf16⟩
  | .hbm, ⟨9, _⟩ => ⟨S8192x1024, .bf16⟩
  | .hbm, ⟨10, _⟩ => ⟨S8x768x1024, .bf16⟩
  | .hbm, ⟨11, _⟩ => ⟨S8x704x1024, .bf16⟩
  | .hbm, ⟨12, _⟩ => ⟨S5632x1024, .bf16⟩
  | .hbm, ⟨13, _⟩ => ⟨S5632x1024, .f32⟩
  | .hbm, ⟨14, _⟩ => ⟨S1024x5632, .f32⟩
  | .local _ .vmem, ⟨0, _⟩ => ⟨S1x2048x768, .bf16⟩
  | .local _ .vmem, ⟨1, _⟩ => ⟨S1x2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S768x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceDwupIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDact.lean ====
abbrev S2816x1024 : Shape := ⟨2, ![2816, 1024]⟩
abbrev S8192x1024 : Shape := ⟨2, ![8192, 1024]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S8192x3072 : Shape := ⟨2, ![8192, 3072]⟩
abbrev S2048x1024 : Shape := ⟨2, ![2048, 1024]⟩
abbrev S1536x1024 : Shape := ⟨2, ![1536, 1024]⟩
abbrev S2048x1536 : Shape := ⟨2, ![2048, 1536]⟩
abbrev S8192x4x768 : Shape := ⟨3, ![8192, 4, 768]⟩
abbrev S8192x4x704 : Shape := ⟨3, ![8192, 4, 704]⟩
abbrev S8192x2816 : Shape := ⟨2, ![8192, 2816]⟩

abbrev nBuf : Space → Nat
  | .hbm => 14
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S2816x1024, .bf16⟩
  | .hbm, ⟨3, _⟩ => ⟨S4x704x1024, .bf16⟩
  | .hbm, ⟨4, _⟩ => ⟨S_, .i32⟩
  | .hbm, ⟨5, _⟩ => ⟨S_, .bf16⟩
  | .hbm, ⟨6, _⟩ => ⟨S4x768x1024, .bf16⟩
  | .hbm, ⟨7, _⟩ => ⟨S3072x1024, .bf16⟩
  | .hbm, ⟨8, _⟩ => ⟨S8192x1024, .bf16⟩
  | .hbm, ⟨9, _⟩ => ⟨S8192x3072, .bf16⟩
  | .hbm, ⟨10, _⟩ => ⟨S8192x4x768, .bf16⟩
  | .hbm, ⟨11, _⟩ => ⟨S8192x4x704, .bf16⟩
  | .hbm, ⟨12, _⟩ => ⟨S8192x2816, .bf16⟩
  | .hbm, ⟨13, _⟩ => ⟨S8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1536, .bf16⟩
  | .local _ .vmem, ⟨5, _⟩ => ⟨S2048x1536, .bf16⟩
  | .local _ .vmem, ⟨6, _⟩ => ⟨S2048x1536, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDactIdeal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDwdown.lean ====
abbrev S8192x2816 : Shape := ⟨2, ![8192, 2816]⟩
abbrev S8192x1024 : Shape := ⟨2, ![8192, 1024]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩
abbrev S4x768x1024 : Shape := ⟨3, ![4, 768, 1024]⟩
abbrev S4x704x1024 : Shape := ⟨3, ![4, 704, 1024]⟩
abbrev S2816x1024 : Shape := ⟨2, ![2816, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x4x704, .bf16⟩
  | .hbm, ⟨4, _⟩ => ⟨S_, .i32⟩
  | .hbm, ⟨5, _⟩ => ⟨S_, .bf16⟩
  | .hbm, ⟨6, _⟩ => ⟨S8192x4x768, .bf16⟩
  | .hbm, ⟨7, _⟩ => ⟨S8192x3072, .bf16⟩
  | .hbm, ⟨8, _⟩ => ⟨S8192x1024, .bf16⟩
  | .hbm, ⟨9, _⟩ => ⟨S3072x1024, .bf16⟩
  | .hbm, ⟨10, _⟩ => ⟨S4x768x1024, .bf16⟩
  | .hbm, ⟨11, _⟩ => ⟨S4x704x1024, .bf16⟩
  | .hbm, ⟨12, _⟩ => ⟨S2816x1024, .bf16⟩
  | .hbm, ⟨13, _⟩ => ⟨S2816x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwdownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDyn.lean ====
abbrev S1024x1024 : Shape := ⟨2, ![1024, 1024]⟩
abbrev S8192x1024 : Shape := ⟨2, ![8192, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDynIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDwo.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwoIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwin.lean ====
abbrev S8192x1024 : Shape := ⟨2, ![8192, 1024]⟩
abbrev S8192x2208 : Shape := ⟨2, ![8192, 2208]⟩
abbrev S8192x2176 : Shape := ⟨2, ![8192, 2176]⟩
abbrev S_ : Shape := ⟨0, ![]⟩
abbrev S8192x64 : Shape := ⟨2, ![8192, 64]⟩
abbrev S8192x32 : Shape := ⟨2, ![8192, 32]⟩
abbrev S8192x2304 : Shape := ⟨2, ![8192, 2304]⟩
abbrev S2304x1024 : Shape := ⟨2, ![2304, 1024]⟩
abbrev S2048x1152 : Shape := ⟨2, ![2048, 1152]⟩
abbrev S2048x1024 : Shape := ⟨2, ![2048, 1024]⟩
abbrev S1152x1024 : Shape := ⟨2, ![1152, 1024]⟩
abbrev S2176x1024 : Shape := ⟨2, ![2176, 1024]⟩
abbrev S32x1024 : Shape := ⟨2, ![32, 1024]⟩
abbrev S2208x1024 : Shape := ⟨2, ![2208, 1024]⟩
abbrev S1024x2208 : Shape := ⟨2, ![1024, 2208]⟩

abbrev nBuf : Space → Nat
  | .hbm => 17
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2208, .f32⟩
  | .hbm, ⟨2, _⟩ => ⟨S8192x2208, .bf16⟩
  | .hbm, ⟨3, _⟩ => ⟨S8192x2176, .bf16⟩
  | .hbm, ⟨4, _⟩ => ⟨S_, .bf16⟩
  | .hbm, ⟨5, _⟩ => ⟨S8192x64, .bf16⟩
  | .hbm, ⟨6, _⟩ => ⟨S8192x32, .bf16⟩
  | .hbm, ⟨7, _⟩ => ⟨S_, .bf16⟩
  | .hbm, ⟨8, _⟩ => ⟨S8192x32, .bf16⟩
  | .hbm, ⟨9, _⟩ => ⟨S8192x2304, .bf16⟩
  | .hbm, ⟨10, _⟩ => ⟨S8192x1024, .bf16⟩
  | .hbm, ⟨11, _⟩ => ⟨S2304x1024, .bf16⟩
  | .hbm, ⟨12, _⟩ => ⟨S2176x1024, .bf16⟩
  | .hbm, ⟨13, _⟩ => ⟨S32x1024, .bf16⟩
  | .hbm, ⟨14, _⟩ => ⟨S2208x1024, .bf16⟩
  | .hbm, ⟨15, _⟩ => ⟨S2208x1024, .f32⟩
  | .hbm, ⟨16, _⟩ => ⟨S1024x2208, .f32⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwinIdeal.lean ====
abbrev S8192x1024 : Shape := ⟨2, ![8192, 1024]⟩
abbrev S8192x2208 : Shape := ⟨2, ![8192, 2208]⟩
abbrev S_ : Shape := ⟨0, ![]⟩
abbrev S1024x2208 : Shape := ⟨2, ![1024, 2208]⟩
abbrev S2208x1024 : Shape := ⟨2, ![2208, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2208, .f32⟩
  | .hbm, ⟨2, _⟩ => ⟨S_, .f32⟩
  | .hbm, ⟨3, _⟩ => ⟨S1024x2208, .f32⟩
  | .hbm, ⟨4, _⟩ => ⟨S8192x2208, .f32⟩
  | .hbm, ⟨5, _⟩ => ⟨S2208x1024, .f32⟩
  | .hbm, ⟨6, _⟩ => ⟨S1024x2208, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDh1.lean ====
abbrev S1024x2208 : Shape := ⟨2, ![1024, 2208]⟩
abbrev S8192x2208 : Shape := ⟨2, ![8192, 2208]⟩
abbrev S2208x1024 : Shape := ⟨2, ![2208, 1024]⟩
abbrev S2176x1024 : Shape := ⟨2, ![2176, 1024]⟩
abbrev S_ : Shape := ⟨0, ![]⟩
abbrev S64x1024 : Shape := ⟨2, ![64, 1024]⟩
abbrev S32x1024 : Shape := ⟨2, ![32, 1024]⟩
abbrev S2304x1024 : Shape := ⟨2, ![2304, 1024]⟩
abbrev S8192x2176 : Shape := ⟨2, ![8192, 2176]⟩
abbrev S8192x64 : Shape := ⟨2, ![8192, 64]⟩
abbrev S8192x32 : Shape := ⟨2, ![8192, 32]⟩
abbrev S8192x2304 : Shape := ⟨2, ![8192, 2304]⟩
abbrev S8192x1024 : Shape := ⟨2, ![8192, 1024]⟩
abbrev S2048x1152 : Shape := ⟨2, ![2048, 1152]⟩
abbrev S1152x1024 : Shape := ⟨2, ![1152, 1024]⟩
abbrev S2048x1024 : Shape := ⟨2, ![2048, 1024]⟩

abbrev nBuf : Space → Nat
  | .hbm => 20
  | .vmem => 7
  | .smem => 0
  | _ => 0

abbrev bufTy : (tb : Table) → Fin (tcTables nBuf tb) → BufTy
  | .hbm, ⟨0, _⟩ => ⟨S1024x2208, .f32⟩
  | .hbm, ⟨1, _⟩ => ⟨S8192x2208, .f32⟩
  | .hbm, ⟨2, _⟩ => ⟨S2208x1024, .f32⟩
  | .hbm, ⟨3, _⟩ => ⟨S2208x1024, .bf16⟩
  | .hbm, ⟨4, _⟩ => ⟨S2176x1024, .bf16⟩
  | .hbm, ⟨5, _⟩ => ⟨S_, .bf16⟩
  | .hbm, ⟨6, _⟩ => ⟨S64x1024, .bf16⟩
  | .hbm, ⟨7, _⟩ => ⟨S32x1024, .bf16⟩
  | .hbm, ⟨8, _⟩ => ⟨S_, .bf16⟩
  | .hbm, ⟨9, _⟩ => ⟨S32x1024, .bf16⟩
  | .hbm, ⟨10, _⟩ => ⟨S2304x1024, .bf16⟩
  | .hbm, ⟨11, _⟩ => ⟨S8192x2208, .bf16⟩
  | .hbm, ⟨12, _⟩ => ⟨S8192x2176, .bf16⟩
  | .hbm, ⟨13, _⟩ => ⟨S_, .bf16⟩
  | .hbm, ⟨14, _⟩ => ⟨S8192x64, .bf16⟩
  | .hbm, ⟨15, _⟩ => ⟨S8192x32, .bf16⟩
  | .hbm, ⟨16, _⟩ => ⟨S_, .bf16⟩
  | .hbm, ⟨17, _⟩ => ⟨S8192x32, .bf16⟩
  | .hbm, ⟨18, _⟩ => ⟨S8192x2304, .bf16⟩
  | .hbm, ⟨19, _⟩ => ⟨S8192x1024, .f32⟩
  | .local _ .vmem, ⟨0, _⟩ => ⟨S2048x1152, .bf16⟩
  | .local _ .vmem, ⟨1, _⟩ => ⟨S2048x1152, .bf16⟩
  | .local _ .vmem, ⟨2, _⟩ => ⟨S1152x1024, .bf16⟩
  | .local _ .vmem, ⟨3, _⟩ => ⟨S1152x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x2208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDh1Ideal.lean ====
abbrev S1024x2208 : Shape := ⟨2, ![1024, 2208]⟩
abbrev S8192x2208 : Shape := ⟨2, ![8192, 2208]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2208, .f32⟩
  | .hbm, ⟨1, _⟩ => ⟨S8192x2208, .f32⟩
  | .hbm, ⟨2, _⟩ => ⟨S_, .f32⟩
  | .hbm, ⟨3, _⟩ => ⟨S8192x1024, .f32⟩
  | .hbm, ⟨4, _⟩ => ⟨S8192x2208, .f32⟩
  | .hbm, ⟨5, _⟩ => ⟨S8192x1024, .f32⟩
  | _, _ => ⟨S1024x2208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelAdamWo.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamWoIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamWdown.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamWdownIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamWukv.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 9
  | .vmem => 8
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S8x256x128, .bf16⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamWukvIdeal.lean ====
abbrev S8x256x128 : Shape := ⟨3, ![8, 256, 128]⟩
abbrev S256x128 : Shape := ⟨2, ![256, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256x128, .f32⟩
  | .hbm, ⟨38, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamWuq.lean ====
abbrev S8x384x96 : Shape := ⟨3, ![8, 384, 96]⟩
abbrev S384x96 : Shape := ⟨2, ![384, 96]⟩
abbrev S8x96x384 : Shape := ⟨3, ![8, 96, 384]⟩
abbrev S96x384 : Shape := ⟨2, ![96, 384]⟩
abbrev S1x96x384 : Shape := ⟨3, ![1, 96, 384]⟩

abbrev nBuf : Space → Nat
  | .hbm => 17
  | .vmem => 8
  | .smem => 0
  | _ => 0

abbrev bufTy : (tb : Table) → Fin (tcTables nBuf tb) → BufTy
  | .hbm, ⟨0, _⟩ => ⟨S8x384x96, .f32⟩
  | .hbm, ⟨1, _⟩ => ⟨S384x96, .f32⟩
  | .hbm, ⟨2, _⟩ => ⟨S384x96, .f32⟩
  | .hbm, ⟨3, _⟩ => ⟨S384x96, .f32⟩
  | .hbm, ⟨4, _⟩ => ⟨S8x96x384, .f32⟩
  | .hbm, ⟨5, _⟩ => ⟨S8x96x384, .bf16⟩
  | .hbm, ⟨6, _⟩ => ⟨S96x384, .f32⟩
  | .hbm, ⟨7, _⟩ => ⟨S96x384, .f32⟩
  | .hbm, ⟨8, _⟩ => ⟨S96x384, .f32⟩
  | .hbm, ⟨9, _⟩ => ⟨S96x384, .f32⟩
  | .hbm, ⟨10, _⟩ => ⟨S96x384, .f32⟩
  | .hbm, ⟨11, _⟩ => ⟨S96x384, .f32⟩
  | .hbm, ⟨12, _⟩ => ⟨S96x384, .f32⟩
  | .hbm, ⟨13, _⟩ => ⟨S384x96, .f32⟩
  | .hbm, ⟨14, _⟩ => ⟨S384x96, .f32⟩
  | .hbm, ⟨15, _⟩ => ⟨S384x96, .f32⟩
  | .hbm, ⟨16, _⟩ => ⟨S384x96, .f32⟩
  | .local _ .vmem, ⟨0, _⟩ => ⟨S8x96x384, .bf16⟩
  | .local _ .vmem, ⟨1, _⟩ => ⟨S96x384, .f32⟩
  | .local _ .vmem, ⟨2, _⟩ => ⟨S96x384, .f32⟩
  | .local _ .vmem, ⟨3, _⟩ => ⟨S96x384, .f32⟩
  | .local _ .vmem, ⟨4, _⟩ => ⟨S96x384, .f32⟩
  | .local _ .vmem, ⟨5, _⟩ => ⟨S96x384, .f32⟩
  | .local _ .vmem, ⟨6, _⟩ => ⟨S96x384, .f32⟩
  | .local _ .vmem, ⟨7, _⟩ => ⟨S96x384, .f32⟩
  | _, _ => ⟨S8x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamWuqIdeal.lean ====
abbrev S8x384x96 : Shape := ⟨3, ![8, 384, 96]⟩
abbrev S384x96 : Shape := ⟨2, ![384, 96]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x384x96, .f32⟩
  | .hbm, ⟨1, _⟩ => ⟨S384x96, .f32⟩
  | .hbm, ⟨2, _⟩ => ⟨S384x96, .f32⟩
  | .hbm, ⟨3, _⟩ => ⟨S384x96, .f32⟩
  | .hbm, ⟨4, _⟩ => ⟨S_, .f32⟩
  | .hbm, ⟨5, _⟩ => ⟨S384x96, .f32⟩
  | .hbm, ⟨6, _⟩ => ⟨S_, .f32⟩
  | .hbm, ⟨7, _⟩ => ⟨S384x96, .f32⟩
  | .hbm, ⟨8, _⟩ => ⟨S384x96, .f32⟩
  | .hbm, ⟨9, _⟩ => ⟨S_, .f32⟩
  | .hbm, ⟨10, _⟩ => ⟨S384x96, .f32⟩
  | .hbm, ⟨11, _⟩ => ⟨S384x96, .f32⟩
  | .hbm, ⟨12, _⟩ => ⟨S384x96, .f32⟩
  | .hbm, ⟨13, _⟩ => ⟨S_, .f32⟩
  | .hbm, ⟨14, _⟩ => ⟨S384x96, .f32⟩
  | .hbm, ⟨15, _⟩ => ⟨S384x96, .f32⟩
  | .hbm, ⟨16, _⟩ => ⟨S384x96, .f32⟩
  | .hbm, ⟨17, _⟩ => ⟨S_, .f32⟩
  | .hbm, ⟨18, _⟩ => ⟨S384x96, .f32⟩
  | .hbm, ⟨19, _⟩ => ⟨S384x96, .f32⟩
  | .hbm, ⟨20, _⟩ => ⟨S384x96, .f32⟩
  | .hbm, ⟨21, _⟩ => ⟨S_, .f32⟩
  | .hbm, ⟨22, _⟩ => ⟨S384x96, .f32⟩
  | .hbm, ⟨23, _⟩ => ⟨S384x96, .f32⟩
  | .hbm, ⟨24, _⟩ => ⟨S_, .f32⟩
  | .hbm, ⟨25, _⟩ => ⟨S384x96, .f32⟩
  | .hbm, ⟨26, _⟩ => ⟨S384x96, .f32⟩
  | .hbm, ⟨27, _⟩ => ⟨S384x96, .f32⟩
  | .hbm, ⟨28, _⟩ => ⟨S_, .f32⟩
  | .hbm, ⟨29, _⟩ => ⟨S384x96, .f32⟩
  | .hbm, ⟨30, _⟩ => ⟨S384x96, .f32⟩
  | .hbm, ⟨31, _⟩ => ⟨S384x96, .f32⟩
  | .hbm, ⟨32, _⟩ => ⟨S_, .f32⟩
  | .hbm, ⟨33, _⟩ => ⟨S384x96, .f32⟩
  | .hbm, ⟨34, _⟩ => ⟨S384x96, .f32⟩
  | .hbm, ⟨35, _⟩ => ⟨S384x96, .f32⟩
  | .hbm, ⟨36, _⟩ => ⟨S_, .f32⟩
  | .hbm, ⟨37, _⟩ => ⟨S384x96, .f32⟩
  | .hbm, ⟨38, _⟩ => ⟨S384x96, .f32⟩
  | _, _ => ⟨S8x384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamWin.lean ====
abbrev S8x1024x276 : Shape := ⟨3, ![8, 1024, 276]⟩
abbrev S1024x276 : Shape := ⟨2, ![1024, 276]⟩
abbrev S8x276x1024 : Shape := ⟨3, ![8, 276, 1024]⟩
abbrev S276x1024 : Shape := ⟨2, ![276, 1024]⟩
abbrev S1x276x1024 : Shape := ⟨3, ![1, 276, 1024]⟩

abbrev nBuf : Space → Nat
  | .hbm => 17
  | .vmem => 8
  | .smem => 0
  | _ => 0

abbrev bufTy : (tb : Table) → Fin (tcTables nBuf tb) → BufTy
  | .hbm, ⟨0, _⟩ => ⟨S8x1024x276, .f32⟩
  | .hbm, ⟨1, _⟩ => ⟨S1024x276, .f32⟩
  | .hbm, ⟨2, _⟩ => ⟨S1024x276, .f32⟩
  | .hbm, ⟨3, _⟩ => ⟨S1024x276, .f32⟩
  | .hbm, ⟨4, _⟩ => ⟨S8x276x1024, .f32⟩
  | .hbm, ⟨5, _⟩ => ⟨S8x276x1024, .bf16⟩
  | .hbm, ⟨6, _⟩ => ⟨S276x1024, .f32⟩
  | .hbm, ⟨7, _⟩ => ⟨S276x1024, .f32⟩
  | .hbm, ⟨8, _⟩ => ⟨S276x1024, .f32⟩
  | .hbm, ⟨9, _⟩ => ⟨S276x1024, .f32⟩
  | .hbm, ⟨10, _⟩ => ⟨S276x1024, .f32⟩
  | .hbm, ⟨11, _⟩ => ⟨S276x1024, .f32⟩
  | .hbm, ⟨12, _⟩ => ⟨S276x1024, .f32⟩
  | .hbm, ⟨13, _⟩ => ⟨S1024x276, .f32⟩
  | .hbm, ⟨14, _⟩ => ⟨S1024x276, .f32⟩
  | .hbm, ⟨15, _⟩ => ⟨S1024x276, .f32⟩
  | .hbm, ⟨16, _⟩ => ⟨S1024x276, .f32⟩
  | .local _ .vmem, ⟨0, _⟩ => ⟨S8x276x1024, .bf16⟩
  | .local _ .vmem, ⟨1, _⟩ => ⟨S276x1024, .f32⟩
  | .local _ .vmem, ⟨2, _⟩ => ⟨S276x1024, .f32⟩
  | .local _ .vmem, ⟨3, _⟩ => ⟨S276x1024, .f32⟩
  | .local _ .vmem, ⟨4, _⟩ => ⟨S276x1024, .f32⟩
  | .local _ .vmem, ⟨5, _⟩ => ⟨S276x1024, .f32⟩
  | .local _ .vmem, ⟨6, _⟩ => ⟨S276x1024, .f32⟩
  | .local _ .vmem, ⟨7, _⟩ => ⟨S276x1024, .f32⟩
  | _, _ => ⟨S8x1024x276, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x276x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S276x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S276x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S276x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S276x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S276x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S276x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S276x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamWinIdeal.lean ====
abbrev S8x1024x276 : Shape := ⟨3, ![8, 1024, 276]⟩
abbrev S1024x276 : Shape := ⟨2, ![1024, 276]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x276, .f32⟩
  | .hbm, ⟨1, _⟩ => ⟨S1024x276, .f32⟩
  | .hbm, ⟨2, _⟩ => ⟨S1024x276, .f32⟩
  | .hbm, ⟨3, _⟩ => ⟨S1024x276, .f32⟩
  | .hbm, ⟨4, _⟩ => ⟨S_, .f32⟩
  | .hbm, ⟨5, _⟩ => ⟨S1024x276, .f32⟩
  | .hbm, ⟨6, _⟩ => ⟨S_, .f32⟩
  | .hbm, ⟨7, _⟩ => ⟨S1024x276, .f32⟩
  | .hbm, ⟨8, _⟩ => ⟨S1024x276, .f32⟩
  | .hbm, ⟨9, _⟩ => ⟨S_, .f32⟩
  | .hbm, ⟨10, _⟩ => ⟨S1024x276, .f32⟩
  | .hbm, ⟨11, _⟩ => ⟨S1024x276, .f32⟩
  | .hbm, ⟨12, _⟩ => ⟨S1024x276, .f32⟩
  | .hbm, ⟨13, _⟩ => ⟨S_, .f32⟩
  | .hbm, ⟨14, _⟩ => ⟨S1024x276, .f32⟩
  | .hbm, ⟨15, _⟩ => ⟨S1024x276, .f32⟩
  | .hbm, ⟨16, _⟩ => ⟨S1024x276, .f32⟩
  | .hbm, ⟨17, _⟩ => ⟨S_, .f32⟩
  | .hbm, ⟨18, _⟩ => ⟨S1024x276, .f32⟩
  | .hbm, ⟨19, _⟩ => ⟨S1024x276, .f32⟩
  | .hbm, ⟨20, _⟩ => ⟨S1024x276, .f32⟩
  | .hbm, ⟨21, _⟩ => ⟨S_, .f32⟩
  | .hbm, ⟨22, _⟩ => ⟨S1024x276, .f32⟩
  | .hbm, ⟨23, _⟩ => ⟨S1024x276, .f32⟩
  | .hbm, ⟨24, _⟩ => ⟨S_, .f32⟩
  | .hbm, ⟨25, _⟩ => ⟨S1024x276, .f32⟩
  | .hbm, ⟨26, _⟩ => ⟨S1024x276, .f32⟩
  | .hbm, ⟨27, _⟩ => ⟨S1024x276, .f32⟩
  | .hbm, ⟨28, _⟩ => ⟨S_, .f32⟩
  | .hbm, ⟨29, _⟩ => ⟨S1024x276, .f32⟩
  | .hbm, ⟨30, _⟩ => ⟨S1024x276, .f32⟩
  | .hbm, ⟨31, _⟩ => ⟨S1024x276, .f32⟩
  | .hbm, ⟨32, _⟩ => ⟨S_, .f32⟩
  | .hbm, ⟨33, _⟩ => ⟨S1024x276, .f32⟩
  | .hbm, ⟨34, _⟩ => ⟨S1024x276, .f32⟩
  | .hbm, ⟨35, _⟩ => ⟨S1024x276, .f32⟩
  | .hbm, ⟨36, _⟩ => ⟨S_, .f32⟩
  | .hbm, ⟨37, _⟩ => ⟨S1024x276, .f32⟩
  | .hbm, ⟨38, _⟩ => ⟨S1024x276, .f32⟩
  | _, _ => ⟨S8x1024x276, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamWup.lean ====
abbrev S8x1024x704 : Shape := ⟨3, ![8, 1024, 704]⟩
abbrev S1024x704 : Shape := ⟨2, ![1024, 704]⟩
abbrev S8x704x1024 : Shape := ⟨3, ![8, 704, 1024]⟩
abbrev S_ : Shape := ⟨0, ![]⟩
abbrev S8x768x1024 : Shape := ⟨3, ![8, 768, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 20
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x704x1024, .f32⟩
  | .hbm, ⟨5, _⟩ => ⟨S8x704x1024, .bf16⟩
  | .hbm, ⟨6, _⟩ => ⟨S_, .i32⟩
  | .hbm, ⟨7, _⟩ => ⟨S_, .bf16⟩
  | .hbm, ⟨8, _⟩ => ⟨S8x768x1024, .bf16⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S1024x704, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamWupIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamConv.lean ====
abbrev S8x3x704 : Shape := ⟨3, ![8, 3, 704]⟩
abbrev S3x704 : Shape := ⟨2, ![3, 704]⟩
abbrev S_ : Shape := ⟨0, ![]⟩
abbrev S8x8x768 : Shape := ⟨3, ![8, 8, 768]⟩
abbrev S8x768 : Shape := ⟨2, ![8, 768]⟩
abbrev S1x8x768 : Shape := ⟨3, ![1, 8, 768]⟩

abbrev nBuf : Space → Nat
  | .hbm => 24
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .i32⟩
  | .hbm, ⟨5, _⟩ => ⟨S_, .f32⟩
  | .hbm, ⟨6, _⟩ => ⟨S8x8x768, .f32⟩
  | .hbm, ⟨7, _⟩ => ⟨S_, .i32⟩
  | .hbm, ⟨8, _⟩ => ⟨S_, .f32⟩
  | .hbm, ⟨9, _⟩ => ⟨S8x768, .f32⟩
  | .hbm, ⟨10, _⟩ => ⟨S_, .i32⟩
  | .hbm, ⟨11, _⟩ => ⟨S_, .f32⟩
  | .hbm, ⟨12, _⟩ => ⟨S8x768, .f32⟩
  | .hbm, ⟨13, _⟩ => ⟨S_, .i32⟩
  | .hbm, ⟨14, _⟩ => ⟨S_, .f32⟩
  | .hbm, ⟨15, _⟩ => ⟨S8x768, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S8x768, .f32⟩
  | .hbm, ⟨20, _⟩ => ⟨S3x704, .f32⟩
  | .hbm, ⟨21, _⟩ => ⟨S3x704, .f32⟩
  | .hbm, ⟨22, _⟩ => ⟨S3x704, .f32⟩
  | .hbm, ⟨23, _⟩ => ⟨S3x704, .f32⟩
  | .local _ .vmem, ⟨0, _⟩ => ⟨S8x8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamConvIdeal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelFwd.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩
abbrev S8192x1x32 : Shape := ⟨3, ![8192, 1, 32]⟩
abbrev S8192x8x128 : Shape := ⟨3, ![8192, 8, 128]⟩
abbrev S8192x1024 : Shape := ⟨2, ![8192, 1024]⟩
abbrev S8192x8x2 : Shape := ⟨3, ![8192, 8, 2]⟩
abbrev S8192x8x30 : Shape := ⟨3, ![8192, 8, 30]⟩
abbrev S8192x8x62 : Shape := ⟨3, ![8192, 8, 62]⟩
abbrev S8192x512 : Shape := ⟨2, ![8192, 512]⟩
abbrev S1024x256 : Shape := ⟨2, ![1024, 256]⟩
abbrev S8192x256 : Shape := ⟨2, ![8192, 256]⟩
abbrev S1024x128 : Shape := ⟨2, ![1024, 128]⟩
abbrev S2x1024x128 : Shape := ⟨3, ![2, 1024, 128]⟩
abbrev S1024x1024 : Shape := ⟨2, ![1024, 1024]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 39
  | .vmem => 12
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x32, .bf16⟩
  | .hbm, ⟨10, _⟩ => ⟨S8192x1x32, .bf16⟩
  | .hbm, ⟨11, _⟩ => ⟨S8192x8x32, .bf16⟩
  | .hbm, ⟨12, _⟩ => ⟨S8192x8x64, .f32⟩
  | .hbm, ⟨13, _⟩ => ⟨S8192x8x64, .f32⟩
  | .hbm, ⟨14, _⟩ => ⟨S8192x8x64, .bf16⟩
  | .hbm, ⟨15, _⟩ => ⟨S8192x8x32, .f32⟩
  | .hbm, ⟨16, _⟩ => ⟨S8192x8x32, .f32⟩
  | .hbm, ⟨17, _⟩ => ⟨S8192x8x32, .bf16⟩
  | .hbm, ⟨18, _⟩ => ⟨S_, .bf16⟩
  | .hbm, ⟨19, _⟩ => ⟨S8192x8x32, .bf16⟩
  | .hbm, ⟨20, _⟩ => ⟨S8192x8x128, .bf16⟩
  | .hbm, ⟨21, _⟩ => ⟨S8192x1024, .bf16⟩
  | .hbm, ⟨22, _⟩ => ⟨S8192x8x64, .bf16⟩
  | .hbm, ⟨23, _⟩ => ⟨S_, .bf16⟩
  | .hbm, ⟨24, _⟩ => ⟨S8192x8x2, .bf16⟩
  | .hbm, ⟨25, _⟩ => ⟨S_, .bf16⟩
  | .hbm, ⟨26, _⟩ => ⟨S8192x8x30, .bf16⟩
  | .hbm, ⟨27, _⟩ => ⟨S8192x8x128, .bf16⟩
  | .hbm, ⟨28, _⟩ => ⟨S8192x1024, .bf16⟩
  | .hbm, ⟨29, _⟩ => ⟨S_, .bf16⟩
  | .hbm, ⟨30, _⟩ => ⟨S8192x8x2, .bf16⟩
  | .hbm, ⟨31, _⟩ => ⟨S_, .bf16⟩
  | .hbm, ⟨32, _⟩ => ⟨S8192x8x62, .bf16⟩
  | .hbm, ⟨33, _⟩ => ⟨S8192x8x64, .bf16⟩
  | .hbm, ⟨34, _⟩ => ⟨S8192x8x128, .bf16⟩
  | .hbm, ⟨35, _⟩ => ⟨S8192x1024, .bf16⟩
  | .hbm, ⟨36, _⟩ => ⟨S8192x512, .f32⟩
  | .hbm, ⟨37, _⟩ => ⟨S8192x1024, .bf16⟩
  | .hbm, ⟨38, _⟩ => ⟨S8192x8x64, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1024x128, .f32⟩
  | .local _ .vmem, ⟨7, _⟩ => ⟨S1024x128, .f32⟩
  | .local _ .vmem, ⟨8, _⟩ => ⟨S1024x256, .bf16⟩
  | .local _ .vmem, ⟨9, _⟩ => ⟨S1024x256, .bf16⟩
  | .local _ .vmem, ⟨10, _⟩ => ⟨S2x1024x128, .f32⟩
  | .local _ .vmem, ⟨11, _⟩ => ⟨S2x1024x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v73 : BitVec 32 := Scalar.muli arg9 c1024_i32
  v73
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1024_i32 : BitVec 32 := 1024#32
  let v73 : BitVec 32 := Scalar.muli arg9 c1024_i32
  let v74 : BitVec 32 := v73
  let v77 : Index := Scalar.indexCast v74
  let c0_38 : Index := 0#32
  ![v77.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1024_i32 : BitVec 32 := 1024#32
  let v73 : BitVec 32 := Scalar.muli arg9 c1024_i32
  let v74 : BitVec 32 := v73
  let v83 : Index := Scalar.indexCast v74
  let c128_42 : Index := 128#32
  ![v83.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFwdIdeal.lean ====
abbrev S8192x8x64 : Shape := ⟨3, ![8192, 8, 64]⟩
abbrev S8192x8x32 : Shape := ⟨3, ![8192, 8, 32]⟩
abbrev S8192x32 : Shape := ⟨2, ![8192, 32]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8x8192x8192, .f32⟩
  | .hbm, ⟨6, _⟩ => ⟨S8192x8192x8, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192, .f32⟩
  | .hbm, ⟨14, _⟩ => ⟨S_, .f32⟩
  | .hbm, ⟨15, _⟩ => ⟨S8x8192, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x64x8192, .f32⟩
  | .hbm, ⟨27, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== KernelMix.lean ====
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S8192x1024 : Shape := ⟨2, ![8192, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S8192x1024, .f32⟩
  | .hbm, ⟨7, _⟩ => ⟨S1024x1024, .bf16⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMixIdeal.lean ====
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S8192x1024 : Shape := ⟨2, ![8192, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S8192x1024, .f32⟩
  | .hbm, ⟨7, _⟩ => ⟨S512, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x1024, .f32⟩
  | .hbm, ⟨42, _⟩ => ⟨S8192x1024, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== KernelAdamSmall.lean ====
abbrev S8x1 : Shape := ⟨2, ![8, 1]⟩
abbrev S8x1024 : Shape := ⟨2, ![8, 1024]⟩
abbrev S8x384 : Shape := ⟨2, ![8, 384]⟩
abbrev S8x256 : Shape := ⟨2, ![8, 256]⟩
abbrev S8x512 : Shape := ⟨2, ![8, 512]⟩
abbrev S8x5632 : Shape := ⟨2, ![8, 5632]⟩
abbrev S1024 : Shape := ⟨1, ![1024]⟩
abbrev S384 : Shape := ⟨1, ![384]⟩
abbrev S256 : Shape := ⟨1, ![256]⟩
abbrev S512 : Shape := ⟨1, ![512]⟩
abbrev S5632 : Shape := ⟨1, ![5632]⟩
abbrev S8x11393 : Shape := ⟨2, ![8, 11393]⟩
abbrev S_ : Shape := ⟨0, ![]⟩
abbrev S8x12288 : Shape := ⟨2, ![8, 12288]⟩
abbrev S8x96x128 : Shape := ⟨3, ![8, 96, 128]⟩
abbrev S1 : Shape := ⟨1, ![1]⟩
abbrev S11393 : Shape := ⟨1, ![11393]⟩
abbrev S12288 : Shape := ⟨1, ![12288]⟩
abbrev S96x128 : Shape := ⟨2, ![96, 128]⟩
abbrev S1x96x128 : Shape := ⟨3, ![1, 96, 128]⟩

abbrev nBuf : Space → Nat
  | .hbm => 112
  | .vmem => 8
  | .smem => 0
  | _ => 0

abbrev bufTy : (tb : Table) → Fin (tcTables nBuf tb) → BufTy
  | .hbm, ⟨0, _⟩ => ⟨S8x1, .f32⟩
  | .hbm, ⟨1, _⟩ => ⟨S8x1024, .f32⟩
  | .hbm, ⟨2, _⟩ => ⟨S8x384, .f32⟩
  | .hbm, ⟨3, _⟩ => ⟨S8x256, .f32⟩
  | .hbm, ⟨4, _⟩ => ⟨S8x512, .f32⟩
  | .hbm, ⟨5, _⟩ => ⟨S8x512, .f32⟩
  | .hbm, ⟨6, _⟩ => ⟨S8x1024, .f32⟩
  | .hbm, ⟨7, _⟩ => ⟨S8x1024, .f32⟩
  | .hbm, ⟨8, _⟩ => ⟨S8x5632, .f32⟩
  | .hbm, ⟨9, _⟩ => ⟨S8x1024, .f32⟩
  | .hbm, ⟨10, _⟩ => ⟨S1024, .f32⟩
  | .hbm, ⟨11, _⟩ => ⟨S384, .f32⟩
  | .hbm, ⟨12, _⟩ => ⟨S256, .f32⟩
  | .hbm, ⟨13, _⟩ => ⟨S512, .f32⟩
  | .hbm, ⟨14, _⟩ => ⟨S512, .f32⟩
  | .hbm, ⟨15, _⟩ => ⟨S1024, .f32⟩
  | .hbm, ⟨16, _⟩ => ⟨S1024, .f32⟩
  | .hbm, ⟨17, _⟩ => ⟨S5632, .f32⟩
  | .hbm, ⟨18, _⟩ => ⟨S1024, .f32⟩
  | .hbm, ⟨19, _⟩ => ⟨S1024, .f32⟩
  | .hbm, ⟨20, _⟩ => ⟨S384, .f32⟩
  | .hbm, ⟨21, _⟩ => ⟨S256, .f32⟩
  | .hbm, ⟨22, _⟩ => ⟨S512, .f32⟩
  | .hbm, ⟨23, _⟩ => ⟨S512, .f32⟩
  | .hbm, ⟨24, _⟩ => ⟨S1024, .f32⟩
  | .hbm, ⟨25, _⟩ => ⟨S1024, .f32⟩
  | .hbm, ⟨26, _⟩ => ⟨S5632, .f32⟩
  | .hbm, ⟨27, _⟩ => ⟨S1024, .f32⟩
  | .hbm, ⟨28, _⟩ => ⟨S1024, .f32⟩
  | .hbm, ⟨29, _⟩ => ⟨S384, .f32⟩
  | .hbm, ⟨30, _⟩ => ⟨S256, .f32⟩
  | .hbm, ⟨31, _⟩ => ⟨S512, .f32⟩
  | .hbm, ⟨32, _⟩ => ⟨S512, .f32⟩
  | .hbm, ⟨33, _⟩ => ⟨S1024, .f32⟩
  | .hbm, ⟨34, _⟩ => ⟨S1024, .f32⟩
  | .hbm, ⟨35, _⟩ => ⟨S5632, .f32⟩
  | .hbm, ⟨36, _⟩ => ⟨S1024, .f32⟩
  | .hbm, ⟨37, _⟩ => ⟨S8x11393, .f32⟩
  | .hbm, ⟨38, _⟩ => ⟨S_, .i32⟩
  | .hbm, ⟨39, _⟩ => ⟨S_, .f32⟩
  | .hbm, ⟨40, _⟩ => ⟨S8x12288, .f32⟩
  | .hbm, ⟨41, _⟩ => ⟨S8x96x128, .f32⟩
  | .hbm, ⟨42, _⟩ => ⟨S_, .f32⟩
  | .hbm, ⟨43, _⟩ => ⟨S1, .f32⟩
  | .hbm, ⟨44, _⟩ => ⟨S11393, .f32⟩
  | .hbm, ⟨45, _⟩ => ⟨S_, .i32⟩
  | .hbm, ⟨46, _⟩ => ⟨S_, .f32⟩
  | .hbm, ⟨47, _⟩ => ⟨S12288, .f32⟩
  | .hbm, ⟨48, _⟩ => ⟨S96x128, .f32⟩
  | .hbm, ⟨49, _⟩ => ⟨S_, .f32⟩
  | .hbm, ⟨50, _⟩ => ⟨S1, .f32⟩
  | .hbm, ⟨51, _⟩ => ⟨S11393, .f32⟩
  | .hbm, ⟨52, _⟩ => ⟨S_, .i32⟩
  | .hbm, ⟨53, _⟩ => ⟨S_, .f32⟩
  | .hbm, ⟨54, _⟩ => ⟨S12288, .f32⟩
  | .hbm, ⟨55, _⟩ => ⟨S96x128, .f32⟩
  | .hbm, ⟨56, _⟩ => ⟨S_, .f32⟩
  | .hbm, ⟨57, _⟩ => ⟨S1, .f32⟩
  | .hbm, ⟨58, _⟩ => ⟨S11393, .f32⟩
  | .hbm, ⟨59, _⟩ => ⟨S_, .i32⟩
  | .hbm, ⟨60, _⟩ => ⟨S_, .f32⟩
  | .hbm, ⟨61, _⟩ => ⟨S12288, .f32⟩
  | .hbm, ⟨62, _⟩ => ⟨S96x128, .f32⟩
  | .hbm, ⟨63, _⟩ => ⟨S96x128, .f32⟩
  | .hbm, ⟨64, _⟩ => ⟨S96x128, .f32⟩
  | .hbm, ⟨65, _⟩ => ⟨S96x128, .f32⟩
  | .hbm, ⟨66, _⟩ => ⟨S96x128, .f32⟩
  | .hbm, ⟨67, _⟩ => ⟨S12288, .f32⟩
  | .hbm, ⟨68, _⟩ => ⟨S1024, .f32⟩
  | .hbm, ⟨69, _⟩ => ⟨S384, .f32⟩
  | .hbm, ⟨70, _⟩ => ⟨S256, .f32⟩
  | .hbm, ⟨71, _⟩ => ⟨S512, .f32⟩
  | .hbm, ⟨72, _⟩ => ⟨S512, .f32⟩
  | .hbm, ⟨73, _⟩ => ⟨S1024, .f32⟩
  | .hbm, ⟨74, _⟩ => ⟨S1024, .f32⟩
  | .hbm, ⟨75, _⟩ => ⟨S5632, .f32⟩
  | .hbm, ⟨76, _⟩ => ⟨S1024, .f32⟩
  | .hbm, ⟨77, _⟩ => ⟨S1, .f32⟩
  | .hbm, ⟨78, _⟩ => ⟨S12288, .f32⟩
  | .hbm, ⟨79, _⟩ => ⟨S1024, .f32⟩
  | .hbm, ⟨80, _⟩ => ⟨S384, .f32⟩
  | .hbm, ⟨81, _⟩ => ⟨S256, .f32⟩
  | .hbm, ⟨82, _⟩ => ⟨S512, .f32⟩
  | .hbm, ⟨83, _⟩ => ⟨S512, .f32⟩
  | .hbm, ⟨84, _⟩ => ⟨S1024, .f32⟩
  | .hbm, ⟨85, _⟩ => ⟨S1024, .f32⟩
  | .hbm, ⟨86, _⟩ => ⟨S5632, .f32⟩
  | .hbm, ⟨87, _⟩ => ⟨S1024, .f32⟩
  | .hbm, ⟨88, _⟩ => ⟨S1, .f32⟩
  | .hbm, ⟨89, _⟩ => ⟨S12288, .f32⟩
  | .hbm, ⟨90, _⟩ => ⟨S1024, .f32⟩
  | .hbm, ⟨91, _⟩ => ⟨S384, .f32⟩
  | .hbm, ⟨92, _⟩ => ⟨S256, .f32⟩
  | .hbm, ⟨93, _⟩ => ⟨S512, .f32⟩
  | .hbm, ⟨94, _⟩ => ⟨S512, .f32⟩
  | .hbm, ⟨95, _⟩ => ⟨S1024, .f32⟩
  | .hbm, ⟨96, _⟩ => ⟨S1024, .f32⟩
  | .hbm, ⟨97, _⟩ => ⟨S5632, .f32⟩
  | .hbm, ⟨98, _⟩ => ⟨S1024, .f32⟩
  | .hbm, ⟨99, _⟩ => ⟨S1, .f32⟩
  | .hbm, ⟨100, _⟩ => ⟨S12288, .f32⟩
  | .hbm, ⟨101, _⟩ => ⟨S1024, .f32⟩
  | .hbm, ⟨102, _⟩ => ⟨S384, .f32⟩
  | .hbm, ⟨103, _⟩ => ⟨S256, .f32⟩
  | .hbm, ⟨104, _⟩ => ⟨S512, .f32⟩
  | .hbm, ⟨105, _⟩ => ⟨S512, .f32⟩
  | .hbm, ⟨106, _⟩ => ⟨S1024, .f32⟩
  | .hbm, ⟨107, _⟩ => ⟨S1024, .f32⟩
  | .hbm, ⟨108, _⟩ => ⟨S5632, .f32⟩
  | .hbm, ⟨109, _⟩ => ⟨S1024, .f32⟩
  | .hbm, ⟨110, _⟩ => ⟨S1, .f32⟩
  | .hbm, ⟨111, _⟩ => ⟨S_, .f32⟩
  | .local _ .vmem, ⟨0, _⟩ => ⟨S8x96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S8x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_c : Ref sig .tc := ⟨.hbm, 38, rfl⟩
abbrev main_call0_v0 : Ref sig .tc := ⟨.hbm, 39, rfl⟩
abbrev main_v1 : Ref sig .tc := ⟨.hbm, 40, rfl⟩
abbrev main_v2 : Ref sig .tc := ⟨.hbm, 41, rfl⟩
abbrev main_cst : Ref sig .tc := ⟨.hbm, 42, rfl⟩
abbrev main_v3 : Ref sig .tc := ⟨.hbm, 43, rfl⟩
abbrev main_v4 : Ref sig .tc := ⟨.hbm, 44, rfl⟩
abbrev main_c_0 : Ref sig .tc := ⟨.hbm, 45, rfl⟩
abbrev main_call1_v0 : Ref sig .tc := ⟨.hbm, 46, rfl⟩
abbrev main_v5 : Ref sig .tc := ⟨.hbm, 47, rfl⟩
abbrev main_v6 : Ref sig .tc := ⟨.hbm, 48, rfl⟩
abbrev main_cst_1 : Ref sig .tc := ⟨.hbm, 49, rfl⟩
abbrev main_v7 : Ref sig .tc := ⟨.hbm, 50, rfl⟩
abbrev main_v8 : Ref sig .tc := ⟨.hbm, 51, rfl⟩
abbrev main_c_2 : Ref sig .tc := ⟨.hbm, 52, rfl⟩
abbrev main_call2_v0 : Ref sig .tc := ⟨.hbm, 53, rfl⟩
abbrev main_v9 : Ref sig .tc := ⟨.hbm, 54, rfl⟩
abbrev main_v10 : Ref sig .tc := ⟨.hbm, 55, rfl⟩
abbrev main_cst_3 : Ref sig .tc := ⟨.hbm, 56, rfl⟩
abbrev main_v11 : Ref sig .tc := ⟨.hbm, 57, rfl⟩
abbrev main_v12 : Ref sig .tc := ⟨.hbm, 58, rfl⟩
abbrev main_c_4 : Ref sig .tc := ⟨.hbm, 59, rfl⟩
abbrev main_call3_v0 : Ref sig .tc := ⟨.hbm, 60, rfl⟩
abbrev main_v13 : Ref sig .tc := ⟨.hbm, 61, rfl⟩
abbrev main_v14 : Ref sig .tc := ⟨.hbm, 62, rfl⟩
abbrev main_v15_0 : Ref sig .tc := ⟨.hbm, 63, rfl⟩
abbrev main_v15_1 : Ref sig .tc := ⟨.hbm, 64, rfl⟩
abbrev main_v15_2 : Ref sig .tc := ⟨.hbm, 65, rfl⟩
abbrev main_v15_3 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamSmallIdeal.lean ====
abbrev S8x1 : Shape := ⟨2, ![8, 1]⟩
abbrev S8x1024 : Shape := ⟨2, ![8, 1024]⟩
abbrev S8x384 : Shape := ⟨2, ![8, 384]⟩
abbrev S8x256 : Shape := ⟨2, ![8, 256]⟩
abbrev S8x512 : Shape := ⟨2, ![8, 512]⟩
abbrev S8x5632 : Shape := ⟨2, ![8, 5632]⟩
abbrev S1024 : Shape := ⟨1, ![1024]⟩
abbrev S384 : Shape := ⟨1, ![384]⟩
abbrev S256 : Shape := ⟨1, ![256]⟩
abbrev S512 : Shape := ⟨1, ![512]⟩
abbrev S5632 : Shape := ⟨1, ![5632]⟩
abbrev S_ : Shape := ⟨0, ![]⟩

abbrev nBuf : Space → Nat
  | .hbm => 354
  | .vmem => 0
  | .smem => 0
  | _ => 0

abbrev hbmTy0_0 (i : Nat) : BufTy := match i % 128 with
  | 0 => ⟨S8x1, .f32⟩
  | 1 => ⟨S8x1024, .f32⟩
  | 2 => ⟨S8x384, .f32⟩
  | 3 => ⟨S8x256, .f32⟩
  | 4 => ⟨S8x512, .f32⟩
  | 5 => ⟨S8x512, .f32⟩
  | 6 => ⟨S8x1024, .f32⟩
  | 7 => ⟨S8x1024, .f32⟩
  | 8 => ⟨S8x5632, .f32⟩
  | 9 => ⟨S8x1024, .f32⟩
  | 10 => ⟨S1024, .f32⟩
  | 11 => ⟨S384, .f32⟩
  | 12 => ⟨S256, .f32⟩
  | 13 => ⟨S512, .f32⟩
  | 14 => ⟨S512, .f32⟩
  | 15 => ⟨S1024, .f32⟩
  | 16 => ⟨S1024, .f32⟩
  | 17 => ⟨S5632, .f32⟩
  | 18 => ⟨S1024, .f32⟩
  | 19 => ⟨S1024, .f32⟩
  | 20 => ⟨S384, .f32⟩
  | 21 => ⟨S256, .f32⟩
  | 22 => ⟨S512, .f32⟩
  | 23 => ⟨S512, .f32⟩
  | 24 => ⟨S1024, .f32⟩
  | 25 => ⟨S1024, .f32⟩
  | 26 => ⟨S5632, .f32⟩
  | 27 => ⟨S1024, .f32⟩
  | 28 => ⟨S1024, .f32⟩
  | 29 => ⟨S384, .f32⟩
  | 30 => ⟨S256, .f32⟩
  | 31 => ⟨S512, .f32⟩
  | 32 => ⟨S512, .f32⟩
  | 33 => ⟨S1024, .f32⟩
  | 34 => ⟨S1024, .f32⟩
  | 35 => ⟨S5632, .f32⟩
  | 36 => ⟨S1024, .f32⟩
  | 37 => ⟨S_, .f32⟩
  | 38 => ⟨S1024, .f32⟩
  | 39 => ⟨S_, .f32⟩
  | 40 => ⟨S1024, .f32⟩
  | 41 => ⟨S1024, .f32⟩
  | 42 => ⟨S_, .f32⟩
  | 43 => ⟨S1024, .f32⟩
  | 44 => ⟨S1024, .f32⟩
  | 45 => ⟨S1024, .f32⟩
  | 46 => ⟨S_, .f32⟩
  | 47 => ⟨S1024, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S_, .f32⟩
  | 55 => ⟨S1024, .f32⟩
  | 56 => ⟨S1024, .f32⟩
  | 57 => ⟨S_, .f32⟩
  | 58 => ⟨S1024, .f32⟩
  | 59 => ⟨S1024, .f32⟩
  | 60 => ⟨S1024, .f32⟩
  | 61 => ⟨S_, .f32⟩
  | 62 => ⟨S1024, .f32⟩
  | 63 => ⟨S1024, .f32⟩
  | 64 => ⟨S1024, .f32⟩
  | 65 => ⟨S_, .f32⟩
  | 66 => ⟨S1024, .f32⟩
  | 67 => ⟨S1024, .f32⟩
  | 68 => ⟨S1024, .f32⟩
  | 69 => ⟨S_, .f32⟩
  | 70 => ⟨S1024, .f32⟩
  | 71 => ⟨S1024, .f32⟩
  | 72 => ⟨S_, .f32⟩
  | 73 => ⟨S384, .f32⟩
  | 74 => ⟨S_, .f32⟩
  | 75 => ⟨S384, .f32⟩
  | 76 => ⟨S384, .f32⟩
  | 77 => ⟨S_, .f32⟩
  | 78 => ⟨S384, .f32⟩
  | 79 => ⟨S384, .f32⟩
  | 80 => ⟨S384, .f32⟩
  | 81 => ⟨S_, .f32⟩
  | 82 => ⟨S384, .f32⟩
  | 83 => ⟨S384, .f32⟩
  | 84 => ⟨S384, .f32⟩
  | 85 => ⟨S_, .f32⟩
  | 86 => ⟨S384, .f32⟩
  | 87 => ⟨S384, .f32⟩
  | 88 => ⟨S384, .f32⟩
  | 89 => ⟨S_, .f32⟩
  | 90 => ⟨S384, .f32⟩
  | 91 => ⟨S384, .f32⟩
  | 92 => ⟨S_, .f32⟩
  | 93 => ⟨S384, .f32⟩
  | 94 => ⟨S384, .f32⟩
  | 95 => ⟨S384, .f32⟩
  | 96 => ⟨S_, .f32⟩
  | 97 => ⟨S384, .f32⟩
  | 98 => ⟨S384, .f32⟩
  | 99 => ⟨S384, .f32⟩
  | 100 => ⟨S_, .f32⟩
  | 101 => ⟨S384, .f32⟩
  | 102 => ⟨S384, .f32⟩
  | 103 => ⟨S384, .f32⟩
  | 104 => ⟨S_, .f32⟩
  | 105 => ⟨S384, .f32⟩
  | 106 => ⟨S384, .f32⟩
  | 107 => ⟨S_, .f32⟩
  | 108 => ⟨S256, .f32⟩
  | 109 => ⟨S_, .f32⟩
  | 110 => ⟨S256, .f32⟩
  | 111 => ⟨S256, .f32⟩
  | 112 => ⟨S_, .f32⟩
  | 113 => ⟨S256, .f32⟩
  | 114 => ⟨S256, .f32⟩
  | 115 => ⟨S256, .f32⟩
  | 116 => ⟨S_, .f32⟩
  | 117 => ⟨S256, .f32⟩
  | 118 => ⟨S256, .f32⟩
  | 119 => ⟨S256, .f32⟩
  | 120 => ⟨S_, .f32⟩
  | 121 => ⟨S256, .f32⟩
  | 122 => ⟨S256, .f32⟩
  | 123 => ⟨S256, .f32⟩
  | 124 => ⟨S_, .f32⟩
  | 125 => ⟨S256, .f32⟩
  | 126 => ⟨S256, .f32⟩
  | 127 => ⟨S_, .f32⟩
  | _ => ⟨S8x1, .f32⟩

abbrev hbmTy0_1 (i : Nat) : BufTy := match i % 128 with
  | 0 => ⟨S256, .f32⟩
  | 1 => ⟨S256, .f32⟩
  | 2 => ⟨S256, .f32⟩
  | 3 => ⟨S_, .f32⟩
  | 4 => ⟨S256, .f32⟩
  | 5 => ⟨S256, .f32⟩
  | 6 => ⟨S256, .f32⟩
  | 7 => ⟨S_, .f32⟩
  | 8 => ⟨S256, .f32⟩
  | 9 => ⟨S256, .f32⟩
  | 10 => ⟨S256, .f32⟩
  | 11 => ⟨S_, .f32⟩
  | 12 => ⟨S256, .f32⟩
  | 13 => ⟨S256, .f32⟩
  | 14 => ⟨S_, .f32⟩
  | 15 => ⟨S512, .f32⟩
  | 16 => ⟨S_, .f32⟩
  | 17 => ⟨S512, .f32⟩
  | 18 => ⟨S512, .f32⟩
  | 19 => ⟨S_, .f32⟩
  | 20 => ⟨S512, .f32⟩
  | 21 => ⟨S512, .f32⟩
  | 22 => ⟨S512, .f32⟩
  | 23 => ⟨S_, .f32⟩
  | 24 => ⟨S512, .f32⟩
  | 25 => ⟨S512, .f32⟩
  | 26 => ⟨S512, .f32⟩
  | 27 => ⟨S_, .f32⟩
  | 28 => ⟨S512, .f32⟩
  | 29 => ⟨S512, .f32⟩
  | 30 => ⟨S512, .f32⟩
  | 31 => ⟨S_, .f32⟩
  | 32 => ⟨S512, .f32⟩
  | 33 => ⟨S512, .f32⟩
  | 34 => ⟨S_, .f32⟩
  | 35 => ⟨S512, .f32⟩
  | 36 => ⟨S512, .f32⟩
  | 37 => ⟨S512, .f32⟩
  | 38 => ⟨S_, .f32⟩
  | 39 => ⟨S512, .f32⟩
  | 40 => ⟨S512, .f32⟩
  | 41 => ⟨S512, .f32⟩
  | 42 => ⟨S_, .f32⟩
  | 43 => ⟨S512, .f32⟩
  | 44 => ⟨S512, .f32⟩
  | 45 => ⟨S512, .f32⟩
  | 46 => ⟨S_, .f32⟩
  | 47 => ⟨S512, .f32⟩
  | 48 => ⟨S512, .f32⟩
  | 49 => ⟨S_, .f32⟩
  | 50 => ⟨S512, .f32⟩
  | 51 => ⟨S_, .f32⟩
  | 52 => ⟨S512, .f32⟩
  | 53 => ⟨S512, .f32⟩
  | 54 => ⟨S_, .f32⟩
  | 55 => ⟨S512, .f32⟩
  | 56 => ⟨S512, .f32⟩
  | 57 => ⟨S512, .f32⟩
  | 58 => ⟨S_, .f32⟩
  | 59 => ⟨S512, .f32⟩
  | 60 => ⟨S512, .f32⟩
  | 61 => ⟨S512, .f32⟩
  | 62 => ⟨S_, .f32⟩
  | 63 => ⟨S512, .f32⟩
  | 64 => ⟨S512, .f32⟩
  | 65 => ⟨S512, .f32⟩
  | 66 => ⟨S_, .f32⟩
  | 67 => ⟨S512, .f32⟩
  | 68 => ⟨S512, .f32⟩
  | 69 => ⟨S_, .f32⟩
  | 70 => ⟨S512, .f32⟩
  | 71 => ⟨S512, .f32⟩
  | 72 => ⟨S512, .f32⟩
  | 73 => ⟨S_, .f32⟩
  | 74 => ⟨S512, .f32⟩
  | 75 => ⟨S512, .f32⟩
  | 76 => ⟨S512, .f32⟩
  | 77 => ⟨S_, .f32⟩
  | 78 => ⟨S512, .f32⟩
  | 79 => ⟨S512, .f32⟩
  | 80 => ⟨S512, .f32⟩
  | 81 => ⟨S_, .f32⟩
  | 82 => ⟨S512, .f32⟩
  | 83 => ⟨S512, .f32⟩
  | 84 => ⟨S_, .f32⟩
  | 85 => ⟨S1024, .f32⟩
  | 86 => ⟨S_, .f32⟩
  | 87 => ⟨S1024, .f32⟩
  | 88 => ⟨S1024, .f32⟩
  | 89 => ⟨S_, .f32⟩
  | 90 => ⟨S1024, .f32⟩
  | 91 => ⟨S1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S_, .f32⟩
  | 98 => ⟨S1024, .f32⟩
  | 99 => ⟨S1024, .f32⟩
  | 100 => ⟨S1024, .f32⟩
  | 101 => ⟨S_, .f32⟩
  | 102 => ⟨S1024, .f32⟩
  | 103 => ⟨S1024, .f32⟩
  | 104 => ⟨S_, .f32⟩
  | 105 => ⟨S1024, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024, .f32⟩
  | 112 => ⟨S_, .f32⟩
  | 113 => ⟨S1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S_, .f32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S8x1, .f32⟩

abbrev hbmTy0_2 (i : Nat) : BufTy := match i % 128 with
  | 0 => ⟨S_, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .f32⟩
  | 9 => ⟨S1024, .f32⟩
  | 10 => ⟨S1024, .f32⟩
  | 11 => ⟨S_, .f32⟩
  | 12 => ⟨S1024, .f32⟩
  | 13 => ⟨S1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S_, .f32⟩
  | 20 => ⟨S1024, .f32⟩
  | 21 => ⟨S1024, .f32⟩
  | 22 => ⟨S1024, .f32⟩
  | 23 => ⟨S_, .f32⟩
  | 24 => ⟨S1024, .f32⟩
  | 25 => ⟨S1024, .f32⟩
  | 26 => ⟨S_, .f32⟩
  | 27 => ⟨S5632, .f32⟩
  | 28 => ⟨S_, .f32⟩
  | 29 => ⟨S5632, .f32⟩
  | 30 => ⟨S5632, .f32⟩
  | 31 => ⟨S_, .f32⟩
  | 32 => ⟨S5632, .f32⟩
  | 33 => ⟨S5632, .f32⟩
  | 34 => ⟨S5632, .f32⟩
  | 35 => ⟨S_, .f32⟩
  | 36 => ⟨S5632, .f32⟩
  | 37 => ⟨S5632, .f32⟩
  | 38 => ⟨S5632, .f32⟩
  | 39 => ⟨S_, .f32⟩
  | 40 => ⟨S5632, .f32⟩
  | 41 => ⟨S5632, .f32⟩
  | 42 => ⟨S5632, .f32⟩
  | 43 => ⟨S_, .f32⟩
  | 44 => ⟨S5632, .f32⟩
  | 45 => ⟨S5632, .f32⟩
  | 46 => ⟨S_, .f32⟩
  | 47 => ⟨S5632, .f32⟩
  | 48 => ⟨S5632, .f32⟩
  | 49 => ⟨S5632, .f32⟩
  | 50 => ⟨S_, .f32⟩
  | 51 => ⟨S5632, .f32⟩
  | 52 => ⟨S5632, .f32⟩
  | 53 => ⟨S5632, .f32⟩
  | 54 => ⟨S_, .f32⟩
  | 55 => ⟨S5632, .f32⟩
  | 56 => ⟨S5632, .f32⟩
  | 57 => ⟨S5632, .f32⟩
  | 58 => ⟨S_, .f32⟩
  | 59 => ⟨S5632, .f32⟩
  | 60 => ⟨S5632, .f32⟩
  | 61 => ⟨S_, .f32⟩
  | 62 => ⟨S1024, .f32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S_, .f32⟩
  | 90 => ⟨S1024, .f32⟩
  | 91 => ⟨S1024, .f32⟩
  | 92 => ⟨S1024, .f32⟩
  | 93 => ⟨S_, .f32⟩
  | 94 => ⟨S1024, .f32⟩
  | 95 => ⟨S1024, .f32⟩
  | 96 => ⟨S_, .f32⟩
  | 97 => ⟨S_, .f32⟩
  | _ => ⟨S8x1, .f32⟩

abbrev hbmTy (i : Nat) : BufTy := match i / 128 with
  | 0 => hbmTy0_0 i
  | 1 => hbmTy0_1 i
  | 2 => hbmTy0_2 i
  | _ => ⟨S8x1, .f32⟩

abbrev bufTy : (tb : Table) → Fin (tcTables nBuf tb) → BufTy
  | .hbm, ⟨i, _⟩ => hbmTy i
  | _, _ => ⟨S8x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_cst_0 : Ref sig .tc := ⟨.hbm, 39, rfl⟩
abbrev main_v1 : Ref sig .tc := ⟨.hbm, 40, rfl⟩
abbrev main_v2 : Ref sig .tc := ⟨.hbm, 41, rfl⟩
abbrev main_cst_1 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_cst_2 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst_3 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_4 : Ref sig .tc := ⟨.hbm, 54, rfl⟩
abbrev main_v12 : Ref sig .tc := ⟨.hbm, 55, rfl⟩
abbrev main_v13 : Ref sig .tc := ⟨.hbm, 56, rfl⟩
abbrev main_cst_5 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst_6 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_7 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_8 : Ref sig .tc := ⟨.hbm, 69, rfl⟩
abbrev main_v23 : Ref sig .tc := ⟨.hbm, 70, rfl⟩
abbrev main_v24 : Ref sig .tc := ⟨.hbm, 71, rfl⟩
abbrev main_cst_9 : Ref sig .tc := ⟨.hbm, 72, rfl⟩
abbrev main_v25 : Ref sig .tc := ⟨.hbm, 73, rfl⟩
abbrev main_cst_10 : Ref sig .tc := ⟨.hbm, 74, rfl⟩
abbrev main_v26 : Ref sig .tc := ⟨.hbm, 75, rfl⟩
abbrev main_v27 : Ref sig .tc := ⟨.hbm, 76, rfl⟩
abbrev main_cst_11 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_12 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_13 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_14 : Ref sig .tc := ⟨.hbm, 89, rfl⟩
abbrev main_v37 : Ref sig .tc := ⟨.hbm, 90, rfl⟩
abbrev main_v38 : Ref sig .tc := ⟨.hbm, 91, rfl⟩
abbrev main_cst_15 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_cst_16 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_cst_17 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_18 : Ref sig .tc := ⟨.hbm, 104, rfl⟩
abbrev main_v48 : Ref sig .tc := ⟨.hbm, 105, rfl⟩
abbrev main_v49 : Ref sig .tc := ⟨.hbm, 106, rfl⟩
abbrev main_cst_19 : Ref sig .tc := ⟨.hbm, 107, rfl⟩
abbrev main_v50 : Ref sig .tc := ⟨.hbm, 108, rfl⟩
abbrev main_cst_20 : Ref sig .tc := ⟨.hbm, 109, rfl⟩
abbrev main_v51 : Ref sig .tc := ⟨.hbm, 110, rfl⟩
abbrev main_v52 : Ref sig .tc := ⟨.hbm, 111, rfl⟩
abbrev main_cst_21 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_22 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_23 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_cst_24 : Ref sig .tc := ⟨.hbm, 124, rfl⟩
abbrev main_v62 : Ref sig .tc := ⟨.hbm, 125, rfl⟩
abbrev main_v63 : Ref sig .tc := ⟨.hbm, 126, rfl⟩
abbrev main_cst_25 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_26 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_cst_27 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_28 : Ref sig .tc := ⟨.hbm, 139, rfl⟩
abbrev main_v73 : Ref sig .tc := ⟨.hbm, 140, rfl⟩
abbrev main_v74 : Ref sig .tc := ⟨.hbm, 141, rfl⟩
abbrev main_cst_29 : Ref sig .tc := ⟨.hbm, 142, rfl⟩
abbrev main_v75 : Ref sig .tc := ⟨.hbm, 143, rfl⟩
abbrev main_cst_30 : Ref sig .tc := ⟨.hbm, 144, rfl⟩
abbrev main_v76 : Ref sig .tc := ⟨.hbm, 145, rfl⟩
abbrev main_v77 : Ref sig .tc := ⟨.hbm, 146, rfl⟩
abbrev main_cst_31 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_cst_32 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_cst_33 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_cst_34 : Ref sig .tc := ⟨.hbm, 159, rfl⟩
abbrev main_v87 : Ref sig .tc := ⟨.hbm, 160, rfl⟩
abbrev main_v88 : Ref sig .tc := ⟨.hbm, 161, rfl⟩
abbrev main_cst_35 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_cst_36 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_37 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_cst_38 : Ref sig .tc := ⟨.hbm, 174, rfl⟩
abbrev main_v98 : Ref sig .tc := ⟨.hbm, 175, rfl⟩
abbrev main_v99 : Ref sig .tc := ⟨.hbm, 176, rfl⟩
abbrev main_cst_39 : Ref sig .tc := ⟨.hbm, 177, rfl⟩
abbrev main_v100 : Ref sig .tc := ⟨.hbm, 178, rfl⟩
abbrev main_cst_40 : Ref sig .tc := ⟨.hbm, 179, rfl⟩
abbrev main_v101 : Ref sig .tc := ⟨.hbm, 180, rfl⟩
abbrev main_v102 : Ref sig .tc := ⟨.hbm, 181, rfl⟩
abbrev main_cst_41 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_cst_42 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_cst_43 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_44 : Ref sig .tc := ⟨.hbm, 194, rfl⟩
abbrev main_v112 : Ref sig .tc := ⟨.hbm, 195, rfl⟩
abbrev main_v113 : Ref sig .tc := ⟨.hbm, 196, rfl⟩
abbrev main_cst_45 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_cst_46 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_cst_47 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_cst_48 : Ref sig .tc := ⟨.hbm, 209, rfl⟩
abbrev main_v123 : Ref sig .tc := ⟨.hbm, 210, rfl⟩
abbrev main_v124 : Ref sig .tc := ⟨.hbm, 211, rfl⟩
abbrev main_cst_49 : Ref sig .tc := ⟨.hbm, 212, rfl⟩
abbrev main_v125 : Ref sig .tc := ⟨.hbm, 213, rfl⟩
abbrev main_cst_50 : Ref sig .tc := ⟨.hbm, 214, rfl⟩
abbrev main_v126 : Ref sig .tc := ⟨.hbm, 215, rfl⟩
abbrev main_v127 : Ref sig .tc := ⟨.hbm, 216, rfl⟩
abbrev main_cst_51 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_cst_52 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_cst_53 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_cst_54 : Ref sig .tc := ⟨.hbm, 229, rfl⟩
abbrev main_v137 : Ref sig .tc := ⟨.hbm, 230, rfl⟩
abbrev main_v138 : Ref sig .tc := ⟨.hbm, 231, rfl⟩
abbrev main_cst_55 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_56 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_cst_57 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_cst_58 : Ref sig .tc := ⟨.hbm, 244, rfl⟩
abbrev main_v148 : Ref sig .tc := ⟨.hbm, 245, rfl⟩
abbrev main_v149 : Ref sig .tc := ⟨.hbm, 246, rfl⟩
abbrev main_cst_59 : Ref sig .tc := ⟨.hbm, 247, rfl⟩
abbrev main_v150 : Ref sig .tc := ⟨.hbm, 248, rfl⟩
abbrev main_cst_60 : Ref sig .tc := ⟨.hbm, 249, rfl⟩
abbrev main_v151 : Ref sig .tc := ⟨.hbm, 250, rfl⟩
abbrev main_v152 : Ref sig .tc := ⟨.hbm, 251, rfl⟩
abbrev main_cst_61 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_cst_62 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_cst_63 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_cst_64 : Ref sig .tc := ⟨.hbm, 264, rfl⟩
abbrev main_v162 : Ref sig .tc := ⟨.hbm, 265, rfl⟩
abbrev main_v163 : Ref sig .tc := ⟨.hbm, 266, rfl⟩
abbrev main_cst_65 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_cst_66 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_cst_67 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_cst_68 : Ref sig .tc := ⟨.hbm, 279, rfl⟩
abbrev main_v173 : Ref sig .tc := ⟨.hbm, 280, rfl⟩
abbrev main_v174 : Ref sig .tc := ⟨.hbm, 281, rfl⟩
abbrev main_cst_69 : Ref sig .tc := ⟨.hbm, 282, rfl⟩
abbrev main_v175 : Ref sig .tc := ⟨.hbm, 283, rfl⟩
abbrev main_cst_70 : Ref sig .tc := ⟨.hbm, 284, rfl⟩
abbrev main_v176 : Ref sig .tc := ⟨.hbm, 285, rfl⟩
abbrev main_v177 : Ref sig .tc := ⟨.hbm, 286, rfl⟩
abbrev main_cst_71 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_cst_72 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_cst_73 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_cst_74 : Ref sig .tc := ⟨.hbm, 299, rfl⟩
abbrev main_v187 : Ref sig .tc := ⟨.hbm, 300, rfl⟩
abbrev main_v188 : Ref sig .tc := ⟨.hbm, 301, rfl⟩
abbrev main_cst_75 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_cst_76 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_cst_77 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_cst_78 : Ref sig .tc := ⟨.hbm, 314, rfl⟩
abbrev main_v198 : Ref sig .tc := ⟨.hbm, 315, rfl⟩
abbrev main_v199 : Ref sig .tc := ⟨.hbm, 316, rfl⟩
abbrev main_cst_79 : Ref sig .tc := ⟨.hbm, 317, rfl⟩
abbrev main_v200 : Ref sig .tc := ⟨.hbm, 318, rfl⟩
abbrev main_cst_80 : Ref sig .tc := ⟨.hbm, 319, rfl⟩
abbrev main_v201 : Ref sig .tc := ⟨.hbm, 320, rfl⟩
abbrev main_v202 : Ref sig .tc := ⟨.hbm, 321, rfl⟩
abbrev main_cst_81 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_cst_82 : Ref sig .tc := ⟨.hbm, 326, rfl⟩
abbrev main_v206 : Ref sig .tc := ⟨.hbm, 327, rfl⟩
abbrev main_v207 : Ref sig .tc := ⟨.hbm, 328, rfl⟩
abbrev main_v208 : Ref sig .tc := ⟨.hbm, 329, rfl⟩
abbrev main_cst_83 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_cst_84 : Ref sig .tc := ⟨.hbm, 334, rfl⟩
abbrev main_v212 : Ref sig .tc := ⟨.hbm, 335, rfl⟩
abbrev main_v213 : Ref sig .tc := ⟨.hbm, 336, rfl⟩
abbrev main_cst_85 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_cst_86 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_cst_87 : Ref sig .tc := ⟨.hbm, 345, rfl⟩
abbrev main_v220 : Ref sig .tc := ⟨.hbm, 346, rfl⟩
abbrev main_v221 : Ref sig .tc := ⟨.hbm, 347, rfl⟩
abbrev main_v222 : Ref sig .tc := ⟨.hbm, 348, rfl⟩
abbrev main_cst_88 : Ref sig .tc := ⟨.hbm, 349, rfl⟩
abbrev main_v223 : Ref sig .tc := ⟨.hbm, 350, rfl⟩
abbrev main_v224 : Ref sig .tc := ⟨.hbm, 351, rfl⟩
abbrev main_cst_89 : Ref sig .tc := ⟨.hbm, 352, rfl⟩
abbrev main_v225 : Ref sig .tc := ⟨.hbm, 353, rfl⟩

abbrev nD : Nat := 1
abbrev τ : Topo := Topo.v7x

variable {F : FTy → Type} [FloatOps F]
-- ==== Proof.Trip.lean ====
/- One trip of the kernel's loop over the query rows: what it adds to the three gradients it accumulates. -/
module

public import proofs.«01_k».proof.Proof.Gen.KernelIdeal.Loops
public import Idealize.ShloMosaic.Lib.WritesUnit
public import Idealize.ShloMosaic.Lib.VecWindow
public import Idealize.ShloMosaic.Lib.Pointwise

@[expose] public section

set_option maxRecDepth 16384

noncomputable section

namespace Cert.Proof.KI

open Cert.KernelIdeal Cert.KernelIdeal.Gen Idealize.ShloMosaic Idealize.ShloMosaic.TcCoe Idealize.SL.Sem

/-! ## The payloads at an index -/

/-- Column `d` of head `a` of a block of two heads. -/
def col (a : Fin 2) (d : Fin 128) : Fin 256 := ⟨128 * a.val + d.val, by omega⟩

/-- The base-2 exponent of key `j` against query `i`. -/
def sdot {m n : ℕ} (K : (⟨2, ![m, 128]⟩ : Shape).Idx → EReal) (Q : (⟨2, ![n, 128]⟩ : Shape).Idx → EReal) (j : Fin m) (i : Fin n) : EReal :=
  ∑ d : Fin 128, K (ix2 j d) * Q (ix2 i d)

theorem pay15_at (q : FVec Ideal S1024x128 .bf16) (k : FVec Ideal S512x128 .bf16) (j : Fin 512) (i : Fin 1024) :
    k0_pay15 (F := Ideal) q k (ix2 j i) = Ideal.exp2 (sdot k q j i) := by
  pointwise [k0_pay15, k0_pay13, k0_pay9, sdot]
  rfl

theorem pay16_at (q o : FVec Ideal S1024x128 .bf16) (k v : FVec Ideal S512x128 .bf16) (j : Fin 512) (i : Fin 1024) :
    k0_pay16 (F := Ideal) q o k v (ix2 j i) = Ideal.exp2 (sdot k q j i) * sdot v o j i := by
  pointwise [k0_pay16, k0_pay11, k0_pay15, k0_pay13, k0_pay9, sdot]
  rfl

theorem pay19_at (q o : FVec Ideal S1024x128 .bf16) (k v : FVec Ideal S512x128 .bf16) (j : Fin 512) (i : Fin 1024) :
    k0_pay19 (F := Ideal) q o k v (ix2 j i) = Ideal.exp2 (sdot k q j i) * sdot v o j i := by
  pointwise [k0_pay19, k0_pay17, k0_pay14, k0_pay12, k0_pay10, sdot]
  rfl

theorem pay18_at (q : FVec Ideal S1024x128 .bf16) (k : FVec Ideal S512x128 .bf16) (j : Fin 512) (i : Fin 1024) :
    k0_pay18 (F := Ideal) q k (ix2 j i) = Ideal.exp2 (sdot k q j i) := by
  pointwise [k0_pay18, k0_pay17, k0_pay14, k0_pay10, sdot]
  rfl

theorem pay20_at (q o : FVec Ideal S1024x128 .bf16) (k : FVec Ideal S512x128 .bf16) (w : FVec Ideal S512x128 .f32) (j : Fin 512) (c : Fin 128) :
    k0_pay20 (F := Ideal) q o k w (ix2 j c) = w (ix2 j c) + ∑ i : Fin 1024, Ideal.exp2 (sdot k q j i) * o (ix2 i c) := by
  pointwise [k0_pay20, k0_pay15, k0_pay13, k0_pay11, k0_pay9, sdot]
  rfl

theorem pay4_at (q : FVec Ideal S1024x128 .bf16) (s : FVec Ideal S512x1024 .bf16) (w : FVec Ideal S512x128 .f32) (j : Fin 512) (c : Fin 128) :
    k0_pay4 (F := Ideal) q s w (ix2 j c) = w (ix2 j c) + ∑ i : Fin 1024, s (ix2 j i) * q (ix2 i c) := by
  pointwise [k0_pay4]

theorem pay5_at (k : FVec Ideal S512x128 .bf16) (s : FVec Ideal S512x1024 .bf16) (w : FVec Ideal S1024x128 .f32) (i : Fin 1024) (c : Fin 128) :
    k0_pay5 (F := Ideal) k s w (ix2 i c) = w (ix2 i c) + ∑ j : Fin 512, s (ix2 j i) * k (ix2 j c) := by
  pointwise [k0_pay5]

theorem pay6_at (q : FVec Ideal S1024x128 .bf16) (s : FVec Ideal S512x1024 .bf16) (w : FVec Ideal S512x128 .f32) (j : Fin 512) (c : Fin 128) :
    k0_pay6 (F := Ideal) q s w (ix2 j c) = w (ix2 j c) + ∑ i : Fin 1024, s (ix2 j i) * q (ix2 i c) := by
  pointwise [k0_pay6]

theorem pay7_at (q : FVec Ideal S1024x128 .bf16) (s : FVec Ideal S512x1024 .bf16) (w : FVec Ideal S512x128 .f32) (j : Fin 512) (c : Fin 128) :
    k0_pay7 (F := Ideal) q s w (ix2 j c) = w (ix2 j c) + ∑ i : Fin 1024, s (ix2 j i) * q (ix2 i c) := by
  pointwise [k0_pay7]

theorem pay8_at (k : FVec Ideal S512x128 .bf16) (s : FVec Ideal S512x1024 .bf16) (w : FVec Ideal S1024x128 .f32) (i : Fin 1024) (c : Fin 128) :
    k0_pay8 (F := Ideal) k s w (ix2 i c) = w (ix2 i c) + ∑ j : Fin 512, s (ix2 j i) * k (ix2 j c) := by
  pointwise [k0_pay8]

theorem pay9_eq (v : FVec Ideal S1024x128 .bf16) : k0_pay9 (F := Ideal) v = v := shapeCast_self _ _
theorem pay10_eq (v : FVec Ideal S1024x128 .bf16) : k0_pay10 (F := Ideal) v = v := shapeCast_self _ _
theorem pay12_eq (v : FVec Ideal S1024x128 .bf16) : k0_pay12 (F := Ideal) v = v := shapeCast_self _ _
theorem pay13_eq (v : FVec Ideal S512x128 .bf16) : k0_pay13 (F := Ideal) v = v := shapeCast_self _ _
theorem pay14_eq (v : FVec Ideal S512x128 .bf16) : k0_pay14 (F := Ideal) v = v := shapeCast_self _ _

/-! ## Blocks of a buffer -/

/-- Rows `o …` of head `a` of an array of two heads, `n` of them. -/
def blk {α : Type} {R : ℕ} (X : (⟨2, ![R, 256]⟩ : Shape).Idx → α) (o n : ℕ) (h : o + n ≤ R) (a : Fin 2) : (⟨2, ![n, 128]⟩ : Shape).Idx → α :=
  fun y => X (ix2 ⟨o + (y 0).val, by have : (y 0).val < n := (y 0).isLt; omega⟩ (col a (y 1)))

@[simp] theorem blk_at {α : Type} {R : ℕ} (X : (⟨2, ![R, 256]⟩ : Shape).Idx → α) (o n : ℕ) (h : o + n ≤ R) (a : Fin 2) (r : Fin n) (d : Fin 128) :
    blk X o n h a (ix2 r d) = X (ix2 ⟨o + r.val, by omega⟩ (col a d)) := rfl

/-- A load of a head's rows is that block of what the view reads. -/
theorem readAt_blk {R n : ℕ} {e : EltTy} (v : View sig .tc .vmem (⟨2, ![R, 256]⟩ : Shape) e) (f : v.ty.Contents (Elt Ideal)) {off : Fin 2 → ℕ}
    (inb : ∀ a, off a + (![n, 128] : Fin 2 → ℕ) a ≤ (⟨2, ![R, 256]⟩ : Shape).size a) (a : Fin 2) (o : ℕ) (hoff : off = ![o, 128 * a.val])
    (h : o + n ≤ R) :
    v.readAt (Elt Ideal) (Rect.unit (s := ⟨2, ![R, 256]⟩) off ![n, 128] inb).toLoadRect f
      = blk (v.read (Elt Ideal) f) o n h a := by
  subst hoff
  funext y
  refine congrArg (v.read (Elt Ideal) f) (funext fun b => Fin.ext ?_)
  match b with
  | ⟨0, _⟩ => show o + 1 * (y 0).val = o + (y 0).val; omega
  | ⟨1, _⟩ => show 128 * a.val + 1 * (y 1).val = 128 * a.val + (y 1).val; omega

/-- Two stores, one per head, at the same rows: a row among them reads the head's payload, another what was there. -/
theorem read_two {R n : ℕ} (v : View sig .tc .vmem (⟨2, ![R, 256]⟩ : Shape) .f32) (f : v.ty.Contents (Elt Ideal)) {off0 off1 : Fin 2 → ℕ}
    (inb0 : ∀ a, off0 a + (![n, 128] : Fin 2 → ℕ) a ≤ (⟨2, ![R, 256]⟩ : Shape).size a)
    (inb1 : ∀ a, off1 a + (![n, 128] : Fin 2 → ℕ) a ≤ (⟨2, ![R, 256]⟩ : Shape).size a) (o : ℕ) (h0 : off0 = ![o, 0]) (h1 : off1 = ![o, 128])
    (w0 w1 : (⟨2, ![n, 128]⟩ : Shape).Idx → EReal) (i : Fin R) (a : Fin 2) (d : Fin 128) :
    v.read (Elt Ideal) (v.writes (Elt Ideal) f [⟨Rect.unit (s := ⟨2, ![R, 256]⟩) off1 ![n, 128] inb1, w1⟩,
        ⟨Rect.unit (s := ⟨2, ![R, 256]⟩) off0 ![n, 128] inb0, w0⟩]) (ix2 i (col a d))
      = if h : o ≤ i.val ∧ i.val < o + n then (if a = 0 then w0 else w1) (ix2 ⟨i.val - o, by omega⟩ d) else v.read (Elt Ideal) f (ix2 i (col a d)) := by
  subst h0 h1
  by_cases h : o ≤ i.val ∧ i.val < o + n
  · rw [dif_pos h]
    match a with
    | ⟨0, _⟩ =>
      rw [View.read_writes_cons_unit_of_not_mem v f _ _ _ _ rfl (1 : Fin 2) (Or.inl (by show 128 * 0 + d.val < 128; omega))]
      refine View.read_writes_cons_unit_of_mem v f _ _ _ _ (ix2 ⟨i.val - o, by omega⟩ d) rfl fun b => ?_
      match b with
      | ⟨0, _⟩ => show i.val = o + (i.val - o); omega
      | ⟨1, _⟩ => show 128 * 0 + d.val = 0 + d.val; omega
    | ⟨1, _⟩ =>
      refine View.read_writes_cons_unit_of_mem v f _ _ _ _ (ix2 ⟨i.val - o, by omega⟩ d) rfl fun b => ?_
      match b with
      | ⟨0, _⟩ => show i.val = o + (i.val - o); omega
      | ⟨1, _⟩ => show 128 * 1 + d.val = 128 + d.val; omega
  · rw [dif_neg h, View.read_writes_cons_unit_of_not_mem v f _ _ _ _ rfl (0 : Fin 2) (by show i.val < o ∨ o + n ≤ i.val; omega),
      View.read_writes_cons_unit_of_not_mem v f _ _ _ _ rfl (0 : Fin 2) (by show i.val < o ∨ o + n ≤ i.val; omega)]
    rfl

/-! ## What a trip adds -/

section Terms
variable (Q D : S8192x256.Idx → EReal) (K V : S512x256.Idx → EReal)

/-- The weight of key `j` for query `i` in head `a`, as the kernel computes it. -/
def wgt (a : Fin 2) (j : Fin 512) (i : Fin 8192) : EReal :=
  Ideal.exp2 (∑ d : Fin 128, K (ix2 j (col a d)) * Q (ix2 i (col a d)))

/-- The gradient of the score of key `j` for query `i` in head `a`. -/
def dsc (a : Fin 2) (j : Fin 512) (i : Fin 8192) : EReal :=
  wgt Q K a j i * ∑ d : Fin 128, V (ix2 j (col a d)) * D (ix2 i (col a d))

/-- What query `i` adds to the value gradient of key `j`; zero past the last query. -/
def dvT (a : Fin 2) (j : Fin 512) (c : Fin 128) (i : ℕ) : EReal :=
  if h : i < 8192 then wgt Q K a j ⟨i, h⟩ * D (ix2 ⟨i, h⟩ (col a c)) else 0

/-- What query `i` adds to the key gradient of key `j`; zero past the last query. -/
def dkT (a : Fin 2) (j : Fin 512) (c : Fin 128) (i : ℕ) : EReal :=
  if h : i < 8192 then dsc Q D K V a j ⟨i, h⟩ * Q (ix2 ⟨i, h⟩ (col a c)) else 0

/-- What the block's keys add to the query gradient of query `i`. -/
def dqT (a : Fin 2) (i : Fin 8192) (c : Fin 128) : EReal :=
  ∑ j : Fin 512, dsc Q D K V a j i * K (ix2 j (col a c))

end Terms

theorem sdot_blk (Q : S8192x256.Idx → EReal) (K : S512x256.Idx → EReal) (o : ℕ) (h : o + 1024 ≤ 8192) (a : Fin 2) (j : Fin 512) (r : Fin 1024) :
    sdot (blk K 0 512 (by omega) a) (blk Q o 1024 h a) j r
      = ∑ d : Fin 128, K (ix2 j (col a d)) * Q (ix2 ⟨o + r.val, by omega⟩ (col a d)) := by
  unfold sdot
  refine Finset.sum_congr rfl fun d _ => ?_
  rw [blk_at, blk_at]
  congr 3
  exact Fin.ext (Nat.zero_add _)

theorem trips_le (k : Fin k0_t1_loop.trips) : k.val < 8 := Nat.lt_of_lt_of_le k.isLt k0_t1_abs.2.1

variable (𝒱 : Variants) (c : Dev nD) (bd : Option 𝒱.V) (i : grid0.Coords) (arg2 : Memref sig .tc .vmem S8192x256 .bf16) (harg2 : arg2.IsWhole)
  (arg3 : Memref sig .tc .vmem S8192x256 .bf16) (harg3 : arg3.IsWhole) (arg4 : Memref sig .tc .vmem S512x256 .bf16) (harg4 : arg4.IsWhole)
  (arg5 : Memref sig .tc .vmem S512x256 .bf16) (harg5 : arg5.IsWhole) (arg6 : Memref sig .tc .vmem S8192x256 .f32) (harg6 : arg6.IsWhole)
  (arg7 : Memref sig .tc .vmem S512x256 .f32) (harg7 : arg7.IsWhole) (arg8 : Memref sig .tc .vmem S512x256 .f32) (harg8 : arg8.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty)

/-- A trip's stores into the value gradient. -/
theorem trip8 (k : Fin k0_t1_loop.trips) (f6 : BufTy.Contents (Elt Ideal) arg6.view.ty) (f7 : BufTy.Contents (Elt Ideal) arg7.view.ty)
    (f8 : BufTy.Contents (Elt Ideal) arg8.view.ty) (j : Fin 512) (a : Fin 2) (c' : Fin 128) :
    arg8.view.read (Elt Ideal) (arg8.view.writes (Elt Ideal) f8 (tripL_k0_t1 𝒱 c bd i arg2 harg2 arg3 harg3 arg4 harg4 arg5 harg5 arg6 harg6 arg7 harg7 arg8 harg8 X2 X3 X4 X5 k f6 f7 f8).2.2) (ix2 j (col a c'))
      = arg8.view.read (Elt Ideal) f8 (ix2 j (col a c'))
        + ∑ r ∈ Finset.range 1024, dvT (arg2.view.read (Elt Ideal) X2) (arg3.view.read (Elt Ideal) X3) (arg4.view.read (Elt Ideal) X4) a j c' (1024 * k.val + r) := by
  have hk := trips_le k
  unfold tripL_k0_t1 trip_k0_t1
  dsimp only
  unfold trip_k0_t1.sl.r_2 trip_k0_t1.sl.r_6 trip_k0_t1.sl.v59 trip_k0_t1.sl.r_8
  rw [readAt_blk arg2.view X2 (k0_off2_inb k) 1 (1024 * k.val) (k0_off2_eq k) (by omega),
    readAt_blk arg3.view X3 (k0_off2_inb k) 1 (1024 * k.val) (k0_off2_eq k) (by omega),
    readAt_blk arg2.view X2 (k0_off1_inb k) 0 (1024 * k.val) (k0_off1_eq k) (by omega),
    readAt_blk arg3.view X3 (k0_off1_inb k) 0 (1024 * k.val) (k0_off1_eq k) (by omega),
    readAt_blk arg4.view X4 inb_S512x256_S512x128_0_128 1 0 rfl (by omega),
    readAt_blk arg4.view X4 inb_S512x256_S512x128_0_0 0 0 rfl (by omega),
    readAt_blk arg8.view f8 inb_S512x256_S512x128_0_128 1 0 rfl (by omega),
    readAt_blk arg8.view f8 inb_S512x256_S512x128_0_0 0 0 rfl (by omega)]
  refine (read_two arg8.view f8 _ _ 0 rfl rfl _ _ j a c').trans ?_
  rw [dif_pos ⟨Nat.zero_le _, by omega⟩]
  have e : ∀ a : Fin 2, (∑ r : Fin 1024, Ideal.exp2 (sdot (blk (arg4.view.read (Elt Ideal) X4) 0 512 (by omega) a)
        (blk (arg2.view.read (Elt Ideal) X2) (1024 * k.val) 1024 (by omega) a) j r)
        * (blk (arg3.view.read (Elt Ideal) X3) (1024 * k.val) 1024 (by omega) a) (ix2 r c'))
      = ∑ r ∈ Finset.range 1024, dvT (arg2.view.read (Elt Ideal) X2) (arg3.view.read (Elt Ideal) X3) (arg4.view.read (Elt Ideal) X4) a j c' (1024 * k.val + r) := by
    intro a
    rw [← Fin.sum_univ_eq_sum_range]
    refine Finset.sum_congr rfl fun r _ => ?_
    rw [dvT, dif_pos (by omega), sdot_blk]
    rfl
  match a with
  | ⟨0, _⟩ =>
    refine (pay20_at _ _ _ _ _ _).trans ?_
    rw [← e]
    exact congrArg₂ (· + ·) (congrArg (arg8.view.read (Elt Ideal) f8) (congrArg₂ ix2 (Fin.ext (Nat.zero_add _)) rfl)) rfl
  | ⟨1, _⟩ =>
    refine (pay6_at _ _ _ _ _).trans ?_
    rw [← e]
    refine congrArg₂ (· + ·) (congrArg (arg8.view.read (Elt Ideal) f8) (congrArg₂ ix2 (Fin.ext (Nat.zero_add _)) rfl)) ?_
    refine Finset.sum_congr rfl fun r _ => ?_
    rw [pay18_at, pay12_eq]
    rfl

/-- A trip's stores into the key gradient. -/
theorem trip7 (k : Fin k0_t1_loop.trips) (f6 : BufTy.Contents (Elt Ideal) arg6.view.ty) (f7 : BufTy.Contents (Elt Ideal) arg7.view.ty)
    (f8 : BufTy.Contents (Elt Ideal) arg8.view.ty) (j : Fin 512) (a : Fin 2) (c' : Fin 128) :
    arg7.view.read (Elt Ideal) (arg7.view.writes (Elt Ideal) f7 (tripL_k0_t1 𝒱 c bd i arg2 harg2 arg3 harg3 arg4 harg4 arg5 harg5 arg6 harg6 arg7 harg7 arg8 harg8 X2 X3 X4 X5 k f6 f7 f8).2.1) (ix2 j (col a c'))
      = arg7.view.read (Elt Ideal) f7 (ix2 j (col a c'))
        + ∑ r ∈ Finset.range 1024, dkT (arg2.view.read (Elt Ideal) X2) (arg3.view.read (Elt Ideal) X3) (arg4.view.read (Elt Ideal) X4) (arg5.view.read (Elt Ideal) X5) a j c' (1024 * k.val + r) := by
  have hk := trips_le k
  unfold tripL_k0_t1 trip_k0_t1
  dsimp only
  unfold trip_k0_t1.sl.r_1 trip_k0_t1.sl.r_7 trip_k0_t1.sl.v64 trip_k0_t1.sl.r trip_k0_t1.sl.r_5
  rw [readAt_blk arg2.view X2 (k0_off2_inb k) 1 (1024 * k.val) (k0_off2_eq k) (by omega),
    readAt_blk arg3.view X3 (k0_off2_inb k) 1 (1024 * k.val) (k0_off2_eq k) (by omega),
    readAt_blk arg2.view X2 (k0_off1_inb k) 0 (1024 * k.val) (k0_off1_eq k) (by omega),
    readAt_blk arg3.view X3 (k0_off1_inb k) 0 (1024 * k.val) (k0_off1_eq k) (by omega),
    readAt_blk arg4.view X4 inb_S512x256_S512x128_0_128 1 0 rfl (by omega),
    readAt_blk arg4.view X4 inb_S512x256_S512x128_0_0 0 0 rfl (by omega),
    readAt_blk arg5.view X5 inb_S512x256_S512x128_0_128 1 0 rfl (by omega),
    readAt_blk arg5.view X5 inb_S512x256_S512x128_0_0 0 0 rfl (by omega),
    readAt_blk arg7.view f7 inb_S512x256_S512x128_0_128 1 0 rfl (by omega),
    readAt_blk arg7.view f7 inb_S512x256_S512x128_0_0 0 0 rfl (by omega)]
  refine (read_two arg7.view f7 _ _ 0 rfl rfl _ _ j a c').trans ?_
  rw [dif_pos ⟨Nat.zero_le _, by omega⟩]
  have e : ∀ a : Fin 2, (∑ r : Fin 1024, (Ideal.exp2 (sdot (blk (arg4.view.read (Elt Ideal) X4) 0 512 (by omega) a) (blk (arg2.view.read (Elt Ideal) X2) (1024 * k.val) 1024 (by omega) a) j r)
        * sdot (blk (arg5.view.read (Elt Ideal) X5) 0 512 (by omega) a) (blk (arg3.view.read (Elt Ideal) X3) (1024 * k.val) 1024 (by omega) a) j r)
        * (blk (arg2.view.read (Elt Ideal) X2) (1024 * k.val) 1024 (by omega) a) (ix2 r c'))
      = ∑ r ∈ Finset.range 1024, dkT (arg2.view.read (Elt Ideal) X2) (arg3.view.read (Elt Ideal) X3) (arg4.view.read (Elt Ideal) X4) (arg5.view.read (Elt Ideal) X5) a j c' (1024 * k.val + r) := by
    intro a
    rw [← Fin.sum_univ_eq_sum_range]
    refine Finset.sum_congr rfl fun r _ => ?_
    rw [dkT, dif_pos (by omega), sdot_blk, sdot_blk]
    rfl
  match a with
  | ⟨0, _⟩ =>
    refine (pay4_at _ _ _ _ _).trans ?_
    rw [← e]
    refine congrArg₂ (· + ·) (congrArg (arg7.view.read (Elt Ideal) f7) (congrArg₂ ix2 (Fin.ext (Nat.zero_add _)) rfl)) ?_
    refine Finset.sum_congr rfl fun r _ => ?_
    rw [pay16_at, pay9_eq]
    rfl
  | ⟨1, _⟩ =>
    refine (pay7_at _ _ _ _ _).trans ?_
    rw [← e]
    refine congrArg₂ (· + ·) (congrArg (arg7.view.read (Elt Ideal) f7) (congrArg₂ ix2 (Fin.ext (Nat.zero_add _)) rfl)) ?_
    refine Finset.sum_congr rfl fun r _ => ?_
    rw [pay19_at, pay10_eq]
    rfl

/-- A trip's stores into the query gradient: the trip's rows only. -/
theorem trip6 (k : Fin k0_t1_loop.trips) (f6 : BufTy.Contents (Elt Ideal) arg6.view.ty) (f7 : BufTy.Contents (Elt Ideal) arg7.view.ty)
    (f8 : BufTy.Contents (Elt Ideal) arg8.view.ty) (q : Fin 8192) (a : Fin 2) (c' : Fin 128) :
    arg6.view.read (Elt Ideal) (arg6.view.writes (Elt Ideal) f6 (tripL_k0_t1 𝒱 c bd i arg2 harg2 arg3 harg3 arg4 harg4 arg5 harg5 arg6 harg6 arg7 harg7 arg8 harg8 X2 X3 X4 X5 k f6 f7 f8).1) (ix2 q (col a c'))
      = if 1024 * k.val ≤ q.val ∧ q.val < 1024 * k.val + 1024 then
          arg6.view.read (Elt Ideal) f6 (ix2 q (col a c')) + dqT (arg2.view.read (Elt Ideal) X2) (arg3.view.read (Elt Ideal) X3) (arg4.view.read (Elt Ideal) X4) (arg5.view.read (Elt Ideal) X5) a q c'
        else arg6.view.read (Elt Ideal) f6 (ix2 q (col a c')) := by
  have hk := trips_le k
  unfold tripL_k0_t1 trip_k0_t1
  dsimp only
  unfold trip_k0_t1.sl.r_4 trip_k0_t1.sl.r_7 trip_k0_t1.sl.v70 trip_k0_t1.sl.r_3 trip_k0_t1.sl.r_5
  rw [readAt_blk arg2.view X2 (k0_off2_inb k) 1 (1024 * k.val) (k0_off2_eq k) (by omega),
    readAt_blk arg3.view X3 (k0_off2_inb k) 1 (1024 * k.val) (k0_off2_eq k) (by omega),
    readAt_blk arg2.view X2 (k0_off1_inb k) 0 (1024 * k.val) (k0_off1_eq k) (by omega),
    readAt_blk arg3.view X3 (k0_off1_inb k) 0 (1024 * k.val) (k0_off1_eq k) (by omega),
    readAt_blk arg4.view X4 inb_S512x256_S512x128_0_128 1 0 rfl (by omega),
    readAt_blk arg4.view X4 inb_S512x256_S512x128_0_0 0 0 rfl (by omega),
    readAt_blk arg5.view X5 inb_S512x256_S512x128_0_128 1 0 rfl (by omega),
    readAt_blk arg5.view X5 inb_S512x256_S512x128_0_0 0 0 rfl (by omega),
    readAt_blk arg6.view f6 (k0_off2_inb k) 1 (1024 * k.val) (k0_off2_eq k) (by omega),
    readAt_blk arg6.view f6 (k0_off1_inb k) 0 (1024 * k.val) (k0_off1_eq k) (by omega)]
  refine (read_two arg6.view f6 _ _ (1024 * k.val) (k0_off1_eq k) (k0_off2_eq k) _ _ q a c').trans ?_
  split
  next h =>
    have e : ∀ a : Fin 2, (∑ j : Fin 512, (Ideal.exp2 (sdot (blk (arg4.view.read (Elt Ideal) X4) 0 512 (by omega) a) (blk (arg2.view.read (Elt Ideal) X2) (1024 * k.val) 1024 (by omega) a) j ⟨q.val - 1024 * k.val, by omega⟩)
          * sdot (blk (arg5.view.read (Elt Ideal) X5) 0 512 (by omega) a) (blk (arg3.view.read (Elt Ideal) X3) (1024 * k.val) 1024 (by omega) a) j ⟨q.val - 1024 * k.val, by omega⟩)
          * (blk (arg4.view.read (Elt Ideal) X4) 0 512 (by omega) a) (ix2 j c'))
        = dqT (arg2.view.read (Elt Ideal) X2) (arg3.view.read (Elt Ideal) X3) (arg4.view.read (Elt Ideal) X4) (arg5.view.read (Elt Ideal) X5) a q c' := by
      intro a
      have hq : (⟨1024 * k.val + (q.val - 1024 * k.val), by omega⟩ : Fin 8192) = q := Fin.ext (by show 1024 * k.val + (q.val - 1024 * k.val) = q.val; omega)
      unfold dqT
      refine Finset.sum_congr rfl fun j _ => ?_
      rw [sdot_blk, sdot_blk, blk_at]
      simp only [hq]
      exact congrArg₂ (· * ·) rfl (congrArg (arg4.view.read (Elt Ideal) X4) (congrArg₂ ix2 (Fin.ext (Nat.zero_add _)) rfl))
    have hq : (⟨1024 * k.val + (q.val - 1024 * k.val), by omega⟩ : Fin 8192) = q := Fin.ext (by show 1024 * k.val + (q.val - 1024 * k.val) = q.val; omega)
    match a with
    | ⟨0, _⟩ =>
      refine (pay5_at _ _ _ _ _).trans ?_
      rw [← e]
      refine congrArg₂ (· + ·) (congrArg (arg6.view.read (Elt Ideal) f6) (congrArg₂ ix2 hq rfl)) ?_
      refine Finset.sum_congr rfl fun r _ => ?_
      rw [pay16_at, pay13_eq]
      rfl
    | ⟨1, _⟩ =>
      refine (pay8_at _ _ _ _ _).trans ?_
      rw [← e]
      refine congrArg₂ (· + ·) (congrArg (arg6.view.read (Elt Ideal) f6) (congrArg₂ ix2 hq rfl)) ?_
      refine Finset.sum_congr rfl fun r _ => ?_
      rw [pay19_at, pay14_eq]
      rfl
  next h => rfl

end Cert.Proof.KI

end
-- ==== Proof.Points.lean ====
/- The loop over the query rows, and what one grid point leaves in the three gradients' blocks. -/
module

public import proofs.«01_k».proof.Proof.Trip
public import proofs.«01_k».proof.Proof.Gen.KernelIdeal.Frame

@[expose] public section

set_option maxRecDepth 16384

noncomputable section

namespace Cert.Proof.KI

open Cert.KernelIdeal Cert.KernelIdeal.Gen Idealize.ShloMosaic Idealize.ShloMosaic.TcCoe Idealize.SL.Sem

section Loop
variable (𝒱 : Variants) (c : Dev nD) (bd : Option 𝒱.V) (i : grid0.Coords) (arg2 : Memref sig .tc .vmem S8192x256 .bf16) (harg2 : arg2.IsWhole)
  (arg3 : Memref sig .tc .vmem S8192x256 .bf16) (harg3 : arg3.IsWhole) (arg4 : Memref sig .tc .vmem S512x256 .bf16) (harg4 : arg4.IsWhole)
  (arg5 : Memref sig .tc .vmem S512x256 .bf16) (harg5 : arg5.IsWhole) (arg6 : Memref sig .tc .vmem S8192x256 .f32) (harg6 : arg6.IsWhole)
  (arg7 : Memref sig .tc .vmem S512x256 .f32) (harg7 : arg7.IsWhole) (arg8 : Memref sig .tc .vmem S512x256 .f32) (harg8 : arg8.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty)
  (G6 : BufTy.Contents (Elt Ideal) arg6.view.ty) (G7 : BufTy.Contents (Elt Ideal) arg7.view.ty) (G8 : BufTy.Contents (Elt Ideal) arg8.view.ty)

theorem trips_eq : k0_t1_loop.trips = 8 := by decide

/-- The trips before `k` have added their queries' terms to the value gradient. -/
theorem loop8 (j : Fin 512) (a : Fin 2) (c' : Fin 128) (k : ℕ) (hk : k ≤ 8) :
    arg8.view.read (Elt Ideal) (arg8.view.writes (Elt Ideal) G8 (pb_k0_t1 𝒱 c bd i arg2 harg2 arg3 harg3 arg4 harg4 arg5 harg5 arg6 harg6 arg7 harg7 arg8 harg8 X2 X3 X4 X5 G6 G7 G8 k).2.2) (ix2 j (col a c'))
      = arg8.view.read (Elt Ideal) G8 (ix2 j (col a c')) + ∑ r ∈ Finset.range (1024 * k), dvT (arg2.view.read (Elt Ideal) X2) (arg3.view.read (Elt Ideal) X3) (arg4.view.read (Elt Ideal) X4) a j c' r := by
  induction k with
  | zero => simp [pb_k0_t1]
  | succ k ih =>
    have hk' : k < k0_t1_loop.trips := by rw [trips_eq]; omega
    have e := pb_k0_t1_succ 𝒱 c bd i arg2 harg2 arg3 harg3 arg4 harg4 arg5 harg5 arg6 harg6 arg7 harg7 arg8 harg8 X2 X3 X4 X5 G6 G7 G8 ⟨k, hk'⟩
    dsimp only at e
    rw [e]
    dsimp only
    rw [View.writes_append, trip8, ih (by omega), show 1024 * (k + 1) = 1024 * k + 1024 by ring, Finset.sum_range_add]
    exact add_assoc _ _ _

/-- The trips before `k` have added their queries' terms to the key gradient. -/
theorem loop7 (j : Fin 512) (a : Fin 2) (c' : Fin 128) (k : ℕ) (hk : k ≤ 8) :
    arg7.view.read (Elt Ideal) (arg7.view.writes (Elt Ideal) G7 (pb_k0_t1 𝒱 c bd i arg2 harg2 arg3 harg3 arg4 harg4 arg5 harg5 arg6 harg6 arg7 harg7 arg8 harg8 X2 X3 X4 X5 G6 G7 G8 k).2.1) (ix2 j (col a c'))
      = arg7.view.read (Elt Ideal) G7 (ix2 j (col a c')) + ∑ r ∈ Finset.range (1024 * k), dkT (arg2.view.read (Elt Ideal) X2) (arg3.view.read (Elt Ideal) X3) (arg4.view.read (Elt Ideal) X4) (arg5.view.read (Elt Ideal) X5) a j c' r := by
  induction k with
  | zero => simp [pb_k0_t1]
  | succ k ih =>
    have hk' : k < k0_t1_loop.trips := by rw [trips_eq]; omega
    have e := pb_k0_t1_succ 𝒱 c bd i arg2 harg2 arg3 harg3 arg4 harg4 arg5 harg5 arg6 harg6 arg7 harg7 arg8 harg8 X2 X3 X4 X5 G6 G7 G8 ⟨k, hk'⟩
    dsimp only at e
    rw [e]
    dsimp only
    rw [View.writes_append, trip7, ih (by omega), show 1024 * (k + 1) = 1024 * k + 1024 by ring, Finset.sum_range_add]
    exact add_assoc _ _ _

/-- The trips before `k` have added the block's keys' terms to the query gradient of their own queries. -/
theorem loop6 (q : Fin 8192) (a : Fin 2) (c' : Fin 128) (k : ℕ) (hk : k ≤ 8) :
    arg6.view.read (Elt Ideal) (arg6.view.writes (Elt Ideal) G6 (pb_k0_t1 𝒱 c bd i arg2 harg2 arg3 harg3 arg4 harg4 arg5 harg5 arg6 harg6 arg7 harg7 arg8 harg8 X2 X3 X4 X5 G6 G7 G8 k).1) (ix2 q (col a c'))
      = if q.val < 1024 * k then arg6.view.read (Elt Ideal) G6 (ix2 q (col a c')) + dqT (arg2.view.read (Elt Ideal) X2) (arg3.view.read (Elt Ideal) X3) (arg4.view.read (Elt Ideal) X4) (arg5.view.read (Elt Ideal) X5) a q c'
        else arg6.view.read (Elt Ideal) G6 (ix2 q (col a c')) := by
  induction k with
  | zero => simp [pb_k0_t1]
  | succ k ih =>
    have hk' : k < k0_t1_loop.trips := by rw [trips_eq]; omega
    have e := pb_k0_t1_succ 𝒱 c bd i arg2 harg2 arg3 harg3 arg4 harg4 arg5 harg5 arg6 harg6 arg7 harg7 arg8 harg8 X2 X3 X4 X5 G6 G7 G8 ⟨k, hk'⟩
    dsimp only at e
    rw [e]
    dsimp only
    rw [View.writes_append, trip6, ih (by omega)]
    dsimp only
    by_cases h1 : q.val < 1024 * k
    · rw [if_neg (by omega), if_pos h1, if_pos (by omega)]
    · by_cases h2 : q.val < 1024 * (k + 1)
      · rw [if_pos (by omega), if_neg h1, if_pos h2]
      · rw [if_neg (by omega), if_neg h1, if_neg h2]

end Loop

section Point
variable (c : Dev nD) (i : grid0.Coords) (arg2 : Memref sig .tc .vmem S8192x256 .bf16) (harg2 : arg2.IsWhole)
  (arg3 : Memref sig .tc .vmem S8192x256 .bf16) (harg3 : arg3.IsWhole) (arg4 : Memref sig .tc .vmem S512x256 .bf16) (harg4 : arg4.IsWhole)
  (arg5 : Memref sig .tc .vmem S512x256 .bf16) (harg5 : arg5.IsWhole) (arg6 : Memref sig .tc .vmem S8192x256 .f32) (harg6 : arg6.IsWhole)
  (arg7 : Memref sig .tc .vmem S512x256 .f32) (harg7 : arg7.IsWhole) (arg8 : Memref sig .tc .vmem S512x256 .f32) (harg8 : arg8.IsWhole)
  (x0 : Vec Ideal S8192x256 .bf16) (x1 : Vec Ideal S8192x256 .bf16) (x2 : Vec Ideal S512x256 .bf16) (x3 : Vec Ideal S512x256 .bf16)

theorem pay1_at (x : S8192x256.Idx) : k0_pay1 (F := Ideal) x = (0 : EReal) := by
  simp [k0_pay1, broadcast, Ideal.ofBits, Ideal.ieee]
theorem pay2_at (x : S512x256.Idx) : k0_pay2 (F := Ideal) x = (0 : EReal) := by
  simp [k0_pay2, broadcast, Ideal.ofBits, Ideal.ieee]
theorem pay3_at (x : S512x256.Idx) : k0_pay3 (F := Ideal) x = (0 : EReal) := by
  simp [k0_pay3, broadcast, Ideal.ofBits, Ideal.ieee]

theorem loop_trips : Scf.trips (0#32) (Scalar.addi 0#32 8#32) 1#32 = 8 := by decide

/-- What a point that begins a pair of heads leaves in the query gradient's block. -/
theorem pointA6 (hc0 : cond0_0 i) (q : Fin 8192) (a : Fin 2) (c' : Fin 128) :
    out0_A_4 c i arg2 harg2 arg3 harg3 arg4 harg4 arg5 harg5 arg6 harg6 arg7 harg7 arg8 harg8 hc0 x0 x1 x2 x3 (ix2 q (col a c')) = dqT x0 x1 x2 x3 a q c' := by
  unfold out0_A_4
  rw [View.read_writes_of_cover VO0_4 VO0_4.junk arg6.view arg6.view.junk _ (cover0_A_4 c i arg2 harg2 arg3 harg3 arg4 harg4 arg5 harg5 arg6 harg6 arg7 harg7 arg8 harg8 hc0 x0 x1 x2 x3)]
  unfold kernelRun0_A
  dsimp only
  rw [View.writes_append, loop_trips, loop6 (k := 8) (hk := le_rfl)]
  unfold kernelRun0_A.sl.H4_1
  simp only [Memref.IsWhole.read_unread]
  rw [if_pos (by omega)]
  exact (congrArg (· + _) ((congrFun (View.read_writes_full _ _ _ _ _) _).trans (pay1_at _))).trans (zero_add _)

/-- What a point that begins a pair of heads leaves in the key gradient's block. -/
theorem pointA7 (hc0 : cond0_0 i) (j : Fin 512) (a : Fin 2) (c' : Fin 128) :
    out0_A_5 c i arg2 harg2 arg3 harg3 arg4 harg4 arg5 harg5 arg6 harg6 arg7 harg7 arg8 harg8 hc0 x0 x1 x2 x3 (ix2 j (col a c')) = ∑ r ∈ Finset.range 8192, dkT x0 x1 x2 x3 a j c' r := by
  unfold out0_A_5
  rw [View.read_writes_of_cover VO0_5 VO0_5.junk arg7.view arg7.view.junk _ (cover0_A_5 c i arg2 harg2 arg3 harg3 arg4 harg4 arg5 harg5 arg6 harg6 arg7 harg7 arg8 harg8 hc0 x0 x1 x2 x3)]
  unfold kernelRun0_A
  dsimp only
  rw [View.writes_append, loop_trips, loop7 (k := 8) (hk := le_rfl)]
  unfold kernelRun0_A.sl.H5_1
  simp only [Memref.IsWhole.read_unread]
  exact (congrArg (· + _) ((congrFun (View.read_writes_full _ _ _ _ _) _).trans (pay2_at _))).trans (zero_add _)

/-- What a point that begins a pair of heads leaves in the value gradient's block. -/
theorem pointA8 (hc0 : cond0_0 i) (j : Fin 512) (a : Fin 2) (c' : Fin 128) :
    out0_A_6 c i arg2 harg2 arg3 harg3 arg4 harg4 arg5 harg5 arg6 harg6 arg7 harg7 arg8 harg8 hc0 x0 x1 x2 x3 (ix2 j (col a c')) = ∑ r ∈ Finset.range 8192, dvT x0 x1 x2 a j c' r := by
  unfold out0_A_6
  rw [View.read_writes_of_cover VO0_6 VO0_6.junk arg8.view arg8.view.junk _ (cover0_A_6 c i arg2 harg2 arg3 harg3 arg4 harg4 arg5 harg5 arg6 harg6 arg7 harg7 arg8 harg8 hc0 x0 x1 x2 x3)]
  unfold kernelRun0_A
  dsimp only
  rw [View.writes_append, loop_trips, loop8 (k := 8) (hk := le_rfl)]
  unfold kernelRun0_A.sl.H6_1
  simp only [Memref.IsWhole.read_unread]
  exact (congrArg (· + _) ((congrFun (View.read_writes_full _ _ _ _ _) _).trans (pay3_at _))).trans (zero_add _)

/-- What a point further on leaves in the query gradient's block. -/
theorem pointB6 (hc0 : ¬cond0_0 i) (xo4 : Vec Ideal S8192x256 .f32) (q : Fin 8192) (a : Fin 2) (c' : Fin 128) :
    out0_B_4 c i arg2 harg2 arg3 harg3 arg4 harg4 arg5 harg5 arg6 harg6 arg7 harg7 arg8 harg8 hc0 x0 x1 x2 x3 xo4 (ix2 q (col a c')) = xo4 (ix2 q (col a c')) + dqT x0 x1 x2 x3 a q c' := by
  unfold out0_B_4
  rw [View.read_writes_of_cover VO0_4 VO0_4.junk arg6.view (harg6.unread xo4) _ (cover0_B_4 c i arg2 harg2 arg3 harg3 arg4 harg4 arg5 harg5 arg6 harg6 arg7 harg7 arg8 harg8 hc0 x0 x1 x2 x3 xo4)]
  unfold kernelRun0_B
  dsimp only
  rw [loop_trips, loop6 (k := 8) (hk := le_rfl), if_pos (by omega)]
  simp only [Memref.IsWhole.read_unread]

/-- What a point further on leaves in the key gradient's block. -/
theorem pointB7 (hc0 : ¬cond0_0 i) (xo4 : Vec Ideal S8192x256 .f32) (j : Fin 512) (a : Fin 2) (c' : Fin 128) :
    out0_B_5 c i arg2 harg2 arg3 harg3 arg4 harg4 arg5 harg5 arg6 harg6 arg7 harg7 arg8 harg8 hc0 x0 x1 x2 x3 xo4 (ix2 j (col a c')) = ∑ r ∈ Finset.range 8192, dkT x0 x1 x2 x3 a j c' r := by
  unfold out0_B_5
  rw [View.read_writes_of_cover VO0_5 VO0_5.junk arg7.view arg7.view.junk _ (cover0_B_5 c i arg2 harg2 arg3 harg3 arg4 harg4 arg5 harg5 arg6 harg6 arg7 harg7 arg8 harg8 hc0 x0 x1 x2 x3 xo4)]
  unfold kernelRun0_B
  dsimp only
  rw [View.writes_append, loop_trips, loop7 (k := 8) (hk := le_rfl)]
  unfold kernelRun0_B.sl.H5_1
  simp only [Memref.IsWhole.read_unread]
  exact (congrArg (· + _) ((congrFun (View.read_writes_full _ _ _ _ _) _).trans (pay2_at _))).trans (zero_add _)

/-- What a point further on leaves in the value gradient's block. -/
theorem pointB8 (hc0 : ¬cond0_0 i) (xo4 : Vec Ideal S8192x256 .f32) (j : Fin 512) (a : Fin 2) (c' : Fin 128) :
    out0_B_6 c i arg2 harg2 arg3 harg3 arg4 harg4 arg5 harg5 arg6 harg6 arg7 harg7 arg8 harg8 hc0 x0 x1 x2 x3 xo4 (ix2 j (col a c')) = ∑ r ∈ Finset.range 8192, dvT x0 x1 x2 a j c' r := by
  unfold out0_B_6
  rw [View.read_writes_of_cover VO0_6 VO0_6.junk arg8.view arg8.view.junk _ (cover0_B_6 c i arg2 harg2 arg3 harg3 arg4 harg4 arg5 harg5 arg6 harg6 arg7 harg7 arg8 harg8 hc0 x0 x1 x2 x3 xo4)]
  unfold kernelRun0_B
  dsimp only
  rw [View.writes_append, loop_trips, loop8 (k := 8) (hk := le_rfl)]
  unfold kernelRun0_B.sl.H6_1
  simp only [Memref.IsWhole.read_unread]
  exact (congrArg (· + _) ((congrFun (View.read_writes_full _ _ _ _ _) _).trans (pay3_at _))).trans (zero_add _)

end Point

end Cert.Proof.KI

end
-- ==== Proof.Arrays.lean ====
/- The three gradients' arrays when the region ends, as sums over all the keys or queries of a head. -/
module

public import proofs.«01_k».proof.Proof.Points

@[expose] public section

set_option maxRecDepth 16384

noncomputable section

namespace Cert.Proof.KI

open Cert.KernelIdeal Cert.KernelIdeal.Gen Idealize.ShloMosaic Idealize.ShloMosaic.TcCoe Idealize.SL.Sem

/-- Column `d` of head `h` of an array of all the heads. -/
def gcol (h : Fin 8) (d : Fin 128) : Fin 1024 := ⟨128 * h.val + d.val, by omega⟩

/-- The head a column belongs to. -/
def ghead (n : Fin 1024) : Fin 8 := ⟨n.val / 128, by omega⟩
/-- The column within its head. -/
def gdim (n : Fin 1024) : Fin 128 := ⟨n.val % 128, by omega⟩

theorem ghead_gcol (h : Fin 8) (d : Fin 128) : ghead (gcol h d) = h := Fin.ext (by show (128 * h.val + d.val) / 128 = h.val; omega)
theorem gdim_gcol (h : Fin 8) (d : Fin 128) : gdim (gcol h d) = d := Fin.ext (by show (128 * h.val + d.val) % 128 = d.val; omega)

section Whole
variable (Q D K V : S8192x1024.Idx → EReal)

/-- The weight of key `j` for query `i` in head `h`. -/
def aw (h : Fin 8) (j i : Fin 8192) : EReal := Ideal.exp2 (∑ d : Fin 128, K (ix2 j (gcol h d)) * Q (ix2 i (gcol h d)))

/-- The gradient of the score of key `j` for query `i` in head `h`. -/
def ads (h : Fin 8) (j i : Fin 8192) : EReal := aw Q K h j i * ∑ d : Fin 128, V (ix2 j (gcol h d)) * D (ix2 i (gcol h d))

/-- The query gradient over all the keys. -/
def aDq (i : Fin 8192) (h : Fin 8) (c : Fin 128) : EReal := ∑ j : Fin 8192, ads Q D K V h j i * K (ix2 j (gcol h c))

/-- The key gradient over all the queries. -/
def aDk (j : Fin 8192) (h : Fin 8) (c : Fin 128) : EReal := ∑ i : Fin 8192, ads Q D K V h j i * Q (ix2 i (gcol h c))

/-- The value gradient over all the queries. -/
def aDv (j : Fin 8192) (h : Fin 8) (c : Fin 128) : EReal := ∑ i : Fin 8192, aw Q K h j i * D (ix2 i (gcol h c))

end Whole

variable (m : (ℓ : Loc nD τ sig) → Buf (Elt Ideal) ℓ)

/-- The head of the pair that grid point `t` works on. -/
def hd (t : Fin cfg0.N) (a : Fin 2) : Fin 8 := ⟨2 * (t.val / 16) + a.val, by have : t.val < 64 := t.isLt; omega⟩
/-- Key `j` of grid point `t`'s block, among all the keys. -/
def kj (t : Fin cfg0.N) (j : Fin 512) : Fin 8192 := ⟨512 * (t.val % 16) + j.val, by omega⟩

theorem coord0 (t : Fin cfg0.N) : (grid0.coords t 0).val = t.val / 16 := by
  have e0 : (grid0.coords t 0).val = t.val / 16 % 4 := Pipeline.Grid.coords_val t 0 (by decide) rfl
  have : t.val < 64 := t.isLt
  omega
theorem coord1 (t : Fin cfg0.N) : (grid0.coords t 1).val = t.val % 16 := by
  have e1 : (grid0.coords t 1).val = t.val / 1 % 16 := Pipeline.Grid.coords_val t 1 (by decide) rfl
  omega

theorem index0_0 (t : Fin cfg0.N) : win0_0.index t (0 : Fin 2) = 0 := rfl
theorem index0_1 (t : Fin cfg0.N) : win0_0.index t (1 : Fin 2) = t.val / 16 := by
  show (BitVec.ofNat 32 (grid0.coords t 0).val).toNat = _
  have : t.val < 64 := t.isLt
  rw [coord0, BitVec.toNat_ofNat]
  omega

/-- Where window 0's block at point `t` lies in its array. -/
theorem emb0 (t : Fin cfg0.N) (q : Fin 8192) (a : Fin 2) (d : Fin 128) :
    (win0_0.rect t).emb (ix2 q (col a d)) = ix2 q (gcol (hd t a) d) := funext fun b => Fin.ext <| by
  match b with
  | ⟨0, _⟩ =>
    refine (win0_0.rect_emb_val t (ix2 q (col a d)) (0 : Fin 2)).trans ?_
    rw [index0_0]
    show 0 * _ + q.val = q.val
    omega
  | ⟨1, _⟩ =>
    refine (win0_0.rect_emb_val t (ix2 q (col a d)) (1 : Fin 2)).trans ?_
    rw [index0_1]
    show t.val / 16 * 256 + (128 * a.val + d.val) = 128 * (2 * (t.val / 16) + a.val) + d.val
    omega

theorem iblk0_at (c : Dev nD) (t : Fin cfg0.N) (q : Fin 8192) (a : Fin 2) (d : Fin 128) :
    iblk m c 0 t (ix2 q (col a d)) = V m c main_v48 (ix2 q (gcol (hd t a) d)) := by
  unfold iblk
  rw [View.read_apply]
  exact congrArg (V m c main_v48) (emb0 t q a d)

theorem index1_0 (t : Fin cfg0.N) : win0_1.index t (0 : Fin 2) = 0 := rfl
theorem index1_1 (t : Fin cfg0.N) : win0_1.index t (1 : Fin 2) = t.val / 16 := by
  show (BitVec.ofNat 32 (grid0.coords t 0).val).toNat = _
  have : t.val < 64 := t.isLt
  rw [coord0, BitVec.toNat_ofNat]
  omega

/-- Where window 1's block at point `t` lies in its array. -/
theorem emb1 (t : Fin cfg0.N) (q : Fin 8192) (a : Fin 2) (d : Fin 128) :
    (win0_1.rect t).emb (ix2 q (col a d)) = ix2 q (gcol (hd t a) d) := funext fun b => Fin.ext <| by
  match b with
  | ⟨0, _⟩ =>
    refine (win0_1.rect_emb_val t (ix2 q (col a d)) (0 : Fin 2)).trans ?_
    rw [index1_0]
    show 0 * _ + q.val = q.val
    omega
  | ⟨1, _⟩ =>
    refine (win0_1.rect_emb_val t (ix2 q (col a d)) (1 : Fin 2)).trans ?_
    rw [index1_1]
    show t.val / 16 * 256 + (128 * a.val + d.val) = 128 * (2 * (t.val / 16) + a.val) + d.val
    omega

theorem iblk1_at (c : Dev nD) (t : Fin cfg0.N) (q : Fin 8192) (a : Fin 2) (d : Fin 128) :
    iblk m c 1 t (ix2 q (col a d)) = V m c main_v64 (ix2 q (gcol (hd t a) d)) := by
  unfold iblk
  rw [View.read_apply]
  exact congrArg (V m c main_v64) (emb1 t q a d)

theorem index2_0 (t : Fin cfg0.N) : win0_2.index t (0 : Fin 2) = t.val % 16 := by
  show (BitVec.ofNat 32 (grid0.coords t 1).val).toNat = _
  rw [coord1, BitVec.toNat_ofNat]
  omega
theorem index2_1 (t : Fin cfg0.N) : win0_2.index t (1 : Fin 2) = t.val / 16 := by
  show (BitVec.ofNat 32 (grid0.coords t 0).val).toNat = _
  have : t.val < 64 := t.isLt
  rw [coord0, BitVec.toNat_ofNat]
  omega

/-- Where window 2's block at point `t` lies in its array. -/
theorem emb2 (t : Fin cfg0.N) (q : Fin 512) (a : Fin 2) (d : Fin 128) :
    (win0_2.rect t).emb (ix2 q (col a d)) = ix2 (kj t q) (gcol (hd t a) d) := funext fun b => Fin.ext <| by
  match b with
  | ⟨0, _⟩ =>
    refine (win0_2.rect_emb_val t (ix2 q (col a d)) (0 : Fin 2)).trans ?_
    rw [index2_0]
    show t.val % 16 * 512 + q.val = 512 * (t.val % 16) + q.val
    omega
  | ⟨1, _⟩ =>
    refine (win0_2.rect_emb_val t (ix2 q (col a d)) (1 : Fin 2)).trans ?_
    rw [index2_1]
    show t.val / 16 * 256 + (128 * a.val + d.val) = 128 * (2 * (t.val / 16) + a.val) + d.val
    omega

theorem iblk2_at (c : Dev nD) (t : Fin cfg0.N) (q : Fin 512) (a : Fin 2) (d : Fin 128) :
    iblk m c 2 t (ix2 q (col a d)) = V m c main_v53 (ix2 (kj t q) (gcol (hd t a) d)) := by
  unfold iblk
  rw [View.read_apply]
  exact congrArg (V m c main_v53) (emb2 t q a d)

theorem index3_0 (t : Fin cfg0.N) : win0_3.index t (0 : Fin 2) = t.val % 16 := by
  show (BitVec.ofNat 32 (grid0.coords t 1).val).toNat = _
  rw [coord1, BitVec.toNat_ofNat]
  omega
theorem index3_1 (t : Fin cfg0.N) : win0_3.index t (1 : Fin 2) = t.val / 16 := by
  show (BitVec.ofNat 32 (grid0.coords t 0).val).toNat = _
  have : t.val < 64 := t.isLt
  rw [coord0, BitVec.toNat_ofNat]
  omega

/-- Where window 3's block at point `t` lies in its array. -/
theorem emb3 (t : Fin cfg0.N) (q : Fin 512) (a : Fin 2) (d : Fin 128) :
    (win0_3.rect t).emb (ix2 q (col a d)) = ix2 (kj t q) (gcol (hd t a) d) := funext fun b => Fin.ext <| by
  match b with
  | ⟨0, _⟩ =>
    refine (win0_3.rect_emb_val t (ix2 q (col a d)) (0 : Fin 2)).trans ?_
    rw [index3_0]
    show t.val % 16 * 512 + q.val = 512 * (t.val % 16) + q.val
    omega
  | ⟨1, _⟩ =>
    refine (win0_3.rect_emb_val t (ix2 q (col a d)) (1 : Fin 2)).trans ?_
    rw [index3_1]
    show t.val / 16 * 256 + (128 * a.val + d.val) = 128 * (2 * (t.val / 16) + a.val) + d.val
    omega

theorem iblk3_at (c : Dev nD) (t : Fin cfg0.N) (q : Fin 512) (a : Fin 2) (d : Fin 128) :
    iblk m c 3 t (ix2 q (col a d)) = V m c main_v58 (ix2 (kj t q) (gcol (hd t a) d)) := by
  unfold iblk
  rw [View.read_apply]
  exact congrArg (V m c main_v58) (emb3 t q a d)

theorem index4_0 (t : Fin cfg0.N) : win0_4.index t (0 : Fin 2) = 0 := rfl
theorem index4_1 (t : Fin cfg0.N) : win0_4.index t (1 : Fin 2) = t.val / 16 := by
  show (BitVec.ofNat 32 (grid0.coords t 0).val).toNat = _
  have : t.val < 64 := t.isLt
  rw [coord0, BitVec.toNat_ofNat]
  omega

/-- Where window 4's block at point `t` lies in its array. -/
theorem emb4 (t : Fin cfg0.N) (q : Fin 8192) (a : Fin 2) (d : Fin 128) :
    (win0_4.rect t).emb (ix2 q (col a d)) = ix2 q (gcol (hd t a) d) := funext fun b => Fin.ext <| by
  match b with
  | ⟨0, _⟩ =>
    refine (win0_4.rect_emb_val t (ix2 q (col a d)) (0 : Fin 2)).trans ?_
    rw [index4_0]
    show 0 * _ + q.val = q.val
    omega
  | ⟨1, _⟩ =>
    refine (win0_4.rect_emb_val t (ix2 q (col a d)) (1 : Fin 2)).trans ?_
    rw [index4_1]
    show t.val / 16 * 256 + (128 * a.val + d.val) = 128 * (2 * (t.val / 16) + a.val) + d.val
    omega

theorem index5_0 (t : Fin cfg0.N) : win0_5.index t (0 : Fin 2) = t.val % 16 := by
  show (BitVec.ofNat 32 (grid0.coords t 1).val).toNat = _
  rw [coord1, BitVec.toNat_ofNat]
  omega
theorem index5_1 (t : Fin cfg0.N) : win0_5.index t (1 : Fin 2) = t.val / 16 := by
  show (BitVec.ofNat 32 (grid0.coords t 0).val).toNat = _
  have : t.val < 64 := t.isLt
  rw [coord0, BitVec.toNat_ofNat]
  omega

/-- Where window 5's block at point `t` lies in its array. -/
theorem emb5 (t : Fin cfg0.N) (q : Fin 512) (a : Fin 2) (d : Fin 128) :
    (win0_5.rect t).emb (ix2 q (col a d)) = ix2 (kj t q) (gcol (hd t a) d) := funext fun b => Fin.ext <| by
  match b with
  | ⟨0, _⟩ =>
    refine (win0_5.rect_emb_val t (ix2 q (col a d)) (0 : Fin 2)).trans ?_
    rw [index5_0]
    show t.val % 16 * 512 + q.val = 512 * (t.val % 16) + q.val
    omega
  | ⟨1, _⟩ =>
    refine (win0_5.rect_emb_val t (ix2 q (col a d)) (1 : Fin 2)).trans ?_
    rw [index5_1]
    show t.val / 16 * 256 + (128 * a.val + d.val) = 128 * (2 * (t.val / 16) + a.val) + d.val
    omega

theorem index6_0 (t : Fin cfg0.N) : win0_6.index t (0 : Fin 2) = t.val % 16 := by
  show (BitVec.ofNat 32 (grid0.coords t 1).val).toNat = _
  rw [coord1, BitVec.toNat_ofNat]
  omega
theorem index6_1 (t : Fin cfg0.N) : win0_6.index t (1 : Fin 2) = t.val / 16 := by
  show (BitVec.ofNat 32 (grid0.coords t 0).val).toNat = _
  have : t.val < 64 := t.isLt
  rw [coord0, BitVec.toNat_ofNat]
  omega

/-- Where window 6's block at point `t` lies in its array. -/
theorem emb6 (t : Fin cfg0.N) (q : Fin 512) (a : Fin 2) (d : Fin 128) :
    (win0_6.rect t).emb (ix2 q (col a d)) = ix2 (kj t q) (gcol (hd t a) d) := funext fun b => Fin.ext <| by
  match b with
  | ⟨0, _⟩ =>
    refine (win0_6.rect_emb_val t (ix2 q (col a d)) (0 : Fin 2)).trans ?_
    rw [index6_0]
    show t.val % 16 * 512 + q.val = 512 * (t.val % 16) + q.val
    omega
  | ⟨1, _⟩ =>
    refine (win0_6.rect_emb_val t (ix2 q (col a d)) (1 : Fin 2)).trans ?_
    rw [index6_1]
    show t.val / 16 * 256 + (128 * a.val + d.val) = 128 * (2 * (t.val / 16) + a.val) + d.val
    omega

/-- The block's weight is the array's. -/
theorem wgt_at (c : Dev nD) (t : Fin cfg0.N) (a : Fin 2) (j : Fin 512) (i : Fin 8192) :
    wgt (iblk m c 0 t) (iblk m c 2 t) a j i = aw (V m c main_v48) (V m c main_v53) (hd t a) (kj t j) i := by
  unfold wgt aw
  exact congrArg Ideal.exp2 (Finset.sum_congr rfl fun d _ => by rw [iblk0_at, iblk2_at])

/-- The block's score gradient is the arrays'. -/
theorem dsc_at (c : Dev nD) (t : Fin cfg0.N) (a : Fin 2) (j : Fin 512) (i : Fin 8192) :
    dsc (iblk m c 0 t) (iblk m c 1 t) (iblk m c 2 t) (iblk m c 3 t) a j i = ads (V m c main_v48) (V m c main_v64) (V m c main_v53) (V m c main_v58) (hd t a) (kj t j) i := by
  unfold dsc ads
  rw [wgt_at]
  refine congrArg (fun z : EReal => aw (V m c main_v48) (V m c main_v53) (hd t a) (kj t j) i * z) (Finset.sum_congr rfl fun d _ => ?_)
  rw [iblk1_at, iblk3_at]

theorem dv_at (c : Dev nD) (t : Fin cfg0.N) (a : Fin 2) (j : Fin 512) (c' : Fin 128) :
    ∑ r ∈ Finset.range 8192, dvT (iblk m c 0 t) (iblk m c 1 t) (iblk m c 2 t) a j c' r
      = aDv (V m c main_v48) (V m c main_v64) (V m c main_v53) (kj t j) (hd t a) c' := by
  rw [← Fin.sum_univ_eq_sum_range]
  exact Finset.sum_congr rfl fun r _ => by rw [dvT, dif_pos r.isLt, wgt_at, iblk1_at]

theorem dk_at (c : Dev nD) (t : Fin cfg0.N) (a : Fin 2) (j : Fin 512) (c' : Fin 128) :
    ∑ r ∈ Finset.range 8192, dkT (iblk m c 0 t) (iblk m c 1 t) (iblk m c 2 t) (iblk m c 3 t) a j c' r = aDk (V m c main_v48) (V m c main_v64) (V m c main_v53) (V m c main_v58) (kj t j) (hd t a) c' := by
  rw [← Fin.sum_univ_eq_sum_range]
  exact Finset.sum_congr rfl fun r _ => by rw [dkT, dif_pos r.isLt, dsc_at, iblk0_at]

/-- Key `j`'s term of the query gradient; zero past the last key. -/
def aDqT (Q D K V : S8192x1024.Idx → EReal) (i : Fin 8192) (h : Fin 8) (c : Fin 128) (j : ℕ) : EReal :=
  if hj : j < 8192 then ads Q D K V h ⟨j, hj⟩ i * K (ix2 ⟨j, hj⟩ (gcol h c)) else 0

theorem dq_at (c : Dev nD) (t : Fin cfg0.N) (a : Fin 2) (q : Fin 8192) (c' : Fin 128) :
    dqT (iblk m c 0 t) (iblk m c 1 t) (iblk m c 2 t) (iblk m c 3 t) a q c' = ∑ r ∈ Finset.range 512, aDqT (V m c main_v48) (V m c main_v64) (V m c main_v53) (V m c main_v58) q (hd t a) c' (512 * (t.val % 16) + r) := by
  rw [← Fin.sum_univ_eq_sum_range]
  exact Finset.sum_congr rfl fun r _ => by rw [aDqT, dif_pos (by omega), dsc_at, iblk2_at]; rfl

/-- After point `n` the query gradient's block holds the terms of the keys of the pair's points so far. -/
theorem outs4 (c : Dev nD) (q : Fin 8192) (a : Fin 2) (c' : Fin 128) : ∀ (n : ℕ) (hn : n < cfg0.N),
    (outsAt0 m c n hn).1 (ix2 q (col a c')) = ∑ r ∈ Finset.range (512 * (n % 16 + 1)), aDqT (V m c main_v48) (V m c main_v64) (V m c main_v53) (V m c main_v58) q (hd ⟨n, hn⟩ a) c' r := by
  intro n
  induction n with
  | zero =>
    intro hn
    refine (congrFun (congrArg Prod.fst (outsAt0_A m c ⟨0, hn⟩ rfl)) _).trans ((pointA6 _ _ _ _ _ _ _ _ _ _ _ _ _ _ _ _ _ _ _ _ _ _ _ _).trans ?_)
    rw [dq_at]
    exact Finset.sum_congr rfl fun r _ => congrArg _ (Nat.zero_add r)
  | succ n ih =>
    intro hn
    by_cases h0 : (n + 1) % 16 = 0
    · refine (congrFun (congrArg Prod.fst (outsAt0_A m c ⟨n + 1, hn⟩ h0)) _).trans ((pointA6 _ _ _ _ _ _ _ _ _ _ _ _ _ _ _ _ _ _ _ _ _ _ _ _).trans ?_)
      rw [dq_at]
      dsimp only
      rw [h0]
      exact Finset.sum_congr rfl fun r _ => congrArg _ (Nat.zero_add r)
    · refine (congrFun (congrArg Prod.fst (outsAt0_B m c ⟨n + 1, hn⟩ h0)) _).trans ((pointB6 _ _ _ _ _ _ _ _ _ _ _ _ _ _ _ _ _ _ _ _ _ _ _ _ _).trans ?_)
      rw [dq_at]
      have e : hd ⟨n, by omega⟩ a = hd ⟨n + 1, hn⟩ a := Fin.ext (by show 2 * (n / 16) + a.val = 2 * ((n + 1) / 16) + a.val; omega)
      refine (congrArg (· + _) (ih (by omega))).trans ?_
      dsimp only
      rw [e, show (n + 1) % 16 = n % 16 + 1 by omega, show 512 * (n % 16 + 1 + 1) = 512 * (n % 16 + 1) + 512 by ring, Finset.sum_range_add]

theorem outs5 (c : Dev nD) (t : Fin cfg0.N) (j : Fin 512) (a : Fin 2) (c' : Fin 128) :
    (outsAt0 m c t.val t.isLt).2.1 (ix2 j (col a c')) = aDk (V m c main_v48) (V m c main_v64) (V m c main_v53) (V m c main_v58) (kj t j) (hd t a) c' := by
  by_cases h0 : t.val % 16 = 0
  · exact (congrFun (congrArg (fun p => p.2.1) (outsAt0_A m c t h0)) _).trans ((pointA7 _ _ _ _ _ _ _ _ _ _ _ _ _ _ _ _ _ _ _ _ _ _ _ _).trans (dk_at m c t a j c'))
  · exact (congrFun (congrArg (fun p => p.2.1) (outsAt0_B m c t h0)) _).trans ((pointB7 _ _ _ _ _ _ _ _ _ _ _ _ _ _ _ _ _ _ _ _ _ _ _ _ _).trans (dk_at m c t a j c'))

theorem outs6 (c : Dev nD) (t : Fin cfg0.N) (j : Fin 512) (a : Fin 2) (c' : Fin 128) :
    (outsAt0 m c t.val t.isLt).2.2 (ix2 j (col a c')) = aDv (V m c main_v48) (V m c main_v64) (V m c main_v53) (kj t j) (hd t a) c' := by
  by_cases h0 : t.val % 16 = 0
  · exact (congrFun (congrArg (fun p => p.2.2) (outsAt0_A m c t h0)) _).trans ((pointA8 _ _ _ _ _ _ _ _ _ _ _ _ _ _ _ _ _ _ _ _ _ _ _ _).trans (dv_at m c t a j c'))
  · exact (congrFun (congrArg (fun p => p.2.2) (outsAt0_B m c t h0)) _).trans ((pointB8 _ _ _ _ _ _ _ _ _ _ _ _ _ _ _ _ _ _ _ _ _ _ _ _ _).trans (dv_at m c t a j c'))

/-- An index of a block of two heads, by its head and column. -/
theorem idx_col {R : ℕ} (y : (⟨2, ![R, 256]⟩ : Shape).Idx) : ∃ (q : Fin R) (a : Fin 2) (d : Fin 128), y = ix2 q (col a d) := by
  have h1 : (y 1).val < 256 := (y 1).isLt
  refine ⟨y 0, ⟨(y 1).val / 128, by omega⟩, ⟨(y 1).val % 128, by omega⟩, funext fun b => ?_⟩
  match b with
  | ⟨0, _⟩ => rfl
  | ⟨1, _⟩ => exact Fin.ext (by show (y 1).val = 128 * ((y 1).val / 128) + (y 1).val % 128; omega)

/-- The query gradient's array at the end. -/
def G4 (c : Dev nD) : S8192x1024.Idx → EReal := fun y => aDq (V m c main_v48) (V m c main_v64) (V m c main_v53) (V m c main_v58) (y 0) (ghead (y 1)) (gdim (y 1))

/-- What a point writes back of the query gradient is its block of that array. -/
theorem flushed4 (c : Dev nD) (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after0_4]
  funext y
  obtain ⟨q, a, d, rfl⟩ := idx_col y
  rw [View.read_apply]
  have e : G4 m c ((win0_4.rect t).emb (ix2 q (col a d))) = _ := congrArg (G4 m c) (emb4 t q a d)
  refine Eq.trans ?_ e.symm
  refine (outs4 m c q a d t.val t.isLt).trans ?_
  have h15 := (flush0_4 t).mp hf
  show _ = aDq _ _ _ _ q (ghead (gcol (hd t a) d)) (gdim (gcol (hd t a) d))
  rw [ghead_gcol, gdim_gcol, h15, ← Fin.sum_univ_eq_sum_range]
  exact Finset.sum_congr rfl fun r _ => by rw [aDqT, dif_pos r.isLt]

/-- A point's block holds the indices of its rows and columns. -/
theorem mem4 (t : Fin cfg0.N) (i : S8192x1024.Idx) (h1 : t.val / 16 = (i 1).val / 256) :
    i ∈ ((View.whole main_v65_0).slice (win0_4.rect t)).set := by
  rw [View.set_slice_whole]
  refine Rect.mem_set_unit.mpr fun b => ?_
  match b with
  | ⟨0, _⟩ =>
    show win0_4.index t (0 : Fin 2) * 8192 ≤ (i 0).val ∧ (i 0).val < win0_4.index t (0 : Fin 2) * 8192 + 8192
    rw [index4_0]
    have : (i 0).val < 8192 := (i 0).isLt
    omega
  | ⟨1, _⟩ =>
    show win0_4.index t (1 : Fin 2) * 256 ≤ (i 1).val ∧ (i 1).val < win0_4.index t (1 : Fin 2) * 256 + 256
    rw [index4_1]
    omega

/-- The blocks written back cover the array. -/
theorem final4 (c : Dev nD) : (dats m 0 c).arrAt 4 cfg0.N = G4 m c :=
  (dats m 0 c).arrAt_eq_of_cover 4 (G4 m c) (flushed4 m c) fun i =>
    ⟨⟨16 * ((i 1).val / 256) + 15, by rw [show cfg0.N = 64 from N_0]; have h1 : (i 1).val < 1024 := (i 1).isLt; omega⟩, (flush0_4 _).mpr (by show (16 * ((i 1).val / 256) + 15) % 16 = 15; omega), mem4 _ i (by show (16 * ((i 1).val / 256) + 15) / 16 = _; omega)⟩

/-- The key gradient's array at the end. -/
def G5 (c : Dev nD) : S8192x1024.Idx → EReal := fun y => aDk (V m c main_v48) (V m c main_v64) (V m c main_v53) (V m c main_v58) (y 0) (ghead (y 1)) (gdim (y 1))

/-- What a point writes back of the key gradient is its block of that array. -/
theorem flushed5 (c : Dev nD) (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after0_5]
  funext y
  obtain ⟨q, a, d, rfl⟩ := idx_col y
  rw [View.read_apply]
  have e : G5 m c ((win0_5.rect t).emb (ix2 q (col a d))) = _ := congrArg (G5 m c) (emb5 t q a d)
  refine Eq.trans ?_ e.symm
  refine (outs5 m c t q a d).trans ?_
  show _ = aDk _ _ _ _ (kj t q) (ghead (gcol (hd t a) d)) (gdim (gcol (hd t a) d))
  rw [ghead_gcol, gdim_gcol]

/-- A point's block holds the indices of its rows and columns. -/
theorem mem5 (t : Fin cfg0.N) (i : S8192x1024.Idx) (h0 : t.val % 16 = (i 0).val / 512) (h1 : t.val / 16 = (i 1).val / 256) :
    i ∈ ((View.whole main_v65_1).slice (win0_5.rect t)).set := by
  rw [View.set_slice_whole]
  refine Rect.mem_set_unit.mpr fun b => ?_
  match b with
  | ⟨0, _⟩ =>
    show win0_5.index t (0 : Fin 2) * 512 ≤ (i 0).val ∧ (i 0).val < win0_5.index t (0 : Fin 2) * 512 + 512
    rw [index5_0]
    have : (i 0).val < 8192 := (i 0).isLt
    omega
  | ⟨1, _⟩ =>
    show win0_5.index t (1 : Fin 2) * 256 ≤ (i 1).val ∧ (i 1).val < win0_5.index t (1 : Fin 2) * 256 + 256
    rw [index5_1]
    omega

/-- The blocks written back cover the array. -/
theorem final5 (c : Dev nD) : (dats m 0 c).arrAt 5 cfg0.N = G5 m c :=
  (dats m 0 c).arrAt_eq_of_cover 5 (G5 m c) (flushed5 m c) fun i =>
    ⟨⟨16 * ((i 1).val / 256) + (i 0).val / 512, by rw [show cfg0.N = 64 from N_0]; have h1 : (i 1).val < 1024 := (i 1).isLt; have h0 : (i 0).val < 8192 := (i 0).isLt; omega⟩, flush0_5 _, mem5 _ i (by show (16 * ((i 1).val / 256) + (i 0).val / 512) % 16 = _; have h0 : (i 0).val < 8192 := (i 0).isLt; omega) (by show (16 * ((i 1).val / 256) + (i 0).val / 512) / 16 = _; have h0 : (i 0).val < 8192 := (i 0).isLt; omega)⟩

/-- The value gradient's array at the end. -/
def G6 (c : Dev nD) : S8192x1024.Idx → EReal := fun y => aDv (V m c main_v48) (V m c main_v64) (V m c main_v53) (y 0) (ghead (y 1)) (gdim (y 1))

/-- What a point writes back of the value gradient is its block of that array. -/
theorem flushed6 (c : Dev nD) (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after0_6]
  funext y
  obtain ⟨q, a, d, rfl⟩ := idx_col y
  rw [View.read_apply]
  have e : G6 m c ((win0_6.rect t).emb (ix2 q (col a d))) = _ := congrArg (G6 m c) (emb6 t q a d)
  refine Eq.trans ?_ e.symm
  refine (outs6 m c t q a d).trans ?_
  show _ = aDv _ _ _ (kj t q) (ghead (gcol (hd t a) d)) (gdim (gcol (hd t a) d))
  rw [ghead_gcol, gdim_gcol]

/-- A point's block holds the indices of its rows and columns. -/
theorem mem6 (t : Fin cfg0.N) (i : S8192x1024.Idx) (h0 : t.val % 16 = (i 0).val / 512) (h1 : t.val / 16 = (i 1).val / 256) :
    i ∈ ((View.whole main_v65_2).slice (win0_6.rect t)).set := by
  rw [View.set_slice_whole]
  refine Rect.mem_set_unit.mpr fun b => ?_
  match b with
  | ⟨0, _⟩ =>
    show win0_6.index t (0 : Fin 2) * 512 ≤ (i 0).val ∧ (i 0).val < win0_6.index t (0 : Fin 2) * 512 + 512
    rw [index6_0]
    have : (i 0).val < 8192 := (i 0).isLt
    omega
  | ⟨1, _⟩ =>
    show win0_6.index t (1 : Fin 2) * 256 ≤ (i 1).val ∧ (i 1).val < win0_6.index t (1 : Fin 2) * 256 + 256
    rw [index6_1]
    omega

/-- The blocks written back cover the array. -/
theorem final6 (c : Dev nD) : (dats m 0 c).arrAt 6 cfg0.N = G6 m c :=
  (dats m 0 c).arrAt_eq_of_cover 6 (G6 m c) (flushed6 m c) fun i =>
    ⟨⟨16 * ((i 1).val / 256) + (i 0).val / 512, by rw [show cfg0.N = 64 from N_0]; have h1 : (i 1).val < 1024 := (i 1).isLt; have h0 : (i 0).val < 8192 := (i 0).isLt; omega⟩, flush0_6 _, mem6 _ i (by show (16 * ((i 1).val / 256) + (i 0).val / 512) % 16 = _; have h0 : (i 0).val < 8192 := (i 0).isLt; omega) (by show (16 * ((i 1).val / 256) + (i 0).val / 512) / 16 = _; have h0 : (i 0).val < 8192 := (i 0).isLt; omega)⟩

end Cert.Proof.KI

end
-- ==== Proof.Stage.lean ====
/- The values the host computes before the region, as one term per line, and the region's four operands by them. -/
module

public import proofs.«01_k».proof.Proof.Arrays
public import Idealize.ShloMosaic.Lib.StableHlo.RunRead

@[expose] public section

set_option maxRecDepth 16384

noncomputable section

namespace Cert.Proof.KI

open Cert.KernelIdeal Cert.KernelIdeal.Gen Idealize.ShloMosaic Idealize.ShloMosaic.TcCoe Idealize.SL.Sem

def stcst : FVec Ideal S_ .f32 :=
    constant S_ .f32 0x40000000#32

def stv0 : FVec Ideal S_ .f32 :=
    Host.log stcst

def stv1 (x0 : FVec Ideal S8192x8x64 .f32) (x2 : FVec Ideal S8192x8x64 .f32) : FVec Ideal S8x8192x8192 .f32 :=
  (fun l r => Host.dotGeneral dot_S8192x8x64_S8192x8x64_S8x8192x8192_2_2_0_0_1_1 none l r) x0 x2

def stv2 (x1 : FVec Ideal S8192x8x32 .f32) (x3 : FVec Ideal S8192x32 .f32) : FVec Ideal S8192x8192x8 .f32 :=
  (fun l r => Host.dotGeneral dot_S8192x32_S8192x8x32_S8192x8192x8_1_2_0_01_n_n none l r) x3 x1

def stv3 (x1 : FVec Ideal S8192x8x32 .f32) (x3 : FVec Ideal S8192x32 .f32) : FVec Ideal S8x8192x8192 .f32 :=
  (transpose S8x8192x8192 [2, 1, 0] · transposes_S8192x8192x8_S8x8192x8192_2_1_0) (stv2 x1 x3)

def stv4 (x0 : FVec Ideal S8192x8x64 .f32) (x1 : FVec Ideal S8192x8x32 .f32) (x2 : FVec Ideal S8192x8x64 .f32) (x3 : FVec Ideal S8192x32 .f32) : FVec Ideal S8x8192x8192 .f32 :=
    addf (stv1 x0 x2) (stv3 x1 x3)

def stcst_0 : FVec Ideal S_ .f32 :=
    constant S_ .f32 0x3DD105EC#32

def stv5 : FVec Ideal S8x8192x8192 .f32 :=
  (broadcastInDim S8x8192x8192 ![] bcast_S_S8x8192x8192) stcst_0

def stv6 (x0 : FVec Ideal S8192x8x64 .f32) (x1 : FVec Ideal S8192x8x32 .f32) (x2 : FVec Ideal S8192x8x64 .f32) (x3 : FVec Ideal S8192x32 .f32) : FVec Ideal S8x8192x8192 .f32 :=
    mulf (stv4 x0 x1 x2 x3) stv5

def stcst_1 : FVec Ideal S_ .f32 :=
    constant S_ .f32 0xFF800000#32

def stv7 (x0 : FVec Ideal S8192x8x64 .f32) (x1 : FVec Ideal S8192x8x32 .f32) (x2 : FVec Ideal S8192x8x64 .f32) (x3 : FVec Ideal S8192x32 .f32) : FVec Ideal S8x8192 .f32 :=
  (fun x v => Host.reduce FloatOps.maximumf x v reducesTo_S8x8192x8192_S8x8192_d2 h_S_) (stv6 x0 x1 x2 x3) stcst_1

def stv8 (x0 : FVec Ideal S8192x8x64 .f32) (x1 : FVec Ideal S8192x8x32 .f32) (x2 : FVec Ideal S8192x8x64 .f32) (x3 : FVec Ideal S8192x32 .f32) : FVec Ideal S8x8192x1 .f32 :=
  (broadcastInDim S8x8192x1 ![0, 1] bcast_S8x8192_S8x8192x1_0_1) (stv7 x0 x1 x2 x3)

def stv9 (x0 : FVec Ideal S8192x8x64 .f32) (x1 : FVec Ideal S8192x8x32 .f32) (x2 : FVec Ideal S8192x8x64 .f32) (x3 : FVec Ideal S8192x32 .f32) : FVec Ideal S8x8192x8192 .f32 :=
  (broadcastInDim S8x8192x8192 ![0, 1, 2] bcast_S8x8192x1_S8x8192x8192_0_1_2) (stv8 x0 x1 x2 x3)

def stv10 (x0 : FVec Ideal S8192x8x64 .f32) (x1 : FVec Ideal S8192x8x32 .f32) (x2 : FVec Ideal S8192x8x64 .f32) (x3 : FVec Ideal S8192x32 .f32) : FVec Ideal S8x8192x8192 .f32 :=
    subf (stv6 x0 x1 x2 x3) (stv9 x0 x1 x2 x3)

def stv11 (x0 : FVec Ideal S8192x8x64 .f32) (x1 : FVec Ideal S8192x8x32 .f32) (x2 : FVec Ideal S8192x8x64 .f32) (x3 : FVec Ideal S8192x32 .f32) : FVec Ideal S8x8192x8192 .f32 :=
    Host.exp (stv10 x0 x1 x2 x3)

def stcst_2 : FVec Ideal S_ .f32 :=
    constant S_ .f32 0x00000000#32

def stv12 (x0 : FVec Ideal S8192x8x64 .f32) (x1 : FVec Ideal S8192x8x32 .f32) (x2 : FVec Ideal S8192x8x64 .f32) (x3 : FVec Ideal S8192x32 .f32) : FVec Ideal S8x8192 .f32 :=
  (fun x v => Host.reduceAdd x v reducesTo_S8x8192x8192_S8x8192_d2 h_S_) (stv11 x0 x1 x2 x3) stcst_2

def stv13 (x0 : FVec Ideal S8192x8x64 .f32) (x1 : FVec Ideal S8192x8x32 .f32) (x2 : FVec Ideal S8192x8x64 .f32) (x3 : FVec Ideal S8192x32 .f32) : FVec Ideal S8x8192x1 .f32 :=
  (broadcastInDim S8x8192x1 ![0, 1] bcast_S8x8192_S8x8192x1_0_1) (stv12 x0 x1 x2 x3)

def stv14 (x0 : FVec Ideal S8192x8x64 .f32) (x1 : FVec Ideal S8192x8x32 .f32) (x2 : FVec Ideal S8192x8x64 .f32) (x3 : FVec Ideal S8192x32 .f32) : FVec Ideal S8x8192x8192 .f32 :=
  (broadcastInDim S8x8192x8192 ![0, 1, 2] bcast_S8x8192x1_S8x8192x8192_0_1_2) (stv13 x0 x1 x2 x3)

def stv15 (x0 : FVec Ideal S8192x8x64 .f32) (x1 : FVec Ideal S8192x8x32 .f32) (x2 : FVec Ideal S8192x8x64 .f32) (x3 : FVec Ideal S8192x32 .f32) : FVec Ideal S8x8192x8192 .f32 :=
    Host.divf (stv11 x0 x1 x2 x3) (stv14 x0 x1 x2 x3)

def stv16 (x0 : FVec Ideal S8192x8x64 .f32) (x1 : FVec Ideal S8192x8x32 .f32) (x2 : FVec Ideal S8192x8x64 .f32) (x3 : FVec Ideal S8192x32 .f32) (x4 : FVec Ideal S8192x8x64 .f32) : FVec Ideal S8x64x8192 .f32 :=
  (fun l r => Host.dotGeneral dot_S8192x8x64_S8x8192x8192_S8x64x8192_0_2_2_1_1_0 none l r) x4 (stv15 x0 x1 x2 x3)

def stv17 (x0 : FVec Ideal S8192x8x64 .f32) (x1 : FVec Ideal S8192x8x32 .f32) (x2 : FVec Ideal S8192x8x64 .f32) (x3 : FVec Ideal S8192x32 .f32) (x4 : FVec Ideal S8192x8x64 .f32) : FVec Ideal S8192x8x64 .f32 :=
  (transpose S8192x8x64 [2, 0, 1] · transposes_S8x64x8192_S8192x8x64_2_0_1) (stv16 x0 x1 x2 x3 x4)

def stv18 (x0 : FVec Ideal S8192x8x64 .f32) (x1 : FVec Ideal S8192x8x32 .f32) (x2 : FVec Ideal S8192x8x64 .f32) (x3 : FVec Ideal S8192x32 .f32) : FVec Ideal S8x8192x1 .f32 :=
    Host.log (stv13 x0 x1 x2 x3)

def stv19 (x0 : FVec Ideal S8192x8x64 .f32) (x1 : FVec Ideal S8192x8x32 .f32) (x2 : FVec Ideal S8192x8x64 .f32) (x3 : FVec Ideal S8192x32 .f32) : FVec Ideal S8x8192x1 .f32 :=
    addf (stv8 x0 x1 x2 x3) (stv18 x0 x1 x2 x3)

def stv20 : FVec Ideal S8x8192x1 .f32 :=
  (broadcastInDim S8x8192x1 ![] bcast_S_S8x8192x1) stv0

def stv21 (x0 : FVec Ideal S8192x8x64 .f32) (x1 : FVec Ideal S8192x8x32 .f32) (x2 : FVec Ideal S8192x8x64 .f32) (x3 : FVec Ideal S8192x32 .f32) : FVec Ideal S8x8192x1 .f32 :=
    Host.divf (stv19 x0 x1 x2 x3) stv20

def stv22 (x0 : FVec Ideal S8192x8x64 .f32) (x1 : FVec Ideal S8192x8x32 .f32) (x2 : FVec Ideal S8192x8x64 .f32) (x3 : FVec Ideal S8192x32 .f32) : FVec Ideal S8192x8x1 .f32 :=
  (transpose S8192x8x1 [1, 0, 2] · transposes_S8x8192x1_S8192x8x1_1_0_2) (stv21 x0 x1 x2 x3)

def stv23 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x64 .f32 :=
    mulf (stv17 x0 x1 x2 x3 x4) x5

def stcst_3 : FVec Ideal S_ .f32 :=
    constant S_ .f32 0x00000000#32

def stv24 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8 .f32 :=
  (fun x v => Host.reduceAdd x v reducesTo_S8192x8x64_S8192x8_d2 h_S_) (stv23 x0 x1 x2 x3 x4 x5) stcst_3

def stv25 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x1 .f32 :=
  (broadcastInDim S8192x8x1 ![0, 1] bcast_S8192x8_S8192x8x1_0_1) (stv24 x0 x1 x2 x3 x4 x5)

def stv26 (x0 : FVec Ideal S8192x8x64 .f32) (x1 : FVec Ideal S8192x8x32 .f32) (x2 : FVec Ideal S8192x8x64 .f32) (x3 : FVec Ideal S8192x32 .f32) : FVec Ideal S8192x8x1 .bf16 :=
  (truncf .bf16 · bitsLt_bf16_f32) (stv22 x0 x1 x2 x3)

def stv27 (x0 : FVec Ideal S8192x8x64 .f32) (x1 : FVec Ideal S8192x8x32 .f32) (x2 : FVec Ideal S8192x8x64 .f32) (x3 : FVec Ideal S8192x32 .f32) : FVec Ideal S8192x8x1 .f32 :=
  (extf .f32 · bitsLt_bf16_f32) (stv26 x0 x1 x2 x3)

def stv28 (x0 : FVec Ideal S8192x8x64 .f32) (x1 : FVec Ideal S8192x8x32 .f32) (x2 : FVec Ideal S8192x8x64 .f32) (x3 : FVec Ideal S8192x32 .f32) : FVec Ideal S8192x8x1 .f32 :=
    subf (stv22 x0 x1 x2 x3) (stv27 x0 x1 x2 x3)

def stv29 (x0 : FVec Ideal S8192x8x64 .f32) (x1 : FVec Ideal S8192x8x32 .f32) (x2 : FVec Ideal S8192x8x64 .f32) (x3 : FVec Ideal S8192x32 .f32) : FVec Ideal S8192x8x1 .bf16 :=
  (truncf .bf16 · bitsLt_bf16_f32) (stv28 x0 x1 x2 x3)

def stv30 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x1 .bf16 :=
  (truncf .bf16 · bitsLt_bf16_f32) (stv25 x0 x1 x2 x3 x4 x5)

def stv31 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x1 .f32 :=
  (extf .f32 · bitsLt_bf16_f32) (stv30 x0 x1 x2 x3 x4 x5)

def stv32 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x1 .f32 :=
    subf (stv25 x0 x1 x2 x3 x4 x5) (stv31 x0 x1 x2 x3 x4 x5)

def stv33 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x1 .bf16 :=
  (truncf .bf16 · bitsLt_bf16_f32) (stv32 x0 x1 x2 x3 x4 x5)

def stcst_4 : FVec Ideal S_ .f32 :=
    constant S_ .f32 0x3DD105EC#32

def stv34 : FVec Ideal S_ .f32 :=
    Host.divf stcst_4 stv0

def stv35 (x3 : FVec Ideal S8192x32 .f32) : FVec Ideal S8192x32 .bf16 :=
  (truncf .bf16 · bitsLt_bf16_f32) x3

def stv36 (x3 : FVec Ideal S8192x32 .f32) : FVec Ideal S8192x1x32 .bf16 :=
  (broadcastInDim S8192x1x32 ![0, 2] bcast_S8192x32_S8192x1x32_0_2) (stv35 x3)

def stv37 (x3 : FVec Ideal S8192x32 .f32) : FVec Ideal S8192x8x32 .bf16 :=
  (broadcastInDim S8192x8x32 ![0, 1, 2] bcast_S8192x1x32_S8192x8x32_0_1_2) (stv36 x3)

def stv38 : FVec Ideal S8192x8x64 .f32 :=
  (broadcastInDim S8192x8x64 ![] bcast_S_S8192x8x64) stv34

def stv39 (x0 : FVec Ideal S8192x8x64 .f32) : FVec Ideal S8192x8x64 .f32 :=
    mulf x0 stv38

def stv40 (x0 : FVec Ideal S8192x8x64 .f32) : FVec Ideal S8192x8x64 .bf16 :=
  (truncf .bf16 · bitsLt_bf16_f32) (stv39 x0)

def stv41 : FVec Ideal S8192x8x32 .f32 :=
  (broadcastInDim S8192x8x32 ![] bcast_S_S8192x8x32) stv34

def stv42 (x1 : FVec Ideal S8192x8x32 .f32) : FVec Ideal S8192x8x32 .f32 :=
    mulf x1 stv41

def stv43 (x1 : FVec Ideal S8192x8x32 .f32) : FVec Ideal S8192x8x32 .bf16 :=
  (truncf .bf16 · bitsLt_bf16_f32) (stv42 x1)

def stv44 (x0 : FVec Ideal S8192x8x64 .f32) (x1 : FVec Ideal S8192x8x32 .f32) (x2 : FVec Ideal S8192x8x64 .f32) (x3 : FVec Ideal S8192x32 .f32) : FVec Ideal S8192x8x1 .bf16 :=
    Host.negf (stv26 x0 x1 x2 x3)

def stv45 (x0 : FVec Ideal S8192x8x64 .f32) (x1 : FVec Ideal S8192x8x32 .f32) (x2 : FVec Ideal S8192x8x64 .f32) (x3 : FVec Ideal S8192x32 .f32) : FVec Ideal S8192x8x1 .bf16 :=
    Host.negf (stv29 x0 x1 x2 x3)

def stcst_5 : FVec Ideal S_ .bf16 :=
    constant S_ .bf16 0x0000#16

def stv46 : FVec Ideal S8192x8x30 .bf16 :=
  (broadcastInDim S8192x8x30 ![] bcast_S_S8192x8x30) stcst_5

def stv47 (x0 : FVec Ideal S8192x8x64 .f32) (x1 : FVec Ideal S8192x8x32 .f32) (x2 : FVec Ideal S8192x8x64 .f32) (x3 : FVec Ideal S8192x32 .f32) : FVec Ideal S8192x8x128 .bf16 :=
    concatenate S8192x8x128 2 [⟨S8192x8x64, (stv40 x0)⟩, ⟨S8192x8x32, (stv43 x1)⟩, ⟨S8192x8x1, (stv44 x0 x1 x2 x3)⟩, ⟨S8192x8x1, (stv45 x0 x1 x2 x3)⟩, ⟨S8192x8x30, stv46⟩] concatenates_S8192x8x64_S8192x8x32_S8192x8x1_S8192x8x1_S8192x8x30_S8192x8x128_d2

def stv48 (x0 : FVec Ideal S8192x8x64 .f32) (x1 : FVec Ideal S8192x8x32 .f32) (x2 : FVec Ideal S8192x8x64 .f32) (x3 : FVec Ideal S8192x32 .f32) : FVec Ideal S8192x1024 .bf16 :=
    shapeCast S8192x1024 (stv47 x0 x1 x2 x3) shapeCasts_S8192x8x128_S8192x1024

def stv49 (x2 : FVec Ideal S8192x8x64 .f32) : FVec Ideal S8192x8x64 .bf16 :=
  (truncf .bf16 · bitsLt_bf16_f32) x2

def stcst_6 : FVec Ideal S_ .bf16 :=
    constant S_ .bf16 0x3F80#16

def stv50 : FVec Ideal S8192x8x2 .bf16 :=
  (broadcastInDim S8192x8x2 ![] bcast_S_S8192x8x2) stcst_6

def stcst_7 : FVec Ideal S_ .bf16 :=
    constant S_ .bf16 0x0000#16

def stv51 : FVec Ideal S8192x8x30 .bf16 :=
  (broadcastInDim S8192x8x30 ![] bcast_S_S8192x8x30) stcst_7

def stv52 (x2 : FVec Ideal S8192x8x64 .f32) (x3 : FVec Ideal S8192x32 .f32) : FVec Ideal S8192x8x128 .bf16 :=
    concatenate S8192x8x128 2 [⟨S8192x8x64, (stv49 x2)⟩, ⟨S8192x8x32, (stv37 x3)⟩, ⟨S8192x8x2, stv50⟩, ⟨S8192x8x30, stv51⟩] concatenates_S8192x8x64_S8192x8x32_S8192x8x2_S8192x8x30_S8192x8x128_d2

def stv53 (x2 : FVec Ideal S8192x8x64 .f32) (x3 : FVec Ideal S8192x32 .f32) : FVec Ideal S8192x1024 .bf16 :=
    shapeCast S8192x1024 (stv52 x2 x3) shapeCasts_S8192x8x128_S8192x1024

def stcst_8 : FVec Ideal S_ .bf16 :=
    constant S_ .bf16 0x3F80#16

def stv54 : FVec Ideal S8192x8x2 .bf16 :=
  (broadcastInDim S8192x8x2 ![] bcast_S_S8192x8x2) stcst_8

def stcst_9 : FVec Ideal S_ .bf16 :=
    constant S_ .bf16 0x0000#16

def stv55 : FVec Ideal S8192x8x62 .bf16 :=
  (broadcastInDim S8192x8x62 ![] bcast_S_S8192x8x62) stcst_9

def stv56 (x4 : FVec Ideal S8192x8x64 .f32) : FVec Ideal S8192x8x64 .bf16 :=
  (truncf .bf16 · bitsLt_bf16_f32) x4

def stv57 (x4 : FVec Ideal S8192x8x64 .f32) : FVec Ideal S8192x8x128 .bf16 :=
    concatenate S8192x8x128 2 [⟨S8192x8x2, stv54⟩, ⟨S8192x8x62, stv55⟩, ⟨S8192x8x64, (stv56 x4)⟩] concatenates_S8192x8x2_S8192x8x62_S8192x8x64_S8192x8x128_d2

def stv58 (x4 : FVec Ideal S8192x8x64 .f32) : FVec Ideal S8192x1024 .bf16 :=
    shapeCast S8192x1024 (stv57 x4) shapeCasts_S8192x8x128_S8192x1024

def stv59 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x1 .bf16 :=
    Host.negf (stv30 x0 x1 x2 x3 x4 x5)

def stv60 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x1 .bf16 :=
    Host.negf (stv33 x0 x1 x2 x3 x4 x5)

def stcst_10 : FVec Ideal S_ .bf16 :=
    constant S_ .bf16 0x0000#16

def stv61 : FVec Ideal S8192x8x62 .bf16 :=
  (broadcastInDim S8192x8x62 ![] bcast_S_S8192x8x62) stcst_10

def stv62 (x5 : FVec Ideal S8192x8x64 .f32) : FVec Ideal S8192x8x64 .bf16 :=
  (truncf .bf16 · bitsLt_bf16_f32) x5

def stv63 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x8x128 .bf16 :=
    concatenate S8192x8x128 2 [⟨S8192x8x1, (stv59 x0 x1 x2 x3 x4 x5)⟩, ⟨S8192x8x1, (stv60 x0 x1 x2 x3 x4 x5)⟩, ⟨S8192x8x62, stv61⟩, ⟨S8192x8x64, (stv62 x5)⟩] concatenates_S8192x8x1_S8192x8x1_S8192x8x62_S8192x8x64_S8192x8x128_d2

def stv64 (x0 : FVec Ideal S8192x8x64 .f32) (x1 : FVec Ideal S8192x8x32 .f32) (x2 : FVec Ideal S8192x8x64 .f32) (x3 : FVec Ideal S8192x32 .f32) (x4 : FVec Ideal S8192x8x64 .f32) (x5 : FVec Ideal S8192x8x64 .f32) : FVec Ideal S8192x1024 .bf16 :=
    shapeCast S8192x1024 (stv63 x0 x1 x2 x3 x4 x5) shapeCasts_S8192x8x128_S8192x1024

variable (m : (ℓ : Loc nD τ sig) → Buf (Elt Ideal) ℓ) (c : Dev nD)

/-- The logarithm of two. -/
theorem V_main_v0 : V m c main_v0 = stv0  := by
  dsimp only [V, V0, hostOps0, List.flatten_cons, List.flatten_nil, List.append_nil, List.cons_append, List.nil_append]
  after_reads_simp
  rfl

/-- The line cut in two after its first `n` operations. -/
theorem V_cut (n : ℕ) (b : Ref sig .tc) : V m c b =
    StableHlo.after (hostOps0.drop n) (StableHlo.after (hostOps0.take n) (fun b => m (c, b))) (Proc.devRef .tc b) := by
  rw [← StableHlo.after_append, List.take_append_drop]; simp only [V, V0, List.flatten_cons, List.flatten_nil, List.append_nil]

/-- A part of the packed queries. -/
theorem cut54_v40 : StableHlo.after (hostOps0.take 54) (fun b => m (c, b)) (Proc.devRef .tc main_v40) = stv40 (m ((c : Thread nD τ).loc main_arg0)) := by
  dsimp only [hostOps0, List.take]
  after_reads_simp
  rfl

/-- A part of the packed queries. -/
theorem cut54_v43 : StableHlo.after (hostOps0.take 54) (fun b => m (c, b)) (Proc.devRef .tc main_v43) = stv43 (m ((c : Thread nD τ).loc main_arg1)) := by
  dsimp only [hostOps0, List.take]
  after_reads_simp
  rfl

/-- A part of the packed queries. -/
theorem cut54_v44 : StableHlo.after (hostOps0.take 54) (fun b => m (c, b)) (Proc.devRef .tc main_v44) = stv44 (m ((c : Thread nD τ).loc main_arg0)) (m ((c : Thread nD τ).loc main_arg1)) (m ((c : Thread nD τ).loc main_arg2)) (m ((c : Thread nD τ).loc main_arg3)) := by
  dsimp only [hostOps0, List.take]
  after_reads_simp
  rfl

/-- A part of the packed queries. -/
theorem cut54_v45 : StableHlo.after (hostOps0.take 54) (fun b => m (c, b)) (Proc.devRef .tc main_v45) = stv45 (m ((c : Thread nD τ).loc main_arg0)) (m ((c : Thread nD τ).loc main_arg1)) (m ((c : Thread nD τ).loc main_arg2)) (m ((c : Thread nD τ).loc main_arg3)) := by
  dsimp only [hostOps0, List.take]
  after_reads_simp
  rfl

/-- A part of the packed queries. -/
theorem cut54_v46 : StableHlo.after (hostOps0.take 54) (fun b => m (c, b)) (Proc.devRef .tc main_v46) = stv46  := by
  dsimp only [hostOps0, List.take]
  after_reads_simp
  rfl

/-- The packing of the packed queries, from its parts. -/
theorem pack_main_v48 (W : Valuation τ sig (Elt Ideal)) : StableHlo.after (hostOps0.drop 54) W (Proc.devRef .tc main_v48) = shapeCast S8192x1024 (    concatenate S8192x8x128 2 [⟨S8192x8x64, W (Proc.devRef .tc main_v40)⟩, ⟨S8192x8x32, W (Proc.devRef .tc main_v43)⟩, ⟨S8192x8x1, W (Proc.devRef .tc main_v44)⟩, ⟨S8192x8x1, W (Proc.devRef .tc main_v45)⟩, ⟨S8192x8x30, W (Proc.devRef .tc main_v46)⟩] concatenates_S8192x8x64_S8192x8x32_S8192x8x1_S8192x8x1_S8192x8x30_S8192x8x128_d2) shapeCasts_S8192x8x128_S8192x1024 := by
  dsimp only [hostOps0, List.drop]
  after_reads_simp
  rfl

/-- The packed queries. -/
theorem V_main_v48 : V m c main_v48 = stv48 (m ((c : Thread nD τ).loc main_arg0)) (m ((c : Thread nD τ).loc main_arg1)) (m ((c : Thread nD τ).loc main_arg2)) (m ((c : Thread nD τ).loc main_arg3)) := by
  rw [V_cut m c 54, pack_main_v48, cut54_v40, cut54_v43, cut54_v44, cut54_v45, cut54_v46]; rfl

/-- A part of the packed keys. -/
theorem cut61_v49 : StableHlo.after (hostOps0.take 61) (fun b => m (c, b)) (Proc.devRef .tc main_v49) = stv49 (m ((c : Thread nD τ).loc main_arg2)) := by
  dsimp only [hostOps0, List.take]
  after_reads_simp
  rfl

/-- A part of the packed keys. -/
theorem cut61_v37 : StableHlo.after (hostOps0.take 61) (fun b => m (c, b)) (Proc.devRef .tc main_v37) = stv37 (m ((c : Thread nD τ).loc main_arg3)) := by
  dsimp only [hostOps0, List.take]
  after_reads_simp
  rfl

/-- A part of the packed keys. -/
theorem cut61_v50 : StableHlo.after (hostOps0.take 61) (fun b => m (c, b)) (Proc.devRef .tc main_v50) = stv50  := by
  dsimp only [hostOps0, List.take]
  after_reads_simp
  rfl

/-- A part of the packed keys. -/
theorem cut61_v51 : StableHlo.after (hostOps0.take 61) (fun b => m (c, b)) (Proc.devRef .tc main_v51) = stv51  := by
  dsimp only [hostOps0, List.take]
  after_reads_simp
  rfl

/-- The packing of the packed keys, from its parts. -/
theorem pack_main_v53 (W : Valuation τ sig (Elt Ideal)) : StableHlo.after (hostOps0.drop 61) W (Proc.devRef .tc main_v53) = shapeCast S8192x1024 (    concatenate S8192x8x128 2 [⟨S8192x8x64, W (Proc.devRef .tc main_v49)⟩, ⟨S8192x8x32, W (Proc.devRef .tc main_v37)⟩, ⟨S8192x8x2, W (Proc.devRef .tc main_v50)⟩, ⟨S8192x8x30, W (Proc.devRef .tc main_v51)⟩] concatenates_S8192x8x64_S8192x8x32_S8192x8x2_S8192x8x30_S8192x8x128_d2) shapeCasts_S8192x8x128_S8192x1024 := by
  dsimp only [hostOps0, List.drop]
  after_reads_simp
  rfl

/-- The packed keys. -/
theorem V_main_v53 : V m c main_v53 = stv53 (m ((c : Thread nD τ).loc main_arg2)) (m ((c : Thread nD τ).loc main_arg3)) := by
  rw [V_cut m c 61, pack_main_v53, cut61_v49, cut61_v37, cut61_v50, cut61_v51]; rfl

/-- A part of the packed values. -/
theorem cut68_v54 : StableHlo.after (hostOps0.take 68) (fun b => m (c, b)) (Proc.devRef .tc main_v54) = stv54  := by
  dsimp only [hostOps0, List.take]
  after_reads_simp
  rfl

/-- A part of the packed values. -/
theorem cut68_v55 : StableHlo.after (hostOps0.take 68) (fun b => m (c, b)) (Proc.devRef .tc main_v55) = stv55  := by
  dsimp only [hostOps0, List.take]
  after_reads_simp
  rfl

/-- A part of the packed values. -/
theorem cut68_v56 : StableHlo.after (hostOps0.take 68) (fun b => m (c, b)) (Proc.devRef .tc main_v56) = stv56 (m ((c : Thread nD τ).loc main_arg4)) := by
  dsimp only [hostOps0, List.take]
  after_reads_simp
  rfl

/-- The packing of the packed values, from its parts. -/
theorem pack_main_v58 (W : Valuation τ sig (Elt Ideal)) : StableHlo.after (hostOps0.drop 68) W (Proc.devRef .tc main_v58) = shapeCast S8192x1024 (    concatenate S8192x8x128 2 [⟨S8192x8x2, W (Proc.devRef .tc main_v54)⟩, ⟨S8192x8x62, W (Proc.devRef .tc main_v55)⟩, ⟨S8192x8x64, W (Proc.devRef .tc main_v56)⟩] concatenates_S8192x8x2_S8192x8x62_S8192x8x64_S8192x8x128_d2) shapeCasts_S8192x8x128_S8192x1024 := by
  dsimp only [hostOps0, List.drop]
  after_reads_simp
  rfl

/-- The packed values. -/
theorem V_main_v58 : V m c main_v58 = stv58 (m ((c : Thread nD τ).loc main_arg4)) := by
  rw [V_cut m c 68, pack_main_v58, cut68_v54, cut68_v55, cut68_v56]; rfl

/-- A part of the packed gradients of the output. -/
theorem cut75_v59 : StableHlo.after (hostOps0.take 75) (fun b => m (c, b)) (Proc.devRef .tc main_v59) = stv59 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [hostOps0, List.take]
  after_reads_simp
  rfl

/-- A part of the packed gradients of the output. -/
theorem cut75_v60 : StableHlo.after (hostOps0.take 75) (fun b => m (c, b)) (Proc.devRef .tc main_v60) = stv60 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [hostOps0, List.take]
  after_reads_simp
  rfl

/-- A part of the packed gradients of the output. -/
theorem cut75_v61 : StableHlo.after (hostOps0.take 75) (fun b => m (c, b)) (Proc.devRef .tc main_v61) = stv61  := by
  dsimp only [hostOps0, List.take]
  after_reads_simp
  rfl

/-- A part of the packed gradients of the output. -/
theorem cut75_v62 : StableHlo.after (hostOps0.take 75) (fun b => m (c, b)) (Proc.devRef .tc main_v62) = stv62 (m ((c : Thread nD τ).loc main_arg5)) := by
  dsimp only [hostOps0, List.take]
  after_reads_simp
  rfl

/-- The packing of the packed gradients of the output, from its parts. -/
theorem pack_main_v64 (W : Valuation τ sig (Elt Ideal)) : StableHlo.after (hostOps0.drop 75) W (Proc.devRef .tc main_v64) = shapeCast S8192x1024 (    concatenate S8192x8x128 2 [⟨S8192x8x1, W (Proc.devRef .tc main_v59)⟩, ⟨S8192x8x1, W (Proc.devRef .tc main_v60)⟩, ⟨S8192x8x62, W (Proc.devRef .tc main_v61)⟩, ⟨S8192x8x64, W (Proc.devRef .tc main_v62)⟩] concatenates_S8192x8x1_S8192x8x1_S8192x8x62_S8192x8x64_S8192x8x128_d2) shapeCasts_S8192x8x128_S8192x1024 := by
  dsimp only [hostOps0, List.drop]
  after_reads_simp
  rfl

/-- The packed gradients of the output. -/
theorem V_main_v64 : V m c main_v64 = stv64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [V_cut m c 75, pack_main_v64, cut75_v59, cut75_v60, cut75_v61, cut75_v62]; rfl

end Cert.Proof.KI
-- ==== Proof.Reals.lean ====
/- The mathematics of the attention's gradient over the real numbers, and the arithmetic that carries real numbers
   into the extended ones. -/
module

public import Idealize.ShloMosaic.Lib.Pointwise

@[expose] public section

noncomputable section

namespace Cert.Proof.RealMath

open Idealize.ShloMosaic

/-- A sum of real numbers is the sum of their images in the extended real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of 1. -/
theorem ofBits_one : Ideal.ofBits .f32 0x3F800000#32 = ((1 : ℝ) : EReal) := by
  simp [Ideal.ofBits, Ideal.ieee, -EReal.coe_mul]; try norm_num
/-- The narrow word of 1. -/
theorem ofBits_oneb : Ideal.ofBits .bf16 0x3F80#16 = ((1 : ℝ) : EReal) := by
  simp [Ideal.ofBits, Ideal.ieee, -EReal.coe_mul]; try norm_num
/-- The word of 2. -/
theorem ofBits_two : Ideal.ofBits .f32 0x40000000#32 = ((2 : ℝ) : EReal) := by
  simp [Ideal.ofBits, Ideal.ieee, -EReal.coe_mul]; try norm_num
/-- The word of minus infinity. -/
theorem ofBits_bot : Ideal.ofBits .f32 0xFF800000#32 = (⊥ : EReal) := by
  simp [Ideal.ofBits, Ideal.ieee, -EReal.coe_mul]

/-- The scale of the scores, the real number of its word. -/
def c1 : ℝ := (Ideal.ofBits .f32 0x3DD105EC#32).toReal
/-- The word of the scale is its real number. -/
theorem ofBits_c1 : Ideal.ofBits .f32 0x3DD105EC#32 = (c1 : EReal) := by
  unfold c1
  simp [Ideal.ofBits, Ideal.ieee, -EReal.coe_mul]

/-- A greatest element of a non-empty row of real numbers, sought from minus infinity, is a real number. -/
theorem fold_max_real {n : ℕ} (f : Fin (n + 1) → EReal) (hf : ∀ i, ∃ r : ℝ, f i = r) :
    ∃ r : ℝ, Finset.fold max (⊥ : EReal) f Finset.univ = r := by
  classical
  have key : ∀ s : Finset (Fin (n + 1)), Finset.fold max (⊥ : EReal) f s = ⊥ ∧ s = ∅ ∨ ∃ r : ℝ, Finset.fold max (⊥ : EReal) f s = r := by
    intro s
    induction s using Finset.induction_on with
    | empty => left; simp
    | insert a s ha ih =>
      right
      obtain ⟨r, hr⟩ := hf a
      rw [Finset.fold_insert ha, hr]
      rcases ih with ⟨h, _⟩ | ⟨q, h⟩
      · exact ⟨r, by rw [h]; simp⟩
      · exact ⟨max r q, by rw [h]; exact (EReal.coe_strictMono.monotone.map_max (a := r) (b := q)).symm⟩
  rcases key Finset.univ with ⟨_, h⟩ | h
  · exact absurd h (Finset.univ_nonempty.ne_empty)
  · exact h

/-- A quotient of real numbers, the divisor not zero. -/
theorem div_real (a b : ℝ) (hb : b ≠ 0) : Ideal.div (a : EReal) (b : EReal) = ((a / b : ℝ) : EReal) := by
  rw [Ideal.div_coe hb, ← EReal.coe_mul]; congr 1; field_simp

theorem log2_pos : 0 < Real.log 2 := Real.log_pos (by norm_num)

/-- A sum over the 128 columns of a head: 64 columns, 32 columns, one, one, and 30 columns. -/
theorem sum_cols {M : Type} [AddCommMonoid M] (f : Fin 128 → M) :
    ∑ d, f d = (∑ d : Fin 64, f ⟨d.val, by omega⟩) + (∑ r : Fin 32, f ⟨64 + r.val, by omega⟩) + f ⟨96, by omega⟩ + f ⟨97, by omega⟩
      + ∑ z : Fin 30, f ⟨98 + z.val, by omega⟩ := by
  have h1 := Fin.sum_univ_add (a := 98) (b := 30) f
  have h2 := Fin.sum_univ_add (a := 97) (b := 1) (fun i : Fin 98 => f (Fin.castAdd 30 i))
  have h3 := Fin.sum_univ_add (a := 96) (b := 1) (fun i : Fin 97 => f (Fin.castAdd 30 (Fin.castAdd 1 i)))
  have h4 := Fin.sum_univ_add (a := 64) (b := 32) (fun i : Fin 96 => f (Fin.castAdd 30 (Fin.castAdd 1 (Fin.castAdd 1 i))))
  have e1 : ∀ g : Fin 1 → M, ∑ i, g i = g 0 := fun g => Fin.sum_univ_one g
  rw [e1] at h2 h3
  exact h1.trans (congrArg (· + _) (h2.trans (congrArg (· + _) (h3.trans (congrArg (· + _) h4)))))

/-- A sum over the 128 columns of a head: one column, one, 62 columns, and 64 columns. -/
theorem sum_cols' {M : Type} [AddCommMonoid M] (f : Fin 128 → M) :
    ∑ d, f d = f ⟨0, by omega⟩ + f ⟨1, by omega⟩ + (∑ z : Fin 62, f ⟨2 + z.val, by omega⟩) + ∑ d : Fin 64, f ⟨64 + d.val, by omega⟩ := by
  have h1 := Fin.sum_univ_add (a := 64) (b := 64) f
  have h2 := Fin.sum_univ_add (a := 2) (b := 62) (fun i : Fin 64 => f (Fin.castAdd 64 i))
  have e2 : ∀ g : Fin 2 → M, ∑ i, g i = g 0 + g 1 := fun g => Fin.sum_univ_two g
  rw [e2] at h2
  exact h1.trans (congrArg (· + _) h2)

end Cert.Proof.RealMath

end
-- ==== Proof.Scores.lean ====
/- The host's lines before the region at real arguments: the scores, the row's greatest score, the weights, the saved
   row sum and row product, and the columns of the four packed operands. -/
module

public import proofs.«01_k».proof.Proof.Stage
public import proofs.«01_k».proof.Proof.Reals

@[expose] public section

set_option maxRecDepth 65536

noncomputable section

namespace Cert.Proof.KI

open Cert.KernelIdeal Cert.KernelIdeal.Gen Idealize.ShloMosaic Idealize.ShloMosaic.TcCoe Idealize.SL.Sem Cert.Proof.RealMath

/-- An array of real numbers as an array of extended real numbers. -/
def up {s : Shape} {w : FTy} (a : s.Idx → ℝ) : FVec Ideal s w := fun y => (a y : EReal)

variable (a0 : S8192x8x64.Idx → ℝ) (a1 : S8192x8x32.Idx → ℝ) (a2 : S8192x8x64.Idx → ℝ) (a3 : S8192x32.Idx → ℝ)
variable (a4 a5 : S8192x8x64.Idx → ℝ)

/-- The score of query `q` and key `k`. -/
def sR (h : Fin 8) (q k : Fin 8192) : ℝ :=
  (∑ d : Fin 64, a0 (ix3 q h d) * a2 (ix3 k h d) + ∑ r : Fin 32, a3 (ix2 k r) * a1 (ix3 q h r)) * c1
/-- The greatest score of a row, as the host finds it. -/
def mR (h : Fin 8) (q : Fin 8192) : ℝ := (Finset.fold max (⊥ : EReal) (fun k => ((sR a0 a1 a2 a3 h q k : ℝ) : EReal)) Finset.univ).toReal
/-- The weight of a key before division. -/
def eR (h : Fin 8) (q k : Fin 8192) : ℝ := Real.exp (sR a0 a1 a2 a3 h q k - mR a0 a1 a2 a3 h q)
/-- The sum of a row's weights. -/
def lR (h : Fin 8) (q : Fin 8192) : ℝ := ∑ k, eR a0 a1 a2 a3 h q k
/-- The softmax weight. -/
def pR (h : Fin 8) (q k : Fin 8192) : ℝ := eR a0 a1 a2 a3 h q k / lR a0 a1 a2 a3 h q
/-- The output. -/
def oR (q : Fin 8192) (h : Fin 8) (d : Fin 64) : ℝ := ∑ k, a4 (ix3 k h d) * pR a0 a1 a2 a3 h q k
/-- The logarithm of the row's sum, in base two. -/
def lseR (q : Fin 8192) (h : Fin 8) : ℝ := (mR a0 a1 a2 a3 h q + Real.log (lR a0 a1 a2 a3 h q)) / Real.log 2
/-- The product of the output and its gradient. -/
def delR (q : Fin 8192) (h : Fin 8) : ℝ := ∑ d : Fin 64, oR a0 a1 a2 a3 a4 q h d * a5 (ix3 q h d)

/-- The sum of a row's weights is positive. -/
theorem lR_pos (h : Fin 8) (q : Fin 8192) : 0 < lR a0 a1 a2 a3 h q :=
  Finset.sum_pos (fun k _ => Real.exp_pos _) Finset.univ_nonempty

/-- The scores. -/
theorem st6_real (h : Fin 8) (q k : Fin 8192) :
    stv6 (up a0) (up a1) (up a2) (up a3) (ix3 h q k) = ((sR a0 a1 a2 a3 h q k : ℝ) : EReal) := by
  pointwise [stv6, stv5, stv4, stv3, stv2, stv1, stcst_0]
  rw [ofBits_c1]
  simp only [sR, up, EReal.coe_mul, EReal.coe_add, coe_sum]

/-- The greatest score of a row is the real number named so. -/
theorem mR_coe (h : Fin 8) (q : Fin 8192) :
    Finset.fold max (⊥ : EReal) (fun k => ((sR a0 a1 a2 a3 h q k : ℝ) : EReal)) Finset.univ = ((mR a0 a1 a2 a3 h q : ℝ) : EReal) := by
  obtain ⟨r, hr⟩ := fold_max_real (n := 8191) (fun k => ((sR a0 a1 a2 a3 h q k : ℝ) : EReal)) (fun i => ⟨_, rfl⟩)
  have hr' : Finset.fold max (⊥ : EReal) (fun k : Fin 8192 => ((sR a0 a1 a2 a3 h q k : ℝ) : EReal)) Finset.univ = (r : EReal) := hr
  unfold mR; rw [hr']; rfl

/-- The greatest element of a row, at an index. -/
theorem rowmax_at (s : FVec Ideal S8x8192x8192 .f32) (h : Fin 8) (q : Fin 8192) (z : Fin 1) :
    (broadcastInDim S8x8192x1 ![0, 1] bcast_S8x8192_S8x8192x1_0_1)
      ((fun x v => Host.reduce FloatOps.maximumf x v reducesTo_S8x8192x8192_S8x8192_d2 h_S_) s (constant S_ .f32 0xFF800000#32)) (ix3 h q z)
      = Finset.fold max (⊥ : EReal) (fun k => s (ix3 h q k)) Finset.univ := by
  rw [← ofBits_bot]
  pointwise

/-- The row's greatest score. -/
theorem st8_real (h : Fin 8) (q : Fin 8192) (z : Fin 1) :
    stv8 (up a0) (up a1) (up a2) (up a3) (ix3 h q z) = ((mR a0 a1 a2 a3 h q : ℝ) : EReal) := by
  have h6 := st6_real a0 a1 a2 a3 h q
  unfold stv8 stv7 stcst_1
  generalize stv6 (up a0) (up a1) (up a2) (up a3) = s at h6 ⊢
  refine (rowmax_at s h q z).trans ?_
  rw [← mR_coe]
  exact congrArg (fun f => Finset.fold max (⊥ : EReal) f Finset.univ) (funext h6)

/-- The exponential of a difference, at an index. -/
theorem expsub_at (s : FVec Ideal S8x8192x8192 .f32) (w : FVec Ideal S8x8192x1 .f32) (h : Fin 8) (q k : Fin 8192) :
    Host.exp (subf s ((broadcastInDim S8x8192x8192 ![0, 1, 2] bcast_S8x8192x1_S8x8192x8192_0_1_2) w)) (ix3 h q k)
      = Ideal.exp (s (ix3 h q k) - w (ix3 h q 0)) := by
  pointwise

/-- The weights before division. -/
theorem st11_real (h : Fin 8) (q k : Fin 8192) :
    stv11 (up a0) (up a1) (up a2) (up a3) (ix3 h q k) = ((eR a0 a1 a2 a3 h q k : ℝ) : EReal) := by
  unfold stv11 stv10 stv9
  rw [expsub_at, st6_real, st8_real, ← EReal.coe_sub, Ideal.exp_coe, eR]

/-- The row's sum. -/
theorem st13_real (h : Fin 8) (q : Fin 8192) (z : Fin 1) :
    stv13 (up a0) (up a1) (up a2) (up a3) (ix3 h q z) = ((lR a0 a1 a2 a3 h q : ℝ) : EReal) := by
  unfold lR
  rw [coe_sum]
  simp only [← st11_real]
  unfold stv13 stv12 stcst_2
  generalize stv11 (up a0) (up a1) (up a2) (up a3) = s
  pointwise

/-- The output. -/
theorem st17_real (q : Fin 8192) (h : Fin 8) (d : Fin 64) :
    stv17 (up a0) (up a1) (up a2) (up a3) (up a4) (ix3 q h d) = ((oR a0 a1 a2 a3 a4 q h d : ℝ) : EReal) := by
  unfold oR
  rw [coe_sum]
  simp only [EReal.coe_mul, pR, ← div_real _ _ (lR_pos a0 a1 a2 a3 h q).ne']
  simp only [← st11_real]
  rw [← st13_real (z := 0)]
  unfold stv17 stv16 stv15 stv14
  generalize stv11 (up a0) (up a1) (up a2) (up a3) = s
  generalize stv13 (up a0) (up a1) (up a2) (up a3) = w
  pointwise
  rfl

/-- The logarithm of two. -/
theorem st0_real (z : S_.Idx) : stv0 z = ((Real.log 2 : ℝ) : EReal) := by
  unfold stv0 stcst
  pointwise
  rw [ofBits_two, Ideal.log_coe, if_neg (by norm_num)]

/-- The line of the saved row sum, at an index. -/
theorem lse_at (s w : FVec Ideal S8x8192x1 .f32) (b : FVec Ideal S_ .f32) (h : Fin 8) (q : Fin 8192) (z : Fin 1) :
    (transpose S8192x8x1 [1, 0, 2] · transposes_S8x8192x1_S8192x8x1_1_0_2)
      (Host.divf (addf s (Host.log w)) ((broadcastInDim S8x8192x1 ![] bcast_S_S8x8192x1) b)) (ix3 q h z)
      = Ideal.div (s (ix3 h q z) + Ideal.log (w (ix3 h q z))) (b ix0) := by
  rw [Fin.eq_zero z]
  pointwise

/-- The saved row sum. -/
theorem st22_real (q : Fin 8192) (h : Fin 8) (z : Fin 1) :
    stv22 (up a0) (up a1) (up a2) (up a3) (ix3 q h z) = ((lseR a0 a1 a2 a3 q h : ℝ) : EReal) := by
  unfold stv22 stv21 stv20 stv19 stv18
  rw [lse_at, st8_real, st13_real, st0_real, Ideal.log_coe, if_neg (not_le.mpr (lR_pos a0 a1 a2 a3 h q)), ← EReal.coe_add, div_real _ _ log2_pos.ne', lseR]

/-- The saved row product. -/
theorem st25_real (q : Fin 8192) (h : Fin 8) (z : Fin 1) :
    stv25 (up a0) (up a1) (up a2) (up a3) (up a4) (up a5) (ix3 q h z) = ((delR a0 a1 a2 a3 a4 a5 q h : ℝ) : EReal) := by
  unfold delR
  rw [coe_sum]
  simp only [EReal.coe_mul, ← st17_real]
  unfold stv25 stv24 stv23 stcst_3
  generalize stv17 (up a0) (up a1) (up a2) (up a3) (up a4) = s
  pointwise
  rfl

end Cert.Proof.KI

end
-- ==== Proof.Pack.lean ====
/- The columns of the region's four packed operands, at real arguments. -/
module

public import proofs.«01_k».proof.Proof.Scores

@[expose] public section

set_option maxRecDepth 65536

noncomputable section

namespace Cert.Proof.KI

open Cert.KernelIdeal Cert.KernelIdeal.Gen Idealize.ShloMosaic Idealize.ShloMosaic.TcCoe Idealize.SL.Sem Cert.Proof.RealMath

/-- The heads of a packed array side by side, at a head's column. -/
theorem rows_at (x : FVec Ideal S8192x8x128 .bf16) (q : Fin 8192) (h : Fin 8) (d : Fin 128) :
    shapeCast S8192x1024 x shapeCasts_S8192x8x128_S8192x1024 (ix2 q (gcol h d)) = x (ix3 q h d) := by
  have e : ∀ (u : Fin 8) (v : Fin 128), u = h → v = d → x (ix3 q u v) = x (ix3 q h d) := by
    intro u v hu hv; rw [hu, hv]
  pointwise
  exact e _ _ (ghead_gcol h d) (gdim_gcol h d)

/-- Part 1 of the packed queries, at its columns. -/
theorem qcat_at0 (a0 : FVec Ideal S8192x8x64 .bf16) (a1 : FVec Ideal S8192x8x32 .bf16) (a2 : FVec Ideal S8192x8x1 .bf16) (a3 : FVec Ideal S8192x8x1 .bf16) (a4 : FVec Ideal S8192x8x30 .bf16) (q : Fin 8192) (h : Fin 8) (r : Fin 64) :
    concatenate S8192x8x128 2 [⟨S8192x8x64, a0⟩, ⟨S8192x8x32, a1⟩, ⟨S8192x8x1, a2⟩, ⟨S8192x8x1, a3⟩, ⟨S8192x8x30, a4⟩] concatenates_S8192x8x64_S8192x8x32_S8192x8x1_S8192x8x1_S8192x8x30_S8192x8x128_d2 (ix3 q h ⟨r.val, by omega⟩) = a0 (ix3 q h r) := by
  pointwise

/-- Part 2 of the packed queries, at its columns. -/
theorem qcat_at1 (a0 : FVec Ideal S8192x8x64 .bf16) (a1 : FVec Ideal S8192x8x32 .bf16) (a2 : FVec Ideal S8192x8x1 .bf16) (a3 : FVec Ideal S8192x8x1 .bf16) (a4 : FVec Ideal S8192x8x30 .bf16) (q : Fin 8192) (h : Fin 8) (r : Fin 32) :
    concatenate S8192x8x128 2 [⟨S8192x8x64, a0⟩, ⟨S8192x8x32, a1⟩, ⟨S8192x8x1, a2⟩, ⟨S8192x8x1, a3⟩, ⟨S8192x8x30, a4⟩] concatenates_S8192x8x64_S8192x8x32_S8192x8x1_S8192x8x1_S8192x8x30_S8192x8x128_d2 (ix3 q h ⟨64 + r.val, by omega⟩) = a1 (ix3 q h r) := by
  pointwise

/-- Part 3 of the packed queries, at its columns. -/
theorem qcat_at2 (a0 : FVec Ideal S8192x8x64 .bf16) (a1 : FVec Ideal S8192x8x32 .bf16) (a2 : FVec Ideal S8192x8x1 .bf16) (a3 : FVec Ideal S8192x8x1 .bf16) (a4 : FVec Ideal S8192x8x30 .bf16) (q : Fin 8192) (h : Fin 8) :
    concatenate S8192x8x128 2 [⟨S8192x8x64, a0⟩, ⟨S8192x8x32, a1⟩, ⟨S8192x8x1, a2⟩, ⟨S8192x8x1, a3⟩, ⟨S8192x8x30, a4⟩] concatenates_S8192x8x64_S8192x8x32_S8192x8x1_S8192x8x1_S8192x8x30_S8192x8x128_d2 (ix3 q h ⟨96, by omega⟩) = a2 (ix3 q h 0) := by
  pointwise

/-- Part 4 of the packed queries, at its columns. -/
theorem qcat_at3 (a0 : FVec Ideal S8192x8x64 .bf16) (a1 : FVec Ideal S8192x8x32 .bf16) (a2 : FVec Ideal S8192x8x1 .bf16) (a3 : FVec Ideal S8192x8x1 .bf16) (a4 : FVec Ideal S8192x8x30 .bf16) (q : Fin 8192) (h : Fin 8) :
    concatenate S8192x8x128 2 [⟨S8192x8x64, a0⟩, ⟨S8192x8x32, a1⟩, ⟨S8192x8x1, a2⟩, ⟨S8192x8x1, a3⟩, ⟨S8192x8x30, a4⟩] concatenates_S8192x8x64_S8192x8x32_S8192x8x1_S8192x8x1_S8192x8x30_S8192x8x128_d2 (ix3 q h ⟨97, by omega⟩) = a3 (ix3 q h 0) := by
  pointwise

/-- Part 5 of the packed queries, at its columns. -/
theorem qcat_at4 (a0 : FVec Ideal S8192x8x64 .bf16) (a1 : FVec Ideal S8192x8x32 .bf16) (a2 : FVec Ideal S8192x8x1 .bf16) (a3 : FVec Ideal S8192x8x1 .bf16) (a4 : FVec Ideal S8192x8x30 .bf16) (q : Fin 8192) (h : Fin 8) (r : Fin 30) :
    concatenate S8192x8x128 2 [⟨S8192x8x64, a0⟩, ⟨S8192x8x32, a1⟩, ⟨S8192x8x1, a2⟩, ⟨S8192x8x1, a3⟩, ⟨S8192x8x30, a4⟩] concatenates_S8192x8x64_S8192x8x32_S8192x8x1_S8192x8x1_S8192x8x30_S8192x8x128_d2 (ix3 q h ⟨98 + r.val, by omega⟩) = a4 (ix3 q h r) := by
  pointwise
  rw [dif_neg (by omega), dif_neg (by omega), dif_neg (by omega), dif_neg (by omega)]
  exact congrArg (fun t => a4 (ix3 q h t)) (Fin.ext (by dsimp only; omega))

/-- Part 1 of the packed keys, at its columns. -/
theorem kcat_at0 (a0 : FVec Ideal S8192x8x64 .bf16) (a1 : FVec Ideal S8192x8x32 .bf16) (a2 : FVec Ideal S8192x8x2 .bf16) (a3 : FVec Ideal S8192x8x30 .bf16) (q : Fin 8192) (h : Fin 8) (r : Fin 64) :
    concatenate S8192x8x128 2 [⟨S8192x8x64, a0⟩, ⟨S8192x8x32, a1⟩, ⟨S8192x8x2, a2⟩, ⟨S8192x8x30, a3⟩] concatenates_S8192x8x64_S8192x8x32_S8192x8x2_S8192x8x30_S8192x8x128_d2 (ix3 q h ⟨r.val, by omega⟩) = a0 (ix3 q h r) := by
  pointwise

/-- Part 2 of the packed keys, at its columns. -/
theorem kcat_at1 (a0 : FVec Ideal S8192x8x64 .bf16) (a1 : FVec Ideal S8192x8x32 .bf16) (a2 : FVec Ideal S8192x8x2 .bf16) (a3 : FVec Ideal S8192x8x30 .bf16) (q : Fin 8192) (h : Fin 8) (r : Fin 32) :
    concatenate S8192x8x128 2 [⟨S8192x8x64, a0⟩, ⟨S8192x8x32, a1⟩, ⟨S8192x8x2, a2⟩, ⟨S8192x8x30, a3⟩] concatenates_S8192x8x64_S8192x8x32_S8192x8x2_S8192x8x30_S8192x8x128_d2 (ix3 q h ⟨64 + r.val, by omega⟩) = a1 (ix3 q h r) := by
  pointwise

/-- Part 3 of the packed keys, at its columns. -/
theorem kcat_at2 (a0 : FVec Ideal S8192x8x64 .bf16) (a1 : FVec Ideal S8192x8x32 .bf16) (a2 : FVec Ideal S8192x8x2 .bf16) (a3 : FVec Ideal S8192x8x30 .bf16) (q : Fin 8192) (h : Fin 8) (r : Fin 2) :
    concatenate S8192x8x128 2 [⟨S8192x8x64, a0⟩, ⟨S8192x8x32, a1⟩, ⟨S8192x8x2, a2⟩, ⟨S8192x8x30, a3⟩] concatenates_S8192x8x64_S8192x8x32_S8192x8x2_S8192x8x30_S8192x8x128_d2 (ix3 q h ⟨96 + r.val, by omega⟩) = a2 (ix3 q h r) := by
  pointwise
  rw [dif_neg (by omega), dif_neg (by omega), dif_pos (by omega)]
  exact congrArg (fun t => a2 (ix3 q h t)) (Fin.ext (by dsimp only; omega))

/-- Part 4 of the packed keys, at its columns. -/
theorem kcat_at3 (a0 : FVec Ideal S8192x8x64 .bf16) (a1 : FVec Ideal S8192x8x32 .bf16) (a2 : FVec Ideal S8192x8x2 .bf16) (a3 : FVec Ideal S8192x8x30 .bf16) (q : Fin 8192) (h : Fin 8) (r : Fin 30) :
    concatenate S8192x8x128 2 [⟨S8192x8x64, a0⟩, ⟨S8192x8x32, a1⟩, ⟨S8192x8x2, a2⟩, ⟨S8192x8x30, a3⟩] concatenates_S8192x8x64_S8192x8x32_S8192x8x2_S8192x8x30_S8192x8x128_d2 (ix3 q h ⟨98 + r.val, by omega⟩) = a3 (ix3 q h r) := by
  pointwise
  rw [dif_neg (by omega), dif_neg (by omega), dif_neg (by omega)]
  exact congrArg (fun t => a3 (ix3 q h t)) (Fin.ext (by dsimp only; omega))

/-- Part 1 of the packed values, at its columns. -/
theorem vcat_at0 (a0 : FVec Ideal S8192x8x2 .bf16) (a1 : FVec Ideal S8192x8x62 .bf16) (a2 : FVec Ideal S8192x8x64 .bf16) (q : Fin 8192) (h : Fin 8) (r : Fin 2) :
    concatenate S8192x8x128 2 [⟨S8192x8x2, a0⟩, ⟨S8192x8x62, a1⟩, ⟨S8192x8x64, a2⟩] concatenates_S8192x8x2_S8192x8x62_S8192x8x64_S8192x8x128_d2 (ix3 q h ⟨r.val, by omega⟩) = a0 (ix3 q h r) := by
  pointwise

/-- Part 2 of the packed values, at its columns. -/
theorem vcat_at1 (a0 : FVec Ideal S8192x8x2 .bf16) (a1 : FVec Ideal S8192x8x62 .bf16) (a2 : FVec Ideal S8192x8x64 .bf16) (q : Fin 8192) (h : Fin 8) (r : Fin 62) :
    concatenate S8192x8x128 2 [⟨S8192x8x2, a0⟩, ⟨S8192x8x62, a1⟩, ⟨S8192x8x64, a2⟩] concatenates_S8192x8x2_S8192x8x62_S8192x8x64_S8192x8x128_d2 (ix3 q h ⟨2 + r.val, by omega⟩) = a1 (ix3 q h r) := by
  pointwise

/-- Part 3 of the packed values, at its columns. -/
theorem vcat_at2 (a0 : FVec Ideal S8192x8x2 .bf16) (a1 : FVec Ideal S8192x8x62 .bf16) (a2 : FVec Ideal S8192x8x64 .bf16) (q : Fin 8192) (h : Fin 8) (r : Fin 64) :
    concatenate S8192x8x128 2 [⟨S8192x8x2, a0⟩, ⟨S8192x8x62, a1⟩, ⟨S8192x8x64, a2⟩] concatenates_S8192x8x2_S8192x8x62_S8192x8x64_S8192x8x128_d2 (ix3 q h ⟨64 + r.val, by omega⟩) = a2 (ix3 q h r) := by
  pointwise
  rw [dif_neg (by omega), dif_neg (by omega)]
  exact congrArg (fun t => a2 (ix3 q h t)) (Fin.ext (by dsimp only; omega))

/-- Part 1 of the packed gradients, at its columns. -/
theorem dcat_at0 (a0 : FVec Ideal S8192x8x1 .bf16) (a1 : FVec Ideal S8192x8x1 .bf16) (a2 : FVec Ideal S8192x8x62 .bf16) (a3 : FVec Ideal S8192x8x64 .bf16) (q : Fin 8192) (h : Fin 8) :
    concatenate S8192x8x128 2 [⟨S8192x8x1, a0⟩, ⟨S8192x8x1, a1⟩, ⟨S8192x8x62, a2⟩, ⟨S8192x8x64, a3⟩] concatenates_S8192x8x1_S8192x8x1_S8192x8x62_S8192x8x64_S8192x8x128_d2 (ix3 q h ⟨0, by omega⟩) = a0 (ix3 q h 0) := by
  pointwise

/-- Part 2 of the packed gradients, at its columns. -/
theorem dcat_at1 (a0 : FVec Ideal S8192x8x1 .bf16) (a1 : FVec Ideal S8192x8x1 .bf16) (a2 : FVec Ideal S8192x8x62 .bf16) (a3 : FVec Ideal S8192x8x64 .bf16) (q : Fin 8192) (h : Fin 8) :
    concatenate S8192x8x128 2 [⟨S8192x8x1, a0⟩, ⟨S8192x8x1, a1⟩, ⟨S8192x8x62, a2⟩, ⟨S8192x8x64, a3⟩] concatenates_S8192x8x1_S8192x8x1_S8192x8x62_S8192x8x64_S8192x8x128_d2 (ix3 q h ⟨1, by omega⟩) = a1 (ix3 q h 0) := by
  pointwise

/-- Part 3 of the packed gradients, at its columns. -/
theorem dcat_at2 (a0 : FVec Ideal S8192x8x1 .bf16) (a1 : FVec Ideal S8192x8x1 .bf16) (a2 : FVec Ideal S8192x8x62 .bf16) (a3 : FVec Ideal S8192x8x64 .bf16) (q : Fin 8192) (h : Fin 8) (r : Fin 62) :
    concatenate S8192x8x128 2 [⟨S8192x8x1, a0⟩, ⟨S8192x8x1, a1⟩, ⟨S8192x8x62, a2⟩, ⟨S8192x8x64, a3⟩] concatenates_S8192x8x1_S8192x8x1_S8192x8x62_S8192x8x64_S8192x8x128_d2 (ix3 q h ⟨2 + r.val, by omega⟩) = a2 (ix3 q h r) := by
  pointwise
  rw [dif_neg (by omega), dif_neg (by omega), dif_pos (by omega)]
  exact congrArg (fun t => a2 (ix3 q h t)) (Fin.ext (by dsimp only; omega))

/-- Part 4 of the packed gradients, at its columns. -/
theorem dcat_at3 (a0 : FVec Ideal S8192x8x1 .bf16) (a1 : FVec Ideal S8192x8x1 .bf16) (a2 : FVec Ideal S8192x8x62 .bf16) (a3 : FVec Ideal S8192x8x64 .bf16) (q : Fin 8192) (h : Fin 8) (r : Fin 64) :
    concatenate S8192x8x128 2 [⟨S8192x8x1, a0⟩, ⟨S8192x8x1, a1⟩, ⟨S8192x8x62, a2⟩, ⟨S8192x8x64, a3⟩] concatenates_S8192x8x1_S8192x8x1_S8192x8x62_S8192x8x64_S8192x8x128_d2 (ix3 q h ⟨64 + r.val, by omega⟩) = a3 (ix3 q h r) := by
  pointwise
  rw [dif_neg (by omega), dif_neg (by omega), dif_neg (by omega)]
  exact congrArg (fun t => a3 (ix3 q h t)) (Fin.ext (by dsimp only; omega))

variable (a0 : S8192x8x64.Idx → ℝ) (a1 : S8192x8x32.Idx → ℝ) (a2 : S8192x8x64.Idx → ℝ) (a3 : S8192x32.Idx → ℝ)
variable (a4 a5 : S8192x8x64.Idx → ℝ)

/-- The scaled query without position. -/
theorem st48_p0 (q : Fin 8192) (h : Fin 8) (r : Fin 64) :
    stv48 (up a0) (up a1) (up a2) (up a3) (ix2 q (gcol h ⟨r.val, by omega⟩)) = ((a0 (ix3 q h r) * (c1 / Real.log 2) : ℝ) : EReal) := by
  unfold stv48 stv47
  rw [rows_at, qcat_at0]
  have h0 := st0_real ix0
  unfold stv40 stv39 stv38 stv34 stcst_4
  generalize stv0 = b at h0 ⊢
  pointwise
  rw [ofBits_c1, h0, div_real _ _ log2_pos.ne', EReal.coe_mul]; rfl

/-- The scaled query with position. -/
theorem st48_p1 (q : Fin 8192) (h : Fin 8) (r : Fin 32) :
    stv48 (up a0) (up a1) (up a2) (up a3) (ix2 q (gcol h ⟨64 + r.val, by omega⟩)) = ((a1 (ix3 q h r) * (c1 / Real.log 2) : ℝ) : EReal) := by
  unfold stv48 stv47
  rw [rows_at, qcat_at1]
  have h0 := st0_real ix0
  unfold stv43 stv42 stv41 stv34 stcst_4
  generalize stv0 = b at h0 ⊢
  pointwise
  rw [ofBits_c1, h0, div_real _ _ log2_pos.ne', EReal.coe_mul]; rfl

/-- The saved row sum, its sign changed. -/
theorem st48_p2 (q : Fin 8192) (h : Fin 8) :
    stv48 (up a0) (up a1) (up a2) (up a3) (ix2 q (gcol h ⟨96, by omega⟩)) = ((-lseR a0 a1 a2 a3 q h : ℝ) : EReal) := by
  unfold stv48 stv47
  rw [rows_at, qcat_at2]
  have h22 := st22_real a0 a1 a2 a3 q h 0
  unfold stv44 stv26
  generalize stv22 (up a0) (up a1) (up a2) (up a3) = b at h22 ⊢
  pointwise
  rw [h22, EReal.coe_neg]

/-- What the cast of the saved row sum leaves: nothing over the real numbers. -/
theorem st48_p3 (q : Fin 8192) (h : Fin 8) :
    stv48 (up a0) (up a1) (up a2) (up a3) (ix2 q (gcol h ⟨97, by omega⟩)) = ((0 : ℝ) : EReal) := by
  unfold stv48 stv47
  rw [rows_at, qcat_at3]
  have h22 := st22_real a0 a1 a2 a3 q h 0
  unfold stv45 stv29 stv28 stv27 stv26
  generalize stv22 (up a0) (up a1) (up a2) (up a3) = b at h22 ⊢
  pointwise
  rw [h22, ← EReal.coe_sub, sub_self, ← EReal.coe_neg, neg_zero]

/-- The empty columns. -/
theorem st48_p4 (q : Fin 8192) (h : Fin 8) (r : Fin 30) :
    stv48 (up a0) (up a1) (up a2) (up a3) (ix2 q (gcol h ⟨98 + r.val, by omega⟩)) = ((0 : ℝ) : EReal) := by
  unfold stv48 stv47
  rw [rows_at, qcat_at4]
  pointwise [stv46, stcst_5]; simp [Ideal.ofBits, Ideal.ieee]

/-- The key without position. -/
theorem st53_p0 (q : Fin 8192) (h : Fin 8) (r : Fin 64) :
    stv53 (up a2) (up a3) (ix2 q (gcol h ⟨r.val, by omega⟩)) = ((a2 (ix3 q h r) : ℝ) : EReal) := by
  unfold stv53 stv52
  rw [rows_at, kcat_at0]
  pointwise [stv49]; rfl

/-- The key with position, the same for every head. -/
theorem st53_p1 (q : Fin 8192) (h : Fin 8) (r : Fin 32) :
    stv53 (up a2) (up a3) (ix2 q (gcol h ⟨64 + r.val, by omega⟩)) = ((a3 (ix2 q r) : ℝ) : EReal) := by
  unfold stv53 stv52
  rw [rows_at, kcat_at1]
  pointwise [stv37, stv36, stv35]; rfl

/-- The ones. -/
theorem st53_p2 (q : Fin 8192) (h : Fin 8) (r : Fin 2) :
    stv53 (up a2) (up a3) (ix2 q (gcol h ⟨96 + r.val, by omega⟩)) = ((1 : ℝ) : EReal) := by
  unfold stv53 stv52
  rw [rows_at, kcat_at2]
  pointwise [stv50, stcst_6]; exact EReal.coe_one.symm

/-- The empty columns. -/
theorem st53_p3 (q : Fin 8192) (h : Fin 8) (r : Fin 30) :
    stv53 (up a2) (up a3) (ix2 q (gcol h ⟨98 + r.val, by omega⟩)) = ((0 : ℝ) : EReal) := by
  unfold stv53 stv52
  rw [rows_at, kcat_at3]
  pointwise [stv51, stcst_7]; simp [Ideal.ofBits, Ideal.ieee]

/-- The ones. -/
theorem st58_p0 (q : Fin 8192) (h : Fin 8) (r : Fin 2) :
    stv58 (up a4) (ix2 q (gcol h ⟨r.val, by omega⟩)) = ((1 : ℝ) : EReal) := by
  unfold stv58 stv57
  rw [rows_at, vcat_at0]
  pointwise [stv54, stcst_8]; exact EReal.coe_one.symm

/-- The empty columns. -/
theorem st58_p1 (q : Fin 8192) (h : Fin 8) (r : Fin 62) :
    stv58 (up a4) (ix2 q (gcol h ⟨2 + r.val, by omega⟩)) = ((0 : ℝ) : EReal) := by
  unfold stv58 stv57
  rw [rows_at, vcat_at1]
  pointwise [stv55, stcst_9]; simp [Ideal.ofBits, Ideal.ieee]

/-- The values. -/
theorem st58_p2 (q : Fin 8192) (h : Fin 8) (r : Fin 64) :
    stv58 (up a4) (ix2 q (gcol h ⟨64 + r.val, by omega⟩)) = ((a4 (ix3 q h r) : ℝ) : EReal) := by
  unfold stv58 stv57
  rw [rows_at, vcat_at2]
  pointwise [stv56]; rfl

/-- The saved row product, its sign changed. -/
theorem st64_p0 (q : Fin 8192) (h : Fin 8) :
    stv64 (up a0) (up a1) (up a2) (up a3) (up a4) (up a5) (ix2 q (gcol h ⟨0, by omega⟩)) = ((-delR a0 a1 a2 a3 a4 a5 q h : ℝ) : EReal) := by
  unfold stv64 stv63
  rw [rows_at, dcat_at0]
  have h25 := st25_real a0 a1 a2 a3 a4 a5 q h 0
  unfold stv59 stv30
  generalize stv25 (up a0) (up a1) (up a2) (up a3) (up a4) (up a5) = b at h25 ⊢
  pointwise
  rw [h25, EReal.coe_neg]

/-- What the cast of the saved row product leaves: nothing over the real numbers. -/
theorem st64_p1 (q : Fin 8192) (h : Fin 8) :
    stv64 (up a0) (up a1) (up a2) (up a3) (up a4) (up a5) (ix2 q (gcol h ⟨1, by omega⟩)) = ((0 : ℝ) : EReal) := by
  unfold stv64 stv63
  rw [rows_at, dcat_at1]
  have h25 := st25_real a0 a1 a2 a3 a4 a5 q h 0
  unfold stv60 stv33 stv32 stv31 stv30
  generalize stv25 (up a0) (up a1) (up a2) (up a3) (up a4) (up a5) = b at h25 ⊢
  pointwise
  rw [h25, ← EReal.coe_sub, sub_self, ← EReal.coe_neg, neg_zero]

/-- The empty columns. -/
theorem st64_p2 (q : Fin 8192) (h : Fin 8) (r : Fin 62) :
    stv64 (up a0) (up a1) (up a2) (up a3) (up a4) (up a5) (ix2 q (gcol h ⟨2 + r.val, by omega⟩)) = ((0 : ℝ) : EReal) := by
  unfold stv64 stv63
  rw [rows_at, dcat_at2]
  pointwise [stv61, stcst_10]; simp [Ideal.ofBits, Ideal.ieee]

/-- The gradient of the output. -/
theorem st64_p3 (q : Fin 8192) (h : Fin 8) (r : Fin 64) :
    stv64 (up a0) (up a1) (up a2) (up a3) (up a4) (up a5) (ix2 q (gcol h ⟨64 + r.val, by omega⟩)) = ((a5 (ix3 q h r) : ℝ) : EReal) := by
  unfold stv64 stv63
  rw [rows_at, dcat_at3]
  pointwise [stv62]; rfl

end Cert.Proof.KI

end
-- ==== Proof.Sums.lean ====
/- The three gradients' arrays at real arguments: the sums over the packed columns are the softmax weight and the
   difference of products, and the sums over keys and queries are the gradients up to their last factor. -/
module

public import proofs.«01_k».proof.Proof.Pack

@[expose] public section

set_option maxRecDepth 65536

noncomputable section

namespace Cert.Proof.KI

open Cert.KernelIdeal Cert.KernelIdeal.Gen Idealize.ShloMosaic Idealize.ShloMosaic.TcCoe Idealize.SL.Sem Cert.Proof.RealMath

variable (a0 : S8192x8x64.Idx → ℝ) (a1 : S8192x8x32.Idx → ℝ) (a2 : S8192x8x64.Idx → ℝ) (a3 : S8192x32.Idx → ℝ)
variable (a4 a5 : S8192x8x64.Idx → ℝ)

/-- The product of a query's gradient and a key's value. -/
def dpR (h : Fin 8) (q k : Fin 8192) : ℝ := ∑ d : Fin 64, a4 (ix3 k h d) * a5 (ix3 q h d)
/-- The gradient of a score before its scale. -/
def dsR (h : Fin 8) (q k : Fin 8192) : ℝ := pR a0 a1 a2 a3 h q k * (dpR a4 a5 h q k - delR a0 a1 a2 a3 a4 a5 q h)

/-- The product of a packed key and a packed query: the score in base two less the saved row sum. -/
theorem key_query (h : Fin 8) (j i : Fin 8192) :
    (∑ d : Fin 128, stv53 (up a2) (up a3) (ix2 j (gcol h d)) * stv48 (up a0) (up a1) (up a2) (up a3) (ix2 i (gcol h d)) : EReal)
      = ((sR a0 a1 a2 a3 h i j / Real.log 2 - lseR a0 a1 a2 a3 i h : ℝ) : EReal) := by
  have k96 : stv53 (up a2) (up a3) (ix2 j (gcol h ⟨96, by omega⟩)) = ((1 : ℝ) : EReal) := st53_p2 a2 a3 j h 0
  have k97 : stv53 (up a2) (up a3) (ix2 j (gcol h ⟨97, by omega⟩)) = ((1 : ℝ) : EReal) := st53_p2 a2 a3 j h 1
  rw [sum_cols]
  simp only [st53_p0, st53_p1, k96, k97, st53_p3, st48_p0, st48_p1, st48_p2, st48_p3, st48_p4, ← EReal.coe_mul, ← coe_sum, ← EReal.coe_add]
  congr 1
  simp only [mul_zero, Finset.sum_const_zero, one_mul, add_zero]
  have e1 : (∑ d : Fin 64, a2 (ix3 j h d) * (a0 (ix3 i h d) * (c1 / Real.log 2)))
      = (∑ d : Fin 64, a0 (ix3 i h d) * a2 (ix3 j h d)) * (c1 / Real.log 2) := by
    rw [Finset.sum_mul]; exact Finset.sum_congr rfl (fun d _ => by ring)
  have e2 : (∑ r : Fin 32, a3 (ix2 j r) * (a1 (ix3 i h r) * (c1 / Real.log 2)))
      = (∑ r : Fin 32, a3 (ix2 j r) * a1 (ix3 i h r)) * (c1 / Real.log 2) := by
    rw [Finset.sum_mul]; exact Finset.sum_congr rfl (fun d _ => by ring)
  rw [e1, e2, sR]
  ring

/-- The weight the region computes is the softmax weight. -/
theorem aw_real (h : Fin 8) (j i : Fin 8192) :
    aw (stv48 (up a0) (up a1) (up a2) (up a3)) (stv53 (up a2) (up a3)) h j i = ((pR a0 a1 a2 a3 h i j : ℝ) : EReal) := by
  unfold aw
  rw [key_query, Ideal.exp2_coe]
  congr 1
  have h2 := log2_pos
  have hl := lR_pos a0 a1 a2 a3 h i
  show (2 : ℝ) ^ (sR a0 a1 a2 a3 h i j / Real.log 2 - lseR a0 a1 a2 a3 i h) = pR a0 a1 a2 a3 h i j
  rw [Real.rpow_def_of_pos (by norm_num)]
  have e : Real.log 2 * (sR a0 a1 a2 a3 h i j / Real.log 2 - lseR a0 a1 a2 a3 i h)
      = (sR a0 a1 a2 a3 h i j - mR a0 a1 a2 a3 h i) - Real.log (lR a0 a1 a2 a3 h i) := by
    rw [lseR]; field_simp; ring
  rw [e, Real.exp_sub, Real.exp_log hl, pR, eR]

/-- The product of a packed value and a packed gradient: the product less the saved row product. -/
theorem val_grad (h : Fin 8) (j i : Fin 8192) :
    (∑ d : Fin 128, stv58 (up a4) (ix2 j (gcol h d)) * stv64 (up a0) (up a1) (up a2) (up a3) (up a4) (up a5) (ix2 i (gcol h d)) : EReal)
      = ((dpR a4 a5 h i j - delR a0 a1 a2 a3 a4 a5 i h : ℝ) : EReal) := by
  have k0 : stv58 (up a4) (ix2 j (gcol h ⟨0, by omega⟩)) = ((1 : ℝ) : EReal) := st58_p0 a4 j h 0
  have k1 : stv58 (up a4) (ix2 j (gcol h ⟨1, by omega⟩)) = ((1 : ℝ) : EReal) := st58_p0 a4 j h 1
  rw [sum_cols']
  simp only [k0, k1, st58_p1, st58_p2, st64_p0, st64_p1, st64_p2, st64_p3, ← EReal.coe_mul, ← coe_sum, ← EReal.coe_add]
  congr 1
  simp only [mul_zero, Finset.sum_const_zero, one_mul, add_zero]
  rw [dpR]
  ring

/-- The gradient of a score before its scale, as the region computes it. -/
theorem ads_real (h : Fin 8) (j i : Fin 8192) :
    ads (stv48 (up a0) (up a1) (up a2) (up a3)) (stv64 (up a0) (up a1) (up a2) (up a3) (up a4) (up a5)) (stv53 (up a2) (up a3)) (stv58 (up a4)) h j i
      = ((dsR a0 a1 a2 a3 a4 a5 h i j : ℝ) : EReal) := by
  unfold ads
  rw [aw_real, val_grad, ← EReal.coe_mul, dsR]

/-- The query's gradient's array, the columns without position. -/
theorem aDq_real0 (i : Fin 8192) (h : Fin 8) (r : Fin 64) :
    aDq (stv48 (up a0) (up a1) (up a2) (up a3)) (stv64 (up a0) (up a1) (up a2) (up a3) (up a4) (up a5)) (stv53 (up a2) (up a3)) (stv58 (up a4)) i h ⟨r.val, by omega⟩
      = ((∑ j, dsR a0 a1 a2 a3 a4 a5 h i j * a2 (ix3 j h r) : ℝ) : EReal) := by
  unfold aDq
  simp only [ads_real, st53_p0, ← EReal.coe_mul, ← coe_sum]

/-- The query's gradient's array, the columns with position. -/
theorem aDq_real1 (i : Fin 8192) (h : Fin 8) (r : Fin 32) :
    aDq (stv48 (up a0) (up a1) (up a2) (up a3)) (stv64 (up a0) (up a1) (up a2) (up a3) (up a4) (up a5)) (stv53 (up a2) (up a3)) (stv58 (up a4)) i h ⟨64 + r.val, by omega⟩
      = ((∑ j, dsR a0 a1 a2 a3 a4 a5 h i j * a3 (ix2 j r) : ℝ) : EReal) := by
  unfold aDq
  simp only [ads_real, st53_p1, ← EReal.coe_mul, ← coe_sum]

/-- The key's gradient's array, the columns without position. -/
theorem aDk_real0 (j : Fin 8192) (h : Fin 8) (r : Fin 64) :
    aDk (stv48 (up a0) (up a1) (up a2) (up a3)) (stv64 (up a0) (up a1) (up a2) (up a3) (up a4) (up a5)) (stv53 (up a2) (up a3)) (stv58 (up a4)) j h ⟨r.val, by omega⟩
      = ((∑ i, dsR a0 a1 a2 a3 a4 a5 h i j * (a0 (ix3 i h r) * (c1 / Real.log 2)) : ℝ) : EReal) := by
  unfold aDk
  simp only [ads_real, st48_p0, ← EReal.coe_mul, ← coe_sum]

/-- The key's gradient's array, the columns with position. -/
theorem aDk_real1 (j : Fin 8192) (h : Fin 8) (r : Fin 32) :
    aDk (stv48 (up a0) (up a1) (up a2) (up a3)) (stv64 (up a0) (up a1) (up a2) (up a3) (up a4) (up a5)) (stv53 (up a2) (up a3)) (stv58 (up a4)) j h ⟨64 + r.val, by omega⟩
      = ((∑ i, dsR a0 a1 a2 a3 a4 a5 h i j * (a1 (ix3 i h r) * (c1 / Real.log 2)) : ℝ) : EReal) := by
  unfold aDk
  simp only [ads_real, st48_p1, ← EReal.coe_mul, ← coe_sum]

/-- The value's gradient's array. -/
theorem aDv_real (j : Fin 8192) (h : Fin 8) (r : Fin 64) :
    aDv (stv48 (up a0) (up a1) (up a2) (up a3)) (stv64 (up a0) (up a1) (up a2) (up a3) (up a4) (up a5)) (stv53 (up a2) (up a3)) j h ⟨64 + r.val, by omega⟩
      = ((∑ i, pR a0 a1 a2 a3 h i j * a5 (ix3 i h r) : ℝ) : EReal) := by
  unfold aDv
  simp only [aw_real, st64_p3, ← EReal.coe_mul, ← coe_sum]

/-- The saved row product is the sum of the weights times the products. -/
theorem delR_eq (q : Fin 8192) (h : Fin 8) :
    delR a0 a1 a2 a3 a4 a5 q h = ∑ k, pR a0 a1 a2 a3 h q k * dpR a4 a5 h q k := by
  simp only [delR, oR, dpR, Finset.sum_mul, Finset.mul_sum]
  rw [Finset.sum_comm]
  exact Finset.sum_congr rfl (fun k _ => Finset.sum_congr rfl (fun d _ => by ring))

end Cert.Proof.KI

end
-- ==== Proof.Tail.lean ====
/- The host's lines after the region: the five results by the three gradients' arrays, at an index. -/
module

public import proofs.«01_k».proof.Proof.Sums

@[expose] public section

set_option maxRecDepth 65536

noncomputable section

namespace Cert.Proof.KI

open Cert.KernelIdeal Cert.KernelIdeal.Gen Idealize.ShloMosaic Idealize.ShloMosaic.TcCoe Idealize.SL.Sem Cert.Proof.RealMath

/-- The query's gradient, scaled, all columns. -/
def tq (g : FVec Ideal S8192x1024 .f32) : FVec Ideal S8192x8x128 .f32 :=
  mulf (shapeCast S8192x8x128 g shapeCasts_S8192x1024_S8192x8x128)
    ((broadcastInDim S8192x8x128 ![] bcast_S_S8192x8x128) (constant S_ .f32 0x3DD105EC#32))
/-- The key's gradient, scaled, all columns. -/
def tk (g : FVec Ideal S8192x1024 .f32) (b : FVec Ideal S_ .f32) : FVec Ideal S8192x8x128 .f32 :=
  mulf (shapeCast S8192x8x128 g shapeCasts_S8192x1024_S8192x8x128) ((broadcastInDim S8192x8x128 ![] bcast_S_S8192x8x128) b)
/-- The gradient of the queries without position. -/
def t72 (g : FVec Ideal S8192x1024 .f32) : FVec Ideal S8192x8x64 .f32 :=
  extractStridedSlice S8192x8x64 ![0, 0, 0] (tq g) slices_S8192x8x128_S8192x8x64_0_0_0
/-- The gradient of the queries with position. -/
def t73 (g : FVec Ideal S8192x1024 .f32) : FVec Ideal S8192x8x32 .f32 :=
  extractStridedSlice S8192x8x32 ![0, 0, 64] (tq g) slices_S8192x8x128_S8192x8x32_0_0_64
/-- The gradient of the keys without position. -/
def t74 (g : FVec Ideal S8192x1024 .f32) (b : FVec Ideal S_ .f32) : FVec Ideal S8192x8x64 .f32 :=
  extractStridedSlice S8192x8x64 ![0, 0, 0] (tk g b) slices_S8192x8x128_S8192x8x64_0_0_0
/-- The gradient of the keys with position, summed over the heads. -/
def t76 (g : FVec Ideal S8192x1024 .f32) (b : FVec Ideal S_ .f32) : FVec Ideal S8192x32 .f32 :=
  (fun x v => Host.reduceAdd x v reducesTo_S8192x8x32_S8192x32_d1 h_S_)
    (extractStridedSlice S8192x8x32 ![0, 0, 64] (tk g b) slices_S8192x8x128_S8192x8x32_0_0_64) (constant S_ .f32 0x00000000#32)
/-- The gradient of the values. -/
def t78 (g : FVec Ideal S8192x1024 .f32) : FVec Ideal S8192x8x64 .f32 :=
  extractStridedSlice S8192x8x64 ![0, 0, 64] (shapeCast S8192x8x128 g shapeCasts_S8192x1024_S8192x8x128) slices_S8192x8x128_S8192x8x64_0_0_64

/-- The heads of an array put on an axis of their own, at an index. -/
theorem heads_at (x : FVec Ideal S8192x1024 .f32) (q : Fin 8192) (h : Fin 8) (d : Fin 128) :
    shapeCast S8192x8x128 x shapeCasts_S8192x1024_S8192x8x128 (ix3 q h d) = x (ix2 q (gcol h d)) := by
  have e : ∀ u : Fin 1024, u.val = h.val * 128 + d.val → x (ix2 q u) = x (ix2 q (gcol h d)) := by
    intro u hu
    exact congrArg (fun t => x (ix2 q t)) (Fin.ext (by rw [hu]; show _ = 128 * h.val + d.val; omega))
  pointwise
  exact e _ rfl

/-- The scaled gradient of the queries, at an index. -/
theorem tq_at (g : FVec Ideal S8192x1024 .f32) (q : Fin 8192) (h : Fin 8) (d : Fin 128) :
    tq g (ix3 q h d) = g (ix2 q (gcol h d)) * (c1 : EReal) := by
  rw [← heads_at g q h d, ← ofBits_c1]
  unfold tq
  generalize shapeCast S8192x8x128 g shapeCasts_S8192x1024_S8192x8x128 = y
  pointwise

/-- The scaled gradient of the keys, at an index. -/
theorem tk_at (g : FVec Ideal S8192x1024 .f32) (b : FVec Ideal S_ .f32) (q : Fin 8192) (h : Fin 8) (d : Fin 128) :
    tk g b (ix3 q h d) = g (ix2 q (gcol h d)) * b ix0 := by
  rw [← heads_at g q h d]
  unfold tk
  generalize shapeCast S8192x8x128 g shapeCasts_S8192x1024_S8192x8x128 = y
  pointwise

/-- The first result, at an index. -/
theorem t72_at (g : FVec Ideal S8192x1024 .f32) (q : Fin 8192) (h : Fin 8) (r : Fin 64) :
    t72 g (ix3 q h r) = g (ix2 q (gcol h ⟨r.val, by omega⟩)) * (c1 : EReal) := by
  rw [← tq_at]
  unfold t72
  generalize tq g = y
  pointwise

/-- The second result, at an index. -/
theorem t73_at (g : FVec Ideal S8192x1024 .f32) (q : Fin 8192) (h : Fin 8) (r : Fin 32) :
    t73 g (ix3 q h r) = g (ix2 q (gcol h ⟨64 + r.val, by omega⟩)) * (c1 : EReal) := by
  rw [← tq_at]
  unfold t73
  generalize tq g = y
  pointwise

/-- The third result, at an index. -/
theorem t74_at (g : FVec Ideal S8192x1024 .f32) (b : FVec Ideal S_ .f32) (q : Fin 8192) (h : Fin 8) (r : Fin 64) :
    t74 g b (ix3 q h r) = g (ix2 q (gcol h ⟨r.val, by omega⟩)) * b ix0 := by
  rw [← tk_at]
  unfold t74
  generalize tk g b = y
  pointwise

/-- The fourth result, at an index. -/
theorem t76_at (g : FVec Ideal S8192x1024 .f32) (b : FVec Ideal S_ .f32) (q : Fin 8192) (r : Fin 32) :
    t76 g b (ix2 q r) = ∑ h : Fin 8, g (ix2 q (gcol h ⟨64 + r.val, by omega⟩)) * b ix0 := by
  simp only [← tk_at]
  unfold t76
  generalize tk g b = y
  pointwise

/-- The fifth result, at an index. -/
theorem t78_at (g : FVec Ideal S8192x1024 .f32) (q : Fin 8192) (h : Fin 8) (r : Fin 64) :
    t78 g (ix3 q h r) = g (ix2 q (gcol h ⟨64 + r.val, by omega⟩)) := by
  rw [← heads_at g q h ⟨64 + r.val, by omega⟩]
  unfold t78
  generalize shapeCast S8192x8x128 g shapeCasts_S8192x1024_S8192x8x128 = y
  pointwise

section Line
variable (W : Valuation τ sig (Elt Ideal))

/-- The first result, from the contents after the region. -/
theorem line72 : StableHlo.after hostOps1 W (Proc.devRef .tc main_v72) = t72 (W (Proc.devRef .tc main_v65_0)) := by
  dsimp only [hostOps1]
  after_reads_simp
  rfl
/-- The second result, from the contents after the region. -/
theorem line73 : StableHlo.after hostOps1 W (Proc.devRef .tc main_v73) = t73 (W (Proc.devRef .tc main_v65_0)) := by
  dsimp only [hostOps1]
  after_reads_simp
  rfl
/-- The third result, from the contents after the region. -/
theorem line74 : StableHlo.after hostOps1 W (Proc.devRef .tc main_v74) = t74 (W (Proc.devRef .tc main_v65_1)) (W (Proc.devRef .tc main_v0)) := by
  dsimp only [hostOps1]
  after_reads_simp
  rfl
/-- The fourth result, from the contents after the region. -/
theorem line76 : StableHlo.after hostOps1 W (Proc.devRef .tc main_v76) = t76 (W (Proc.devRef .tc main_v65_1)) (W (Proc.devRef .tc main_v0)) := by
  dsimp only [hostOps1]
  after_reads_simp
  rfl
/-- The fifth result, from the contents after the region. -/
theorem line78 : StableHlo.after hostOps1 W (Proc.devRef .tc main_v78) = t78 (W (Proc.devRef .tc main_v65_2)) := by
  dsimp only [hostOps1]
  after_reads_simp
  rfl
end Line

section Whole
variable (m : (ℓ : Loc nD τ sig) → Buf (Elt Ideal) ℓ) (c : Dev nD)

/-- The contents after the region, before the last lines. -/
abbrev Wreg : Valuation τ sig (Elt Ideal) :=
  Pipeline.withArrays (cfgs 0).spec c (V0 m c) fun w => (dats m 0 c).arrAt w (cfgs 0).N

/-- No two of the region's arrays are the same. -/
theorem arr_inj : Function.Injective (Pipeline.arrRef (cfgs 0).spec) := by
  intro a b; revert a b; decide

theorem reg0 : Wreg m c (Proc.devRef .tc main_v65_0) = G4 m c :=
  (Pipeline.withArrays_arr (cfgs 0).spec arr_inj c (V0 m c) _ 4).trans (final4 m c)
theorem reg1 : Wreg m c (Proc.devRef .tc main_v65_1) = G5 m c :=
  (Pipeline.withArrays_arr (cfgs 0).spec arr_inj c (V0 m c) _ 5).trans (final5 m c)
theorem reg2 : Wreg m c (Proc.devRef .tc main_v65_2) = G6 m c :=
  (Pipeline.withArrays_arr (cfgs 0).spec arr_inj c (V0 m c) _ 6).trans (final6 m c)
/-- The region does not touch the logarithm of two. -/
theorem regb : Wreg m c (Proc.devRef .tc main_v0) = stv0 :=
  (Pipeline.withArrays_of_ne (cfgs 0).spec c (V0 m c) _ main_v0 (by exact (by decide : ∀ w, Pipeline.arrRef spec0 w ≠ main_v0))).trans (V_main_v0 m c)

/-- The contents at the end of the program of a buffer the last lines write. -/
theorem tail_eq (b : Ref sig .tc) : Pipeline.afterTail₀ cfgs (dats m) 0 (V0 m) [hostOps1] c b
    = StableHlo.after hostOps1 (Wreg m c) (Proc.devRef .tc b) := by
  unfold Pipeline.afterTail₀ Wreg
  simp only [List.flatten_cons, List.flatten_nil, List.append_nil]

theorem end72 : Pipeline.afterTail₀ cfgs (dats m) 0 (V0 m) [hostOps1] c main_v72 = t72 (G4 m c) := by
  rw [tail_eq, line72, reg0]
theorem end73 : Pipeline.afterTail₀ cfgs (dats m) 0 (V0 m) [hostOps1] c main_v73 = t73 (G4 m c) := by
  rw [tail_eq, line73, reg0]
theorem end74 : Pipeline.afterTail₀ cfgs (dats m) 0 (V0 m) [hostOps1] c main_v74 = t74 (G5 m c) stv0 := by
  rw [tail_eq, line74, reg1, regb]
theorem end76 : Pipeline.afterTail₀ cfgs (dats m) 0 (V0 m) [hostOps1] c main_v76 = t76 (G5 m c) stv0 := by
  rw [tail_eq, line76, reg1, regb]
theorem end78 : Pipeline.afterTail₀ cfgs (dats m) 0 (V0 m) [hostOps1] c main_v78 = t78 (G6 m c) := by
  rw [tail_eq, line78, reg2]

end Whole

end Cert.Proof.KI

end
-- ==== Proof.RefReal.lean ====
/- The reference's five results at real arguments: what differentiating the softmax attention gives, line by line. -/
module

public import proofs.«01_k».proof.Proof.Sums
public import proofs.«01_k».proof.Proof.Gen.ReferenceIdeal.Read

@[expose] public section

set_option maxRecDepth 65536

noncomputable section

namespace Cert.Proof.RI

open Cert.ReferenceIdeal Cert.ReferenceIdeal.Gen Cert.ReferenceIdeal.Read Idealize.ShloMosaic Idealize.ShloMosaic.TcCoe Cert.Proof.RealMath
open Cert.Proof.KI (up sR mR eR lR pR oR dpR dsR delR mR_coe lR_pos delR_eq)

variable (a0 : S8192x8x64.Idx → ℝ) (a1 : S8192x8x32.Idx → ℝ) (a2 : S8192x8x64.Idx → ℝ) (a3 : S8192x32.Idx → ℝ)
variable (a4 a5 : S8192x8x64.Idx → ℝ)

/-- The scores. -/
theorem v5_real (h : Fin 8) (q k : Fin 8192) :
    val_main_v5 (F := Ideal) (up (w := .f32) a0) (up (w := .f32) a1) (up (w := .f32) a2) (up (w := .f32) a3) (ix3 h q k) = ((sR a0 a1 a2 a3 h q k : ℝ) : EReal) := by
  pointwise [val_main_v5, val_main_v4, val_main_v3, val_main_v2, val_main_v1, val_main_v0, val_main_cst]
  rw [ofBits_c1]
  simp only [sR, up, EReal.coe_mul, EReal.coe_add, coe_sum]

/-- The greatest element of a row, at an index. -/
theorem rowmax_at (s : FVec Ideal S8x8192x8192 .f32) (h : Fin 8) (q : Fin 8192) :
    Host.reduce FloatOps.maximumf s (constant S_ .f32 0xFF800000#32) reducesTo_S8x8192x8192_S8x8192_d2 h_S_ (ix2 h q)
      = Finset.fold max (⊥ : EReal) (fun k => s (ix3 h q k)) Finset.univ := by
  rw [← ofBits_bot]
  pointwise

/-- The greatest of a number and minus infinity, at an index. -/
theorem floor_at (x : FVec Ideal S8x8192 .f32) (h : Fin 8) (q : Fin 8192) :
    (broadcastInDim S8x8192x1 ![0, 1] bcast_S8x8192_S8x8192x1_0_1)
      (maximumf ((broadcastInDim S8x8192 ![] bcast_S_S8x8192) (constant S_ .f32 0xFF800000#32)) x) (ix3 h q 0) = x (ix2 h q) := by
  have e : max (⊥ : EReal) (x (ix2 h q)) = x (ix2 h q) := max_eq_right bot_le
  rw [← e, ← ofBits_bot]
  pointwise

/-- The row's greatest score. -/
theorem v23_real (h : Fin 8) (q : Fin 8192) :
    val_main_v23 (F := Ideal) (up (w := .f32) a0) (up (w := .f32) a1) (up (w := .f32) a2) (up (w := .f32) a3) (ix3 h q 0) = ((mR a0 a1 a2 a3 h q : ℝ) : EReal) := by
  have h6 := v5_real a0 a1 a2 a3 h q
  unfold val_main_v23 val_main_v13 val_main_v12 val_main_cst_2
  rw [floor_at]
  unfold val_main_v6 val_main_cst_0
  rw [rowmax_at, ← mR_coe]
  exact congrArg (fun f => Finset.fold max (⊥ : EReal) f Finset.univ) (funext h6)

/-- The exponential of a difference, at an index. -/
theorem expsub_at (s : FVec Ideal S8x8192x8192 .f32) (w : FVec Ideal S8x8192x1 .f32) (h : Fin 8) (q k : Fin 8192) :
    Host.exp (subf s ((broadcastInDim S8x8192x8192 ![0, 1, 2] bcast_S8x8192x1_S8x8192x8192_0_1_2) w)) (ix3 h q k)
      = Ideal.exp (s (ix3 h q k) - w (ix3 h q 0)) := by
  pointwise

/-- The weights before division. -/
theorem v26_real (h : Fin 8) (q k : Fin 8192) :
    val_main_v26 (F := Ideal) (up (w := .f32) a0) (up (w := .f32) a1) (up (w := .f32) a2) (up (w := .f32) a3) (ix3 h q k) = ((eR a0 a1 a2 a3 h q k : ℝ) : EReal) := by
  unfold val_main_v26 val_main_v25 val_main_v24
  rw [expsub_at, v5_real, v23_real, ← EReal.coe_sub, Ideal.exp_coe, eR]

/-- The sum of a row, at an index. -/
theorem rowsum_at (s : FVec Ideal S8x8192x8192 .f32) (h : Fin 8) (q : Fin 8192) :
    (broadcastInDim S8x8192x1 ![0, 1] bcast_S8x8192_S8x8192x1_0_1)
      (Host.reduceAdd s (constant S_ .f32 0x00000000#32) reducesTo_S8x8192x8192_S8x8192_d2 h_S_) (ix3 h q 0)
      = ∑ k, s (ix3 h q k) := by
  pointwise

/-- The row's sum. -/
theorem v28_real (h : Fin 8) (q : Fin 8192) :
    val_main_v28 (F := Ideal) (up (w := .f32) a0) (up (w := .f32) a1) (up (w := .f32) a2) (up (w := .f32) a3) (ix3 h q 0) = ((lR a0 a1 a2 a3 h q : ℝ) : EReal) := by
  unfold val_main_v28 val_main_v27 val_main_cst_8
  rw [rowsum_at]
  simp only [v26_real]
  rw [← coe_sum, lR]

/-- A quotient by a row's number, at an index. -/
theorem divrow_at (s : FVec Ideal S8x8192x8192 .f32) (w : FVec Ideal S8x8192x1 .f32) (h : Fin 8) (q k : Fin 8192) :
    Host.divf s ((broadcastInDim S8x8192x8192 ![0, 1, 2] bcast_S8x8192x1_S8x8192x8192_0_1_2) w) (ix3 h q k)
      = Ideal.div (s (ix3 h q k)) (w (ix3 h q 0)) := by
  pointwise

/-- The softmax weight. -/
theorem v30_real (h : Fin 8) (q k : Fin 8192) :
    val_main_v30 (F := Ideal) (up (w := .f32) a0) (up (w := .f32) a1) (up (w := .f32) a2) (up (w := .f32) a3) (ix3 h q k) = ((pR a0 a1 a2 a3 h q k : ℝ) : EReal) := by
  unfold val_main_v30 val_main_v29
  rw [divrow_at, v26_real, v28_real, div_real _ _ (lR_pos a0 a1 a2 a3 h q).ne', pR]

/-- The product of a query's gradient and a key's value. -/
theorem v37_real (h : Fin 8) (q k : Fin 8192) :
    val_main_v37 (F := Ideal) (up (w := .f32) a4) (up (w := .f32) a5) (ix3 h q k) = ((dpR a4 a5 h q k : ℝ) : EReal) := by
  pointwise [val_main_v37, val_main_v36]
  simp only [dpR, up, EReal.coe_mul, coe_sum, mul_comm]

/-- The sum of a row's products by the square of its sum, at an index. -/
theorem dots_at (d s : FVec Ideal S8x8192x8192 .f32) (w : FVec Ideal S8x8192x1 .f32) (h : Fin 8) (q k : Fin 8192) :
    (broadcastInDim S8x8192x8192 ![0, 1] bcast_S8x8192_S8x8192x8192_0_1)
      (Host.reduceAdd (Host.negf (shapeCast S8x8192x1
        (Host.reduceAdd (mulf (mulf d ((broadcastInDim S8x8192x8192 ![0, 1, 2] bcast_S8x8192x1_S8x8192x8192_0_1_2)
          (Host.divf ((broadcastInDim S8x8192x1 ![] bcast_S_S8x8192x1) (constant S_ .f32 0x3F800000#32)) (mulf w w)))) s)
          (constant S_ .f32 0x00000000#32) reducesTo_S8x8192x8192_S8x8192_d2 h_S_) shapeCasts_S8x8192_S8x8192x1))
        (constant S_ .f32 0x00000000#32) reducesTo_S8x8192x1_S8x8192_d2 h_S_) (ix3 h q k)
      = -∑ j, d (ix3 h q j) * Ideal.div ((1 : ℝ) : EReal) (w (ix3 h q 0) * w (ix3 h q 0)) * s (ix3 h q j) := by
  rw [← ofBits_one]
  pointwise
  exact Fin.sum_univ_one _

/-- The gradient of a score, at an index. -/
theorem grad_at (d s x : FVec Ideal S8x8192x8192 .f32) (w : FVec Ideal S8x8192x1 .f32) (h : Fin 8) (q k : Fin 8192) :
    mulf (mulf (addf (Host.divf d ((broadcastInDim S8x8192x8192 ![0, 1, 2] bcast_S8x8192x1_S8x8192x8192_0_1_2) w)) x) s)
      ((broadcastInDim S8x8192x8192 ![] bcast_S_S8x8192x8192) (constant S_ .f32 0x3DD105EC#32)) (ix3 h q k)
      = (Ideal.div (d (ix3 h q k)) (w (ix3 h q 0)) + x (ix3 h q k)) * s (ix3 h q k) * (c1 : EReal) := by
  rw [← ofBits_c1]
  pointwise

/-- The gradient of a score. -/
theorem v53_real (h : Fin 8) (q k : Fin 8192) :
    val_main_v53 (F := Ideal) (up (w := .f32) a0) (up (w := .f32) a1) (up (w := .f32) a2) (up (w := .f32) a3) (up (w := .f32) a4) (up (w := .f32) a5) (ix3 h q k) = ((dsR a0 a1 a2 a3 a4 a5 h q k * c1 : ℝ) : EReal) := by
  unfold val_main_v53 val_main_v52 val_main_cst_12 val_main_v51 val_main_v50 val_main_v47 val_main_v46
  rw [grad_at]
  unfold val_main_v49 val_main_v48 val_main_cst_11 val_main_v45 val_main_v44 val_main_v43 val_main_cst_10 val_main_v42 val_main_v41 val_main_v40
    val_main_v33 val_main_v32 val_main_cst_9 val_main_v31
  rw [dots_at]
  have hl := lR_pos a0 a1 a2 a3 h q
  simp only [v37_real, v26_real, v28_real, ← EReal.coe_mul, div_real _ _ hl.ne', div_real _ _ (mul_pos hl hl).ne', ← coe_sum, ← EReal.coe_neg, ← EReal.coe_add]
  congr 1
  have e : (∑ j, dpR a4 a5 h q j * (1 / (lR a0 a1 a2 a3 h q * lR a0 a1 a2 a3 h q)) * eR a0 a1 a2 a3 h q j)
      = delR a0 a1 a2 a3 a4 a5 q h / lR a0 a1 a2 a3 h q := by
    rw [delR_eq, Finset.sum_div]
    refine Finset.sum_congr rfl (fun j _ => ?_)
    rw [pR]; field_simp
  rw [e, dsR, pR]
  field_simp
  ring

/-- The gradient of the queries without position. -/
theorem v60_real (q : Fin 8192) (h : Fin 8) (d : Fin 64) :
    val_main_v60 (F := Ideal) (up (w := .f32) a0) (up (w := .f32) a1) (up (w := .f32) a2) (up (w := .f32) a3) (up (w := .f32) a4) (up (w := .f32) a5) (ix3 q h d)
      = ((∑ k, dsR a0 a1 a2 a3 a4 a5 h q k * c1 * a2 (ix3 k h d) : ℝ) : EReal) := by
  rw [coe_sum]
  simp only [EReal.coe_mul (_ * c1), ← v53_real]
  unfold val_main_v60 val_main_v59
  generalize val_main_v53 (F := Ideal) (up (w := .f32) a0) (up (w := .f32) a1) (up (w := .f32) a2) (up (w := .f32) a3) (up (w := .f32) a4) (up (w := .f32) a5) = s
  pointwise
  rfl

/-- The gradient of the queries with position. -/
theorem v55_real (q : Fin 8192) (h : Fin 8) (r : Fin 32) :
    val_main_v55 (F := Ideal) (up (w := .f32) a0) (up (w := .f32) a1) (up (w := .f32) a2) (up (w := .f32) a3) (up (w := .f32) a4) (up (w := .f32) a5) (ix3 q h r)
      = ((∑ k, dsR a0 a1 a2 a3 a4 a5 h q k * c1 * a3 (ix2 k r) : ℝ) : EReal) := by
  rw [coe_sum]
  simp only [EReal.coe_mul (_ * c1), ← v53_real]
  unfold val_main_v55 val_main_v54
  generalize val_main_v53 (F := Ideal) (up (w := .f32) a0) (up (w := .f32) a1) (up (w := .f32) a2) (up (w := .f32) a3) (up (w := .f32) a4) (up (w := .f32) a5) = s
  pointwise
  rfl

/-- The gradient of the keys without position. -/
theorem v58_real (k : Fin 8192) (h : Fin 8) (d : Fin 64) :
    val_main_v58 (F := Ideal) (up (w := .f32) a0) (up (w := .f32) a1) (up (w := .f32) a2) (up (w := .f32) a3) (up (w := .f32) a4) (up (w := .f32) a5) (ix3 k h d)
      = ((∑ q, dsR a0 a1 a2 a3 a4 a5 h q k * c1 * a0 (ix3 q h d) : ℝ) : EReal) := by
  rw [coe_sum]
  simp only [EReal.coe_mul (_ * c1), ← v53_real]
  unfold val_main_v58 val_main_v57
  generalize val_main_v53 (F := Ideal) (up (w := .f32) a0) (up (w := .f32) a1) (up (w := .f32) a2) (up (w := .f32) a3) (up (w := .f32) a4) (up (w := .f32) a5) = s
  pointwise
  rfl

/-- The gradient of the values. -/
theorem v39_real (k : Fin 8192) (h : Fin 8) (d : Fin 64) :
    val_main_v39 (F := Ideal) (up (w := .f32) a0) (up (w := .f32) a1) (up (w := .f32) a2) (up (w := .f32) a3) (up (w := .f32) a5) (ix3 k h d)
      = ((∑ q, a5 (ix3 q h d) * pR a0 a1 a2 a3 h q k : ℝ) : EReal) := by
  rw [coe_sum]
  simp only [EReal.coe_mul, ← v30_real]
  unfold val_main_v39 val_main_v38 val_main_v36
  generalize val_main_v30 (F := Ideal) (up (w := .f32) a0) (up (w := .f32) a1) (up (w := .f32) a2) (up (w := .f32) a3) = s
  pointwise
  rfl

/-- The gradient of the keys with position, summed over queries and heads. -/
theorem v56_real (k : Fin 8192) (r : Fin 32) :
    val_main_v56 (F := Ideal) (up (w := .f32) a0) (up (w := .f32) a1) (up (w := .f32) a2) (up (w := .f32) a3) (up (w := .f32) a4) (up (w := .f32) a5) (ix2 k r)
      = ((∑ h : Fin 8, ∑ q, dsR a0 a1 a2 a3 a4 a5 h q k * c1 * a1 (ix3 q h r) : ℝ) : EReal) := by
  simp only [coe_sum, EReal.coe_mul (_ * c1), ← v53_real]
  unfold val_main_v56 val_main_v54
  generalize val_main_v53 (F := Ideal) (up (w := .f32) a0) (up (w := .f32) a1) (up (w := .f32) a2) (up (w := .f32) a3) (up (w := .f32) a4) (up (w := .f32) a5) = s
  pointwise
  rw [Finset.sum_comm]
  rfl

end Cert.Proof.RI

end
-- ==== Proof.Equal.lean ====
/- The five results of the kernel program and of the reference are the same arrays, at real arguments. -/
module

public import proofs.«01_k».proof.Proof.Tail
public import proofs.«01_k».proof.Proof.RefReal

@[expose] public section

set_option maxRecDepth 65536

noncomputable section

namespace Cert.Proof.Equal

open Cert.KernelIdeal Cert.KernelIdeal.Gen Idealize.ShloMosaic Idealize.ShloMosaic.TcCoe Cert.Proof.KI Cert.Proof.RealMath
open Cert.Proof.RI (v60_real v55_real v58_real v56_real v39_real)
open Cert.ReferenceIdeal.Read (val_main_v60 val_main_v55 val_main_v58 val_main_v56 val_main_v39)

/-- The logarithm the keys' gradient is multiplied by. -/
theorem st0_coe : stv0 ix0 = ((Real.log 2 : ℝ) : EReal) := st0_real _

variable (m : (ℓ : Loc nD τ sig) → Buf (Elt Ideal) ℓ) (c : Dev nD)
variable (a0 : S8192x8x64.Idx → ℝ) (a1 : S8192x8x32.Idx → ℝ) (a2 : S8192x8x64.Idx → ℝ) (a3 : S8192x32.Idx → ℝ)
variable (a4 a5 : S8192x8x64.Idx → ℝ)

/-- The memory's arguments are these arrays of real numbers. -/
structure At : Prop where
  e0 : m ((c : Thread nD τ).loc main_arg0) = up (w := .f32) a0
  e1 : m ((c : Thread nD τ).loc main_arg1) = up (w := .f32) a1
  e2 : m ((c : Thread nD τ).loc main_arg2) = up (w := .f32) a2
  e3 : m ((c : Thread nD τ).loc main_arg3) = up (w := .f32) a3
  e4 : m ((c : Thread nD τ).loc main_arg4) = up (w := .f32) a4
  e5 : m ((c : Thread nD τ).loc main_arg5) = up (w := .f32) a5

variable {m c a0 a1 a2 a3 a4 a5}

/-- An element of the query's gradient's array. -/
theorem G4_at (H : At m c a0 a1 a2 a3 a4 a5) (q : Fin 8192) (h : Fin 8) (d : Fin 128) : G4 m c (ix2 q (gcol h d))
    = aDq (stv48 (up a0) (up a1) (up a2) (up a3)) (stv64 (up a0) (up a1) (up a2) (up a3) (up a4) (up a5)) (stv53 (up a2) (up a3)) (stv58 (up a4)) q h d := by
  have e : G4 m c (ix2 q (gcol h d)) = aDq (V m c main_v48) (V m c main_v64) (V m c main_v53) (V m c main_v58) q (ghead (gcol h d)) (gdim (gcol h d)) := rfl
  rw [e, ghead_gcol, gdim_gcol, V_main_v48, V_main_v53, V_main_v58, V_main_v64, H.e0, H.e1, H.e2, H.e3, H.e4, H.e5]

/-- An element of the key's gradient's array. -/
theorem G5_at (H : At m c a0 a1 a2 a3 a4 a5) (q : Fin 8192) (h : Fin 8) (d : Fin 128) : G5 m c (ix2 q (gcol h d))
    = aDk (stv48 (up a0) (up a1) (up a2) (up a3)) (stv64 (up a0) (up a1) (up a2) (up a3) (up a4) (up a5)) (stv53 (up a2) (up a3)) (stv58 (up a4)) q h d := by
  have e : G5 m c (ix2 q (gcol h d)) = aDk (V m c main_v48) (V m c main_v64) (V m c main_v53) (V m c main_v58) q (ghead (gcol h d)) (gdim (gcol h d)) := rfl
  rw [e, ghead_gcol, gdim_gcol, V_main_v48, V_main_v53, V_main_v58, V_main_v64, H.e0, H.e1, H.e2, H.e3, H.e4, H.e5]

/-- An element of the value's gradient's array. -/
theorem G6_at (H : At m c a0 a1 a2 a3 a4 a5) (q : Fin 8192) (h : Fin 8) (d : Fin 128) : G6 m c (ix2 q (gcol h d))
    = aDv (stv48 (up a0) (up a1) (up a2) (up a3)) (stv64 (up a0) (up a1) (up a2) (up a3) (up a4) (up a5)) (stv53 (up a2) (up a3)) q h d := by
  have e : G6 m c (ix2 q (gcol h d)) = aDv (V m c main_v48) (V m c main_v64) (V m c main_v53) q (ghead (gcol h d)) (gdim (gcol h d)) := rfl
  rw [e, ghead_gcol, gdim_gcol, V_main_v48, V_main_v53, V_main_v64, H.e0, H.e1, H.e2, H.e3, H.e4, H.e5]

/-- The logarithm of two is not zero. -/
theorem log2_ne : Real.log 2 ≠ 0 := (Real.log_pos (by norm_num)).ne'

/-- The gradients of the queries without position agree. -/
theorem equal0 (H : At m c a0 a1 a2 a3 a4 a5) : t72 (G4 m c)
    = val_main_v60 (F := Ideal) (up (w := .f32) a0) (up (w := .f32) a1) (up (w := .f32) a2) (up (w := .f32) a3) (up (w := .f32) a4) (up (w := .f32) a5) := by
  funext y
  obtain ⟨q, h, r, rfl⟩ : ∃ q h r, y = ix3 q h r := ⟨y 0, y 1, y 2, eq_ix3 y⟩
  refine (t72_at _ q h r).trans (Eq.trans ?_ (v60_real a0 a1 a2 a3 a4 a5 q h r).symm)
  rw [G4_at H, aDq_real0, ← EReal.coe_mul]
  congr 1
  rw [Finset.sum_mul]
  exact Finset.sum_congr rfl (fun j _ => by ring)

/-- The gradients of the queries with position agree. -/
theorem equal1 (H : At m c a0 a1 a2 a3 a4 a5) : t73 (G4 m c)
    = val_main_v55 (F := Ideal) (up (w := .f32) a0) (up (w := .f32) a1) (up (w := .f32) a2) (up (w := .f32) a3) (up (w := .f32) a4) (up (w := .f32) a5) := by
  funext y
  obtain ⟨q, h, r, rfl⟩ : ∃ q h r, y = ix3 q h r := ⟨y 0, y 1, y 2, eq_ix3 y⟩
  refine (t73_at _ q h r).trans (Eq.trans ?_ (v55_real a0 a1 a2 a3 a4 a5 q h r).symm)
  rw [G4_at H, aDq_real1, ← EReal.coe_mul]
  congr 1
  rw [Finset.sum_mul]
  exact Finset.sum_congr rfl (fun j _ => by ring)

/-- The gradients of the keys without position agree. -/
theorem equal2 (H : At m c a0 a1 a2 a3 a4 a5) : t74 (G5 m c) stv0
    = val_main_v58 (F := Ideal) (up (w := .f32) a0) (up (w := .f32) a1) (up (w := .f32) a2) (up (w := .f32) a3) (up (w := .f32) a4) (up (w := .f32) a5) := by
  funext y
  obtain ⟨q, h, r, rfl⟩ : ∃ q h r, y = ix3 q h r := ⟨y 0, y 1, y 2, eq_ix3 y⟩
  refine (t74_at _ _ q h r).trans (Eq.trans ?_ (v58_real a0 a1 a2 a3 a4 a5 q h r).symm)
  rw [G5_at H, aDk_real0, st0_coe, ← EReal.coe_mul]
  congr 1
  rw [Finset.sum_mul]
  have hl := log2_ne
  exact Finset.sum_congr rfl (fun j _ => by field_simp)

/-- The gradients of the keys with position agree. -/
theorem equal3 (H : At m c a0 a1 a2 a3 a4 a5) : t76 (G5 m c) stv0
    = val_main_v56 (F := Ideal) (up (w := .f32) a0) (up (w := .f32) a1) (up (w := .f32) a2) (up (w := .f32) a3) (up (w := .f32) a4) (up (w := .f32) a5) := by
  funext y
  obtain ⟨q, r, rfl⟩ : ∃ q r, y = ix2 q r := ⟨y 0, y 1, eq_ix2 y⟩
  refine (t76_at _ _ q r).trans (Eq.trans ?_ (v56_real a0 a1 a2 a3 a4 a5 q r).symm)
  simp only [G5_at H, aDk_real1, st0_coe, ← EReal.coe_mul, ← coe_sum]
  congr 1
  have hl := log2_ne
  refine Finset.sum_congr rfl (fun h _ => ?_)
  rw [Finset.sum_mul]
  exact Finset.sum_congr rfl (fun j _ => by field_simp)

/-- The gradients of the values agree. -/
theorem equal4 (H : At m c a0 a1 a2 a3 a4 a5) : t78 (G6 m c)
    = val_main_v39 (F := Ideal) (up (w := .f32) a0) (up (w := .f32) a1) (up (w := .f32) a2) (up (w := .f32) a3) (up (w := .f32) a5) := by
  funext y
  obtain ⟨q, h, r, rfl⟩ : ∃ q h r, y = ix3 q h r := ⟨y 0, y 1, y 2, eq_ix3 y⟩
  refine (t78_at _ q h r).trans (Eq.trans ?_ (v39_real a0 a1 a2 a3 a5 q h r).symm)
  rw [G6_at H, aDv_real]
  congr 1
  exact Finset.sum_congr rfl (fun j _ => mul_comm _ _)

end Cert.Proof.Equal

end
-- ==== Proof.Finite.lean ====
/- What the precondition says: every argument is an array of real numbers. -/
module

public import proofs.«01_k».proof.Proof.Scores
public import proofs.«01_k».proof.Pre_finite
public import Idealize.ShloMosaic.Lib.ReduceAll
public import Idealize.ShloMosaic.Lib.Pointwise

@[expose] public section

set_option maxRecDepth 65536

noncomputable section

namespace Cert.Proof.Finite

open Cert.Pre_finite Idealize.ShloMosaic Idealize.ShloMosaic.TcCoe
open Cert.Proof.KI (up)

/-- The side conditions of the precondition's text. -/
theorem facts : Cert.Pre_finite.Facts where
  bcast_S_S8192x8x64 := by decide
  reducesTo_S8192x8x64_S_d0_1_2 := by decide
  h_S_ := by decide
  bcast_S_S8192x8x32 := by decide
  reducesTo_S8192x8x32_S_d0_1_2 := by decide
  bcast_S_S8192x32 := by decide
  reducesTo_S8192x32_S_d0_1 := by decide

/-- The literal of the comparison is plus infinity. -/
theorem ofBits_top : Ideal.ofBits .f32 0x7F800000#32 = (⊤ : EReal) := by
  simp [Ideal.ofBits, Ideal.ieee]

/-- A number whose magnitude is below plus infinity is a real number. -/
theorem real_of_lt (x : EReal) (h : max x (-x) < ⊤) : x = ((x.toReal : ℝ) : EReal) := by
  refine (EReal.coe_toReal ?_ ?_).symm
  · rintro rfl; simp at h
  · rintro rfl; simp at h

/-- The index of an array without axes is the only one. -/
theorem idx_unique : Subsingleton S_.Idx := ⟨fun a b => funext (fun i => i.elim0)⟩

/-- An array whose comparison holds everywhere is an array of real numbers. -/
theorem real_of_all {s : Shape} {axes : List (Fin s.rank)} (x : FVec Ideal s .f32) (hb : S_.BroadcastsInDim s (![] : Fin 0 → Fin s.rank))
    (hr : s.ReducesTo axes S_) (hS : 0 < S_.numel) (j : S_.Idx)
    (h : Host.reduce IntOp.andi (cmpf .olt (Host.absf x) (broadcastInDim s ![] hb (constant S_ .f32 0x7F800000#32)))
      (constantI S_ 1 1#1) hr hS j = 1#1) :
    x = up (fun i => (x i).toReal) := by
  haveI := idx_unique
  funext i
  have hi := Host.reduce_andi_all _ _ _ _ j h i
  refine real_of_lt (x i) ?_
  rw [← ofBits_top]
  exact (Ideal.cmp_olt_eq_one _ _).1 hi

variable [Cert.Pre_finite.Facts]
open Cert.Pre_finite.Facts

/-- The precondition makes each argument an array of real numbers. -/
theorem reals (x0 : FVec Ideal S8192x8x64 .f32) (x1 : FVec Ideal S8192x8x32 .f32) (x2 : FVec Ideal S8192x8x64 .f32)
    (x3 : FVec Ideal S8192x32 .f32) (x4 x5 : FVec Ideal S8192x8x64 .f32)
    (h : Cert.Pre_finite.fn x0 x1 x2 x3 x4 x5 = fun _ => 1#1) :
    x0 = up (fun i => (x0 i).toReal) ∧ x1 = up (fun i => (x1 i).toReal) ∧ x2 = up (fun i => (x2 i).toReal)
      ∧ x3 = up (fun i => (x3 i).toReal) ∧ x4 = up (fun i => (x4 i).toReal) ∧ x5 = up (fun i => (x5 i).toReal) := by
  have j : S_.Idx := fun i => i.elim0
  have hj := congrFun h j
  dsimp only [Cert.Pre_finite.fn, Cert.Pre_finite.fn_part1] at hj
  obtain ⟨h4, h5⟩ := IntOp.andi_eq_one.1 hj
  obtain ⟨h3, h4⟩ := IntOp.andi_eq_one.1 h4
  obtain ⟨h2, h3⟩ := IntOp.andi_eq_one.1 h3
  obtain ⟨h1, h2⟩ := IntOp.andi_eq_one.1 h2
  obtain ⟨h0, h1⟩ := IntOp.andi_eq_one.1 h1
  exact ⟨real_of_all x0 _ _ _ j h0, real_of_all x1 _ _ _ j h1, real_of_all x2 _ _ _ j h2, real_of_all x3 _ _ _ j h3,
    real_of_all x4 _ _ _ j h4, real_of_all x5 _ _ _ j h5⟩

end Cert.Proof.Finite

end
-- ==== Proof.Slabs.lean ====
/- Sums over padded slabs. -/
module

public import Idealize.ShloMosaic.Lib.Pipeline.ValueKit
public import Idealize.ShloMosaic.Lib.Pointwise

@[expose] public section

noncomputable section

namespace Cert.Proof.Slabs

open Idealize.ShloMosaic

/-- A sum over a padded axis whose padding terms are zero is the sum over the axis. -/
theorem sum_pad {n p N : ℕ} (hN : N = n + p) (g : Fin n → EReal) :
    (∑ l : Fin N, if h : l.val < n then g ⟨l.val, h⟩ else 0) = ∑ l : Fin n, g l := by
  subst hN
  rw [Fin.sum_univ_add]
  have e1 : ∀ l : Fin n, (if h : (Fin.castAdd p l).val < n then g ⟨(Fin.castAdd p l).val, h⟩ else 0) = g l := fun l => by
    rw [dif_pos (show (Fin.castAdd p l).val < n from l.isLt)]; rfl
  have e2 : ∀ l : Fin p, (if h : (Fin.natAdd n l).val < n then g ⟨(Fin.natAdd n l).val, h⟩ else 0) = 0 := fun l => by
    rw [dif_neg]; show ¬ n + l.val < n; omega
  simp only [e1, e2, Finset.sum_const_zero, add_zero]

/-- A sum over eight padded slabs of products that vanish on the padding is the sum over the whole axis. -/
theorem sum_slabs (f : Fin 5632 → EReal) (F : Fin 8 → Fin 768 → EReal)
    (h : ∀ (s : Fin 8) (l : Fin 768), F s l = if h : l.val < 704 then f ⟨s.val * 704 + l.val, by omega⟩ else 0) :
    (∑ s : Fin 8, ∑ l : Fin 768, F s l) = ∑ k : Fin 5632, f k := by
  have e : ∀ s : Fin 8, (∑ l : Fin 768, F s l) = ∑ l : Fin 704, f ⟨s.val * 704 + l.val, by omega⟩ := fun s => by
    rw [← sum_pad (p := 64) (N := 768) rfl]
    exact Finset.sum_congr rfl (fun l _ => h s l)
  simp only [e]
  exact Fin.sum_mul_add_congr (fun s k hl => rfl)

end Cert.Proof.Slabs
-- ==== Proof.Dh2.lean ====
/- The gradient of the up-projection's input: the slabs' products added over the eight reduction points are the whole product. -/
module

public import proofs.«01_k».proof.Defs
public import proofs.«01_k».proof.Proof.Gen.KernelDh2
public import proofs.«01_k».proof.Proof.Gen.KernelDh2.Frame
public import proofs.«01_k».proof.Proof.Gen.KernelDh2Ideal
public import proofs.«01_k».proof.Proof.Gen.KernelDh2Ideal.Frame
public import proofs.«01_k».proof.Proof.Gen.KernelDh2Ideal.Value
public import proofs.«01_k».proof.Proof.Gen.ReferenceDh2Ideal
public import proofs.«01_k».proof.Proof.Gen.ReferenceDh2Ideal.Run
public import proofs.«01_k».proof.Proof.Gen.ReferenceDh2Ideal.Read
public import proofs.«01_k».proof.Proof.Slabs
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Dh2

open Cert.KernelDh2Ideal Cert.KernelDh2Ideal.Gen Idealize.ShloMosaic Idealize.ShloMosaic.TcCoe Idealize.SL.Sem

/-- The weight in eight slabs of 704 rows, each padded to 768. -/
def slabW (w : Vec Ideal S1024x5632 .f32) : Vec Ideal S8x768x1024 .bf16 :=
  pad S8x768x1024 ![0, 0, 0] ![0, 64, 0] ![0, 0, 0]
    (shapeCast S8x704x1024 (truncf .bf16 (transpose S5632x1024 [1, 0] w transposes_S1024x5632_S5632x1024_1_0) bitsLt_bf16_f32 : FVec Ideal S5632x1024 .bf16) shapeCasts_S5632x1024_S8x704x1024)
    (sitofp .bf16 (constantI S_ 32 0#32) : FVec Ideal S_ .bf16) pads_S8x704x1024_S8x768x1024_000_0640_000 h_S_

/-- The cotangent's columns by half, quarter and place, the halves first. -/
def splitU (u : Vec Ideal S8192x5632 .f32) : Vec Ideal S2x8192x4x704 .bf16 :=
  transpose S2x8192x4x704 [1, 0, 2, 3] (shapeCast S8192x2x4x704 (truncf .bf16 u bitsLt_bf16_f32 : FVec Ideal S8192x5632 .bf16) shapeCasts_S8192x5632_S8192x2x4x704) transposes_S8192x2x4x704_S2x8192x4x704_1_0_2_3

/-- Each slab of 704 padded to 768. -/
def padU (v : Vec Ideal S2x8192x4x704 .bf16) : Vec Ideal S2x8192x4x768 .bf16 :=
  pad S2x8192x4x768 ![0, 0, 0, 0] ![0, 0, 0, 64] ![0, 0, 0, 0] v
    (sitofp .bf16 (constantI S_ 32 0#32) : FVec Ideal S_ .bf16) pads_S2x8192x4x704_S2x8192x4x768_000_000_000_0640 h_S_

/-- The cotangent in eight slabs of 704 columns, each padded to 768, four to a half. -/
def slabU (u : Vec Ideal S8192x5632 .f32) : Vec Ideal S2x8192x3072 .bf16 :=
  shapeCast S2x8192x3072 (padU (splitU u)) shapeCasts_S2x8192x4x768_S2x8192x3072

variable (m : (ℓ : Loc nD τ sig) → Buf (Elt Ideal) ℓ) (c : Dev nD)

/-- The region's second operand is the weight in slabs. -/
theorem V_w : V m c main_v3 = slabW (m ((c : Thread nD τ).loc main_arg0)) := by
  dsimp only [V, hostOps0, hostOps0_1, hostOps0_2, hostOps0_3, hostOps0_4, List.flatten_cons, List.flatten_nil, List.append_nil, List.cons_append, List.nil_append]
  after_reads_simp
  rfl

section Lines
variable (W : Valuation τ sig (Elt Ideal))

/-- The lines that split the cotangent. -/
theorem lines_split : StableHlo.after hostOps0_2 W (Proc.devRef .tc main_v6) = splitU (W (Proc.devRef .tc main_arg1)) := by
  dsimp only [hostOps0_2]
  after_reads_simp
  rfl

/-- The integer zero the padding is read from. -/
theorem lines_zero : StableHlo.after hostOps0_2 W (Proc.devRef .tc main_c_0) = (constantI S_ 32 0#32 : IVec S_ 32) := by
  dsimp only [hostOps0_2]
  after_reads_simp

/-- The lines that pad the cotangent's slabs. -/
theorem lines_pad (h : W (Proc.devRef .tc main_c_0) = (constantI S_ 32 0#32 : IVec S_ 32)) :
    StableHlo.after hostOps0_3 W (Proc.devRef .tc main_v7) = padU (W (Proc.devRef .tc main_v6)) := by
  dsimp only [hostOps0_3]
  after_reads_simp
  rw [h]
  rfl

/-- The line that joins a half's slabs. -/
theorem lines_join : StableHlo.after hostOps0_4 W (Proc.devRef .tc main_v8)
    = shapeCast S2x8192x3072 (W (Proc.devRef .tc main_v7) : Vec Ideal S2x8192x4x768 .bf16) shapeCasts_S2x8192x4x768_S2x8192x3072 := by
  dsimp only [hostOps0_4]
  after_reads_simp
  rfl

/-- The lines before leave the cotangent alone. -/
theorem lines_keep : StableHlo.after hostOps0_1 (StableHlo.after hostOps0 W) (Proc.devRef .tc main_arg1) = W (Proc.devRef .tc main_arg1) := by
  dsimp only [hostOps0, hostOps0_1]
  after_reads_simp

end Lines

/-- The region's first operand is the cotangent in slabs. -/
theorem V_u : V m c main_v8 = slabU (m ((c : Thread nD τ).loc main_arg1)) := by
  show StableHlo.after (List.flatten [hostOps0, hostOps0_1, hostOps0_2, hostOps0_3, hostOps0_4]) (fun b => m (c, b)) (Proc.devRef .tc main_v8) = _
  simp only [List.flatten_cons, List.flatten_nil, List.append_nil, StableHlo.after_append]
  rw [lines_join, lines_pad _ (lines_zero _), lines_split, lines_keep]
  rfl

/-- The padding value. -/
theorem zero_bf : (FloatOps.sitofp FTy.bf16 0#32 : Ideal .bf16) = 0 := by
  show ((((0#32 : BitVec 32).toInt : ℝ)) : EReal) = 0
  simp

/-- A padded weight slab at an entry. -/
theorem slabW_at (w : Vec Ideal S1024x5632 .f32) (s : Fin 8) (l : Fin 768) (n : Fin 1024) :
    slabW w (ix3 s l n) = if h : l.val < 704 then w (ix2 n ⟨s.val * 704 + l.val, by omega⟩) else 0 := by
  unfold slabW
  pointwise
  simp only [zero_bf]

/-- The cotangent by half, quarter and place at an entry. -/
theorem splitU_at (u : Vec Ideal S8192x5632 .f32) (a : Fin 2) (r : Fin 8192) (q : Fin 4) (l : Fin 704) :
    splitU u (ix4 a r q l) = u (ix2 r ⟨a.val * 2816 + q.val * 704 + l.val, by omega⟩) := by
  unfold splitU
  pointwise

/-- A padded cotangent slab at an entry. -/
theorem slabU_at (u : Vec Ideal S8192x5632 .f32) (a : Fin 2) (r : Fin 8192) (k : Fin 3072) :
    slabU u (ix3 a r k) = if h : k.val % 768 < 704 then u (ix2 r ⟨a.val * 2816 + k.val / 768 * 704 + k.val % 768, by omega⟩) else 0 := by
  unfold slabU padU splitU
  pointwise
  simp only [zero_bf]
  have hk : k.val / 768 < 4 := Nat.div_lt_of_lt_mul k.isLt
  simp only [hk, true_and]

/-- One point's product. -/
def part (x : Vec Ideal S1x2048x768 .bf16) (y : Vec Ideal S1x768x1024 .bf16) (j : S2048x1024.Idx) : EReal :=
  ∑ l : Fin 768, x (ix3 0 (j 0) l) * y (ix3 0 l (j 1))

/-- What a point adds to the accumulator. -/
theorem pay2_at (a : Vec Ideal S2048x1024 .f32) (x : Vec Ideal S1x2048x768 .bf16) (y : Vec Ideal S1x768x1024 .bf16) (j : S2048x1024.Idx) :
    k0_pay2 a x y j = a j + part x y j := by
  obtain ⟨r, n, rfl⟩ : ∃ r n, j = ix2 r n := ⟨j 0, j 1, eq_ix2 j⟩
  unfold k0_pay2 part
  pointwise

/-- The accumulator starts at zero. -/
theorem pay1_at (j : S2048x1024.Idx) : k0_pay1 (F := Ideal) j = 0 := by
  unfold k0_pay1
  pointwise

/-- The accumulator at the last point of a run: the sum of the run's products. -/
theorem acc_at (t : Fin cfg0.N) (ht : t.val % 8 = 7) (j : S2048x1024.Idx) :
    (outsAt0 m c t.val t.isLt).2 j = 0 + ∑ s : Fin 8, part (iblk m c 0 ⟨8 * (t.val / 8) + s.val, by have := t.isLt; omega⟩) (iblk m c 1 ⟨8 * (t.val / 8) + s.val, by have := t.isLt; omega⟩) j := by
  rw [Pipeline.eq_sum_fin_of_reset_step_apply_of_flush (fun n h => (outsAt0 m c n h).2) 8 (fun _ => 0) (fun t j => part (iblk m c 0 t) (iblk m c 1 t) j)
    (fun t h j => by
      rw [outsAt0_A m c t h (by omega)]; frame_out; rw [pay2_at, pay1_at])
    (fun t h j => by
      by_cases h7 : t.val % 8 = 7
      · rw [outsAt0_C m c t h h7]; frame_out; rw [pay2_at, Idealize.ShloMosaic.read_unread_whole]
      · rw [outsAt0_B m c t h h7]; frame_out; rw [pay2_at, Idealize.ShloMosaic.read_unread_whole]) t ht j]

/-- The last point of a run stores the accumulator as it leaves it. -/
theorem out_acc (t : Fin cfg0.N) (ht : t.val % 8 = 7) : (outsAt0 m c t.val t.isLt).1 = (outsAt0 m c t.val t.isLt).2 := by
  rw [outsAt0_C m c t (by omega) ht]
  frame_out

/-- The cotangent's block at a point: half, rows, quarter. -/
theorem index_u : ∀ t : Fin cfg0.N, win0_0.index t = ![t.val % 8 / 4, t.val / 8, t.val % 4] :=
  (by decide +kernel : ∀ t : Fin grid0.N, _)

/-- The weight's block at a point: the slab. -/
theorem index_w : ∀ t : Fin cfg0.N, win0_1.index t = ![t.val % 8, 0, 0] :=
  (by decide +kernel : ∀ t : Fin grid0.N, _)

/-- The result's block at a point: the rows. -/
theorem index_o : ∀ t : Fin cfg0.N, win0_2.index t = ![t.val / 8, 0] :=
  (by decide +kernel : ∀ t : Fin grid0.N, _)

/-- There are 32 points. -/
theorem points (t : Fin cfg0.N) : t.val < 32 := lt_of_lt_of_eq t.isLt N_0

/-- A block of the first operand at an entry. -/
theorem read_u (X : Vec Ideal S2x8192x3072 .bf16) (t : Fin cfg0.N) (r : Fin 2048) (l : Fin 768) :
    ((win0_0.blk t).view.read (Elt Ideal) X : Vec Ideal S1x2048x768 .bf16) (ix3 0 r l)
      = X (ix3 ⟨t.val % 8 / 4, by omega⟩ ⟨t.val / 8 * 2048 + r.val, by have := points t; omega⟩ ⟨t.val % 4 * 768 + l.val, by omega⟩) := by
  blk_ext [index_u t]

/-- A block of the second operand at an entry. -/
theorem read_w (X : Vec Ideal S8x768x1024 .bf16) (t : Fin cfg0.N) (l : Fin 768) (n : Fin 1024) :
    ((win0_1.blk t).view.read (Elt Ideal) X : Vec Ideal S1x768x1024 .bf16) (ix3 0 l n) = X (ix3 ⟨t.val % 8, by omega⟩ l n) := by
  blk_ext [index_w t]

/-- The cotangent's block at an entry. -/
theorem block_u (t : Fin cfg0.N) (r : Fin 2048) (l : Fin 768) :
    (iblk m c 0 t : Vec Ideal S1x2048x768 .bf16) (ix3 0 r l) = slabU (m ((c : Thread nD τ).loc main_arg1))
      (ix3 ⟨t.val % 8 / 4, by omega⟩ ⟨t.val / 8 * 2048 + r.val, by have := points t; omega⟩ ⟨t.val % 4 * 768 + l.val, by omega⟩) :=
  (read_u (V m c main_v8) t r l).trans (congrFun (V_u m c) _)

/-- The weight's block at an entry. -/
theorem block_w (t : Fin cfg0.N) (l : Fin 768) (n : Fin 1024) :
    (iblk m c 1 t : Vec Ideal S1x768x1024 .bf16) (ix3 0 l n) = slabW (m ((c : Thread nD τ).loc main_arg0)) (ix3 ⟨t.val % 8, by omega⟩ l n) :=
  (read_w (V m c main_v3) t l n).trans (congrFun (V_w m c) _)

/-- A product of two padded slabs' entries. -/
theorem prod_at (w : Vec Ideal S1024x5632 .f32) (u : Vec Ideal S8192x5632 .f32) (r : Fin 2048) (n : Fin 1024) (s : Fin 8) (l : Fin 768)
    (a : Fin 2) (k : Fin 3072) (ha : a.val = s.val / 4) (hk : k.val = s.val % 4 * 768 + l.val) (R : Fin 8192) :
    (slabU u (ix3 a R k) * slabW w (ix3 s l n) : EReal)
      = if h : l.val < 704 then u (ix2 R ⟨s.val * 704 + l.val, by omega⟩) * w (ix2 n ⟨s.val * 704 + l.val, by omega⟩) else 0 := by
  rw [slabU_at, slabW_at]
  by_cases h : l.val < 704
  · have h' : k.val % 768 < 704 := by omega
    have e : (⟨a.val * 2816 + k.val / 768 * 704 + k.val % 768, by omega⟩ : Fin 5632) = ⟨s.val * 704 + l.val, by omega⟩ := by
      apply Fin.ext; show a.val * 2816 + k.val / 768 * 704 + k.val % 768 = s.val * 704 + l.val; omega
    simp only [h, h', dif_pos, e]
  · have h' : ¬ k.val % 768 < 704 := by omega
    simp only [h, h', dif_neg, not_false_eq_true, zero_mul]

/-- The product the whole call computes, at an entry. -/
def G (w : Vec Ideal S1024x5632 .f32) (u : Vec Ideal S8192x5632 .f32) : Vec Ideal S8192x1024 .f32 :=
  fun i => ∑ k : Fin 5632, (u (ix2 (i 0) k) * w (ix2 (i 1) k) : EReal)

/-- The result array after the run. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have hN := points t
  obtain ⟨r, n, rfl⟩ : ∃ (r : Fin 2048) (n : Fin 1024), y = ix2 r n := ⟨y 0, y 1, eq_ix2 y⟩
  blk_simp
  rw [after0_2, out_acc m c t ht, acc_at m c t ht, zero_add]
  have e : ((win0_2.blk t).view.emb (ix2 r n) : S8192x1024.Idx) = ix2 ⟨t.val / 8 * 2048 + r.val, by omega⟩ n := by
    blk_ext [index_o t]
  refine Eq.trans ?_ (congrArg (G _ _) e).symm
  refine Slabs.sum_slabs _ _ fun s l => ?_
  have hN' : 8 * (t.val / 8) + s.val < 32 := by omega
  have hs : (8 * (t.val / 8) + s.val) % 8 = s.val := by omega
  have hq : (8 * (t.val / 8) + s.val) / 8 = t.val / 8 := by omega
  have hu := block_u m c ⟨8 * (t.val / 8) + s.val, lt_of_lt_of_eq hN' N_0.symm⟩ r l
  have hw := block_w m c ⟨8 * (t.val / 8) + s.val, lt_of_lt_of_eq hN' N_0.symm⟩ l n
  refine (congrArg₂ (fun a b : EReal => a * b) hu hw).trans ?_
  simp only [hs, hq]
  exact prod_at _ _ r n s l _ _ (by show _ = _; rfl) (by show (8 * (t.val / 8) + s.val) % 4 * 768 + l.val = _; omega) _

/-- The reference's result is the same product. -/
theorem reference_eq (w : Vec Ideal S1024x5632 .f32) (u : Vec Ideal S8192x5632 .f32) :
    Cert.ReferenceDh2Ideal.Read.val_main_v2 (F := Ideal) w u = G w u := by
  funext i
  rw [Cert.ReferenceDh2Ideal.Read.val_main_v2_apply]
  refine Finset.sum_congr rfl fun k _ => ?_
  have e1 : Cert.ReferenceDh2Ideal.Read.lidx_main_v2 i k = ix2 (i 0) k := by
    funext a; fin_cases a <;> rfl
  have e2 : Cert.ReferenceDh2Ideal.Read.ridx_main_v2 i k = ix2 (i 1) k := by
    funext a; fin_cases a <;> rfl
  rw [e1, e2]
  rfl

/-- The reference program changes no argument and leaves no counter. -/
theorem frame_reference : Cert.quiescent_ReferenceDh2Ideal := fun m ρ _ =>
  (θ_run Cert.ReferenceDh2Ideal.defs _ _).mono
    (fun r h => ⟨fun c => (h c).2, Idealize.ShloMosaic.sem_eq_zero_of_no_sems (by decide) r.2⟩)
    (Cert.ReferenceDh2Ideal.Value.run (F := Ideal) m ρ)

/-- The kernel's result and the reference's are one array. -/
theorem value : Cert.algebraic_KernelDh2Ideal_ReferenceDh2Ideal := by
  intro m g m' g' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run Cert.ReferenceDh2Ideal.defs _ _).mono (fun r h c => ⟨(h c).1.trans ?_, (h c).2⟩) (Cert.ReferenceDh2Ideal.Value.run (F := Ideal) m' g')
    rw [(hm c).1, (hm c).2]
    exact reference_eq _ _

end Cert.Proof.Dh2
-- ==== Proof.Dwup.lean ====
/- The gradient of the up-projection's weight: per slab the rows' products added over the four reduction points are the whole product. -/
module

public import proofs.«01_k».proof.Defs
public import proofs.«01_k».proof.Proof.Gen.KernelDwup
public import proofs.«01_k».proof.Proof.Gen.KernelDwup.Frame
public import proofs.«01_k».proof.Proof.Gen.KernelDwupIdeal
public import proofs.«01_k».proof.Proof.Gen.KernelDwupIdeal.Frame
public import proofs.«01_k».proof.Proof.Gen.ReferenceDwupIdeal
public import proofs.«01_k».proof.Proof.Gen.ReferenceDwupIdeal.Run
public import proofs.«01_k».proof.Proof.Gen.ReferenceDwupIdeal.Read
public import proofs.«01_k».proof.Proof.Slabs
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Dwup

open Cert.KernelDwupIdeal Cert.KernelDwupIdeal.Gen Idealize.ShloMosaic Idealize.ShloMosaic.TcCoe Idealize.SL.Sem

/-- The cotangent's columns by half, quarter and place, the halves first. -/
def splitU (u : Vec Ideal S8192x5632 .f32) : Vec Ideal S2x8192x4x704 .bf16 :=
  transpose S2x8192x4x704 [1, 0, 2, 3] (shapeCast S8192x2x4x704 (truncf .bf16 u bitsLt_bf16_f32 : FVec Ideal S8192x5632 .bf16) shapeCasts_S8192x5632_S8192x2x4x704) transposes_S8192x2x4x704_S2x8192x4x704_1_0_2_3

/-- Each slab of 704 padded to 768. -/
def padU (v : Vec Ideal S2x8192x4x704 .bf16) : Vec Ideal S2x8192x4x768 .bf16 :=
  pad S2x8192x4x768 ![0, 0, 0, 0] ![0, 0, 0, 64] ![0, 0, 0, 0] v
    (sitofp .bf16 (constantI S_ 32 0#32) : FVec Ideal S_ .bf16) pads_S2x8192x4x704_S2x8192x4x768_000_000_000_0640 h_S_

/-- The cotangent in eight slabs of 704 columns, each padded to 768, four to a half. -/
def slabU (u : Vec Ideal S8192x5632 .f32) : Vec Ideal S2x8192x3072 .bf16 :=
  shapeCast S2x8192x3072 (padU (splitU u)) shapeCasts_S2x8192x4x768_S2x8192x3072

variable (m : (ℓ : Loc nD τ sig) → Buf (Elt Ideal) ℓ) (c : Dev nD)

section Lines
variable (W : Valuation τ sig (Elt Ideal))

/-- The lines that split the cotangent. -/
theorem lines_split : StableHlo.after hostOps0 W (Proc.devRef .tc main_v2) = splitU (W (Proc.devRef .tc main_arg1)) := by
  dsimp only [hostOps0]
  after_reads_simp
  rfl

/-- The integer zero the padding is read from. -/
theorem lines_zero : StableHlo.after hostOps0 W (Proc.devRef .tc main_c) = (constantI S_ 32 0#32 : IVec S_ 32) := by
  dsimp only [hostOps0]
  after_reads_simp

/-- The lines that pad the cotangent's slabs. -/
theorem lines_pad (h : W (Proc.devRef .tc main_c) = (constantI S_ 32 0#32 : IVec S_ 32)) :
    StableHlo.after hostOps0_1 W (Proc.devRef .tc main_v3) = padU (W (Proc.devRef .tc main_v2)) := by
  dsimp only [hostOps0_1]
  after_reads_simp
  rw [h]
  rfl

/-- The line that joins a half's slabs. -/
theorem lines_join : StableHlo.after hostOps0_2 W (Proc.devRef .tc main_v4)
    = shapeCast S2x8192x3072 (W (Proc.devRef .tc main_v3) : Vec Ideal S2x8192x4x768 .bf16) shapeCasts_S2x8192x4x768_S2x8192x3072 := by
  dsimp only [hostOps0_2]
  after_reads_simp
  rfl

/-- The line that rounds the input. -/
theorem lines_round : StableHlo.after hostOps0_2 W (Proc.devRef .tc main_v5)
    = (truncf .bf16 (W (Proc.devRef .tc main_arg0) : FVec Ideal S8192x1024 .f32) bitsLt_bf16_f32 : FVec Ideal S8192x1024 .bf16) := by
  dsimp only [hostOps0_2]
  after_reads_simp

/-- The lines before leave the input alone. -/
theorem lines_keep : StableHlo.after hostOps0_1 (StableHlo.after hostOps0 W) (Proc.devRef .tc main_arg0) = W (Proc.devRef .tc main_arg0) := by
  dsimp only [hostOps0, hostOps0_1]
  after_reads_simp

end Lines

/-- The region's first operand is the cotangent in slabs. -/
theorem V_u : V m c main_v4 = slabU (m ((c : Thread nD τ).loc main_arg1)) := by
  show StableHlo.after (List.flatten [hostOps0, hostOps0_1, hostOps0_2]) (fun b => m (c, b)) (Proc.devRef .tc main_v4) = _
  simp only [List.flatten_cons, List.flatten_nil, List.append_nil, StableHlo.after_append]
  rw [lines_join, lines_pad _ (lines_zero _), lines_split]
  rfl

/-- The region's second operand is the input. -/
theorem V_h : V m c main_v5 = (m ((c : Thread nD τ).loc main_arg0) : Vec Ideal S8192x1024 .f32) := by
  show StableHlo.after (List.flatten [hostOps0, hostOps0_1, hostOps0_2]) (fun b => m (c, b)) (Proc.devRef .tc main_v5) = _
  simp only [List.flatten_cons, List.flatten_nil, List.append_nil, StableHlo.after_append]
  rw [lines_round, lines_keep]
  rfl

/-- The padding value. -/
theorem zero_bf : (FloatOps.sitofp FTy.bf16 0#32 : Ideal .bf16) = 0 := by
  show ((((0#32 : BitVec 32).toInt : ℝ)) : EReal) = 0
  simp

/-- The cotangent by half, quarter and place at an entry. -/
theorem splitU_at (u : Vec Ideal S8192x5632 .f32) (a : Fin 2) (r : Fin 8192) (q : Fin 4) (l : Fin 704) :
    splitU u (ix4 a r q l) = u (ix2 r ⟨a.val * 2816 + q.val * 704 + l.val, by omega⟩) := by
  unfold splitU
  pointwise

/-- A padded cotangent slab at an entry. -/
theorem slabU_at (u : Vec Ideal S8192x5632 .f32) (a : Fin 2) (r : Fin 8192) (k : Fin 3072) :
    slabU u (ix3 a r k) = if h : k.val % 768 < 704 then u (ix2 r ⟨a.val * 2816 + k.val / 768 * 704 + k.val % 768, by omega⟩) else 0 := by
  unfold slabU padU splitU
  pointwise
  simp only [zero_bf]
  have hk : k.val / 768 < 4 := Nat.div_lt_of_lt_mul k.isLt
  simp only [hk, true_and]

/-- One point's product. -/
def part (x : Vec Ideal S1x2048x768 .bf16) (y : Vec Ideal S2048x1024 .bf16) (j : S768x1024.Idx) : EReal :=
  ∑ r : Fin 2048, x (ix3 0 r (j 0)) * y (ix2 r (j 1))

/-- What a point adds to the accumulator. -/
theorem pay2_at (a : Vec Ideal S768x1024 .f32) (x : Vec Ideal S1x2048x768 .bf16) (y : Vec Ideal S2048x1024 .bf16) (j : S768x1024.Idx) :
    k0_pay2 a x y j = a j + part x y j := by
  obtain ⟨l, n, rfl⟩ : ∃ l n, j = ix2 l n := ⟨j 0, j 1, eq_ix2 j⟩
  unfold k0_pay2 part
  pointwise

/-- The accumulator starts at zero. -/
theorem pay1_at (j : S768x1024.Idx) : k0_pay1 (F := Ideal) j = 0 := by
  unfold k0_pay1
  pointwise

/-- The block stored is the accumulator. -/
theorem pay3_at (a : Vec Ideal S768x1024 .f32) (l : Fin 768) (n : Fin 1024) : k0_pay3 a (ix3 0 l n) = a (ix2 l n) := by
  unfold k0_pay3
  pointwise

/-- The accumulator at the last point of a run: the sum of the run's products. -/
theorem acc_at (t : Fin cfg0.N) (ht : t.val % 4 = 3) (j : S768x1024.Idx) :
    (outsAt0 m c t.val t.isLt).2 j = 0 + ∑ s : Fin 4, part (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2) 4 (fun _ => 0) (fun t j => part (iblk m c 0 t) (iblk m c 1 t) j)
    (fun t h j => by
      rw [outsAt0_A m c t h (by omega)]; frame_out; rw [pay2_at, pay1_at])
    (fun t h j => by
      by_cases h7 : t.val % 4 = 3
      · rw [outsAt0_C m c t h h7]; frame_out; rw [pay2_at, Idealize.ShloMosaic.read_unread_whole]
      · rw [outsAt0_B m c t h h7]; frame_out; rw [pay2_at, Idealize.ShloMosaic.read_unread_whole]) t ht j]

/-- The last point of a run stores the accumulator as it leaves it. -/
theorem out_acc (t : Fin cfg0.N) (ht : t.val % 4 = 3) (l : Fin 768) (n : Fin 1024) :
    (outsAt0 m c t.val t.isLt).1 (ix3 0 l n) = (outsAt0 m c t.val t.isLt).2 (ix2 l n) := by
  rw [← pay3_at (outsAt0 m c t.val t.isLt).2 l n]
  refine congrFun ?_ _
  rw [outsAt0_C m c t (by omega) ht]
  frame_out

/-- The cotangent's block at a point: half, rows, quarter. -/
theorem index_u : ∀ t : Fin cfg0.N, win0_0.index t = ![t.val / 16, t.val % 4, t.val / 4 % 4] :=
  (by decide +kernel : ∀ t : Fin grid0.N, _)

/-- The input's block at a point: the rows. -/
theorem index_h : ∀ t : Fin cfg0.N, win0_1.index t = ![t.val % 4, 0] :=
  (by decide +kernel : ∀ t : Fin grid0.N, _)

/-- The result's block at a point: the slab. -/
theorem index_o : ∀ t : Fin cfg0.N, win0_2.index t = ![t.val / 4, 0, 0] :=
  (by decide +kernel : ∀ t : Fin grid0.N, _)

/-- There are 32 points. -/
theorem points (t : Fin cfg0.N) : t.val < 32 := lt_of_lt_of_eq t.isLt N_0

/-- A block of the first operand at an entry. -/
theorem read_u (X : Vec Ideal S2x8192x3072 .bf16) (t : Fin cfg0.N) (r : Fin 2048) (l : Fin 768) :
    ((win0_0.blk t).view.read (Elt Ideal) X : Vec Ideal S1x2048x768 .bf16) (ix3 0 r l)
      = X (ix3 ⟨t.val / 16, by have := points t; omega⟩ ⟨t.val % 4 * 2048 + r.val, by omega⟩ ⟨t.val / 4 % 4 * 768 + l.val, by omega⟩) := by
  blk_ext [index_u t]

/-- A block of the second operand at an entry. -/
theorem read_h (X : Vec Ideal S8192x1024 .bf16) (t : Fin cfg0.N) (r : Fin 2048) (n : Fin 1024) :
    ((win0_1.blk t).view.read (Elt Ideal) X : Vec Ideal S2048x1024 .bf16) (ix2 r n) = X (ix2 ⟨t.val % 4 * 2048 + r.val, by omega⟩ n) := by
  blk_ext [index_h t]

/-- The cotangent's block at an entry. -/
theorem block_u (t : Fin cfg0.N) (r : Fin 2048) (l : Fin 768) :
    (iblk m c 0 t : Vec Ideal S1x2048x768 .bf16) (ix3 0 r l) = slabU (m ((c : Thread nD τ).loc main_arg1))
      (ix3 ⟨t.val / 16, by have := points t; omega⟩ ⟨t.val % 4 * 2048 + r.val, by omega⟩ ⟨t.val / 4 % 4 * 768 + l.val, by omega⟩) :=
  (read_u (V m c main_v4) t r l).trans (congrFun (V_u m c) _)

/-- The input's block at an entry. -/
theorem block_h (t : Fin cfg0.N) (r : Fin 2048) (n : Fin 1024) :
    (iblk m c 1 t : Vec Ideal S2048x1024 .bf16) (ix2 r n) = (m ((c : Thread nD τ).loc main_arg0) : Vec Ideal S8192x1024 .f32) (ix2 ⟨t.val % 4 * 2048 + r.val, by omega⟩ n) :=
  (read_h (V m c main_v5) t r n).trans (congrFun (V_h m c) _)

/-- The slabs of the product, at an entry. -/
def G (h : Vec Ideal S8192x1024 .f32) (u : Vec Ideal S8192x5632 .f32) : Vec Ideal S8x768x1024 .bf16 :=
  fun i => ∑ k : Fin 8192, (slabU u (ix3 ⟨(i 0).val / 4, by have : (i 0).val < 8 := (i 0).isLt; omega⟩ k
    ⟨(i 0).val % 4 * 768 + (i 1).val, by have : (i 1).val < 768 := (i 1).isLt; omega⟩) * h (ix2 k (i 2)) : EReal)

/-- The array of slabs after the run. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have hN := points t
  obtain ⟨z, l, n, rfl⟩ : ∃ (z : Fin 1) (l : Fin 768) (n : Fin 1024), y = ix3 z l n := ⟨y 0, y 1, y 2, eq_ix3 y⟩
  obtain rfl : z = 0 := Subsingleton.elim _ _
  blk_simp
  rw [after0_2, out_acc m c t ht, acc_at m c t ht, zero_add]
  have e : ((win0_2.blk t).view.emb (ix3 0 l n) : S8x768x1024.Idx) = ix3 ⟨t.val / 4, by omega⟩ l n := by
    blk_ext [index_o t]
  refine Eq.trans ?_ (congrArg (G _ _) e).symm
  refine Fin.sum_mul_add_congr fun s r hl => ?_
  have hN' : 4 * (t.val / 4) + s.val < 32 := by omega
  have hs : (4 * (t.val / 4) + s.val) % 4 = s.val := by omega
  have hq : (4 * (t.val / 4) + s.val) / 4 = t.val / 4 := by omega
  have h6 : (4 * (t.val / 4) + s.val) / 16 = t.val / 4 / 4 := by omega
  have hu := block_u m c ⟨4 * (t.val / 4) + s.val, lt_of_lt_of_eq hN' N_0.symm⟩ r l
  have hw := block_h m c ⟨4 * (t.val / 4) + s.val, lt_of_lt_of_eq hN' N_0.symm⟩ r n
  refine (congrArg₂ (fun a b : EReal => a * b) hu hw).trans ?_
  simp only [hs, hq, h6]
  rfl

/-- The lines after the region: the slabs' rows without the padding, transposed. -/
def lastLines (g : Vec Ideal S8x768x1024 .bf16) : Vec Ideal S1024x5632 .f32 :=
  transpose S1024x5632 [1, 0] (extf .f32 (shapeCast S5632x1024 (extractStridedSlice S8x704x1024 ![0, 0, 0] g slices_S8x768x1024_S8x704x1024_0_0_0 : Vec Ideal S8x704x1024 .bf16) shapeCasts_S8x704x1024_S5632x1024) bitsLt_bf16_f32 : FVec Ideal S5632x1024 .f32) transposes_S5632x1024_S1024x5632_1_0

/-- The lines after the region at an entry. -/
theorem lastLines_at (g : Vec Ideal S8x768x1024 .bf16) (n : Fin 1024) (k : Fin 5632) :
    lastLines g (ix2 n k) = g (ix3 ⟨k.val / 704, by omega⟩ ⟨k.val % 704, by omega⟩ n) := by
  unfold lastLines
  pointwise

/-- The program's last line, from the contents after the region. -/
theorem line_last (W : Valuation τ sig (Elt Ideal)) : StableHlo.after hostOps1 W (Proc.devRef .tc main_v10) = lastLines (W (Proc.devRef .tc main_v6)) := by
  dsimp only [hostOps1]
  after_reads_simp
  rfl

/-- No two of the region's arrays are the same. -/
theorem arr_inj : Function.Injective (Pipeline.arrRef (cfgs 0).spec) := by
  intro a b; revert a b; decide

/-- The result at the end of the program. -/
theorem last_eq : Pipeline.afterTail₀ cfgs (dats m) 0 (V0 m) [hostOps1] c main_v10
    = lastLines (G (m ((c : Thread nD τ).loc main_arg0)) (m ((c : Thread nD τ).loc main_arg1))) := by
  unfold Pipeline.afterTail₀
  simp only [List.flatten_cons, List.flatten_nil, List.append_nil]
  rw [line_last]
  exact congrArg lastLines ((Pipeline.withArrays_arr (cfgs 0).spec arr_inj c (V0 m c) _ 2).trans (final m c))

/-- A column of the cotangent, found in its slab. -/
theorem slab_entry (u : Vec Ideal S8192x5632 .f32) (k : Fin 5632) (r : Fin 8192) :
    slabU u (ix3 ⟨k.val / 704 / 4, by omega⟩ r ⟨k.val / 704 % 4 * 768 + k.val % 704, by omega⟩) = u (ix2 r k) := by
  have h0 : k.val % 704 < 704 := Nat.mod_lt _ (by decide)
  have h1 : (k.val / 704 % 4 * 768 + k.val % 704) % 768 = k.val % 704 := by omega
  have h2 : (k.val / 704 % 4 * 768 + k.val % 704) / 768 = k.val / 704 % 4 := by omega
  rw [slabU_at]
  simp only [h1, h2, h0, dif_pos]
  refine congrArg (fun j => u (ix2 r j)) (Fin.ext ?_)
  show k.val / 704 / 4 * 2816 + k.val / 704 % 4 * 704 + k.val % 704 = k.val
  omega

/-- The reference's result is the same array. -/
theorem reference_eq (h : Vec Ideal S8192x1024 .f32) (u : Vec Ideal S8192x5632 .f32) :
    Cert.ReferenceDwupIdeal.Read.val_main_v3 (F := Ideal) h u = lastLines (G h u) := by
  funext i
  obtain ⟨n, k, rfl⟩ : ∃ (n : Fin 1024) (k : Fin 5632), i = ix2 n k := ⟨i 0, i 1, eq_ix2 i⟩
  rw [lastLines_at, Cert.ReferenceDwupIdeal.Read.val_main_v3_apply, Cert.ReferenceDwupIdeal.Read.val_main_v2_apply]
  refine Finset.sum_congr rfl fun r _ => ?_
  refine congrArg₂ (fun a b : EReal => a * b) ?_ (congrArg h ?_)
  · refine Eq.trans (congrArg u ?_) (slab_entry u k r).symm
    funext a; fin_cases a <;> rfl
  · funext a; fin_cases a <;> rfl

/-- The reference program changes no argument and leaves no counter. -/
theorem frame_reference : Cert.quiescent_ReferenceDwupIdeal := fun m ρ _ =>
  (θ_run Cert.ReferenceDwupIdeal.defs _ _).mono
    (fun r h => ⟨fun c => (h c).2, Idealize.ShloMosaic.sem_eq_zero_of_no_sems (by decide) r.2⟩)
    (Cert.ReferenceDwupIdeal.Value.run (F := Ideal) m ρ)

/-- The kernel's result and the reference's are one array. -/
theorem value : Cert.algebraic_KernelDwupIdeal_ReferenceDwupIdeal := by
  intro m g m' g' _ hm
  refine ⟨fun c => lastLines (G (m ((c : Thread nD τ).loc main_arg0)) (m ((c : Thread nD τ).loc main_arg1))), ?_, ?_⟩
  · exact (θ_run defs _ _).mono
      (fun r h c => ⟨((h.1 c).2 main_v10 (Pipeline.mem_restRefs_of main_v10 (by decide) (by decide))).trans (last_eq m c), h.2 c⟩)
      (θ_run_and (run_main m g) (unchanged m g))
  · refine (θ_run Cert.ReferenceDwupIdeal.defs _ _).mono (fun r h c => ⟨(h c).1.trans ?_, (h c).2⟩) (Cert.ReferenceDwupIdeal.Value.run (F := Ideal) m' g')
    rw [(hm c).1, (hm c).2]
    exact reference_eq _ _

end Cert.Proof.Dwup
-- ==== Proof.Dact.lean ====
/- The gradient of the gated product's first factor: per block of rows and columns one product. -/
module

public import proofs.«01_k».proof.Defs
public import proofs.«01_k».proof.Proof.Gen.KernelDact
public import proofs.«01_k».proof.Proof.Gen.KernelDact.Frame
public import proofs.«01_k».proof.Proof.Gen.KernelDactIdeal
public import proofs.«01_k».proof.Proof.Gen.KernelDactIdeal.Frame
public import proofs.«01_k».proof.Proof.Gen.ReferenceDactIdeal
public import proofs.«01_k».proof.Proof.Gen.ReferenceDactIdeal.Run
public import proofs.«01_k».proof.Proof.Gen.ReferenceDactIdeal.Read
public import proofs.«01_k».proof.Proof.Slabs
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Dact

open Cert.KernelDactIdeal Cert.KernelDactIdeal.Gen Idealize.ShloMosaic Idealize.ShloMosaic.TcCoe Idealize.SL.Sem

variable (m : (ℓ : Loc nD τ sig) → Buf (Elt Ideal) ℓ) (c : Dev nD)

/-- One point's product. -/
def part (x : Vec Ideal S2048x1024 .bf16) (y : Vec Ideal S1536x1024 .bf16) (j : S2048x1536.Idx) : EReal :=
  ∑ r : Fin 1024, x (ix2 (j 0) r) * y (ix2 (j 1) r)

/-- What a point adds to the accumulator. -/
theorem pay2_at (a : Vec Ideal S2048x1536 .f32) (x : Vec Ideal S2048x1024 .bf16) (y : Vec Ideal S1536x1024 .bf16) (j : S2048x1536.Idx) :
    k0_pay2 a x y j = a j + part x y j := by
  obtain ⟨l, n, rfl⟩ : ∃ l n, j = ix2 l n := ⟨j 0, j 1, eq_ix2 j⟩
  unfold k0_pay2 part
  pointwise

/-- The accumulator starts at zero. -/
theorem pay1_at (j : S2048x1536.Idx) : k0_pay1 (F := Ideal) j = 0 := by
  unfold k0_pay1
  pointwise

/-- What a point stores: its product. -/
theorem out_at (t : Fin cfg0.N) (l : Fin 2048) (n : Fin 1536) :
    outsAt0 m c t (ix2 l n) = part (iblk m c 0 t) (iblk m c 1 t) (ix2 l n) := by
  have e : outsAt0 m c t = k0_pay3 (k0_pay2 k0_pay1 (iblk m c 0 t) (iblk m c 1 t)) := by
    unfold outsAt0
    frame_out
  rw [e]
  show k0_pay2 k0_pay1 (iblk m c 0 t) (iblk m c 1 t) (ix2 l n) = _
  rw [pay2_at, pay1_at, zero_add]

/-- The first operand's block at a point. -/
theorem index_a : ∀ t : Fin cfg0.N, win0_0.index t = ![t.val / 2, 0] :=
  (by decide +kernel : ∀ t : Fin grid0.N, _)

/-- The second operand's block at a point. -/
theorem index_b : ∀ t : Fin cfg0.N, win0_1.index t = ![t.val % 2, 0] :=
  (by decide +kernel : ∀ t : Fin grid0.N, _)

/-- The result's block at a point. -/
theorem index_o : ∀ t : Fin cfg0.N, win0_2.index t = ![t.val / 2, t.val % 2] :=
  (by decide +kernel : ∀ t : Fin grid0.N, _)

/-- The number of points. -/
theorem points (t : Fin cfg0.N) : t.val < 8 := lt_of_lt_of_eq t.isLt N_0

/-- A block of the first operand at an entry. -/
theorem read_a (X : Vec Ideal S8192x1024 .bf16) (t : Fin cfg0.N) (r : Fin 2048) (l : Fin 1024) :
    ((win0_0.blk t).view.read (Elt Ideal) X : Vec Ideal S2048x1024 .bf16) (ix2 r l)
      = X (ix2 ⟨t.val / 2 * 2048 + r.val, by have := points t; omega⟩ l) := by
  blk_ext [index_a t]

/-- A block of the second operand at an entry. -/
theorem read_b (X : Vec Ideal S3072x1024 .bf16) (t : Fin cfg0.N) (r : Fin 1536) (l : Fin 1024) :
    ((win0_1.blk t).view.read (Elt Ideal) X : Vec Ideal S1536x1024 .bf16) (ix2 r l)
      = X (ix2 ⟨t.val % 2 * 1536 + r.val, by have := points t; omega⟩ l) := by
  blk_ext [index_b t]

/-- The product of two whole arrays. -/
def G (x : Vec Ideal S8192x1024 .bf16) (y : Vec Ideal S3072x1024 .bf16) : Vec Ideal S8192x3072 .bf16 :=
  fun i => (∑ k : Fin 1024, x (ix2 (i 0) k) * y (ix2 (i 1) k) : EReal)

/-- The product in the array after the run. -/
theorem final : (dats m 0 c).arrAt 2 cfg0.N = G (V m c main_v4) (V m c main_v3) := by
  refine (dats m 0 c).arrAt_eq_of_covers 2 _ (by decide +kernel) fun t hf y => ?_
  have hN := points t
  obtain ⟨l, n, rfl⟩ : ∃ (l : Fin 2048) (n : Fin 1536), y = ix2 l n := ⟨y 0, y 1, eq_ix2 y⟩
  blk_simp
  rw [after0_2, out_at m c t]
  have e : ((win0_2.blk t).view.emb (ix2 l n) : S8192x3072.Idx) = ix2 ⟨t.val / 2 * 2048 + l.val, by have := points t; omega⟩ ⟨t.val % 2 * 1536 + n.val, by have := points t; omega⟩ := by
    blk_ext [index_o t]
  refine Eq.trans ?_ (congrArg (G _ _) e).symm
  refine @Finset.sum_congr (Fin _) EReal _ _ _ _ _ rfl fun r _ => ?_
  exact congrArg₂ (fun a b : EReal => a * b) (read_a (V m c main_v4) t l r) (read_b (V m c main_v3) t n r)

/-- The weight in four slabs. -/
def splitP (x : Vec Ideal S2816x1024 .f32) : Vec Ideal S4x704x1024 .bf16 :=
  shapeCast S4x704x1024 (truncf .bf16 x bitsLt_bf16_f32 : FVec Ideal S2816x1024 .bf16) shapeCasts_S2816x1024_S4x704x1024

/-- Each slab of 704 padded to 768. -/
def padP (x : Vec Ideal S4x704x1024 .bf16) : Vec Ideal S4x768x1024 .bf16 :=
  pad S4x768x1024 ![0, 0, 0] ![0, 64, 0] ![0, 0, 0] x (sitofp .bf16 (constantI S_ 32 0#32) : FVec Ideal S_ .bf16) pads_S4x704x1024_S4x768x1024_000_0640_000 h_S_

/-- The weight in four padded slabs, joined. -/
def slabs (x : Vec Ideal S2816x1024 .f32) : Vec Ideal S3072x1024 .bf16 :=
  shapeCast S3072x1024 (padP (splitP x)) shapeCasts_S4x768x1024_S3072x1024

section Lines
variable (W : Valuation τ sig (Elt Ideal))

/-- The lines that split it. -/
theorem lines_split : StableHlo.after hostOps0 W (Proc.devRef .tc main_v1) = splitP (W (Proc.devRef .tc main_arg0)) := by
  dsimp only [hostOps0]
  after_reads_simp
  rfl

/-- The integer zero the padding is read from. -/
theorem lines_zero : StableHlo.after hostOps0 W (Proc.devRef .tc main_c) = (constantI S_ 32 0#32 : IVec S_ 32) := by
  dsimp only [hostOps0]
  after_reads_simp

/-- The lines that pad. -/
theorem lines_pad (h : W (Proc.devRef .tc main_c) = (constantI S_ 32 0#32 : IVec S_ 32)) :
    StableHlo.after hostOps0_1 W (Proc.devRef .tc main_v2) = padP (W (Proc.devRef .tc main_v1)) := by
  dsimp only [hostOps0_1]
  after_reads_simp
  rw [h]
  rfl

/-- The line that joins the slabs. -/
theorem lines_join : StableHlo.after hostOps0_2 W (Proc.devRef .tc main_v3)
    = shapeCast S3072x1024 (W (Proc.devRef .tc main_v2) : Vec Ideal S4x768x1024 .bf16) shapeCasts_S4x768x1024_S3072x1024 := by
  dsimp only [hostOps0_2]
  after_reads_simp
  rfl

/-- The line that rounds the cotangent. -/
theorem lines_round : StableHlo.after hostOps0_2 W (Proc.devRef .tc main_v4)
    = (truncf .bf16 (W (Proc.devRef .tc main_arg1) : FVec Ideal S8192x1024 .f32) bitsLt_bf16_f32 : FVec Ideal S8192x1024 .bf16) := by
  dsimp only [hostOps0_2]
  after_reads_simp

/-- The lines before leave the cotangent alone. -/
theorem lines_keep : StableHlo.after hostOps0_1 (StableHlo.after hostOps0 W) (Proc.devRef .tc main_arg1) = W (Proc.devRef .tc main_arg1) := by
  dsimp only [hostOps0, hostOps0_1]
  after_reads_simp

end Lines

/-- The first operand is the cotangent. -/
theorem V_a : V m c main_v4 = (m ((c : Thread nD τ).loc main_arg1) : Vec Ideal S8192x1024 .f32) := by
  show StableHlo.after (List.flatten [hostOps0, hostOps0_1, hostOps0_2]) (fun b => m (c, b)) (Proc.devRef .tc main_v4) = _
  simp only [List.flatten_cons, List.flatten_nil, List.append_nil, StableHlo.after_append]
  rw [lines_round, lines_keep]
  rfl

/-- The second operand is the weight in slabs. -/
theorem V_b : V m c main_v3 = (slabs (m ((c : Thread nD τ).loc main_arg0)) : Vec Ideal S3072x1024 .bf16) := by
  show StableHlo.after (List.flatten [hostOps0, hostOps0_1, hostOps0_2]) (fun b => m (c, b)) (Proc.devRef .tc main_v3) = _
  simp only [List.flatten_cons, List.flatten_nil, List.append_nil, StableHlo.after_append]
  rw [lines_join, lines_pad _ (lines_zero _), lines_split]
  rfl

/-- The product of the two arguments, in slabs. -/
def R (w : Vec Ideal S2816x1024 .f32) (y : Vec Ideal S8192x1024 .f32) : Vec Ideal S8192x3072 .bf16 := G y (slabs w)

/-- The array after the run, from the arguments. -/
theorem result : (dats m 0 c).arrAt 2 cfg0.N = R (m ((c : Thread nD τ).loc main_arg0)) (m ((c : Thread nD τ).loc main_arg1)) :=
  (final m c).trans (congrArg₂ G (V_a m c) (V_b m c))

/-- The padding value. -/
theorem zero_bf : (FloatOps.sitofp FTy.bf16 0#32 : Ideal .bf16) = 0 := by
  show ((((0#32 : BitVec 32).toInt : ℝ)) : EReal) = 0
  simp

/-- A row of the weight, found in its slab. -/
theorem slabs_at (w : Vec Ideal S2816x1024 .f32) (k : Fin 2816) (n : Fin 1024) :
    slabs w (ix2 ⟨k.val / 704 * 768 + k.val % 704, by omega⟩ n) = w (ix2 k n) := by
  have h0 : k.val % 704 < 704 := Nat.mod_lt _ (by decide)
  have h1 : (k.val / 704 * 768 + k.val % 704) % 768 = k.val % 704 := by omega
  have h2 : (k.val / 704 * 768 + k.val % 704) / 768 = k.val / 704 := by omega
  have h3 : k.val / 704 * 704 + k.val % 704 = k.val := by omega
  have h4 : k.val / 704 < 4 := by omega
  unfold slabs padP splitP
  pointwise
  simp only [h1, h2, h3, h0, h4, true_and, and_true, and_self, dif_pos]

/-- The lines after the region: the slabs' columns without the padding. -/
def lastLines (g : Vec Ideal S8192x3072 .bf16) : Vec Ideal S8192x2816 .f32 :=
  (extf .f32 (shapeCast S8192x2816 (extractStridedSlice S8192x4x704 ![0, 0, 0] (shapeCast S8192x4x768 (g : Vec Ideal S8192x3072 .bf16) shapeCasts_S8192x3072_S8192x4x768 : Vec Ideal S8192x4x768 .bf16) slices_S8192x4x768_S8192x4x704_0_0_0 : Vec Ideal S8192x4x704 .bf16) shapeCasts_S8192x4x704_S8192x2816 : FVec Ideal S8192x2816 .bf16) bitsLt_bf16_f32 : FVec Ideal S8192x2816 .f32)

/-- The lines after the region at an entry. -/
theorem lastLines_at (g : Vec Ideal S8192x3072 .bf16) (r : Fin 8192) (k : Fin 2816) :
    lastLines g (ix2 r k) = g (ix2 r ⟨k.val / 704 * 768 + k.val % 704, by omega⟩) := by
  unfold lastLines
  pointwise

/-- The program's last line, from the contents after the region. -/
theorem line_last (W : Valuation τ sig (Elt Ideal)) : StableHlo.after hostOps1 W (Proc.devRef .tc main_v9) = lastLines (W (Proc.devRef .tc main_v5)) := by
  dsimp only [hostOps1]
  after_reads_simp
  rfl

/-- The reference's result is the same product. -/
theorem reference_eq (w : Vec Ideal S2816x1024 .f32) (y : Vec Ideal S8192x1024 .f32) :
    Cert.ReferenceDactIdeal.Read.val_main_v2 (F := Ideal) w y = lastLines (R w y) := by
  funext i
  obtain ⟨r, k, rfl⟩ : ∃ (r : Fin 8192) (k : Fin 2816), i = ix2 r k := ⟨i 0, i 1, eq_ix2 i⟩
  rw [lastLines_at, Cert.ReferenceDactIdeal.Read.val_main_v2_apply]
  refine Finset.sum_congr rfl fun n _ => congrArg₂ (fun a b : EReal => a * b) (congrArg y ?_) (Eq.trans (congrArg w ?_) (slabs_at w k n).symm)
  · funext a; fin_cases a <;> rfl
  · funext a; fin_cases a <;> rfl

/-- The reference program changes no argument and leaves no counter. -/
theorem frame_reference : Cert.quiescent_ReferenceDactIdeal := fun m ρ _ =>
  (θ_run Cert.ReferenceDactIdeal.defs _ _).mono
    (fun r h => ⟨fun c => (h c).2, Idealize.ShloMosaic.sem_eq_zero_of_no_sems (by decide) r.2⟩)
    (Cert.ReferenceDactIdeal.Value.run (F := Ideal) m ρ)

/-- No two of the region's arrays are the same. -/
theorem arr_inj : Function.Injective (Pipeline.arrRef (cfgs 0).spec) := by
  intro a b; revert a b; decide

/-- The result at the end of the program. -/
theorem last_eq : Pipeline.afterTail₀ cfgs (dats m) 0 (V0 m) [hostOps1] c main_v9
    = lastLines (R (m ((c : Thread nD τ).loc main_arg0)) (m ((c : Thread nD τ).loc main_arg1))) := by
  unfold Pipeline.afterTail₀
  simp only [List.flatten_cons, List.flatten_nil, List.append_nil]
  rw [line_last]
  exact congrArg lastLines ((Pipeline.withArrays_arr (cfgs 0).spec arr_inj c (V0 m c) _ 2).trans (result m c))

/-- The kernel's result and the reference's are one array. -/
theorem value : Cert.algebraic_KernelDactIdeal_ReferenceDactIdeal := by
  intro m g m' g' _ hm
  refine ⟨fun c => lastLines (R (m ((c : Thread nD τ).loc main_arg0)) (m ((c : Thread nD τ).loc main_arg1))), ?_, ?_⟩
  · exact (θ_run defs _ _).mono
      (fun r h c => ⟨((h.1 c).2 main_v9 (Pipeline.mem_restRefs_of main_v9 (by decide) (by decide))).trans (last_eq m c), h.2 c⟩)
      (θ_run_and (run_main m g) (unchanged m g))
  · refine (θ_run Cert.ReferenceDactIdeal.defs _ _).mono (fun r h c => ⟨(h c).1.trans ?_, (h c).2⟩) (Cert.ReferenceDactIdeal.Value.run (F := Ideal) m' g')
    rw [(hm c).1, (hm c).2]
    exact reference_eq _ _

end Cert.Proof.Dact
-- ==== Proof.Dwdown.lean ====
/- The gradient of the down-projection's weight: the rows' products added over the four reduction points. -/
module

public import proofs.«01_k».proof.Defs
public import proofs.«01_k».proof.Proof.Gen.KernelDwdown
public import proofs.«01_k».proof.Proof.Gen.KernelDwdown.Frame
public import proofs.«01_k».proof.Proof.Gen.KernelDwdownIdeal
public import proofs.«01_k».proof.Proof.Gen.KernelDwdownIdeal.Frame
public import proofs.«01_k».proof.Proof.Gen.ReferenceDwdownIdeal
public import proofs.«01_k».proof.Proof.Gen.ReferenceDwdownIdeal.Run
public import proofs.«01_k».proof.Proof.Gen.ReferenceDwdownIdeal.Read
public import proofs.«01_k».proof.Proof.Slabs
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Dwdown

open Cert.KernelDwdownIdeal Cert.KernelDwdownIdeal.Gen Idealize.ShloMosaic Idealize.ShloMosaic.TcCoe Idealize.SL.Sem

variable (m : (ℓ : Loc nD τ sig) → Buf (Elt Ideal) ℓ) (c : Dev nD)

/-- One point's product. -/
def part (x : Vec Ideal S2048x1536 .bf16) (y : Vec Ideal S2048x1024 .bf16) (j : S1536x1024.Idx) : EReal :=
  ∑ r : Fin 2048, x (ix2 r (j 0)) * y (ix2 r (j 1))

/-- What a point adds to the accumulator. -/
theorem pay2_at (a : Vec Ideal S1536x1024 .f32) (x : Vec Ideal S2048x1536 .bf16) (y : Vec Ideal S2048x1024 .bf16) (j : S1536x1024.Idx) :
    k0_pay2 a x y j = a j + part x y j := by
  obtain ⟨l, n, rfl⟩ : ∃ l n, j = ix2 l n := ⟨j 0, j 1, eq_ix2 j⟩
  unfold k0_pay2 part
  pointwise

/-- The accumulator starts at zero. -/
theorem pay1_at (j : S1536x1024.Idx) : k0_pay1 (F := Ideal) j = 0 := by
  unfold k0_pay1
  pointwise

/-- The accumulator at the last point of a run: the sum of the run's products. -/
theorem acc_at (t : Fin cfg0.N) (ht : t.val % 4 = 3) (j : S1536x1024.Idx) :
    (outsAt0 m c t.val t.isLt).2 j = 0 + ∑ s : Fin 4, part (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2) 4 (fun _ => 0) (fun t j => part (iblk m c 0 t) (iblk m c 1 t) j)
    (fun t h j => by
      rw [outsAt0_A m c t h (by omega)]; frame_out; rw [pay2_at, pay1_at])
    (fun t h j => by
      by_cases h7 : t.val % 4 = 3
      · rw [outsAt0_C m c t h h7]; frame_out; rw [pay2_at, Idealize.ShloMosaic.read_unread_whole]
      · rw [outsAt0_B m c t h h7]; frame_out; rw [pay2_at, Idealize.ShloMosaic.read_unread_whole]) t ht j]

/-- The last point of a run stores the accumulator as it leaves it. -/
theorem out_acc (t : Fin cfg0.N) (ht : t.val % 4 = 3) (l : Fin 1536) (n : Fin 1024) :
    (outsAt0 m c t.val t.isLt).1 (ix2 l n) = (outsAt0 m c t.val t.isLt).2 (ix2 l n) := by
  rw [outsAt0_C m c t (by omega) ht]
  frame_out
  rfl

/-- The first operand's block at a point. -/
theorem index_a : ∀ t : Fin cfg0.N, win0_0.index t = ![t.val % 4, t.val / 4] :=
  (by decide +kernel : ∀ t : Fin grid0.N, _)

/-- The second operand's block at a point. -/
theorem index_b : ∀ t : Fin cfg0.N, win0_1.index t = ![t.val % 4, 0] :=
  (by decide +kernel : ∀ t : Fin grid0.N, _)

/-- The result's block at a point. -/
theorem index_o : ∀ t : Fin cfg0.N, win0_2.index t = ![t.val / 4, 0] :=
  (by decide +kernel : ∀ t : Fin grid0.N, _)

/-- The number of points. -/
theorem points (t : Fin cfg0.N) : t.val < 8 := lt_of_lt_of_eq t.isLt N_0

/-- A block of the first operand at an entry. -/
theorem read_a (X : Vec Ideal S8192x3072 .bf16) (t : Fin cfg0.N) (r : Fin 2048) (l : Fin 1536) :
    ((win0_0.blk t).view.read (Elt Ideal) X : Vec Ideal S2048x1536 .bf16) (ix2 r l)
      = X (ix2 ⟨t.val % 4 * 2048 + r.val, by have := points t; omega⟩ ⟨t.val / 4 * 1536 + l.val, by have := points t; omega⟩) := by
  blk_ext [index_a t]

/-- A block of the second operand at an entry. -/
theorem read_b (X : Vec Ideal S8192x1024 .bf16) (t : Fin cfg0.N) (r : Fin 2048) (l : Fin 1024) :
    ((win0_1.blk t).view.read (Elt Ideal) X : Vec Ideal S2048x1024 .bf16) (ix2 r l)
      = X (ix2 ⟨t.val % 4 * 2048 + r.val, by have := points t; omega⟩ l) := by
  blk_ext [index_b t]

/-- The product of two whole arrays. -/
def G (x : Vec Ideal S8192x3072 .bf16) (y : Vec Ideal S8192x1024 .bf16) : Vec Ideal S3072x1024 .bf16 :=
  fun i => (∑ k : Fin 8192, x (ix2 k (i 0)) * y (ix2 k (i 1)) : EReal)

/-- The product in the array after the run. -/
theorem final : (dats m 0 c).arrAt 2 cfg0.N = G (V m c main_v3) (V m c main_v4) := by
  refine (dats m 0 c).arrAt_eq_of_covers 2 _ (by decide +kernel) fun t hf y => ?_
  have hN := points t
  obtain ⟨l, n, rfl⟩ : ∃ (l : Fin 1536) (n : Fin 1024), y = ix2 l n := ⟨y 0, y 1, eq_ix2 y⟩
  have ht : t.val % 4 = 3 := (flush0_2 t).mp hf
  blk_simp
  rw [after0_2, out_acc m c t ht, acc_at m c t ht, zero_add]
  have e : ((win0_2.blk t).view.emb (ix2 l n) : S3072x1024.Idx) = ix2 ⟨t.val / 4 * 1536 + l.val, by have := points t; omega⟩ n := by
    blk_ext [index_o t]
  refine Eq.trans ?_ (congrArg (G _ _) e).symm
  refine Fin.sum_mul_add_congr fun s r hl => ?_
  have hN' : 4 * (t.val / 4) + s.val < 8 := by omega
  have hs : (4 * (t.val / 4) + s.val) % 4 = s.val := by omega
  have hq : (4 * (t.val / 4) + s.val) / 4 = t.val / 4 := by omega
  refine (congrArg₂ (fun a b : EReal => a * b) (read_a (V m c main_v3) ⟨4 * (t.val / 4) + s.val, lt_of_lt_of_eq hN' N_0.symm⟩ r l) (read_b (V m c main_v4) ⟨4 * (t.val / 4) + s.val, lt_of_lt_of_eq hN' N_0.symm⟩ r n)).trans ?_
  simp only [hs, hq]
  rfl

/-- The gated product in four slabs. -/
def splitP (x : Vec Ideal S8192x2816 .f32) : Vec Ideal S8192x4x704 .bf16 :=
  shapeCast S8192x4x704 (truncf .bf16 x bitsLt_bf16_f32 : FVec Ideal S8192x2816 .bf16) shapeCasts_S8192x2816_S8192x4x704

/-- Each slab of 704 padded to 768. -/
def padP (x : Vec Ideal S8192x4x704 .bf16) : Vec Ideal S8192x4x768 .bf16 :=
  pad S8192x4x768 ![0, 0, 0] ![0, 0, 64] ![0, 0, 0] x (sitofp .bf16 (constantI S_ 32 0#32) : FVec Ideal S_ .bf16) pads_S8192x4x704_S8192x4x768_000_000_0640 h_S_

/-- The gated product in four padded slabs, joined. -/
def slabs (x : Vec Ideal S8192x2816 .f32) : Vec Ideal S8192x3072 .bf16 :=
  shapeCast S8192x3072 (padP (splitP x)) shapeCasts_S8192x4x768_S8192x3072

section Lines
variable (W : Valuation τ sig (Elt Ideal))

/-- The lines that split it. -/
theorem lines_split : StableHlo.after hostOps0 W (Proc.devRef .tc main_v1) = splitP (W (Proc.devRef .tc main_arg0)) := by
  dsimp only [hostOps0]
  after_reads_simp
  rfl

/-- The integer zero the padding is read from. -/
theorem lines_zero : StableHlo.after hostOps0 W (Proc.devRef .tc main_c) = (constantI S_ 32 0#32 : IVec S_ 32) := by
  dsimp only [hostOps0]
  after_reads_simp

/-- The lines that pad. -/
theorem lines_pad (h : W (Proc.devRef .tc main_c) = (constantI S_ 32 0#32 : IVec S_ 32)) :
    StableHlo.after hostOps0_1 W (Proc.devRef .tc main_v2) = padP (W (Proc.devRef .tc main_v1)) := by
  dsimp only [hostOps0_1]
  after_reads_simp
  rw [h]
  rfl

/-- The line that joins the slabs. -/
theorem lines_join : StableHlo.after hostOps0_2 W (Proc.devRef .tc main_v3)
    = shapeCast S8192x3072 (W (Proc.devRef .tc main_v2) : Vec Ideal S8192x4x768 .bf16) shapeCasts_S8192x4x768_S8192x3072 := by
  dsimp only [hostOps0_2]
  after_reads_simp
  rfl

/-- The line that rounds the cotangent. -/
theorem lines_round : StableHlo.after hostOps0_2 W (Proc.devRef .tc main_v4)
    = (truncf .bf16 (W (Proc.devRef .tc main_arg1) : FVec Ideal S8192x1024 .f32) bitsLt_bf16_f32 : FVec Ideal S8192x1024 .bf16) := by
  dsimp only [hostOps0_2]
  after_reads_simp

/-- The lines before leave the cotangent alone. -/
theorem lines_keep : StableHlo.after hostOps0_1 (StableHlo.after hostOps0 W) (Proc.devRef .tc main_arg1) = W (Proc.devRef .tc main_arg1) := by
  dsimp only [hostOps0, hostOps0_1]
  after_reads_simp

end Lines

/-- The first operand is the gated product in slabs. -/
theorem V_a : V m c main_v3 = (slabs (m ((c : Thread nD τ).loc main_arg0)) : Vec Ideal S8192x3072 .bf16) := by
  show StableHlo.after (List.flatten [hostOps0, hostOps0_1, hostOps0_2]) (fun b => m (c, b)) (Proc.devRef .tc main_v3) = _
  simp only [List.flatten_cons, List.flatten_nil, List.append_nil, StableHlo.after_append]
  rw [lines_join, lines_pad _ (lines_zero _), lines_split]
  rfl

/-- The second operand is the cotangent. -/
theorem V_b : V m c main_v4 = (m ((c : Thread nD τ).loc main_arg1) : Vec Ideal S8192x1024 .f32) := by
  show StableHlo.after (List.flatten [hostOps0, hostOps0_1, hostOps0_2]) (fun b => m (c, b)) (Proc.devRef .tc main_v4) = _
  simp only [List.flatten_cons, List.flatten_nil, List.append_nil, StableHlo.after_append]
  rw [lines_round, lines_keep]
  rfl

/-- The product of the two arguments' rows, in slabs. -/
def R (x : Vec Ideal S8192x2816 .f32) (y : Vec Ideal S8192x1024 .f32) : Vec Ideal S3072x1024 .bf16 := G (slabs x) y

/-- The array after the run, from the arguments. -/
theorem result : (dats m 0 c).arrAt 2 cfg0.N = R (m ((c : Thread nD τ).loc main_arg0)) (m ((c : Thread nD τ).loc main_arg1)) :=
  (final m c).trans (congrArg₂ G (V_a m c) (V_b m c))

/-- The padding value. -/
theorem zero_bf : (FloatOps.sitofp FTy.bf16 0#32 : Ideal .bf16) = 0 := by
  show ((((0#32 : BitVec 32).toInt : ℝ)) : EReal) = 0
  simp

/-- A column of the gated product, found in its slab. -/
theorem slabs_at (x : Vec Ideal S8192x2816 .f32) (r : Fin 8192) (k : Fin 2816) :
    slabs x (ix2 r ⟨k.val / 704 * 768 + k.val % 704, by omega⟩) = x (ix2 r k) := by
  have h0 : k.val % 704 < 704 := Nat.mod_lt _ (by decide)
  have h1 : (k.val / 704 * 768 + k.val % 704) % 768 = k.val % 704 := by omega
  have h2 : (k.val / 704 * 768 + k.val % 704) / 768 = k.val / 704 := by omega
  have h3 : k.val / 704 * 704 + k.val % 704 = k.val := by omega
  have h4 : k.val / 704 < 4 := by omega
  unfold slabs padP splitP
  pointwise
  simp only [h1, h2, h3, h0, h4, true_and, and_true, and_self, dif_pos]

/-- The lines after the region: the slabs' rows without the padding. -/
def lastLines (g : Vec Ideal S3072x1024 .bf16) : Vec Ideal S2816x1024 .f32 :=
  (extf .f32 (shapeCast S2816x1024 (extractStridedSlice S4x704x1024 ![0, 0, 0] (shapeCast S4x768x1024 (g : Vec Ideal S3072x1024 .bf16) shapeCasts_S3072x1024_S4x768x1024 : Vec Ideal S4x768x1024 .bf16) slices_S4x768x1024_S4x704x1024_0_0_0 : Vec Ideal S4x704x1024 .bf16) shapeCasts_S4x704x1024_S2816x1024 : FVec Ideal S2816x1024 .bf16) bitsLt_bf16_f32 : FVec Ideal S2816x1024 .f32)

/-- The lines after the region at an entry. -/
theorem lastLines_at (g : Vec Ideal S3072x1024 .bf16) (k : Fin 2816) (n : Fin 1024) :
    lastLines g (ix2 k n) = g (ix2 ⟨k.val / 704 * 768 + k.val % 704, by omega⟩ n) := by
  unfold lastLines
  pointwise

/-- The program's last line, from the contents after the region. -/
theorem line_last (W : Valuation τ sig (Elt Ideal)) : StableHlo.after hostOps1 W (Proc.devRef .tc main_v9) = lastLines (W (Proc.devRef .tc main_v5)) := by
  dsimp only [hostOps1]
  after_reads_simp
  rfl

/-- The reference's result is the same product. -/
theorem reference_eq (x : Vec Ideal S8192x2816 .f32) (y : Vec Ideal S8192x1024 .f32) :
    Cert.ReferenceDwdownIdeal.Read.val_main_v3 (F := Ideal) x y = lastLines (R x y) := by
  funext i
  obtain ⟨k, n, rfl⟩ : ∃ (k : Fin 2816) (n : Fin 1024), i = ix2 k n := ⟨i 0, i 1, eq_ix2 i⟩
  rw [lastLines_at, Cert.ReferenceDwdownIdeal.Read.val_main_v3_apply, Cert.ReferenceDwdownIdeal.Read.val_main_v2_apply]
  show (_ : EReal) = ∑ r : Fin 8192, slabs x (ix2 r ⟨k.val / 704 * 768 + k.val % 704, by omega⟩) * y (ix2 r n)
  refine Finset.sum_congr rfl fun r _ => ?_
  refine Eq.trans (mul_comm _ _) (congrArg₂ (fun a b : EReal => a * b) (Eq.trans (congrArg x ?_) (slabs_at x r k).symm) (congrArg y ?_))
  · funext a; fin_cases a <;> rfl
  · funext a; fin_cases a <;> rfl

/-- The reference program changes no argument and leaves no counter. -/
theorem frame_reference : Cert.quiescent_ReferenceDwdownIdeal := fun m ρ _ =>
  (θ_run Cert.ReferenceDwdownIdeal.defs _ _).mono
    (fun r h => ⟨fun c => (h c).2, Idealize.ShloMosaic.sem_eq_zero_of_no_sems (by decide) r.2⟩)
    (Cert.ReferenceDwdownIdeal.Value.run (F := Ideal) m ρ)

/-- No two of the region's arrays are the same. -/
theorem arr_inj : Function.Injective (Pipeline.arrRef (cfgs 0).spec) := by
  intro a b; revert a b; decide

/-- The result at the end of the program. -/
theorem last_eq : Pipeline.afterTail₀ cfgs (dats m) 0 (V0 m) [hostOps1] c main_v9
    = lastLines (R (m ((c : Thread nD τ).loc main_arg0)) (m ((c : Thread nD τ).loc main_arg1))) := by
  unfold Pipeline.afterTail₀
  simp only [List.flatten_cons, List.flatten_nil, List.append_nil]
  rw [line_last]
  exact congrArg lastLines ((Pipeline.withArrays_arr (cfgs 0).spec arr_inj c (V0 m c) _ 2).trans (result m c))

/-- The kernel's result and the reference's are one array. -/
theorem value : Cert.algebraic_KernelDwdownIdeal_ReferenceDwdownIdeal := by
  intro m g m' g' _ hm
  refine ⟨fun c => lastLines (R (m ((c : Thread nD τ).loc main_arg0)) (m ((c : Thread nD τ).loc main_arg1))), ?_, ?_⟩
  · exact (θ_run defs _ _).mono
      (fun r h c => ⟨((h.1 c).2 main_v9 (Pipeline.mem_restRefs_of main_v9 (by decide) (by decide))).trans (last_eq m c), h.2 c⟩)
      (θ_run_and (run_main m g) (unchanged m g))
  · refine (θ_run Cert.ReferenceDwdownIdeal.defs _ _).mono (fun r h c => ⟨(h c).1.trans ?_, (h c).2⟩) (Cert.ReferenceDwdownIdeal.Value.run (F := Ideal) m' g')
    rw [(hm c).1, (hm c).2]
    exact reference_eq _ _

end Cert.Proof.Dwdown
-- ==== Proof.Dyn.lean ====
/- The gradient of the output projection's input: per block of rows one product. -/
module

public import proofs.«01_k».proof.Defs
public import proofs.«01_k».proof.Proof.Gen.KernelDyn
public import proofs.«01_k».proof.Proof.Gen.KernelDyn.Frame
public import proofs.«01_k».proof.Proof.Gen.KernelDynIdeal
public import proofs.«01_k».proof.Proof.Gen.KernelDynIdeal.Frame
public import proofs.«01_k».proof.Proof.Gen.KernelDynIdeal.Value
public import proofs.«01_k».proof.Proof.Gen.ReferenceDynIdeal
public import proofs.«01_k».proof.Proof.Gen.ReferenceDynIdeal.Run
public import proofs.«01_k».proof.Proof.Gen.ReferenceDynIdeal.Read
public import proofs.«01_k».proof.Proof.Slabs
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Dyn

open Cert.KernelDynIdeal Cert.KernelDynIdeal.Gen Idealize.ShloMosaic Idealize.ShloMosaic.TcCoe Idealize.SL.Sem

variable (m : (ℓ : Loc nD τ sig) → Buf (Elt Ideal) ℓ) (c : Dev nD)

/-- One point's product. -/
def part (x : Vec Ideal S2048x1024 .bf16) (y : Vec Ideal S1024x1024 .bf16) (j : S2048x1024.Idx) : EReal :=
  ∑ r : Fin 1024, x (ix2 (j 0) r) * y (ix2 (j 1) r)

/-- What a point adds to the accumulator. -/
theorem pay2_at (a : Vec Ideal S2048x1024 .f32) (x : Vec Ideal S2048x1024 .bf16) (y : Vec Ideal S1024x1024 .bf16) (j : S2048x1024.Idx) :
    k0_pay2 a x y j = a j + part x y j := by
  obtain ⟨l, n, rfl⟩ : ∃ l n, j = ix2 l n := ⟨j 0, j 1, eq_ix2 j⟩
  unfold k0_pay2 part
  pointwise

/-- The accumulator starts at zero. -/
theorem pay1_at (j : S2048x1024.Idx) : k0_pay1 (F := Ideal) j = 0 := by
  unfold k0_pay1
  pointwise

/-- What a point stores: its product. -/
theorem out_at (t : Fin cfg0.N) (l : Fin 2048) (n : Fin 1024) :
    outsAt0 m c t (ix2 l n) = part (iblk m c 0 t) (iblk m c 1 t) (ix2 l n) := by
  have e : outsAt0 m c t = k0_pay2 k0_pay1 (iblk m c 0 t) (iblk m c 1 t) := by
    unfold outsAt0
    frame_out
  rw [e]
  rw [pay2_at, pay1_at, zero_add]

/-- The first operand's block at a point. -/
theorem index_a : ∀ t : Fin cfg0.N, win0_0.index t = ![t.val, 0] :=
  (by decide +kernel : ∀ t : Fin grid0.N, _)

/-- The second operand's block at a point. -/
theorem index_b : ∀ t : Fin cfg0.N, win0_1.index t = ![0, 0] :=
  (by decide +kernel : ∀ t : Fin grid0.N, _)

/-- The result's block at a point. -/
theorem index_o : ∀ t : Fin cfg0.N, win0_2.index t = ![t.val, 0] :=
  (by decide +kernel : ∀ t : Fin grid0.N, _)

/-- The number of points. -/
theorem points (t : Fin cfg0.N) : t.val < 4 := lt_of_lt_of_eq t.isLt N_0

/-- A block of the first operand at an entry. -/
theorem read_a (X : Vec Ideal S8192x1024 .bf16) (t : Fin cfg0.N) (r : Fin 2048) (l : Fin 1024) :
    ((win0_0.blk t).view.read (Elt Ideal) X : Vec Ideal S2048x1024 .bf16) (ix2 r l)
      = X (ix2 ⟨t.val * 2048 + r.val, by have := points t; omega⟩ l) := by
  blk_ext [index_a t]

/-- A block of the second operand at an entry. -/
theorem read_b (X : Vec Ideal S1024x1024 .bf16) (t : Fin cfg0.N) (r : Fin 1024) (l : Fin 1024) :
    ((win0_1.blk t).view.read (Elt Ideal) X : Vec Ideal S1024x1024 .bf16) (ix2 r l)
      = X (ix2 r l) := by
  blk_ext [index_b t]

/-- The product of two whole arrays. -/
def G (x : Vec Ideal S8192x1024 .bf16) (y : Vec Ideal S1024x1024 .bf16) : Vec Ideal S8192x1024 .f32 :=
  fun i => (∑ k : Fin 1024, x (ix2 (i 0) k) * y (ix2 (i 1) k) : EReal)

/-- The product in the array after the run. -/
theorem final : (dats m 0 c).arrAt 2 cfg0.N = G (V m c main_v0) (V m c main_v1) := by
  refine (dats m 0 c).arrAt_eq_of_covers 2 _ (by decide +kernel) fun t hf y => ?_
  have hN := points t
  obtain ⟨l, n, rfl⟩ : ∃ (l : Fin 2048) (n : Fin 1024), y = ix2 l n := ⟨y 0, y 1, eq_ix2 y⟩
  blk_simp
  rw [after0_2, out_at m c t]
  have e : ((win0_2.blk t).view.emb (ix2 l n) : S8192x1024.Idx) = ix2 ⟨t.val * 2048 + l.val, by have := points t; omega⟩ n := by
    blk_ext [index_o t]
  refine Eq.trans ?_ (congrArg (G _ _) e).symm
  refine @Finset.sum_congr (Fin _) EReal _ _ _ _ _ rfl fun r _ => ?_
  exact congrArg₂ (fun a b : EReal => a * b) (read_a (V m c main_v0) t l r) (read_b (V m c main_v1) t n r)

/-- The line that rounds an argument. -/
theorem lines_a (W : Valuation τ sig (Elt Ideal)) : StableHlo.after hostOps0 W (Proc.devRef .tc main_v0)
    = (truncf .bf16 (W (Proc.devRef .tc main_arg1) : FVec Ideal S8192x1024 .f32) bitsLt_bf16_f32 : FVec Ideal S8192x1024 .bf16) := by
  dsimp only [hostOps0]
  after_reads_simp

/-- The line that rounds an argument. -/
theorem lines_b (W : Valuation τ sig (Elt Ideal)) : StableHlo.after hostOps0 W (Proc.devRef .tc main_v1)
    = (truncf .bf16 (W (Proc.devRef .tc main_arg0) : FVec Ideal S1024x1024 .f32) bitsLt_bf16_f32 : FVec Ideal S1024x1024 .bf16) := by
  dsimp only [hostOps0]
  after_reads_simp

/-- The product of the two arguments. -/
def R (w : Vec Ideal S1024x1024 .f32) (y : Vec Ideal S8192x1024 .f32) : Vec Ideal S8192x1024 .f32 := G y w

/-- The first operand is the cotangent. -/
theorem V_a : V m c main_v0 = (m ((c : Thread nD τ).loc main_arg1) : Vec Ideal S8192x1024 .f32) := by
  show StableHlo.after hostOps0 (fun b => m (c, b)) (Proc.devRef .tc main_v0) = _
  rw [lines_a]
  rfl

/-- The second operand is the weight. -/
theorem V_b : V m c main_v1 = (m ((c : Thread nD τ).loc main_arg0) : Vec Ideal S1024x1024 .f32) := by
  show StableHlo.after hostOps0 (fun b => m (c, b)) (Proc.devRef .tc main_v1) = _
  rw [lines_b]
  rfl

/-- The array after the run, from the arguments. -/
theorem result : (dats m 0 c).arrAt 2 cfg0.N = R (m ((c : Thread nD τ).loc main_arg0)) (m ((c : Thread nD τ).loc main_arg1)) :=
  (final m c).trans (congrArg₂ G (V_a m c) (V_b m c))

/-- The reference's result is the same product. -/
theorem reference_eq (w : Vec Ideal S1024x1024 .f32) (y : Vec Ideal S8192x1024 .f32) :
    Cert.ReferenceDynIdeal.Read.val_main_v2 (F := Ideal) w y = R w y := by
  funext i
  rw [Cert.ReferenceDynIdeal.Read.val_main_v2_apply]
  refine Finset.sum_congr rfl fun k _ => congrArg₂ (fun a b : EReal => a * b) (congrArg y ?_) (congrArg w ?_)
  · funext a; fin_cases a <;> rfl
  · funext a; fin_cases a <;> rfl

/-- The reference program changes no argument and leaves no counter. -/
theorem frame_reference : Cert.quiescent_ReferenceDynIdeal := fun m ρ _ =>
  (θ_run Cert.ReferenceDynIdeal.defs _ _).mono
    (fun r h => ⟨fun c => (h c).2, Idealize.ShloMosaic.sem_eq_zero_of_no_sems (by decide) r.2⟩)
    (Cert.ReferenceDynIdeal.Value.run (F := Ideal) m ρ)

/-- The kernel's result and the reference's are one array. -/
theorem value : Cert.algebraic_KernelDynIdeal_ReferenceDynIdeal := by
  intro m g m' g' _ hm
  refine ⟨fun c => R (m ((c : Thread nD τ).loc main_arg0)) (m ((c : Thread nD τ).loc main_arg1)), ?_, ?_⟩
  · exact (θ_run defs _ _).mono (fun r h c => ⟨(h c).1.trans (result m c), (h c).2⟩) (Value.run_blocks m g)
  · refine (θ_run Cert.ReferenceDynIdeal.defs _ _).mono (fun r h c => ⟨(h c).1.trans ?_, (h c).2⟩) (Cert.ReferenceDynIdeal.Value.run (F := Ideal) m' g')
    rw [(hm c).1, (hm c).2]
    exact reference_eq _ _

end Cert.Proof.Dyn
-- ==== Proof.Dwo.lean ====
/- The gradient of the output projection's weight: the rows' products added over the four reduction points. -/
module

public import proofs.«01_k».proof.Defs
public import proofs.«01_k».proof.Proof.Gen.KernelDwo
public import proofs.«01_k».proof.Proof.Gen.KernelDwo.Frame
public import proofs.«01_k».proof.Proof.Gen.KernelDwoIdeal
public import proofs.«01_k».proof.Proof.Gen.KernelDwoIdeal.Frame
public import proofs.«01_k».proof.Proof.Gen.ReferenceDwoIdeal
public import proofs.«01_k».proof.Proof.Gen.ReferenceDwoIdeal.Run
public import proofs.«01_k».proof.Proof.Gen.ReferenceDwoIdeal.Read
public import proofs.«01_k».proof.Proof.Slabs
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Dwo

open Cert.KernelDwoIdeal Cert.KernelDwoIdeal.Gen Idealize.ShloMosaic Idealize.ShloMosaic.TcCoe Idealize.SL.Sem

variable (m : (ℓ : Loc nD τ sig) → Buf (Elt Ideal) ℓ) (c : Dev nD)

/-- One point's product. -/
def part (x : Vec Ideal S2048x1024 .bf16) (y : Vec Ideal S2048x1024 .bf16) (j : S1024x1024.Idx) : EReal :=
  ∑ r : Fin 2048, x (ix2 r (j 0)) * y (ix2 r (j 1))

/-- What a point adds to the accumulator. -/
theorem pay2_at (a : Vec Ideal S1024x1024 .f32) (x : Vec Ideal S2048x1024 .bf16) (y : Vec Ideal S2048x1024 .bf16) (j : S1024x1024.Idx) :
    k0_pay2 a x y j = a j + part x y j := by
  obtain ⟨l, n, rfl⟩ : ∃ l n, j = ix2 l n := ⟨j 0, j 1, eq_ix2 j⟩
  unfold k0_pay2 part
  pointwise

/-- The accumulator starts at zero. -/
theorem pay1_at (j : S1024x1024.Idx) : k0_pay1 (F := Ideal) j = 0 := by
  unfold k0_pay1
  pointwise

/-- The accumulator at the last point of a run: the sum of the run's products. -/
theorem acc_at (t : Fin cfg0.N) (ht : t.val % 4 = 3) (j : S1024x1024.Idx) :
    (outsAt0 m c t.val t.isLt).2 j = 0 + ∑ s : Fin 4, part (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2) 4 (fun _ => 0) (fun t j => part (iblk m c 0 t) (iblk m c 1 t) j)
    (fun t h j => by
      rw [outsAt0_A m c t h (by omega)]; frame_out; rw [pay2_at, pay1_at])
    (fun t h j => by
      by_cases h7 : t.val % 4 = 3
      · rw [outsAt0_C m c t h h7]; frame_out; rw [pay2_at, Idealize.ShloMosaic.read_unread_whole]
      · rw [outsAt0_B m c t h h7]; frame_out; rw [pay2_at, Idealize.ShloMosaic.read_unread_whole]) t ht j]

/-- The last point of a run stores the accumulator as it leaves it. -/
theorem out_acc (t : Fin cfg0.N) (ht : t.val % 4 = 3) (l : Fin 1024) (n : Fin 1024) :
    (outsAt0 m c t.val t.isLt).1 (ix2 l n) = (outsAt0 m c t.val t.isLt).2 (ix2 l n) := by
  rw [outsAt0_C m c t (by omega) ht]
  frame_out
  rfl

/-- The first operand's block at a point. -/
theorem index_a : ∀ t : Fin cfg0.N, win0_0.index t = ![t.val % 4, 0] :=
  (by decide +kernel : ∀ t : Fin grid0.N, _)

/-- The second operand's block at a point. -/
theorem index_b : ∀ t : Fin cfg0.N, win0_1.index t = ![t.val % 4, 0] :=
  (by decide +kernel : ∀ t : Fin grid0.N, _)

/-- The result's block at a point. -/
theorem index_o : ∀ t : Fin cfg0.N, win0_2.index t = ![0, 0] :=
  (by decide +kernel : ∀ t : Fin grid0.N, _)

/-- The number of points. -/
theorem points (t : Fin cfg0.N) : t.val < 4 := lt_of_lt_of_eq t.isLt N_0

/-- A block of the first operand at an entry. -/
theorem read_a (X : Vec Ideal S8192x1024 .bf16) (t : Fin cfg0.N) (r : Fin 2048) (l : Fin 1024) :
    ((win0_0.blk t).view.read (Elt Ideal) X : Vec Ideal S2048x1024 .bf16) (ix2 r l)
      = X (ix2 ⟨t.val % 4 * 2048 + r.val, by have := points t; omega⟩ l) := by
  blk_ext [index_a t]

/-- A block of the second operand at an entry. -/
theorem read_b (X : Vec Ideal S8192x1024 .bf16) (t : Fin cfg0.N) (r : Fin 2048) (l : Fin 1024) :
    ((win0_1.blk t).view.read (Elt Ideal) X : Vec Ideal S2048x1024 .bf16) (ix2 r l)
      = X (ix2 ⟨t.val % 4 * 2048 + r.val, by have := points t; omega⟩ l) := by
  blk_ext [index_b t]

/-- The product of two whole arrays. -/
def G (x : Vec Ideal S8192x1024 .bf16) (y : Vec Ideal S8192x1024 .bf16) : Vec Ideal S1024x1024 .bf16 :=
  fun i => (∑ k : Fin 8192, x (ix2 k (i 0)) * y (ix2 k (i 1)) : EReal)

/-- The product in the array after the run. -/
theorem final : (dats m 0 c).arrAt 2 cfg0.N = G (V m c main_v0) (V m c main_v1) := by
  refine (dats m 0 c).arrAt_eq_of_covers 2 _ (by decide +kernel) fun t hf y => ?_
  have hN := points t
  obtain ⟨l, n, rfl⟩ : ∃ (l : Fin 1024) (n : Fin 1024), y = ix2 l n := ⟨y 0, y 1, eq_ix2 y⟩
  have ht : t.val % 4 = 3 := (flush0_2 t).mp hf
  blk_simp
  rw [after0_2, out_acc m c t ht, acc_at m c t ht, zero_add]
  have e : ((win0_2.blk t).view.emb (ix2 l n) : S1024x1024.Idx) = ix2 l n := by
    blk_ext [index_o t]
  refine Eq.trans ?_ (congrArg (G _ _) e).symm
  refine Fin.sum_mul_add_congr fun s r hl => ?_
  have hN' : 4 * (t.val / 4) + s.val < 4 := by omega
  have hs : (4 * (t.val / 4) + s.val) % 4 = s.val := by omega
  have hq : (4 * (t.val / 4) + s.val) / 4 = t.val / 4 := by omega
  refine (congrArg₂ (fun a b : EReal => a * b) (read_a (V m c main_v0) ⟨4 * (t.val / 4) + s.val, lt_of_lt_of_eq hN' N_0.symm⟩ r l) (read_b (V m c main_v1) ⟨4 * (t.val / 4) + s.val, lt_of_lt_of_eq hN' N_0.symm⟩ r n)).trans ?_
  simp only [hs, hq]
  rfl

/-- The line that rounds an argument. -/
theorem lines_a (W : Valuation τ sig (Elt Ideal)) : StableHlo.after hostOps0 W (Proc.devRef .tc main_v0)
    = (truncf .bf16 (W (Proc.devRef .tc main_arg0) : FVec Ideal S8192x1024 .f32) bitsLt_bf16_f32 : FVec Ideal S8192x1024 .bf16) := by
  dsimp only [hostOps0]
  after_reads_simp

/-- The line that rounds an argument. -/
theorem lines_b (W : Valuation τ sig (Elt Ideal)) : StableHlo.after hostOps0 W (Proc.devRef .tc main_v1)
    = (truncf .bf16 (W (Proc.devRef .tc main_arg1) : FVec Ideal S8192x1024 .f32) bitsLt_bf16_f32 : FVec Ideal S8192x1024 .bf16) := by
  dsimp only [hostOps0]
  after_reads_simp

/-- The product of the two arguments' rows. -/
def R (x : Vec Ideal S8192x1024 .f32) (y : Vec Ideal S8192x1024 .f32) : Vec Ideal S1024x1024 .bf16 := G x y

/-- The first operand is the input. -/
theorem V_a : V m c main_v0 = (m ((c : Thread nD τ).loc main_arg0) : Vec Ideal S8192x1024 .f32) := by
  show StableHlo.after (List.flatten [hostOps0]) (fun b => m (c, b)) (Proc.devRef .tc main_v0) = _
  simp only [List.flatten_cons, List.flatten_nil, List.append_nil, StableHlo.after_append]
  rw [lines_a]
  rfl

/-- The second operand is the cotangent. -/
theorem V_b : V m c main_v1 = (m ((c : Thread nD τ).loc main_arg1) : Vec Ideal S8192x1024 .f32) := by
  show StableHlo.after (List.flatten [hostOps0]) (fun b => m (c, b)) (Proc.devRef .tc main_v1) = _
  simp only [List.flatten_cons, List.flatten_nil, List.append_nil, StableHlo.after_append]
  rw [lines_b]
  rfl

/-- The array after the run, from the arguments. -/
theorem result : (dats m 0 c).arrAt 2 cfg0.N = R (m ((c : Thread nD τ).loc main_arg0)) (m ((c : Thread nD τ).loc main_arg1)) :=
  (final m c).trans (congrArg₂ G (V_a m c) (V_b m c))

/-- The line after the region: the wider format. -/
def lastLines (g : Vec Ideal S1024x1024 .bf16) : Vec Ideal S1024x1024 .f32 := (extf .f32 (g : FVec Ideal S1024x1024 .bf16) bitsLt_bf16_f32 : FVec Ideal S1024x1024 .f32)

/-- The program's last line, from the contents after the region. -/
theorem line_last (W : Valuation τ sig (Elt Ideal)) : StableHlo.after hostOps1 W (Proc.devRef .tc main_v3) = lastLines (W (Proc.devRef .tc main_v2)) := by
  dsimp only [hostOps1]
  after_reads_simp
  rfl

/-- The reference's result is the same product. -/
theorem reference_eq (x : Vec Ideal S8192x1024 .f32) (y : Vec Ideal S8192x1024 .f32) :
    Cert.ReferenceDwoIdeal.Read.val_main_v3 (F := Ideal) x y = lastLines (R x y) := by
  funext i
  rw [Cert.ReferenceDwoIdeal.Read.val_main_v3_apply, Cert.ReferenceDwoIdeal.Read.val_main_v2_apply]
  show (_ : EReal) = ∑ k : Fin 8192, x (ix2 k (i 0)) * y (ix2 k (i 1))
  refine Finset.sum_congr rfl fun k _ => ?_
  refine Eq.trans (mul_comm _ _) (congrArg₂ (fun a b : EReal => a * b) (congrArg x ?_) (congrArg y ?_))
  · funext a; fin_cases a <;> rfl
  · funext a; fin_cases a <;> rfl

/-- The reference program changes no argument and leaves no counter. -/
theorem frame_reference : Cert.quiescent_ReferenceDwoIdeal := fun m ρ _ =>
  (θ_run Cert.ReferenceDwoIdeal.defs _ _).mono
    (fun r h => ⟨fun c => (h c).2, Idealize.ShloMosaic.sem_eq_zero_of_no_sems (by decide) r.2⟩)
    (Cert.ReferenceDwoIdeal.Value.run (F := Ideal) m ρ)

/-- No two of the region's arrays are the same. -/
theorem arr_inj : Function.Injective (Pipeline.arrRef (cfgs 0).spec) := by
  intro a b; revert a b; decide

/-- The result at the end of the program. -/
theorem last_eq : Pipeline.afterTail₀ cfgs (dats m) 0 (V0 m) [hostOps1] c main_v3
    = lastLines (R (m ((c : Thread nD τ).loc main_arg0)) (m ((c : Thread nD τ).loc main_arg1))) := by
  unfold Pipeline.afterTail₀
  simp only [List.flatten_cons, List.flatten_nil, List.append_nil]
  rw [line_last]
  exact congrArg lastLines ((Pipeline.withArrays_arr (cfgs 0).spec arr_inj c (V0 m c) _ 2).trans (result m c))

/-- The kernel's result and the reference's are one array. -/
theorem value : Cert.algebraic_KernelDwoIdeal_ReferenceDwoIdeal := by
  intro m g m' g' _ hm
  refine ⟨fun c => lastLines (R (m ((c : Thread nD τ).loc main_arg0)) (m ((c : Thread nD τ).loc main_arg1))), ?_, ?_⟩
  · exact (θ_run defs _ _).mono
      (fun r h c => ⟨((h.1 c).2 main_v3 (Pipeline.mem_restRefs_of main_v3 (by decide) (by decide))).trans (last_eq m c), h.2 c⟩)
      (θ_run_and (run_main m g) (unchanged m g))
  · refine (θ_run Cert.ReferenceDwoIdeal.defs _ _).mono (fun r h c => ⟨(h c).1.trans ?_, (h c).2⟩) (Cert.ReferenceDwoIdeal.Value.run (F := Ideal) m' g')
    rw [(hm c).1, (hm c).2]
    exact reference_eq _ _

end Cert.Proof.Dwo
-- ==== Proof.Dwin.lean ====
/- The gradient of the input projection's weight: the rows' products added over the four reduction points. -/
module

public import proofs.«01_k».proof.Defs
public import proofs.«01_k».proof.Proof.Gen.KernelDwin
public import proofs.«01_k».proof.Proof.Gen.KernelDwin.Frame
public import proofs.«01_k».proof.Proof.Gen.KernelDwinIdeal
public import proofs.«01_k».proof.Proof.Gen.KernelDwinIdeal.Frame
public import proofs.«01_k».proof.Proof.Gen.ReferenceDwinIdeal
public import proofs.«01_k».proof.Proof.Gen.ReferenceDwinIdeal.Run
public import proofs.«01_k».proof.Proof.Gen.ReferenceDwinIdeal.Read
public import proofs.«01_k».proof.Proof.Slabs
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Dwin

open Cert.KernelDwinIdeal Cert.KernelDwinIdeal.Gen Idealize.ShloMosaic Idealize.ShloMosaic.TcCoe Idealize.SL.Sem

variable (m : (ℓ : Loc nD τ sig) → Buf (Elt Ideal) ℓ) (c : Dev nD)

/-- One point's product. -/
def part (x : Vec Ideal S2048x1152 .bf16) (y : Vec Ideal S2048x1024 .bf16) (j : S1152x1024.Idx) : EReal :=
  ∑ r : Fin 2048, x (ix2 r (j 0)) * y (ix2 r (j 1))

/-- What a point adds to the accumulator. -/
theorem pay2_at (a : Vec Ideal S1152x1024 .f32) (x : Vec Ideal S2048x1152 .bf16) (y : Vec Ideal S2048x1024 .bf16) (j : S1152x1024.Idx) :
    k0_pay2 a x y j = a j + part x y j := by
  obtain ⟨l, n, rfl⟩ : ∃ l n, j = ix2 l n := ⟨j 0, j 1, eq_ix2 j⟩
  unfold k0_pay2 part
  pointwise

/-- The accumulator starts at zero. -/
theorem pay1_at (j : S1152x1024.Idx) : k0_pay1 (F := Ideal) j = 0 := by
  unfold k0_pay1
  pointwise

/-- The accumulator at the last point of a run: the sum of the run's products. -/
theorem acc_at (t : Fin cfg0.N) (ht : t.val % 4 = 3) (j : S1152x1024.Idx) :
    (outsAt0 m c t.val t.isLt).2 j = 0 + ∑ s : Fin 4, part (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2) 4 (fun _ => 0) (fun t j => part (iblk m c 0 t) (iblk m c 1 t) j)
    (fun t h j => by
      rw [outsAt0_A m c t h (by omega)]; frame_out; rw [pay2_at, pay1_at])
    (fun t h j => by
      by_cases h7 : t.val % 4 = 3
      · rw [outsAt0_C m c t h h7]; frame_out; rw [pay2_at, Idealize.ShloMosaic.read_unread_whole]
      · rw [outsAt0_B m c t h h7]; frame_out; rw [pay2_at, Idealize.ShloMosaic.read_unread_whole]) t ht j]

/-- The last point of a run stores the accumulator as it leaves it. -/
theorem out_acc (t : Fin cfg0.N) (ht : t.val % 4 = 3) (l : Fin 1152) (n : Fin 1024) :
    (outsAt0 m c t.val t.isLt).1 (ix2 l n) = (outsAt0 m c t.val t.isLt).2 (ix2 l n) := by
  rw [outsAt0_C m c t (by omega) ht]
  frame_out
  rfl

/-- The first operand's block at a point. -/
theorem index_a : ∀ t : Fin cfg0.N, win0_0.index t = ![t.val % 4, t.val / 4] :=
  (by decide +kernel : ∀ t : Fin grid0.N, _)

/-- The second operand's block at a point. -/
theorem index_b : ∀ t : Fin cfg0.N, win0_1.index t = ![t.val % 4, 0] :=
  (by decide +kernel : ∀ t : Fin grid0.N, _)

/-- The result's block at a point. -/
theorem index_o : ∀ t : Fin cfg0.N, win0_2.index t = ![t.val / 4, 0] :=
  (by decide +kernel : ∀ t : Fin grid0.N, _)

/-- The number of points. -/
theorem points (t : Fin cfg0.N) : t.val < 8 := lt_of_lt_of_eq t.isLt N_0

/-- A block of the first operand at an entry. -/
theorem read_a (X : Vec Ideal S8192x2304 .bf16) (t : Fin cfg0.N) (r : Fin 2048) (l : Fin 1152) :
    ((win0_0.blk t).view.read (Elt Ideal) X : Vec Ideal S2048x1152 .bf16) (ix2 r l)
      = X (ix2 ⟨t.val % 4 * 2048 + r.val, by have := points t; omega⟩ ⟨t.val / 4 * 1152 + l.val, by have := points t; omega⟩) := by
  blk_ext [index_a t]

/-- A block of the second operand at an entry. -/
theorem read_b (X : Vec Ideal S8192x1024 .bf16) (t : Fin cfg0.N) (r : Fin 2048) (l : Fin 1024) :
    ((win0_1.blk t).view.read (Elt Ideal) X : Vec Ideal S2048x1024 .bf16) (ix2 r l)
      = X (ix2 ⟨t.val % 4 * 2048 + r.val, by have := points t; omega⟩ l) := by
  blk_ext [index_b t]

/-- The product of two whole arrays. -/
def G (x : Vec Ideal S8192x2304 .bf16) (y : Vec Ideal S8192x1024 .bf16) : Vec Ideal S2304x1024 .bf16 :=
  fun i => (∑ k : Fin 8192, x (ix2 k (i 0)) * y (ix2 k (i 1)) : EReal)

/-- The product in the array after the run. -/
theorem final : (dats m 0 c).arrAt 2 cfg0.N = G (V m c main_v5) (V m c main_v6) := by
  refine (dats m 0 c).arrAt_eq_of_covers 2 _ (by decide +kernel) fun t hf y => ?_
  have hN := points t
  obtain ⟨l, n, rfl⟩ : ∃ (l : Fin 1152) (n : Fin 1024), y = ix2 l n := ⟨y 0, y 1, eq_ix2 y⟩
  have ht : t.val % 4 = 3 := (flush0_2 t).mp hf
  blk_simp
  rw [after0_2, out_acc m c t ht, acc_at m c t ht, zero_add]
  have e : ((win0_2.blk t).view.emb (ix2 l n) : S2304x1024.Idx) = ix2 ⟨t.val / 4 * 1152 + l.val, by have := points t; omega⟩ n := by
    blk_ext [index_o t]
  refine Eq.trans ?_ (congrArg (G _ _) e).symm
  refine Fin.sum_mul_add_congr fun s r hl => ?_
  have hN' : 4 * (t.val / 4) + s.val < 8 := by omega
  have hs : (4 * (t.val / 4) + s.val) % 4 = s.val := by omega
  have hq : (4 * (t.val / 4) + s.val) / 4 = t.val / 4 := by omega
  refine (congrArg₂ (fun a b : EReal => a * b) (read_a (V m c main_v5) ⟨4 * (t.val / 4) + s.val, lt_of_lt_of_eq hN' N_0.symm⟩ r l) (read_b (V m c main_v6) ⟨4 * (t.val / 4) + s.val, lt_of_lt_of_eq hN' N_0.symm⟩ r n)).trans ?_
  simp only [hs, hq]
  rfl

/-- The cotangent with zeros put in after its place 2176 and at its end. -/
def fillC (x : Vec Ideal S8192x2208 .bf16) : Vec Ideal S8192x2304 .bf16 :=
  concatenate S8192x2304 1 [⟨S8192x2176, (extractStridedSlice S8192x2176 ![0, 0] x slices_S8192x2208_S8192x2176_0_0 : Vec Ideal S8192x2176 .bf16)⟩, ⟨S8192x64, (broadcastInDim S8192x64 ![] bcast_S_S8192x64 (constant S_ .bf16 0x0000#16 : FVec Ideal S_ .bf16) : Vec Ideal S8192x64 .bf16)⟩,
    ⟨S8192x32, (extractStridedSlice S8192x32 ![0, 2176] x slices_S8192x2208_S8192x32_0_2176 : Vec Ideal S8192x32 .bf16)⟩, ⟨S8192x32, (broadcastInDim S8192x32 ![] bcast_S_S8192x32 (constant S_ .bf16 0x0000#16 : FVec Ideal S_ .bf16) : Vec Ideal S8192x32 .bf16)⟩] concatenates_S8192x2176_S8192x64_S8192x32_S8192x32_S8192x2304_d1

/-- The cotangent so filled, at part 1. -/
theorem fillC_at0 (x : Vec Ideal S8192x2208 .bf16) (k : Fin 2176) (n : Fin 8192) : fillC x (ix2 n ⟨k.val, by omega⟩) = x (ix2 n ⟨k.val, by omega⟩) := by
  unfold fillC
  pointwise

/-- The cotangent so filled, at part 3. -/
theorem fillC_at2 (x : Vec Ideal S8192x2208 .bf16) (k : Fin 32) (n : Fin 8192) : fillC x (ix2 n ⟨2240 + k.val, by omega⟩) = x (ix2 n ⟨2176 + k.val, by omega⟩) := by
  unfold fillC
  pointwise
  have h1 : ¬ 2240 + k.val < 2176 := by omega
  have h2 : ¬ 2240 + k.val - 2176 < 64 := by omega
  have h3 :  2240 + k.val - 2176 - 64 < 32 := by omega
  have h4 : 2176 + (2240 + k.val - 2176 - 64) = 2176 + k.val := by omega
  simp only [h1, h2, h3, h4, ↓reduceDIte]

/-- The lines that fill the cotangent. -/
theorem lines_a (W : Valuation τ sig (Elt Ideal)) : StableHlo.after hostOps0 W (Proc.devRef .tc main_v5)
    = fillC (truncf .bf16 (W (Proc.devRef .tc main_arg1) : FVec Ideal S8192x2208 .f32) bitsLt_bf16_f32 : FVec Ideal S8192x2208 .bf16) := by
  dsimp only [hostOps0]
  after_reads_simp
  rfl

/-- The line that rounds an argument. -/
theorem lines_b (W : Valuation τ sig (Elt Ideal)) : StableHlo.after hostOps0 W (Proc.devRef .tc main_v6)
    = (truncf .bf16 (W (Proc.devRef .tc main_arg0) : FVec Ideal S8192x1024 .f32) bitsLt_bf16_f32 : FVec Ideal S8192x1024 .bf16) := by
  dsimp only [hostOps0]
  after_reads_simp

/-- The first operand is the filled cotangent. -/
theorem V_a : V m c main_v5 = (fillC (m ((c : Thread nD τ).loc main_arg1) : Vec Ideal S8192x2208 .f32) : Vec Ideal S8192x2304 .bf16) := by
  show StableHlo.after (List.flatten [hostOps0]) (fun b => m (c, b)) (Proc.devRef .tc main_v5) = _
  simp only [List.flatten_cons, List.flatten_nil, List.append_nil, StableHlo.after_append]
  rw [lines_a]
  rfl

/-- The second operand is the input. -/
theorem V_b : V m c main_v6 = (m ((c : Thread nD τ).loc main_arg0) : Vec Ideal S8192x1024 .f32) := by
  show StableHlo.after (List.flatten [hostOps0]) (fun b => m (c, b)) (Proc.devRef .tc main_v6) = _
  simp only [List.flatten_cons, List.flatten_nil, List.append_nil, StableHlo.after_append]
  rw [lines_b]
  rfl

/-- The product of the two arguments' rows, filled. -/
def R (h : Vec Ideal S8192x1024 .f32) (u : Vec Ideal S8192x2208 .f32) : Vec Ideal S2304x1024 .bf16 := G (fillC u) h

/-- The array after the run, from the arguments. -/
theorem result : (dats m 0 c).arrAt 2 cfg0.N = R (m ((c : Thread nD τ).loc main_arg0)) (m ((c : Thread nD τ).loc main_arg1)) :=
  (final m c).trans (congrArg₂ G (V_a m c) (V_b m c))

/-- The lines after the region: the rows without the zeros, transposed. -/
def lastLines (g : Vec Ideal S2304x1024 .bf16) : Vec Ideal S1024x2208 .f32 :=
  transpose S1024x2208 [1, 0] (extf .f32 (concatenate S2208x1024 0 [⟨S2176x1024, (extractStridedSlice S2176x1024 ![0, 0] g slices_S2304x1024_S2176x1024_0_0 : Vec Ideal S2176x1024 .bf16)⟩,
    ⟨S32x1024, (extractStridedSlice S32x1024 ![2240, 0] g slices_S2304x1024_S32x1024_2240_0 : Vec Ideal S32x1024 .bf16)⟩] concatenates_S2176x1024_S32x1024_S2208x1024_d0 : FVec Ideal S2208x1024 .bf16) bitsLt_bf16_f32 : FVec Ideal S2208x1024 .f32) transposes_S2208x1024_S1024x2208_1_0

/-- The lines after the region at an entry of the first part. -/
theorem lastLines_at0 (g : Vec Ideal S2304x1024 .bf16) (n : Fin 1024) (k : Fin 2176) :
    lastLines g (ix2 n ⟨k.val, by omega⟩) = g (ix2 ⟨k.val, by omega⟩ n) := by
  unfold lastLines
  pointwise

/-- The lines after the region at an entry of the second part. -/
theorem lastLines_at1 (g : Vec Ideal S2304x1024 .bf16) (n : Fin 1024) (k : Fin 32) :
    lastLines g (ix2 n ⟨2176 + k.val, by omega⟩) = g (ix2 ⟨2240 + k.val, by omega⟩ n) := by
  unfold lastLines
  pointwise

/-- The program's last line, from the contents after the region. -/
theorem line_last (W : Valuation τ sig (Elt Ideal)) : StableHlo.after hostOps1 W (Proc.devRef .tc main_v12) = lastLines (W (Proc.devRef .tc main_v7)) := by
  dsimp only [hostOps1]
  after_reads_simp
  rfl

/-- The reference's result is the same product. -/
theorem reference_eq (h : Vec Ideal S8192x1024 .f32) (u : Vec Ideal S8192x2208 .f32) :
    Cert.ReferenceDwinIdeal.Read.val_main_v3 (F := Ideal) h u = lastLines (R h u) := by
  funext i
  obtain ⟨n, k, rfl⟩ : ∃ (n : Fin 1024) (k : Fin 2208), i = ix2 n k := ⟨i 0, i 1, eq_ix2 i⟩
  rw [Cert.ReferenceDwinIdeal.Read.val_main_v3_apply, Cert.ReferenceDwinIdeal.Read.val_main_v2_apply]
  by_cases hk : k.val < 2176
  · refine Eq.trans ?_ (lastLines_at0 (R h u) n ⟨k.val, hk⟩).symm
    show (_ : EReal) = ∑ r : Fin 8192, fillC u (ix2 r ⟨k.val, by omega⟩) * h (ix2 r n)
    refine Finset.sum_congr rfl fun r _ => congrArg₂ (fun a b : EReal => a * b) (Eq.trans (congrArg u ?_) (fillC_at0 u ⟨k.val, hk⟩ r).symm) (congrArg h ?_)
    · funext a; fin_cases a <;> rfl
    · funext a; fin_cases a <;> rfl
  · obtain ⟨l, rfl⟩ : ∃ l : Fin 32, k = ⟨2176 + l.val, Nat.add_lt_add_left l.isLt 2176⟩ := ⟨⟨k.val - 2176, by omega⟩, Fin.ext (by show k.val = 2176 + (k.val - 2176); omega)⟩
    refine Eq.trans ?_ (lastLines_at1 (R h u) n l).symm
    show (_ : EReal) = ∑ r : Fin 8192, fillC u (ix2 r ⟨2240 + l.val, by omega⟩) * h (ix2 r n)
    refine Finset.sum_congr rfl fun r _ => congrArg₂ (fun a b : EReal => a * b) (Eq.trans (congrArg u ?_) (fillC_at2 u l r).symm) (congrArg h ?_)
    · funext a; fin_cases a <;> rfl
    · funext a; fin_cases a <;> rfl

/-- The reference program changes no argument and leaves no counter. -/
theorem frame_reference : Cert.quiescent_ReferenceDwinIdeal := fun m ρ _ =>
  (θ_run Cert.ReferenceDwinIdeal.defs _ _).mono
    (fun r h => ⟨fun c => (h c).2, Idealize.ShloMosaic.sem_eq_zero_of_no_sems (by decide) r.2⟩)
    (Cert.ReferenceDwinIdeal.Value.run (F := Ideal) m ρ)

/-- No two of the region's arrays are the same. -/
theorem arr_inj : Function.Injective (Pipeline.arrRef (cfgs 0).spec) := by
  intro a b; revert a b; decide

/-- The result at the end of the program. -/
theorem last_eq : Pipeline.afterTail₀ cfgs (dats m) 0 (V0 m) [hostOps1] c main_v12
    = lastLines (R (m ((c : Thread nD τ).loc main_arg0)) (m ((c : Thread nD τ).loc main_arg1))) := by
  unfold Pipeline.afterTail₀
  simp only [List.flatten_cons, List.flatten_nil, List.append_nil]
  rw [line_last]
  exact congrArg lastLines ((Pipeline.withArrays_arr (cfgs 0).spec arr_inj c (V0 m c) _ 2).trans (result m c))

/-- The kernel's result and the reference's are one array. -/
theorem value : Cert.algebraic_KernelDwinIdeal_ReferenceDwinIdeal := by
  intro m g m' g' _ hm
  refine ⟨fun c => lastLines (R (m ((c : Thread nD τ).loc main_arg0)) (m ((c : Thread nD τ).loc main_arg1))), ?_, ?_⟩
  · exact (θ_run defs _ _).mono
      (fun r h c => ⟨((h.1 c).2 main_v12 (Pipeline.mem_restRefs_of main_v12 (by decide) (by decide))).trans (last_eq m c), h.2 c⟩)
      (θ_run_and (run_main m g) (unchanged m g))
  · refine (θ_run Cert.ReferenceDwinIdeal.defs _ _).mono (fun r h c => ⟨(h c).1.trans ?_, (h c).2⟩) (Cert.ReferenceDwinIdeal.Value.run (F := Ideal) m' g')
    rw [(hm c).1, (hm c).2]
    exact reference_eq _ _

end Cert.Proof.Dwin
-- ==== Proof.Dh1.lean ====
/- The gradient of the input projection's input: the products of two halves of the columns added. -/
module

public import proofs.«01_k».proof.Defs
public import proofs.«01_k».proof.Proof.Gen.KernelDh1
public import proofs.«01_k».proof.Proof.Gen.KernelDh1.Frame
public import proofs.«01_k».proof.Proof.Gen.KernelDh1Ideal
public import proofs.«01_k».proof.Proof.Gen.KernelDh1Ideal.Frame
public import proofs.«01_k».proof.Proof.Gen.KernelDh1Ideal.Value
public import proofs.«01_k».proof.Proof.Gen.ReferenceDh1Ideal
public import proofs.«01_k».proof.Proof.Gen.ReferenceDh1Ideal.Run
public import proofs.«01_k».proof.Proof.Gen.ReferenceDh1Ideal.Read
public import proofs.«01_k».proof.Proof.Slabs
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Dh1

open Cert.KernelDh1Ideal Cert.KernelDh1Ideal.Gen Idealize.ShloMosaic Idealize.ShloMosaic.TcCoe Idealize.SL.Sem

variable (m : (ℓ : Loc nD τ sig) → Buf (Elt Ideal) ℓ) (c : Dev nD)

/-- One point's product. -/
def part (x : Vec Ideal S2048x1152 .bf16) (y : Vec Ideal S1152x1024 .bf16) (j : S2048x1024.Idx) : EReal :=
  ∑ r : Fin 1152, x (ix2 (j 0) r) * y (ix2 r (j 1))

/-- What a point adds to the accumulator. -/
theorem pay2_at (a : Vec Ideal S2048x1024 .f32) (x : Vec Ideal S2048x1152 .bf16) (y : Vec Ideal S1152x1024 .bf16) (j : S2048x1024.Idx) :
    k0_pay2 a x y j = a j + part x y j := by
  obtain ⟨l, n, rfl⟩ : ∃ l n, j = ix2 l n := ⟨j 0, j 1, eq_ix2 j⟩
  unfold k0_pay2 part
  pointwise

/-- The accumulator starts at zero. -/
theorem pay1_at (j : S2048x1024.Idx) : k0_pay1 (F := Ideal) j = 0 := by
  unfold k0_pay1
  pointwise

/-- The accumulator at the last point of a run: the sum of the run's products. -/
theorem acc_at (t : Fin cfg0.N) (ht : t.val % 2 = 1) (j : S2048x1024.Idx) :
    (outsAt0 m c t.val t.isLt).2 j = 0 + ∑ s : Fin 2, part (iblk m c 0 ⟨2 * (t.val / 2) + s.val, by have := t.isLt; omega⟩) (iblk m c 1 ⟨2 * (t.val / 2) + s.val, by have := t.isLt; omega⟩) j := by
  rw [Pipeline.eq_sum_fin_of_reset_step_apply_of_flush (fun n h => (outsAt0 m c n h).2) 2 (fun _ => 0) (fun t j => part (iblk m c 0 t) (iblk m c 1 t) j)
    (fun t h j => by
      rw [outsAt0_A m c t h (by omega)]; frame_out; rw [pay2_at, pay1_at])
    (fun t h j => by rw [outsAt0_B m c t h (by omega)]; frame_out; rw [pay2_at, Idealize.ShloMosaic.read_unread_whole]) t ht j]

/-- The last point of a run stores the accumulator as it leaves it. -/
theorem out_acc (t : Fin cfg0.N) (ht : t.val % 2 = 1) (l : Fin 2048) (n : Fin 1024) :
    (outsAt0 m c t.val t.isLt).1 (ix2 l n) = (outsAt0 m c t.val t.isLt).2 (ix2 l n) := by
  rw [outsAt0_B m c t (by omega) ht]
  frame_out

/-- The first operand's block at a point. -/
theorem index_a : ∀ t : Fin cfg0.N, win0_0.index t = ![t.val / 2, t.val % 2] :=
  (by decide +kernel : ∀ t : Fin grid0.N, _)

/-- The second operand's block at a point. -/
theorem index_b : ∀ t : Fin cfg0.N, win0_1.index t = ![t.val % 2, 0] :=
  (by decide +kernel : ∀ t : Fin grid0.N, _)

/-- The result's block at a point. -/
theorem index_o : ∀ t : Fin cfg0.N, win0_2.index t = ![t.val / 2, 0] :=
  (by decide +kernel : ∀ t : Fin grid0.N, _)

/-- The number of points. -/
theorem points (t : Fin cfg0.N) : t.val < 8 := lt_of_lt_of_eq t.isLt N_0

/-- A block of the first operand at an entry. -/
theorem read_a (X : Vec Ideal S8192x2304 .bf16) (t : Fin cfg0.N) (r : Fin 2048) (l : Fin 1152) :
    ((win0_0.blk t).view.read (Elt Ideal) X : Vec Ideal S2048x1152 .bf16) (ix2 r l)
      = X (ix2 ⟨t.val / 2 * 2048 + r.val, by have := points t; omega⟩ ⟨t.val % 2 * 1152 + l.val, by have := points t; omega⟩) := by
  blk_ext [index_a t]

/-- A block of the second operand at an entry. -/
theorem read_b (X : Vec Ideal S2304x1024 .bf16) (t : Fin cfg0.N) (r : Fin 1152) (l : Fin 1024) :
    ((win0_1.blk t).view.read (Elt Ideal) X : Vec Ideal S1152x1024 .bf16) (ix2 r l)
      = X (ix2 ⟨t.val % 2 * 1152 + r.val, by have := points t; omega⟩ l) := by
  blk_ext [index_b t]

/-- The product of two whole arrays. -/
def G (x : Vec Ideal S8192x2304 .bf16) (y : Vec Ideal S2304x1024 .bf16) : Vec Ideal S8192x1024 .f32 :=
  fun i => (∑ k : Fin 2304, x (ix2 (i 0) k) * y (ix2 k (i 1)) : EReal)

/-- The product in the array after the run. -/
theorem final : (dats m 0 c).arrAt 2 cfg0.N = G (V m c main_v12) (V m c main_v6) := by
  refine (dats m 0 c).arrAt_eq_of_covers 2 _ (by decide +kernel) fun t hf y => ?_
  have hN := points t
  obtain ⟨l, n, rfl⟩ : ∃ (l : Fin 2048) (n : Fin 1024), y = ix2 l n := ⟨y 0, y 1, eq_ix2 y⟩
  have ht : t.val % 2 = 1 := (flush0_2 t).mp hf
  blk_simp
  rw [after0_2, out_acc m c t ht, acc_at m c t ht, zero_add]
  have e : ((win0_2.blk t).view.emb (ix2 l n) : S8192x1024.Idx) = ix2 ⟨t.val / 2 * 2048 + l.val, by have := points t; omega⟩ n := by
    blk_ext [index_o t]
  refine Eq.trans ?_ (congrArg (G _ _) e).symm
  refine Fin.sum_mul_add_congr fun s r hl => ?_
  have hN' : 2 * (t.val / 2) + s.val < 8 := by omega
  have hs : (2 * (t.val / 2) + s.val) % 2 = s.val := by omega
  have hq : (2 * (t.val / 2) + s.val) / 2 = t.val / 2 := by omega
  refine (congrArg₂ (fun a b : EReal => a * b) (read_a (V m c main_v12) ⟨2 * (t.val / 2) + s.val, lt_of_lt_of_eq hN' N_0.symm⟩ l r) (read_b (V m c main_v6) ⟨2 * (t.val / 2) + s.val, lt_of_lt_of_eq hN' N_0.symm⟩ r n)).trans ?_
  simp only [hs, hq]
  rfl

/-- The cotangent with zeros put in after its place 2176 and at its end. -/
def fillC (x : Vec Ideal S8192x2208 .bf16) : Vec Ideal S8192x2304 .bf16 :=
  concatenate S8192x2304 1 [⟨S8192x2176, (extractStridedSlice S8192x2176 ![0, 0] x slices_S8192x2208_S8192x2176_0_0 : Vec Ideal S8192x2176 .bf16)⟩, ⟨S8192x64, (broadcastInDim S8192x64 ![] bcast_S_S8192x64 (constant S_ .bf16 0x0000#16 : FVec Ideal S_ .bf16) : Vec Ideal S8192x64 .bf16)⟩,
    ⟨S8192x32, (extractStridedSlice S8192x32 ![0, 2176] x slices_S8192x2208_S8192x32_0_2176 : Vec Ideal S8192x32 .bf16)⟩, ⟨S8192x32, (broadcastInDim S8192x32 ![] bcast_S_S8192x32 (constant S_ .bf16 0x0000#16 : FVec Ideal S_ .bf16) : Vec Ideal S8192x32 .bf16)⟩] concatenates_S8192x2176_S8192x64_S8192x32_S8192x32_S8192x2304_d1

/-- The cotangent so filled, at part 1. -/
theorem fillC_at0 (x : Vec Ideal S8192x2208 .bf16) (k : Fin 2176) (n : Fin 8192) : fillC x (ix2 n ⟨k.val, by omega⟩) = x (ix2 n ⟨k.val, by omega⟩) := by
  unfold fillC
  pointwise

/-- The cotangent so filled, at part 2. -/
theorem fillC_at1 (x : Vec Ideal S8192x2208 .bf16) (k : Fin 64) (n : Fin 8192) : fillC x (ix2 n ⟨2176 + k.val, by omega⟩) = 0 := by
  unfold fillC
  pointwise

/-- The cotangent so filled, at part 3. -/
theorem fillC_at2 (x : Vec Ideal S8192x2208 .bf16) (k : Fin 32) (n : Fin 8192) : fillC x (ix2 n ⟨2240 + k.val, by omega⟩) = x (ix2 n ⟨2176 + k.val, by omega⟩) := by
  unfold fillC
  pointwise
  have h1 : ¬ 2240 + k.val < 2176 := by omega
  have h2 : ¬ 2240 + k.val - 2176 < 64 := by omega
  have h3 :  2240 + k.val - 2176 - 64 < 32 := by omega
  have h4 : 2176 + (2240 + k.val - 2176 - 64) = 2176 + k.val := by omega
  simp only [h1, h2, h3, h4, ↓reduceDIte]

/-- The cotangent so filled, at part 4. -/
theorem fillC_at3 (x : Vec Ideal S8192x2208 .bf16) (k : Fin 32) (n : Fin 8192) : fillC x (ix2 n ⟨2272 + k.val, by omega⟩) = 0 := by
  unfold fillC
  pointwise
  have h1 : ¬ 2272 + k.val < 2176 := by omega
  have h2 : ¬ 2272 + k.val - 2176 < 64 := by omega
  have h3 : ¬ 2272 + k.val - 2176 - 64 < 32 := by omega
  simp only [h1, h2, h3, ↓reduceDIte]

/-- The transposed weight with zeros put in after its place 2176 and at its end. -/
def fillR (x : Vec Ideal S2208x1024 .bf16) : Vec Ideal S2304x1024 .bf16 :=
  concatenate S2304x1024 0 [⟨S2176x1024, (extractStridedSlice S2176x1024 ![0, 0] x slices_S2208x1024_S2176x1024_0_0 : Vec Ideal S2176x1024 .bf16)⟩, ⟨S64x1024, (broadcastInDim S64x1024 ![] bcast_S_S64x1024 (constant S_ .bf16 0x0000#16 : FVec Ideal S_ .bf16) : Vec Ideal S64x1024 .bf16)⟩,
    ⟨S32x1024, (extractStridedSlice S32x1024 ![2176, 0] x slices_S2208x1024_S32x1024_2176_0 : Vec Ideal S32x1024 .bf16)⟩, ⟨S32x1024, (broadcastInDim S32x1024 ![] bcast_S_S32x1024 (constant S_ .bf16 0x0000#16 : FVec Ideal S_ .bf16) : Vec Ideal S32x1024 .bf16)⟩] concatenates_S2176x1024_S64x1024_S32x1024_S32x1024_S2304x1024_d0

/-- The transposed weight so filled, at part 1. -/
theorem fillR_at0 (x : Vec Ideal S2208x1024 .bf16) (k : Fin 2176) (n : Fin 1024) : fillR x (ix2 ⟨k.val, by omega⟩ n) = x (ix2 ⟨k.val, by omega⟩ n) := by
  unfold fillR
  pointwise

/-- The transposed weight so filled, at part 2. -/
theorem fillR_at1 (x : Vec Ideal S2208x1024 .bf16) (k : Fin 64) (n : Fin 1024) : fillR x (ix2 ⟨2176 + k.val, by omega⟩ n) = 0 := by
  unfold fillR
  pointwise

/-- The transposed weight so filled, at part 3. -/
theorem fillR_at2 (x : Vec Ideal S2208x1024 .bf16) (k : Fin 32) (n : Fin 1024) : fillR x (ix2 ⟨2240 + k.val, by omega⟩ n) = x (ix2 ⟨2176 + k.val, by omega⟩ n) := by
  unfold fillR
  pointwise
  have h1 : ¬ 2240 + k.val < 2176 := by omega
  have h2 : ¬ 2240 + k.val - 2176 < 64 := by omega
  have h3 :  2240 + k.val - 2176 - 64 < 32 := by omega
  have h4 : 2176 + (2240 + k.val - 2176 - 64) = 2176 + k.val := by omega
  simp only [h1, h2, h3, h4, ↓reduceDIte]

/-- The transposed weight so filled, at part 4. -/
theorem fillR_at3 (x : Vec Ideal S2208x1024 .bf16) (k : Fin 32) (n : Fin 1024) : fillR x (ix2 ⟨2272 + k.val, by omega⟩ n) = 0 := by
  unfold fillR
  pointwise
  have h1 : ¬ 2272 + k.val < 2176 := by omega
  have h2 : ¬ 2272 + k.val - 2176 < 64 := by omega
  have h3 : ¬ 2272 + k.val - 2176 - 64 < 32 := by omega
  simp only [h1, h2, h3, ↓reduceDIte]

/-- The weight's rows. -/
def turn (w : Vec Ideal S1024x2208 .f32) : Vec Ideal S2208x1024 .bf16 :=
  (truncf .bf16 (transpose S2208x1024 [1, 0] w transposes_S1024x2208_S2208x1024_1_0 : FVec Ideal S2208x1024 .f32) bitsLt_bf16_f32 : FVec Ideal S2208x1024 .bf16)

/-- The weight's rows at an entry. -/
theorem turn_at (w : Vec Ideal S1024x2208 .f32) (k : Fin 2208) (n : Fin 1024) : turn w (ix2 k n) = w (ix2 n k) := by
  unfold turn
  pointwise

/-- The lines that fill the cotangent. -/
theorem lines_a (W : Valuation τ sig (Elt Ideal)) : StableHlo.after hostOps0 W (Proc.devRef .tc main_v12)
    = fillC (truncf .bf16 (W (Proc.devRef .tc main_arg1) : FVec Ideal S8192x2208 .f32) bitsLt_bf16_f32 : FVec Ideal S8192x2208 .bf16) := by
  dsimp only [hostOps0]
  after_reads_simp
  rfl

/-- The lines that fill the weight. -/
theorem lines_b (W : Valuation τ sig (Elt Ideal)) : StableHlo.after hostOps0 W (Proc.devRef .tc main_v6)
    = fillR (turn (W (Proc.devRef .tc main_arg0))) := by
  dsimp only [hostOps0]
  after_reads_simp
  rfl

/-- The first operand is the filled cotangent. -/
theorem V_a : V m c main_v12 = (fillC (m ((c : Thread nD τ).loc main_arg1) : Vec Ideal S8192x2208 .f32) : Vec Ideal S8192x2304 .bf16) := by
  show StableHlo.after hostOps0 (fun b => m (c, b)) (Proc.devRef .tc main_v12) = _
  rw [lines_a]
  rfl

/-- The second operand is the filled weight. -/
theorem V_b : V m c main_v6 = (fillR (turn (m ((c : Thread nD τ).loc main_arg0))) : Vec Ideal S2304x1024 .bf16) := by
  show StableHlo.after hostOps0 (fun b => m (c, b)) (Proc.devRef .tc main_v6) = _
  rw [lines_b]

/-- The product of the two filled arguments. -/
def R (w : Vec Ideal S1024x2208 .f32) (u : Vec Ideal S8192x2208 .f32) : Vec Ideal S8192x1024 .f32 := G (fillC u) (fillR (turn w))

/-- The array after the run, from the arguments. -/
theorem result : (dats m 0 c).arrAt 2 cfg0.N = R (m ((c : Thread nD τ).loc main_arg0)) (m ((c : Thread nD τ).loc main_arg1)) :=
  (final m c).trans (congrArg₂ G (V_a m c) (V_b m c))

/-- A sum over the filled axis, by parts. -/
theorem sum_parts (F : Fin 2304 → EReal) : (∑ k : Fin 2304, F k)
    = (∑ k : Fin 2176, F ⟨k.val, by omega⟩) + (∑ k : Fin 64, F ⟨2176 + k.val, by omega⟩)
      + (∑ k : Fin 32, F ⟨2240 + k.val, by omega⟩) + ∑ k : Fin 32, F ⟨2272 + k.val, by omega⟩ := by
  have e1 := Fin.sum_univ_add (a := 2272) (b := 32) F
  have e2 := Fin.sum_univ_add (a := 2240) (b := 32) (fun k => F (Fin.castAdd 32 k))
  have e3 := Fin.sum_univ_add (a := 2176) (b := 64) (fun k => F (Fin.castAdd 32 (Fin.castAdd 32 k)))
  exact e1.trans (congrArg (· + _) (e2.trans (congrArg (· + _) e3)))

/-- A sum over the axis, by parts. -/
theorem sum_two (F : Fin 2208 → EReal) : (∑ k : Fin 2208, F k)
    = (∑ k : Fin 2176, F ⟨k.val, by omega⟩) + ∑ k : Fin 32, F ⟨2176 + k.val, by omega⟩ :=
  Fin.sum_univ_add (a := 2176) (b := 32) F

/-- The filled product at an entry is the plain one. -/
theorem R_at (w : Vec Ideal S1024x2208 .f32) (u : Vec Ideal S8192x2208 .f32) (r : Fin 8192) (n : Fin 1024) :
    R w u (ix2 r n) = ∑ k : Fin 2208, u (ix2 r k) * w (ix2 n k) := by
  show (∑ k : Fin 2304, fillC u (ix2 r k) * fillR (turn w) (ix2 k n) : EReal) = _
  rw [sum_parts, sum_two]
  simp only [fillC_at0, fillC_at1, fillC_at2, fillC_at3, fillR_at0, fillR_at1, fillR_at2, fillR_at3, turn_at, mul_zero, Finset.sum_const_zero, add_zero]

/-- The reference's result is the same product. -/
theorem reference_eq (w : Vec Ideal S1024x2208 .f32) (u : Vec Ideal S8192x2208 .f32) :
    Cert.ReferenceDh1Ideal.Read.val_main_v2 (F := Ideal) w u = R w u := by
  funext i
  obtain ⟨r, n, rfl⟩ : ∃ (r : Fin 8192) (n : Fin 1024), i = ix2 r n := ⟨i 0, i 1, eq_ix2 i⟩
  rw [R_at, Cert.ReferenceDh1Ideal.Read.val_main_v2_apply]
  refine Finset.sum_congr rfl fun k _ => congrArg₂ (fun a b : EReal => a * b) (congrArg u ?_) (congrArg w ?_)
  · funext a; fin_cases a <;> rfl
  · funext a; fin_cases a <;> rfl

/-- The reference program changes no argument and leaves no counter. -/
theorem frame_reference : Cert.quiescent_ReferenceDh1Ideal := fun m ρ _ =>
  (θ_run Cert.ReferenceDh1Ideal.defs _ _).mono
    (fun r h => ⟨fun c => (h c).2, Idealize.ShloMosaic.sem_eq_zero_of_no_sems (by decide) r.2⟩)
    (Cert.ReferenceDh1Ideal.Value.run (F := Ideal) m ρ)

/-- The kernel's result and the reference's are one array. -/
theorem value : Cert.algebraic_KernelDh1Ideal_ReferenceDh1Ideal := by
  intro m g m' g' _ hm
  refine ⟨fun c => R (m ((c : Thread nD τ).loc main_arg0)) (m ((c : Thread nD τ).loc main_arg1)), ?_, ?_⟩
  · exact (θ_run defs _ _).mono (fun r h c => ⟨(h c).1.trans (result m c), (h c).2⟩) (Value.run_blocks m g)
  · refine (θ_run Cert.ReferenceDh1Ideal.defs _ _).mono (fun r h c => ⟨(h c).1.trans ?_, (h c).2⟩) (Cert.ReferenceDh1Ideal.Value.run (F := Ideal) m' g')
    rw [(hm c).1, (hm c).2]
    exact reference_eq _ _

end Cert.Proof.Dh1
-- ==== Proof.Adam.lean ====
/- One entry of the optimiser's step: the sum of the eight devices' parts, the two moments and the step itself. -/
module

public import Idealize.ShloMosaic.Lib.Pipeline.ValueKit

@[expose] public section

noncomputable section

namespace Cert.Proof.Adam

open Idealize.ShloMosaic

/-- The first moment after a gradient. -/
def first (g m : Ideal .f32) : Ideal .f32 :=
  FloatOps.addf (FloatOps.mulf (FloatOps.ofBits .f32 0x3F666666#32) m) (FloatOps.mulf (FloatOps.ofBits .f32 0x3DCCCCCD#32) g)

/-- The second moment after a gradient. -/
def second (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The step from a gradient, a weight and its two moments. -/
def step (g w m v : Ideal .f32) : Ideal .f32 :=
  FloatOps.mulf (FloatOps.ofBits .f32 0xBA83126F#32)
    (FloatOps.addf
      (FloatOps.divf (FloatOps.divf (first g m) (FloatOps.ofBits .f32 0x3F26BD02#32))
        (FloatOps.addf (FloatOps.sqrt (FloatOps.divf (second g v) (FloatOps.ofBits .f32 0x3C231ACC#32))) (FloatOps.ofBits .f32 0x322BCC77#32)))
      (FloatOps.mulf (FloatOps.ofBits .f32 0x3C23D70A#32) w))

/-- Eight parts added one after the other are their sum. -/
theorem eight (f : Fin 8 → EReal) : f 0 + f 1 + f 2 + f 3 + f 4 + f 5 + f 6 + f 7 = ∑ k : Fin 8, f k :=
  (Fin.sum_univ_eight f).symm

end Cert.Proof.Adam
-- ==== Proof.AdamWo.lean ====
/- The optimiser's step on the attention's output weight: one block holds everything. -/
module

public import proofs.«01_k».proof.Defs
public import proofs.«01_k».proof.Proof.Gen.KernelAdamWo
public import proofs.«01_k».proof.Proof.Gen.KernelAdamWo.Frame
public import proofs.«01_k».proof.Proof.Gen.KernelAdamWoIdeal
public import proofs.«01_k».proof.Proof.Gen.KernelAdamWoIdeal.Frame
public import proofs.«01_k».proof.Proof.Gen.KernelAdamWoIdeal.Value
public import proofs.«01_k».proof.Proof.Gen.ReferenceAdamWoIdeal
public import proofs.«01_k».proof.Proof.Gen.ReferenceAdamWoIdeal.Run
public import proofs.«01_k».proof.Proof.Gen.ReferenceAdamWoIdeal.Read
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.AdamWo

open Cert.KernelAdamWoIdeal Cert.KernelAdamWoIdeal.Gen Idealize.ShloMosaic Idealize.ShloMosaic.TcCoe Idealize.SL.Sem

variable (m : (ℓ : Loc nD τ sig) → Buf (Elt Ideal) ℓ) (c : Dev nD)

/-- The gradient: the sum of the eight devices' parts. -/
def grad (x : Vec Ideal S8x128x1024 .f32) : Vec Ideal S128x1024 .f32 :=
  fun i => (∑ k : Fin 8, x (ix3 k (i 0) (i 1)) : EReal)

/-- The step of every entry. -/
def delta (g w a b : Vec Ideal S128x1024 .f32) : Vec Ideal S128x1024 .f32 := fun i => Adam.step (g i) (w i) (a i) (b i)

/-- The first moments after the step. -/
def first (g a : Vec Ideal S128x1024 .f32) : Vec Ideal S128x1024 .f32 := fun i => Adam.first (g i) (a i)

/-- The second moments after the step. -/
def second (g b : Vec Ideal S128x1024 .f32) : Vec Ideal S128x1024 .f32 := fun i => Adam.second (g i) (b i)

/-- The body's gradient. -/
theorem pay_at (x0 : Vec Ideal S8x128x1024 .bf16) (r : Fin 128) (n : Fin 1024) :
    k0_pay4 (View.ld x0 r0_0) (View.ld x0 r0_1) (View.ld x0 r0_2) (View.ld x0 r0_3) (View.ld x0 r0_4) (View.ld x0 r0_5) (View.ld x0 r0_6) (View.ld x0 r0_7) (ix2 r n) = (∑ k : Fin 8, x0 (ix3 k r n) : EReal) := by
  rw [← Adam.eight (fun k => x0 (ix3 k r n))]
  unfold k0_pay4
  pointwise

/-- The body's gradient in its buffer. -/
theorem out4 (x0 : Vec Ideal S8x128x1024 .bf16) (x1 x2 x3 : Vec Ideal S128x1024 .f32) : out0_4 x0 x1 x2 x3 = grad x0 := by
  have e : out0_4 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) := by
    unfold out0_4
    frame_out
  rw [e]
  funext i
  obtain ⟨r, n, rfl⟩ : ∃ r n, i = ix2 r n := ⟨i 0, i 1, eq_ix2 i⟩
  exact pay_at x0 r n

/-- The body's step in its buffer. -/
theorem out5 (x0 : Vec Ideal S8x128x1024 .bf16) (x1 x2 x3 : Vec Ideal S128x1024 .f32) : out0_5 x0 x1 x2 x3 = delta (grad x0) x1 x2 x3 := by
  have e : out0_5 x0 x1 x2 x3 = k0_pay3 (k0_pay5 x0 x1 x2 x3) x2 x3 x1 := by
    unfold out0_5
    frame_out
  rw [e]
  funext i
  obtain ⟨r, n, rfl⟩ : ∃ r n, i = ix2 r n := ⟨i 0, i 1, eq_ix2 i⟩
  exact congrArg (fun g => Adam.step g (x1 (ix2 r n)) (x2 (ix2 r n)) (x3 (ix2 r n))) (pay_at x0 r n)

/-- The body's first moment in its buffer. -/
theorem out6 (x0 : Vec Ideal S8x128x1024 .bf16) (x1 x2 x3 : Vec Ideal S128x1024 .f32) : out0_6 x0 x1 x2 x3 = first (grad x0) x2 := by
  have e : out0_6 x0 x1 x2 x3 = k0_pay1 (k0_pay5 x0 x1 x2 x3) x2 := by
    unfold out0_6
    frame_out
  rw [e]
  funext i
  obtain ⟨r, n, rfl⟩ : ∃ r n, i = ix2 r n := ⟨i 0, i 1, eq_ix2 i⟩
  exact congrArg (fun g => Adam.first g (x2 (ix2 r n))) (pay_at x0 r n)

/-- The body's second moment in its buffer. -/
theorem out7 (x0 : Vec Ideal S8x128x1024 .bf16) (x1 x2 x3 : Vec Ideal S128x1024 .f32) : out0_7 x0 x1 x2 x3 = second (grad x0) x3 := by
  have e : out0_7 x0 x1 x2 x3 = k0_pay2 (k0_pay5 x0 x1 x2 x3) x3 := by
    unfold out0_7
    frame_out
  rw [e]
  funext i
  obtain ⟨r, n, rfl⟩ : ∃ r n, i = ix2 r n := ⟨i 0, i 1, eq_ix2 i⟩
  exact congrArg (fun g => Adam.second g (x3 (ix2 r n))) (pay_at x0 r n)

/-- The parts' block is all of them. -/
theorem read_0 (X : Vec Ideal S8x128x1024 .bf16) (t : Fin cfg0.N) : ((win0_0.blk t).view.read (Elt Ideal) X : Vec Ideal S8x128x1024 .bf16) = X := by
  have h : ∀ t : Fin cfg0.N, win0_0.index t = ![0, 0, 0] := (by decide +kernel : ∀ t : Fin grid0.N, _)
  funext i
  obtain ⟨a, b, d, rfl⟩ : ∃ a b d, i = ix3 a b d := ⟨i 0, i 1, i 2, eq_ix3 i⟩
  blk_ext [h t]

/-- The weight's block is all of it. -/
theorem read_1 (X : Vec Ideal S128x1024 .f32) (t : Fin cfg0.N) : ((win0_1.blk t).view.read (Elt Ideal) X : Vec Ideal S128x1024 .f32) = X := by
  have h : ∀ t : Fin cfg0.N, win0_1.index t = ![0, 0] := (by decide +kernel : ∀ t : Fin grid0.N, _)
  funext i
  obtain ⟨a, b, rfl⟩ : ∃ a b, i = ix2 a b := ⟨i 0, i 1, eq_ix2 i⟩
  blk_ext [h t]

/-- The first moments' block is all of them. -/
theorem read_2 (X : Vec Ideal S128x1024 .f32) (t : Fin cfg0.N) : ((win0_2.blk t).view.read (Elt Ideal) X : Vec Ideal S128x1024 .f32) = X := by
  have h : ∀ t : Fin cfg0.N, win0_2.index t = ![0, 0] := (by decide +kernel : ∀ t : Fin grid0.N, _)
  funext i
  obtain ⟨a, b, rfl⟩ : ∃ a b, i = ix2 a b := ⟨i 0, i 1, eq_ix2 i⟩
  blk_ext [h t]

/-- The second moments' block is all of them. -/
theorem read_3 (X : Vec Ideal S128x1024 .f32) (t : Fin cfg0.N) : ((win0_3.blk t).view.read (Elt Ideal) X : Vec Ideal S128x1024 .f32) = X := by
  have h : ∀ t : Fin cfg0.N, win0_3.index t = ![0, 0] := (by decide +kernel : ∀ t : Fin grid0.N, _)
  funext i
  obtain ⟨a, b, rfl⟩ : ∃ a b, i = ix2 a b := ⟨i 0, i 1, eq_ix2 i⟩
  blk_ext [h t]

/-- The gradient in its array after the run. -/
theorem final4 : (dats m 0 c).arrAt 4 cfg0.N = grad (V m c main_v0) := by
  have h : ∀ t : Fin cfg0.N, win0_4.index t = ![0, 0] := (by decide +kernel : ∀ t : Fin grid0.N, _)
  refine (dats m 0 c).arrAt_eq_of_covers 4 _ (by decide +kernel) fun t hf y => ?_
  obtain ⟨r, n, rfl⟩ : ∃ (r : Fin 128) (n : Fin 1024), y = ix2 r n := ⟨y 0, y 1, eq_ix2 y⟩
  have e : ((win0_4.blk t).view.emb (ix2 r n) : S128x1024.Idx) = ix2 r n := by blk_ext [h t]
  blk_simp
  rw [after0_4, out4]
  exact (congrFun (congrArg grad (read_0 (V m c main_v0) t)) _).trans (congrArg (grad (V m c main_v0)) e).symm

/-- The step in its array after the run. -/
theorem final5 : (dats m 0 c).arrAt 5 cfg0.N = delta (grad (V m c main_v0)) (V m c main_arg1) (V m c main_arg2) (V m c main_arg3) := by
  have h : ∀ t : Fin cfg0.N, win0_5.index t = ![0, 0] := (by decide +kernel : ∀ t : Fin grid0.N, _)
  refine (dats m 0 c).arrAt_eq_of_covers 5 _ (by decide +kernel) fun t hf y => ?_
  obtain ⟨r, n, rfl⟩ : ∃ (r : Fin 128) (n : Fin 1024), y = ix2 r n := ⟨y 0, y 1, eq_ix2 y⟩
  have e : ((win0_5.blk t).view.emb (ix2 r n) : S128x1024.Idx) = ix2 r n := by blk_ext [h t]
  blk_simp
  rw [after0_5, out5]
  exact (congrFun (congr (congr (congrArg₂ delta (congrArg grad (read_0 (V m c main_v0) t)) (read_1 (V m c main_arg1) t)) (read_2 (V m c main_arg2) t)) (read_3 (V m c main_arg3) t)) _).trans (congrArg (delta (grad (V m c main_v0)) (V m c main_arg1) (V m c main_arg2) (V m c main_arg3)) e).symm

/-- The first moment in its array after the run. -/
theorem final6 : (dats m 0 c).arrAt 6 cfg0.N = first (grad (V m c main_v0)) (V m c main_arg2) := by
  have h : ∀ t : Fin cfg0.N, win0_6.index t = ![0, 0] := (by decide +kernel : ∀ t : Fin grid0.N, _)
  refine (dats m 0 c).arrAt_eq_of_covers 6 _ (by decide +kernel) fun t hf y => ?_
  obtain ⟨r, n, rfl⟩ : ∃ (r : Fin 128) (n : Fin 1024), y = ix2 r n := ⟨y 0, y 1, eq_ix2 y⟩
  have e : ((win0_6.blk t).view.emb (ix2 r n) : S128x1024.Idx) = ix2 r n := by blk_ext [h t]
  blk_simp
  rw [after0_6, out6]
  exact (congrFun (congrArg₂ first (congrArg grad (read_0 (V m c main_v0) t)) (read_2 (V m c main_arg2) t)) _).trans (congrArg (first (grad (V m c main_v0)) (V m c main_arg2)) e).symm

/-- The second moment in its array after the run. -/
theorem final7 : (dats m 0 c).arrAt 7 cfg0.N = second (grad (V m c main_v0)) (V m c main_arg3) := by
  have h : ∀ t : Fin cfg0.N, win0_7.index t = ![0, 0] := (by decide +kernel : ∀ t : Fin grid0.N, _)
  refine (dats m 0 c).arrAt_eq_of_covers 7 _ (by decide +kernel) fun t hf y => ?_
  obtain ⟨r, n, rfl⟩ : ∃ (r : Fin 128) (n : Fin 1024), y = ix2 r n := ⟨y 0, y 1, eq_ix2 y⟩
  have e : ((win0_7.blk t).view.emb (ix2 r n) : S128x1024.Idx) = ix2 r n := by blk_ext [h t]
  blk_simp
  rw [after0_7, out7]
  exact (congrFun (congrArg₂ second (congrArg grad (read_0 (V m c main_v0) t)) (read_3 (V m c main_arg3) t)) _).trans (congrArg (second (grad (V m c main_v0)) (V m c main_arg3)) e).symm

/-- The parts reach the region unchanged. -/
theorem V_a : V m c main_v0 = (m ((c : Thread nD τ).loc main_arg0) : Vec Ideal S8x128x1024 .f32) := by
  show StableHlo.after hostOps0 (fun b => m (c, b)) (Proc.devRef .tc main_v0) = _
  dsimp only [hostOps0]
  after_reads_simp
  rfl

/-- The weight reaches the region unchanged. -/
theorem V_w : V m c main_arg1 = m ((c : Thread nD τ).loc main_arg1) := by
  show StableHlo.after hostOps0 (fun b => m (c, b)) (Proc.devRef .tc main_arg1) = _
  dsimp only [hostOps0]
  after_reads_simp

/-- The first moments reach the region unchanged. -/
theorem V_m : V m c main_arg2 = m ((c : Thread nD τ).loc main_arg2) := by
  show StableHlo.after hostOps0 (fun b => m (c, b)) (Proc.devRef .tc main_arg2) = _
  dsimp only [hostOps0]
  after_reads_simp

/-- The second moments reach the region unchanged. -/
theorem V_v : V m c main_arg3 = m ((c : Thread nD τ).loc main_arg3) := by
  show StableHlo.after hostOps0 (fun b => m (c, b)) (Proc.devRef .tc main_arg3) = _
  dsimp only [hostOps0]
  after_reads_simp

/-- The reference's gradient. -/
theorem reference4 (x : Vec Ideal S8x128x1024 .f32) : Cert.ReferenceAdamWoIdeal.Read.val_main_v0 (F := Ideal) x = grad x := by
  funext i
  rw [Cert.ReferenceAdamWoIdeal.Read.val_main_v0_apply, Cert.ReferenceAdamWoIdeal.Read.val_main_cst_apply]
  refine Eq.trans (congrArg₂ (fun a b : EReal => a + b) Ideal.ofBits_zero_f32 ?_) (zero_add _)
  exact Finset.sum_congr rfl fun k _ => congrArg x (by funext a; fin_cases a <;> rfl)

/-- The reference's first moments. -/
theorem reference6 (x : Vec Ideal S8x128x1024 .f32) (a : Vec Ideal S128x1024 .f32) :
    Cert.ReferenceAdamWoIdeal.Read.val_main_v5 (F := Ideal) x a = first (grad x) a := by
  rw [← reference4 x]
  rfl

/-- The reference's second moments. -/
theorem reference7 (x : Vec Ideal S8x128x1024 .f32) (b : Vec Ideal S128x1024 .f32) :
    Cert.ReferenceAdamWoIdeal.Read.val_main_v11 (F := Ideal) x b = second (grad x) b := by
  rw [← reference4 x]
  rfl

/-- The reference's step. -/
theorem reference5 (x : Vec Ideal S8x128x1024 .f32) (w a b : Vec Ideal S128x1024 .f32) :
    Cert.ReferenceAdamWoIdeal.Read.val_main_v24 (F := Ideal) x w a b = delta (grad x) w a b := by
  rw [← reference4 x]
  rfl

/-- The reference program changes no argument and leaves no counter. -/
theorem frame_reference : Cert.quiescent_ReferenceAdamWoIdeal := fun m ρ _ =>
  (θ_run Cert.ReferenceAdamWoIdeal.defs _ _).mono
    (fun r h => ⟨fun c => (h c).2.2.2.2, Idealize.ShloMosaic.sem_eq_zero_of_no_sems (by decide) r.2⟩)
    (Cert.ReferenceAdamWoIdeal.Value.run (F := Ideal) m ρ)

/-- The kernel's four results and the reference's are the same. -/
theorem value : Cert.algebraic_KernelAdamWoIdeal_ReferenceAdamWoIdeal := by
  intro m g m' g' _ hm
  refine ⟨fun c => grad (m ((c : Thread nD τ).loc main_arg0)),
    fun c => delta (grad (m ((c : Thread nD τ).loc main_arg0))) (m ((c : Thread nD τ).loc main_arg1)) (m ((c : Thread nD τ).loc main_arg2)) (m ((c : Thread nD τ).loc main_arg3)),
    fun c => first (grad (m ((c : Thread nD τ).loc main_arg0))) (m ((c : Thread nD τ).loc main_arg2)),
    fun c => second (grad (m ((c : Thread nD τ).loc main_arg0))) (m ((c : Thread nD τ).loc main_arg3)), ?_, ?_⟩
  · refine (θ_run defs _ _).mono (fun r h c => ?_) (Value.run_blocks m g)
    obtain ⟨h4, h5, h6, h7, h⟩ := h c
    rw [final4 m c, V_a] at h4
    rw [final5 m c, V_a, V_w, V_m, V_v] at h5
    rw [final6 m c, V_a, V_m] at h6
    rw [final7 m c, V_a, V_v] at h7
    exact ⟨h4, h5, h6, h7, h⟩
  · refine (θ_run Cert.ReferenceAdamWoIdeal.defs _ _).mono (fun r h c => ?_) (Cert.ReferenceAdamWoIdeal.Value.run (F := Ideal) m' g')
    obtain ⟨h4, h5, h6, h7, h⟩ := h c
    obtain ⟨e0, e1, e2, e3⟩ := hm c
    refine ⟨h4.trans ?_, h5.trans ?_, h6.trans ?_, h7.trans ?_, h⟩
    · rw [e0]; exact reference4 _
    · rw [e0, e1, e2, e3]; exact reference5 _ _ _ _
    · rw [e0, e2]; exact reference6 _ _
    · rw [e0, e3]; exact reference7 _ _

end Cert.Proof.AdamWo
-- ==== Proof.AdamWdown.lean ====
/- The optimiser's step on the feed-forward's second weight: one block holds everything. -/
module

public import proofs.«01_k».proof.Defs
public import proofs.«01_k».proof.Proof.Gen.KernelAdamWdown
public import proofs.«01_k».proof.Proof.Gen.KernelAdamWdown.Frame
public import proofs.«01_k».proof.Proof.Gen.KernelAdamWdownIdeal
public import proofs.«01_k».proof.Proof.Gen.KernelAdamWdownIdeal.Frame
public import proofs.«01_k».proof.Proof.Gen.KernelAdamWdownIdeal.Value
public import proofs.«01_k».proof.Proof.Gen.ReferenceAdamWdownIdeal
public import proofs.«01_k».proof.Proof.Gen.ReferenceAdamWdownIdeal.Run
public import proofs.«01_k».proof.Proof.Gen.ReferenceAdamWdownIdeal.Read
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.AdamWdown

open Cert.KernelAdamWdownIdeal Cert.KernelAdamWdownIdeal.Gen Idealize.ShloMosaic Idealize.ShloMosaic.TcCoe Idealize.SL.Sem

variable (m : (ℓ : Loc nD τ sig) → Buf (Elt Ideal) ℓ) (c : Dev nD)

/-- The gradient: the sum of the eight devices' parts. -/
def grad (x : Vec Ideal S8x352x1024 .f32) : Vec Ideal S352x1024 .f32 :=
  fun i => (∑ k : Fin 8, x (ix3 k (i 0) (i 1)) : EReal)

/-- The step of every entry. -/
def delta (g w a b : Vec Ideal S352x1024 .f32) : Vec Ideal S352x1024 .f32 := fun i => Adam.step (g i) (w i) (a i) (b i)

/-- The first moments after the step. -/
def first (g a : Vec Ideal S352x1024 .f32) : Vec Ideal S352x1024 .f32 := fun i => Adam.first (g i) (a i)

/-- The second moments after the step. -/
def second (g b : Vec Ideal S352x1024 .f32) : Vec Ideal S352x1024 .f32 := fun i => Adam.second (g i) (b i)

/-- The body's gradient. -/
theorem pay_at (x0 : Vec Ideal S8x352x1024 .bf16) (r : Fin 352) (n : Fin 1024) :
    k0_pay4 (View.ld x0 r0_0) (View.ld x0 r0_1) (View.ld x0 r0_2) (View.ld x0 r0_3) (View.ld x0 r0_4) (View.ld x0 r0_5) (View.ld x0 r0_6) (View.ld x0 r0_7) (ix2 r n) = (∑ k : Fin 8, x0 (ix3 k r n) : EReal) := by
  rw [← Adam.eight (fun k => x0 (ix3 k r n))]
  unfold k0_pay4
  pointwise

/-- The body's gradient in its buffer. -/
theorem out4 (x0 : Vec Ideal S8x352x1024 .bf16) (x1 x2 x3 : Vec Ideal S352x1024 .f32) : out0_4 x0 x1 x2 x3 = grad x0 := by
  have e : out0_4 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) := by
    unfold out0_4
    frame_out
  rw [e]
  funext i
  obtain ⟨r, n, rfl⟩ : ∃ r n, i = ix2 r n := ⟨i 0, i 1, eq_ix2 i⟩
  exact pay_at x0 r n

/-- The body's step in its buffer. -/
theorem out5 (x0 : Vec Ideal S8x352x1024 .bf16) (x1 x2 x3 : Vec Ideal S352x1024 .f32) : out0_5 x0 x1 x2 x3 = delta (grad x0) x1 x2 x3 := by
  have e : out0_5 x0 x1 x2 x3 = k0_pay3 (k0_pay5 x0 x1 x2 x3) x2 x3 x1 := by
    unfold out0_5
    frame_out
  rw [e]
  funext i
  obtain ⟨r, n, rfl⟩ : ∃ r n, i = ix2 r n := ⟨i 0, i 1, eq_ix2 i⟩
  exact congrArg (fun g => Adam.step g (x1 (ix2 r n)) (x2 (ix2 r n)) (x3 (ix2 r n))) (pay_at x0 r n)

/-- The body's first moment in its buffer. -/
theorem out6 (x0 : Vec Ideal S8x352x1024 .bf16) (x1 x2 x3 : Vec Ideal S352x1024 .f32) : out0_6 x0 x1 x2 x3 = first (grad x0) x2 := by
  have e : out0_6 x0 x1 x2 x3 = k0_pay1 (k0_pay5 x0 x1 x2 x3) x2 := by
    unfold out0_6
    frame_out
  rw [e]
  funext i
  obtain ⟨r, n, rfl⟩ : ∃ r n, i = ix2 r n := ⟨i 0, i 1, eq_ix2 i⟩
  exact congrArg (fun g => Adam.first g (x2 (ix2 r n))) (pay_at x0 r n)

/-- The body's second moment in its buffer. -/
theorem out7 (x0 : Vec Ideal S8x352x1024 .bf16) (x1 x2 x3 : Vec Ideal S352x1024 .f32) : out0_7 x0 x1 x2 x3 = second (grad x0) x3 := by
  have e : out0_7 x0 x1 x2 x3 = k0_pay2 (k0_pay5 x0 x1 x2 x3) x3 := by
    unfold out0_7
    frame_out
  rw [e]
  funext i
  obtain ⟨r, n, rfl⟩ : ∃ r n, i = ix2 r n := ⟨i 0, i 1, eq_ix2 i⟩
  exact congrArg (fun g => Adam.second g (x3 (ix2 r n))) (pay_at x0 r n)

/-- The parts' block is all of them. -/
theorem read_0 (X : Vec Ideal S8x352x1024 .bf16) (t : Fin cfg0.N) : ((win0_0.blk t).view.read (Elt Ideal) X : Vec Ideal S8x352x1024 .bf16) = X := by
  have h : ∀ t : Fin cfg0.N, win0_0.index t = ![0, 0, 0] := (by decide +kernel : ∀ t : Fin grid0.N, _)
  funext i
  obtain ⟨a, b, d, rfl⟩ : ∃ a b d, i = ix3 a b d := ⟨i 0, i 1, i 2, eq_ix3 i⟩
  blk_ext [h t]

/-- The weight's block is all of it. -/
theorem read_1 (X : Vec Ideal S352x1024 .f32) (t : Fin cfg0.N) : ((win0_1.blk t).view.read (Elt Ideal) X : Vec Ideal S352x1024 .f32) = X := by
  have h : ∀ t : Fin cfg0.N, win0_1.index t = ![0, 0] := (by decide +kernel : ∀ t : Fin grid0.N, _)
  funext i
  obtain ⟨a, b, rfl⟩ : ∃ a b, i = ix2 a b := ⟨i 0, i 1, eq_ix2 i⟩
  blk_ext [h t]

/-- The first moments' block is all of them. -/
theorem read_2 (X : Vec Ideal S352x1024 .f32) (t : Fin cfg0.N) : ((win0_2.blk t).view.read (Elt Ideal) X : Vec Ideal S352x1024 .f32) = X := by
  have h : ∀ t : Fin cfg0.N, win0_2.index t = ![0, 0] := (by decide +kernel : ∀ t : Fin grid0.N, _)
  funext i
  obtain ⟨a, b, rfl⟩ : ∃ a b, i = ix2 a b := ⟨i 0, i 1, eq_ix2 i⟩
  blk_ext [h t]

/-- The second moments' block is all of them. -/
theorem read_3 (X : Vec Ideal S352x1024 .f32) (t : Fin cfg0.N) : ((win0_3.blk t).view.read (Elt Ideal) X : Vec Ideal S352x1024 .f32) = X := by
  have h : ∀ t : Fin cfg0.N, win0_3.index t = ![0, 0] := (by decide +kernel : ∀ t : Fin grid0.N, _)
  funext i
  obtain ⟨a, b, rfl⟩ : ∃ a b, i = ix2 a b := ⟨i 0, i 1, eq_ix2 i⟩
  blk_ext [h t]

/-- The gradient in its array after the run. -/
theorem final4 : (dats m 0 c).arrAt 4 cfg0.N = grad (V m c main_v0) := by
  have h : ∀ t : Fin cfg0.N, win0_4.index t = ![0, 0] := (by decide +kernel : ∀ t : Fin grid0.N, _)
  refine (dats m 0 c).arrAt_eq_of_covers 4 _ (by decide +kernel) fun t hf y => ?_
  obtain ⟨r, n, rfl⟩ : ∃ (r : Fin 352) (n : Fin 1024), y = ix2 r n := ⟨y 0, y 1, eq_ix2 y⟩
  have e : ((win0_4.blk t).view.emb (ix2 r n) : S352x1024.Idx) = ix2 r n := by blk_ext [h t]
  blk_simp
  rw [after0_4, out4]
  exact (congrFun (congrArg grad (read_0 (V m c main_v0) t)) _).trans (congrArg (grad (V m c main_v0)) e).symm

/-- The step in its array after the run. -/
theorem final5 : (dats m 0 c).arrAt 5 cfg0.N = delta (grad (V m c main_v0)) (V m c main_arg1) (V m c main_arg2) (V m c main_arg3) := by
  have h : ∀ t : Fin cfg0.N, win0_5.index t = ![0, 0] := (by decide +kernel : ∀ t : Fin grid0.N, _)
  refine (dats m 0 c).arrAt_eq_of_covers 5 _ (by decide +kernel) fun t hf y => ?_
  obtain ⟨r, n, rfl⟩ : ∃ (r : Fin 352) (n : Fin 1024), y = ix2 r n := ⟨y 0, y 1, eq_ix2 y⟩
  have e : ((win0_5.blk t).view.emb (ix2 r n) : S352x1024.Idx) = ix2 r n := by blk_ext [h t]
  blk_simp
  rw [after0_5, out5]
  exact (congrFun (congr (congr (congrArg₂ delta (congrArg grad (read_0 (V m c main_v0) t)) (read_1 (V m c main_arg1) t)) (read_2 (V m c main_arg2) t)) (read_3 (V m c main_arg3) t)) _).trans (congrArg (delta (grad (V m c main_v0)) (V m c main_arg1) (V m c main_arg2) (V m c main_arg3)) e).symm

/-- The first moment in its array after the run. -/
theorem final6 : (dats m 0 c).arrAt 6 cfg0.N = first (grad (V m c main_v0)) (V m c main_arg2) := by
  have h : ∀ t : Fin cfg0.N, win0_6.index t = ![0, 0] := (by decide +kernel : ∀ t : Fin grid0.N, _)
  refine (dats m 0 c).arrAt_eq_of_covers 6 _ (by decide +kernel) fun t hf y => ?_
  obtain ⟨r, n, rfl⟩ : ∃ (r : Fin 352) (n : Fin 1024), y = ix2 r n := ⟨y 0, y 1, eq_ix2 y⟩
  have e : ((win0_6.blk t).view.emb (ix2 r n) : S352x1024.Idx) = ix2 r n := by blk_ext [h t]
  blk_simp
  rw [after0_6, out6]
  exact (congrFun (congrArg₂ first (congrArg grad (read_0 (V m c main_v0) t)) (read_2 (V m c main_arg2) t)) _).trans (congrArg (first (grad (V m c main_v0)) (V m c main_arg2)) e).symm

/-- The second moment in its array after the run. -/
theorem final7 : (dats m 0 c).arrAt 7 cfg0.N = second (grad (V m c main_v0)) (V m c main_arg3) := by
  have h : ∀ t : Fin cfg0.N, win0_7.index t = ![0, 0] := (by decide +kernel : ∀ t : Fin grid0.N, _)
  refine (dats m 0 c).arrAt_eq_of_covers 7 _ (by decide +kernel) fun t hf y => ?_
  obtain ⟨r, n, rfl⟩ : ∃ (r : Fin 352) (n : Fin 1024), y = ix2 r n := ⟨y 0, y 1, eq_ix2 y⟩
  have e : ((win0_7.blk t).view.emb (ix2 r n) : S352x1024.Idx) = ix2 r n := by blk_ext [h t]
  blk_simp
  rw [after0_7, out7]
  exact (congrFun (congrArg₂ second (congrArg grad (read_0 (V m c main_v0) t)) (read_3 (V m c main_arg3) t)) _).trans (congrArg (second (grad (V m c main_v0)) (V m c main_arg3)) e).symm

/-- The parts reach the region unchanged. -/
theorem V_a : V m c main_v0 = (m ((c : Thread nD τ).loc main_arg0) : Vec Ideal S8x352x1024 .f32) := by
  show StableHlo.after hostOps0 (fun b => m (c, b)) (Proc.devRef .tc main_v0) = _
  dsimp only [hostOps0]
  after_reads_simp
  rfl

/-- The weight reaches the region unchanged. -/
theorem V_w : V m c main_arg1 = m ((c : Thread nD τ).loc main_arg1) := by
  show StableHlo.after hostOps0 (fun b => m (c, b)) (Proc.devRef .tc main_arg1) = _
  dsimp only [hostOps0]
  after_reads_simp

/-- The first moments reach the region unchanged. -/
theorem V_m : V m c main_arg2 = m ((c : Thread nD τ).loc main_arg2) := by
  show StableHlo.after hostOps0 (fun b => m (c, b)) (Proc.devRef .tc main_arg2) = _
  dsimp only [hostOps0]
  after_reads_simp

/-- The second moments reach the region unchanged. -/
theorem V_v : V m c main_arg3 = m ((c : Thread nD τ).loc main_arg3) := by
  show StableHlo.after hostOps0 (fun b => m (c, b)) (Proc.devRef .tc main_arg3) = _
  dsimp only [hostOps0]
  after_reads_simp

/-- The reference's gradient. -/
theorem reference4 (x : Vec Ideal S8x352x1024 .f32) : Cert.ReferenceAdamWdownIdeal.Read.val_main_v0 (F := Ideal) x = grad x := by
  funext i
  rw [Cert.ReferenceAdamWdownIdeal.Read.val_main_v0_apply, Cert.ReferenceAdamWdownIdeal.Read.val_main_cst_apply]
  refine Eq.trans (congrArg₂ (fun a b : EReal => a + b) Ideal.ofBits_zero_f32 ?_) (zero_add _)
  exact Finset.sum_congr rfl fun k _ => congrArg x (by funext a; fin_cases a <;> rfl)

/-- The reference's first moments. -/
theorem reference6 (x : Vec Ideal S8x352x1024 .f32) (a : Vec Ideal S352x1024 .f32) :
    Cert.ReferenceAdamWdownIdeal.Read.val_main_v5 (F := Ideal) x a = first (grad x) a := by
  rw [← reference4 x]
  rfl

/-- The reference's second moments. -/
theorem reference7 (x : Vec Ideal S8x352x1024 .f32) (b : Vec Ideal S352x1024 .f32) :
    Cert.ReferenceAdamWdownIdeal.Read.val_main_v11 (F := Ideal) x b = second (grad x) b := by
  rw [← reference4 x]
  rfl

/-- The reference's step. -/
theorem reference5 (x : Vec Ideal S8x352x1024 .f32) (w a b : Vec Ideal S352x1024 .f32) :
    Cert.ReferenceAdamWdownIdeal.Read.val_main_v24 (F := Ideal) x w a b = delta (grad x) w a b := by
  rw [← reference4 x]
  rfl

/-- The reference program changes no argument and leaves no counter. -/
theorem frame_reference : Cert.quiescent_ReferenceAdamWdownIdeal := fun m ρ _ =>
  (θ_run Cert.ReferenceAdamWdownIdeal.defs _ _).mono
    (fun r h => ⟨fun c => (h c).2.2.2.2, Idealize.ShloMosaic.sem_eq_zero_of_no_sems (by decide) r.2⟩)
    (Cert.ReferenceAdamWdownIdeal.Value.run (F := Ideal) m ρ)

/-- The kernel's four results and the reference's are the same. -/
theorem value : Cert.algebraic_KernelAdamWdownIdeal_ReferenceAdamWdownIdeal := by
  intro m g m' g' _ hm
  refine ⟨fun c => grad (m ((c : Thread nD τ).loc main_arg0)),
    fun c => delta (grad (m ((c : Thread nD τ).loc main_arg0))) (m ((c : Thread nD τ).loc main_arg1)) (m ((c : Thread nD τ).loc main_arg2)) (m ((c : Thread nD τ).loc main_arg3)),
    fun c => first (grad (m ((c : Thread nD τ).loc main_arg0))) (m ((c : Thread nD τ).loc main_arg2)),
    fun c => second (grad (m ((c : Thread nD τ).loc main_arg0))) (m ((c : Thread nD τ).loc main_arg3)), ?_, ?_⟩
  · refine (θ_run defs _ _).mono (fun r h c => ?_) (Value.run_blocks m g)
    obtain ⟨h4, h5, h6, h7, h⟩ := h c
    rw [final4 m c, V_a] at h4
    rw [final5 m c, V_a, V_w, V_m, V_v] at h5
    rw [final6 m c, V_a, V_m] at h6
    rw [final7 m c, V_a, V_v] at h7
    exact ⟨h4, h5, h6, h7, h⟩
  · refine (θ_run Cert.ReferenceAdamWdownIdeal.defs _ _).mono (fun r h c => ?_) (Cert.ReferenceAdamWdownIdeal.Value.run (F := Ideal) m' g')
    obtain ⟨h4, h5, h6, h7, h⟩ := h c
    obtain ⟨e0, e1, e2, e3⟩ := hm c
    refine ⟨h4.trans ?_, h5.trans ?_, h6.trans ?_, h7.trans ?_, h⟩
    · rw [e0]; exact reference4 _
    · rw [e0, e1, e2, e3]; exact reference5 _ _ _ _
    · rw [e0, e2]; exact reference6 _ _
    · rw [e0, e3]; exact reference7 _ _

end Cert.Proof.AdamWdown
-- ==== Proof.AdamWukv.lean ====
/- The optimiser's step on the latent keys' and values' weight: one block holds everything. -/
module

public import proofs.«01_k».proof.Defs
public import proofs.«01_k».proof.Proof.Gen.KernelAdamWukv
public import proofs.«01_k».proof.Proof.Gen.KernelAdamWukv.Frame
public import proofs.«01_k».proof.Proof.Gen.KernelAdamWukvIdeal
public import proofs.«01_k».proof.Proof.Gen.KernelAdamWukvIdeal.Frame
public import proofs.«01_k».proof.Proof.Gen.KernelAdamWukvIdeal.Value
public import proofs.«01_k».proof.Proof.Gen.ReferenceAdamWukvIdeal
public import proofs.«01_k».proof.Proof.Gen.ReferenceAdamWukvIdeal.Run
public import proofs.«01_k».proof.Proof.Gen.ReferenceAdamWukvIdeal.Read
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.AdamWukv

open Cert.KernelAdamWukvIdeal Cert.KernelAdamWukvIdeal.Gen Idealize.ShloMosaic Idealize.ShloMosaic.TcCoe Idealize.SL.Sem

variable (m : (ℓ : Loc nD τ sig) → Buf (Elt Ideal) ℓ) (c : Dev nD)

/-- The gradient: the sum of the eight devices' parts. -/
def grad (x : Vec Ideal S8x256x128 .f32) : Vec Ideal S256x128 .f32 :=
  fun i => (∑ k : Fin 8, x (ix3 k (i 0) (i 1)) : EReal)

/-- The step of every entry. -/
def delta (g w a b : Vec Ideal S256x128 .f32) : Vec Ideal S256x128 .f32 := fun i => Adam.step (g i) (w i) (a i) (b i)

/-- The first moments after the step. -/
def first (g a : Vec Ideal S256x128 .f32) : Vec Ideal S256x128 .f32 := fun i => Adam.first (g i) (a i)

/-- The second moments after the step. -/
def second (g b : Vec Ideal S256x128 .f32) : Vec Ideal S256x128 .f32 := fun i => Adam.second (g i) (b i)

/-- The body's gradient. -/
theorem pay_at (x0 : Vec Ideal S8x256x128 .bf16) (r : Fin 256) (n : Fin 128) :
    k0_pay4 (View.ld x0 r0_0) (View.ld x0 r0_1) (View.ld x0 r0_2) (View.ld x0 r0_3) (View.ld x0 r0_4) (View.ld x0 r0_5) (View.ld x0 r0_6) (View.ld x0 r0_7) (ix2 r n) = (∑ k : Fin 8, x0 (ix3 k r n) : EReal) := by
  rw [← Adam.eight (fun k => x0 (ix3 k r n))]
  unfold k0_pay4
  pointwise

/-- The body's gradient in its buffer. -/
theorem out4 (x0 : Vec Ideal S8x256x128 .bf16) (x1 x2 x3 : Vec Ideal S256x128 .f32) : out0_4 x0 x1 x2 x3 = grad x0 := by
  have e : out0_4 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) := by
    unfold out0_4
    frame_out
  rw [e]
  funext i
  obtain ⟨r, n, rfl⟩ : ∃ r n, i = ix2 r n := ⟨i 0, i 1, eq_ix2 i⟩
  exact pay_at x0 r n

/-- The body's step in its buffer. -/
theorem out5 (x0 : Vec Ideal S8x256x128 .bf16) (x1 x2 x3 : Vec Ideal S256x128 .f32) : out0_5 x0 x1 x2 x3 = delta (grad x0) x1 x2 x3 := by
  have e : out0_5 x0 x1 x2 x3 = k0_pay3 (k0_pay5 x0 x1 x2 x3) x2 x3 x1 := by
    unfold out0_5
    frame_out
  rw [e]
  funext i
  obtain ⟨r, n, rfl⟩ : ∃ r n, i = ix2 r n := ⟨i 0, i 1, eq_ix2 i⟩
  exact congrArg (fun g => Adam.step g (x1 (ix2 r n)) (x2 (ix2 r n)) (x3 (ix2 r n))) (pay_at x0 r n)

/-- The body's first moment in its buffer. -/
theorem out6 (x0 : Vec Ideal S8x256x128 .bf16) (x1 x2 x3 : Vec Ideal S256x128 .f32) : out0_6 x0 x1 x2 x3 = first (grad x0) x2 := by
  have e : out0_6 x0 x1 x2 x3 = k0_pay1 (k0_pay5 x0 x1 x2 x3) x2 := by
    unfold out0_6
    frame_out
  rw [e]
  funext i
  obtain ⟨r, n, rfl⟩ : ∃ r n, i = ix2 r n := ⟨i 0, i 1, eq_ix2 i⟩
  exact congrArg (fun g => Adam.first g (x2 (ix2 r n))) (pay_at x0 r n)

/-- The body's second moment in its buffer. -/
theorem out7 (x0 : Vec Ideal S8x256x128 .bf16) (x1 x2 x3 : Vec Ideal S256x128 .f32) : out0_7 x0 x1 x2 x3 = second (grad x0) x3 := by
  have e : out0_7 x0 x1 x2 x3 = k0_pay2 (k0_pay5 x0 x1 x2 x3) x3 := by
    unfold out0_7
    frame_out
  rw [e]
  funext i
  obtain ⟨r, n, rfl⟩ : ∃ r n, i = ix2 r n := ⟨i 0, i 1, eq_ix2 i⟩
  exact congrArg (fun g => Adam.second g (x3 (ix2 r n))) (pay_at x0 r n)

/-- The parts' block is all of them. -/
theorem read_0 (X : Vec Ideal S8x256x128 .bf16) (t : Fin cfg0.N) : ((win0_0.blk t).view.read (Elt Ideal) X : Vec Ideal S8x256x128 .bf16) = X := by
  have h : ∀ t : Fin cfg0.N, win0_0.index t = ![0, 0, 0] := (by decide +kernel : ∀ t : Fin grid0.N, _)
  funext i
  obtain ⟨a, b, d, rfl⟩ : ∃ a b d, i = ix3 a b d := ⟨i 0, i 1, i 2, eq_ix3 i⟩
  blk_ext [h t]

/-- The weight's block is all of it. -/
theorem read_1 (X : Vec Ideal S256x128 .f32) (t : Fin cfg0.N) : ((win0_1.blk t).view.read (Elt Ideal) X : Vec Ideal S256x128 .f32) = X := by
  have h : ∀ t : Fin cfg0.N, win0_1.index t = ![0, 0] := (by decide +kernel : ∀ t : Fin grid0.N, _)
  funext i
  obtain ⟨a, b, rfl⟩ : ∃ a b, i = ix2 a b := ⟨i 0, i 1, eq_ix2 i⟩
  blk_ext [h t]

/-- The first moments' block is all of them. -/
theorem read_2 (X : Vec Ideal S256x128 .f32) (t : Fin cfg0.N) : ((win0_2.blk t).view.read (Elt Ideal) X : Vec Ideal S256x128 .f32) = X := by
  have h : ∀ t : Fin cfg0.N, win0_2.index t = ![0, 0] := (by decide +kernel : ∀ t : Fin grid0.N, _)
  funext i
  obtain ⟨a, b, rfl⟩ : ∃ a b, i = ix2 a b := ⟨i 0, i 1, eq_ix2 i⟩
  blk_ext [h t]

/-- The second moments' block is all of them. -/
theorem read_3 (X : Vec Ideal S256x128 .f32) (t : Fin cfg0.N) : ((win0_3.blk t).view.read (Elt Ideal) X : Vec Ideal S256x128 .f32) = X := by
  have h : ∀ t : Fin cfg0.N, win0_3.index t = ![0, 0] := (by decide +kernel : ∀ t : Fin grid0.N, _)
  funext i
  obtain ⟨a, b, rfl⟩ : ∃ a b, i = ix2 a b := ⟨i 0, i 1, eq_ix2 i⟩
  blk_ext [h t]

/-- The gradient in its array after the run. -/
theorem final4 : (dats m 0 c).arrAt 4 cfg0.N = grad (V m c main_v0) := by
  have h : ∀ t : Fin cfg0.N, win0_4.index t = ![0, 0] := (by decide +kernel : ∀ t : Fin grid0.N, _)
  refine (dats m 0 c).arrAt_eq_of_covers 4 _ (by decide +kernel) fun t hf y => ?_
  obtain ⟨r, n, rfl⟩ : ∃ (r : Fin 256) (n : Fin 128), y = ix2 r n := ⟨y 0, y 1, eq_ix2 y⟩
  have e : ((win0_4.blk t).view.emb (ix2 r n) : S256x128.Idx) = ix2 r n := by blk_ext [h t]
  blk_simp
  rw [after0_4, out4]
  exact (congrFun (congrArg grad (read_0 (V m c main_v0) t)) _).trans (congrArg (grad (V m c main_v0)) e).symm

/-- The step in its array after the run. -/
theorem final5 : (dats m 0 c).arrAt 5 cfg0.N = delta (grad (V m c main_v0)) (V m c main_arg1) (V m c main_arg2) (V m c main_arg3) := by
  have h : ∀ t : Fin cfg0.N, win0_5.index t = ![0, 0] := (by decide +kernel : ∀ t : Fin grid0.N, _)
  refine (dats m 0 c).arrAt_eq_of_covers 5 _ (by decide +kernel) fun t hf y => ?_
  obtain ⟨r, n, rfl⟩ : ∃ (r : Fin 256) (n : Fin 128), y = ix2 r n := ⟨y 0, y 1, eq_ix2 y⟩
  have e : ((win0_5.blk t).view.emb (ix2 r n) : S256x128.Idx) = ix2 r n := by blk_ext [h t]
  blk_simp
  rw [after0_5, out5]
  exact (congrFun (congr (congr (congrArg₂ delta (congrArg grad (read_0 (V m c main_v0) t)) (read_1 (V m c main_arg1) t)) (read_2 (V m c main_arg2) t)) (read_3 (V m c main_arg3) t)) _).trans (congrArg (delta (grad (V m c main_v0)) (V m c main_arg1) (V m c main_arg2) (V m c main_arg3)) e).symm

/-- The first moment in its array after the run. -/
theorem final6 : (dats m 0 c).arrAt 6 cfg0.N = first (grad (V m c main_v0)) (V m c main_arg2) := by
  have h : ∀ t : Fin cfg0.N, win0_6.index t = ![0, 0] := (by decide +kernel : ∀ t : Fin grid0.N, _)
  refine (dats m 0 c).arrAt_eq_of_covers 6 _ (by decide +kernel) fun t hf y => ?_
  obtain ⟨r, n, rfl⟩ : ∃ (r : Fin 256) (n : Fin 128), y = ix2 r n := ⟨y 0, y 1, eq_ix2 y⟩
  have e : ((win0_6.blk t).view.emb (ix2 r n) : S256x128.Idx) = ix2 r n := by blk_ext [h t]
  blk_simp
  rw [after0_6, out6]
  exact (congrFun (congrArg₂ first (congrArg grad (read_0 (V m c main_v0) t)) (read_2 (V m c main_arg2) t)) _).trans (congrArg (first (grad (V m c main_v0)) (V m c main_arg2)) e).symm

/-- The second moment in its array after the run. -/
theorem final7 : (dats m 0 c).arrAt 7 cfg0.N = second (grad (V m c main_v0)) (V m c main_arg3) := by
  have h : ∀ t : Fin cfg0.N, win0_7.index t = ![0, 0] := (by decide +kernel : ∀ t : Fin grid0.N, _)
  refine (dats m 0 c).arrAt_eq_of_covers 7 _ (by decide +kernel) fun t hf y => ?_
  obtain ⟨r, n, rfl⟩ : ∃ (r : Fin 256) (n : Fin 128), y = ix2 r n := ⟨y 0, y 1, eq_ix2 y⟩
  have e : ((win0_7.blk t).view.emb (ix2 r n) : S256x128.Idx) = ix2 r n := by blk_ext [h t]
  blk_simp
  rw [after0_7, out7]
  exact (congrFun (congrArg₂ second (congrArg grad (read_0 (V m c main_v0) t)) (read_3 (V m c main_arg3) t)) _).trans (congrArg (second (grad (V m c main_v0)) (V m c main_arg3)) e).symm

/-- The parts reach the region unchanged. -/
theorem V_a : V m c main_v0 = (m ((c : Thread nD τ).loc main_arg0) : Vec Ideal S8x256x128 .f32) := by
  show StableHlo.after hostOps0 (fun b => m (c, b)) (Proc.devRef .tc main_v0) = _
  dsimp only [hostOps0]
  after_reads_simp
  rfl

/-- The weight reaches the region unchanged. -/
theorem V_w : V m c main_arg1 = m ((c : Thread nD τ).loc main_arg1) := by
  show StableHlo.after hostOps0 (fun b => m (c, b)) (Proc.devRef .tc main_arg1) = _
  dsimp only [hostOps0]
  after_reads_simp

/-- The first moments reach the region unchanged. -/
theorem V_m : V m c main_arg2 = m ((c : Thread nD τ).loc main_arg2) := by
  show StableHlo.after hostOps0 (fun b => m (c, b)) (Proc.devRef .tc main_arg2) = _
  dsimp only [hostOps0]
  after_reads_simp

/-- The second moments reach the region unchanged. -/
theorem V_v : V m c main_arg3 = m ((c : Thread nD τ).loc main_arg3) := by
  show StableHlo.after hostOps0 (fun b => m (c, b)) (Proc.devRef .tc main_arg3) = _
  dsimp only [hostOps0]
  after_reads_simp

/-- The reference's gradient. -/
theorem reference4 (x : Vec Ideal S8x256x128 .f32) : Cert.ReferenceAdamWukvIdeal.Read.val_main_v0 (F := Ideal) x = grad x := by
  funext i
  rw [Cert.ReferenceAdamWukvIdeal.Read.val_main_v0_apply, Cert.ReferenceAdamWukvIdeal.Read.val_main_cst_apply]
  refine Eq.trans (congrArg₂ (fun a b : EReal => a + b) Ideal.ofBits_zero_f32 ?_) (zero_add _)
  exact Finset.sum_congr rfl fun k _ => congrArg x (by funext a; fin_cases a <;> rfl)

/-- The reference's first moments. -/
theorem reference6 (x : Vec Ideal S8x256x128 .f32) (a : Vec Ideal S256x128 .f32) :
    Cert.ReferenceAdamWukvIdeal.Read.val_main_v5 (F := Ideal) x a = first (grad x) a := by
  rw [← reference4 x]
  rfl

/-- The reference's second moments. -/
theorem reference7 (x : Vec Ideal S8x256x128 .f32) (b : Vec Ideal S256x128 .f32) :
    Cert.ReferenceAdamWukvIdeal.Read.val_main_v11 (F := Ideal) x b = second (grad x) b := by
  rw [← reference4 x]
  rfl

/-- The reference's step. -/
theorem reference5 (x : Vec Ideal S8x256x128 .f32) (w a b : Vec Ideal S256x128 .f32) :
    Cert.ReferenceAdamWukvIdeal.Read.val_main_v24 (F := Ideal) x w a b = delta (grad x) w a b := by
  rw [← reference4 x]
  rfl

/-- The reference program changes no argument and leaves no counter. -/
theorem frame_reference : Cert.quiescent_ReferenceAdamWukvIdeal := fun m ρ _ =>
  (θ_run Cert.ReferenceAdamWukvIdeal.defs _ _).mono
    (fun r h => ⟨fun c => (h c).2.2.2.2, Idealize.ShloMosaic.sem_eq_zero_of_no_sems (by decide) r.2⟩)
    (Cert.ReferenceAdamWukvIdeal.Value.run (F := Ideal) m ρ)

/-- The kernel's four results and the reference's are the same. -/
theorem value : Cert.algebraic_KernelAdamWukvIdeal_ReferenceAdamWukvIdeal := by
  intro m g m' g' _ hm
  refine ⟨fun c => grad (m ((c : Thread nD τ).loc main_arg0)),
    fun c => delta (grad (m ((c : Thread nD τ).loc main_arg0))) (m ((c : Thread nD τ).loc main_arg1)) (m ((c : Thread nD τ).loc main_arg2)) (m ((c : Thread nD τ).loc main_arg3)),
    fun c => first (grad (m ((c : Thread nD τ).loc main_arg0))) (m ((c : Thread nD τ).loc main_arg2)),
    fun c => second (grad (m ((c : Thread nD τ).loc main_arg0))) (m ((c : Thread nD τ).loc main_arg3)), ?_, ?_⟩
  · refine (θ_run defs _ _).mono (fun r h c => ?_) (Value.run_blocks m g)
    obtain ⟨h4, h5, h6, h7, h⟩ := h c
    rw [final4 m c, V_a] at h4
    rw [final5 m c, V_a, V_w, V_m, V_v] at h5
    rw [final6 m c, V_a, V_m] at h6
    rw [final7 m c, V_a, V_v] at h7
    exact ⟨h4, h5, h6, h7, h⟩
  · refine (θ_run Cert.ReferenceAdamWukvIdeal.defs _ _).mono (fun r h c => ?_) (Cert.ReferenceAdamWukvIdeal.Value.run (F := Ideal) m' g')
    obtain ⟨h4, h5, h6, h7, h⟩ := h c
    obtain ⟨e0, e1, e2, e3⟩ := hm c
    refine ⟨h4.trans ?_, h5.trans ?_, h6.trans ?_, h7.trans ?_, h⟩
    · rw [e0]; exact reference4 _
    · rw [e0, e1, e2, e3]; exact reference5 _ _ _ _
    · rw [e0, e2]; exact reference6 _ _
    · rw [e0, e3]; exact reference7 _ _

end Cert.Proof.AdamWukv
-- ==== Proof.AdamWuq.lean ====
/- The optimiser's step on the latent queries' weight: one block holds everything. -/
module

public import proofs.«01_k».proof.Defs
public import proofs.«01_k».proof.Proof.Gen.KernelAdamWuq
public import proofs.«01_k».proof.Proof.Gen.KernelAdamWuq.Frame
public import proofs.«01_k».proof.Proof.Gen.KernelAdamWuqIdeal
public import proofs.«01_k».proof.Proof.Gen.KernelAdamWuqIdeal.Frame
public import proofs.«01_k».proof.Proof.Gen.ReferenceAdamWuqIdeal
public import proofs.«01_k».proof.Proof.Gen.ReferenceAdamWuqIdeal.Run
public import proofs.«01_k».proof.Proof.Gen.ReferenceAdamWuqIdeal.Read
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.AdamWuq

open Cert.KernelAdamWuqIdeal Cert.KernelAdamWuqIdeal.Gen Idealize.ShloMosaic Idealize.ShloMosaic.TcCoe Idealize.SL.Sem

variable (m : (ℓ : Loc nD τ sig) → Buf (Elt Ideal) ℓ) (c : Dev nD)

/-- The gradient: the sum of the eight devices' parts. -/
def grad (x : Vec Ideal S8x96x384 .f32) : Vec Ideal S96x384 .f32 :=
  fun i => (∑ k : Fin 8, x (ix3 k (i 0) (i 1)) : EReal)

/-- The step of every entry. -/
def delta (g w a b : Vec Ideal S96x384 .f32) : Vec Ideal S96x384 .f32 := fun i => Adam.step (g i) (w i) (a i) (b i)

/-- The first moments after the step. -/
def first (g a : Vec Ideal S96x384 .f32) : Vec Ideal S96x384 .f32 := fun i => Adam.first (g i) (a i)

/-- The second moments after the step. -/
def second (g b : Vec Ideal S96x384 .f32) : Vec Ideal S96x384 .f32 := fun i => Adam.second (g i) (b i)

/-- The body's gradient. -/
theorem pay_at (x0 : Vec Ideal S8x96x384 .bf16) (r : Fin 96) (n : Fin 384) :
    k0_pay4 (View.ld x0 r0_0) (View.ld x0 r0_1) (View.ld x0 r0_2) (View.ld x0 r0_3) (View.ld x0 r0_4) (View.ld x0 r0_5) (View.ld x0 r0_6) (View.ld x0 r0_7) (ix2 r n) = (∑ k : Fin 8, x0 (ix3 k r n) : EReal) := by
  rw [← Adam.eight (fun k => x0 (ix3 k r n))]
  unfold k0_pay4
  pointwise

/-- The body's first moment, from a gradient. -/
theorem pay1_eq (g x : Vec Ideal S96x384 .f32) : k0_pay1 g x = first g x := by
  unfold k0_pay1
  simp only [shapeCast_self]
  rfl

/-- The body's second moment, from a gradient. -/
theorem pay2_eq (g x : Vec Ideal S96x384 .f32) : k0_pay2 g x = second g x := by
  unfold k0_pay2
  simp only [shapeCast_self]
  rfl

/-- The body's step, from a gradient. -/
theorem pay3_eq (g a b w : Vec Ideal S96x384 .f32) : k0_pay3 g a b w = delta g w a b := by
  unfold k0_pay3
  simp only [shapeCast_self, pay1_eq, pay2_eq]
  rfl

/-- The body's gradient in its buffer. -/
theorem out4 (x0 : Vec Ideal S8x96x384 .bf16) (x1 x2 x3 : Vec Ideal S96x384 .f32) : out0_4 x0 x1 x2 x3 = grad x0 := by
  have e : out0_4 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) := by
    unfold out0_4
    frame_out
  rw [e]
  funext i
  obtain ⟨r, n, rfl⟩ : ∃ r n, i = ix2 r n := ⟨i 0, i 1, eq_ix2 i⟩
  exact pay_at x0 r n

/-- The body's step in its buffer. -/
theorem out5 (x0 : Vec Ideal S8x96x384 .bf16) (x1 x2 x3 : Vec Ideal S96x384 .f32) : out0_5 x0 x1 x2 x3 = delta (grad x0) x1 x2 x3 := by
  have e : out0_5 x0 x1 x2 x3 = k0_pay3 (k0_pay5 x0 x1 x2 x3) x2 x3 x1 := by
    unfold out0_5
    frame_out
  rw [e, pay3_eq]
  funext i
  obtain ⟨r, n, rfl⟩ : ∃ r n, i = ix2 r n := ⟨i 0, i 1, eq_ix2 i⟩
  exact congrArg (fun g => Adam.step g (x1 (ix2 r n)) (x2 (ix2 r n)) (x3 (ix2 r n))) (pay_at x0 r n)

/-- The body's first moment in its buffer. -/
theorem out6 (x0 : Vec Ideal S8x96x384 .bf16) (x1 x2 x3 : Vec Ideal S96x384 .f32) : out0_6 x0 x1 x2 x3 = first (grad x0) x2 := by
  have e : out0_6 x0 x1 x2 x3 = k0_pay1 (k0_pay5 x0 x1 x2 x3) x2 := by
    unfold out0_6
    frame_out
  rw [e, pay1_eq]
  funext i
  obtain ⟨r, n, rfl⟩ : ∃ r n, i = ix2 r n := ⟨i 0, i 1, eq_ix2 i⟩
  exact congrArg (fun g => Adam.first g (x2 (ix2 r n))) (pay_at x0 r n)

/-- The body's second moment in its buffer. -/
theorem out7 (x0 : Vec Ideal S8x96x384 .bf16) (x1 x2 x3 : Vec Ideal S96x384 .f32) : out0_7 x0 x1 x2 x3 = second (grad x0) x3 := by
  have e : out0_7 x0 x1 x2 x3 = k0_pay2 (k0_pay5 x0 x1 x2 x3) x3 := by
    unfold out0_7
    frame_out
  rw [e, pay2_eq]
  funext i
  obtain ⟨r, n, rfl⟩ : ∃ r n, i = ix2 r n := ⟨i 0, i 1, eq_ix2 i⟩
  exact congrArg (fun g => Adam.second g (x3 (ix2 r n))) (pay_at x0 r n)

/-- The parts' block is all of them. -/
theorem read_0 (X : Vec Ideal S8x96x384 .bf16) (t : Fin cfg0.N) : ((win0_0.blk t).view.read (Elt Ideal) X : Vec Ideal S8x96x384 .bf16) = X := by
  have h : ∀ t : Fin cfg0.N, win0_0.index t = ![0, 0, 0] := (by decide +kernel : ∀ t : Fin grid0.N, _)
  funext i
  obtain ⟨a, b, d, rfl⟩ : ∃ a b d, i = ix3 a b d := ⟨i 0, i 1, i 2, eq_ix3 i⟩
  blk_ext [h t]

/-- The weight's block is all of it. -/
theorem read_1 (X : Vec Ideal S96x384 .f32) (t : Fin cfg0.N) : ((win0_1.blk t).view.read (Elt Ideal) X : Vec Ideal S96x384 .f32) = X := by
  have h : ∀ t : Fin cfg0.N, win0_1.index t = ![0, 0] := (by decide +kernel : ∀ t : Fin grid0.N, _)
  funext i
  obtain ⟨a, b, rfl⟩ : ∃ a b, i = ix2 a b := ⟨i 0, i 1, eq_ix2 i⟩
  blk_ext [h t]

/-- The first moments' block is all of them. -/
theorem read_2 (X : Vec Ideal S96x384 .f32) (t : Fin cfg0.N) : ((win0_2.blk t).view.read (Elt Ideal) X : Vec Ideal S96x384 .f32) = X := by
  have h : ∀ t : Fin cfg0.N, win0_2.index t = ![0, 0] := (by decide +kernel : ∀ t : Fin grid0.N, _)
  funext i
  obtain ⟨a, b, rfl⟩ : ∃ a b, i = ix2 a b := ⟨i 0, i 1, eq_ix2 i⟩
  blk_ext [h t]

/-- The second moments' block is all of them. -/
theorem read_3 (X : Vec Ideal S96x384 .f32) (t : Fin cfg0.N) : ((win0_3.blk t).view.read (Elt Ideal) X : Vec Ideal S96x384 .f32) = X := by
  have h : ∀ t : Fin cfg0.N, win0_3.index t = ![0, 0] := (by decide +kernel : ∀ t : Fin grid0.N, _)
  funext i
  obtain ⟨a, b, rfl⟩ : ∃ a b, i = ix2 a b := ⟨i 0, i 1, eq_ix2 i⟩
  blk_ext [h t]

/-- The gradient in its array after the run. -/
theorem final4 : (dats m 0 c).arrAt 4 cfg0.N = grad (V m c main_v1) := by
  have h : ∀ t : Fin cfg0.N, win0_4.index t = ![0, 0] := (by decide +kernel : ∀ t : Fin grid0.N, _)
  refine (dats m 0 c).arrAt_eq_of_covers 4 _ (by decide +kernel) fun t hf y => ?_
  obtain ⟨r, n, rfl⟩ : ∃ (r : Fin 96) (n : Fin 384), y = ix2 r n := ⟨y 0, y 1, eq_ix2 y⟩
  have e : ((win0_4.blk t).view.emb (ix2 r n) : S96x384.Idx) = ix2 r n := by blk_ext [h t]
  blk_simp
  rw [after0_4, out4]
  exact (congrFun (congrArg grad (read_0 (V m c main_v1) t)) _).trans (congrArg (grad (V m c main_v1)) e).symm

/-- The step in its array after the run. -/
theorem final5 : (dats m 0 c).arrAt 5 cfg0.N = delta (grad (V m c main_v1)) (V m c main_v2) (V m c main_v3) (V m c main_v4) := by
  have h : ∀ t : Fin cfg0.N, win0_5.index t = ![0, 0] := (by decide +kernel : ∀ t : Fin grid0.N, _)
  refine (dats m 0 c).arrAt_eq_of_covers 5 _ (by decide +kernel) fun t hf y => ?_
  obtain ⟨r, n, rfl⟩ : ∃ (r : Fin 96) (n : Fin 384), y = ix2 r n := ⟨y 0, y 1, eq_ix2 y⟩
  have e : ((win0_5.blk t).view.emb (ix2 r n) : S96x384.Idx) = ix2 r n := by blk_ext [h t]
  blk_simp
  rw [after0_5, out5]
  exact (congrFun (congr (congr (congrArg₂ delta (congrArg grad (read_0 (V m c main_v1) t)) (read_1 (V m c main_v2) t)) (read_2 (V m c main_v3) t)) (read_3 (V m c main_v4) t)) _).trans (congrArg (delta (grad (V m c main_v1)) (V m c main_v2) (V m c main_v3) (V m c main_v4)) e).symm

/-- The first moment in its array after the run. -/
theorem final6 : (dats m 0 c).arrAt 6 cfg0.N = first (grad (V m c main_v1)) (V m c main_v3) := by
  have h : ∀ t : Fin cfg0.N, win0_6.index t = ![0, 0] := (by decide +kernel : ∀ t : Fin grid0.N, _)
  refine (dats m 0 c).arrAt_eq_of_covers 6 _ (by decide +kernel) fun t hf y => ?_
  obtain ⟨r, n, rfl⟩ : ∃ (r : Fin 96) (n : Fin 384), y = ix2 r n := ⟨y 0, y 1, eq_ix2 y⟩
  have e : ((win0_6.blk t).view.emb (ix2 r n) : S96x384.Idx) = ix2 r n := by blk_ext [h t]
  blk_simp
  rw [after0_6, out6]
  exact (congrFun (congrArg₂ first (congrArg grad (read_0 (V m c main_v1) t)) (read_2 (V m c main_v3) t)) _).trans (congrArg (first (grad (V m c main_v1)) (V m c main_v3)) e).symm

/-- The second moment in its array after the run. -/
theorem final7 : (dats m 0 c).arrAt 7 cfg0.N = second (grad (V m c main_v1)) (V m c main_v4) := by
  have h : ∀ t : Fin cfg0.N, win0_7.index t = ![0, 0] := (by decide +kernel : ∀ t : Fin grid0.N, _)
  refine (dats m 0 c).arrAt_eq_of_covers 7 _ (by decide +kernel) fun t hf y => ?_
  obtain ⟨r, n, rfl⟩ : ∃ (r : Fin 96) (n : Fin 384), y = ix2 r n := ⟨y 0, y 1, eq_ix2 y⟩
  have e : ((win0_7.blk t).view.emb (ix2 r n) : S96x384.Idx) = ix2 r n := by blk_ext [h t]
  blk_simp
  rw [after0_7, out7]
  exact (congrFun (congrArg₂ second (congrArg grad (read_0 (V m c main_v1) t)) (read_3 (V m c main_v4) t)) _).trans (congrArg (second (grad (V m c main_v1)) (V m c main_v4)) e).symm

/-- The parts, turned. -/
def parts (x : Vec Ideal S8x384x96 .f32) : Vec Ideal S8x96x384 .bf16 :=
  (truncf .bf16 (transpose S8x96x384 [0, 2, 1] x transposes_S8x384x96_S8x96x384_0_2_1 : FVec Ideal S8x96x384 .f32) bitsLt_bf16_f32 : FVec Ideal S8x96x384 .bf16)

/-- The parts turned before the region. -/
theorem V_0 : V m c main_v1 = parts (m ((c : Thread nD τ).loc main_arg0)) := by
  show StableHlo.after (List.flatten [hostOps0]) (fun b => m (c, b)) (Proc.devRef .tc main_v1) = _
  simp only [List.flatten_cons, List.flatten_nil, List.append_nil, StableHlo.after_append]
  dsimp only [hostOps0]
  after_reads_simp
  rfl

/-- An array of the region turned back. -/
def back (x : Vec Ideal S96x384 .f32) : Vec Ideal S384x96 .f32 := transpose S384x96 [1, 0] (x : Vec Ideal S96x384 .f32) transposes_S96x384_S384x96_1_0

/-- An argument turned. -/
def turn (x : Vec Ideal S384x96 .f32) : Vec Ideal S96x384 .f32 := transpose S96x384 [1, 0] x transposes_S384x96_S96x384_1_0

/-- A turned argument at an entry. -/
theorem turn_at (x : Vec Ideal S384x96 .f32) (r : Fin 96) (n : Fin 384) : turn x (ix2 r n) = x (ix2 n r) := by
  unfold turn
  pointwise

/-- A turned array at an entry. -/
theorem back_at (x : Vec Ideal S96x384 .f32) (n : Fin 384) (r : Fin 96) : back x (ix2 n r) = x (ix2 r n) := by
  unfold back
  pointwise

/-- The weight turned before the region. -/
theorem V_1 : V m c main_v2 = turn (m ((c : Thread nD τ).loc main_arg1)) := by
  show StableHlo.after (List.flatten [hostOps0]) (fun b => m (c, b)) (Proc.devRef .tc main_v2) = _
  simp only [List.flatten_cons, List.flatten_nil, List.append_nil, StableHlo.after_append]
  dsimp only [hostOps0]
  after_reads_simp
  rfl

/-- The first moments turned before the region. -/
theorem V_2 : V m c main_v3 = turn (m ((c : Thread nD τ).loc main_arg2)) := by
  show StableHlo.after (List.flatten [hostOps0]) (fun b => m (c, b)) (Proc.devRef .tc main_v3) = _
  simp only [List.flatten_cons, List.flatten_nil, List.append_nil, StableHlo.after_append]
  dsimp only [hostOps0]
  after_reads_simp
  rfl

/-- The second moments turned before the region. -/
theorem V_3 : V m c main_v4 = turn (m ((c : Thread nD τ).loc main_arg3)) := by
  show StableHlo.after (List.flatten [hostOps0]) (fun b => m (c, b)) (Proc.devRef .tc main_v4) = _
  simp only [List.flatten_cons, List.flatten_nil, List.append_nil, StableHlo.after_append]
  dsimp only [hostOps0]
  after_reads_simp
  rfl

/-- The gradient of the turned parts at an entry. -/
theorem grad_at (x : Vec Ideal S8x384x96 .f32) (n : Fin 384) (r : Fin 96) :
    grad (parts x) (ix2 r n) = (∑ k : Fin 8, x (ix3 k n r) : EReal) := by
  show (_ : EReal) = _
  unfold grad
  refine @Finset.sum_congr (Fin _) EReal _ _ _ _ _ rfl fun k _ => ?_
  show parts x (ix3 k r n) = _
  unfold parts
  pointwise

/-- The gradient, from the parts as given. -/
def total (x : Vec Ideal S8x384x96 .f32) : Vec Ideal S384x96 .f32 := fun i => (∑ k : Fin 8, x (ix3 k (i 0) (i 1)) : EReal)

/-- The step, laid out as the arguments. -/
def stepOf (g w a b : Vec Ideal S384x96 .f32) : Vec Ideal S384x96 .f32 := fun i => Adam.step (g i) (w i) (a i) (b i)

/-- The first moments, laid out as the arguments. -/
def firstOf (g a : Vec Ideal S384x96 .f32) : Vec Ideal S384x96 .f32 := fun i => Adam.first (g i) (a i)

/-- The second moments, laid out as the arguments. -/
def secondOf (g b : Vec Ideal S384x96 .f32) : Vec Ideal S384x96 .f32 := fun i => Adam.second (g i) (b i)

/-- The region's gradient turned back. -/
theorem back4 (x : Vec Ideal S8x384x96 .f32) : back (grad (parts x)) = total x := by
  funext i
  obtain ⟨n, r, rfl⟩ : ∃ (n : Fin 384) (r : Fin 96), i = ix2 n r := ⟨i 0, i 1, eq_ix2 i⟩
  rw [back_at]
  exact grad_at x n r

/-- The region's step turned back. -/
theorem back5 (x : Vec Ideal S8x384x96 .f32) (w a b : Vec Ideal S384x96 .f32) : back (delta (grad (parts x)) (turn w) (turn a) (turn b)) = stepOf (total x) w a b := by
  funext i
  obtain ⟨n, r, rfl⟩ : ∃ (n : Fin 384) (r : Fin 96), i = ix2 n r := ⟨i 0, i 1, eq_ix2 i⟩
  rw [back_at]
  show Adam.step (grad (parts x) (ix2 r n)) (turn w (ix2 r n)) (turn a (ix2 r n)) (turn b (ix2 r n)) = Adam.step (total x (ix2 n r)) (w (ix2 n r)) (a (ix2 n r)) (b (ix2 n r))
  rw [grad_at, turn_at, turn_at, turn_at]
  rfl

/-- The region's first moments turned back. -/
theorem back6 (x : Vec Ideal S8x384x96 .f32) (a : Vec Ideal S384x96 .f32) : back (first (grad (parts x)) (turn a)) = firstOf (total x) a := by
  funext i
  obtain ⟨n, r, rfl⟩ : ∃ (n : Fin 384) (r : Fin 96), i = ix2 n r := ⟨i 0, i 1, eq_ix2 i⟩
  rw [back_at]
  show Adam.first (grad (parts x) (ix2 r n)) (turn a (ix2 r n)) = Adam.first (total x (ix2 n r)) (a (ix2 n r))
  rw [grad_at, turn_at]
  rfl

/-- The region's second moments turned back. -/
theorem back7 (x : Vec Ideal S8x384x96 .f32) (b : Vec Ideal S384x96 .f32) : back (second (grad (parts x)) (turn b)) = secondOf (total x) b := by
  funext i
  obtain ⟨n, r, rfl⟩ : ∃ (n : Fin 384) (r : Fin 96), i = ix2 n r := ⟨i 0, i 1, eq_ix2 i⟩
  rw [back_at]
  show Adam.second (grad (parts x) (ix2 r n)) (turn b (ix2 r n)) = Adam.second (total x (ix2 n r)) (b (ix2 n r))
  rw [grad_at, turn_at]
  rfl

/-- No two of the region's arrays are the same. -/
theorem arr_inj : Function.Injective (Pipeline.arrRef (cfgs 0).spec) := by
  intro a b; revert a b; decide

/-- The line after the region that turns the gradient. -/
theorem line4 (W : Valuation τ sig (Elt Ideal)) : StableHlo.after hostOps1 W (Proc.devRef .tc main_v6) = back (W (Proc.devRef .tc main_v5_0)) := by
  dsimp only [hostOps1]
  after_reads_simp
  rfl

/-- The gradient at the end of the program. -/
theorem last4 : Pipeline.afterTail₀ cfgs (dats m) 0 (V0 m) [hostOps1] c main_v6 = total (m ((c : Thread nD τ).loc main_arg0)) := by
  unfold Pipeline.afterTail₀
  simp only [List.flatten_cons, List.flatten_nil, List.append_nil]
  rw [line4]
  refine (congrArg back ((Pipeline.withArrays_arr (cfgs 0).spec arr_inj c (V0 m c) _ 4).trans (final4 m c))).trans ?_
  rw [V_0, back4]

/-- The line after the region that turns the step. -/
theorem line5 (W : Valuation τ sig (Elt Ideal)) : StableHlo.after hostOps1 W (Proc.devRef .tc main_v7) = back (W (Proc.devRef .tc main_v5_1)) := by
  dsimp only [hostOps1]
  after_reads_simp
  rfl

/-- The step at the end of the program. -/
theorem last5 : Pipeline.afterTail₀ cfgs (dats m) 0 (V0 m) [hostOps1] c main_v7 = stepOf (total (m ((c : Thread nD τ).loc main_arg0))) (m ((c : Thread nD τ).loc main_arg1)) (m ((c : Thread nD τ).loc main_arg2)) (m ((c : Thread nD τ).loc main_arg3)) := by
  unfold Pipeline.afterTail₀
  simp only [List.flatten_cons, List.flatten_nil, List.append_nil]
  rw [line5]
  refine (congrArg back ((Pipeline.withArrays_arr (cfgs 0).spec arr_inj c (V0 m c) _ 5).trans (final5 m c))).trans ?_
  rw [V_0, V_1, V_2, V_3, back5]

/-- The line after the region that turns the first moments. -/
theorem line6 (W : Valuation τ sig (Elt Ideal)) : StableHlo.after hostOps1 W (Proc.devRef .tc main_v8) = back (W (Proc.devRef .tc main_v5_2)) := by
  dsimp only [hostOps1]
  after_reads_simp
  rfl

/-- The first moments at the end of the program. -/
theorem last6 : Pipeline.afterTail₀ cfgs (dats m) 0 (V0 m) [hostOps1] c main_v8 = firstOf (total (m ((c : Thread nD τ).loc main_arg0))) (m ((c : Thread nD τ).loc main_arg2)) := by
  unfold Pipeline.afterTail₀
  simp only [List.flatten_cons, List.flatten_nil, List.append_nil]
  rw [line6]
  refine (congrArg back ((Pipeline.withArrays_arr (cfgs 0).spec arr_inj c (V0 m c) _ 6).trans (final6 m c))).trans ?_
  rw [V_0, V_2, back6]

/-- The line after the region that turns the second moments. -/
theorem line7 (W : Valuation τ sig (Elt Ideal)) : StableHlo.after hostOps1 W (Proc.devRef .tc main_v9) = back (W (Proc.devRef .tc main_v5_3)) := by
  dsimp only [hostOps1]
  after_reads_simp
  rfl

/-- The second moments at the end of the program. -/
theorem last7 : Pipeline.afterTail₀ cfgs (dats m) 0 (V0 m) [hostOps1] c main_v9 = secondOf (total (m ((c : Thread nD τ).loc main_arg0))) (m ((c : Thread nD τ).loc main_arg3)) := by
  unfold Pipeline.afterTail₀
  simp only [List.flatten_cons, List.flatten_nil, List.append_nil]
  rw [line7]
  refine (congrArg back ((Pipeline.withArrays_arr (cfgs 0).spec arr_inj c (V0 m c) _ 7).trans (final7 m c))).trans ?_
  rw [V_0, V_3, back7]

/-- The reference's gradient. -/
theorem reference4 (x : Vec Ideal S8x384x96 .f32) : Cert.ReferenceAdamWuqIdeal.Read.val_main_v0 (F := Ideal) x = total x := by
  funext i
  rw [Cert.ReferenceAdamWuqIdeal.Read.val_main_v0_apply, Cert.ReferenceAdamWuqIdeal.Read.val_main_cst_apply]
  refine Eq.trans (congrArg₂ (fun a b : EReal => a + b) Ideal.ofBits_zero_f32 ?_) (zero_add _)
  exact Finset.sum_congr rfl fun k _ => congrArg x (by funext a; fin_cases a <;> rfl)

/-- The reference's first moments. -/
theorem reference6 (x : Vec Ideal S8x384x96 .f32) (a : Vec Ideal S384x96 .f32) :
    Cert.ReferenceAdamWuqIdeal.Read.val_main_v5 (F := Ideal) x a = firstOf (total x) a := by
  rw [← reference4 x]
  rfl

/-- The reference's second moments. -/
theorem reference7 (x : Vec Ideal S8x384x96 .f32) (b : Vec Ideal S384x96 .f32) :
    Cert.ReferenceAdamWuqIdeal.Read.val_main_v11 (F := Ideal) x b = secondOf (total x) b := by
  rw [← reference4 x]
  rfl

/-- The reference's step. -/
theorem reference5 (x : Vec Ideal S8x384x96 .f32) (w a b : Vec Ideal S384x96 .f32) :
    Cert.ReferenceAdamWuqIdeal.Read.val_main_v24 (F := Ideal) x w a b = stepOf (total x) w a b := by
  rw [← reference4 x]
  rfl

/-- The reference program changes no argument and leaves no counter. -/
theorem frame_reference : Cert.quiescent_ReferenceAdamWuqIdeal := fun m ρ _ =>
  (θ_run Cert.ReferenceAdamWuqIdeal.defs _ _).mono
    (fun r h => ⟨fun c => (h c).2.2.2.2, Idealize.ShloMosaic.sem_eq_zero_of_no_sems (by decide) r.2⟩)
    (Cert.ReferenceAdamWuqIdeal.Value.run (F := Ideal) m ρ)

/-- The kernel's four results and the reference's are the same. -/
theorem value : Cert.algebraic_KernelAdamWuqIdeal_ReferenceAdamWuqIdeal := by
  intro m g m' g' _ hm
  refine ⟨fun c => total (m ((c : Thread nD τ).loc main_arg0)),
    fun c => stepOf (total (m ((c : Thread nD τ).loc main_arg0))) (m ((c : Thread nD τ).loc main_arg1)) (m ((c : Thread nD τ).loc main_arg2)) (m ((c : Thread nD τ).loc main_arg3)),
    fun c => firstOf (total (m ((c : Thread nD τ).loc main_arg0))) (m ((c : Thread nD τ).loc main_arg2)),
    fun c => secondOf (total (m ((c : Thread nD τ).loc main_arg0))) (m ((c : Thread nD τ).loc main_arg3)), ?_, ?_⟩
  · refine (θ_run defs _ _).mono (fun r h c => ?_) (θ_run_and (run_main m g) (unchanged m g))
    exact ⟨((h.1 c).2 main_v6 (Pipeline.mem_restRefs_of main_v6 (by decide) (by decide))).trans (last4 m c), ((h.1 c).2 main_v7 (Pipeline.mem_restRefs_of main_v7 (by decide) (by decide))).trans (last5 m c),
      ((h.1 c).2 main_v8 (Pipeline.mem_restRefs_of main_v8 (by decide) (by decide))).trans (last6 m c), ((h.1 c).2 main_v9 (Pipeline.mem_restRefs_of main_v9 (by decide) (by decide))).trans (last7 m c), h.2 c⟩
  · refine (θ_run Cert.ReferenceAdamWuqIdeal.defs _ _).mono (fun r h c => ?_) (Cert.ReferenceAdamWuqIdeal.Value.run (F := Ideal) m' g')
    obtain ⟨h4, h5, h6, h7, h⟩ := h c
    obtain ⟨e0, e1, e2, e3⟩ := hm c
    refine ⟨h4.trans ?_, h5.trans ?_, h6.trans ?_, h7.trans ?_, h⟩
    · rw [e0]; exact reference4 _
    · rw [e0, e1, e2, e3]; exact reference5 _ _ _ _
    · rw [e0, e2]; exact reference6 _ _
    · rw [e0, e3]; exact reference7 _ _

end Cert.Proof.AdamWuq
-- ==== Proof.AdamWin.lean ====
/- The optimiser's step on the input projection's weight: one block holds everything. -/
module

public import proofs.«01_k».proof.Defs
public import proofs.«01_k».proof.Proof.Gen.KernelAdamWin
public import proofs.«01_k».proof.Proof.Gen.KernelAdamWin.Frame
public import proofs.«01_k».proof.Proof.Gen.KernelAdamWinIdeal
public import proofs.«01_k».proof.Proof.Gen.KernelAdamWinIdeal.Frame
public import proofs.«01_k».proof.Proof.Gen.ReferenceAdamWinIdeal
public import proofs.«01_k».proof.Proof.Gen.ReferenceAdamWinIdeal.Run
public import proofs.«01_k».proof.Proof.Gen.ReferenceAdamWinIdeal.Read
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.AdamWin

open Cert.KernelAdamWinIdeal Cert.KernelAdamWinIdeal.Gen Idealize.ShloMosaic Idealize.ShloMosaic.TcCoe Idealize.SL.Sem

variable (m : (ℓ : Loc nD τ sig) → Buf (Elt Ideal) ℓ) (c : Dev nD)

/-- The gradient: the sum of the eight devices' parts. -/
def grad (x : Vec Ideal S8x276x1024 .f32) : Vec Ideal S276x1024 .f32 :=
  fun i => (∑ k : Fin 8, x (ix3 k (i 0) (i 1)) : EReal)

/-- The step of every entry. -/
def delta (g w a b : Vec Ideal S276x1024 .f32) : Vec Ideal S276x1024 .f32 := fun i => Adam.step (g i) (w i) (a i) (b i)

/-- The first moments after the step. -/
def first (g a : Vec Ideal S276x1024 .f32) : Vec Ideal S276x1024 .f32 := fun i => Adam.first (g i) (a i)

/-- The second moments after the step. -/
def second (g b : Vec Ideal S276x1024 .f32) : Vec Ideal S276x1024 .f32 := fun i => Adam.second (g i) (b i)

/-- The body's gradient. -/
theorem pay_at (x0 : Vec Ideal S8x276x1024 .bf16) (r : Fin 276) (n : Fin 1024) :
    k0_pay4 (View.ld x0 r0_0) (View.ld x0 r0_1) (View.ld x0 r0_2) (View.ld x0 r0_3) (View.ld x0 r0_4) (View.ld x0 r0_5) (View.ld x0 r0_6) (View.ld x0 r0_7) (ix2 r n) = (∑ k : Fin 8, x0 (ix3 k r n) : EReal) := by
  rw [← Adam.eight (fun k => x0 (ix3 k r n))]
  unfold k0_pay4
  pointwise

/-- The body's first moment, from a gradient. -/
theorem pay1_eq (g x : Vec Ideal S276x1024 .f32) : k0_pay1 g x = first g x := by
  unfold k0_pay1
  simp only [shapeCast_self]
  rfl

/-- The body's second moment, from a gradient. -/
theorem pay2_eq (g x : Vec Ideal S276x1024 .f32) : k0_pay2 g x = second g x := by
  unfold k0_pay2
  simp only [shapeCast_self]
  rfl

/-- The body's step, from a gradient. -/
theorem pay3_eq (g a b w : Vec Ideal S276x1024 .f32) : k0_pay3 g a b w = delta g w a b := by
  unfold k0_pay3
  simp only [shapeCast_self, pay1_eq, pay2_eq]
  rfl

/-- The body's gradient in its buffer. -/
theorem out4 (x0 : Vec Ideal S8x276x1024 .bf16) (x1 x2 x3 : Vec Ideal S276x1024 .f32) : out0_4 x0 x1 x2 x3 = grad x0 := by
  have e : out0_4 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) := by
    unfold out0_4
    frame_out
  rw [e]
  funext i
  obtain ⟨r, n, rfl⟩ : ∃ r n, i = ix2 r n := ⟨i 0, i 1, eq_ix2 i⟩
  exact pay_at x0 r n

/-- The body's step in its buffer. -/
theorem out5 (x0 : Vec Ideal S8x276x1024 .bf16) (x1 x2 x3 : Vec Ideal S276x1024 .f32) : out0_5 x0 x1 x2 x3 = delta (grad x0) x1 x2 x3 := by
  have e : out0_5 x0 x1 x2 x3 = k0_pay3 (k0_pay5 x0 x1 x2 x3) x2 x3 x1 := by
    unfold out0_5
    frame_out
  rw [e, pay3_eq]
  funext i
  obtain ⟨r, n, rfl⟩ : ∃ r n, i = ix2 r n := ⟨i 0, i 1, eq_ix2 i⟩
  exact congrArg (fun g => Adam.step g (x1 (ix2 r n)) (x2 (ix2 r n)) (x3 (ix2 r n))) (pay_at x0 r n)

/-- The body's first moment in its buffer. -/
theorem out6 (x0 : Vec Ideal S8x276x1024 .bf16) (x1 x2 x3 : Vec Ideal S276x1024 .f32) : out0_6 x0 x1 x2 x3 = first (grad x0) x2 := by
  have e : out0_6 x0 x1 x2 x3 = k0_pay1 (k0_pay5 x0 x1 x2 x3) x2 := by
    unfold out0_6
    frame_out
  rw [e, pay1_eq]
  funext i
  obtain ⟨r, n, rfl⟩ : ∃ r n, i = ix2 r n := ⟨i 0, i 1, eq_ix2 i⟩
  exact congrArg (fun g => Adam.first g (x2 (ix2 r n))) (pay_at x0 r n)

/-- The body's second moment in its buffer. -/
theorem out7 (x0 : Vec Ideal S8x276x1024 .bf16) (x1 x2 x3 : Vec Ideal S276x1024 .f32) : out0_7 x0 x1 x2 x3 = second (grad x0) x3 := by
  have e : out0_7 x0 x1 x2 x3 = k0_pay2 (k0_pay5 x0 x1 x2 x3) x3 := by
    unfold out0_7
    frame_out
  rw [e, pay2_eq]
  funext i
  obtain ⟨r, n, rfl⟩ : ∃ r n, i = ix2 r n := ⟨i 0, i 1, eq_ix2 i⟩
  exact congrArg (fun g => Adam.second g (x3 (ix2 r n))) (pay_at x0 r n)

/-- The parts' block is all of them. -/
theorem read_0 (X : Vec Ideal S8x276x1024 .bf16) (t : Fin cfg0.N) : ((win0_0.blk t).view.read (Elt Ideal) X : Vec Ideal S8x276x1024 .bf16) = X := by
  have h : ∀ t : Fin cfg0.N, win0_0.index t = ![0, 0, 0] := (by decide +kernel : ∀ t : Fin grid0.N, _)
  funext i
  obtain ⟨a, b, d, rfl⟩ : ∃ a b d, i = ix3 a b d := ⟨i 0, i 1, i 2, eq_ix3 i⟩
  blk_ext [h t]

/-- The weight's block is all of it. -/
theorem read_1 (X : Vec Ideal S276x1024 .f32) (t : Fin cfg0.N) : ((win0_1.blk t).view.read (Elt Ideal) X : Vec Ideal S276x1024 .f32) = X := by
  have h : ∀ t : Fin cfg0.N, win0_1.index t = ![0, 0] := (by decide +kernel : ∀ t : Fin grid0.N, _)
  funext i
  obtain ⟨a, b, rfl⟩ : ∃ a b, i = ix2 a b := ⟨i 0, i 1, eq_ix2 i⟩
  blk_ext [h t]

/-- The first moments' block is all of them. -/
theorem read_2 (X : Vec Ideal S276x1024 .f32) (t : Fin cfg0.N) : ((win0_2.blk t).view.read (Elt Ideal) X : Vec Ideal S276x1024 .f32) = X := by
  have h : ∀ t : Fin cfg0.N, win0_2.index t = ![0, 0] := (by decide +kernel : ∀ t : Fin grid0.N, _)
  funext i
  obtain ⟨a, b, rfl⟩ : ∃ a b, i = ix2 a b := ⟨i 0, i 1, eq_ix2 i⟩
  blk_ext [h t]

/-- The second moments' block is all of them. -/
theorem read_3 (X : Vec Ideal S276x1024 .f32) (t : Fin cfg0.N) : ((win0_3.blk t).view.read (Elt Ideal) X : Vec Ideal S276x1024 .f32) = X := by
  have h : ∀ t : Fin cfg0.N, win0_3.index t = ![0, 0] := (by decide +kernel : ∀ t : Fin grid0.N, _)
  funext i
  obtain ⟨a, b, rfl⟩ : ∃ a b, i = ix2 a b := ⟨i 0, i 1, eq_ix2 i⟩
  blk_ext [h t]

/-- The gradient in its array after the run. -/
theorem final4 : (dats m 0 c).arrAt 4 cfg0.N = grad (V m c main_v1) := by
  have h : ∀ t : Fin cfg0.N, win0_4.index t = ![0, 0] := (by decide +kernel : ∀ t : Fin grid0.N, _)
  refine (dats m 0 c).arrAt_eq_of_covers 4 _ (by decide +kernel) fun t hf y => ?_
  obtain ⟨r, n, rfl⟩ : ∃ (r : Fin 276) (n : Fin 1024), y = ix2 r n := ⟨y 0, y 1, eq_ix2 y⟩
  have e : ((win0_4.blk t).view.emb (ix2 r n) : S276x1024.Idx) = ix2 r n := by blk_ext [h t]
  blk_simp
  rw [after0_4, out4]
  exact (congrFun (congrArg grad (read_0 (V m c main_v1) t)) _).trans (congrArg (grad (V m c main_v1)) e).symm

/-- The step in its array after the run. -/
theorem final5 : (dats m 0 c).arrAt 5 cfg0.N = delta (grad (V m c main_v1)) (V m c main_v2) (V m c main_v3) (V m c main_v4) := by
  have h : ∀ t : Fin cfg0.N, win0_5.index t = ![0, 0] := (by decide +kernel : ∀ t : Fin grid0.N, _)
  refine (dats m 0 c).arrAt_eq_of_covers 5 _ (by decide +kernel) fun t hf y => ?_
  obtain ⟨r, n, rfl⟩ : ∃ (r : Fin 276) (n : Fin 1024), y = ix2 r n := ⟨y 0, y 1, eq_ix2 y⟩
  have e : ((win0_5.blk t).view.emb (ix2 r n) : S276x1024.Idx) = ix2 r n := by blk_ext [h t]
  blk_simp
  rw [after0_5, out5]
  exact (congrFun (congr (congr (congrArg₂ delta (congrArg grad (read_0 (V m c main_v1) t)) (read_1 (V m c main_v2) t)) (read_2 (V m c main_v3) t)) (read_3 (V m c main_v4) t)) _).trans (congrArg (delta (grad (V m c main_v1)) (V m c main_v2) (V m c main_v3) (V m c main_v4)) e).symm

/-- The first moment in its array after the run. -/
theorem final6 : (dats m 0 c).arrAt 6 cfg0.N = first (grad (V m c main_v1)) (V m c main_v3) := by
  have h : ∀ t : Fin cfg0.N, win0_6.index t = ![0, 0] := (by decide +kernel : ∀ t : Fin grid0.N, _)
  refine (dats m 0 c).arrAt_eq_of_covers 6 _ (by decide +kernel) fun t hf y => ?_
  obtain ⟨r, n, rfl⟩ : ∃ (r : Fin 276) (n : Fin 1024), y = ix2 r n := ⟨y 0, y 1, eq_ix2 y⟩
  have e : ((win0_6.blk t).view.emb (ix2 r n) : S276x1024.Idx) = ix2 r n := by blk_ext [h t]
  blk_simp
  rw [after0_6, out6]
  exact (congrFun (congrArg₂ first (congrArg grad (read_0 (V m c main_v1) t)) (read_2 (V m c main_v3) t)) _).trans (congrArg (first (grad (V m c main_v1)) (V m c main_v3)) e).symm

/-- The second moment in its array after the run. -/
theorem final7 : (dats m 0 c).arrAt 7 cfg0.N = second (grad (V m c main_v1)) (V m c main_v4) := by
  have h : ∀ t : Fin cfg0.N, win0_7.index t = ![0, 0] := (by decide +kernel : ∀ t : Fin grid0.N, _)
  refine (dats m 0 c).arrAt_eq_of_covers 7 _ (by decide +kernel) fun t hf y => ?_
  obtain ⟨r, n, rfl⟩ : ∃ (r : Fin 276) (n : Fin 1024), y = ix2 r n := ⟨y 0, y 1, eq_ix2 y⟩
  have e : ((win0_7.blk t).view.emb (ix2 r n) : S276x1024.Idx) = ix2 r n := by blk_ext [h t]
  blk_simp
  rw [after0_7, out7]
  exact (congrFun (congrArg₂ second (congrArg grad (read_0 (V m c main_v1) t)) (read_3 (V m c main_v4) t)) _).trans (congrArg (second (grad (V m c main_v1)) (V m c main_v4)) e).symm

/-- The parts, turned. -/
def parts (x : Vec Ideal S8x1024x276 .f32) : Vec Ideal S8x276x1024 .bf16 :=
  (truncf .bf16 (transpose S8x276x1024 [0, 2, 1] x transposes_S8x1024x276_S8x276x1024_0_2_1 : FVec Ideal S8x276x1024 .f32) bitsLt_bf16_f32 : FVec Ideal S8x276x1024 .bf16)

/-- The parts turned before the region. -/
theorem V_0 : V m c main_v1 = parts (m ((c : Thread nD τ).loc main_arg0)) := by
  show StableHlo.after (List.flatten [hostOps0]) (fun b => m (c, b)) (Proc.devRef .tc main_v1) = _
  simp only [List.flatten_cons, List.flatten_nil, List.append_nil, StableHlo.after_append]
  dsimp only [hostOps0]
  after_reads_simp
  rfl

/-- An array of the region turned back. -/
def back (x : Vec Ideal S276x1024 .f32) : Vec Ideal S1024x276 .f32 := transpose S1024x276 [1, 0] (x : Vec Ideal S276x1024 .f32) transposes_S276x1024_S1024x276_1_0

/-- An argument turned. -/
def turn (x : Vec Ideal S1024x276 .f32) : Vec Ideal S276x1024 .f32 := transpose S276x1024 [1, 0] x transposes_S1024x276_S276x1024_1_0

/-- A turned argument at an entry. -/
theorem turn_at (x : Vec Ideal S1024x276 .f32) (r : Fin 276) (n : Fin 1024) : turn x (ix2 r n) = x (ix2 n r) := by
  unfold turn
  pointwise

/-- A turned array at an entry. -/
theorem back_at (x : Vec Ideal S276x1024 .f32) (n : Fin 1024) (r : Fin 276) : back x (ix2 n r) = x (ix2 r n) := by
  unfold back
  pointwise

/-- The weight turned before the region. -/
theorem V_1 : V m c main_v2 = turn (m ((c : Thread nD τ).loc main_arg1)) := by
  show StableHlo.after (List.flatten [hostOps0]) (fun b => m (c, b)) (Proc.devRef .tc main_v2) = _
  simp only [List.flatten_cons, List.flatten_nil, List.append_nil, StableHlo.after_append]
  dsimp only [hostOps0]
  after_reads_simp
  rfl

/-- The first moments turned before the region. -/
theorem V_2 : V m c main_v3 = turn (m ((c : Thread nD τ).loc main_arg2)) := by
  show StableHlo.after (List.flatten [hostOps0]) (fun b => m (c, b)) (Proc.devRef .tc main_v3) = _
  simp only [List.flatten_cons, List.flatten_nil, List.append_nil, StableHlo.after_append]
  dsimp only [hostOps0]
  after_reads_simp
  rfl

/-- The second moments turned before the region. -/
theorem V_3 : V m c main_v4 = turn (m ((c : Thread nD τ).loc main_arg3)) := by
  show StableHlo.after (List.flatten [hostOps0]) (fun b => m (c, b)) (Proc.devRef .tc main_v4) = _
  simp only [List.flatten_cons, List.flatten_nil, List.append_nil, StableHlo.after_append]
  dsimp only [hostOps0]
  after_reads_simp
  rfl

/-- The gradient of the turned parts at an entry. -/
theorem grad_at (x : Vec Ideal S8x1024x276 .f32) (n : Fin 1024) (r : Fin 276) :
    grad (parts x) (ix2 r n) = (∑ k : Fin 8, x (ix3 k n r) : EReal) := by
  show (_ : EReal) = _
  unfold grad
  refine @Finset.sum_congr (Fin _) EReal _ _ _ _ _ rfl fun k _ => ?_
  show parts x (ix3 k r n) = _
  unfold parts
  pointwise

/-- The gradient, from the parts as given. -/
def total (x : Vec Ideal S8x1024x276 .f32) : Vec Ideal S1024x276 .f32 := fun i => (∑ k : Fin 8, x (ix3 k (i 0) (i 1)) : EReal)

/-- The step, laid out as the arguments. -/
def stepOf (g w a b : Vec Ideal S1024x276 .f32) : Vec Ideal S1024x276 .f32 := fun i => Adam.step (g i) (w i) (a i) (b i)

/-- The first moments, laid out as the arguments. -/
def firstOf (g a : Vec Ideal S1024x276 .f32) : Vec Ideal S1024x276 .f32 := fun i => Adam.first (g i) (a i)

/-- The second moments, laid out as the arguments. -/
def secondOf (g b : Vec Ideal S1024x276 .f32) : Vec Ideal S1024x276 .f32 := fun i => Adam.second (g i) (b i)

/-- The region's gradient turned back. -/
theorem back4 (x : Vec Ideal S8x1024x276 .f32) : back (grad (parts x)) = total x := by
  funext i
  obtain ⟨n, r, rfl⟩ : ∃ (n : Fin 1024) (r : Fin 276), i = ix2 n r := ⟨i 0, i 1, eq_ix2 i⟩
  rw [back_at]
  exact grad_at x n r

/-- The region's step turned back. -/
theorem back5 (x : Vec Ideal S8x1024x276 .f32) (w a b : Vec Ideal S1024x276 .f32) : back (delta (grad (parts x)) (turn w) (turn a) (turn b)) = stepOf (total x) w a b := by
  funext i
  obtain ⟨n, r, rfl⟩ : ∃ (n : Fin 1024) (r : Fin 276), i = ix2 n r := ⟨i 0, i 1, eq_ix2 i⟩
  rw [back_at]
  show Adam.step (grad (parts x) (ix2 r n)) (turn w (ix2 r n)) (turn a (ix2 r n)) (turn b (ix2 r n)) = Adam.step (total x (ix2 n r)) (w (ix2 n r)) (a (ix2 n r)) (b (ix2 n r))
  rw [grad_at, turn_at, turn_at, turn_at]
  rfl

/-- The region's first moments turned back. -/
theorem back6 (x : Vec Ideal S8x1024x276 .f32) (a : Vec Ideal S1024x276 .f32) : back (first (grad (parts x)) (turn a)) = firstOf (total x) a := by
  funext i
  obtain ⟨n, r, rfl⟩ : ∃ (n : Fin 1024) (r : Fin 276), i = ix2 n r := ⟨i 0, i 1, eq_ix2 i⟩
  rw [back_at]
  show Adam.first (grad (parts x) (ix2 r n)) (turn a (ix2 r n)) = Adam.first (total x (ix2 n r)) (a (ix2 n r))
  rw [grad_at, turn_at]
  rfl

/-- The region's second moments turned back. -/
theorem back7 (x : Vec Ideal S8x1024x276 .f32) (b : Vec Ideal S1024x276 .f32) : back (second (grad (parts x)) (turn b)) = secondOf (total x) b := by
  funext i
  obtain ⟨n, r, rfl⟩ : ∃ (n : Fin 1024) (r : Fin 276), i = ix2 n r := ⟨i 0, i 1, eq_ix2 i⟩
  rw [back_at]
  show Adam.second (grad (parts x) (ix2 r n)) (turn b (ix2 r n)) = Adam.second (total x (ix2 n r)) (b (ix2 n r))
  rw [grad_at, turn_at]
  rfl

/-- No two of the region's arrays are the same. -/
theorem arr_inj : Function.Injective (Pipeline.arrRef (cfgs 0).spec) := by
  intro a b; revert a b; decide

/-- The line after the region that turns the gradient. -/
theorem line4 (W : Valuation τ sig (Elt Ideal)) : StableHlo.after hostOps1 W (Proc.devRef .tc main_v6) = back (W (Proc.devRef .tc main_v5_0)) := by
  dsimp only [hostOps1]
  after_reads_simp
  rfl

/-- The gradient at the end of the program. -/
theorem last4 : Pipeline.afterTail₀ cfgs (dats m) 0 (V0 m) [hostOps1] c main_v6 = total (m ((c : Thread nD τ).loc main_arg0)) := by
  unfold Pipeline.afterTail₀
  simp only [List.flatten_cons, List.flatten_nil, List.append_nil]
  rw [line4]
  refine (congrArg back ((Pipeline.withArrays_arr (cfgs 0).spec arr_inj c (V0 m c) _ 4).trans (final4 m c))).trans ?_
  rw [V_0, back4]

/-- The line after the region that turns the step. -/
theorem line5 (W : Valuation τ sig (Elt Ideal)) : StableHlo.after hostOps1 W (Proc.devRef .tc main_v7) = back (W (Proc.devRef .tc main_v5_1)) := by
  dsimp only [hostOps1]
  after_reads_simp
  rfl

/-- The step at the end of the program. -/
theorem last5 : Pipeline.afterTail₀ cfgs (dats m) 0 (V0 m) [hostOps1] c main_v7 = stepOf (total (m ((c : Thread nD τ).loc main_arg0))) (m ((c : Thread nD τ).loc main_arg1)) (m ((c : Thread nD τ).loc main_arg2)) (m ((c : Thread nD τ).loc main_arg3)) := by
  unfold Pipeline.afterTail₀
  simp only [List.flatten_cons, List.flatten_nil, List.append_nil]
  rw [line5]
  refine (congrArg back ((Pipeline.withArrays_arr (cfgs 0).spec arr_inj c (V0 m c) _ 5).trans (final5 m c))).trans ?_
  rw [V_0, V_1, V_2, V_3, back5]

/-- The line after the region that turns the first moments. -/
theorem line6 (W : Valuation τ sig (Elt Ideal)) : StableHlo.after hostOps1 W (Proc.devRef .tc main_v8) = back (W (Proc.devRef .tc main_v5_2)) := by
  dsimp only [hostOps1]
  after_reads_simp
  rfl

/-- The first moments at the end of the program. -/
theorem last6 : Pipeline.afterTail₀ cfgs (dats m) 0 (V0 m) [hostOps1] c main_v8 = firstOf (total (m ((c : Thread nD τ).loc main_arg0))) (m ((c : Thread nD τ).loc main_arg2)) := by
  unfold Pipeline.afterTail₀
  simp only [List.flatten_cons, List.flatten_nil, List.append_nil]
  rw [line6]
  refine (congrArg back ((Pipeline.withArrays_arr (cfgs 0).spec arr_inj c (V0 m c) _ 6).trans (final6 m c))).trans ?_
  rw [V_0, V_2, back6]

/-- The line after the region that turns the second moments. -/
theorem line7 (W : Valuation τ sig (Elt Ideal)) : StableHlo.after hostOps1 W (Proc.devRef .tc main_v9) = back (W (Proc.devRef .tc main_v5_3)) := by
  dsimp only [hostOps1]
  after_reads_simp
  rfl

/-- The second moments at the end of the program. -/
theorem last7 : Pipeline.afterTail₀ cfgs (dats m) 0 (V0 m) [hostOps1] c main_v9 = secondOf (total (m ((c : Thread nD τ).loc main_arg0))) (m ((c : Thread nD τ).loc main_arg3)) := by
  unfold Pipeline.afterTail₀
  simp only [List.flatten_cons, List.flatten_nil, List.append_nil]
  rw [line7]
  refine (congrArg back ((Pipeline.withArrays_arr (cfgs 0).spec arr_inj c (V0 m c) _ 7).trans (final7 m c))).trans ?_
  rw [V_0, V_3, back7]

/-- The reference's gradient. -/
theorem reference4 (x : Vec Ideal S8x1024x276 .f32) : Cert.ReferenceAdamWinIdeal.Read.val_main_v0 (F := Ideal) x = total x := by
  funext i
  rw [Cert.ReferenceAdamWinIdeal.Read.val_main_v0_apply, Cert.ReferenceAdamWinIdeal.Read.val_main_cst_apply]
  refine Eq.trans (congrArg₂ (fun a b : EReal => a + b) Ideal.ofBits_zero_f32 ?_) (zero_add _)
  exact Finset.sum_congr rfl fun k _ => congrArg x (by funext a; fin_cases a <;> rfl)

/-- The reference's first moments. -/
theorem reference6 (x : Vec Ideal S8x1024x276 .f32) (a : Vec Ideal S1024x276 .f32) :
    Cert.ReferenceAdamWinIdeal.Read.val_main_v5 (F := Ideal) x a = firstOf (total x) a := by
  rw [← reference4 x]
  rfl

/-- The reference's second moments. -/
theorem reference7 (x : Vec Ideal S8x1024x276 .f32) (b : Vec Ideal S1024x276 .f32) :
    Cert.ReferenceAdamWinIdeal.Read.val_main_v11 (F := Ideal) x b = secondOf (total x) b := by
  rw [← reference4 x]
  rfl

/-- The reference's step. -/
theorem reference5 (x : Vec Ideal S8x1024x276 .f32) (w a b : Vec Ideal S1024x276 .f32) :
    Cert.ReferenceAdamWinIdeal.Read.val_main_v24 (F := Ideal) x w a b = stepOf (total x) w a b := by
  rw [← reference4 x]
  rfl

/-- The reference program changes no argument and leaves no counter. -/
theorem frame_reference : Cert.quiescent_ReferenceAdamWinIdeal := fun m ρ _ =>
  (θ_run Cert.ReferenceAdamWinIdeal.defs _ _).mono
    (fun r h => ⟨fun c => (h c).2.2.2.2, Idealize.ShloMosaic.sem_eq_zero_of_no_sems (by decide) r.2⟩)
    (Cert.ReferenceAdamWinIdeal.Value.run (F := Ideal) m ρ)

/-- The kernel's four results and the reference's are the same. -/
theorem value : Cert.algebraic_KernelAdamWinIdeal_ReferenceAdamWinIdeal := by
  intro m g m' g' _ hm
  refine ⟨fun c => total (m ((c : Thread nD τ).loc main_arg0)),
    fun c => stepOf (total (m ((c : Thread nD τ).loc main_arg0))) (m ((c : Thread nD τ).loc main_arg1)) (m ((c : Thread nD τ).loc main_arg2)) (m ((c : Thread nD τ).loc main_arg3)),
    fun c => firstOf (total (m ((c : Thread nD τ).loc main_arg0))) (m ((c : Thread nD τ).loc main_arg2)),
    fun c => secondOf (total (m ((c : Thread nD τ).loc main_arg0))) (m ((c : Thread nD τ).loc main_arg3)), ?_, ?_⟩
  · refine (θ_run defs _ _).mono (fun r h c => ?_) (θ_run_and (run_main m g) (unchanged m g))
    exact ⟨((h.1 c).2 main_v6 (Pipeline.mem_restRefs_of main_v6 (by decide) (by decide))).trans (last4 m c), ((h.1 c).2 main_v7 (Pipeline.mem_restRefs_of main_v7 (by decide) (by decide))).trans (last5 m c),
      ((h.1 c).2 main_v8 (Pipeline.mem_restRefs_of main_v8 (by decide) (by decide))).trans (last6 m c), ((h.1 c).2 main_v9 (Pipeline.mem_restRefs_of main_v9 (by decide) (by decide))).trans (last7 m c), h.2 c⟩
  · refine (θ_run Cert.ReferenceAdamWinIdeal.defs _ _).mono (fun r h c => ?_) (Cert.ReferenceAdamWinIdeal.Value.run (F := Ideal) m' g')
    obtain ⟨h4, h5, h6, h7, h⟩ := h c
    obtain ⟨e0, e1, e2, e3⟩ := hm c
    refine ⟨h4.trans ?_, h5.trans ?_, h6.trans ?_, h7.trans ?_, h⟩
    · rw [e0]; exact reference4 _
    · rw [e0, e1, e2, e3]; exact reference5 _ _ _ _
    · rw [e0, e2]; exact reference6 _ _
    · rw [e0, e3]; exact reference7 _ _

end Cert.Proof.AdamWin
-- ==== Proof.AdamWup.lean ====
/- The optimiser's step on the feed-forward's first weight, in four blocks of rows: one block holds everything. -/
module

public import proofs.«01_k».proof.Defs
public import proofs.«01_k».proof.Proof.Gen.KernelAdamWup
public import proofs.«01_k».proof.Proof.Gen.KernelAdamWup.Frame
public import proofs.«01_k».proof.Proof.Gen.KernelAdamWupIdeal
public import proofs.«01_k».proof.Proof.Gen.KernelAdamWupIdeal.Frame
public import proofs.«01_k».proof.Proof.Gen.ReferenceAdamWupIdeal
public import proofs.«01_k».proof.Proof.Gen.ReferenceAdamWupIdeal.Run
public import proofs.«01_k».proof.Proof.Gen.ReferenceAdamWupIdeal.Read
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.AdamWup

open Cert.KernelAdamWupIdeal Cert.KernelAdamWupIdeal.Gen Idealize.ShloMosaic Idealize.ShloMosaic.TcCoe Idealize.SL.Sem

variable (m : (ℓ : Loc nD τ sig) → Buf (Elt Ideal) ℓ) (c : Dev nD)

/-- The gradient: the sum of the eight devices' parts. -/
def grad (x : Vec Ideal S8x768x1024 .bf16) : Vec Ideal S704x1024 .f32 :=
  fun i => (∑ k : Fin 8, x (ix3 k ⟨(i 0).val, lt_trans (i 0).isLt (by decide)⟩ (i 1)) : EReal)

/-- The step of every entry. -/
def delta (g w a b : Vec Ideal S704x1024 .f32) : Vec Ideal S704x1024 .f32 := fun i => Adam.step (g i) (w i) (a i) (b i)

/-- The first moments after the step. -/
def first (g a : Vec Ideal S704x1024 .f32) : Vec Ideal S704x1024 .f32 := fun i => Adam.first (g i) (a i)

/-- The second moments after the step. -/
def second (g b : Vec Ideal S704x1024 .f32) : Vec Ideal S704x1024 .f32 := fun i => Adam.second (g i) (b i)

/-- A block's step. -/
def deltaB (g w a b : Vec Ideal S176x1024 .f32) : Vec Ideal S176x1024 .f32 := fun i => Adam.step (g i) (w i) (a i) (b i)

/-- A block's first moments. -/
def firstB (g a : Vec Ideal S176x1024 .f32) : Vec Ideal S176x1024 .f32 := fun i => Adam.first (g i) (a i)

/-- A block's second moments. -/
def secondB (g b : Vec Ideal S176x1024 .f32) : Vec Ideal S176x1024 .f32 := fun i => Adam.second (g i) (b i)

/-- The body's gradient from a block of parts. -/
def payG (x0 : Vec Ideal S8x176x1024 .bf16) : Vec Ideal S176x1024 .f32 :=
  k0_pay4 (View.ld x0 (Rect.unit (s := S8x176x1024) ![0, 0, 0] S1x176x1024.size inb_S8x176x1024_S1x176x1024_0_0_0)) (View.ld x0 (Rect.unit (s := S8x176x1024) ![1, 0, 0] S1x176x1024.size inb_S8x176x1024_S1x176x1024_1_0_0)) (View.ld x0 (Rect.unit (s := S8x176x1024) ![2, 0, 0] S1x176x1024.size inb_S8x176x1024_S1x176x1024_2_0_0)) (View.ld x0 (Rect.unit (s := S8x176x1024) ![3, 0, 0] S1x176x1024.size inb_S8x176x1024_S1x176x1024_3_0_0)) (View.ld x0 (Rect.unit (s := S8x176x1024) ![4, 0, 0] S1x176x1024.size inb_S8x176x1024_S1x176x1024_4_0_0)) (View.ld x0 (Rect.unit (s := S8x176x1024) ![5, 0, 0] S1x176x1024.size inb_S8x176x1024_S1x176x1024_5_0_0)) (View.ld x0 (Rect.unit (s := S8x176x1024) ![6, 0, 0] S1x176x1024.size inb_S8x176x1024_S1x176x1024_6_0_0)) (View.ld x0 (Rect.unit (s := S8x176x1024) ![7, 0, 0] S1x176x1024.size inb_S8x176x1024_S1x176x1024_7_0_0))

/-- The body's gradient at an entry. -/
theorem pay_at (x0 : Vec Ideal S8x176x1024 .bf16) (r : Fin 176) (n : Fin 1024) : payG x0 (ix2 r n) = (∑ k : Fin 8, x0 (ix3 k r n) : EReal) := by
  rw [← Adam.eight (fun k => x0 (ix3 k r n))]
  unfold payG k0_pay4
  pointwise

/-- The body's first moment, from a gradient. -/
theorem pay1_eq (g x : Vec Ideal S176x1024 .f32) : k0_pay1 g x = firstB g x := by
  unfold k0_pay1
  simp only [shapeCast_self]
  rfl

/-- The body's second moment, from a gradient. -/
theorem pay2_eq (g x : Vec Ideal S176x1024 .f32) : k0_pay2 g x = secondB g x := by
  unfold k0_pay2
  simp only [shapeCast_self]
  rfl

/-- The body's step, from a gradient. -/
theorem pay3_eq (g a b w : Vec Ideal S176x1024 .f32) : k0_pay3 g a b w = deltaB g w a b := by
  unfold k0_pay3
  simp only [shapeCast_self, pay1_eq, pay2_eq]
  rfl

/-- The body's gradient in its buffer. -/
theorem out4 (t : Fin cfg0.N) : (outsAt0 m c t).1 = payG (X0_0 m c t) := by
  have e : (outsAt0 m c t).1 = payG (X0_0 m c t) := by
    unfold outsAt0
    frame_out
    rfl
  rw [e]

/-- The body's step in its buffer. -/
theorem out5 (t : Fin cfg0.N) : (outsAt0 m c t).2.1 = deltaB (payG (X0_0 m c t)) (iblk m c 1 t) (iblk m c 2 t) (iblk m c 3 t) := by
  have e : (outsAt0 m c t).2.1 = k0_pay3 (payG (X0_0 m c t)) (iblk m c 2 t) (iblk m c 3 t) (iblk m c 1 t) := by
    unfold outsAt0
    frame_out
    rfl
  rw [e, pay3_eq]

/-- The body's first moments in its buffer. -/
theorem out6 (t : Fin cfg0.N) : (outsAt0 m c t).2.2.1 = firstB (payG (X0_0 m c t)) (iblk m c 2 t) := by
  have e : (outsAt0 m c t).2.2.1 = k0_pay1 (payG (X0_0 m c t)) (iblk m c 2 t) := by
    unfold outsAt0
    frame_out
    rfl
  rw [e, pay1_eq]

/-- The body's second moments in its buffer. -/
theorem out7 (t : Fin cfg0.N) : (outsAt0 m c t).2.2.2 = secondB (payG (X0_0 m c t)) (iblk m c 3 t) := by
  have e : (outsAt0 m c t).2.2.2 = k0_pay2 (payG (X0_0 m c t)) (iblk m c 3 t) := by
    unfold outsAt0
    frame_out
    rfl
  rw [e, pay2_eq]

/-- The number of points. -/
theorem points (t : Fin cfg0.N) : t.val < 4 := lt_of_lt_of_eq t.isLt N_0

/-- The parts' block at an entry. -/
theorem read_0 (t : Fin cfg0.N) (k : Fin 8) (r : Fin 176) (n : Fin 1024) :
    (X0_0 m c t : Vec Ideal S8x176x1024 .bf16) (ix3 k r n)
      = (V m c main_v2 : Vec Ideal S8x768x1024 .bf16) (ix3 k ⟨t.val * 176 + r.val, by have := points t; omega⟩ n) := by
  have h : ∀ t : Fin cfg0.N, win0_0.index t = ![0, t.val, 0] := (by decide +kernel : ∀ t : Fin grid0.N, _)
  unfold X0_0 Pipeline.Window.fill
  rw [dif_pos (moved0_0 t (ix3 k r n))]
  refine congrArg (V m c main_v2) ?_
  blk_ext [h t]

/-- The weight's block at an entry. -/
theorem read_1 (X : Vec Ideal S704x1024 .f32) (t : Fin cfg0.N) (r : Fin 176) (n : Fin 1024) :
    ((win0_1.blk t).view.read (Elt Ideal) X : Vec Ideal S176x1024 .f32) (ix2 r n) = X (ix2 ⟨t.val * 176 + r.val, by have := points t; omega⟩ n) := by
  have h : ∀ t : Fin cfg0.N, win0_1.index t = ![t.val, 0] := (by decide +kernel : ∀ t : Fin grid0.N, _)
  blk_ext [h t]

/-- The first moments' block at an entry. -/
theorem read_2 (X : Vec Ideal S704x1024 .f32) (t : Fin cfg0.N) (r : Fin 176) (n : Fin 1024) :
    ((win0_2.blk t).view.read (Elt Ideal) X : Vec Ideal S176x1024 .f32) (ix2 r n) = X (ix2 ⟨t.val * 176 + r.val, by have := points t; omega⟩ n) := by
  have h : ∀ t : Fin cfg0.N, win0_2.index t = ![t.val, 0] := (by decide +kernel : ∀ t : Fin grid0.N, _)
  blk_ext [h t]

/-- The second moments' block at an entry. -/
theorem read_3 (X : Vec Ideal S704x1024 .f32) (t : Fin cfg0.N) (r : Fin 176) (n : Fin 1024) :
    ((win0_3.blk t).view.read (Elt Ideal) X : Vec Ideal S176x1024 .f32) (ix2 r n) = X (ix2 ⟨t.val * 176 + r.val, by have := points t; omega⟩ n) := by
  have h : ∀ t : Fin cfg0.N, win0_3.index t = ![t.val, 0] := (by decide +kernel : ∀ t : Fin grid0.N, _)
  blk_ext [h t]

/-- The gradient of a point's block. -/
theorem pay_block (t : Fin cfg0.N) (r : Fin 176) (n : Fin 1024) :
    payG (X0_0 m c t) (ix2 r n) = grad (V m c main_v2) (ix2 ⟨t.val * 176 + r.val, by have := points t; omega⟩ n) := by
  rw [pay_at]
  exact @Finset.sum_congr (Fin _) EReal _ _ _ _ _ rfl fun k _ => read_0 m c t k r n

/-- The gradient in the array after the run. -/
theorem final4 : (dats m 0 c).arrAt 4 cfg0.N = grad (V m c main_v2) := by
  have h : ∀ t : Fin cfg0.N, win0_4.index t = ![t.val, 0] := (by decide +kernel : ∀ t : Fin grid0.N, _)
  refine (dats m 0 c).arrAt_eq_of_covers 4 _ (by decide +kernel) fun t hf y => ?_
  have hN := points t
  obtain ⟨r, n, rfl⟩ : ∃ (r : Fin 176) (n : Fin 1024), y = ix2 r n := ⟨y 0, y 1, eq_ix2 y⟩
  have e : ((win0_4.blk t).view.emb (ix2 r n) : S704x1024.Idx) = ix2 ⟨t.val * 176 + r.val, by have := points t; omega⟩ n := by blk_ext [h t]
  blk_simp
  rw [after0_4, out4]
  refine Eq.trans ?_ (congrArg (grad (V m c main_v2)) e).symm
  exact pay_block m c t r n

/-- The step in the array after the run. -/
theorem final5 : (dats m 0 c).arrAt 5 cfg0.N = delta (grad (V m c main_v2)) (V m c main_v3) (V m c main_v4) (V m c main_v5) := by
  have h : ∀ t : Fin cfg0.N, win0_5.index t = ![t.val, 0] := (by decide +kernel : ∀ t : Fin grid0.N, _)
  refine (dats m 0 c).arrAt_eq_of_covers 5 _ (by decide +kernel) fun t hf y => ?_
  have hN := points t
  obtain ⟨r, n, rfl⟩ : ∃ (r : Fin 176) (n : Fin 1024), y = ix2 r n := ⟨y 0, y 1, eq_ix2 y⟩
  have e : ((win0_5.blk t).view.emb (ix2 r n) : S704x1024.Idx) = ix2 ⟨t.val * 176 + r.val, by have := points t; omega⟩ n := by blk_ext [h t]
  blk_simp
  rw [after0_5, out5]
  refine Eq.trans ?_ (congrArg (delta (grad (V m c main_v2)) (V m c main_v3) (V m c main_v4) (V m c main_v5)) e).symm
  exact congr (congr (congrArg₂ Adam.step (pay_block m c t r n) (read_1 (V m c main_v3) t r n)) (read_2 (V m c main_v4) t r n)) (read_3 (V m c main_v5) t r n)

/-- The first moments in the array after the run. -/
theorem final6 : (dats m 0 c).arrAt 6 cfg0.N = first (grad (V m c main_v2)) (V m c main_v4) := by
  have h : ∀ t : Fin cfg0.N, win0_6.index t = ![t.val, 0] := (by decide +kernel : ∀ t : Fin grid0.N, _)
  refine (dats m 0 c).arrAt_eq_of_covers 6 _ (by decide +kernel) fun t hf y => ?_
  have hN := points t
  obtain ⟨r, n, rfl⟩ : ∃ (r : Fin 176) (n : Fin 1024), y = ix2 r n := ⟨y 0, y 1, eq_ix2 y⟩
  have e : ((win0_6.blk t).view.emb (ix2 r n) : S704x1024.Idx) = ix2 ⟨t.val * 176 + r.val, by have := points t; omega⟩ n := by blk_ext [h t]
  blk_simp
  rw [after0_6, out6]
  refine Eq.trans ?_ (congrArg (first (grad (V m c main_v2)) (V m c main_v4)) e).symm
  exact congrArg₂ Adam.first (pay_block m c t r n) (read_2 (V m c main_v4) t r n)

/-- The second moments in the array after the run. -/
theorem final7 : (dats m 0 c).arrAt 7 cfg0.N = second (grad (V m c main_v2)) (V m c main_v5) := by
  have h : ∀ t : Fin cfg0.N, win0_7.index t = ![t.val, 0] := (by decide +kernel : ∀ t : Fin grid0.N, _)
  refine (dats m 0 c).arrAt_eq_of_covers 7 _ (by decide +kernel) fun t hf y => ?_
  have hN := points t
  obtain ⟨r, n, rfl⟩ : ∃ (r : Fin 176) (n : Fin 1024), y = ix2 r n := ⟨y 0, y 1, eq_ix2 y⟩
  have e : ((win0_7.blk t).view.emb (ix2 r n) : S704x1024.Idx) = ix2 ⟨t.val * 176 + r.val, by have := points t; omega⟩ n := by blk_ext [h t]
  blk_simp
  rw [after0_7, out7]
  refine Eq.trans ?_ (congrArg (second (grad (V m c main_v2)) (V m c main_v5)) e).symm
  exact congrArg₂ Adam.second (pay_block m c t r n) (read_3 (V m c main_v5) t r n)

/-- The parts, turned. -/
def turned (x : Vec Ideal S8x1024x704 .f32) : Vec Ideal S8x704x1024 .bf16 :=
  (truncf .bf16 (transpose S8x704x1024 [0, 2, 1] x transposes_S8x1024x704_S8x704x1024_0_2_1 : FVec Ideal S8x704x1024 .f32) bitsLt_bf16_f32 : FVec Ideal S8x704x1024 .bf16)

/-- The turned parts in 768 rows. -/
def parts (x : Vec Ideal S8x1024x704 .f32) : Vec Ideal S8x768x1024 .bf16 :=
  pad S8x768x1024 ![0, 0, 0] ![0, 64, 0] ![0, 0, 0] (turned x) (sitofp .bf16 (constantI S_ 32 0#32) : FVec Ideal S_ .bf16) pads_S8x704x1024_S8x768x1024_000_0640_000 h_S_

section Lines
variable (W : Valuation τ sig (Elt Ideal))

/-- The lines that turn the parts. -/
theorem lines_turn : StableHlo.after hostOps0 W (Proc.devRef .tc main_v1) = turned (W (Proc.devRef .tc main_arg0)) := by
  dsimp only [hostOps0]
  after_reads_simp
  rfl

/-- The integer zero the padding is read from. -/
theorem lines_zero : StableHlo.after hostOps0 W (Proc.devRef .tc main_c) = (constantI S_ 32 0#32 : IVec S_ 32) := by
  dsimp only [hostOps0]
  after_reads_simp

/-- The lines that pad. -/
theorem lines_pad (h : W (Proc.devRef .tc main_c) = (constantI S_ 32 0#32 : IVec S_ 32)) :
    StableHlo.after hostOps0_1 W (Proc.devRef .tc main_v2)
      = pad S8x768x1024 ![0, 0, 0] ![0, 64, 0] ![0, 0, 0] (W (Proc.devRef .tc main_v1) : Vec Ideal S8x704x1024 .bf16) (sitofp .bf16 (constantI S_ 32 0#32) : FVec Ideal S_ .bf16) pads_S8x704x1024_S8x768x1024_000_0640_000 h_S_ := by
  dsimp only [hostOps0_1]
  after_reads_simp
  rw [h]
  rfl

/-- The last lines leave the padded parts alone. -/
theorem lines_keep : StableHlo.after hostOps0_2 W (Proc.devRef .tc main_v2) = W (Proc.devRef .tc main_v2) := by
  dsimp only [hostOps0_2]
  after_reads_simp

end Lines

/-- The parts before the region. -/
theorem V_0 : V m c main_v2 = parts (m ((c : Thread nD τ).loc main_arg0)) := by
  show StableHlo.after (List.flatten [hostOps0, hostOps0_1, hostOps0_2]) (fun b => m (c, b)) (Proc.devRef .tc main_v2) = _
  simp only [List.flatten_cons, List.flatten_nil, List.append_nil, StableHlo.after_append]
  rw [lines_keep, lines_pad _ (lines_zero _), lines_turn]
  rfl

/-- An array of the region turned back. -/
def back (x : Vec Ideal S704x1024 .f32) : Vec Ideal S1024x704 .f32 := transpose S1024x704 [1, 0] (x : Vec Ideal S704x1024 .f32) transposes_S704x1024_S1024x704_1_0

/-- An argument turned. -/
def turn (x : Vec Ideal S1024x704 .f32) : Vec Ideal S704x1024 .f32 := transpose S704x1024 [1, 0] x transposes_S1024x704_S704x1024_1_0

/-- A turned argument at an entry. -/
theorem turn_at (x : Vec Ideal S1024x704 .f32) (r : Fin 704) (n : Fin 1024) : turn x (ix2 r n) = x (ix2 n r) := by
  unfold turn
  pointwise

/-- A turned array at an entry. -/
theorem back_at (x : Vec Ideal S704x1024 .f32) (n : Fin 1024) (r : Fin 704) : back x (ix2 n r) = x (ix2 r n) := by
  unfold back
  pointwise

/-- The weight turned before the region. -/
theorem V_1 : V m c main_v3 = turn (m ((c : Thread nD τ).loc main_arg1)) := by
  show StableHlo.after (List.flatten [hostOps0, hostOps0_1, hostOps0_2]) (fun b => m (c, b)) (Proc.devRef .tc main_v3) = _
  simp only [List.flatten_cons, List.flatten_nil, List.append_nil, StableHlo.after_append]
  dsimp only [hostOps0, hostOps0_1, hostOps0_2]
  after_reads_simp
  rfl

/-- The first moments turned before the region. -/
theorem V_2 : V m c main_v4 = turn (m ((c : Thread nD τ).loc main_arg2)) := by
  show StableHlo.after (List.flatten [hostOps0, hostOps0_1, hostOps0_2]) (fun b => m (c, b)) (Proc.devRef .tc main_v4) = _
  simp only [List.flatten_cons, List.flatten_nil, List.append_nil, StableHlo.after_append]
  dsimp only [hostOps0, hostOps0_1, hostOps0_2]
  after_reads_simp
  rfl

/-- The second moments turned before the region. -/
theorem V_3 : V m c main_v5 = turn (m ((c : Thread nD τ).loc main_arg3)) := by
  show StableHlo.after (List.flatten [hostOps0, hostOps0_1, hostOps0_2]) (fun b => m (c, b)) (Proc.devRef .tc main_v5) = _
  simp only [List.flatten_cons, List.flatten_nil, List.append_nil, StableHlo.after_append]
  dsimp only [hostOps0, hostOps0_1, hostOps0_2]
  after_reads_simp
  rfl

/-- The padded parts at an entry of theirs. -/
theorem parts_at (x : Vec Ideal S8x1024x704 .f32) (k : Fin 8) (r : Fin 704) (n : Fin 1024) :
    parts x (ix3 k ⟨r.val, lt_trans r.isLt (by decide)⟩ n) = x (ix3 k n r) := by
  have h : r.val < 704 := r.isLt
  unfold parts turned
  pointwise

/-- The gradient of the turned parts at an entry. -/
theorem grad_at (x : Vec Ideal S8x1024x704 .f32) (n : Fin 1024) (r : Fin 704) :
    grad (parts x) (ix2 r n) = (∑ k : Fin 8, x (ix3 k n r) : EReal) :=
  @Finset.sum_congr (Fin _) EReal _ _ _ _ _ rfl fun k _ => parts_at x k r n

/-- The gradient, from the parts as given. -/
def total (x : Vec Ideal S8x1024x704 .f32) : Vec Ideal S1024x704 .f32 := fun i => (∑ k : Fin 8, x (ix3 k (i 0) (i 1)) : EReal)

/-- The step, laid out as the arguments. -/
def stepOf (g w a b : Vec Ideal S1024x704 .f32) : Vec Ideal S1024x704 .f32 := fun i => Adam.step (g i) (w i) (a i) (b i)

/-- The first moments, laid out as the arguments. -/
def firstOf (g a : Vec Ideal S1024x704 .f32) : Vec Ideal S1024x704 .f32 := fun i => Adam.first (g i) (a i)

/-- The second moments, laid out as the arguments. -/
def secondOf (g b : Vec Ideal S1024x704 .f32) : Vec Ideal S1024x704 .f32 := fun i => Adam.second (g i) (b i)

/-- The region's gradient turned back. -/
theorem back4 (x : Vec Ideal S8x1024x704 .f32) : back (grad (parts x)) = total x := by
  funext i
  obtain ⟨n, r, rfl⟩ : ∃ (n : Fin 1024) (r : Fin 704), i = ix2 n r := ⟨i 0, i 1, eq_ix2 i⟩
  rw [back_at]
  exact grad_at x n r

/-- The region's step turned back. -/
theorem back5 (x : Vec Ideal S8x1024x704 .f32) (w a b : Vec Ideal S1024x704 .f32) : back (delta (grad (parts x)) (turn w) (turn a) (turn b)) = stepOf (total x) w a b := by
  funext i
  obtain ⟨n, r, rfl⟩ : ∃ (n : Fin 1024) (r : Fin 704), i = ix2 n r := ⟨i 0, i 1, eq_ix2 i⟩
  rw [back_at]
  show Adam.step (grad (parts x) (ix2 r n)) (turn w (ix2 r n)) (turn a (ix2 r n)) (turn b (ix2 r n)) = Adam.step (total x (ix2 n r)) (w (ix2 n r)) (a (ix2 n r)) (b (ix2 n r))
  rw [grad_at, turn_at, turn_at, turn_at]
  rfl

/-- The region's first moments turned back. -/
theorem back6 (x : Vec Ideal S8x1024x704 .f32) (a : Vec Ideal S1024x704 .f32) : back (first (grad (parts x)) (turn a)) = firstOf (total x) a := by
  funext i
  obtain ⟨n, r, rfl⟩ : ∃ (n : Fin 1024) (r : Fin 704), i = ix2 n r := ⟨i 0, i 1, eq_ix2 i⟩
  rw [back_at]
  show Adam.first (grad (parts x) (ix2 r n)) (turn a (ix2 r n)) = Adam.first (total x (ix2 n r)) (a (ix2 n r))
  rw [grad_at, turn_at]
  rfl

/-- The region's second moments turned back. -/
theorem back7 (x : Vec Ideal S8x1024x704 .f32) (b : Vec Ideal S1024x704 .f32) : back (second (grad (parts x)) (turn b)) = secondOf (total x) b := by
  funext i
  obtain ⟨n, r, rfl⟩ : ∃ (n : Fin 1024) (r : Fin 704), i = ix2 n r := ⟨i 0, i 1, eq_ix2 i⟩
  rw [back_at]
  show Adam.second (grad (parts x) (ix2 r n)) (turn b (ix2 r n)) = Adam.second (total x (ix2 n r)) (b (ix2 n r))
  rw [grad_at, turn_at]
  rfl

/-- No two of the region's arrays are the same. -/
theorem arr_inj : Function.Injective (Pipeline.arrRef (cfgs 0).spec) := by
  intro a b; revert a b; decide

/-- The line after the region that turns the gradient. -/
theorem line4 (W : Valuation τ sig (Elt Ideal)) : StableHlo.after hostOps1 W (Proc.devRef .tc main_v7) = back (W (Proc.devRef .tc main_v6_0)) := by
  dsimp only [hostOps1]
  after_reads_simp
  rfl

/-- The gradient at the end of the program. -/
theorem last4 : Pipeline.afterTail₀ cfgs (dats m) 0 (V0 m) [hostOps1] c main_v7 = total (m ((c : Thread nD τ).loc main_arg0)) := by
  unfold Pipeline.afterTail₀
  simp only [List.flatten_cons, List.flatten_nil, List.append_nil]
  rw [line4]
  refine (congrArg back ((Pipeline.withArrays_arr (cfgs 0).spec arr_inj c (V0 m c) _ 4).trans (final4 m c))).trans ?_
  rw [V_0, back4]

/-- The line after the region that turns the step. -/
theorem line5 (W : Valuation τ sig (Elt Ideal)) : StableHlo.after hostOps1 W (Proc.devRef .tc main_v8) = back (W (Proc.devRef .tc main_v6_1)) := by
  dsimp only [hostOps1]
  after_reads_simp
  rfl

/-- The step at the end of the program. -/
theorem last5 : Pipeline.afterTail₀ cfgs (dats m) 0 (V0 m) [hostOps1] c main_v8 = stepOf (total (m ((c : Thread nD τ).loc main_arg0))) (m ((c : Thread nD τ).loc main_arg1)) (m ((c : Thread nD τ).loc main_arg2)) (m ((c : Thread nD τ).loc main_arg3)) := by
  unfold Pipeline.afterTail₀
  simp only [List.flatten_cons, List.flatten_nil, List.append_nil]
  rw [line5]
  refine (congrArg back ((Pipeline.withArrays_arr (cfgs 0).spec arr_inj c (V0 m c) _ 5).trans (final5 m c))).trans ?_
  rw [V_0, V_1, V_2, V_3, back5]

/-- The line after the region that turns the first moments. -/
theorem line6 (W : Valuation τ sig (Elt Ideal)) : StableHlo.after hostOps1 W (Proc.devRef .tc main_v9) = back (W (Proc.devRef .tc main_v6_2)) := by
  dsimp only [hostOps1]
  after_reads_simp
  rfl

/-- The first moments at the end of the program. -/
theorem last6 : Pipeline.afterTail₀ cfgs (dats m) 0 (V0 m) [hostOps1] c main_v9 = firstOf (total (m ((c : Thread nD τ).loc main_arg0))) (m ((c : Thread nD τ).loc main_arg2)) := by
  unfold Pipeline.afterTail₀
  simp only [List.flatten_cons, List.flatten_nil, List.append_nil]
  rw [line6]
  refine (congrArg back ((Pipeline.withArrays_arr (cfgs 0).spec arr_inj c (V0 m c) _ 6).trans (final6 m c))).trans ?_
  rw [V_0, V_2, back6]

/-- The line after the region that turns the second moments. -/
theorem line7 (W : Valuation τ sig (Elt Ideal)) : StableHlo.after hostOps1 W (Proc.devRef .tc main_v10) = back (W (Proc.devRef .tc main_v6_3)) := by
  dsimp only [hostOps1]
  after_reads_simp
  rfl

/-- The second moments at the end of the program. -/
theorem last7 : Pipeline.afterTail₀ cfgs (dats m) 0 (V0 m) [hostOps1] c main_v10 = secondOf (total (m ((c : Thread nD τ).loc main_arg0))) (m ((c : Thread nD τ).loc main_arg3)) := by
  unfold Pipeline.afterTail₀
  simp only [List.flatten_cons, List.flatten_nil, List.append_nil]
  rw [line7]
  refine (congrArg back ((Pipeline.withArrays_arr (cfgs 0).spec arr_inj c (V0 m c) _ 7).trans (final7 m c))).trans ?_
  rw [V_0, V_3, back7]

/-- The reference's gradient. -/
theorem reference4 (x : Vec Ideal S8x1024x704 .f32) : Cert.ReferenceAdamWupIdeal.Read.val_main_v0 (F := Ideal) x = total x := by
  funext i
  rw [Cert.ReferenceAdamWupIdeal.Read.val_main_v0_apply, Cert.ReferenceAdamWupIdeal.Read.val_main_cst_apply]
  refine Eq.trans (congrArg₂ (fun a b : EReal => a + b) Ideal.ofBits_zero_f32 ?_) (zero_add _)
  exact Finset.sum_congr rfl fun k _ => congrArg x (by funext a; fin_cases a <;> rfl)

/-- The reference's first moments. -/
theorem reference6 (x : Vec Ideal S8x1024x704 .f32) (a : Vec Ideal S1024x704 .f32) :
    Cert.ReferenceAdamWupIdeal.Read.val_main_v5 (F := Ideal) x a = firstOf (total x) a := by
  rw [← reference4 x]
  rfl

/-- The reference's second moments. -/
theorem reference7 (x : Vec Ideal S8x1024x704 .f32) (b : Vec Ideal S1024x704 .f32) :
    Cert.ReferenceAdamWupIdeal.Read.val_main_v11 (F := Ideal) x b = secondOf (total x) b := by
  rw [← reference4 x]
  rfl

/-- The reference's step. -/
theorem reference5 (x : Vec Ideal S8x1024x704 .f32) (w a b : Vec Ideal S1024x704 .f32) :
    Cert.ReferenceAdamWupIdeal.Read.val_main_v24 (F := Ideal) x w a b = stepOf (total x) w a b := by
  rw [← reference4 x]
  rfl

/-- The reference program changes no argument and leaves no counter. -/
theorem frame_reference : Cert.quiescent_ReferenceAdamWupIdeal := fun m ρ _ =>
  (θ_run Cert.ReferenceAdamWupIdeal.defs _ _).mono
    (fun r h => ⟨fun c => (h c).2.2.2.2, Idealize.ShloMosaic.sem_eq_zero_of_no_sems (by decide) r.2⟩)
    (Cert.ReferenceAdamWupIdeal.Value.run (F := Ideal) m ρ)

/-- The kernel's four results and the reference's are the same. -/
theorem value : Cert.algebraic_KernelAdamWupIdeal_ReferenceAdamWupIdeal := by
  intro m g m' g' _ hm
  refine ⟨fun c => total (m ((c : Thread nD τ).loc main_arg0)),
    fun c => stepOf (total (m ((c : Thread nD τ).loc main_arg0))) (m ((c : Thread nD τ).loc main_arg1)) (m ((c : Thread nD τ).loc main_arg2)) (m ((c : Thread nD τ).loc main_arg3)),
    fun c => firstOf (total (m ((c : Thread nD τ).loc main_arg0))) (m ((c : Thread nD τ).loc main_arg2)),
    fun c => secondOf (total (m ((c : Thread nD τ).loc main_arg0))) (m ((c : Thread nD τ).loc main_arg3)), ?_, ?_⟩
  · refine (θ_run defs _ _).mono (fun r h c => ?_) (θ_run_and (run_main m g) (unchanged m g))
    exact ⟨((h.1 c).2 main_v7 (Pipeline.mem_restRefs_of main_v7 (by decide) (by decide))).trans (last4 m c), ((h.1 c).2 main_v8 (Pipeline.mem_restRefs_of main_v8 (by decide) (by decide))).trans (last5 m c),
      ((h.1 c).2 main_v9 (Pipeline.mem_restRefs_of main_v9 (by decide) (by decide))).trans (last6 m c), ((h.1 c).2 main_v10 (Pipeline.mem_restRefs_of main_v10 (by decide) (by decide))).trans (last7 m c), h.2 c⟩
  · refine (θ_run Cert.ReferenceAdamWupIdeal.defs _ _).mono (fun r h c => ?_) (Cert.ReferenceAdamWupIdeal.Value.run (F := Ideal) m' g')
    obtain ⟨h4, h5, h6, h7, h⟩ := h c
    obtain ⟨e0, e1, e2, e3⟩ := hm c
    refine ⟨h4.trans ?_, h5.trans ?_, h6.trans ?_, h7.trans ?_, h⟩
    · rw [e0]; exact reference4 _
    · rw [e0, e1, e2, e3]; exact reference5 _ _ _ _
    · rw [e0, e2]; exact reference6 _ _
    · rw [e0, e3]; exact reference7 _ _

end Cert.Proof.AdamWup
-- ==== Proof.AdamConv.lean ====
/- The optimiser's step on the convolution's weight: one block holds everything. -/
module

public import proofs.«01_k».proof.Defs
public import proofs.«01_k».proof.Proof.Gen.KernelAdamConv
public import proofs.«01_k».proof.Proof.Gen.KernelAdamConv.Frame
public import proofs.«01_k».proof.Proof.Gen.KernelAdamConvIdeal
public import proofs.«01_k».proof.Proof.Gen.KernelAdamConvIdeal.Frame
public import proofs.«01_k».proof.Proof.Gen.ReferenceAdamConvIdeal
public import proofs.«01_k».proof.Proof.Gen.ReferenceAdamConvIdeal.Run
public import proofs.«01_k».proof.Proof.Gen.ReferenceAdamConvIdeal.Read
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.AdamConv

open Cert.KernelAdamConvIdeal Cert.KernelAdamConvIdeal.Gen Idealize.ShloMosaic Idealize.ShloMosaic.TcCoe Idealize.SL.Sem

variable (m : (ℓ : Loc nD τ sig) → Buf (Elt Ideal) ℓ) (c : Dev nD)

/-- The gradient: the sum of the eight devices' parts. -/
def grad (x : Vec Ideal S8x8x768 .f32) : Vec Ideal S8x768 .f32 :=
  fun i => (∑ k : Fin 8, x (ix3 k (i 0) (i 1)) : EReal)

/-- The step of every entry. -/
def delta (g w a b : Vec Ideal S8x768 .f32) : Vec Ideal S8x768 .f32 := fun i => Adam.step (g i) (w i) (a i) (b i)

/-- The first moments after the step. -/
def first (g a : Vec Ideal S8x768 .f32) : Vec Ideal S8x768 .f32 := fun i => Adam.first (g i) (a i)

/-- The second moments after the step. -/
def second (g b : Vec Ideal S8x768 .f32) : Vec Ideal S8x768 .f32 := fun i => Adam.second (g i) (b i)

/-- The body's gradient. -/
theorem pay_at (x0 : Vec Ideal S8x8x768 .f32) (r : Fin 8) (n : Fin 768) :
    k0_pay4 (View.ld x0 r0_0) (View.ld x0 r0_1) (View.ld x0 r0_2) (View.ld x0 r0_3) (View.ld x0 r0_4) (View.ld x0 r0_5) (View.ld x0 r0_6) (View.ld x0 r0_7) (ix2 r n) = (∑ k : Fin 8, x0 (ix3 k r n) : EReal) := by
  rw [← Adam.eight (fun k => x0 (ix3 k r n))]
  unfold k0_pay4
  pointwise

/-- The body's first moment, from a gradient. -/
theorem pay1_eq (g x : Vec Ideal S8x768 .f32) : k0_pay1 g (k0_pay5 x) (Scalar.ofBits .f32 0x3DCCCCCD#32) = first g x := by
  unfold k0_pay1 k0_pay5
  simp only [shapeCast_self]
  rfl

/-- The body's second moment, from a gradient. -/
theorem pay2_eq (g x : Vec Ideal S8x768 .f32) : k0_pay2 g x = second g x := by
  unfold k0_pay2
  simp only [shapeCast_self]
  rfl

/-- The body's step, from a gradient. -/
theorem pay3_eq (g a b w : Vec Ideal S8x768 .f32) : k0_pay3 g (k0_pay5 a) (Scalar.ofBits .f32 0x3DCCCCCD#32) b w = delta g w a b := by
  unfold k0_pay3
  simp only [shapeCast_self, pay1_eq, pay2_eq]
  rfl

/-- The body's gradient in its buffer. -/
theorem out4 (x0 : Vec Ideal S8x8x768 .f32) (x1 x2 x3 : Vec Ideal S8x768 .f32) : out0_4 x0 x1 x2 x3 = grad x0 := by
  have e : out0_4 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) := by
    unfold out0_4
    frame_out
  rw [e]
  funext i
  obtain ⟨r, n, rfl⟩ : ∃ r n, i = ix2 r n := ⟨i 0, i 1, eq_ix2 i⟩
  exact pay_at x0 r n

/-- The body's step in its buffer. -/
theorem out5 (x0 : Vec Ideal S8x8x768 .f32) (x1 x2 x3 : Vec Ideal S8x768 .f32) : out0_5 x0 x1 x2 x3 = delta (grad x0) x1 x2 x3 := by
  have e : out0_5 x0 x1 x2 x3 = k0_pay3 (k0_pay6 x0 x1 x2 x3) (k0_pay5 x2) (Scalar.ofBits .f32 0x3DCCCCCD#32) x3 x1 := by
    unfold out0_5 k0_pay7
    frame_out
  rw [e, pay3_eq]
  funext i
  obtain ⟨r, n, rfl⟩ : ∃ r n, i = ix2 r n := ⟨i 0, i 1, eq_ix2 i⟩
  exact congrArg (fun g => Adam.step g (x1 (ix2 r n)) (x2 (ix2 r n)) (x3 (ix2 r n))) (pay_at x0 r n)

/-- The body's first moment in its buffer. -/
theorem out6 (x0 : Vec Ideal S8x8x768 .f32) (x1 x2 x3 : Vec Ideal S8x768 .f32) : out0_6 x0 x1 x2 x3 = first (grad x0) x2 := by
  have e : out0_6 x0 x1 x2 x3 = k0_pay1 (k0_pay6 x0 x1 x2 x3) (k0_pay5 x2) (Scalar.ofBits .f32 0x3DCCCCCD#32) := by
    unfold out0_6 k0_pay7
    frame_out
  rw [e, pay1_eq]
  funext i
  obtain ⟨r, n, rfl⟩ : ∃ r n, i = ix2 r n := ⟨i 0, i 1, eq_ix2 i⟩
  exact congrArg (fun g => Adam.first g (x2 (ix2 r n))) (pay_at x0 r n)

/-- The body's second moment in its buffer. -/
theorem out7 (x0 : Vec Ideal S8x8x768 .f32) (x1 x2 x3 : Vec Ideal S8x768 .f32) : out0_7 x0 x1 x2 x3 = second (grad x0) x3 := by
  have e : out0_7 x0 x1 x2 x3 = k0_pay2 (k0_pay6 x0 x1 x2 x3) x3 := by
    unfold out0_7
    frame_out
  rw [e, pay2_eq]
  funext i
  obtain ⟨r, n, rfl⟩ : ∃ r n, i = ix2 r n := ⟨i 0, i 1, eq_ix2 i⟩
  exact congrArg (fun g => Adam.second g (x3 (ix2 r n))) (pay_at x0 r n)

/-- The parts' block is all of them. -/
theorem read_0 (X : Vec Ideal S8x8x768 .f32) (t : Fin cfg0.N) : ((win0_0.blk t).view.read (Elt Ideal) X : Vec Ideal S8x8x768 .f32) = X := by
  have h : ∀ t : Fin cfg0.N, win0_0.index t = ![0, 0, 0] := (by decide +kernel : ∀ t : Fin grid0.N, _)
  funext i
  obtain ⟨a, b, d, rfl⟩ : ∃ a b d, i = ix3 a b d := ⟨i 0, i 1, i 2, eq_ix3 i⟩
  blk_ext [h t]

/-- The weight's block is all of it. -/
theorem read_1 (X : Vec Ideal S8x768 .f32) (t : Fin cfg0.N) : ((win0_1.blk t).view.read (Elt Ideal) X : Vec Ideal S8x768 .f32) = X := by
  have h : ∀ t : Fin cfg0.N, win0_1.index t = ![0, 0] := (by decide +kernel : ∀ t : Fin grid0.N, _)
  funext i
  obtain ⟨a, b, rfl⟩ : ∃ a b, i = ix2 a b := ⟨i 0, i 1, eq_ix2 i⟩
  blk_ext [h t]

/-- The first moments' block is all of them. -/
theorem read_2 (X : Vec Ideal S8x768 .f32) (t : Fin cfg0.N) : ((win0_2.blk t).view.read (Elt Ideal) X : Vec Ideal S8x768 .f32) = X := by
  have h : ∀ t : Fin cfg0.N, win0_2.index t = ![0, 0] := (by decide +kernel : ∀ t : Fin grid0.N, _)
  funext i
  obtain ⟨a, b, rfl⟩ : ∃ a b, i = ix2 a b := ⟨i 0, i 1, eq_ix2 i⟩
  blk_ext [h t]

/-- The second moments' block is all of them. -/
theorem read_3 (X : Vec Ideal S8x768 .f32) (t : Fin cfg0.N) : ((win0_3.blk t).view.read (Elt Ideal) X : Vec Ideal S8x768 .f32) = X := by
  have h : ∀ t : Fin cfg0.N, win0_3.index t = ![0, 0] := (by decide +kernel : ∀ t : Fin grid0.N, _)
  funext i
  obtain ⟨a, b, rfl⟩ : ∃ a b, i = ix2 a b := ⟨i 0, i 1, eq_ix2 i⟩
  blk_ext [h t]

/-- The gradient in its array after the run. -/
theorem final4 : (dats m 0 c).arrAt 4 cfg0.N = grad (V m c main_v0) := by
  have h : ∀ t : Fin cfg0.N, win0_4.index t = ![0, 0] := (by decide +kernel : ∀ t : Fin grid0.N, _)
  refine (dats m 0 c).arrAt_eq_of_covers 4 _ (by decide +kernel) fun t hf y => ?_
  obtain ⟨r, n, rfl⟩ : ∃ (r : Fin 8) (n : Fin 768), y = ix2 r n := ⟨y 0, y 1, eq_ix2 y⟩
  have e : ((win0_4.blk t).view.emb (ix2 r n) : S8x768.Idx) = ix2 r n := by blk_ext [h t]
  blk_simp
  rw [after0_4, out4]
  exact (congrFun (congrArg grad (read_0 (V m c main_v0) t)) _).trans (congrArg (grad (V m c main_v0)) e).symm

/-- The step in its array after the run. -/
theorem final5 : (dats m 0 c).arrAt 5 cfg0.N = delta (grad (V m c main_v0)) (V m c main_v1) (V m c main_v2) (V m c main_v3) := by
  have h : ∀ t : Fin cfg0.N, win0_5.index t = ![0, 0] := (by decide +kernel : ∀ t : Fin grid0.N, _)
  refine (dats m 0 c).arrAt_eq_of_covers 5 _ (by decide +kernel) fun t hf y => ?_
  obtain ⟨r, n, rfl⟩ : ∃ (r : Fin 8) (n : Fin 768), y = ix2 r n := ⟨y 0, y 1, eq_ix2 y⟩
  have e : ((win0_5.blk t).view.emb (ix2 r n) : S8x768.Idx) = ix2 r n := by blk_ext [h t]
  blk_simp
  rw [after0_5, out5]
  exact (congrFun (congr (congr (congrArg₂ delta (congrArg grad (read_0 (V m c main_v0) t)) (read_1 (V m c main_v1) t)) (read_2 (V m c main_v2) t)) (read_3 (V m c main_v3) t)) _).trans (congrArg (delta (grad (V m c main_v0)) (V m c main_v1) (V m c main_v2) (V m c main_v3)) e).symm

/-- The first moment in its array after the run. -/
theorem final6 : (dats m 0 c).arrAt 6 cfg0.N = first (grad (V m c main_v0)) (V m c main_v2) := by
  have h : ∀ t : Fin cfg0.N, win0_6.index t = ![0, 0] := (by decide +kernel : ∀ t : Fin grid0.N, _)
  refine (dats m 0 c).arrAt_eq_of_covers 6 _ (by decide +kernel) fun t hf y => ?_
  obtain ⟨r, n, rfl⟩ : ∃ (r : Fin 8) (n : Fin 768), y = ix2 r n := ⟨y 0, y 1, eq_ix2 y⟩
  have e : ((win0_6.blk t).view.emb (ix2 r n) : S8x768.Idx) = ix2 r n := by blk_ext [h t]
  blk_simp
  rw [after0_6, out6]
  exact (congrFun (congrArg₂ first (congrArg grad (read_0 (V m c main_v0) t)) (read_2 (V m c main_v2) t)) _).trans (congrArg (first (grad (V m c main_v0)) (V m c main_v2)) e).symm

/-- The second moment in its array after the run. -/
theorem final7 : (dats m 0 c).arrAt 7 cfg0.N = second (grad (V m c main_v0)) (V m c main_v3) := by
  have h : ∀ t : Fin cfg0.N, win0_7.index t = ![0, 0] := (by decide +kernel : ∀ t : Fin grid0.N, _)
  refine (dats m 0 c).arrAt_eq_of_covers 7 _ (by decide +kernel) fun t hf y => ?_
  obtain ⟨r, n, rfl⟩ : ∃ (r : Fin 8) (n : Fin 768), y = ix2 r n := ⟨y 0, y 1, eq_ix2 y⟩
  have e : ((win0_7.blk t).view.emb (ix2 r n) : S8x768.Idx) = ix2 r n := by blk_ext [h t]
  blk_simp
  rw [after0_7, out7]
  exact (congrFun (congrArg₂ second (congrArg grad (read_0 (V m c main_v0) t)) (read_3 (V m c main_v3) t)) _).trans (congrArg (second (grad (V m c main_v0)) (V m c main_v3)) e).symm

/-- The parts filled up to whole blocks. -/
def parts (x : Vec Ideal S8x3x704 .f32) : Vec Ideal S8x8x768 .f32 :=
  pad S8x8x768 ![0, 0, 0] ![0, 5, 64] ![0, 0, 0] x (sitofp .f32 (constantI S_ 32 0#32) : FVec Ideal S_ .f32) pads_S8x3x704_S8x8x768_000_050_0640 h_S_

/-- An argument filled up to a whole block. -/
def turn (x : Vec Ideal S3x704 .f32) : Vec Ideal S8x768 .f32 :=
  pad S8x768 ![0, 0] ![5, 64] ![0, 0] x (sitofp .f32 (constantI S_ 32 0#32) : FVec Ideal S_ .f32) pads_S3x704_S8x768_050_0640 h_S_

/-- The part of a region's array that is a result. -/
def back (x : Vec Ideal S8x768 .f32) : Vec Ideal S3x704 .f32 := extractStridedSlice S3x704 ![0, 0] x slices_S8x768_S3x704_0_0

/-- A filled argument at an entry of the argument. -/
theorem turn_at (x : Vec Ideal S3x704 .f32) (r : Fin 3) (n : Fin 704) :
    turn x (ix2 ⟨r.val, lt_trans r.isLt (by decide)⟩ ⟨n.val, lt_trans n.isLt (by decide)⟩) = x (ix2 r n) := by
  have h : r.val < 3 := r.isLt
  have h' : n.val < 704 := n.isLt
  unfold turn
  pointwise

/-- The filled parts at an entry of the parts. -/
theorem parts_at (x : Vec Ideal S8x3x704 .f32) (k : Fin 8) (r : Fin 3) (n : Fin 704) :
    parts x (ix3 k ⟨r.val, lt_trans r.isLt (by decide)⟩ ⟨n.val, lt_trans n.isLt (by decide)⟩) = x (ix3 k r n) := by
  have h : r.val < 3 := r.isLt
  have h' : n.val < 704 := n.isLt
  unfold parts
  pointwise

/-- A result at an entry. -/
theorem back_at (x : Vec Ideal S8x768 .f32) (r : Fin 3) (n : Fin 704) :
    back x (ix2 r n) = x (ix2 ⟨r.val, lt_trans r.isLt (by decide)⟩ ⟨n.val, lt_trans n.isLt (by decide)⟩) := by
  unfold back
  pointwise

section Lines
variable (W : Valuation τ sig (Elt Ideal))

/-- The integer zero of fill 1. -/
theorem zero0 : StableHlo.after hostOps0 W (Proc.devRef .tc main_c) = (constantI S_ 32 0#32 : IVec S_ 32) := by
  dsimp only [hostOps0]
  after_reads_simp

/-- The lines of fill 1. -/
theorem fill0 (h : W (Proc.devRef .tc main_c) = (constantI S_ 32 0#32 : IVec S_ 32)) :
    StableHlo.after hostOps0_1 W (Proc.devRef .tc main_v0) = parts (W (Proc.devRef .tc main_arg0)) := by
  dsimp only [hostOps0_1]
  after_reads_simp
  rw [h]
  rfl

/-- The later lines leave fill 1 alone. -/
theorem after0 : StableHlo.after hostOps0_7 (StableHlo.after hostOps0_6 (StableHlo.after hostOps0_5 (StableHlo.after hostOps0_4 (StableHlo.after hostOps0_3 (StableHlo.after hostOps0_2 W))))) (Proc.devRef .tc main_v0) = W (Proc.devRef .tc main_v0) := by
  dsimp only [hostOps0_2, hostOps0_3, hostOps0_4, hostOps0_5, hostOps0_6, hostOps0_7]
  after_reads_simp

/-- The lines before fill 1 leave its argument alone. -/
theorem before0 : StableHlo.after hostOps0 W (Proc.devRef .tc main_arg0) = W (Proc.devRef .tc main_arg0) := by
  dsimp only [hostOps0]
  after_reads_simp

/-- The integer zero of fill 2. -/
theorem zero1 : StableHlo.after hostOps0_2 W (Proc.devRef .tc main_c_0) = (constantI S_ 32 0#32 : IVec S_ 32) := by
  dsimp only [hostOps0_2]
  after_reads_simp

/-- The lines of fill 2. -/
theorem fill1 (h : W (Proc.devRef .tc main_c_0) = (constantI S_ 32 0#32 : IVec S_ 32)) :
    StableHlo.after hostOps0_3 W (Proc.devRef .tc main_v1) = turn (W (Proc.devRef .tc main_arg1)) := by
  dsimp only [hostOps0_3]
  after_reads_simp
  rw [h]
  rfl

/-- The later lines leave fill 2 alone. -/
theorem after1 : StableHlo.after hostOps0_7 (StableHlo.after hostOps0_6 (StableHlo.after hostOps0_5 (StableHlo.after hostOps0_4 W))) (Proc.devRef .tc main_v1) = W (Proc.devRef .tc main_v1) := by
  dsimp only [hostOps0_4, hostOps0_5, hostOps0_6, hostOps0_7]
  after_reads_simp

/-- The lines before fill 2 leave its argument alone. -/
theorem before1 : StableHlo.after hostOps0_2 (StableHlo.after hostOps0_1 (StableHlo.after hostOps0 W)) (Proc.devRef .tc main_arg1) = W (Proc.devRef .tc main_arg1) := by
  dsimp only [hostOps0, hostOps0_1, hostOps0_2]
  after_reads_simp

/-- The integer zero of fill 3. -/
theorem zero2 : StableHlo.after hostOps0_4 W (Proc.devRef .tc main_c_1) = (constantI S_ 32 0#32 : IVec S_ 32) := by
  dsimp only [hostOps0_4]
  after_reads_simp

/-- The lines of fill 3. -/
theorem fill2 (h : W (Proc.devRef .tc main_c_1) = (constantI S_ 32 0#32 : IVec S_ 32)) :
    StableHlo.after hostOps0_5 W (Proc.devRef .tc main_v2) = turn (W (Proc.devRef .tc main_arg2)) := by
  dsimp only [hostOps0_5]
  after_reads_simp
  rw [h]
  rfl

/-- The later lines leave fill 3 alone. -/
theorem after2 : StableHlo.after hostOps0_7 (StableHlo.after hostOps0_6 W) (Proc.devRef .tc main_v2) = W (Proc.devRef .tc main_v2) := by
  dsimp only [hostOps0_6, hostOps0_7]
  after_reads_simp

/-- The lines before fill 3 leave its argument alone. -/
theorem before2 : StableHlo.after hostOps0_4 (StableHlo.after hostOps0_3 (StableHlo.after hostOps0_2 (StableHlo.after hostOps0_1 (StableHlo.after hostOps0 W)))) (Proc.devRef .tc main_arg2) = W (Proc.devRef .tc main_arg2) := by
  dsimp only [hostOps0, hostOps0_1, hostOps0_2, hostOps0_3, hostOps0_4]
  after_reads_simp

/-- The integer zero of fill 4. -/
theorem zero3 : StableHlo.after hostOps0_6 W (Proc.devRef .tc main_c_2) = (constantI S_ 32 0#32 : IVec S_ 32) := by
  dsimp only [hostOps0_6]
  after_reads_simp

/-- The lines of fill 4. -/
theorem fill3 (h : W (Proc.devRef .tc main_c_2) = (constantI S_ 32 0#32 : IVec S_ 32)) :
    StableHlo.after hostOps0_7 W (Proc.devRef .tc main_v3) = turn (W (Proc.devRef .tc main_arg3)) := by
  dsimp only [hostOps0_7]
  after_reads_simp
  rw [h]
  rfl

/-- The lines before fill 4 leave its argument alone. -/
theorem before3 : StableHlo.after hostOps0_6 (StableHlo.after hostOps0_5 (StableHlo.after hostOps0_4 (StableHlo.after hostOps0_3 (StableHlo.after hostOps0_2 (StableHlo.after hostOps0_1 (StableHlo.after hostOps0 W)))))) (Proc.devRef .tc main_arg3) = W (Proc.devRef .tc main_arg3) := by
  dsimp only [hostOps0, hostOps0_1, hostOps0_2, hostOps0_3, hostOps0_4, hostOps0_5, hostOps0_6]
  after_reads_simp

end Lines

/-- The parts filled up before the region. -/
theorem V_0 : V m c main_v0 = parts (m ((c : Thread nD τ).loc main_arg0)) := by
  show StableHlo.after (List.flatten [hostOps0, hostOps0_1, hostOps0_2, hostOps0_3, hostOps0_4, hostOps0_5, hostOps0_6, hostOps0_7]) (fun b => m (c, b)) (Proc.devRef .tc main_v0) = _
  simp only [List.flatten_cons, List.flatten_nil, List.append_nil, StableHlo.after_append]
  rw [after0, fill0 _ (zero0 _), before0]

/-- The weight filled up before the region. -/
theorem V_1 : V m c main_v1 = turn (m ((c : Thread nD τ).loc main_arg1)) := by
  show StableHlo.after (List.flatten [hostOps0, hostOps0_1, hostOps0_2, hostOps0_3, hostOps0_4, hostOps0_5, hostOps0_6, hostOps0_7]) (fun b => m (c, b)) (Proc.devRef .tc main_v1) = _
  simp only [List.flatten_cons, List.flatten_nil, List.append_nil, StableHlo.after_append]
  rw [after1, fill1 _ (zero1 _), before1]

/-- The first moments filled up before the region. -/
theorem V_2 : V m c main_v2 = turn (m ((c : Thread nD τ).loc main_arg2)) := by
  show StableHlo.after (List.flatten [hostOps0, hostOps0_1, hostOps0_2, hostOps0_3, hostOps0_4, hostOps0_5, hostOps0_6, hostOps0_7]) (fun b => m (c, b)) (Proc.devRef .tc main_v2) = _
  simp only [List.flatten_cons, List.flatten_nil, List.append_nil, StableHlo.after_append]
  rw [after2, fill2 _ (zero2 _), before2]

/-- The second moments filled up before the region. -/
theorem V_3 : V m c main_v3 = turn (m ((c : Thread nD τ).loc main_arg3)) := by
  show StableHlo.after (List.flatten [hostOps0, hostOps0_1, hostOps0_2, hostOps0_3, hostOps0_4, hostOps0_5, hostOps0_6, hostOps0_7]) (fun b => m (c, b)) (Proc.devRef .tc main_v3) = _
  simp only [List.flatten_cons, List.flatten_nil, List.append_nil, StableHlo.after_append]
  rw [fill3 _ (zero3 _), before3]

/-- The gradient of the filled parts at an entry. -/
theorem grad_at (x : Vec Ideal S8x3x704 .f32) (r : Fin 3) (n : Fin 704) :
    grad (parts x) (ix2 ⟨r.val, lt_trans r.isLt (by decide)⟩ ⟨n.val, lt_trans n.isLt (by decide)⟩) = (∑ k : Fin 8, x (ix3 k r n) : EReal) :=
  @Finset.sum_congr (Fin _) EReal _ _ _ _ _ rfl fun k _ => parts_at x k r n

/-- The gradient, from the parts as given. -/
def total (x : Vec Ideal S8x3x704 .f32) : Vec Ideal S3x704 .f32 := fun i => (∑ k : Fin 8, x (ix3 k (i 0) (i 1)) : EReal)

/-- The step, laid out as the arguments. -/
def stepOf (g w a b : Vec Ideal S3x704 .f32) : Vec Ideal S3x704 .f32 := fun i => Adam.step (g i) (w i) (a i) (b i)

/-- The first moments, laid out as the arguments. -/
def firstOf (g a : Vec Ideal S3x704 .f32) : Vec Ideal S3x704 .f32 := fun i => Adam.first (g i) (a i)

/-- The second moments, laid out as the arguments. -/
def secondOf (g b : Vec Ideal S3x704 .f32) : Vec Ideal S3x704 .f32 := fun i => Adam.second (g i) (b i)

/-- The region's gradient cut to the result. -/
theorem back4 (x : Vec Ideal S8x3x704 .f32) : back (grad (parts x)) = total x := by
  funext i
  obtain ⟨r, n, rfl⟩ : ∃ (r : Fin 3) (n : Fin 704), i = ix2 r n := ⟨i 0, i 1, eq_ix2 i⟩
  rw [back_at]
  exact grad_at x r n

/-- The region's step cut to the result. -/
theorem back5 (x : Vec Ideal S8x3x704 .f32) (w a b : Vec Ideal S3x704 .f32) : back (delta (grad (parts x)) (turn w) (turn a) (turn b)) = stepOf (total x) w a b := by
  funext i
  obtain ⟨r, n, rfl⟩ : ∃ (r : Fin 3) (n : Fin 704), i = ix2 r n := ⟨i 0, i 1, eq_ix2 i⟩
  rw [back_at]
  show Adam.step (grad (parts x) (ix2 ⟨r.val, lt_trans r.isLt (by decide)⟩ ⟨n.val, lt_trans n.isLt (by decide)⟩)) (turn w (ix2 ⟨r.val, lt_trans r.isLt (by decide)⟩ ⟨n.val, lt_trans n.isLt (by decide)⟩)) (turn a (ix2 ⟨r.val, lt_trans r.isLt (by decide)⟩ ⟨n.val, lt_trans n.isLt (by decide)⟩)) (turn b (ix2 ⟨r.val, lt_trans r.isLt (by decide)⟩ ⟨n.val, lt_trans n.isLt (by decide)⟩)) = Adam.step (total x (ix2 r n)) (w (ix2 r n)) (a (ix2 r n)) (b (ix2 r n))
  rw [grad_at, turn_at, turn_at, turn_at]
  rfl

/-- The region's first moments cut to the result. -/
theorem back6 (x : Vec Ideal S8x3x704 .f32) (a : Vec Ideal S3x704 .f32) : back (first (grad (parts x)) (turn a)) = firstOf (total x) a := by
  funext i
  obtain ⟨r, n, rfl⟩ : ∃ (r : Fin 3) (n : Fin 704), i = ix2 r n := ⟨i 0, i 1, eq_ix2 i⟩
  rw [back_at]
  show Adam.first (grad (parts x) (ix2 ⟨r.val, lt_trans r.isLt (by decide)⟩ ⟨n.val, lt_trans n.isLt (by decide)⟩)) (turn a (ix2 ⟨r.val, lt_trans r.isLt (by decide)⟩ ⟨n.val, lt_trans n.isLt (by decide)⟩)) = Adam.first (total x (ix2 r n)) (a (ix2 r n))
  rw [grad_at, turn_at]
  rfl

/-- The region's second moments cut to the result. -/
theorem back7 (x : Vec Ideal S8x3x704 .f32) (b : Vec Ideal S3x704 .f32) : back (second (grad (parts x)) (turn b)) = secondOf (total x) b := by
  funext i
  obtain ⟨r, n, rfl⟩ : ∃ (r : Fin 3) (n : Fin 704), i = ix2 r n := ⟨i 0, i 1, eq_ix2 i⟩
  rw [back_at]
  show Adam.second (grad (parts x) (ix2 ⟨r.val, lt_trans r.isLt (by decide)⟩ ⟨n.val, lt_trans n.isLt (by decide)⟩)) (turn b (ix2 ⟨r.val, lt_trans r.isLt (by decide)⟩ ⟨n.val, lt_trans n.isLt (by decide)⟩)) = Adam.second (total x (ix2 r n)) (b (ix2 r n))
  rw [grad_at, turn_at]
  rfl

/-- No two of the region's arrays are the same. -/
theorem arr_inj : Function.Injective (Pipeline.arrRef (cfgs 0).spec) := by
  intro a b; revert a b; decide

/-- The line after the region that cuts the gradient. -/
theorem line4 (W : Valuation τ sig (Elt Ideal)) : StableHlo.after hostOps1 W (Proc.devRef .tc main_v5) = back (W (Proc.devRef .tc main_v4_0)) := by
  dsimp only [hostOps1]
  after_reads_simp
  rfl

/-- The gradient at the end of the program. -/
theorem last4 : Pipeline.afterTail₀ cfgs (dats m) 0 (V0 m) [hostOps1] c main_v5 = total (m ((c : Thread nD τ).loc main_arg0)) := by
  unfold Pipeline.afterTail₀
  simp only [List.flatten_cons, List.flatten_nil, List.append_nil]
  rw [line4]
  refine (congrArg back ((Pipeline.withArrays_arr (cfgs 0).spec arr_inj c (V0 m c) _ 4).trans (final4 m c))).trans ?_
  rw [V_0, back4]

/-- The line after the region that cuts the step. -/
theorem line5 (W : Valuation τ sig (Elt Ideal)) : StableHlo.after hostOps1 W (Proc.devRef .tc main_v6) = back (W (Proc.devRef .tc main_v4_1)) := by
  dsimp only [hostOps1]
  after_reads_simp
  rfl

/-- The step at the end of the program. -/
theorem last5 : Pipeline.afterTail₀ cfgs (dats m) 0 (V0 m) [hostOps1] c main_v6 = stepOf (total (m ((c : Thread nD τ).loc main_arg0))) (m ((c : Thread nD τ).loc main_arg1)) (m ((c : Thread nD τ).loc main_arg2)) (m ((c : Thread nD τ).loc main_arg3)) := by
  unfold Pipeline.afterTail₀
  simp only [List.flatten_cons, List.flatten_nil, List.append_nil]
  rw [line5]
  refine (congrArg back ((Pipeline.withArrays_arr (cfgs 0).spec arr_inj c (V0 m c) _ 5).trans (final5 m c))).trans ?_
  rw [V_0, V_1, V_2, V_3, back5]

/-- The line after the region that cuts the first moments. -/
theorem line6 (W : Valuation τ sig (Elt Ideal)) : StableHlo.after hostOps1 W (Proc.devRef .tc main_v7) = back (W (Proc.devRef .tc main_v4_2)) := by
  dsimp only [hostOps1]
  after_reads_simp
  rfl

/-- The first moments at the end of the program. -/
theorem last6 : Pipeline.afterTail₀ cfgs (dats m) 0 (V0 m) [hostOps1] c main_v7 = firstOf (total (m ((c : Thread nD τ).loc main_arg0))) (m ((c : Thread nD τ).loc main_arg2)) := by
  unfold Pipeline.afterTail₀
  simp only [List.flatten_cons, List.flatten_nil, List.append_nil]
  rw [line6]
  refine (congrArg back ((Pipeline.withArrays_arr (cfgs 0).spec arr_inj c (V0 m c) _ 6).trans (final6 m c))).trans ?_
  rw [V_0, V_2, back6]

/-- The line after the region that cuts the second moments. -/
theorem line7 (W : Valuation τ sig (Elt Ideal)) : StableHlo.after hostOps1 W (Proc.devRef .tc main_v8) = back (W (Proc.devRef .tc main_v4_3)) := by
  dsimp only [hostOps1]
  after_reads_simp
  rfl

/-- The second moments at the end of the program. -/
theorem last7 : Pipeline.afterTail₀ cfgs (dats m) 0 (V0 m) [hostOps1] c main_v8 = secondOf (total (m ((c : Thread nD τ).loc main_arg0))) (m ((c : Thread nD τ).loc main_arg3)) := by
  unfold Pipeline.afterTail₀
  simp only [List.flatten_cons, List.flatten_nil, List.append_nil]
  rw [line7]
  refine (congrArg back ((Pipeline.withArrays_arr (cfgs 0).spec arr_inj c (V0 m c) _ 7).trans (final7 m c))).trans ?_
  rw [V_0, V_3, back7]

/-- The reference's gradient. -/
theorem reference4 (x : Vec Ideal S8x3x704 .f32) : Cert.ReferenceAdamConvIdeal.Read.val_main_v0 (F := Ideal) x = total x := by
  funext i
  rw [Cert.ReferenceAdamConvIdeal.Read.val_main_v0_apply, Cert.ReferenceAdamConvIdeal.Read.val_main_cst_apply]
  refine Eq.trans (congrArg₂ (fun a b : EReal => a + b) Ideal.ofBits_zero_f32 ?_) (zero_add _)
  exact Finset.sum_congr rfl fun k _ => congrArg x (by funext a; fin_cases a <;> rfl)

/-- The reference's first moments. -/
theorem reference6 (x : Vec Ideal S8x3x704 .f32) (a : Vec Ideal S3x704 .f32) :
    Cert.ReferenceAdamConvIdeal.Read.val_main_v5 (F := Ideal) x a = firstOf (total x) a := by
  rw [← reference4 x]
  rfl

/-- The reference's second moments. -/
theorem reference7 (x : Vec Ideal S8x3x704 .f32) (b : Vec Ideal S3x704 .f32) :
    Cert.ReferenceAdamConvIdeal.Read.val_main_v11 (F := Ideal) x b = secondOf (total x) b := by
  rw [← reference4 x]
  rfl

/-- The reference's step. -/
theorem reference5 (x : Vec Ideal S8x3x704 .f32) (w a b : Vec Ideal S3x704 .f32) :
    Cert.ReferenceAdamConvIdeal.Read.val_main_v24 (F := Ideal) x w a b = stepOf (total x) w a b := by
  rw [← reference4 x]
  rfl

/-- The reference program changes no argument and leaves no counter. -/
theorem frame_reference : Cert.quiescent_ReferenceAdamConvIdeal := fun m ρ _ =>
  (θ_run Cert.ReferenceAdamConvIdeal.defs _ _).mono
    (fun r h => ⟨fun c => (h c).2.2.2.2, Idealize.ShloMosaic.sem_eq_zero_of_no_sems (by decide) r.2⟩)
    (Cert.ReferenceAdamConvIdeal.Value.run (F := Ideal) m ρ)

/-- The kernel's four results and the reference's are the same. -/
theorem value : Cert.algebraic_KernelAdamConvIdeal_ReferenceAdamConvIdeal := by
  intro m g m' g' _ hm
  refine ⟨fun c => total (m ((c : Thread nD τ).loc main_arg0)),
    fun c => stepOf (total (m ((c : Thread nD τ).loc main_arg0))) (m ((c : Thread nD τ).loc main_arg1)) (m ((c : Thread nD τ).loc main_arg2)) (m ((c : Thread nD τ).loc main_arg3)),
    fun c => firstOf (total (m ((c : Thread nD τ).loc main_arg0))) (m ((c : Thread nD τ).loc main_arg2)),
    fun c => secondOf (total (m ((c : Thread nD τ).loc main_arg0))) (m ((c : Thread nD τ).loc main_arg3)), ?_, ?_⟩
  · refine (θ_run defs _ _).mono (fun r h c => ?_) (θ_run_and (run_main m g) (unchanged m g))
    exact ⟨((h.1 c).2 main_v5 (Pipeline.mem_restRefs_of main_v5 (by decide) (by decide))).trans (last4 m c), ((h.1 c).2 main_v6 (Pipeline.mem_restRefs_of main_v6 (by decide) (by decide))).trans (last5 m c),
      ((h.1 c).2 main_v7 (Pipeline.mem_restRefs_of main_v7 (by decide) (by decide))).trans (last6 m c), ((h.1 c).2 main_v8 (Pipeline.mem_restRefs_of main_v8 (by decide) (by decide))).trans (last7 m c), h.2 c⟩
  · refine (θ_run Cert.ReferenceAdamConvIdeal.defs _ _).mono (fun r h c => ?_) (Cert.ReferenceAdamConvIdeal.Value.run (F := Ideal) m' g')
    obtain ⟨h4, h5, h6, h7, h⟩ := h c
    obtain ⟨e0, e1, e2, e3⟩ := hm c
    refine ⟨h4.trans ?_, h5.trans ?_, h6.trans ?_, h7.trans ?_, h⟩
    · rw [e0]; exact reference4 _
    · rw [e0, e1, e2, e3]; exact reference5 _ _ _ _
    · rw [e0, e2]; exact reference6 _ _
    · rw [e0, e3]; exact reference7 _ _

end Cert.Proof.AdamConv
-- ==== Proof.AdamSmall.lean ====
/- The optimiser's step on the nine replicated weights, packed in one block with the loss. -/
module

public import proofs.«01_k».proof.Defs
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.AdamSmall

open Cert.KernelAdamSmallIdeal Cert.KernelAdamSmallIdeal.Gen Idealize.ShloMosaic Idealize.ShloMosaic.TcCoe Idealize.SL.Sem

variable (m : (ℓ : Loc nD τ sig) → Buf (Elt Ideal) ℓ) (c : Dev nD)

/-- The gradient: the sum of the eight devices' parts. -/
def grad (x : Vec Ideal S8x96x128 .f32) : Vec Ideal S96x128 .f32 :=
  fun i => (∑ k : Fin 8, x (ix3 k (i 0) (i 1)) : EReal)

/-- The step of every entry. -/
def delta (g w a b : Vec Ideal S96x128 .f32) : Vec Ideal S96x128 .f32 := fun i => Adam.step (g i) (w i) (a i) (b i)

/-- The first moments after the step. -/
def first (g a : Vec Ideal S96x128 .f32) : Vec Ideal S96x128 .f32 := fun i => Adam.first (g i) (a i)

/-- The second moments after the step. -/
def second (g b : Vec Ideal S96x128 .f32) : Vec Ideal S96x128 .f32 := fun i => Adam.second (g i) (b i)

/-- The body's gradient. -/
theorem pay_at (x0 : Vec Ideal S8x96x128 .f32) (r : Fin 96) (n : Fin 128) :
    k0_pay4 (View.ld x0 r0_0) (View.ld x0 r0_1) (View.ld x0 r0_2) (View.ld x0 r0_3) (View.ld x0 r0_4) (View.ld x0 r0_5) (View.ld x0 r0_6) (View.ld x0 r0_7) (ix2 r n) = (∑ k : Fin 8, x0 (ix3 k r n) : EReal) := by
  rw [← Adam.eight (fun k => x0 (ix3 k r n))]
  unfold k0_pay4
  pointwise

/-- The body's first moment, from a gradient. -/
theorem pay1_eq (g x : Vec Ideal S96x128 .f32) : k0_pay1 g (k0_pay5 x) (Scalar.ofBits .f32 0x3DCCCCCD#32) = first g x := by
  unfold k0_pay1 k0_pay5
  simp only [shapeCast_self]
  rfl

/-- The body's second moment, from a gradient. -/
theorem pay2_eq (g x : Vec Ideal S96x128 .f32) : k0_pay2 g x = second g x := by
  unfold k0_pay2
  simp only [shapeCast_self]
  rfl

/-- The body's step, from a gradient. -/
theorem pay3_eq (g a b w : Vec Ideal S96x128 .f32) : k0_pay3 g (k0_pay5 a) (Scalar.ofBits .f32 0x3DCCCCCD#32) b w = delta g w a b := by
  unfold k0_pay3
  simp only [shapeCast_self, pay1_eq, pay2_eq]
  rfl

/-- The body's gradient in its buffer. -/
theorem out4 (x0 : Vec Ideal S8x96x128 .f32) (x1 x2 x3 : Vec Ideal S96x128 .f32) : out0_4 x0 x1 x2 x3 = grad x0 := by
  have e : out0_4 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) := by
    unfold out0_4
    frame_out
  rw [e]
  funext i
  obtain ⟨r, n, rfl⟩ : ∃ r n, i = ix2 r n := ⟨i 0, i 1, eq_ix2 i⟩
  exact pay_at x0 r n

/-- The body's step in its buffer. -/
theorem out5 (x0 : Vec Ideal S8x96x128 .f32) (x1 x2 x3 : Vec Ideal S96x128 .f32) : out0_5 x0 x1 x2 x3 = delta (grad x0) x1 x2 x3 := by
  have e : out0_5 x0 x1 x2 x3 = k0_pay3 (k0_pay6 x0 x1 x2 x3) (k0_pay5 x2) (Scalar.ofBits .f32 0x3DCCCCCD#32) x3 x1 := by
    unfold out0_5 k0_pay7
    frame_out
  rw [e, pay3_eq]
  funext i
  obtain ⟨r, n, rfl⟩ : ∃ r n, i = ix2 r n := ⟨i 0, i 1, eq_ix2 i⟩
  exact congrArg (fun g => Adam.step g (x1 (ix2 r n)) (x2 (ix2 r n)) (x3 (ix2 r n))) (pay_at x0 r n)

/-- The body's first moment in its buffer. -/
theorem out6 (x0 : Vec Ideal S8x96x128 .f32) (x1 x2 x3 : Vec Ideal S96x128 .f32) : out0_6 x0 x1 x2 x3 = first (grad x0) x2 := by
  have e : out0_6 x0 x1 x2 x3 = k0_pay1 (k0_pay6 x0 x1 x2 x3) (k0_pay5 x2) (Scalar.ofBits .f32 0x3DCCCCCD#32) := by
    unfold out0_6 k0_pay7
    frame_out
  rw [e, pay1_eq]
  funext i
  obtain ⟨r, n, rfl⟩ : ∃ r n, i = ix2 r n := ⟨i 0, i 1, eq_ix2 i⟩
  exact congrArg (fun g => Adam.first g (x2 (ix2 r n))) (pay_at x0 r n)

/-- The body's second moment in its buffer. -/
theorem out7 (x0 : Vec Ideal S8x96x128 .f32) (x1 x2 x3 : Vec Ideal S96x128 .f32) : out0_7 x0 x1 x2 x3 = second (grad x0) x3 := by
  have e : out0_7 x0 x1 x2 x3 = k0_pay2 (k0_pay6 x0 x1 x2 x3) x3 := by
    unfold out0_7
    frame_out
  rw [e, pay2_eq]
  funext i
  obtain ⟨r, n, rfl⟩ : ∃ r n, i = ix2 r n := ⟨i 0, i 1, eq_ix2 i⟩
  exact congrArg (fun g => Adam.second g (x3 (ix2 r n))) (pay_at x0 r n)

/-- The parts' block is all of them. -/
theorem read_0 (X : Vec Ideal S8x96x128 .f32) (t : Fin cfg0.N) : ((win0_0.blk t).view.read (Elt Ideal) X : Vec Ideal S8x96x128 .f32) = X := by
  have h : ∀ t : Fin cfg0.N, win0_0.index t = ![0, 0, 0] := (by decide +kernel : ∀ t : Fin grid0.N, _)
  funext i
  obtain ⟨a, b, d, rfl⟩ : ∃ a b d, i = ix3 a b d := ⟨i 0, i 1, i 2, eq_ix3 i⟩
  blk_ext [h t]

/-- The weight's block is all of it. -/
theorem read_1 (X : Vec Ideal S96x128 .f32) (t : Fin cfg0.N) : ((win0_1.blk t).view.read (Elt Ideal) X : Vec Ideal S96x128 .f32) = X := by
  have h : ∀ t : Fin cfg0.N, win0_1.index t = ![0, 0] := (by decide +kernel : ∀ t : Fin grid0.N, _)
  funext i
  obtain ⟨a, b, rfl⟩ : ∃ a b, i = ix2 a b := ⟨i 0, i 1, eq_ix2 i⟩
  blk_ext [h t]

/-- The first moments' block is all of them. -/
theorem read_2 (X : Vec Ideal S96x128 .f32) (t : Fin cfg0.N) : ((win0_2.blk t).view.read (Elt Ideal) X : Vec Ideal S96x128 .f32) = X := by
  have h : ∀ t : Fin cfg0.N, win0_2.index t = ![0, 0] := (by decide +kernel : ∀ t : Fin grid0.N, _)
  funext i
  obtain ⟨a, b, rfl⟩ : ∃ a b, i = ix2 a b := ⟨i 0, i 1, eq_ix2 i⟩
  blk_ext [h t]

/-- The second moments' block is all of them. -/
theorem read_3 (X : Vec Ideal S96x128 .f32) (t : Fin cfg0.N) : ((win0_3.blk t).view.read (Elt Ideal) X : Vec Ideal S96x128 .f32) = X := by
  have h : ∀ t : Fin cfg0.N, win0_3.index t = ![0, 0] := (by decide +kernel : ∀ t : Fin grid0.N, _)
  funext i
  obtain ⟨a, b, rfl⟩ : ∃ a b, i = ix2 a b := ⟨i 0, i 1, eq_ix2 i⟩
  blk_ext [h t]

/-- The gradient in its array after the run. -/
theorem final4 : (dats m 0 c).arrAt 4 cfg0.N = grad (V m c main_v2) := by
  have h : ∀ t : Fin cfg0.N, win0_4.index t = ![0, 0] := (by decide +kernel : ∀ t : Fin grid0.N, _)
  refine (dats m 0 c).arrAt_eq_of_covers 4 _ (by decide +kernel) fun t hf y => ?_
  obtain ⟨r, n, rfl⟩ : ∃ (r : Fin 96) (n : Fin 128), y = ix2 r n := ⟨y 0, y 1, eq_ix2 y⟩
  have e : ((win0_4.blk t).view.emb (ix2 r n) : S96x128.Idx) = ix2 r n := by blk_ext [h t]
  blk_simp
  rw [after0_4, out4]
  exact (congrFun (congrArg grad (read_0 (V m c main_v2) t)) _).trans (congrArg (grad (V m c main_v2)) e).symm

/-- The step in its array after the run. -/
theorem final5 : (dats m 0 c).arrAt 5 cfg0.N = delta (grad (V m c main_v2)) (V m c main_v6) (V m c main_v10) (V m c main_v14) := by
  have h : ∀ t : Fin cfg0.N, win0_5.index t = ![0, 0] := (by decide +kernel : ∀ t : Fin grid0.N, _)
  refine (dats m 0 c).arrAt_eq_of_covers 5 _ (by decide +kernel) fun t hf y => ?_
  obtain ⟨r, n, rfl⟩ : ∃ (r : Fin 96) (n : Fin 128), y = ix2 r n := ⟨y 0, y 1, eq_ix2 y⟩
  have e : ((win0_5.blk t).view.emb (ix2 r n) : S96x128.Idx) = ix2 r n := by blk_ext [h t]
  blk_simp
  rw [after0_5, out5]
  exact (congrFun (congr (congr (congrArg₂ delta (congrArg grad (read_0 (V m c main_v2) t)) (read_1 (V m c main_v6) t)) (read_2 (V m c main_v10) t)) (read_3 (V m c main_v14) t)) _).trans (congrArg (delta (grad (V m c main_v2)) (V m c main_v6) (V m c main_v10) (V m c main_v14)) e).symm

/-- The first moment in its array after the run. -/
theorem final6 : (dats m 0 c).arrAt 6 cfg0.N = first (grad (V m c main_v2)) (V m c main_v10) := by
  have h : ∀ t : Fin cfg0.N, win0_6.index t = ![0, 0] := (by decide +kernel : ∀ t : Fin grid0.N, _)
  refine (dats m 0 c).arrAt_eq_of_covers 6 _ (by decide +kernel) fun t hf y => ?_
  obtain ⟨r, n, rfl⟩ : ∃ (r : Fin 96) (n : Fin 128), y = ix2 r n := ⟨y 0, y 1, eq_ix2 y⟩
  have e : ((win0_6.blk t).view.emb (ix2 r n) : S96x128.Idx) = ix2 r n := by blk_ext [h t]
  blk_simp
  rw [after0_6, out6]
  exact (congrFun (congrArg₂ first (congrArg grad (read_0 (V m c main_v2) t)) (read_2 (V m c main_v10) t)) _).trans (congrArg (first (grad (V m c main_v2)) (V m c main_v10)) e).symm

/-- The second moment in its array after the run. -/
theorem final7 : (dats m 0 c).arrAt 7 cfg0.N = second (grad (V m c main_v2)) (V m c main_v14) := by
  have h : ∀ t : Fin cfg0.N, win0_7.index t = ![0, 0] := (by decide +kernel : ∀ t : Fin grid0.N, _)
  refine (dats m 0 c).arrAt_eq_of_covers 7 _ (by decide +kernel) fun t hf y => ?_
  obtain ⟨r, n, rfl⟩ : ∃ (r : Fin 96) (n : Fin 128), y = ix2 r n := ⟨y 0, y 1, eq_ix2 y⟩
  have e : ((win0_7.blk t).view.emb (ix2 r n) : S96x128.Idx) = ix2 r n := by blk_ext [h t]
  blk_simp
  rw [after0_7, out7]
  exact (congrFun (congrArg₂ second (congrArg grad (read_0 (V m c main_v2) t)) (read_3 (V m c main_v14) t)) _).trans (congrArg (second (grad (V m c main_v2)) (V m c main_v14)) e).symm

/-- The nine arrays of one kind one after another, then one zero. -/
def row (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : Vec Ideal S11393 .f32 :=
  concatenate S11393 0 [⟨S1024, a0⟩, ⟨S384, a1⟩, ⟨S256, a2⟩, ⟨S512, a3⟩, ⟨S512, a4⟩, ⟨S1024, a5⟩, ⟨S1024, a6⟩, ⟨S5632, a7⟩, ⟨S1024, a8⟩, ⟨S1, (broadcastInDim S1 ![] bcast_S_S1 (constant S_ .f32 0x00000000#32 : FVec Ideal S_ .f32) : Vec Ideal S1 .f32)⟩] concatenates_S1024_S384_S256_S512_S512_S1024_S1024_S5632_S1024_S1_S11393_d0

/-- A row filled up and folded to the region's shape. -/
def fold (x : Vec Ideal S11393 .f32) : Vec Ideal S96x128 .f32 :=
  shapeCast S96x128 (pad S12288 ![0] ![895] ![0] x (sitofp .f32 (constantI S_ 32 0#32) : FVec Ideal S_ .f32) pads_S11393_S12288_08950 h_S_ : Vec Ideal S12288 .f32) shapeCasts_S12288_S96x128

/-- The nine parts one after another, then the parts of the loss. -/
def rows (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : Vec Ideal S8x11393 .f32 :=
  concatenate S8x11393 1 [⟨S8x1024, p0⟩, ⟨S8x384, p1⟩, ⟨S8x256, p2⟩, ⟨S8x512, p3⟩, ⟨S8x512, p4⟩, ⟨S8x1024, p5⟩, ⟨S8x1024, p6⟩, ⟨S8x5632, p7⟩, ⟨S8x1024, p8⟩, ⟨S8x1, p9⟩] concatenates_S8x1024_S8x384_S8x256_S8x512_S8x512_S8x1024_S8x1024_S8x5632_S8x1024_S8x1_S8x11393_d1

/-- The rows of parts filled up and folded to the region's shape. -/
def folds (x : Vec Ideal S8x11393 .f32) : Vec Ideal S8x96x128 .f32 :=
  shapeCast S8x96x128 (pad S8x12288 ![0, 0] ![0, 895] ![0, 0] x (sitofp .f32 (constantI S_ 32 0#32) : FVec Ideal S_ .f32) pads_S8x11393_S8x12288_000_08950 h_S_ : Vec Ideal S8x12288 .f32) shapeCasts_S8x12288_S8x96x128

/-- An array of the region as one row. -/
def flat (x : Vec Ideal S96x128 .f32) : Vec Ideal S12288 .f32 := shapeCast S12288 x shapeCasts_S96x128_S12288

/-- A folded row, unfolded. -/
theorem flat_fold (x : Vec Ideal S11393 .f32) : flat (fold x) = pad S12288 ![0] ![895] ![0] x (sitofp .f32 (constantI S_ 32 0#32) : FVec Ideal S_ .f32) pads_S11393_S12288_08950 h_S_ := by
  unfold flat fold
  funext i
  obtain ⟨n, rfl⟩ : ∃ (n : Fin 12288), i = ix1 n := ⟨i 0, eq_ix1 i⟩
  pointwise

/-- The sum of the folded parts, unfolded. -/
theorem flat_grad (x : Vec Ideal S8x11393 .f32) (n : Fin 12288) (h : n.val < 11393) :
    flat (grad (folds x)) (ix1 n) = (∑ k : Fin 8, x (ix2 k ⟨n.val, h⟩) : EReal) := by
  unfold flat
  pointwise
  unfold grad folds
  refine @Finset.sum_congr (Fin _) EReal _ _ _ _ _ rfl fun k _ => ?_
  pointwise
  exact dif_pos h

/-- Piece 1 of a row. -/
theorem row_0 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 1024) (h : n.val < 1024 := n.isLt) : row a0 a1 a2 a3 a4 a5 a6 a7 a8 (ix1 ⟨n.val, by omega⟩) = a0 (ix1 n) := by
  unfold row
  pointwise

/-- Piece 1 of the rows of parts. -/
theorem rows_0 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 1024) (h : n.val < 1024 := n.isLt) : rows p0 p1 p2 p3 p4 p5 p6 p7 p8 p9 (ix2 k ⟨n.val, by omega⟩) = p0 (ix2 k n) := by
  unfold rows
  pointwise

/-- Piece 2 of a row. -/
theorem row_1 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 384) (h : n.val < 384 := n.isLt) : row a0 a1 a2 a3 a4 a5 a6 a7 a8 (ix1 ⟨1024 + n.val, by omega⟩) = a1 (ix1 n) := by
  unfold row
  pointwise

/-- Piece 2 of the rows of parts. -/
theorem rows_1 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 384) (h : n.val < 384 := n.isLt) : rows p0 p1 p2 p3 p4 p5 p6 p7 p8 p9 (ix2 k ⟨1024 + n.val, by omega⟩) = p1 (ix2 k n) := by
  unfold rows
  pointwise

/-- Piece 3 of a row. -/
theorem row_2 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 256) (h : n.val < 256 := n.isLt) : row a0 a1 a2 a3 a4 a5 a6 a7 a8 (ix1 ⟨1408 + n.val, by omega⟩) = a2 (ix1 n) := by
  unfold row
  pointwise
  rw [dif_neg (by omega), dif_neg (by omega), dif_pos (by omega)]
  exact congrArg (fun n => a2 (ix1 n)) (Fin.ext (by simp only; omega))

/-- Piece 3 of the rows of parts. -/
theorem rows_2 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 256) (h : n.val < 256 := n.isLt) : rows p0 p1 p2 p3 p4 p5 p6 p7 p8 p9 (ix2 k ⟨1408 + n.val, by omega⟩) = p2 (ix2 k n) := by
  unfold rows
  pointwise
  rw [dif_neg (by omega), dif_neg (by omega), dif_pos (by omega)]
  exact congrArg (fun n => p2 (ix2 k n)) (Fin.ext (by simp only; omega))

/-- Piece 4 of a row. -/
theorem row_3 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 512) (h : n.val < 512 := n.isLt) : row a0 a1 a2 a3 a4 a5 a6 a7 a8 (ix1 ⟨1664 + n.val, by omega⟩) = a3 (ix1 n) := by
  unfold row
  pointwise
  rw [dif_neg (by omega), dif_neg (by omega), dif_neg (by omega), dif_pos (by omega)]
  exact congrArg (fun n => a3 (ix1 n)) (Fin.ext (by simp only; omega))

/-- Piece 4 of the rows of parts. -/
theorem rows_3 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 512) (h : n.val < 512 := n.isLt) : rows p0 p1 p2 p3 p4 p5 p6 p7 p8 p9 (ix2 k ⟨1664 + n.val, by omega⟩) = p3 (ix2 k n) := by
  unfold rows
  pointwise
  rw [dif_neg (by omega), dif_neg (by omega), dif_neg (by omega), dif_pos (by omega)]
  exact congrArg (fun n => p3 (ix2 k n)) (Fin.ext (by simp only; omega))

/-- Piece 5 of a row. -/
theorem row_4 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 512) (h : n.val < 512 := n.isLt) : row a0 a1 a2 a3 a4 a5 a6 a7 a8 (ix1 ⟨2176 + n.val, by omega⟩) = a4 (ix1 n) := by
  unfold row
  pointwise
  rw [dif_neg (by omega), dif_neg (by omega), dif_neg (by omega), dif_neg (by omega), dif_pos (by omega)]
  exact congrArg (fun n => a4 (ix1 n)) (Fin.ext (by simp only; omega))

/-- Piece 5 of the rows of parts. -/
theorem rows_4 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 512) (h : n.val < 512 := n.isLt) : rows p0 p1 p2 p3 p4 p5 p6 p7 p8 p9 (ix2 k ⟨2176 + n.val, by omega⟩) = p4 (ix2 k n) := by
  unfold rows
  pointwise
  rw [dif_neg (by omega), dif_neg (by omega), dif_neg (by omega), dif_neg (by omega), dif_pos (by omega)]
  exact congrArg (fun n => p4 (ix2 k n)) (Fin.ext (by simp only; omega))

/-- Piece 6 of a row. -/
theorem row_5 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 1024) (h : n.val < 1024 := n.isLt) : row a0 a1 a2 a3 a4 a5 a6 a7 a8 (ix1 ⟨2688 + n.val, by omega⟩) = a5 (ix1 n) := by
  unfold row
  pointwise
  rw [dif_neg (by omega), dif_neg (by omega), dif_neg (by omega), dif_neg (by omega), dif_neg (by omega), dif_pos (by omega)]
  exact congrArg (fun n => a5 (ix1 n)) (Fin.ext (by simp only; omega))

/-- Piece 6 of the rows of parts. -/
theorem rows_5 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 1024) (h : n.val < 1024 := n.isLt) : rows p0 p1 p2 p3 p4 p5 p6 p7 p8 p9 (ix2 k ⟨2688 + n.val, by omega⟩) = p5 (ix2 k n) := by
  unfold rows
  pointwise
  rw [dif_neg (by omega), dif_neg (by omega), dif_neg (by omega), dif_neg (by omega), dif_neg (by omega), dif_pos (by omega)]
  exact congrArg (fun n => p5 (ix2 k n)) (Fin.ext (by simp only; omega))

/-- Piece 7 of a row. -/
theorem row_6 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 1024) (h : n.val < 1024 := n.isLt) : row a0 a1 a2 a3 a4 a5 a6 a7 a8 (ix1 ⟨3712 + n.val, by omega⟩) = a6 (ix1 n) := by
  unfold row
  pointwise
  rw [dif_neg (by omega), dif_neg (by omega), dif_neg (by omega), dif_neg (by omega), dif_neg (by omega), dif_neg (by omega), dif_pos (by omega)]
  exact congrArg (fun n => a6 (ix1 n)) (Fin.ext (by simp only; omega))

/-- Piece 7 of the rows of parts. -/
theorem rows_6 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 1024) (h : n.val < 1024 := n.isLt) : rows p0 p1 p2 p3 p4 p5 p6 p7 p8 p9 (ix2 k ⟨3712 + n.val, by omega⟩) = p6 (ix2 k n) := by
  unfold rows
  pointwise
  rw [dif_neg (by omega), dif_neg (by omega), dif_neg (by omega), dif_neg (by omega), dif_neg (by omega), dif_neg (by omega), dif_pos (by omega)]
  exact congrArg (fun n => p6 (ix2 k n)) (Fin.ext (by simp only; omega))

/-- Piece 8 of a row. -/
theorem row_7 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 5632) (h : n.val < 5632 := n.isLt) : row a0 a1 a2 a3 a4 a5 a6 a7 a8 (ix1 ⟨4736 + n.val, by omega⟩) = a7 (ix1 n) := by
  unfold row
  pointwise
  rw [dif_neg (by omega), dif_neg (by omega), dif_neg (by omega), dif_neg (by omega), dif_neg (by omega), dif_neg (by omega), dif_neg (by omega), dif_pos (by omega)]
  exact congrArg (fun n => a7 (ix1 n)) (Fin.ext (by simp only; omega))

/-- Piece 8 of the rows of parts. -/
theorem rows_7 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 5632) (h : n.val < 5632 := n.isLt) : rows p0 p1 p2 p3 p4 p5 p6 p7 p8 p9 (ix2 k ⟨4736 + n.val, by omega⟩) = p7 (ix2 k n) := by
  unfold rows
  pointwise
  rw [dif_neg (by omega), dif_neg (by omega), dif_neg (by omega), dif_neg (by omega), dif_neg (by omega), dif_neg (by omega), dif_neg (by omega), dif_pos (by omega)]
  exact congrArg (fun n => p7 (ix2 k n)) (Fin.ext (by simp only; omega))

/-- Piece 9 of a row. -/
theorem row_8 (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) (n : Fin 1024) (h : n.val < 1024 := n.isLt) : row a0 a1 a2 a3 a4 a5 a6 a7 a8 (ix1 ⟨10368 + n.val, by omega⟩) = a8 (ix1 n) := by
  unfold row
  pointwise
  rw [dif_neg (by omega), dif_neg (by omega), dif_neg (by omega), dif_neg (by omega), dif_neg (by omega), dif_neg (by omega), dif_neg (by omega), dif_neg (by omega), dif_pos (by omega)]
  exact congrArg (fun n => a8 (ix1 n)) (Fin.ext (by simp only; omega))

/-- Piece 9 of the rows of parts. -/
theorem rows_8 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 1024) (h : n.val < 1024 := n.isLt) : rows p0 p1 p2 p3 p4 p5 p6 p7 p8 p9 (ix2 k ⟨10368 + n.val, by omega⟩) = p8 (ix2 k n) := by
  unfold rows
  pointwise
  rw [dif_neg (by omega), dif_neg (by omega), dif_neg (by omega), dif_neg (by omega), dif_neg (by omega), dif_neg (by omega), dif_neg (by omega), dif_neg (by omega), dif_pos (by omega)]
  exact congrArg (fun n => p8 (ix2 k n)) (Fin.ext (by simp only; omega))

/-- Piece 10 of the rows of parts. -/
theorem rows_9 (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) (k : Fin 8) (n : Fin 1) (h : n.val < 1 := n.isLt) : rows p0 p1 p2 p3 p4 p5 p6 p7 p8 p9 (ix2 k ⟨11392 + n.val, by omega⟩) = p9 (ix2 k n) := by
  unfold rows
  pointwise
  rw [Subsingleton.elim n 0]

/-- The sum of the eight devices' parts, 1 entries long. -/
def total1 (x : Vec Ideal S8x1 .f32) : Vec Ideal S1 .f32 := fun j => (∑ k : Fin 8, x (ix2 k (j 0)) : EReal)

/-- The sum of the eight devices' parts, 256 entries long. -/
def total256 (x : Vec Ideal S8x256 .f32) : Vec Ideal S256 .f32 := fun j => (∑ k : Fin 8, x (ix2 k (j 0)) : EReal)

/-- The sum of the eight devices' parts, 384 entries long. -/
def total384 (x : Vec Ideal S8x384 .f32) : Vec Ideal S384 .f32 := fun j => (∑ k : Fin 8, x (ix2 k (j 0)) : EReal)

/-- The sum of the eight devices' parts, 512 entries long. -/
def total512 (x : Vec Ideal S8x512 .f32) : Vec Ideal S512 .f32 := fun j => (∑ k : Fin 8, x (ix2 k (j 0)) : EReal)

/-- The sum of the eight devices' parts, 1024 entries long. -/
def total1024 (x : Vec Ideal S8x1024 .f32) : Vec Ideal S1024 .f32 := fun j => (∑ k : Fin 8, x (ix2 k (j 0)) : EReal)

/-- The sum of the eight devices' parts, 5632 entries long. -/
def total5632 (x : Vec Ideal S8x5632 .f32) : Vec Ideal S5632 .f32 := fun j => (∑ k : Fin 8, x (ix2 k (j 0)) : EReal)

/-- The steps of the entries. -/
def stepOf {s : Shape} (g w a b : Vec Ideal s .f32) : Vec Ideal s .f32 := fun i => Adam.step (g i) (w i) (a i) (b i)

/-- The first moments of the entries. -/
def firstOf {s : Shape} (g a : Vec Ideal s .f32) : Vec Ideal s .f32 := fun i => Adam.first (g i) (a i)

/-- The second moments of the entries. -/
def secondOf {s : Shape} (g b : Vec Ideal s .f32) : Vec Ideal s .f32 := fun i => Adam.second (g i) (b i)

/-- A filled row at an entry of the row. -/
theorem flat_fold_at (x : Vec Ideal S11393 .f32) (n : Fin 12288) (h : n.val < 11393) : flat (fold x) (ix1 n) = x (ix1 ⟨n.val, h⟩) := by
  rw [flat_fold]
  pointwise
  exact dif_pos h

/-- Piece 1 of an array of the region. -/
def cut0 (x : Vec Ideal S96x128 .f32) : Vec Ideal S1024 .f32 := extractStridedSlice S1024 ![0] (flat x) slices_S12288_S1024_0

/-- Piece 1 at an entry. -/
theorem cut0_at (x : Vec Ideal S96x128 .f32) (n : Fin 1024) (h : n.val < 1024 := n.isLt) : cut0 x (ix1 n) = flat x (ix1 ⟨n.val, by omega⟩) := by
  unfold cut0
  pointwise

/-- Piece 1 of the gradient. -/
theorem cut0_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut0 (grad (folds (rows p0 p1 p2 p3 p4 p5 p6 p7 p8 p9))) = total1024 p0 := by
  funext j
  obtain ⟨n, rfl⟩ : ∃ (n : Fin 1024), j = ix1 n := ⟨j 0, eq_ix1 j⟩
  have h : n.val < 1024 := n.isLt
  rw [cut0_at]
  refine (flat_grad _ _ (by simp only; omega)).trans ?_
  exact @Finset.sum_congr (Fin _) EReal _ _ _ _ _ rfl fun k _ => rows_0 p0 p1 p2 p3 p4 p5 p6 p7 p8 p9 k n

/-- Piece 1 of a packed array. -/
theorem cut0_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut0 (fold (row a0 a1 a2 a3 a4 a5 a6 a7 a8)) = a0 := by
  funext j
  obtain ⟨n, rfl⟩ : ∃ (n : Fin 1024), j = ix1 n := ⟨j 0, eq_ix1 j⟩
  have h : n.val < 1024 := n.isLt
  rw [cut0_at]
  exact (flat_fold_at _ _ (by simp only; omega)).trans (row_0 a0 a1 a2 a3 a4 a5 a6 a7 a8 n)

/-- Piece 1 of the step. -/
theorem cut0_delta (g w a b : Vec Ideal S96x128 .f32) : cut0 (delta g w a b) = stepOf (cut0 g) (cut0 w) (cut0 a) (cut0 b) := rfl

/-- Piece 1 of the first moments. -/
theorem cut0_first (g a : Vec Ideal S96x128 .f32) : cut0 (first g a) = firstOf (cut0 g) (cut0 a) := rfl

/-- Piece 1 of the second moments. -/
theorem cut0_second (g b : Vec Ideal S96x128 .f32) : cut0 (second g b) = secondOf (cut0 g) (cut0 b) := rfl

/-- Piece 2 of an array of the region. -/
def cut1 (x : Vec Ideal S96x128 .f32) : Vec Ideal S384 .f32 := extractStridedSlice S384 ![1024] (flat x) slices_S12288_S384_1024

/-- Piece 2 at an entry. -/
theorem cut1_at (x : Vec Ideal S96x128 .f32) (n : Fin 384) (h : n.val < 384 := n.isLt) : cut1 x (ix1 n) = flat x (ix1 ⟨1024 + n.val, by omega⟩) := by
  unfold cut1
  pointwise

/-- Piece 2 of the gradient. -/
theorem cut1_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut1 (grad (folds (rows p0 p1 p2 p3 p4 p5 p6 p7 p8 p9))) = total384 p1 := by
  funext j
  obtain ⟨n, rfl⟩ : ∃ (n : Fin 384), j = ix1 n := ⟨j 0, eq_ix1 j⟩
  have h : n.val < 384 := n.isLt
  rw [cut1_at]
  refine (flat_grad _ _ (by simp only; omega)).trans ?_
  exact @Finset.sum_congr (Fin _) EReal _ _ _ _ _ rfl fun k _ => rows_1 p0 p1 p2 p3 p4 p5 p6 p7 p8 p9 k n

/-- Piece 2 of a packed array. -/
theorem cut1_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut1 (fold (row a0 a1 a2 a3 a4 a5 a6 a7 a8)) = a1 := by
  funext j
  obtain ⟨n, rfl⟩ : ∃ (n : Fin 384), j = ix1 n := ⟨j 0, eq_ix1 j⟩
  have h : n.val < 384 := n.isLt
  rw [cut1_at]
  exact (flat_fold_at _ _ (by simp only; omega)).trans (row_1 a0 a1 a2 a3 a4 a5 a6 a7 a8 n)

/-- Piece 2 of the step. -/
theorem cut1_delta (g w a b : Vec Ideal S96x128 .f32) : cut1 (delta g w a b) = stepOf (cut1 g) (cut1 w) (cut1 a) (cut1 b) := rfl

/-- Piece 2 of the first moments. -/
theorem cut1_first (g a : Vec Ideal S96x128 .f32) : cut1 (first g a) = firstOf (cut1 g) (cut1 a) := rfl

/-- Piece 2 of the second moments. -/
theorem cut1_second (g b : Vec Ideal S96x128 .f32) : cut1 (second g b) = secondOf (cut1 g) (cut1 b) := rfl

/-- Piece 3 of an array of the region. -/
def cut2 (x : Vec Ideal S96x128 .f32) : Vec Ideal S256 .f32 := extractStridedSlice S256 ![1408] (flat x) slices_S12288_S256_1408

/-- Piece 3 at an entry. -/
theorem cut2_at (x : Vec Ideal S96x128 .f32) (n : Fin 256) (h : n.val < 256 := n.isLt) : cut2 x (ix1 n) = flat x (ix1 ⟨1408 + n.val, by omega⟩) := by
  unfold cut2
  pointwise

/-- Piece 3 of the gradient. -/
theorem cut2_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut2 (grad (folds (rows p0 p1 p2 p3 p4 p5 p6 p7 p8 p9))) = total256 p2 := by
  funext j
  obtain ⟨n, rfl⟩ : ∃ (n : Fin 256), j = ix1 n := ⟨j 0, eq_ix1 j⟩
  have h : n.val < 256 := n.isLt
  rw [cut2_at]
  refine (flat_grad _ _ (by simp only; omega)).trans ?_
  exact @Finset.sum_congr (Fin _) EReal _ _ _ _ _ rfl fun k _ => rows_2 p0 p1 p2 p3 p4 p5 p6 p7 p8 p9 k n

/-- Piece 3 of a packed array. -/
theorem cut2_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut2 (fold (row a0 a1 a2 a3 a4 a5 a6 a7 a8)) = a2 := by
  funext j
  obtain ⟨n, rfl⟩ : ∃ (n : Fin 256), j = ix1 n := ⟨j 0, eq_ix1 j⟩
  have h : n.val < 256 := n.isLt
  rw [cut2_at]
  exact (flat_fold_at _ _ (by simp only; omega)).trans (row_2 a0 a1 a2 a3 a4 a5 a6 a7 a8 n)

/-- Piece 3 of the step. -/
theorem cut2_delta (g w a b : Vec Ideal S96x128 .f32) : cut2 (delta g w a b) = stepOf (cut2 g) (cut2 w) (cut2 a) (cut2 b) := rfl

/-- Piece 3 of the first moments. -/
theorem cut2_first (g a : Vec Ideal S96x128 .f32) : cut2 (first g a) = firstOf (cut2 g) (cut2 a) := rfl

/-- Piece 3 of the second moments. -/
theorem cut2_second (g b : Vec Ideal S96x128 .f32) : cut2 (second g b) = secondOf (cut2 g) (cut2 b) := rfl

/-- Piece 4 of an array of the region. -/
def cut3 (x : Vec Ideal S96x128 .f32) : Vec Ideal S512 .f32 := extractStridedSlice S512 ![1664] (flat x) slices_S12288_S512_1664

/-- Piece 4 at an entry. -/
theorem cut3_at (x : Vec Ideal S96x128 .f32) (n : Fin 512) (h : n.val < 512 := n.isLt) : cut3 x (ix1 n) = flat x (ix1 ⟨1664 + n.val, by omega⟩) := by
  unfold cut3
  pointwise

/-- Piece 4 of the gradient. -/
theorem cut3_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut3 (grad (folds (rows p0 p1 p2 p3 p4 p5 p6 p7 p8 p9))) = total512 p3 := by
  funext j
  obtain ⟨n, rfl⟩ : ∃ (n : Fin 512), j = ix1 n := ⟨j 0, eq_ix1 j⟩
  have h : n.val < 512 := n.isLt
  rw [cut3_at]
  refine (flat_grad _ _ (by simp only; omega)).trans ?_
  exact @Finset.sum_congr (Fin _) EReal _ _ _ _ _ rfl fun k _ => rows_3 p0 p1 p2 p3 p4 p5 p6 p7 p8 p9 k n

/-- Piece 4 of a packed array. -/
theorem cut3_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut3 (fold (row a0 a1 a2 a3 a4 a5 a6 a7 a8)) = a3 := by
  funext j
  obtain ⟨n, rfl⟩ : ∃ (n : Fin 512), j = ix1 n := ⟨j 0, eq_ix1 j⟩
  have h : n.val < 512 := n.isLt
  rw [cut3_at]
  exact (flat_fold_at _ _ (by simp only; omega)).trans (row_3 a0 a1 a2 a3 a4 a5 a6 a7 a8 n)

/-- Piece 4 of the step. -/
theorem cut3_delta (g w a b : Vec Ideal S96x128 .f32) : cut3 (delta g w a b) = stepOf (cut3 g) (cut3 w) (cut3 a) (cut3 b) := rfl

/-- Piece 4 of the first moments. -/
theorem cut3_first (g a : Vec Ideal S96x128 .f32) : cut3 (first g a) = firstOf (cut3 g) (cut3 a) := rfl

/-- Piece 4 of the second moments. -/
theorem cut3_second (g b : Vec Ideal S96x128 .f32) : cut3 (second g b) = secondOf (cut3 g) (cut3 b) := rfl

/-- Piece 5 of an array of the region. -/
def cut4 (x : Vec Ideal S96x128 .f32) : Vec Ideal S512 .f32 := extractStridedSlice S512 ![2176] (flat x) slices_S12288_S512_2176

/-- Piece 5 at an entry. -/
theorem cut4_at (x : Vec Ideal S96x128 .f32) (n : Fin 512) (h : n.val < 512 := n.isLt) : cut4 x (ix1 n) = flat x (ix1 ⟨2176 + n.val, by omega⟩) := by
  unfold cut4
  pointwise

/-- Piece 5 of the gradient. -/
theorem cut4_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut4 (grad (folds (rows p0 p1 p2 p3 p4 p5 p6 p7 p8 p9))) = total512 p4 := by
  funext j
  obtain ⟨n, rfl⟩ : ∃ (n : Fin 512), j = ix1 n := ⟨j 0, eq_ix1 j⟩
  have h : n.val < 512 := n.isLt
  rw [cut4_at]
  refine (flat_grad _ _ (by simp only; omega)).trans ?_
  exact @Finset.sum_congr (Fin _) EReal _ _ _ _ _ rfl fun k _ => rows_4 p0 p1 p2 p3 p4 p5 p6 p7 p8 p9 k n

/-- Piece 5 of a packed array. -/
theorem cut4_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut4 (fold (row a0 a1 a2 a3 a4 a5 a6 a7 a8)) = a4 := by
  funext j
  obtain ⟨n, rfl⟩ : ∃ (n : Fin 512), j = ix1 n := ⟨j 0, eq_ix1 j⟩
  have h : n.val < 512 := n.isLt
  rw [cut4_at]
  exact (flat_fold_at _ _ (by simp only; omega)).trans (row_4 a0 a1 a2 a3 a4 a5 a6 a7 a8 n)

/-- Piece 5 of the step. -/
theorem cut4_delta (g w a b : Vec Ideal S96x128 .f32) : cut4 (delta g w a b) = stepOf (cut4 g) (cut4 w) (cut4 a) (cut4 b) := rfl

/-- Piece 5 of the first moments. -/
theorem cut4_first (g a : Vec Ideal S96x128 .f32) : cut4 (first g a) = firstOf (cut4 g) (cut4 a) := rfl

/-- Piece 5 of the second moments. -/
theorem cut4_second (g b : Vec Ideal S96x128 .f32) : cut4 (second g b) = secondOf (cut4 g) (cut4 b) := rfl

/-- Piece 6 of an array of the region. -/
def cut5 (x : Vec Ideal S96x128 .f32) : Vec Ideal S1024 .f32 := extractStridedSlice S1024 ![2688] (flat x) slices_S12288_S1024_2688

/-- Piece 6 at an entry. -/
theorem cut5_at (x : Vec Ideal S96x128 .f32) (n : Fin 1024) (h : n.val < 1024 := n.isLt) : cut5 x (ix1 n) = flat x (ix1 ⟨2688 + n.val, by omega⟩) := by
  unfold cut5
  pointwise

/-- Piece 6 of the gradient. -/
theorem cut5_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut5 (grad (folds (rows p0 p1 p2 p3 p4 p5 p6 p7 p8 p9))) = total1024 p5 := by
  funext j
  obtain ⟨n, rfl⟩ : ∃ (n : Fin 1024), j = ix1 n := ⟨j 0, eq_ix1 j⟩
  have h : n.val < 1024 := n.isLt
  rw [cut5_at]
  refine (flat_grad _ _ (by simp only; omega)).trans ?_
  exact @Finset.sum_congr (Fin _) EReal _ _ _ _ _ rfl fun k _ => rows_5 p0 p1 p2 p3 p4 p5 p6 p7 p8 p9 k n

/-- Piece 6 of a packed array. -/
theorem cut5_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut5 (fold (row a0 a1 a2 a3 a4 a5 a6 a7 a8)) = a5 := by
  funext j
  obtain ⟨n, rfl⟩ : ∃ (n : Fin 1024), j = ix1 n := ⟨j 0, eq_ix1 j⟩
  have h : n.val < 1024 := n.isLt
  rw [cut5_at]
  exact (flat_fold_at _ _ (by simp only; omega)).trans (row_5 a0 a1 a2 a3 a4 a5 a6 a7 a8 n)

/-- Piece 6 of the step. -/
theorem cut5_delta (g w a b : Vec Ideal S96x128 .f32) : cut5 (delta g w a b) = stepOf (cut5 g) (cut5 w) (cut5 a) (cut5 b) := rfl

/-- Piece 6 of the first moments. -/
theorem cut5_first (g a : Vec Ideal S96x128 .f32) : cut5 (first g a) = firstOf (cut5 g) (cut5 a) := rfl

/-- Piece 6 of the second moments. -/
theorem cut5_second (g b : Vec Ideal S96x128 .f32) : cut5 (second g b) = secondOf (cut5 g) (cut5 b) := rfl

/-- Piece 7 of an array of the region. -/
def cut6 (x : Vec Ideal S96x128 .f32) : Vec Ideal S1024 .f32 := extractStridedSlice S1024 ![3712] (flat x) slices_S12288_S1024_3712

/-- Piece 7 at an entry. -/
theorem cut6_at (x : Vec Ideal S96x128 .f32) (n : Fin 1024) (h : n.val < 1024 := n.isLt) : cut6 x (ix1 n) = flat x (ix1 ⟨3712 + n.val, by omega⟩) := by
  unfold cut6
  pointwise

/-- Piece 7 of the gradient. -/
theorem cut6_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut6 (grad (folds (rows p0 p1 p2 p3 p4 p5 p6 p7 p8 p9))) = total1024 p6 := by
  funext j
  obtain ⟨n, rfl⟩ : ∃ (n : Fin 1024), j = ix1 n := ⟨j 0, eq_ix1 j⟩
  have h : n.val < 1024 := n.isLt
  rw [cut6_at]
  refine (flat_grad _ _ (by simp only; omega)).trans ?_
  exact @Finset.sum_congr (Fin _) EReal _ _ _ _ _ rfl fun k _ => rows_6 p0 p1 p2 p3 p4 p5 p6 p7 p8 p9 k n

/-- Piece 7 of a packed array. -/
theorem cut6_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut6 (fold (row a0 a1 a2 a3 a4 a5 a6 a7 a8)) = a6 := by
  funext j
  obtain ⟨n, rfl⟩ : ∃ (n : Fin 1024), j = ix1 n := ⟨j 0, eq_ix1 j⟩
  have h : n.val < 1024 := n.isLt
  rw [cut6_at]
  exact (flat_fold_at _ _ (by simp only; omega)).trans (row_6 a0 a1 a2 a3 a4 a5 a6 a7 a8 n)

/-- Piece 7 of the step. -/
theorem cut6_delta (g w a b : Vec Ideal S96x128 .f32) : cut6 (delta g w a b) = stepOf (cut6 g) (cut6 w) (cut6 a) (cut6 b) := rfl

/-- Piece 7 of the first moments. -/
theorem cut6_first (g a : Vec Ideal S96x128 .f32) : cut6 (first g a) = firstOf (cut6 g) (cut6 a) := rfl

/-- Piece 7 of the second moments. -/
theorem cut6_second (g b : Vec Ideal S96x128 .f32) : cut6 (second g b) = secondOf (cut6 g) (cut6 b) := rfl

/-- Piece 8 of an array of the region. -/
def cut7 (x : Vec Ideal S96x128 .f32) : Vec Ideal S5632 .f32 := extractStridedSlice S5632 ![4736] (flat x) slices_S12288_S5632_4736

/-- Piece 8 at an entry. -/
theorem cut7_at (x : Vec Ideal S96x128 .f32) (n : Fin 5632) (h : n.val < 5632 := n.isLt) : cut7 x (ix1 n) = flat x (ix1 ⟨4736 + n.val, by omega⟩) := by
  unfold cut7
  pointwise

/-- Piece 8 of the gradient. -/
theorem cut7_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut7 (grad (folds (rows p0 p1 p2 p3 p4 p5 p6 p7 p8 p9))) = total5632 p7 := by
  funext j
  obtain ⟨n, rfl⟩ : ∃ (n : Fin 5632), j = ix1 n := ⟨j 0, eq_ix1 j⟩
  have h : n.val < 5632 := n.isLt
  rw [cut7_at]
  refine (flat_grad _ _ (by simp only; omega)).trans ?_
  exact @Finset.sum_congr (Fin _) EReal _ _ _ _ _ rfl fun k _ => rows_7 p0 p1 p2 p3 p4 p5 p6 p7 p8 p9 k n

/-- Piece 8 of a packed array. -/
theorem cut7_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut7 (fold (row a0 a1 a2 a3 a4 a5 a6 a7 a8)) = a7 := by
  funext j
  obtain ⟨n, rfl⟩ : ∃ (n : Fin 5632), j = ix1 n := ⟨j 0, eq_ix1 j⟩
  have h : n.val < 5632 := n.isLt
  rw [cut7_at]
  exact (flat_fold_at _ _ (by simp only; omega)).trans (row_7 a0 a1 a2 a3 a4 a5 a6 a7 a8 n)

/-- Piece 8 of the step. -/
theorem cut7_delta (g w a b : Vec Ideal S96x128 .f32) : cut7 (delta g w a b) = stepOf (cut7 g) (cut7 w) (cut7 a) (cut7 b) := rfl

/-- Piece 8 of the first moments. -/
theorem cut7_first (g a : Vec Ideal S96x128 .f32) : cut7 (first g a) = firstOf (cut7 g) (cut7 a) := rfl

/-- Piece 8 of the second moments. -/
theorem cut7_second (g b : Vec Ideal S96x128 .f32) : cut7 (second g b) = secondOf (cut7 g) (cut7 b) := rfl

/-- Piece 9 of an array of the region. -/
def cut8 (x : Vec Ideal S96x128 .f32) : Vec Ideal S1024 .f32 := extractStridedSlice S1024 ![10368] (flat x) slices_S12288_S1024_10368

/-- Piece 9 at an entry. -/
theorem cut8_at (x : Vec Ideal S96x128 .f32) (n : Fin 1024) (h : n.val < 1024 := n.isLt) : cut8 x (ix1 n) = flat x (ix1 ⟨10368 + n.val, by omega⟩) := by
  unfold cut8
  pointwise

/-- Piece 9 of the gradient. -/
theorem cut8_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut8 (grad (folds (rows p0 p1 p2 p3 p4 p5 p6 p7 p8 p9))) = total1024 p8 := by
  funext j
  obtain ⟨n, rfl⟩ : ∃ (n : Fin 1024), j = ix1 n := ⟨j 0, eq_ix1 j⟩
  have h : n.val < 1024 := n.isLt
  rw [cut8_at]
  refine (flat_grad _ _ (by simp only; omega)).trans ?_
  exact @Finset.sum_congr (Fin _) EReal _ _ _ _ _ rfl fun k _ => rows_8 p0 p1 p2 p3 p4 p5 p6 p7 p8 p9 k n

/-- Piece 9 of a packed array. -/
theorem cut8_fold (a0 : Vec Ideal S1024 .f32) (a1 : Vec Ideal S384 .f32) (a2 : Vec Ideal S256 .f32) (a3 : Vec Ideal S512 .f32) (a4 : Vec Ideal S512 .f32) (a5 : Vec Ideal S1024 .f32) (a6 : Vec Ideal S1024 .f32) (a7 : Vec Ideal S5632 .f32) (a8 : Vec Ideal S1024 .f32) : cut8 (fold (row a0 a1 a2 a3 a4 a5 a6 a7 a8)) = a8 := by
  funext j
  obtain ⟨n, rfl⟩ : ∃ (n : Fin 1024), j = ix1 n := ⟨j 0, eq_ix1 j⟩
  have h : n.val < 1024 := n.isLt
  rw [cut8_at]
  exact (flat_fold_at _ _ (by simp only; omega)).trans (row_8 a0 a1 a2 a3 a4 a5 a6 a7 a8 n)

/-- Piece 9 of the step. -/
theorem cut8_delta (g w a b : Vec Ideal S96x128 .f32) : cut8 (delta g w a b) = stepOf (cut8 g) (cut8 w) (cut8 a) (cut8 b) := rfl

/-- Piece 9 of the first moments. -/
theorem cut8_first (g a : Vec Ideal S96x128 .f32) : cut8 (first g a) = firstOf (cut8 g) (cut8 a) := rfl

/-- Piece 9 of the second moments. -/
theorem cut8_second (g b : Vec Ideal S96x128 .f32) : cut8 (second g b) = secondOf (cut8 g) (cut8 b) := rfl

/-- Piece 10 of an array of the region. -/
def cut9 (x : Vec Ideal S96x128 .f32) : Vec Ideal S1 .f32 := extractStridedSlice S1 ![11392] (flat x) slices_S12288_S1_11392

/-- Piece 10 at an entry. -/
theorem cut9_at (x : Vec Ideal S96x128 .f32) (n : Fin 1) (h : n.val < 1 := n.isLt) : cut9 x (ix1 n) = flat x (ix1 ⟨11392 + n.val, by omega⟩) := by
  unfold cut9
  pointwise

/-- Piece 10 of the gradient. -/
theorem cut9_grad (p0 : Vec Ideal S8x1024 .f32) (p1 : Vec Ideal S8x384 .f32) (p2 : Vec Ideal S8x256 .f32) (p3 : Vec Ideal S8x512 .f32) (p4 : Vec Ideal S8x512 .f32) (p5 : Vec Ideal S8x1024 .f32) (p6 : Vec Ideal S8x1024 .f32) (p7 : Vec Ideal S8x5632 .f32) (p8 : Vec Ideal S8x1024 .f32) (p9 : Vec Ideal S8x1 .f32) : cut9 (grad (folds (rows p0 p1 p2 p3 p4 p5 p6 p7 p8 p9))) = total1 p9 := by
  funext j
  obtain ⟨n, rfl⟩ : ∃ (n : Fin 1), j = ix1 n := ⟨j 0, eq_ix1 j⟩
  have h : n.val < 1 := n.isLt
  rw [cut9_at]
  refine (flat_grad _ _ (by simp only; omega)).trans ?_
  exact @Finset.sum_congr (Fin _) EReal _ _ _ _ _ rfl fun k _ => rows_9 p0 p1 p2 p3 p4 p5 p6 p7 p8 p9 k n

section Lines
variable (W : Valuation τ sig (Elt Ideal))

/-- The parts one after another. -/
theorem line0 : StableHlo.after hostOps0 W (Proc.devRef .tc main_v0) = rows (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg0)) := by
  dsimp only [hostOps0]
  after_reads_simp
  rfl

/-- The integer zero of fill 1. -/
theorem zero0 : StableHlo.after hostOps0 W (Proc.devRef .tc main_c) = (constantI S_ 32 0#32 : IVec S_ 32) := by
  dsimp only [hostOps0]
  after_reads_simp

/-- Fill 1. -/
theorem fill0 (h : W (Proc.devRef .tc main_c) = (constantI S_ 32 0#32 : IVec S_ 32)) :
    StableHlo.after hostOps0_1 W (Proc.devRef .tc main_v1) = pad S8x12288 ![0, 0] ![0, 895] ![0, 0] (W (Proc.devRef .tc main_v0) : Vec Ideal S8x11393 .f32) (sitofp .f32 (constantI S_ 32 0#32) : FVec Ideal S_ .f32) pads_S8x11393_S8x12288_000_08950 h_S_ := by
  dsimp only [hostOps0_1]
  after_reads_simp
  rw [h]
  rfl

/-- Fold 1. -/
theorem cast0 : StableHlo.after hostOps0_2 W (Proc.devRef .tc main_v2) = shapeCast S8x96x128 (W (Proc.devRef .tc main_v1) : Vec Ideal S8x12288 .f32) shapeCasts_S8x12288_S8x96x128 := by
  dsimp only [hostOps0_2]
  after_reads_simp
  rfl

/-- The later lines leave fold 1 alone. -/
theorem after0 : StableHlo.after hostOps0_8 (StableHlo.after hostOps0_7 (StableHlo.after hostOps0_6 (StableHlo.after hostOps0_5 (StableHlo.after hostOps0_4 (StableHlo.after hostOps0_3 W))))) (Proc.devRef .tc main_v2) = W (Proc.devRef .tc main_v2) := by
  dsimp only [hostOps0_3, hostOps0_4, hostOps0_5, hostOps0_6, hostOps0_7, hostOps0_8]
  after_reads_simp

/-- The weights one after another. -/
theorem line1 : StableHlo.after hostOps0_2 W (Proc.devRef .tc main_v4) = row (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) := by
  dsimp only [hostOps0_2]
  after_reads_simp
  rfl

/-- The integer zero of fill 2. -/
theorem zero1 : StableHlo.after hostOps0_2 W (Proc.devRef .tc main_c_0) = (constantI S_ 32 0#32 : IVec S_ 32) := by
  dsimp only [hostOps0_2]
  after_reads_simp

/-- Fill 2. -/
theorem fill1 (h : W (Proc.devRef .tc main_c_0) = (constantI S_ 32 0#32 : IVec S_ 32)) :
    StableHlo.after hostOps0_3 W (Proc.devRef .tc main_v5) = pad S12288 ![0] ![895] ![0] (W (Proc.devRef .tc main_v4) : Vec Ideal S11393 .f32) (sitofp .f32 (constantI S_ 32 0#32) : FVec Ideal S_ .f32) pads_S11393_S12288_08950 h_S_ := by
  dsimp only [hostOps0_3]
  after_reads_simp
  rw [h]
  rfl

/-- Fold 2. -/
theorem cast1 : StableHlo.after hostOps0_4 W (Proc.devRef .tc main_v6) = shapeCast S96x128 (W (Proc.devRef .tc main_v5) : Vec Ideal S12288 .f32) shapeCasts_S12288_S96x128 := by
  dsimp only [hostOps0_4]
  after_reads_simp
  rfl

/-- The later lines leave fold 2 alone. -/
theorem after1 : StableHlo.after hostOps0_8 (StableHlo.after hostOps0_7 (StableHlo.after hostOps0_6 (StableHlo.after hostOps0_5 W))) (Proc.devRef .tc main_v6) = W (Proc.devRef .tc main_v6) := by
  dsimp only [hostOps0_5, hostOps0_6, hostOps0_7, hostOps0_8]
  after_reads_simp

/-- The lines before leave argument 10 alone. -/
theorem before_10 : StableHlo.after hostOps0_1 (StableHlo.after hostOps0 W) (Proc.devRef .tc main_arg10) = W (Proc.devRef .tc main_arg10) := by
  dsimp only [hostOps0, hostOps0_1]
  after_reads_simp

/-- The lines before leave argument 11 alone. -/
theorem before_11 : StableHlo.after hostOps0_1 (StableHlo.after hostOps0 W) (Proc.devRef .tc main_arg11) = W (Proc.devRef .tc main_arg11) := by
  dsimp only [hostOps0, hostOps0_1]
  after_reads_simp

/-- The lines before leave argument 12 alone. -/
theorem before_12 : StableHlo.after hostOps0_1 (StableHlo.after hostOps0 W) (Proc.devRef .tc main_arg12) = W (Proc.devRef .tc main_arg12) := by
  dsimp only [hostOps0, hostOps0_1]
  after_reads_simp

/-- The lines before leave argument 13 alone. -/
theorem before_13 : StableHlo.after hostOps0_1 (StableHlo.after hostOps0 W) (Proc.devRef .tc main_arg13) = W (Proc.devRef .tc main_arg13) := by
  dsimp only [hostOps0, hostOps0_1]
  after_reads_simp

/-- The lines before leave argument 14 alone. -/
theorem before_14 : StableHlo.after hostOps0_1 (StableHlo.after hostOps0 W) (Proc.devRef .tc main_arg14) = W (Proc.devRef .tc main_arg14) := by
  dsimp only [hostOps0, hostOps0_1]
  after_reads_simp

/-- The lines before leave argument 15 alone. -/
theorem before_15 : StableHlo.after hostOps0_1 (StableHlo.after hostOps0 W) (Proc.devRef .tc main_arg15) = W (Proc.devRef .tc main_arg15) := by
  dsimp only [hostOps0, hostOps0_1]
  after_reads_simp

/-- The lines before leave argument 16 alone. -/
theorem before_16 : StableHlo.after hostOps0_1 (StableHlo.after hostOps0 W) (Proc.devRef .tc main_arg16) = W (Proc.devRef .tc main_arg16) := by
  dsimp only [hostOps0, hostOps0_1]
  after_reads_simp

/-- The lines before leave argument 17 alone. -/
theorem before_17 : StableHlo.after hostOps0_1 (StableHlo.after hostOps0 W) (Proc.devRef .tc main_arg17) = W (Proc.devRef .tc main_arg17) := by
  dsimp only [hostOps0, hostOps0_1]
  after_reads_simp

/-- The lines before leave argument 18 alone. -/
theorem before_18 : StableHlo.after hostOps0_1 (StableHlo.after hostOps0 W) (Proc.devRef .tc main_arg18) = W (Proc.devRef .tc main_arg18) := by
  dsimp only [hostOps0, hostOps0_1]
  after_reads_simp

/-- The first moments one after another. -/
theorem line2 : StableHlo.after hostOps0_4 W (Proc.devRef .tc main_v8) = row (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) := by
  dsimp only [hostOps0_4]
  after_reads_simp
  rfl

/-- The integer zero of fill 3. -/
theorem zero2 : StableHlo.after hostOps0_4 W (Proc.devRef .tc main_c_2) = (constantI S_ 32 0#32 : IVec S_ 32) := by
  dsimp only [hostOps0_4]
  after_reads_simp

/-- Fill 3. -/
theorem fill2 (h : W (Proc.devRef .tc main_c_2) = (constantI S_ 32 0#32 : IVec S_ 32)) :
    StableHlo.after hostOps0_5 W (Proc.devRef .tc main_v9) = pad S12288 ![0] ![895] ![0] (W (Proc.devRef .tc main_v8) : Vec Ideal S11393 .f32) (sitofp .f32 (constantI S_ 32 0#32) : FVec Ideal S_ .f32) pads_S11393_S12288_08950 h_S_ := by
  dsimp only [hostOps0_5]
  after_reads_simp
  rw [h]
  rfl

/-- Fold 3. -/
theorem cast2 : StableHlo.after hostOps0_6 W (Proc.devRef .tc main_v10) = shapeCast S96x128 (W (Proc.devRef .tc main_v9) : Vec Ideal S12288 .f32) shapeCasts_S12288_S96x128 := by
  dsimp only [hostOps0_6]
  after_reads_simp
  rfl

/-- The later lines leave fold 3 alone. -/
theorem after2 : StableHlo.after hostOps0_8 (StableHlo.after hostOps0_7 W) (Proc.devRef .tc main_v10) = W (Proc.devRef .tc main_v10) := by
  dsimp only [hostOps0_7, hostOps0_8]
  after_reads_simp

/-- The lines before leave argument 19 alone. -/
theorem before_19 : StableHlo.after hostOps0_3 (StableHlo.after hostOps0_2 (StableHlo.after hostOps0_1 (StableHlo.after hostOps0 W))) (Proc.devRef .tc main_arg19) = W (Proc.devRef .tc main_arg19) := by
  dsimp only [hostOps0, hostOps0_1, hostOps0_2, hostOps0_3]
  after_reads_simp

/-- The lines before leave argument 20 alone. -/
theorem before_20 : StableHlo.after hostOps0_3 (StableHlo.after hostOps0_2 (StableHlo.after hostOps0_1 (StableHlo.after hostOps0 W))) (Proc.devRef .tc main_arg20) = W (Proc.devRef .tc main_arg20) := by
  dsimp only [hostOps0, hostOps0_1, hostOps0_2, hostOps0_3]
  after_reads_simp

/-- The lines before leave argument 21 alone. -/
theorem before_21 : StableHlo.after hostOps0_3 (StableHlo.after hostOps0_2 (StableHlo.after hostOps0_1 (StableHlo.after hostOps0 W))) (Proc.devRef .tc main_arg21) = W (Proc.devRef .tc main_arg21) := by
  dsimp only [hostOps0, hostOps0_1, hostOps0_2, hostOps0_3]
  after_reads_simp

/-- The lines before leave argument 22 alone. -/
theorem before_22 : StableHlo.after hostOps0_3 (StableHlo.after hostOps0_2 (StableHlo.after hostOps0_1 (StableHlo.after hostOps0 W))) (Proc.devRef .tc main_arg22) = W (Proc.devRef .tc main_arg22) := by
  dsimp only [hostOps0, hostOps0_1, hostOps0_2, hostOps0_3]
  after_reads_simp

/-- The lines before leave argument 23 alone. -/
theorem before_23 : StableHlo.after hostOps0_3 (StableHlo.after hostOps0_2 (StableHlo.after hostOps0_1 (StableHlo.after hostOps0 W))) (Proc.devRef .tc main_arg23) = W (Proc.devRef .tc main_arg23) := by
  dsimp only [hostOps0, hostOps0_1, hostOps0_2, hostOps0_3]
  after_reads_simp

/-- The lines before leave argument 24 alone. -/
theorem before_24 : StableHlo.after hostOps0_3 (StableHlo.after hostOps0_2 (StableHlo.after hostOps0_1 (StableHlo.after hostOps0 W))) (Proc.devRef .tc main_arg24) = W (Proc.devRef .tc main_arg24) := by
  dsimp only [hostOps0, hostOps0_1, hostOps0_2, hostOps0_3]
  after_reads_simp

/-- The lines before leave argument 25 alone. -/
theorem before_25 : StableHlo.after hostOps0_3 (StableHlo.after hostOps0_2 (StableHlo.after hostOps0_1 (StableHlo.after hostOps0 W))) (Proc.devRef .tc main_arg25) = W (Proc.devRef .tc main_arg25) := by
  dsimp only [hostOps0, hostOps0_1, hostOps0_2, hostOps0_3]
  after_reads_simp

/-- The lines before leave argument 26 alone. -/
theorem before_26 : StableHlo.after hostOps0_3 (StableHlo.after hostOps0_2 (StableHlo.after hostOps0_1 (StableHlo.after hostOps0 W))) (Proc.devRef .tc main_arg26) = W (Proc.devRef .tc main_arg26) := by
  dsimp only [hostOps0, hostOps0_1, hostOps0_2, hostOps0_3]
  after_reads_simp

/-- The lines before leave argument 27 alone. -/
theorem before_27 : StableHlo.after hostOps0_3 (StableHlo.after hostOps0_2 (StableHlo.after hostOps0_1 (StableHlo.after hostOps0 W))) (Proc.devRef .tc main_arg27) = W (Proc.devRef .tc main_arg27) := by
  dsimp only [hostOps0, hostOps0_1, hostOps0_2, hostOps0_3]
  after_reads_simp

/-- The second moments one after another. -/
theorem line3 : StableHlo.after hostOps0_6 W (Proc.devRef .tc main_v12) = row (W (Proc.devRef .tc main_arg28)) (W (Proc.devRef .tc main_arg29)) (W (Proc.devRef .tc main_arg30)) (W (Proc.devRef .tc main_arg31)) (W (Proc.devRef .tc main_arg32)) (W (Proc.devRef .tc main_arg33)) (W (Proc.devRef .tc main_arg34)) (W (Proc.devRef .tc main_arg35)) (W (Proc.devRef .tc main_arg36)) := by
  dsimp only [hostOps0_6]
  after_reads_simp
  rfl

/-- The integer zero of fill 4. -/
theorem zero3 : StableHlo.after hostOps0_6 W (Proc.devRef .tc main_c_4) = (constantI S_ 32 0#32 : IVec S_ 32) := by
  dsimp only [hostOps0_6]
  after_reads_simp

/-- Fill 4. -/
theorem fill3 (h : W (Proc.devRef .tc main_c_4) = (constantI S_ 32 0#32 : IVec S_ 32)) :
    StableHlo.after hostOps0_7 W (Proc.devRef .tc main_v13) = pad S12288 ![0] ![895] ![0] (W (Proc.devRef .tc main_v12) : Vec Ideal S11393 .f32) (sitofp .f32 (constantI S_ 32 0#32) : FVec Ideal S_ .f32) pads_S11393_S12288_08950 h_S_ := by
  dsimp only [hostOps0_7]
  after_reads_simp
  rw [h]
  rfl

/-- Fold 4. -/
theorem cast3 : StableHlo.after hostOps0_8 W (Proc.devRef .tc main_v14) = shapeCast S96x128 (W (Proc.devRef .tc main_v13) : Vec Ideal S12288 .f32) shapeCasts_S12288_S96x128 := by
  dsimp only [hostOps0_8]
  after_reads_simp
  rfl

/-- The lines before leave argument 28 alone. -/
theorem before_28 : StableHlo.after hostOps0_5 (StableHlo.after hostOps0_4 (StableHlo.after hostOps0_3 (StableHlo.after hostOps0_2 (StableHlo.after hostOps0_1 (StableHlo.after hostOps0 W))))) (Proc.devRef .tc main_arg28) = W (Proc.devRef .tc main_arg28) := by
  dsimp only [hostOps0, hostOps0_1, hostOps0_2, hostOps0_3, hostOps0_4, hostOps0_5]
  after_reads_simp

/-- The lines before leave argument 29 alone. -/
theorem before_29 : StableHlo.after hostOps0_5 (StableHlo.after hostOps0_4 (StableHlo.after hostOps0_3 (StableHlo.after hostOps0_2 (StableHlo.after hostOps0_1 (StableHlo.after hostOps0 W))))) (Proc.devRef .tc main_arg29) = W (Proc.devRef .tc main_arg29) := by
  dsimp only [hostOps0, hostOps0_1, hostOps0_2, hostOps0_3, hostOps0_4, hostOps0_5]
  after_reads_simp

/-- The lines before leave argument 30 alone. -/
theorem before_30 : StableHlo.after hostOps0_5 (StableHlo.after hostOps0_4 (StableHlo.after hostOps0_3 (StableHlo.after hostOps0_2 (StableHlo.after hostOps0_1 (StableHlo.after hostOps0 W))))) (Proc.devRef .tc main_arg30) = W (Proc.devRef .tc main_arg30) := by
  dsimp only [hostOps0, hostOps0_1, hostOps0_2, hostOps0_3, hostOps0_4, hostOps0_5]
  after_reads_simp

/-- The lines before leave argument 31 alone. -/
theorem before_31 : StableHlo.after hostOps0_5 (StableHlo.after hostOps0_4 (StableHlo.after hostOps0_3 (StableHlo.after hostOps0_2 (StableHlo.after hostOps0_1 (StableHlo.after hostOps0 W))))) (Proc.devRef .tc main_arg31) = W (Proc.devRef .tc main_arg31) := by
  dsimp only [hostOps0, hostOps0_1, hostOps0_2, hostOps0_3, hostOps0_4, hostOps0_5]
  after_reads_simp

/-- The lines before leave argument 32 alone. -/
theorem before_32 : StableHlo.after hostOps0_5 (StableHlo.after hostOps0_4 (StableHlo.after hostOps0_3 (StableHlo.after hostOps0_2 (StableHlo.after hostOps0_1 (StableHlo.after hostOps0 W))))) (Proc.devRef .tc main_arg32) = W (Proc.devRef .tc main_arg32) := by
  dsimp only [hostOps0, hostOps0_1, hostOps0_2, hostOps0_3, hostOps0_4, hostOps0_5]
  after_reads_simp

/-- The lines before leave argument 33 alone. -/
theorem before_33 : StableHlo.after hostOps0_5 (StableHlo.after hostOps0_4 (StableHlo.after hostOps0_3 (StableHlo.after hostOps0_2 (StableHlo.after hostOps0_1 (StableHlo.after hostOps0 W))))) (Proc.devRef .tc main_arg33) = W (Proc.devRef .tc main_arg33) := by
  dsimp only [hostOps0, hostOps0_1, hostOps0_2, hostOps0_3, hostOps0_4, hostOps0_5]
  after_reads_simp

/-- The lines before leave argument 34 alone. -/
theorem before_34 : StableHlo.after hostOps0_5 (StableHlo.after hostOps0_4 (StableHlo.after hostOps0_3 (StableHlo.after hostOps0_2 (StableHlo.after hostOps0_1 (StableHlo.after hostOps0 W))))) (Proc.devRef .tc main_arg34) = W (Proc.devRef .tc main_arg34) := by
  dsimp only [hostOps0, hostOps0_1, hostOps0_2, hostOps0_3, hostOps0_4, hostOps0_5]
  after_reads_simp

/-- The lines before leave argument 35 alone. -/
theorem before_35 : StableHlo.after hostOps0_5 (StableHlo.after hostOps0_4 (StableHlo.after hostOps0_3 (StableHlo.after hostOps0_2 (StableHlo.after hostOps0_1 (StableHlo.after hostOps0 W))))) (Proc.devRef .tc main_arg35) = W (Proc.devRef .tc main_arg35) := by
  dsimp only [hostOps0, hostOps0_1, hostOps0_2, hostOps0_3, hostOps0_4, hostOps0_5]
  after_reads_simp

/-- The lines before leave argument 36 alone. -/
theorem before_36 : StableHlo.after hostOps0_5 (StableHlo.after hostOps0_4 (StableHlo.after hostOps0_3 (StableHlo.after hostOps0_2 (StableHlo.after hostOps0_1 (StableHlo.after hostOps0 W))))) (Proc.devRef .tc main_arg36) = W (Proc.devRef .tc main_arg36) := by
  dsimp only [hostOps0, hostOps0_1, hostOps0_2, hostOps0_3, hostOps0_4, hostOps0_5]
  after_reads_simp

end Lines

/-- The parts packed before the region. -/
theorem V_0 : V m c main_v2 = folds (rows (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg0))) := by
  show StableHlo.after (List.flatten [hostOps0, hostOps0_1, hostOps0_2, hostOps0_3, hostOps0_4, hostOps0_5, hostOps0_6, hostOps0_7, hostOps0_8]) (fun b => m (c, b)) (Proc.devRef .tc main_v2) = _
  simp only [List.flatten_cons, List.flatten_nil, List.append_nil, StableHlo.after_append]
  rw [after0, cast0, fill0 _ (zero0 _), line0]
  rfl

/-- The weights packed before the region. -/
theorem V_1 : V m c main_v6 = fold (row (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  show StableHlo.after (List.flatten [hostOps0, hostOps0_1, hostOps0_2, hostOps0_3, hostOps0_4, hostOps0_5, hostOps0_6, hostOps0_7, hostOps0_8]) (fun b => m (c, b)) (Proc.devRef .tc main_v6) = _
  simp only [List.flatten_cons, List.flatten_nil, List.append_nil, StableHlo.after_append]
  rw [after1, cast1, fill1 _ (zero1 _), line1, before_10, before_11, before_12, before_13, before_14, before_15, before_16, before_17, before_18]
  rfl

/-- The first moments packed before the region. -/
theorem V_2 : V m c main_v10 = fold (row (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))) := by
  show StableHlo.after (List.flatten [hostOps0, hostOps0_1, hostOps0_2, hostOps0_3, hostOps0_4, hostOps0_5, hostOps0_6, hostOps0_7, hostOps0_8]) (fun b => m (c, b)) (Proc.devRef .tc main_v10) = _
  simp only [List.flatten_cons, List.flatten_nil, List.append_nil, StableHlo.after_append]
  rw [after2, cast2, fill2 _ (zero2 _), line2, before_19, before_20, before_21, before_22, before_23, before_24, before_25, before_26, before_27]
  rfl

/-- The second moments packed before the region. -/
theorem V_3 : V m c main_v14 = fold (row (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36))) := by
  show StableHlo.after (List.flatten [hostOps0, hostOps0_1, hostOps0_2, hostOps0_3, hostOps0_4, hostOps0_5, hostOps0_6, hostOps0_7, hostOps0_8]) (fun b => m (c, b)) (Proc.devRef .tc main_v14) = _
  simp only [List.flatten_cons, List.flatten_nil, List.append_nil, StableHlo.after_append]
  rw [cast3, fill3 _ (zero3 _), line3, before_28, before_29, before_30, before_31, before_32, before_33, before_34, before_35, before_36]
  rfl

/-- No two of the region's arrays are the same. -/
theorem arr_inj : Function.Injective (Pipeline.arrRef (cfgs 0).spec) := by
  intro a b; revert a b; decide

/-- What the buffers hold after the region. -/
def mid : Valuation τ sig (Elt Ideal) := Pipeline.withArrays (cfgs 0).spec c (V0 m c) fun w => (dats m 0 c).arrAt w (cfgs 0).N

/-- What a buffer holds at the end of the program. -/
abbrev ended (b : Ref sig .tc) : Buf (Elt Ideal) ((c : Thread nD τ).loc b) := Pipeline.afterTail₀ cfgs (dats m) 0 (V0 m) [hostOps1] c b

/-- It is what the lines after the region leave there. -/
theorem ended_eq (b : Ref sig .tc) : ended m c b = StableHlo.after hostOps1 (mid m c) (Proc.devRef .tc b) := by
  unfold ended Pipeline.afterTail₀ mid
  simp only [List.flatten_cons, List.flatten_nil, List.append_nil]

/-- The gradient after the region. -/
theorem end4 : mid m c (Proc.devRef .tc main_v15_0) = grad (V m c main_v2) := (Pipeline.withArrays_arr (cfgs 0).spec arr_inj c (V0 m c) _ 4).trans (final4 m c)

/-- The step after the region. -/
theorem end5 : mid m c (Proc.devRef .tc main_v15_1) = delta (grad (V m c main_v2)) (V m c main_v6) (V m c main_v10) (V m c main_v14) := (Pipeline.withArrays_arr (cfgs 0).spec arr_inj c (V0 m c) _ 5).trans (final5 m c)

/-- The first moment after the region. -/
theorem end6 : mid m c (Proc.devRef .tc main_v15_2) = first (grad (V m c main_v2)) (V m c main_v10) := (Pipeline.withArrays_arr (cfgs 0).spec arr_inj c (V0 m c) _ 6).trans (final6 m c)

/-- The second moment after the region. -/
theorem end7 : mid m c (Proc.devRef .tc main_v15_3) = second (grad (V m c main_v2)) (V m c main_v14) := (Pipeline.withArrays_arr (cfgs 0).spec arr_inj c (V0 m c) _ 7).trans (final7 m c)

/-- The line after the region that cuts out piece 1 of the gradient. -/
theorem tail_0_0 (W : Valuation τ sig (Elt Ideal)) : StableHlo.after hostOps1 W (Proc.devRef .tc main_v17) = cut0 (W (Proc.devRef .tc main_v15_0)) := by
  dsimp only [hostOps1]
  after_reads_simp
  rfl

/-- Piece 1 of the gradient at the end of the program. -/
theorem last_0_0 : ended m c main_v17 = total1024 (m ((c : Thread nD τ).loc main_arg1)) := by
  rw [ended_eq, tail_0_0]
  refine (congrArg cut0 (end4 m c)).trans ?_
  rw [V_0, cut0_grad]

/-- The line after the region that cuts out piece 2 of the gradient. -/
theorem tail_0_1 (W : Valuation τ sig (Elt Ideal)) : StableHlo.after hostOps1 W (Proc.devRef .tc main_v18) = cut1 (W (Proc.devRef .tc main_v15_0)) := by
  dsimp only [hostOps1]
  after_reads_simp
  rfl

/-- Piece 2 of the gradient at the end of the program. -/
theorem last_0_1 : ended m c main_v18 = total384 (m ((c : Thread nD τ).loc main_arg2)) := by
  rw [ended_eq, tail_0_1]
  refine (congrArg cut1 (end4 m c)).trans ?_
  rw [V_0, cut1_grad]

/-- The line after the region that cuts out piece 3 of the gradient. -/
theorem tail_0_2 (W : Valuation τ sig (Elt Ideal)) : StableHlo.after hostOps1 W (Proc.devRef .tc main_v19) = cut2 (W (Proc.devRef .tc main_v15_0)) := by
  dsimp only [hostOps1]
  after_reads_simp
  rfl

/-- Piece 3 of the gradient at the end of the program. -/
theorem last_0_2 : ended m c main_v19 = total256 (m ((c : Thread nD τ).loc main_arg3)) := by
  rw [ended_eq, tail_0_2]
  refine (congrArg cut2 (end4 m c)).trans ?_
  rw [V_0, cut2_grad]

/-- The line after the region that cuts out piece 4 of the gradient. -/
theorem tail_0_3 (W : Valuation τ sig (Elt Ideal)) : StableHlo.after hostOps1 W (Proc.devRef .tc main_v20) = cut3 (W (Proc.devRef .tc main_v15_0)) := by
  dsimp only [hostOps1]
  after_reads_simp
  rfl

/-- Piece 4 of the gradient at the end of the program. -/
theorem last_0_3 : ended m c main_v20 = total512 (m ((c : Thread nD τ).loc main_arg4)) := by
  rw [ended_eq, tail_0_3]
  refine (congrArg cut3 (end4 m c)).trans ?_
  rw [V_0, cut3_grad]

/-- The line after the region that cuts out piece 5 of the gradient. -/
theorem tail_0_4 (W : Valuation τ sig (Elt Ideal)) : StableHlo.after hostOps1 W (Proc.devRef .tc main_v21) = cut4 (W (Proc.devRef .tc main_v15_0)) := by
  dsimp only [hostOps1]
  after_reads_simp
  rfl

/-- Piece 5 of the gradient at the end of the program. -/
theorem last_0_4 : ended m c main_v21 = total512 (m ((c : Thread nD τ).loc main_arg5)) := by
  rw [ended_eq, tail_0_4]
  refine (congrArg cut4 (end4 m c)).trans ?_
  rw [V_0, cut4_grad]

/-- The line after the region that cuts out piece 6 of the gradient. -/
theorem tail_0_5 (W : Valuation τ sig (Elt Ideal)) : StableHlo.after hostOps1 W (Proc.devRef .tc main_v22) = cut5 (W (Proc.devRef .tc main_v15_0)) := by
  dsimp only [hostOps1]
  after_reads_simp
  rfl

/-- Piece 6 of the gradient at the end of the program. -/
theorem last_0_5 : ended m c main_v22 = total1024 (m ((c : Thread nD τ).loc main_arg6)) := by
  rw [ended_eq, tail_0_5]
  refine (congrArg cut5 (end4 m c)).trans ?_
  rw [V_0, cut5_grad]

/-- The line after the region that cuts out piece 7 of the gradient. -/
theorem tail_0_6 (W : Valuation τ sig (Elt Ideal)) : StableHlo.after hostOps1 W (Proc.devRef .tc main_v23) = cut6 (W (Proc.devRef .tc main_v15_0)) := by
  dsimp only [hostOps1]
  after_reads_simp
  rfl

/-- Piece 7 of the gradient at the end of the program. -/
theorem last_0_6 : ended m c main_v23 = total1024 (m ((c : Thread nD τ).loc main_arg7)) := by
  rw [ended_eq, tail_0_6]
  refine (congrArg cut6 (end4 m c)).trans ?_
  rw [V_0, cut6_grad]

/-- The line after the region that cuts out piece 8 of the gradient. -/
theorem tail_0_7 (W : Valuation τ sig (Elt Ideal)) : StableHlo.after hostOps1 W (Proc.devRef .tc main_v24) = cut7 (W (Proc.devRef .tc main_v15_0)) := by
  dsimp only [hostOps1]
  after_reads_simp
  rfl

/-- Piece 8 of the gradient at the end of the program. -/
theorem last_0_7 : ended m c main_v24 = total5632 (m ((c : Thread nD τ).loc main_arg8)) := by
  rw [ended_eq, tail_0_7]
  refine (congrArg cut7 (end4 m c)).trans ?_
  rw [V_0, cut7_grad]

/-- The line after the region that cuts out piece 9 of the gradient. -/
theorem tail_0_8 (W : Valuation τ sig (Elt Ideal)) : StableHlo.after hostOps1 W (Proc.devRef .tc main_v25) = cut8 (W (Proc.devRef .tc main_v15_0)) := by
  dsimp only [hostOps1]
  after_reads_simp
  rfl

/-- Piece 9 of the gradient at the end of the program. -/
theorem last_0_8 : ended m c main_v25 = total1024 (m ((c : Thread nD τ).loc main_arg9)) := by
  rw [ended_eq, tail_0_8]
  refine (congrArg cut8 (end4 m c)).trans ?_
  rw [V_0, cut8_grad]

/-- The line after the region that cuts out piece 1 of the step. -/
theorem tail_1_0 (W : Valuation τ sig (Elt Ideal)) : StableHlo.after hostOps1 W (Proc.devRef .tc main_v28) = cut0 (W (Proc.devRef .tc main_v15_1)) := by
  dsimp only [hostOps1]
  after_reads_simp
  rfl

/-- Piece 1 of the step at the end of the program. -/
theorem last_1_0 : ended m c main_v28 = stepOf (total1024 (m ((c : Thread nD τ).loc main_arg1))) (m ((c : Thread nD τ).loc main_arg10)) (m ((c : Thread nD τ).loc main_arg19)) (m ((c : Thread nD τ).loc main_arg28)) := by
  rw [ended_eq, tail_1_0]
  refine (congrArg cut0 (end5 m c)).trans ?_
  rw [cut0_delta, V_0, V_1, V_2, V_3, cut0_grad, cut0_fold, cut0_fold, cut0_fold]

/-- The line after the region that cuts out piece 2 of the step. -/
theorem tail_1_1 (W : Valuation τ sig (Elt Ideal)) : StableHlo.after hostOps1 W (Proc.devRef .tc main_v29) = cut1 (W (Proc.devRef .tc main_v15_1)) := by
  dsimp only [hostOps1]
  after_reads_simp
  rfl

/-- Piece 2 of the step at the end of the program. -/
theorem last_1_1 : ended m c main_v29 = stepOf (total384 (m ((c : Thread nD τ).loc main_arg2))) (m ((c : Thread nD τ).loc main_arg11)) (m ((c : Thread nD τ).loc main_arg20)) (m ((c : Thread nD τ).loc main_arg29)) := by
  rw [ended_eq, tail_1_1]
  refine (congrArg cut1 (end5 m c)).trans ?_
  rw [cut1_delta, V_0, V_1, V_2, V_3, cut1_grad, cut1_fold, cut1_fold, cut1_fold]

/-- The line after the region that cuts out piece 3 of the step. -/
theorem tail_1_2 (W : Valuation τ sig (Elt Ideal)) : StableHlo.after hostOps1 W (Proc.devRef .tc main_v30) = cut2 (W (Proc.devRef .tc main_v15_1)) := by
  dsimp only [hostOps1]
  after_reads_simp
  rfl

/-- Piece 3 of the step at the end of the program. -/
theorem last_1_2 : ended m c main_v30 = stepOf (total256 (m ((c : Thread nD τ).loc main_arg3))) (m ((c : Thread nD τ).loc main_arg12)) (m ((c : Thread nD τ).loc main_arg21)) (m ((c : Thread nD τ).loc main_arg30)) := by
  rw [ended_eq, tail_1_2]
  refine (congrArg cut2 (end5 m c)).trans ?_
  rw [cut2_delta, V_0, V_1, V_2, V_3, cut2_grad, cut2_fold, cut2_fold, cut2_fold]

/-- The line after the region that cuts out piece 4 of the step. -/
theorem tail_1_3 (W : Valuation τ sig (Elt Ideal)) : StableHlo.after hostOps1 W (Proc.devRef .tc main_v31) = cut3 (W (Proc.devRef .tc main_v15_1)) := by
  dsimp only [hostOps1]
  after_reads_simp
  rfl

/-- Piece 4 of the step at the end of the program. -/
theorem last_1_3 : ended m c main_v31 = stepOf (total512 (m ((c : Thread nD τ).loc main_arg4))) (m ((c : Thread nD τ).loc main_arg13)) (m ((c : Thread nD τ).loc main_arg22)) (m ((c : Thread nD τ).loc main_arg31)) := by
  rw [ended_eq, tail_1_3]
  refine (congrArg cut3 (end5 m c)).trans ?_
  rw [cut3_delta, V_0, V_1, V_2, V_3, cut3_grad, cut3_fold, cut3_fold, cut3_fold]

/-- The line after the region that cuts out piece 5 of the step. -/
theorem tail_1_4 (W : Valuation τ sig (Elt Ideal)) : StableHlo.after hostOps1 W (Proc.devRef .tc main_v32) = cut4 (W (Proc.devRef .tc main_v15_1)) := by
  dsimp only [hostOps1]
  after_reads_simp
  rfl

/-- Piece 5 of the step at the end of the program. -/
theorem last_1_4 : ended m c main_v32 = stepOf (total512 (m ((c : Thread nD τ).loc main_arg5))) (m ((c : Thread nD τ).loc main_arg14)) (m ((c : Thread nD τ).loc main_arg23)) (m ((c : Thread nD τ).loc main_arg32)) := by
  rw [ended_eq, tail_1_4]
  refine (congrArg cut4 (end5 m c)).trans ?_
  rw [cut4_delta, V_0, V_1, V_2, V_3, cut4_grad, cut4_fold, cut4_fold, cut4_fold]

/-- The line after the region that cuts out piece 6 of the step. -/
theorem tail_1_5 (W : Valuation τ sig (Elt Ideal)) : StableHlo.after hostOps1 W (Proc.devRef .tc main_v33) = cut5 (W (Proc.devRef .tc main_v15_1)) := by
  dsimp only [hostOps1]
  after_reads_simp
  rfl

/-- Piece 6 of the step at the end of the program. -/
theorem last_1_5 : ended m c main_v33 = stepOf (total1024 (m ((c : Thread nD τ).loc main_arg6))) (m ((c : Thread nD τ).loc main_arg15)) (m ((c : Thread nD τ).loc main_arg24)) (m ((c : Thread nD τ).loc main_arg33)) := by
  rw [ended_eq, tail_1_5]
  refine (congrArg cut5 (end5 m c)).trans ?_
  rw [cut5_delta, V_0, V_1, V_2, V_3, cut5_grad, cut5_fold, cut5_fold, cut5_fold]

/-- The line after the region that cuts out piece 7 of the step. -/
theorem tail_1_6 (W : Valuation τ sig (Elt Ideal)) : StableHlo.after hostOps1 W (Proc.devRef .tc main_v34) = cut6 (W (Proc.devRef .tc main_v15_1)) := by
  dsimp only [hostOps1]
  after_reads_simp
  rfl

/-- Piece 7 of the step at the end of the program. -/
theorem last_1_6 : ended m c main_v34 = stepOf (total1024 (m ((c : Thread nD τ).loc main_arg7))) (m ((c : Thread nD τ).loc main_arg16)) (m ((c : Thread nD τ).loc main_arg25)) (m ((c : Thread nD τ).loc main_arg34)) := by
  rw [ended_eq, tail_1_6]
  refine (congrArg cut6 (end5 m c)).trans ?_
  rw [cut6_delta, V_0, V_1, V_2, V_3, cut6_grad, cut6_fold, cut6_fold, cut6_fold]

/-- The line after the region that cuts out piece 8 of the step. -/
theorem tail_1_7 (W : Valuation τ sig (Elt Ideal)) : StableHlo.after hostOps1 W (Proc.devRef .tc main_v35) = cut7 (W (Proc.devRef .tc main_v15_1)) := by
  dsimp only [hostOps1]
  after_reads_simp
  rfl

/-- Piece 8 of the step at the end of the program. -/
theorem last_1_7 : ended m c main_v35 = stepOf (total5632 (m ((c : Thread nD τ).loc main_arg8))) (m ((c : Thread nD τ).loc main_arg17)) (m ((c : Thread nD τ).loc main_arg26)) (m ((c : Thread nD τ).loc main_arg35)) := by
  rw [ended_eq, tail_1_7]
  refine (congrArg cut7 (end5 m c)).trans ?_
  rw [cut7_delta, V_0, V_1, V_2, V_3, cut7_grad, cut7_fold, cut7_fold, cut7_fold]

/-- The line after the region that cuts out piece 9 of the step. -/
theorem tail_1_8 (W : Valuation τ sig (Elt Ideal)) : StableHlo.after hostOps1 W (Proc.devRef .tc main_v36) = cut8 (W (Proc.devRef .tc main_v15_1)) := by
  dsimp only [hostOps1]
  after_reads_simp
  rfl

/-- Piece 9 of the step at the end of the program. -/
theorem last_1_8 : ended m c main_v36 = stepOf (total1024 (m ((c : Thread nD τ).loc main_arg9))) (m ((c : Thread nD τ).loc main_arg18)) (m ((c : Thread nD τ).loc main_arg27)) (m ((c : Thread nD τ).loc main_arg36)) := by
  rw [ended_eq, tail_1_8]
  refine (congrArg cut8 (end5 m c)).trans ?_
  rw [cut8_delta, V_0, V_1, V_2, V_3, cut8_grad, cut8_fold, cut8_fold, cut8_fold]

/-- The line after the region that cuts out piece 1 of the first moments. -/
theorem tail_2_0 (W : Valuation τ sig (Elt Ideal)) : StableHlo.after hostOps1 W (Proc.devRef .tc main_v39) = cut0 (W (Proc.devRef .tc main_v15_2)) := by
  dsimp only [hostOps1]
  after_reads_simp
  rfl

/-- Piece 1 of the first moments at the end of the program. -/
theorem last_2_0 : ended m c main_v39 = firstOf (total1024 (m ((c : Thread nD τ).loc main_arg1))) (m ((c : Thread nD τ).loc main_arg19)) := by
  rw [ended_eq, tail_2_0]
  refine (congrArg cut0 (end6 m c)).trans ?_
  rw [cut0_first, V_0, V_2, cut0_grad, cut0_fold]

/-- The line after the region that cuts out piece 2 of the first moments. -/
theorem tail_2_1 (W : Valuation τ sig (Elt Ideal)) : StableHlo.after hostOps1 W (Proc.devRef .tc main_v40) = cut1 (W (Proc.devRef .tc main_v15_2)) := by
  dsimp only [hostOps1]
  after_reads_simp
  rfl

/-- Piece 2 of the first moments at the end of the program. -/
theorem last_2_1 : ended m c main_v40 = firstOf (total384 (m ((c : Thread nD τ).loc main_arg2))) (m ((c : Thread nD τ).loc main_arg20)) := by
  rw [ended_eq, tail_2_1]
  refine (congrArg cut1 (end6 m c)).trans ?_
  rw [cut1_first, V_0, V_2, cut1_grad, cut1_fold]

/-- The line after the region that cuts out piece 3 of the first moments. -/
theorem tail_2_2 (W : Valuation τ sig (Elt Ideal)) : StableHlo.after hostOps1 W (Proc.devRef .tc main_v41) = cut2 (W (Proc.devRef .tc main_v15_2)) := by
  dsimp only [hostOps1]
  after_reads_simp
  rfl

/-- Piece 3 of the first moments at the end of the program. -/
theorem last_2_2 : ended m c main_v41 = firstOf (total256 (m ((c : Thread nD τ).loc main_arg3))) (m ((c : Thread nD τ).loc main_arg21)) := by
  rw [ended_eq, tail_2_2]
  refine (congrArg cut2 (end6 m c)).trans ?_
  rw [cut2_first, V_0, V_2, cut2_grad, cut2_fold]

/-- The line after the region that cuts out piece 4 of the first moments. -/
theorem tail_2_3 (W : Valuation τ sig (Elt Ideal)) : StableHlo.after hostOps1 W (Proc.devRef .tc main_v42) = cut3 (W (Proc.devRef .tc main_v15_2)) := by
  dsimp only [hostOps1]
  after_reads_simp
  rfl

/-- Piece 4 of the first moments at the end of the program. -/
theorem last_2_3 : ended m c main_v42 = firstOf (total512 (m ((c : Thread nD τ).loc main_arg4))) (m ((c : Thread nD τ).loc main_arg22)) := by
  rw [ended_eq, tail_2_3]
  refine (congrArg cut3 (end6 m c)).trans ?_
  rw [cut3_first, V_0, V_2, cut3_grad, cut3_fold]

/-- The line after the region that cuts out piece 5 of the first moments. -/
theorem tail_2_4 (W : Valuation τ sig (Elt Ideal)) : StableHlo.after hostOps1 W (Proc.devRef .tc main_v43) = cut4 (W (Proc.devRef .tc main_v15_2)) := by
  dsimp only [hostOps1]
  after_reads_simp
  rfl

/-- Piece 5 of the first moments at the end of the program. -/
theorem last_2_4 : ended m c main_v43 = firstOf (total512 (m ((c : Thread nD τ).loc main_arg5))) (m ((c : Thread nD τ).loc main_arg23)) := by
  rw [ended_eq, tail_2_4]
  refine (congrArg cut4 (end6 m c)).trans ?_
  rw [cut4_first, V_0, V_2, cut4_grad, cut4_fold]

/-- The line after the region that cuts out piece 6 of the first moments. -/
theorem tail_2_5 (W : Valuation τ sig (Elt Ideal)) : StableHlo.after hostOps1 W (Proc.devRef .tc main_v44) = cut5 (W (Proc.devRef .tc main_v15_2)) := by
  dsimp only [hostOps1]
  after_reads_simp
  rfl

/-- Piece 6 of the first moments at the end of the program. -/
theorem last_2_5 : ended m c main_v44 = firstOf (total1024 (m ((c : Thread nD τ).loc main_arg6))) (m ((c : Thread nD τ).loc main_arg24)) := by
  rw [ended_eq, tail_2_5]
  refine (congrArg cut5 (end6 m c)).trans ?_
  rw [cut5_first, V_0, V_2, cut5_grad, cut5_fold]

/-- The line after the region that cuts out piece 7 of the first moments. -/
theorem tail_2_6 (W : Valuation τ sig (Elt Ideal)) : StableHlo.after hostOps1 W (Proc.devRef .tc main_v45) = cut6 (W (Proc.devRef .tc main_v15_2)) := by
  dsimp only [hostOps1]
  after_reads_simp
  rfl

/-- Piece 7 of the first moments at the end of the program. -/
theorem last_2_6 : ended m c main_v45 = firstOf (total1024 (m ((c : Thread nD τ).loc main_arg7))) (m ((c : Thread nD τ).loc main_arg25)) := by
  rw [ended_eq, tail_2_6]
  refine (congrArg cut6 (end6 m c)).trans ?_
  rw [cut6_first, V_0, V_2, cut6_grad, cut6_fold]

/-- The line after the region that cuts out piece 8 of the first moments. -/
theorem tail_2_7 (W : Valuation τ sig (Elt Ideal)) : StableHlo.after hostOps1 W (Proc.devRef .tc main_v46) = cut7 (W (Proc.devRef .tc main_v15_2)) := by
  dsimp only [hostOps1]
  after_reads_simp
  rfl

/-- Piece 8 of the first moments at the end of the program. -/
theorem last_2_7 : ended m c main_v46 = firstOf (total5632 (m ((c : Thread nD τ).loc main_arg8))) (m ((c : Thread nD τ).loc main_arg26)) := by
  rw [ended_eq, tail_2_7]
  refine (congrArg cut7 (end6 m c)).trans ?_
  rw [cut7_first, V_0, V_2, cut7_grad, cut7_fold]

/-- The line after the region that cuts out piece 9 of the first moments. -/
theorem tail_2_8 (W : Valuation τ sig (Elt Ideal)) : StableHlo.after hostOps1 W (Proc.devRef .tc main_v47) = cut8 (W (Proc.devRef .tc main_v15_2)) := by
  dsimp only [hostOps1]
  after_reads_simp
  rfl

/-- Piece 9 of the first moments at the end of the program. -/
theorem last_2_8 : ended m c main_v47 = firstOf (total1024 (m ((c : Thread nD τ).loc main_arg9))) (m ((c : Thread nD τ).loc main_arg27)) := by
  rw [ended_eq, tail_2_8]
  refine (congrArg cut8 (end6 m c)).trans ?_
  rw [cut8_first, V_0, V_2, cut8_grad, cut8_fold]

/-- The line after the region that cuts out piece 1 of the second moments. -/
theorem tail_3_0 (W : Valuation τ sig (Elt Ideal)) : StableHlo.after hostOps1 W (Proc.devRef .tc main_v50) = cut0 (W (Proc.devRef .tc main_v15_3)) := by
  dsimp only [hostOps1]
  after_reads_simp
  rfl

/-- Piece 1 of the second moments at the end of the program. -/
theorem last_3_0 : ended m c main_v50 = secondOf (total1024 (m ((c : Thread nD τ).loc main_arg1))) (m ((c : Thread nD τ).loc main_arg28)) := by
  rw [ended_eq, tail_3_0]
  refine (congrArg cut0 (end7 m c)).trans ?_
  rw [cut0_second, V_0, V_3, cut0_grad, cut0_fold]

/-- The line after the region that cuts out piece 2 of the second moments. -/
theorem tail_3_1 (W : Valuation τ sig (Elt Ideal)) : StableHlo.after hostOps1 W (Proc.devRef .tc main_v51) = cut1 (W (Proc.devRef .tc main_v15_3)) := by
  dsimp only [hostOps1]
  after_reads_simp
  rfl

/-- Piece 2 of the second moments at the end of the program. -/
theorem last_3_1 : ended m c main_v51 = secondOf (total384 (m ((c : Thread nD τ).loc main_arg2))) (m ((c : Thread nD τ).loc main_arg29)) := by
  rw [ended_eq, tail_3_1]
  refine (congrArg cut1 (end7 m c)).trans ?_
  rw [cut1_second, V_0, V_3, cut1_grad, cut1_fold]

/-- The line after the region that cuts out piece 3 of the second moments. -/
theorem tail_3_2 (W : Valuation τ sig (Elt Ideal)) : StableHlo.after hostOps1 W (Proc.devRef .tc main_v52) = cut2 (W (Proc.devRef .tc main_v15_3)) := by
  dsimp only [hostOps1]
  after_reads_simp
  rfl

/-- Piece 3 of the second moments at the end of the program. -/
theorem last_3_2 : ended m c main_v52 = secondOf (total256 (m ((c : Thread nD τ).loc main_arg3))) (m ((c : Thread nD τ).loc main_arg30)) := by
  rw [ended_eq, tail_3_2]
  refine (congrArg cut2 (end7 m c)).trans ?_
  rw [cut2_second, V_0, V_3, cut2_grad, cut2_fold]

/-- The line after the region that cuts out piece 4 of the second moments. -/
theorem tail_3_3 (W : Valuation τ sig (Elt Ideal)) : StableHlo.after hostOps1 W (Proc.devRef .tc main_v53) = cut3 (W (Proc.devRef .tc main_v15_3)) := by
  dsimp only [hostOps1]
  after_reads_simp
  rfl

/-- Piece 4 of the second moments at the end of the program. -/
theorem last_3_3 : ended m c main_v53 = secondOf (total512 (m ((c : Thread nD τ).loc main_arg4))) (m ((c : Thread nD τ).loc main_arg31)) := by
  rw [ended_eq, tail_3_3]
  refine (congrArg cut3 (end7 m c)).trans ?_
  rw [cut3_second, V_0, V_3, cut3_grad, cut3_fold]

/-- The line after the region that cuts out piece 5 of the second moments. -/
theorem tail_3_4 (W : Valuation τ sig (Elt Ideal)) : StableHlo.after hostOps1 W (Proc.devRef .tc main_v54) = cut4 (W (Proc.devRef .tc main_v15_3)) := by
  dsimp only [hostOps1]
  after_reads_simp
  rfl

/-- Piece 5 of the second moments at the end of the program. -/
theorem last_3_4 : ended m c main_v54 = secondOf (total512 (m ((c : Thread nD τ).loc main_arg5))) (m ((c : Thread nD τ).loc main_arg32)) := by
  rw [ended_eq, tail_3_4]
  refine (congrArg cut4 (end7 m c)).trans ?_
  rw [cut4_second, V_0, V_3, cut4_grad, cut4_fold]

/-- The line after the region that cuts out piece 6 of the second moments. -/
theorem tail_3_5 (W : Valuation τ sig (Elt Ideal)) : StableHlo.after hostOps1 W (Proc.devRef .tc main_v55) = cut5 (W (Proc.devRef .tc main_v15_3)) := by
  dsimp only [hostOps1]
  after_reads_simp
  rfl

/-- Piece 6 of the second moments at the end of the program. -/
theorem last_3_5 : ended m c main_v55 = secondOf (total1024 (m ((c : Thread nD τ).loc main_arg6))) (m ((c : Thread nD τ).loc main_arg33)) := by
  rw [ended_eq, tail_3_5]
  refine (congrArg cut5 (end7 m c)).trans ?_
  rw [cut5_second, V_0, V_3, cut5_grad, cut5_fold]

/-- The line after the region that cuts out piece 7 of the second moments. -/
theorem tail_3_6 (W : Valuation τ sig (Elt Ideal)) : StableHlo.after hostOps1 W (Proc.devRef .tc main_v56) = cut6 (W (Proc.devRef .tc main_v15_3)) := by
  dsimp only [hostOps1]
  after_reads_simp
  rfl

/-- Piece 7 of the second moments at the end of the program. -/
theorem last_3_6 : ended m c main_v56 = secondOf (total1024 (m ((c : Thread nD τ).loc main_arg7))) (m ((c : Thread nD τ).loc main_arg34)) := by
  rw [ended_eq, tail_3_6]
  refine (congrArg cut6 (end7 m c)).trans ?_
  rw [cut6_second, V_0, V_3, cut6_grad, cut6_fold]

/-- The line after the region that cuts out piece 8 of the second moments. -/
theorem tail_3_7 (W : Valuation τ sig (Elt Ideal)) : StableHlo.after hostOps1 W (Proc.devRef .tc main_v57) = cut7 (W (Proc.devRef .tc main_v15_3)) := by
  dsimp only [hostOps1]
  after_reads_simp
  rfl

/-- Piece 8 of the second moments at the end of the program. -/
theorem last_3_7 : ended m c main_v57 = secondOf (total5632 (m ((c : Thread nD τ).loc main_arg8))) (m ((c : Thread nD τ).loc main_arg35)) := by
  rw [ended_eq, tail_3_7]
  refine (congrArg cut7 (end7 m c)).trans ?_
  rw [cut7_second, V_0, V_3, cut7_grad, cut7_fold]

/-- The line after the region that cuts out piece 9 of the second moments. -/
theorem tail_3_8 (W : Valuation τ sig (Elt Ideal)) : StableHlo.after hostOps1 W (Proc.devRef .tc main_v58) = cut8 (W (Proc.devRef .tc main_v15_3)) := by
  dsimp only [hostOps1]
  after_reads_simp
  rfl

/-- Piece 9 of the second moments at the end of the program. -/
theorem last_3_8 : ended m c main_v58 = secondOf (total1024 (m ((c : Thread nD τ).loc main_arg9))) (m ((c : Thread nD τ).loc main_arg36)) := by
  rw [ended_eq, tail_3_8]
  refine (congrArg cut8 (end7 m c)).trans ?_
  rw [cut8_second, V_0, V_3, cut8_grad, cut8_fold]

/-- The sum of the eight parts of the loss. -/
def loss (x : Vec Ideal S8x1 .f32) : Vec Ideal S_ .f32 := fun _ => (∑ j : S8x1.Idx, x j : EReal)

/-- The last piece of the gradient as a single number. -/
theorem loss_eq (x : Vec Ideal S8x1 .f32) : shapeCast S_ (total1 x) shapeCasts_S1_S_ = loss x := by
  funext i
  have e : shapeCast S_ (total1 x) shapeCasts_S1_S_ i = total1 x (ix1 0) := by
    refine congrArg (total1 x) ?_
    funext a
    match a with
    | ⟨0, _⟩ => exact Subsingleton.elim (α := Fin 1) _ _
  rw [e]
  refine Fintype.sum_equiv (⟨fun k => ix2 k 0, fun j => j 0, fun k => rfl, fun j => ?_⟩ : Fin 8 ≃ S8x1.Idx) _ _ fun k => rfl
  refine ((eq_ix2 j).trans ?_).symm
  exact congrArg (ix2 (j 0)) (Subsingleton.elim (α := Fin 1) (j 1) 0)

/-- The lines after the region that read the loss. -/
theorem tail_loss (W : Valuation τ sig (Elt Ideal)) : StableHlo.after hostOps1 W (Proc.devRef .tc main_v60) = shapeCast S_ (cut9 (W (Proc.devRef .tc main_v15_0))) shapeCasts_S1_S_ := by
  dsimp only [hostOps1]
  after_reads_simp
  rfl

/-- The loss at the end of the program. -/
theorem last_loss : ended m c main_v60 = loss (m ((c : Thread nD τ).loc main_arg0)) := by
  rw [ended_eq, tail_loss]
  refine (congrArg (fun x => shapeCast S_ (cut9 x) shapeCasts_S1_S_) (end4 m c)).trans ?_
  rw [← loss_eq, V_0]
  exact congrArg (fun x => shapeCast S_ x shapeCasts_S1_S_) (cut9_grad (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg0)))

/-- The reference's loss. -/
theorem reference_loss (x : Vec Ideal S8x1 .f32) : Cert.ReferenceAdamSmallIdeal.Read.val_main_v225 (F := Ideal) x = loss x := by
  funext i
  rw [Cert.ReferenceAdamSmallIdeal.Read.val_main_v225_apply]
  exact Eq.trans (congrArg₂ (fun a b : EReal => a + b) Ideal.ofBits_zero_f32 rfl) (zero_add _)

/-- The reference's gradient of weight 1. -/
theorem reference_0_0 (x : Vec Ideal S8x1024 .f32) : Cert.ReferenceAdamSmallIdeal.Read.val_main_v0 (F := Ideal) x = total1024 x := by
  funext i
  rw [Cert.ReferenceAdamSmallIdeal.Read.val_main_v0_apply]
  refine Eq.trans (congrArg₂ (fun a b : EReal => a + b) Ideal.ofBits_zero_f32 ?_) (zero_add _)
  exact Finset.sum_congr rfl fun k _ => congrArg x (by funext a; fin_cases a <;> rfl)

/-- The reference's step of weight 1. -/
theorem reference_1_0 (x : Vec Ideal S8x1024 .f32) (w a b : Vec Ideal S1024 .f32) : Cert.ReferenceAdamSmallIdeal.Read.val_main_v24 (F := Ideal) x w a b = stepOf (total1024 x) w a b := by
  rw [← reference_0_0 x]
  rfl

/-- The reference's first moments of weight 1. -/
theorem reference_2_0 (x : Vec Ideal S8x1024 .f32) (a : Vec Ideal S1024 .f32) : Cert.ReferenceAdamSmallIdeal.Read.val_main_v5 (F := Ideal) x a = firstOf (total1024 x) a := by
  rw [← reference_0_0 x]
  rfl

/-- The reference's second moments of weight 1. -/
theorem reference_3_0 (x : Vec Ideal S8x1024 .f32) (b : Vec Ideal S1024 .f32) : Cert.ReferenceAdamSmallIdeal.Read.val_main_v11 (F := Ideal) x b = secondOf (total1024 x) b := by
  rw [← reference_0_0 x]
  rfl

/-- The reference's gradient of weight 2. -/
theorem reference_0_1 (x : Vec Ideal S8x384 .f32) : Cert.ReferenceAdamSmallIdeal.Read.val_main_v25 (F := Ideal) x = total384 x := by
  funext i
  rw [Cert.ReferenceAdamSmallIdeal.Read.val_main_v25_apply]
  refine Eq.trans (congrArg₂ (fun a b : EReal => a + b) Ideal.ofBits_zero_f32 ?_) (zero_add _)
  exact Finset.sum_congr rfl fun k _ => congrArg x (by funext a; fin_cases a <;> rfl)

/-- The reference's step of weight 2. -/
theorem reference_1_1 (x : Vec Ideal S8x384 .f32) (w a b : Vec Ideal S384 .f32) : Cert.ReferenceAdamSmallIdeal.Read.val_main_v49 (F := Ideal) x w a b = stepOf (total384 x) w a b := by
  rw [← reference_0_1 x]
  rfl

/-- The reference's first moments of weight 2. -/
theorem reference_2_1 (x : Vec Ideal S8x384 .f32) (a : Vec Ideal S384 .f32) : Cert.ReferenceAdamSmallIdeal.Read.val_main_v30 (F := Ideal) x a = firstOf (total384 x) a := by
  rw [← reference_0_1 x]
  rfl

/-- The reference's second moments of weight 2. -/
theorem reference_3_1 (x : Vec Ideal S8x384 .f32) (b : Vec Ideal S384 .f32) : Cert.ReferenceAdamSmallIdeal.Read.val_main_v36 (F := Ideal) x b = secondOf (total384 x) b := by
  rw [← reference_0_1 x]
  rfl

/-- The reference's gradient of weight 3. -/
theorem reference_0_2 (x : Vec Ideal S8x256 .f32) : Cert.ReferenceAdamSmallIdeal.Read.val_main_v50 (F := Ideal) x = total256 x := by
  funext i
  rw [Cert.ReferenceAdamSmallIdeal.Read.val_main_v50_apply]
  refine Eq.trans (congrArg₂ (fun a b : EReal => a + b) Ideal.ofBits_zero_f32 ?_) (zero_add _)
  exact Finset.sum_congr rfl fun k _ => congrArg x (by funext a; fin_cases a <;> rfl)

/-- The reference's step of weight 3. -/
theorem reference_1_2 (x : Vec Ideal S8x256 .f32) (w a b : Vec Ideal S256 .f32) : Cert.ReferenceAdamSmallIdeal.Read.val_main_v74 (F := Ideal) x w a b = stepOf (total256 x) w a b := by
  rw [← reference_0_2 x]
  rfl

/-- The reference's first moments of weight 3. -/
theorem reference_2_2 (x : Vec Ideal S8x256 .f32) (a : Vec Ideal S256 .f32) : Cert.ReferenceAdamSmallIdeal.Read.val_main_v55 (F := Ideal) x a = firstOf (total256 x) a := by
  rw [← reference_0_2 x]
  rfl

/-- The reference's second moments of weight 3. -/
theorem reference_3_2 (x : Vec Ideal S8x256 .f32) (b : Vec Ideal S256 .f32) : Cert.ReferenceAdamSmallIdeal.Read.val_main_v61 (F := Ideal) x b = secondOf (total256 x) b := by
  rw [← reference_0_2 x]
  rfl

/-- The reference's gradient of weight 4. -/
theorem reference_0_3 (x : Vec Ideal S8x512 .f32) : Cert.ReferenceAdamSmallIdeal.Read.val_main_v75 (F := Ideal) x = total512 x := by
  funext i
  rw [Cert.ReferenceAdamSmallIdeal.Read.val_main_v75_apply]
  refine Eq.trans (congrArg₂ (fun a b : EReal => a + b) Ideal.ofBits_zero_f32 ?_) (zero_add _)
  exact Finset.sum_congr rfl fun k _ => congrArg x (by funext a; fin_cases a <;> rfl)

/-- The reference's step of weight 4. -/
theorem reference_1_3 (x : Vec Ideal S8x512 .f32) (w a b : Vec Ideal S512 .f32) : Cert.ReferenceAdamSmallIdeal.Read.val_main_v99 (F := Ideal) x w a b = stepOf (total512 x) w a b := by
  rw [← reference_0_3 x]
  rfl

/-- The reference's first moments of weight 4. -/
theorem reference_2_3 (x : Vec Ideal S8x512 .f32) (a : Vec Ideal S512 .f32) : Cert.ReferenceAdamSmallIdeal.Read.val_main_v80 (F := Ideal) x a = firstOf (total512 x) a := by
  rw [← reference_0_3 x]
  rfl

/-- The reference's second moments of weight 4. -/
theorem reference_3_3 (x : Vec Ideal S8x512 .f32) (b : Vec Ideal S512 .f32) : Cert.ReferenceAdamSmallIdeal.Read.val_main_v86 (F := Ideal) x b = secondOf (total512 x) b := by
  rw [← reference_0_3 x]
  rfl

/-- The reference's gradient of weight 5. -/
theorem reference_0_4 (x : Vec Ideal S8x512 .f32) : Cert.ReferenceAdamSmallIdeal.Read.val_main_v100 (F := Ideal) x = total512 x := by
  funext i
  rw [Cert.ReferenceAdamSmallIdeal.Read.val_main_v100_apply]
  refine Eq.trans (congrArg₂ (fun a b : EReal => a + b) Ideal.ofBits_zero_f32 ?_) (zero_add _)
  exact Finset.sum_congr rfl fun k _ => congrArg x (by funext a; fin_cases a <;> rfl)

/-- The reference's step of weight 5. -/
theorem reference_1_4 (x : Vec Ideal S8x512 .f32) (w a b : Vec Ideal S512 .f32) : Cert.ReferenceAdamSmallIdeal.Read.val_main_v124 (F := Ideal) x w a b = stepOf (total512 x) w a b := by
  rw [← reference_0_4 x]
  rfl

/-- The reference's first moments of weight 5. -/
theorem reference_2_4 (x : Vec Ideal S8x512 .f32) (a : Vec Ideal S512 .f32) : Cert.ReferenceAdamSmallIdeal.Read.val_main_v105 (F := Ideal) x a = firstOf (total512 x) a := by
  rw [← reference_0_4 x]
  rfl

/-- The reference's second moments of weight 5. -/
theorem reference_3_4 (x : Vec Ideal S8x512 .f32) (b : Vec Ideal S512 .f32) : Cert.ReferenceAdamSmallIdeal.Read.val_main_v111 (F := Ideal) x b = secondOf (total512 x) b := by
  rw [← reference_0_4 x]
  rfl

/-- The reference's gradient of weight 6. -/
theorem reference_0_5 (x : Vec Ideal S8x1024 .f32) : Cert.ReferenceAdamSmallIdeal.Read.val_main_v125 (F := Ideal) x = total1024 x := by
  funext i
  rw [Cert.ReferenceAdamSmallIdeal.Read.val_main_v125_apply]
  refine Eq.trans (congrArg₂ (fun a b : EReal => a + b) Ideal.ofBits_zero_f32 ?_) (zero_add _)
  exact Finset.sum_congr rfl fun k _ => congrArg x (by funext a; fin_cases a <;> rfl)

/-- The reference's step of weight 6. -/
theorem reference_1_5 (x : Vec Ideal S8x1024 .f32) (w a b : Vec Ideal S1024 .f32) : Cert.ReferenceAdamSmallIdeal.Read.val_main_v149 (F := Ideal) x w a b = stepOf (total1024 x) w a b := by
  rw [← reference_0_5 x]
  rfl

/-- The reference's first moments of weight 6. -/
theorem reference_2_5 (x : Vec Ideal S8x1024 .f32) (a : Vec Ideal S1024 .f32) : Cert.ReferenceAdamSmallIdeal.Read.val_main_v130 (F := Ideal) x a = firstOf (total1024 x) a := by
  rw [← reference_0_5 x]
  rfl

/-- The reference's second moments of weight 6. -/
theorem reference_3_5 (x : Vec Ideal S8x1024 .f32) (b : Vec Ideal S1024 .f32) : Cert.ReferenceAdamSmallIdeal.Read.val_main_v136 (F := Ideal) x b = secondOf (total1024 x) b := by
  rw [← reference_0_5 x]
  rfl

/-- The reference's gradient of weight 7. -/
theorem reference_0_6 (x : Vec Ideal S8x1024 .f32) : Cert.ReferenceAdamSmallIdeal.Read.val_main_v150 (F := Ideal) x = total1024 x := by
  funext i
  rw [Cert.ReferenceAdamSmallIdeal.Read.val_main_v150_apply]
  refine Eq.trans (congrArg₂ (fun a b : EReal => a + b) Ideal.ofBits_zero_f32 ?_) (zero_add _)
  exact Finset.sum_congr rfl fun k _ => congrArg x (by funext a; fin_cases a <;> rfl)

/-- The reference's step of weight 7. -/
theorem reference_1_6 (x : Vec Ideal S8x1024 .f32) (w a b : Vec Ideal S1024 .f32) : Cert.ReferenceAdamSmallIdeal.Read.val_main_v174 (F := Ideal) x w a b = stepOf (total1024 x) w a b := by
  rw [← reference_0_6 x]
  rfl

/-- The reference's first moments of weight 7. -/
theorem reference_2_6 (x : Vec Ideal S8x1024 .f32) (a : Vec Ideal S1024 .f32) : Cert.ReferenceAdamSmallIdeal.Read.val_main_v155 (F := Ideal) x a = firstOf (total1024 x) a := by
  rw [← reference_0_6 x]
  rfl

/-- The reference's second moments of weight 7. -/
theorem reference_3_6 (x : Vec Ideal S8x1024 .f32) (b : Vec Ideal S1024 .f32) : Cert.ReferenceAdamSmallIdeal.Read.val_main_v161 (F := Ideal) x b = secondOf (total1024 x) b := by
  rw [← reference_0_6 x]
  rfl

/-- The reference's gradient of weight 8. -/
theorem reference_0_7 (x : Vec Ideal S8x5632 .f32) : Cert.ReferenceAdamSmallIdeal.Read.val_main_v175 (F := Ideal) x = total5632 x := by
  funext i
  rw [Cert.ReferenceAdamSmallIdeal.Read.val_main_v175_apply]
  refine Eq.trans (congrArg₂ (fun a b : EReal => a + b) Ideal.ofBits_zero_f32 ?_) (zero_add _)
  exact Finset.sum_congr rfl fun k _ => congrArg x (by funext a; fin_cases a <;> rfl)

/-- The reference's step of weight 8. -/
theorem reference_1_7 (x : Vec Ideal S8x5632 .f32) (w a b : Vec Ideal S5632 .f32) : Cert.ReferenceAdamSmallIdeal.Read.val_main_v199 (F := Ideal) x w a b = stepOf (total5632 x) w a b := by
  rw [← reference_0_7 x]
  rfl

/-- The reference's first moments of weight 8. -/
theorem reference_2_7 (x : Vec Ideal S8x5632 .f32) (a : Vec Ideal S5632 .f32) : Cert.ReferenceAdamSmallIdeal.Read.val_main_v180 (F := Ideal) x a = firstOf (total5632 x) a := by
  rw [← reference_0_7 x]
  rfl

/-- The reference's second moments of weight 8. -/
theorem reference_3_7 (x : Vec Ideal S8x5632 .f32) (b : Vec Ideal S5632 .f32) : Cert.ReferenceAdamSmallIdeal.Read.val_main_v186 (F := Ideal) x b = secondOf (total5632 x) b := by
  rw [← reference_0_7 x]
  rfl

/-- The reference's gradient of weight 9. -/
theorem reference_0_8 (x : Vec Ideal S8x1024 .f32) : Cert.ReferenceAdamSmallIdeal.Read.val_main_v200 (F := Ideal) x = total1024 x := by
  funext i
  rw [Cert.ReferenceAdamSmallIdeal.Read.val_main_v200_apply]
  refine Eq.trans (congrArg₂ (fun a b : EReal => a + b) Ideal.ofBits_zero_f32 ?_) (zero_add _)
  exact Finset.sum_congr rfl fun k _ => congrArg x (by funext a; fin_cases a <;> rfl)

/-- The reference's step of weight 9. -/
theorem reference_1_8 (x : Vec Ideal S8x1024 .f32) (w a b : Vec Ideal S1024 .f32) : Cert.ReferenceAdamSmallIdeal.Read.val_main_v224 (F := Ideal) x w a b = stepOf (total1024 x) w a b := by
  rw [← reference_0_8 x]
  rfl

/-- The reference's first moments of weight 9. -/
theorem reference_2_8 (x : Vec Ideal S8x1024 .f32) (a : Vec Ideal S1024 .f32) : Cert.ReferenceAdamSmallIdeal.Read.val_main_v205 (F := Ideal) x a = firstOf (total1024 x) a := by
  rw [← reference_0_8 x]
  rfl

/-- The reference's second moments of weight 9. -/
theorem reference_3_8 (x : Vec Ideal S8x1024 .f32) (b : Vec Ideal S1024 .f32) : Cert.ReferenceAdamSmallIdeal.Read.val_main_v211 (F := Ideal) x b = secondOf (total1024 x) b := by
  rw [← reference_0_8 x]
  rfl

/-- The reference program changes no argument and leaves no counter. -/
theorem frame_reference : Cert.quiescent_ReferenceAdamSmallIdeal := fun m ρ _ =>
  (θ_run Cert.ReferenceAdamSmallIdeal.defs _ _).mono
    (fun r h => ⟨fun c => (h c).2.2.2.2.2.2.2.2.2.2.2.2.2.2.2.2.2.2.2.2.2.2.2.2.2.2.2.2.2.2.2.2.2.2.2.2.2, Idealize.ShloMosaic.sem_eq_zero_of_no_sems (by decide) r.2⟩)
    (Cert.ReferenceAdamSmallIdeal.Value.run (F := Ideal) m ρ)

set_option maxHeartbeats 8000000 in
/-- The kernel's results and the reference's are the same. -/
theorem value : Cert.algebraic_KernelAdamSmallIdeal_ReferenceAdamSmallIdeal := by
  intro m g m' g' _ hm
  refine ⟨fun c => loss (m ((c : Thread nD τ).loc main_arg0)),
    fun c => total1024 (m ((c : Thread nD τ).loc main_arg1)),
    fun c => total384 (m ((c : Thread nD τ).loc main_arg2)),
    fun c => total256 (m ((c : Thread nD τ).loc main_arg3)),
    fun c => total512 (m ((c : Thread nD τ).loc main_arg4)),
    fun c => total512 (m ((c : Thread nD τ).loc main_arg5)),
    fun c => total1024 (m ((c : Thread nD τ).loc main_arg6)),
    fun c => total1024 (m ((c : Thread nD τ).loc main_arg7)),
    fun c => total5632 (m ((c : Thread nD τ).loc main_arg8)),
    fun c => total1024 (m ((c : Thread nD τ).loc main_arg9)),
    fun c => stepOf (total1024 (m ((c : Thread nD τ).loc main_arg1))) (m ((c : Thread nD τ).loc main_arg10)) (m ((c : Thread nD τ).loc main_arg19)) (m ((c : Thread nD τ).loc main_arg28)),
    fun c => stepOf (total384 (m ((c : Thread nD τ).loc main_arg2))) (m ((c : Thread nD τ).loc main_arg11)) (m ((c : Thread nD τ).loc main_arg20)) (m ((c : Thread nD τ).loc main_arg29)),
    fun c => stepOf (total256 (m ((c : Thread nD τ).loc main_arg3))) (m ((c : Thread nD τ).loc main_arg12)) (m ((c : Thread nD τ).loc main_arg21)) (m ((c : Thread nD τ).loc main_arg30)),
    fun c => stepOf (total512 (m ((c : Thread nD τ).loc main_arg4))) (m ((c : Thread nD τ).loc main_arg13)) (m ((c : Thread nD τ).loc main_arg22)) (m ((c : Thread nD τ).loc main_arg31)),
    fun c => stepOf (total512 (m ((c : Thread nD τ).loc main_arg5))) (m ((c : Thread nD τ).loc main_arg14)) (m ((c : Thread nD τ).loc main_arg23)) (m ((c : Thread nD τ).loc main_arg32)),
    fun c => stepOf (total1024 (m ((c : Thread nD τ).loc main_arg6))) (m ((c : Thread nD τ).loc main_arg15)) (m ((c : Thread nD τ).loc main_arg24)) (m ((c : Thread nD τ).loc main_arg33)),
    fun c => stepOf (total1024 (m ((c : Thread nD τ).loc main_arg7))) (m ((c : Thread nD τ).loc main_arg16)) (m ((c : Thread nD τ).loc main_arg25)) (m ((c : Thread nD τ).loc main_arg34)),
    fun c => stepOf (total5632 (m ((c : Thread nD τ).loc main_arg8))) (m ((c : Thread nD τ).loc main_arg17)) (m ((c : Thread nD τ).loc main_arg26)) (m ((c : Thread nD τ).loc main_arg35)),
    fun c => stepOf (total1024 (m ((c : Thread nD τ).loc main_arg9))) (m ((c : Thread nD τ).loc main_arg18)) (m ((c : Thread nD τ).loc main_arg27)) (m ((c : Thread nD τ).loc main_arg36)),
    fun c => firstOf (total1024 (m ((c : Thread nD τ).loc main_arg1))) (m ((c : Thread nD τ).loc main_arg19)),
    fun c => firstOf (total384 (m ((c : Thread nD τ).loc main_arg2))) (m ((c : Thread nD τ).loc main_arg20)),
    fun c => firstOf (total256 (m ((c : Thread nD τ).loc main_arg3))) (m ((c : Thread nD τ).loc main_arg21)),
    fun c => firstOf (total512 (m ((c : Thread nD τ).loc main_arg4))) (m ((c : Thread nD τ).loc main_arg22)),
    fun c => firstOf (total512 (m ((c : Thread nD τ).loc main_arg5))) (m ((c : Thread nD τ).loc main_arg23)),
    fun c => firstOf (total1024 (m ((c : Thread nD τ).loc main_arg6))) (m ((c : Thread nD τ).loc main_arg24)),
    fun c => firstOf (total1024 (m ((c : Thread nD τ).loc main_arg7))) (m ((c : Thread nD τ).loc main_arg25)),
    fun c => firstOf (total5632 (m ((c : Thread nD τ).loc main_arg8))) (m ((c : Thread nD τ).loc main_arg26)),
    fun c => firstOf (total1024 (m ((c : Thread nD τ).loc main_arg9))) (m ((c : Thread nD τ).loc main_arg27)),
    fun c => secondOf (total1024 (m ((c : Thread nD τ).loc main_arg1))) (m ((c : Thread nD τ).loc main_arg28)),
    fun c => secondOf (total384 (m ((c : Thread nD τ).loc main_arg2))) (m ((c : Thread nD τ).loc main_arg29)),
    fun c => secondOf (total256 (m ((c : Thread nD τ).loc main_arg3))) (m ((c : Thread nD τ).loc main_arg30)),
    fun c => secondOf (total512 (m ((c : Thread nD τ).loc main_arg4))) (m ((c : Thread nD τ).loc main_arg31)),
    fun c => secondOf (total512 (m ((c : Thread nD τ).loc main_arg5))) (m ((c : Thread nD τ).loc main_arg32)),
    fun c => secondOf (total1024 (m ((c : Thread nD τ).loc main_arg6))) (m ((c : Thread nD τ).loc main_arg33)),
    fun c => secondOf (total1024 (m ((c : Thread nD τ).loc main_arg7))) (m ((c : Thread nD τ).loc main_arg34)),
    fun c => secondOf (total5632 (m ((c : Thread nD τ).loc main_arg8))) (m ((c : Thread nD τ).loc main_arg35)),
    fun c => secondOf (total1024 (m ((c : Thread nD τ).loc main_arg9))) (m ((c : Thread nD τ).loc main_arg36)), ?_, ?_⟩
  · refine (θ_run defs _ _).mono (fun r h c => ?_) (θ_run_and (run_main m g) (unchanged m g))
    exact ⟨((h.1 c).2 main_v60 (Pipeline.mem_restRefs_of main_v60 (by decide) (by decide))).trans (last_loss m c),
      ((h.1 c).2 main_v17 (Pipeline.mem_restRefs_of main_v17 (by decide) (by decide))).trans (last_0_0 m c),
      ((h.1 c).2 main_v18 (Pipeline.mem_restRefs_of main_v18 (by decide) (by decide))).trans (last_0_1 m c),
      ((h.1 c).2 main_v19 (Pipeline.mem_restRefs_of main_v19 (by decide) (by decide))).trans (last_0_2 m c),
      ((h.1 c).2 main_v20 (Pipeline.mem_restRefs_of main_v20 (by decide) (by decide))).trans (last_0_3 m c),
      ((h.1 c).2 main_v21 (Pipeline.mem_restRefs_of main_v21 (by decide) (by decide))).trans (last_0_4 m c),
      ((h.1 c).2 main_v22 (Pipeline.mem_restRefs_of main_v22 (by decide) (by decide))).trans (last_0_5 m c),
      ((h.1 c).2 main_v23 (Pipeline.mem_restRefs_of main_v23 (by decide) (by decide))).trans (last_0_6 m c),
      ((h.1 c).2 main_v24 (Pipeline.mem_restRefs_of main_v24 (by decide) (by decide))).trans (last_0_7 m c),
      ((h.1 c).2 main_v25 (Pipeline.mem_restRefs_of main_v25 (by decide) (by decide))).trans (last_0_8 m c),
      ((h.1 c).2 main_v28 (Pipeline.mem_restRefs_of main_v28 (by decide) (by decide))).trans (last_1_0 m c),
      ((h.1 c).2 main_v29 (Pipeline.mem_restRefs_of main_v29 (by decide) (by decide))).trans (last_1_1 m c),
      ((h.1 c).2 main_v30 (Pipeline.mem_restRefs_of main_v30 (by decide) (by decide))).trans (last_1_2 m c),
      ((h.1 c).2 main_v31 (Pipeline.mem_restRefs_of main_v31 (by decide) (by decide))).trans (last_1_3 m c),
      ((h.1 c).2 main_v32 (Pipeline.mem_restRefs_of main_v32 (by decide) (by decide))).trans (last_1_4 m c),
      ((h.1 c).2 main_v33 (Pipeline.mem_restRefs_of main_v33 (by decide) (by decide))).trans (last_1_5 m c),
      ((h.1 c).2 main_v34 (Pipeline.mem_restRefs_of main_v34 (by decide) (by decide))).trans (last_1_6 m c),
      ((h.1 c).2 main_v35 (Pipeline.mem_restRefs_of main_v35 (by decide) (by decide))).trans (last_1_7 m c),
      ((h.1 c).2 main_v36 (Pipeline.mem_restRefs_of main_v36 (by decide) (by decide))).trans (last_1_8 m c),
      ((h.1 c).2 main_v39 (Pipeline.mem_restRefs_of main_v39 (by decide) (by decide))).trans (last_2_0 m c),
      ((h.1 c).2 main_v40 (Pipeline.mem_restRefs_of main_v40 (by decide) (by decide))).trans (last_2_1 m c),
      ((h.1 c).2 main_v41 (Pipeline.mem_restRefs_of main_v41 (by decide) (by decide))).trans (last_2_2 m c),
      ((h.1 c).2 main_v42 (Pipeline.mem_restRefs_of main_v42 (by decide) (by decide))).trans (last_2_3 m c),
      ((h.1 c).2 main_v43 (Pipeline.mem_restRefs_of main_v43 (by decide) (by decide))).trans (last_2_4 m c),
      ((h.1 c).2 main_v44 (Pipeline.mem_restRefs_of main_v44 (by decide) (by decide))).trans (last_2_5 m c),
      ((h.1 c).2 main_v45 (Pipeline.mem_restRefs_of main_v45 (by decide) (by decide))).trans (last_2_6 m c),
      ((h.1 c).2 main_v46 (Pipeline.mem_restRefs_of main_v46 (by decide) (by decide))).trans (last_2_7 m c),
      ((h.1 c).2 main_v47 (Pipeline.mem_restRefs_of main_v47 (by decide) (by decide))).trans (last_2_8 m c),
      ((h.1 c).2 main_v50 (Pipeline.mem_restRefs_of main_v50 (by decide) (by decide))).trans (last_3_0 m c),
      ((h.1 c).2 main_v51 (Pipeline.mem_restRefs_of main_v51 (by decide) (by decide))).trans (last_3_1 m c),
      ((h.1 c).2 main_v52 (Pipeline.mem_restRefs_of main_v52 (by decide) (by decide))).trans (last_3_2 m c),
      ((h.1 c).2 main_v53 (Pipeline.mem_restRefs_of main_v53 (by decide) (by decide))).trans (last_3_3 m c),
      ((h.1 c).2 main_v54 (Pipeline.mem_restRefs_of main_v54 (by decide) (by decide))).trans (last_3_4 m c),
      ((h.1 c).2 main_v55 (Pipeline.mem_restRefs_of main_v55 (by decide) (by decide))).trans (last_3_5 m c),
      ((h.1 c).2 main_v56 (Pipeline.mem_restRefs_of main_v56 (by decide) (by decide))).trans (last_3_6 m c),
      ((h.1 c).2 main_v57 (Pipeline.mem_restRefs_of main_v57 (by decide) (by decide))).trans (last_3_7 m c),
      ((h.1 c).2 main_v58 (Pipeline.mem_restRefs_of main_v58 (by decide) (by decide))).trans (last_3_8 m c), h.2 c⟩
  · refine (θ_run Cert.ReferenceAdamSmallIdeal.defs _ _).mono (fun r h c => ?_) (Cert.ReferenceAdamSmallIdeal.Value.run (F := Ideal) m' g')
    obtain ⟨h0, h1, h2, h3, h4, h5, h6, h7, h8, h9, h10, h11, h12, h13, h14, h15, h16, h17, h18, h19, h20, h21, h22, h23, h24, h25, h26, h27, h28, h29, h30, h31, h32, h33, h34, h35, h36, h⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36⟩ := hm c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h28.trans ?_, h29.trans ?_, h30.trans ?_, h31.trans ?_, h32.trans ?_, h33.trans ?_, h34.trans ?_, h35.trans ?_, h36.trans ?_, h⟩
    · exact (reference_loss (m' ((c.tc : Thread Cert.ReferenceAdamSmallIdeal.nD Cert.ReferenceAdamSmallIdeal.τ).loc Cert.ReferenceAdamSmallIdeal.main_arg0))).trans (by rw [e0])
    · exact (reference_0_0 (m' ((c.tc : Thread Cert.ReferenceAdamSmallIdeal.nD Cert.ReferenceAdamSmallIdeal.τ).loc Cert.ReferenceAdamSmallIdeal.main_arg1))).trans (by rw [e1])
    · exact (reference_0_1 (m' ((c.tc : Thread Cert.ReferenceAdamSmallIdeal.nD Cert.ReferenceAdamSmallIdeal.τ).loc Cert.ReferenceAdamSmallIdeal.main_arg2))).trans (by rw [e2])
    · exact (reference_0_2 (m' ((c.tc : Thread Cert.ReferenceAdamSmallIdeal.nD Cert.ReferenceAdamSmallIdeal.τ).loc Cert.ReferenceAdamSmallIdeal.main_arg3))).trans (by rw [e3])
    · exact (reference_0_3 (m' ((c.tc : Thread Cert.ReferenceAdamSmallIdeal.nD Cert.ReferenceAdamSmallIdeal.τ).loc Cert.ReferenceAdamSmallIdeal.main_arg4))).trans (by rw [e4])
    · exact (reference_0_4 (m' ((c.tc : Thread Cert.ReferenceAdamSmallIdeal.nD Cert.ReferenceAdamSmallIdeal.τ).loc Cert.ReferenceAdamSmallIdeal.main_arg5))).trans (by rw [e5])
    · exact (reference_0_5 (m' ((c.tc : Thread Cert.ReferenceAdamSmallIdeal.nD Cert.ReferenceAdamSmallIdeal.τ).loc Cert.ReferenceAdamSmallIdeal.main_arg6))).trans (by rw [e6])
    · exact (reference_0_6 (m' ((c.tc : Thread Cert.ReferenceAdamSmallIdeal.nD Cert.ReferenceAdamSmallIdeal.τ).loc Cert.ReferenceAdamSmallIdeal.main_arg7))).trans (by rw [e7])
    · exact (reference_0_7 (m' ((c.tc : Thread Cert.ReferenceAdamSmallIdeal.nD Cert.ReferenceAdamSmallIdeal.τ).loc Cert.ReferenceAdamSmallIdeal.main_arg8))).trans (by rw [e8])
    · exact (reference_0_8 (m' ((c.tc : Thread Cert.ReferenceAdamSmallIdeal.nD Cert.ReferenceAdamSmallIdeal.τ).loc Cert.ReferenceAdamSmallIdeal.main_arg9))).trans (by rw [e9])
    · exact (reference_1_0 (m' ((c.tc : Thread Cert.ReferenceAdamSmallIdeal.nD Cert.ReferenceAdamSmallIdeal.τ).loc Cert.ReferenceAdamSmallIdeal.main_arg1)) (m' ((c.tc : Thread Cert.ReferenceAdamSmallIdeal.nD Cert.ReferenceAdamSmallIdeal.τ).loc Cert.ReferenceAdamSmallIdeal.main_arg10)) (m' ((c.tc : Thread Cert.ReferenceAdamSmallIdeal.nD Cert.ReferenceAdamSmallIdeal.τ).loc Cert.ReferenceAdamSmallIdeal.main_arg19)) (m' ((c.tc : Thread Cert.ReferenceAdamSmallIdeal.nD Cert.ReferenceAdamSmallIdeal.τ).loc Cert.ReferenceAdamSmallIdeal.main_arg28))).trans (by rw [e1, e10, e19, e28])
    · exact (reference_1_1 (m' ((c.tc : Thread Cert.ReferenceAdamSmallIdeal.nD Cert.ReferenceAdamSmallIdeal.τ).loc Cert.ReferenceAdamSmallIdeal.main_arg2)) (m' ((c.tc : Thread Cert.ReferenceAdamSmallIdeal.nD Cert.ReferenceAdamSmallIdeal.τ).loc Cert.ReferenceAdamSmallIdeal.main_arg11)) (m' ((c.tc : Thread Cert.ReferenceAdamSmallIdeal.nD Cert.ReferenceAdamSmallIdeal.τ).loc Cert.ReferenceAdamSmallIdeal.main_arg20)) (m' ((c.tc : Thread Cert.ReferenceAdamSmallIdeal.nD Cert.ReferenceAdamSmallIdeal.τ).loc Cert.ReferenceAdamSmallIdeal.main_arg29))).trans (by rw [e2, e11, e20, e29])
    · exact (reference_1_2 (m' ((c.tc : Thread Cert.ReferenceAdamSmallIdeal.nD Cert.ReferenceAdamSmallIdeal.τ).loc Cert.ReferenceAdamSmallIdeal.main_arg3)) (m' ((c.tc : Thread Cert.ReferenceAdamSmallIdeal.nD Cert.ReferenceAdamSmallIdeal.τ).loc Cert.ReferenceAdamSmallIdeal.main_arg12)) (m' ((c.tc : Thread Cert.ReferenceAdamSmallIdeal.nD Cert.ReferenceAdamSmallIdeal.τ).loc Cert.ReferenceAdamSmallIdeal.main_arg21)) (m' ((c.tc : Thread Cert.ReferenceAdamSmallIdeal.nD Cert.ReferenceAdamSmallIdeal.τ).loc Cert.ReferenceAdamSmallIdeal.main_arg30))).trans (by rw [e3, e12, e21, e30])
    · exact (reference_1_3 (m' ((c.tc : Thread Cert.ReferenceAdamSmallIdeal.nD Cert.ReferenceAdamSmallIdeal.τ).loc Cert.ReferenceAdamSmallIdeal.main_arg4)) (m' ((c.tc : Thread Cert.ReferenceAdamSmallIdeal.nD Cert.ReferenceAdamSmallIdeal.τ).loc Cert.ReferenceAdamSmallIdeal.main_arg13)) (m' ((c.tc : Thread Cert.ReferenceAdamSmallIdeal.nD Cert.ReferenceAdamSmallIdeal.τ).loc Cert.ReferenceAdamSmallIdeal.main_arg22)) (m' ((c.tc : Thread Cert.ReferenceAdamSmallIdeal.nD Cert.ReferenceAdamSmallIdeal.τ).loc Cert.ReferenceAdamSmallIdeal.main_arg31))).trans (by rw [e4, e13, e22, e31])
    · exact (reference_1_4 (m' ((c.tc : Thread Cert.ReferenceAdamSmallIdeal.nD Cert.ReferenceAdamSmallIdeal.τ).loc Cert.ReferenceAdamSmallIdeal.main_arg5)) (m' ((c.tc : Thread Cert.ReferenceAdamSmallIdeal.nD Cert.ReferenceAdamSmallIdeal.τ).loc Cert.ReferenceAdamSmallIdeal.main_arg14)) (m' ((c.tc : Thread Cert.ReferenceAdamSmallIdeal.nD Cert.ReferenceAdamSmallIdeal.τ).loc Cert.ReferenceAdamSmallIdeal.main_arg23)) (m' ((c.tc : Thread Cert.ReferenceAdamSmallIdeal.nD Cert.ReferenceAdamSmallIdeal.τ).loc Cert.ReferenceAdamSmallIdeal.main_arg32))).trans (by rw [e5, e14, e23, e32])
    · exact (reference_1_5 (m' ((c.tc : Thread Cert.ReferenceAdamSmallIdeal.nD Cert.ReferenceAdamSmallIdeal.τ).loc Cert.ReferenceAdamSmallIdeal.main_arg6)) (m' ((c.tc : Thread Cert.ReferenceAdamSmallIdeal.nD Cert.ReferenceAdamSmallIdeal.τ).loc Cert.ReferenceAdamSmallIdeal.main_arg15)) (m' ((c.tc : Thread Cert.ReferenceAdamSmallIdeal.nD Cert.ReferenceAdamSmallIdeal.τ).loc Cert.ReferenceAdamSmallIdeal.main_arg24)) (m' ((c.tc : Thread Cert.ReferenceAdamSmallIdeal.nD Cert.ReferenceAdamSmallIdeal.τ).loc Cert.ReferenceAdamSmallIdeal.main_arg33))).trans (by rw [e6, e15, e24, e33])
    · exact (reference_1_6 (m' ((c.tc : Thread Cert.ReferenceAdamSmallIdeal.nD Cert.ReferenceAdamSmallIdeal.τ).loc Cert.ReferenceAdamSmallIdeal.main_arg7)) (m' ((c.tc : Thread Cert.ReferenceAdamSmallIdeal.nD Cert.ReferenceAdamSmallIdeal.τ).loc Cert.ReferenceAdamSmallIdeal.main_arg16)) (m' ((c.tc : Thread Cert.ReferenceAdamSmallIdeal.nD Cert.ReferenceAdamSmallIdeal.τ).loc Cert.ReferenceAdamSmallIdeal.main_arg25)) (m' ((c.tc : Thread Cert.ReferenceAdamSmallIdeal.nD Cert.ReferenceAdamSmallIdeal.τ).loc Cert.ReferenceAdamSmallIdeal.main_arg34))).trans (by rw [e7, e16, e25, e34])
    · exact (reference_1_7 (m' ((c.tc : Thread Cert.ReferenceAdamSmallIdeal.nD Cert.ReferenceAdamSmallIdeal.τ).loc Cert.ReferenceAdamSmallIdeal.main_arg8)) (m' ((c.tc : Thread Cert.ReferenceAdamSmallIdeal.nD Cert.ReferenceAdamSmallIdeal.τ).loc Cert.ReferenceAdamSmallIdeal.main_arg17)) (m' ((c.tc : Thread Cert.ReferenceAdamSmallIdeal.nD Cert.ReferenceAdamSmallIdeal.τ).loc Cert.ReferenceAdamSmallIdeal.main_arg26)) (m' ((c.tc : Thread Cert.ReferenceAdamSmallIdeal.nD Cert.ReferenceAdamSmallIdeal.τ).loc Cert.ReferenceAdamSmallIdeal.main_arg35))).trans (by rw [e8, e17, e26, e35])
    · exact (reference_1_8 (m' ((c.tc : Thread Cert.ReferenceAdamSmallIdeal.nD Cert.ReferenceAdamSmallIdeal.τ).loc Cert.ReferenceAdamSmallIdeal.main_arg9)) (m' ((c.tc : Thread Cert.ReferenceAdamSmallIdeal.nD Cert.ReferenceAdamSmallIdeal.τ).loc Cert.ReferenceAdamSmallIdeal.main_arg18)) (m' ((c.tc : Thread Cert.ReferenceAdamSmallIdeal.nD Cert.ReferenceAdamSmallIdeal.τ).loc Cert.ReferenceAdamSmallIdeal.main_arg27)) (m' ((c.tc : Thread Cert.ReferenceAdamSmallIdeal.nD Cert.ReferenceAdamSmallIdeal.τ).loc Cert.ReferenceAdamSmallIdeal.main_arg36))).trans (by rw [e9, e18, e27, e36])
    · exact (reference_2_0 (m' ((c.tc : Thread Cert.ReferenceAdamSmallIdeal.nD Cert.ReferenceAdamSmallIdeal.τ).loc Cert.ReferenceAdamSmallIdeal.main_arg1)) (m' ((c.tc : Thread Cert.ReferenceAdamSmallIdeal.nD Cert.ReferenceAdamSmallIdeal.τ).loc Cert.ReferenceAdamSmallIdeal.main_arg19))).trans (by rw [e1, e19])
    · exact (reference_2_1 (m' ((c.tc : Thread Cert.ReferenceAdamSmallIdeal.nD Cert.ReferenceAdamSmallIdeal.τ).loc Cert.ReferenceAdamSmallIdeal.main_arg2)) (m' ((c.tc : Thread Cert.ReferenceAdamSmallIdeal.nD Cert.ReferenceAdamSmallIdeal.τ).loc Cert.ReferenceAdamSmallIdeal.main_arg20))).trans (by rw [e2, e20])
    · exact (reference_2_2 (m' ((c.tc : Thread Cert.ReferenceAdamSmallIdeal.nD Cert.ReferenceAdamSmallIdeal.τ).loc Cert.ReferenceAdamSmallIdeal.main_arg3)) (m' ((c.tc : Thread Cert.ReferenceAdamSmallIdeal.nD Cert.ReferenceAdamSmallIdeal.τ).loc Cert.ReferenceAdamSmallIdeal.main_arg21))).trans (by rw [e3, e21])
    · exact (reference_2_3 (m' ((c.tc : Thread Cert.ReferenceAdamSmallIdeal.nD Cert.ReferenceAdamSmallIdeal.τ).loc Cert.ReferenceAdamSmallIdeal.main_arg4)) (m' ((c.tc : Thread Cert.ReferenceAdamSmallIdeal.nD Cert.ReferenceAdamSmallIdeal.τ).loc Cert.ReferenceAdamSmallIdeal.main_arg22))).trans (by rw [e4, e22])
    · exact (reference_2_4 (m' ((c.tc : Thread Cert.ReferenceAdamSmallIdeal.nD Cert.ReferenceAdamSmallIdeal.τ).loc Cert.ReferenceAdamSmallIdeal.main_arg5)) (m' ((c.tc : Thread Cert.ReferenceAdamSmallIdeal.nD Cert.ReferenceAdamSmallIdeal.τ).loc Cert.ReferenceAdamSmallIdeal.main_arg23))).trans (by rw [e5, e23])
    · exact (reference_2_5 (m' ((c.tc : Thread Cert.ReferenceAdamSmallIdeal.nD Cert.ReferenceAdamSmallIdeal.τ).loc Cert.ReferenceAdamSmallIdeal.main_arg6)) (m' ((c.tc : Thread Cert.ReferenceAdamSmallIdeal.nD Cert.ReferenceAdamSmallIdeal.τ).loc Cert.ReferenceAdamSmallIdeal.main_arg24))).trans (by rw [e6, e24])
    · exact (reference_2_6 (m' ((c.tc : Thread Cert.ReferenceAdamSmallIdeal.nD Cert.ReferenceAdamSmallIdeal.τ).loc Cert.ReferenceAdamSmallIdeal.main_arg7)) (m' ((c.tc : Thread Cert.ReferenceAdamSmallIdeal.nD Cert.ReferenceAdamSmallIdeal.τ).loc Cert.ReferenceAdamSmallIdeal.main_arg25))).trans (by rw [e7, e25])
    · exact (reference_2_7 (m' ((c.tc : Thread Cert.ReferenceAdamSmallIdeal.nD Cert.ReferenceAdamSmallIdeal.τ).loc Cert.ReferenceAdamSmallIdeal.main_arg8)) (m' ((c.tc : Thread Cert.ReferenceAdamSmallIdeal.nD Cert.ReferenceAdamSmallIdeal.τ).loc Cert.ReferenceAdamSmallIdeal.main_arg26))).trans (by rw [e8, e26])
    · exact (reference_2_8 (m' ((c.tc : Thread Cert.ReferenceAdamSmallIdeal.nD Cert.ReferenceAdamSmallIdeal.τ).loc Cert.ReferenceAdamSmallIdeal.main_arg9)) (m' ((c.tc : Thread Cert.ReferenceAdamSmallIdeal.nD Cert.ReferenceAdamSmallIdeal.τ).loc Cert.ReferenceAdamSmallIdeal.main_arg27))).trans (by rw [e9, e27])
    · exact (reference_3_0 (m' ((c.tc : Thread Cert.ReferenceAdamSmallIdeal.nD Cert.ReferenceAdamSmallIdeal.τ).loc Cert.ReferenceAdamSmallIdeal.main_arg1)) (m' ((c.tc : Thread Cert.ReferenceAdamSmallIdeal.nD Cert.ReferenceAdamSmallIdeal.τ).loc Cert.ReferenceAdamSmallIdeal.main_arg28))).trans (by rw [e1, e28])
    · exact (reference_3_1 (m' ((c.tc : Thread Cert.ReferenceAdamSmallIdeal.nD Cert.ReferenceAdamSmallIdeal.τ).loc Cert.ReferenceAdamSmallIdeal.main_arg2)) (m' ((c.tc : Thread Cert.ReferenceAdamSmallIdeal.nD Cert.ReferenceAdamSmallIdeal.τ).loc Cert.ReferenceAdamSmallIdeal.main_arg29))).trans (by rw [e2, e29])
    · exact (reference_3_2 (m' ((c.tc : Thread Cert.ReferenceAdamSmallIdeal.nD Cert.ReferenceAdamSmallIdeal.τ).loc Cert.ReferenceAdamSmallIdeal.main_arg3)) (m' ((c.tc : Thread Cert.ReferenceAdamSmallIdeal.nD Cert.ReferenceAdamSmallIdeal.τ).loc Cert.ReferenceAdamSmallIdeal.main_arg30))).trans (by rw [e3, e30])
    · exact (reference_3_3 (m' ((c.tc : Thread Cert.ReferenceAdamSmallIdeal.nD Cert.ReferenceAdamSmallIdeal.τ).loc Cert.ReferenceAdamSmallIdeal.main_arg4)) (m' ((c.tc : Thread Cert.ReferenceAdamSmallIdeal.nD Cert.ReferenceAdamSmallIdeal.τ).loc Cert.ReferenceAdamSmallIdeal.main_arg31))).trans (by rw [e4, e31])
    · exact (reference_3_4 (m' ((c.tc : Thread Cert.ReferenceAdamSmallIdeal.nD Cert.ReferenceAdamSmallIdeal.τ).loc Cert.ReferenceAdamSmallIdeal.main_arg5)) (m' ((c.tc : Thread Cert.ReferenceAdamSmallIdeal.nD Cert.ReferenceAdamSmallIdeal.τ).loc Cert.ReferenceAdamSmallIdeal.main_arg32))).trans (by rw [e5, e32])
    · exact (reference_3_5 (m' ((c.tc : Thread Cert.ReferenceAdamSmallIdeal.nD Cert.ReferenceAdamSmallIdeal.τ).loc Cert.ReferenceAdamSmallIdeal.main_arg6)) (m' ((c.tc : Thread Cert.ReferenceAdamSmallIdeal.nD Cert.ReferenceAdamSmallIdeal.τ).loc Cert.ReferenceAdamSmallIdeal.main_arg33))).trans (by rw [e6, e33])
    · exact (reference_3_6 (m' ((c.tc : Thread Cert.ReferenceAdamSmallIdeal.nD Cert.ReferenceAdamSmallIdeal.τ).loc Cert.ReferenceAdamSmallIdeal.main_arg7)) (m' ((c.tc : Thread Cert.ReferenceAdamSmallIdeal.nD Cert.ReferenceAdamSmallIdeal.τ).loc Cert.ReferenceAdamSmallIdeal.main_arg34))).trans (by rw [e7, e34])
    · exact (reference_3_7 (m' ((c.tc : Thread Cert.ReferenceAdamSmallIdeal.nD Cert.ReferenceAdamSmallIdeal.τ).loc Cert.ReferenceAdamSmallIdeal.main_arg8)) (m' ((c.tc : Thread Cert.ReferenceAdamSmallIdeal.nD Cert.ReferenceAdamSmallIdeal.τ).loc Cert.ReferenceAdamSmallIdeal.main_arg35))).trans (by rw [e8, e35])
    · exact (reference_3_8 (m' ((c.tc : Thread Cert.ReferenceAdamSmallIdeal.nD Cert.ReferenceAdamSmallIdeal.τ).loc Cert.ReferenceAdamSmallIdeal.main_arg9)) (m' ((c.tc : Thread Cert.ReferenceAdamSmallIdeal.nD Cert.ReferenceAdamSmallIdeal.τ).loc Cert.ReferenceAdamSmallIdeal.main_arg36))).trans (by rw [e9, e36])

end Cert.Proof.AdamSmall
-- ==== Proof.Mix.lean ====
/- The mixing call of the forward pass: two normalised halves, their product with a weight, and the residual sum. -/
module

public import proofs.«01_k».proof.Defs
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.ReferenceMixIdeal
public import proofs.«01_k».proof.Proof.Gen.ReferenceMixIdeal.Run
public import proofs.«01_k».proof.Proof.Gen.ReferenceMixIdeal.Read
public import Idealize.ShloMosaic.Lib.Pipeline.ValueKit
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Quiescent

@[expose] public section

set_option maxRecDepth 16384

noncomputable section

namespace Cert.Proof.Mix

open Cert.KernelMixIdeal Cert.KernelMixIdeal.Gen Idealize.ShloMosaic Idealize.ShloMosaic.TcCoe Idealize.SL.Sem

/-- An entry of a row, divided by the row's root mean square and scaled. -/
def nrm {k : ℕ} (n : BitVec 32) (s g : Fin k → EReal) (j : Fin k) : EReal :=
  s j * Ideal.rsqrt (Ideal.div (∑ i, s i * s i) (Ideal.ofBits .f32 n) + Ideal.ofBits .f32 0x358637BD#32) * g j

/-- Two rows normalised one by one, side by side. -/
def mix (a b u v : Fin 512 → EReal) (n : Fin 1024) : EReal :=
  if h : n.val < 512 then nrm 0x44000000#32 a u ⟨n.val, h⟩ else nrm 0x44000000#32 b v ⟨n.val - 512, by omega⟩

/-- A row's product with a weight. -/
def prod (y : Fin 1024 → EReal) (w : Vec Ideal S1024x1024 .f32) (n : Fin 1024) : EReal := ∑ k : Fin 1024, y k * w (ix2 k n)

/-- The sum of a row and another, normalised. -/
def res (y g x : Fin 1024 → EReal) (n : Fin 1024) : EReal := x n + nrm 0x44800000#32 y g n

/-- A block's normalised halves. -/
theorem pay2_at (x0 x1 : Vec Ideal S512x512 .f32) (x2 x3 : Vec Ideal S1x512 .f32) (r : Fin 512) (n : Fin 1024) :
    k0_pay2 x0 x1 x2 x3 (ix2 r n) = mix (fun j => x0 (ix2 r j)) (fun j => x1 (ix2 r j)) (fun j => x2 (ix2 0 j)) (fun j => x3 (ix2 0 j)) n := by
  unfold k0_pay2 mix nrm
  pointwise

/-- A block's product. -/
theorem pay3_at (x0 x1 : Vec Ideal S512x512 .f32) (x2 x3 : Vec Ideal S1x512 .f32) (w : Vec Ideal S1024x1024 .bf16) (r : Fin 512) (n : Fin 1024) :
    k0_pay3 x0 x1 x2 x3 w (ix2 r n) = prod (mix (fun j => x0 (ix2 r j)) (fun j => x1 (ix2 r j)) (fun j => x2 (ix2 0 j)) (fun j => x3 (ix2 0 j))) w n := by
  unfold prod
  simp only [← pay2_at]
  unfold k0_pay3
  generalize k0_pay2 x0 x1 x2 x3 = y
  pointwise

/-- A block's residual sum. -/
theorem pay1_at (y x : Vec Ideal S512x1024 .f32) (g : Vec Ideal S1x1024 .f32) (r : Fin 512) (n : Fin 1024) :
    k0_pay1 y x g (ix2 r n) = res (fun j => y (ix2 r j)) (fun j => g (ix2 0 j)) (fun j => x (ix2 r j)) n := by
  unfold k0_pay1 res nrm
  pointwise

section Arrays

variable (x0 x1 : Vec Ideal S8192x512 .f32) (x2 x3 : Vec Ideal S1x512 .f32) (x4 : Vec Ideal S1024x1024 .f32) (x5 : Vec Ideal S1x1024 .f32) (x6 : Vec Ideal S8192x1024 .f32)

/-- The normalised halves of every row. -/
def yn : Vec Ideal S8192x1024 .f32 := fun i => mix (fun j => x0 (ix2 (i 0) j)) (fun j => x1 (ix2 (i 0) j)) (fun j => x2 (ix2 0 j)) (fun j => x3 (ix2 0 j)) (i 1)
/-- Their product with the weight. -/
def y2 : Vec Ideal S8192x1024 .f32 := fun i => prod (fun j => yn x0 x1 x2 x3 (ix2 (i 0) j)) x4 (i 1)
/-- The residual sum. -/
def xn : Vec Ideal S8192x1024 .f32 := fun i => res (fun j => y2 x0 x1 x2 x3 x4 (ix2 (i 0) j)) (fun j => x5 (ix2 0 j)) (fun j => x6 (ix2 (i 0) j)) (i 1)

/-- The reference's normalised halves. -/
theorem ref_yn : Cert.ReferenceMixIdeal.Read.val_main_v28 (F := Ideal) x0 x1 x2 x3 = yn x0 x1 x2 x3 := by
  funext i
  obtain ⟨q, n, rfl⟩ : ∃ q n, i = ix2 q n := ⟨i 0, i 1, eq_ix2 i⟩
  show _ = mix (fun j => x0 (ix2 q j)) (fun j => x1 (ix2 q j)) (fun j => x2 (ix2 0 j)) (fun j => x3 (ix2 0 j)) n
  unfold mix nrm
  open Cert.ReferenceMixIdeal.Read in
  pointwise [val_main_v28, val_main_v27, val_main_v26, val_main_v25, val_main_v24, val_main_v23, val_main_v22, val_main_v21, val_main_v20, val_main_cst_4, val_main_v19, val_main_v18, val_main_cst_3, val_main_v17, val_main_v16, val_main_cst_2, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]

/-- The reference's product. -/
theorem ref_y2 : Cert.ReferenceMixIdeal.Read.val_main_v29 (F := Ideal) x0 x1 x2 x3 x4 = y2 x0 x1 x2 x3 x4 := by
  funext i
  obtain ⟨q, n, rfl⟩ : ∃ q n, i = ix2 q n := ⟨i 0, i 1, eq_ix2 i⟩
  unfold y2 prod
  rw [← ref_yn]
  unfold Cert.ReferenceMixIdeal.Read.val_main_v29
  generalize Cert.ReferenceMixIdeal.Read.val_main_v28 (F := Ideal) x0 x1 x2 x3 = y
  pointwise

/-- The reference's residual sum. -/
theorem ref_xn : Cert.ReferenceMixIdeal.Read.val_main_v44 (F := Ideal) x0 x1 x2 x3 x4 x5 x6 = xn x0 x1 x2 x3 x4 x5 x6 := by
  funext i
  obtain ⟨q, n, rfl⟩ : ∃ q n, i = ix2 q n := ⟨i 0, i 1, eq_ix2 i⟩
  unfold xn res nrm
  rw [← ref_y2]
  open Cert.ReferenceMixIdeal.Read in
  unfold val_main_v44 val_main_v43 val_main_v42 val_main_v41 val_main_v40 val_main_v39 val_main_v38 val_main_v37 val_main_v36 val_main_cst_7 val_main_v35 val_main_v34 val_main_cst_6 val_main_v33 val_main_v32 val_main_cst_5 val_main_v31 val_main_v30
  generalize Cert.ReferenceMixIdeal.Read.val_main_v29 (F := Ideal) x0 x1 x2 x3 x4 = y
  pointwise

end Arrays

variable (m : (ℓ : Loc nD τ sig) → Buf (Elt Ideal) ℓ) (c : Dev nD)

/-- The number of points. -/
theorem points (t : Fin cfg0.N) : t.val < 16 := lt_of_lt_of_eq t.isLt N_0

/-- A row of a point's block. -/
def at_ (t : Fin cfg0.N) (r : Fin 512) : Fin 8192 := ⟨t.val * 512 + r.val, by have := points t; omega⟩

/-- A block of the first half at an entry. -/
theorem read_0 (X : Vec Ideal S8192x512 .f32) (t : Fin cfg0.N) (r j : Fin 512) :
    ((win0_0.blk t).view.read (Elt Ideal) X : Vec Ideal S512x512 .f32) (ix2 r j) = X (ix2 (at_ t r) j) := by
  have h : ∀ t : Fin cfg0.N, win0_0.index t = ![t.val, 0] := (by decide +kernel : ∀ t : Fin grid0.N, _)
  rw [at_]
  blk_ext [h t]

/-- A block of the second half at an entry. -/
theorem read_1 (X : Vec Ideal S8192x512 .f32) (t : Fin cfg0.N) (r j : Fin 512) :
    ((win0_1.blk t).view.read (Elt Ideal) X : Vec Ideal S512x512 .f32) (ix2 r j) = X (ix2 (at_ t r) j) := by
  have h : ∀ t : Fin cfg0.N, win0_1.index t = ![t.val, 0] := (by decide +kernel : ∀ t : Fin grid0.N, _)
  rw [at_]
  blk_ext [h t]

/-- The first half's scales. -/
theorem read_2 (X : Vec Ideal S1x512 .f32) (t : Fin cfg0.N) (j : Fin 512) :
    ((win0_2.blk t).view.read (Elt Ideal) X : Vec Ideal S1x512 .f32) (ix2 0 j) = X (ix2 0 j) := by
  have h : ∀ t : Fin cfg0.N, win0_2.index t = ![0, 0] := (by decide +kernel : ∀ t : Fin grid0.N, _)
  blk_ext [h t]

/-- The second half's scales. -/
theorem read_3 (X : Vec Ideal S1x512 .f32) (t : Fin cfg0.N) (j : Fin 512) :
    ((win0_3.blk t).view.read (Elt Ideal) X : Vec Ideal S1x512 .f32) (ix2 0 j) = X (ix2 0 j) := by
  have h : ∀ t : Fin cfg0.N, win0_3.index t = ![0, 0] := (by decide +kernel : ∀ t : Fin grid0.N, _)
  blk_ext [h t]

/-- The weight. -/
theorem read_4 (X : Vec Ideal S1024x1024 .bf16) (t : Fin cfg0.N) (k n : Fin 1024) :
    ((win0_4.blk t).view.read (Elt Ideal) X : Vec Ideal S1024x1024 .bf16) (ix2 k n) = X (ix2 k n) := by
  have h : ∀ t : Fin cfg0.N, win0_4.index t = ![0, 0] := (by decide +kernel : ∀ t : Fin grid0.N, _)
  blk_ext [h t]

/-- The product's scales. -/
theorem read_5 (X : Vec Ideal S1x1024 .f32) (t : Fin cfg0.N) (j : Fin 1024) :
    ((win0_5.blk t).view.read (Elt Ideal) X : Vec Ideal S1x1024 .f32) (ix2 0 j) = X (ix2 0 j) := by
  have h : ∀ t : Fin cfg0.N, win0_5.index t = ![0, 0] := (by decide +kernel : ∀ t : Fin grid0.N, _)
  blk_ext [h t]

/-- A block of the residual at an entry. -/
theorem read_6 (X : Vec Ideal S8192x1024 .f32) (t : Fin cfg0.N) (r : Fin 512) (j : Fin 1024) :
    ((win0_6.blk t).view.read (Elt Ideal) X : Vec Ideal S512x1024 .f32) (ix2 r j) = X (ix2 (at_ t r) j) := by
  have h : ∀ t : Fin cfg0.N, win0_6.index t = ![t.val, 0] := (by decide +kernel : ∀ t : Fin grid0.N, _)
  rw [at_]
  blk_ext [h t]

/-- The weight as the region reads it. -/
theorem V_w : V m c main_v0 = (m ((c : Thread nD τ).loc main_arg4) : Vec Ideal S1024x1024 .f32) := by
  show StableHlo.after hostOps0 (fun b => m (c, b)) (Proc.devRef .tc main_v0) = _
  dsimp only [hostOps0]
  after_reads_simp
  rfl

/-- The halves a device's arguments make. -/
def Yn : Vec Ideal S8192x1024 .f32 := yn (m ((c : Thread nD τ).loc main_arg0)) (m ((c : Thread nD τ).loc main_arg1)) (m ((c : Thread nD τ).loc main_arg2)) (m ((c : Thread nD τ).loc main_arg3))
/-- Their product. -/
def Y2 : Vec Ideal S8192x1024 .f32 := y2 (m ((c : Thread nD τ).loc main_arg0)) (m ((c : Thread nD τ).loc main_arg1)) (m ((c : Thread nD τ).loc main_arg2)) (m ((c : Thread nD τ).loc main_arg3)) (m ((c : Thread nD τ).loc main_arg4))
/-- The residual sum. -/
def Xn : Vec Ideal S8192x1024 .f32 := xn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- A point's normalised halves. -/
theorem part2 (t : Fin cfg0.N) (r : Fin 512) (n : Fin 1024) :
    k0_pay2 (iblk m c 0 t) (iblk m c 1 t) (iblk m c 2 t) (iblk m c 3 t) (ix2 r n) = Yn m c (ix2 (at_ t r) n) := by
  have e0 : (fun j => iblk m c 0 t (ix2 r j) : Fin 512 → EReal) = fun j => m ((c : Thread nD τ).loc main_arg0) (ix2 (at_ t r) j) := funext fun j => read_0 _ t r j
  have e1 : (fun j => iblk m c 1 t (ix2 r j) : Fin 512 → EReal) = fun j => m ((c : Thread nD τ).loc main_arg1) (ix2 (at_ t r) j) := funext fun j => read_1 _ t r j
  have e2 : (fun j => iblk m c 2 t (ix2 0 j) : Fin 512 → EReal) = fun j => m ((c : Thread nD τ).loc main_arg2) (ix2 0 j) := funext fun j => read_2 _ t j
  have e3 : (fun j => iblk m c 3 t (ix2 0 j) : Fin 512 → EReal) = fun j => m ((c : Thread nD τ).loc main_arg3) (ix2 0 j) := funext fun j => read_3 _ t j
  refine (pay2_at _ _ _ _ r n).trans ?_
  exact congrFun (congr (congr (congrArg₂ mix e0 e1) e2) e3) n

/-- A point's product. -/
theorem part3 (t : Fin cfg0.N) (r : Fin 512) (n : Fin 1024) :
    k0_pay3 (iblk m c 0 t) (iblk m c 1 t) (iblk m c 2 t) (iblk m c 3 t) (iblk m c 4 t) (ix2 r n) = Y2 m c (ix2 (at_ t r) n) := by
  refine (pay3_at _ _ _ _ _ r n).trans ?_
  have e : (iblk m c 4 t : S1024x1024.Idx → EReal) = m ((c : Thread nD τ).loc main_arg4) := funext fun i => by
    rw [eq_ix2 i]
    exact (read_4 (V m c main_v0) t (i 0) (i 1)).trans (congrFun (V_w m c) _)
  exact congrFun (congrArg₂ prod (funext fun k => (pay2_at _ _ _ _ r k).symm.trans (part2 m c t r k)) e) n

/-- A point's residual sum. -/
theorem part1 (t : Fin cfg0.N) (r : Fin 512) (n : Fin 1024) :
    k0_pay1 (k0_pay3 (iblk m c 0 t) (iblk m c 1 t) (iblk m c 2 t) (iblk m c 3 t) (iblk m c 4 t)) (iblk m c 6 t) (iblk m c 5 t) (ix2 r n) = Xn m c (ix2 (at_ t r) n) := by
  have e5 : (fun j => iblk m c 5 t (ix2 0 j) : Fin 1024 → EReal) = fun j => m ((c : Thread nD τ).loc main_arg5) (ix2 0 j) := funext fun j => read_5 _ t j
  have e6 : (fun j => iblk m c 6 t (ix2 r j) : Fin 1024 → EReal) = fun j => m ((c : Thread nD τ).loc main_arg6) (ix2 (at_ t r) j) := funext fun j => read_6 _ t r j
  refine (pay1_at _ _ _ r n).trans ?_
  exact congrFun (congr (congrArg₂ res (funext fun j => part3 m c t r j) e5) e6) n

/-- The halves in their array after the run. -/
theorem final7 : (dats m 0 c).arrAt 7 cfg0.N = Yn m c := by
  have h : ∀ t : Fin cfg0.N, win0_7.index t = ![t.val, 0] := (by decide +kernel : ∀ t : Fin grid0.N, _)
  refine (dats m 0 c).arrAt_eq_of_covers 7 _ (by decide +kernel) fun t hf y => ?_
  obtain ⟨r, n, rfl⟩ : ∃ (r : Fin 512) (n : Fin 1024), y = ix2 r n := ⟨y 0, y 1, eq_ix2 y⟩
  have e : ((win0_7.blk t).view.emb (ix2 r n) : S8192x1024.Idx) = ix2 (at_ t r) n := by rw [at_]; blk_ext [h t]
  have o : out0_7 (iblk m c 0 t) (iblk m c 1 t) (iblk m c 2 t) (iblk m c 3 t) (iblk m c 4 t) (iblk m c 5 t) (iblk m c 6 t) = k0_pay2 (iblk m c 0 t) (iblk m c 1 t) (iblk m c 2 t) (iblk m c 3 t) := by
    unfold out0_7; frame_out
  blk_simp
  rw [after0_7, o]
  exact (part2 m c t r n).trans (congrArg (Yn m c) e).symm

/-- The product in its array after the run. -/
theorem final8 : (dats m 0 c).arrAt 8 cfg0.N = Y2 m c := by
  have h : ∀ t : Fin cfg0.N, win0_8.index t = ![t.val, 0] := (by decide +kernel : ∀ t : Fin grid0.N, _)
  refine (dats m 0 c).arrAt_eq_of_covers 8 _ (by decide +kernel) fun t hf y => ?_
  obtain ⟨r, n, rfl⟩ : ∃ (r : Fin 512) (n : Fin 1024), y = ix2 r n := ⟨y 0, y 1, eq_ix2 y⟩
  have e : ((win0_8.blk t).view.emb (ix2 r n) : S8192x1024.Idx) = ix2 (at_ t r) n := by rw [at_]; blk_ext [h t]
  have o : out0_8 (iblk m c 0 t) (iblk m c 1 t) (iblk m c 2 t) (iblk m c 3 t) (iblk m c 4 t) (iblk m c 5 t) (iblk m c 6 t) = k0_pay3 (iblk m c 0 t) (iblk m c 1 t) (iblk m c 2 t) (iblk m c 3 t) (iblk m c 4 t) := by
    unfold out0_8; frame_out
  blk_simp
  rw [after0_8, o]
  exact (part3 m c t r n).trans (congrArg (Y2 m c) e).symm

/-- The residual sum in its array after the run. -/
theorem final9 : (dats m 0 c).arrAt 9 cfg0.N = Xn m c := by
  have h : ∀ t : Fin cfg0.N, win0_9.index t = ![t.val, 0] := (by decide +kernel : ∀ t : Fin grid0.N, _)
  refine (dats m 0 c).arrAt_eq_of_covers 9 _ (by decide +kernel) fun t hf y => ?_
  obtain ⟨r, n, rfl⟩ : ∃ (r : Fin 512) (n : Fin 1024), y = ix2 r n := ⟨y 0, y 1, eq_ix2 y⟩
  have e : ((win0_9.blk t).view.emb (ix2 r n) : S8192x1024.Idx) = ix2 (at_ t r) n := by rw [at_]; blk_ext [h t]
  have o : out0_9 (iblk m c 0 t) (iblk m c 1 t) (iblk m c 2 t) (iblk m c 3 t) (iblk m c 4 t) (iblk m c 5 t) (iblk m c 6 t)
      = k0_pay1 (k0_pay3 (iblk m c 0 t) (iblk m c 1 t) (iblk m c 2 t) (iblk m c 3 t) (iblk m c 4 t)) (iblk m c 6 t) (iblk m c 5 t) := by
    unfold out0_9; frame_out
  blk_simp
  rw [after0_9, o]
  exact (part1 m c t r n).trans (congrArg (Xn m c) e).symm

/-- No two of the region's arrays are the same. -/
theorem arr_inj : Function.Injective (Pipeline.arrRef (cfgs 0).spec) := by
  intro a b; revert a b; decide

/-- The halves at the end of the program. -/
theorem last : Pipeline.afterTail₀ cfgs (dats m) 0 (V0 m) [hostOps1] c main_v2 = Yn m c := by
  have line : ∀ W : Valuation τ sig (Elt Ideal), StableHlo.after hostOps1 W (Proc.devRef .tc main_v2)
      = (extf .f32 (W (Proc.devRef .tc main_v1_0) : FVec Ideal S8192x1024 .bf16) bitsLt_bf16_f32 : FVec Ideal S8192x1024 .f32) := fun W => by
    dsimp only [hostOps1]
    after_reads_simp
  unfold Pipeline.afterTail₀
  simp only [List.flatten_cons, List.flatten_nil, List.append_nil]
  rw [line]
  refine (Pipeline.withArrays_arr (cfgs 0).spec arr_inj c (V0 m c) (fun w => (dats m 0 c).arrAt w cfg0.N) 7).trans ?_
  exact final7 m c

/-- The reference program changes no argument and leaves no counter. -/
theorem frame_reference : Cert.quiescent_ReferenceMixIdeal := fun m ρ _ =>
  (θ_run Cert.ReferenceMixIdeal.defs _ _).mono
    (fun r h => ⟨fun c => (h c).2.2.2, Idealize.ShloMosaic.sem_eq_zero_of_no_sems (by decide) r.2⟩)
    (Cert.ReferenceMixIdeal.Value.run (F := Ideal) m ρ)

/-- The kernel's three results and the reference's are the same. -/
theorem value : Cert.algebraic_KernelMixIdeal_ReferenceMixIdeal := by
  intro m g m' g' _ hm
  refine ⟨fun c => Yn m c, fun c => Y2 m c, fun c => Xn m c, ?_, ?_⟩
  · exact (θ_run defs _ _).mono (fun r h c => ⟨((h.1 c).2 main_v2 (Pipeline.mem_restRefs_of main_v2 (by decide) (by decide))).trans (last m c),
      ((h.1 c).1 8).trans (final8 m c), ((h.1 c).1 9).trans (final9 m c), h.2 c⟩) (θ_run_and (run_main m g) (unchanged m g))
  · refine (θ_run Cert.ReferenceMixIdeal.defs _ _).mono (fun r h c => ?_) (Cert.ReferenceMixIdeal.Value.run (F := Ideal) m' g')
    obtain ⟨h0, h1, h2, hk⟩ := h c
    obtain ⟨b0, b1, b2, b3, b4, b5, b6⟩ := hm c
    refine ⟨(h0.trans (Cert.ReferenceMixIdeal.Read.val_main_v28_eq _ _ _ _)).trans ?_, (h1.trans (Cert.ReferenceMixIdeal.Read.val_main_v29_eq _ _ _ _ _)).trans ?_,
      (h2.trans (Cert.ReferenceMixIdeal.Read.val_main_v44_eq m' c)).trans ?_, hk⟩
    · rw [b0, b1, b2, b3, ref_yn]; rfl
    · rw [b0, b1, b2, b3, b4, ref_y2]; rfl
    · rw [b0, b1, b2, b3, b4, b5, b6, ref_xn]; rfl

end Cert.Proof.Mix

end
-- ==== Proof.FwdStep.lean ====
/- Flash attention’s forward call: one trip over the keys, and all of them, on a row of real numbers. -/
module

public import proofs.«01_k».proof.Proof.Gen.KernelFwdIdeal.Loops
public import proofs.«01_k».proof.Proof.Pack
public import Idealize.ShloMosaic.Lib.WritesUnit
public import Idealize.ShloMosaic.Lib.VecWindow
public import Idealize.ShloMosaic.Lib.Pointwise

@[expose] public section

set_option maxRecDepth 16384

noncomputable section

namespace Cert.Proof.Fwd

open Cert.KernelFwdIdeal Cert.KernelFwdIdeal.Gen Idealize.ShloMosaic Idealize.ShloMosaic.TcCoe Idealize.SL.Sem Cert.Proof.RealMath
open Cert.Proof.KI (col blk blk_at)

/-! ## The payloads at an index -/

/-- The base-2 exponent of query `r` against key `j`. -/
def sc (Q K : S1024x128.Idx → EReal) (r j : Fin 1024) : EReal := ∑ d : Fin 128, Q (ix2 r d) * K (ix2 j d)

/-- Eight copies side by side of an array whose row holds one number. -/
theorem tiled_at (x : FVec Ideal S1024x128 .f32) (r j : Fin 1024) (u : EReal) (h : ∀ d, x (ix2 r d) = u) :
    concatenate S1024x1024 1 [⟨S1024x128, x⟩, ⟨S1024x128, x⟩, ⟨S1024x128, x⟩, ⟨S1024x128, x⟩, ⟨S1024x128, x⟩, ⟨S1024x128, x⟩, ⟨S1024x128, x⟩, ⟨S1024x128, x⟩]
      concatenates_S1024x128_S1024x128_S1024x128_S1024x128_S1024x128_S1024x128_S1024x128_S1024x128_S1024x1024_d1 (ix2 r j) = u := by
  pointwise
  split_ifs <;> exact h _

/-- The greater of a number and a row's greatest element, along the lanes. -/
theorem top_at (s : FVec Ideal S1024x1024 .f32) (w : FVec Ideal S1x1024x128 .f32) (r : Fin 1024) (d : Fin 128) :
    maximumf (shapeCast S1024x128 w shapeCasts_S1x1024x128_S1024x128)
      (broadcastTo S1024x128 (shapeCast S1024x1 (multiReduction .maximumf [1] S1024 s 0xFF800000#32 reduces_S1024x1024_S1024 (.inl rfl) rfl)
        shapeCasts_S1024_S1024x1) broadcasts_S1024x1_S1024x128) (ix2 r d)
      = max (w (ix3 0 r d)) (Finset.fold max (⊥ : EReal) (fun j => s (ix2 r j)) Finset.univ) := by
  rw [← ofBits_bot]
  pointwise

theorem pay2_at (q k : FVec Ideal S1024x128 .bf16) (r j : Fin 1024) : k0_pay2 (F := Ideal) q k (ix2 r j) = sc q k r j := by
  pointwise [k0_pay2, sc]
theorem pay3_at (q k : FVec Ideal S1024x128 .bf16) (r j : Fin 1024) : k0_pay3 (F := Ideal) q k (ix2 r j) = sc q k r j := by
  pointwise [k0_pay3, sc]
theorem pay4_at (w : FVec Ideal S1x1024x128 .f32) (r : Fin 1024) (d : Fin 128) : k0_pay4 (F := Ideal) w (ix2 r d) = w (ix3 0 r d) := by
  pointwise [k0_pay4]
theorem pay9_at (w : FVec Ideal S1x1024x128 .f32) (r : Fin 1024) (d : Fin 128) : k0_pay9 (F := Ideal) w (ix2 r d) = w (ix3 0 r d) := by
  pointwise [k0_pay9]
theorem pay8_at (q k : FVec Ideal S1024x128 .bf16) (w : FVec Ideal S1x1024x128 .f32) (r : Fin 1024) (d : Fin 128) :
    k0_pay8 (F := Ideal) q k w (ix3 0 r d) = k0_pay5 (F := Ideal) q k w (ix2 r d) := by
  unfold k0_pay8
  generalize k0_pay5 (F := Ideal) q k w = y
  pointwise
theorem pay15_at (y : FVec Ideal S1024x128 .f32) (r : Fin 1024) (d : Fin 128) :
    k0_pay15 (F := Ideal) y (ix3 0 r d) = y (ix2 r d) := by
  pointwise [k0_pay15]
theorem pay16_at (g : FVec Ideal S1024x128 .f32) (p : FVec Ideal S1024x1024 .bf16) (a : FVec Ideal S1x1024x128 .f32) (v : FVec Ideal S1024x128 .bf16)
    (r : Fin 1024) (d : Fin 128) :
    k0_pay16 (F := Ideal) g p a v (ix3 0 r d) = g (ix2 r d) * a (ix3 0 r d) + ∑ j : Fin 1024, p (ix2 r j) * v (ix2 j d) := by
  pointwise [k0_pay16]
theorem pay17_at (s : FVec Ideal S1024x1024 .f32) (g : FVec Ideal S1024x128 .f32) (u : FVec Ideal S1024x1024 .f32) (a : FVec Ideal S1x1024x128 .f32)
    (v : FVec Ideal S1024x128 .bf16) (r : Fin 1024) (d : Fin 128) :
    k0_pay17 (F := Ideal) s g u a v (ix3 0 r d)
      = g (ix2 r d) * a (ix3 0 r d) + ∑ j : Fin 1024, Ideal.exp2 (s (ix2 r j) - u (ix2 r j)) * v (ix2 j d) := by
  pointwise [k0_pay17]
  rfl

/-- Two to a real power. -/
def pw (x : ℝ) : ℝ := Real.rpow 2 x
theorem pw_pos (x : ℝ) : 0 < pw x := Real.rpow_pos_of_pos (by norm_num) x
theorem pw_add (x y : ℝ) : pw (x + y) = pw x * pw y := Real.rpow_add (by norm_num) x y
theorem pw_coe (x y : ℝ) : Ideal.exp2 ((x : EReal) - (y : EReal)) = ((pw (x - y) : ℝ) : EReal) := by
  rw [← EReal.coe_sub, Ideal.exp2_coe]; rfl

/-- The greater of a real number and a row of them is a real number. -/
theorem top_real (s : Fin 1024 → EReal) (σ : Fin 1024 → ℝ) (hs : ∀ j, s j = (σ j : EReal)) (μ : ℝ) :
    ∃ μ' : ℝ, max (μ : EReal) (Finset.fold max (⊥ : EReal) s Finset.univ) = (μ' : EReal) := by
  obtain ⟨p, hp⟩ := fold_max_real (n := 1023) s (fun j => ⟨σ j, hs j⟩)
  have hp' : Finset.fold max (⊥ : EReal) s Finset.univ = (p : EReal) := hp
  exact ⟨max μ p, by rw [hp']; exact (EReal.coe_strictMono.monotone.map_max (a := μ) (b := p)).symm⟩

section Step
variable (q k v : FVec Ideal S1024x128 .bf16) (w a : FVec Ideal S1x1024x128 .f32) (r : Fin 1024) (σ : Fin 1024 → ℝ) (ν : Fin 1024 → Fin 128 → ℝ)
  (μ : ℝ) (A : Fin 128 → ℝ)

/-- What the first head's trip does to a row of real numbers. -/
theorem step0 (hs : ∀ j, sc q k r j = (σ j : EReal)) (hv : ∀ j d, v (ix2 j d) = (ν j d : EReal)) (hw : ∀ d, w (ix3 0 r d) = (μ : EReal))
    (ha : ∀ d, a (ix3 0 r d) = (A d : EReal)) :
    ∃ μ' : ℝ, (∀ d, k0_pay8 (F := Ideal) q k w (ix3 0 r d) = (μ' : EReal)) ∧
      ∀ d, k0_pay16 (F := Ideal) (k0_pay6 q k w) (k0_pay7 q k w) a v (ix3 0 r d)
        = ((pw (μ - μ') * A d + ∑ j, pw (σ j - μ') * ν j d : ℝ) : EReal) := by
  obtain ⟨μ', hμ⟩ := top_real _ σ hs μ
  have h5 : ∀ d, k0_pay5 (F := Ideal) q k w (ix2 r d) = (μ' : EReal) := fun d => by
    refine (top_at (k0_pay2 q k) w r d).trans ?_
    rw [hw]
    simp only [pay2_at]
    exact hμ
  have h6 : ∀ d, k0_pay6 (F := Ideal) q k w (ix2 r d) = ((pw (μ - μ') : ℝ) : EReal) := fun d => by
    have e : k0_pay6 (F := Ideal) q k w (ix2 r d) = Ideal.exp2 (k0_pay4 (F := Ideal) w (ix2 r d) - k0_pay5 (F := Ideal) q k w (ix2 r d)) := rfl
    rw [e, pay4_at, h5, hw, pw_coe]
  have h7 : ∀ j, k0_pay7 (F := Ideal) q k w (ix2 r j) = ((pw (σ j - μ') : ℝ) : EReal) := fun j => by
    refine (congrArg Ideal.exp2 (congrArg₂ (· - ·) ((pay2_at q k r j).trans (hs j)) (tiled_at _ r j _ h5))).trans ?_
    rw [pw_coe]
  refine ⟨μ', fun d => (pay8_at q k w r d).trans (h5 d), fun d => ?_⟩
  rw [pay16_at, h6, ha, EReal.coe_add, coe_sum]
  simp only [h7, hv, EReal.coe_mul]

/-- What the second head's trip does to a row of real numbers. -/
theorem step1 (hs : ∀ j, sc q k r j = (σ j : EReal)) (hv : ∀ j d, v (ix2 j d) = (ν j d : EReal)) (hw : ∀ d, w (ix3 0 r d) = (μ : EReal))
    (ha : ∀ d, a (ix3 0 r d) = (A d : EReal)) :
    ∃ μ' : ℝ, (∀ d, k0_pay15 (F := Ideal) (k0_pay10 q k w) (ix3 0 r d) = (μ' : EReal)) ∧
      ∀ d, k0_pay17 (F := Ideal) (k0_pay3 q k) (k0_pay11 q k w) (k0_pay12 q k w) a v (ix3 0 r d)
        = ((pw (μ - μ') * A d + ∑ j, pw (σ j - μ') * ν j d : ℝ) : EReal) := by
  obtain ⟨μ', hμ⟩ := top_real _ σ hs μ
  have h5 : ∀ d, k0_pay10 (F := Ideal) q k w (ix2 r d) = (μ' : EReal) := fun d => by
    refine (top_at (k0_pay3 q k) w r d).trans ?_
    rw [hw]
    simp only [pay3_at]
    exact hμ
  have h6 : ∀ d, k0_pay11 (F := Ideal) q k w (ix2 r d) = ((pw (μ - μ') : ℝ) : EReal) := fun d => by
    have e : k0_pay11 (F := Ideal) q k w (ix2 r d) = Ideal.exp2 (k0_pay9 (F := Ideal) w (ix2 r d) - k0_pay10 (F := Ideal) q k w (ix2 r d)) := rfl
    rw [e, pay9_at, h5, hw, pw_coe]
  have h7 : ∀ j, k0_pay12 (F := Ideal) q k w (ix2 r j) = (μ' : EReal) := fun j => tiled_at _ r j _ h5
  refine ⟨μ', fun d => (pay15_at _ r d).trans (h5 d), fun d => ?_⟩
  rw [pay17_at, h6, ha, EReal.coe_add, coe_sum]
  simp only [h7, hv, pay3_at, hs, pw_coe, EReal.coe_mul]
end Step

end Cert.Proof.Fwd
end
-- ==== Proof.FwdLoop.lean ====
/- The loop over the keys. -/
module

public import proofs.«01_k».proof.Proof.Gen.KernelFwdIdeal.Loops
public import proofs.«01_k».proof.Proof.FwdStep
public import Idealize.ShloMosaic.Lib.WritesUnit
public import Idealize.ShloMosaic.Lib.VecWindow
public import Idealize.ShloMosaic.Lib.Pointwise

@[expose] public section

set_option maxRecDepth 16384

noncomputable section

namespace Cert.Proof.Fwd

open Cert.KernelFwdIdeal Cert.KernelFwdIdeal.Gen Idealize.ShloMosaic Idealize.ShloMosaic.TcCoe Idealize.SL.Sem Cert.Proof.RealMath
open Cert.Proof.KI (col blk blk_at)

/-! ## One head's plane of a scratch buffer -/

/-- Plane `a` of an array of two heads. -/
def slab {α : Type} (X : S2x1024x128.Idx → α) (a : Fin 2) : S1x1024x128.Idx → α := fun y => X (ix3 a (y 1) (y 2))

/-- A load of a plane is that plane of what the view reads. -/
theorem readAt_slab (v : View sig .tc .vmem S2x1024x128 .f32) (f : v.ty.Contents (Elt Ideal)) {off : Fin 3 → ℕ}
    (inb : ∀ a, off a + (![1, 1024, 128] : Fin 3 → ℕ) a ≤ S2x1024x128.size a) (a : Fin 2) (hoff : off = ![a.val, 0, 0]) :
    v.readAt (Elt Ideal) (Rect.unit (s := S2x1024x128) off ![1, 1024, 128] inb).toLoadRect f = slab (v.read (Elt Ideal) f) a := by
  subst hoff
  funext y
  refine congrArg (v.read (Elt Ideal) f) (funext fun b => Fin.ext ?_)
  match b with
  | ⟨0, _⟩ => show a.val + 1 * (y 0).val = a.val; have h : (y 0).val < 1 := (y 0).isLt; omega
  | ⟨1, _⟩ => show 0 + 1 * (y 1).val = (y 1).val; omega
  | ⟨2, _⟩ => show 0 + 1 * (y 2).val = (y 2).val; omega

/-- A load of a head's rows is that block of what the view reads. -/
theorem readAt_blk {R n : ℕ} {e : EltTy} (v : View sig .tc .vmem (⟨2, ![R, 256]⟩ : Shape) e) (f : v.ty.Contents (Elt Ideal)) {off : Fin 2 → ℕ}
    (inb : ∀ a, off a + (![n, 128] : Fin 2 → ℕ) a ≤ (⟨2, ![R, 256]⟩ : Shape).size a) (a : Fin 2) (o : ℕ) (hoff : off = ![o, 128 * a.val])
    (h : o + n ≤ R) :
    v.readAt (Elt Ideal) (Rect.unit (s := ⟨2, ![R, 256]⟩) off ![n, 128] inb).toLoadRect f
      = blk (v.read (Elt Ideal) f) o n h a := by
  subst hoff
  funext y
  refine congrArg (v.read (Elt Ideal) f) (funext fun b => Fin.ext ?_)
  match b with
  | ⟨0, _⟩ => show o + 1 * (y 0).val = o + (y 0).val; omega
  | ⟨1, _⟩ => show 128 * a.val + 1 * (y 1).val = 128 * a.val + (y 1).val; omega

/-- Two stores, one per plane: the first plane reads the first payload. -/
theorem read_two0 (v : View sig .tc .vmem S2x1024x128 .f32) (f : v.ty.Contents (Elt Ideal))
    (inb0 : ∀ a, (![0, 0, 0] : Fin 3 → ℕ) a + (![1, 1024, 128] : Fin 3 → ℕ) a ≤ S2x1024x128.size a)
    (inb1 : ∀ a, (![1, 0, 0] : Fin 3 → ℕ) a + (![1, 1024, 128] : Fin 3 → ℕ) a ≤ S2x1024x128.size a)
    (w0 w1 : S1x1024x128.Idx → EReal) (r : Fin 1024) (d : Fin 128) (u : EReal) (h : w0 (ix3 0 r d) = u) :
    v.read (Elt Ideal) (v.writes (Elt Ideal) f [⟨Rect.unit (s := S2x1024x128) ![1, 0, 0] ![1, 1024, 128] inb1, w1⟩,
        ⟨Rect.unit (s := S2x1024x128) ![0, 0, 0] ![1, 1024, 128] inb0, w0⟩]) (ix3 0 r d) = u := by
  rw [← h, View.read_writes_cons_unit_of_not_mem v f _ _ _ _ rfl (0 : Fin 3) (Or.inl (by show (0 : ℕ) < 1; omega))]
  refine View.read_writes_cons_unit_of_mem v f _ _ _ _ (ix3 0 r d) rfl fun b => ?_
  match b with
  | ⟨0, _⟩ => show (0 : ℕ) = 0 + 0; rfl
  | ⟨1, _⟩ => show r.val = 0 + r.val; omega
  | ⟨2, _⟩ => show d.val = 0 + d.val; omega

/-- Two stores, one per plane: the second plane reads the second payload. -/
theorem read_two1 (v : View sig .tc .vmem S2x1024x128 .f32) (f : v.ty.Contents (Elt Ideal))
    (inb0 : ∀ a, (![0, 0, 0] : Fin 3 → ℕ) a + (![1, 1024, 128] : Fin 3 → ℕ) a ≤ S2x1024x128.size a)
    (inb1 : ∀ a, (![1, 0, 0] : Fin 3 → ℕ) a + (![1, 1024, 128] : Fin 3 → ℕ) a ≤ S2x1024x128.size a)
    (w0 w1 : S1x1024x128.Idx → EReal) (r : Fin 1024) (d : Fin 128) (u : EReal) (h : w1 (ix3 0 r d) = u) :
    v.read (Elt Ideal) (v.writes (Elt Ideal) f [⟨Rect.unit (s := S2x1024x128) ![1, 0, 0] ![1, 1024, 128] inb1, w1⟩,
        ⟨Rect.unit (s := S2x1024x128) ![0, 0, 0] ![1, 1024, 128] inb0, w0⟩]) (ix3 1 r d) = u := by
  rw [← h]
  refine View.read_writes_cons_unit_of_mem v f _ _ _ _ (ix3 0 r d) rfl fun b => ?_
  match b with
  | ⟨0, _⟩ => show (1 : ℕ) = 1 + 0; rfl
  | ⟨1, _⟩ => show r.val = 0 + r.val; omega
  | ⟨2, _⟩ => show d.val = 0 + d.val; omega

section Loop
variable (𝒱 : Variants) (c : Dev nD) (bd : Option 𝒱.V) (i : grid0.Coords) (arg2 : Memref sig .tc .vmem S1024x256 .bf16) (harg2 : arg2.IsWhole)
  (arg3 : Memref sig .tc .vmem S8192x256 .bf16) (harg3 : arg3.IsWhole) (arg4 : Memref sig .tc .vmem S8192x256 .bf16) (harg4 : arg4.IsWhole)
  (arg5 : Memref sig .tc .vmem S1024x128 .f32) (harg5 : arg5.IsWhole) (arg6 : Memref sig .tc .vmem S1024x256 .bf16) (harg6 : arg6.IsWhole)
  (arg7 : Memref sig .tc .vmem S2x1024x128 .f32) (harg7 : arg7.IsWhole) (arg8 : Memref sig .tc .vmem S2x1024x128 .f32) (harg8 : arg8.IsWhole)
  (X2 : BufTy.Contents (Elt Ideal) arg2.view.ty) (X3 : BufTy.Contents (Elt Ideal) arg3.view.ty) (X4 : BufTy.Contents (Elt Ideal) arg4.view.ty)

theorem trips_le (k : Fin k0_t1_loop.trips) : k.val < 8 := Nat.lt_of_lt_of_le k.isLt k0_t1_abs.2.1
theorem trips_eq : k0_t1_loop.trips = 8 := by decide

variable (a : Fin 2) (r : Fin 1024) (σ : ℕ → ℝ) (ν : ℕ → Fin 128 → ℝ)

/-- The scores and the values a row meets are these real numbers. -/
structure Row (Q : S1024x256.Idx → EReal) (K V : S8192x256.Idx → EReal) : Prop where
  hs : ∀ (j : ℕ) (h : j < 8192), ∑ d : Fin 128, Q (ix2 r (col a d)) * K (ix2 ⟨j, h⟩ (col a d)) = (σ j : EReal)
  hv : ∀ (j : ℕ) (h : j < 8192) (d : Fin 128), V (ix2 ⟨j, h⟩ (col a d)) = (ν j d : EReal)

variable {a r σ ν}

/-- The scores of a block of keys. -/
theorem Row.sc {Q : S1024x256.Idx → EReal} {K V : S8192x256.Idx → EReal} (H : Row a r σ ν Q K V) (o : ℕ) (h : o + 1024 ≤ 8192) (j : Fin 1024) :
    sc (blk Q 0 1024 (by omega) a) (blk K o 1024 h a) r j = (σ (o + j.val) : EReal) := by
  rw [← H.hs (o + j.val) (by omega)]
  unfold Fwd.sc
  refine Finset.sum_congr rfl fun d _ => ?_
  rw [blk_at, blk_at]
  congr 3
  exact Fin.ext (Nat.zero_add _)

/-- The values of a block of keys. -/
theorem Row.va {Q : S1024x256.Idx → EReal} {K V : S8192x256.Idx → EReal} (H : Row a r σ ν Q K V) (o : ℕ) (h : o + 1024 ≤ 8192) (j : Fin 1024)
    (d : Fin 128) : blk V o 1024 h a (ix2 j d) = (ν (o + j.val) d : EReal) := H.hv (o + j.val) (by omega) d

set_option maxHeartbeats 1000000 in
/-- What a trip does to a row of real numbers. -/
theorem trip (k : Fin k0_t1_loop.trips) (f7 : BufTy.Contents (Elt Ideal) arg7.view.ty) (f8 : BufTy.Contents (Elt Ideal) arg8.view.ty)
    (H : Row a r σ ν (arg2.view.read (Elt Ideal) X2) (arg3.view.read (Elt Ideal) X3) (arg4.view.read (Elt Ideal) X4))
    (μ : ℝ) (A : Fin 128 → ℝ) (hM : ∀ d, arg7.view.read (Elt Ideal) f7 (ix3 a r d) = (μ : EReal))
    (hA : ∀ d, arg8.view.read (Elt Ideal) f8 (ix3 a r d) = (A d : EReal)) :
    ∃ μ' : ℝ, (∀ d, arg7.view.read (Elt Ideal) (arg7.view.writes (Elt Ideal) f7 (tripL_k0_t1 𝒱 c bd i arg2 harg2 arg3 harg3 arg4 harg4 arg5 harg5 arg6 harg6 arg7 harg7 arg8 harg8 X2 X3 X4 k f7 f8).1) (ix3 a r d) = (μ' : EReal))
      ∧ ∀ d, arg8.view.read (Elt Ideal) (arg8.view.writes (Elt Ideal) f8 (tripL_k0_t1 𝒱 c bd i arg2 harg2 arg3 harg3 arg4 harg4 arg5 harg5 arg6 harg6 arg7 harg7 arg8 harg8 X2 X3 X4 k f7 f8).2) (ix3 a r d)
        = ((pw (μ - μ') * A d + ∑ j ∈ Finset.range 1024, pw (σ (1024 * k.val + j) - μ') * ν (1024 * k.val + j) d : ℝ) : EReal) := by
  have hk := trips_le k
  unfold tripL_k0_t1 trip_k0_t1
  dsimp only
  unfold trip_k0_t1.sl.r trip_k0_t1.sl.r_1 trip_k0_t1.sl.r_2 trip_k0_t1.sl.r_3 trip_k0_t1.sl.r_4 trip_k0_t1.sl.r_5 trip_k0_t1.sl.v128 trip_k0_t1.sl.v102
  rw [readAt_blk arg2.view X2 inb_S1024x256_S1024x128_0_0 0 0 rfl (by omega),
    readAt_blk arg2.view X2 inb_S1024x256_S1024x128_0_128 1 0 rfl (by omega),
    readAt_blk arg3.view X3 (k0_off1_inb k) 0 (1024 * k.val) (k0_off1_eq k) (by omega),
    readAt_blk arg3.view X3 (k0_off2_inb k) 1 (1024 * k.val) (k0_off2_eq k) (by omega),
    readAt_blk arg4.view X4 (k0_off1_inb k) 0 (1024 * k.val) (k0_off1_eq k) (by omega),
    readAt_blk arg4.view X4 (k0_off2_inb k) 1 (1024 * k.val) (k0_off2_eq k) (by omega),
    readAt_slab arg7.view f7 inb_S2x1024x128_S1x1024x128_0_0_0 0 rfl,
    readAt_slab arg7.view f7 inb_S2x1024x128_S1x1024x128_1_0_0 1 rfl,
    readAt_slab arg8.view f8 inb_S2x1024x128_S1x1024x128_0_0_0 0 rfl,
    readAt_slab arg8.view f8 inb_S2x1024x128_S1x1024x128_1_0_0 1 rfl]
  have e : ∀ (μ' : ℝ) (d : Fin 128), pw (μ - μ') * A d + ∑ j ∈ Finset.range 1024, pw (σ (1024 * k.val + j) - μ') * ν (1024 * k.val + j) d
      = pw (μ - μ') * A d + ∑ j : Fin 1024, pw (σ (1024 * k.val + j.val) - μ') * ν (1024 * k.val + j.val) d := fun μ' d => by
    rw [← Fin.sum_univ_eq_sum_range (fun j => pw (σ (1024 * k.val + j) - μ') * ν (1024 * k.val + j) d)]
  simp only [e]
  clear e
  have hs := fun j => H.sc (1024 * k.val) (by omega) j
  have hv := fun j d => H.va (1024 * k.val) (by omega) j d
  clear H
  revert hs hv hM hA
  generalize arg2.view.read (Elt Ideal) X2 = q
  generalize arg3.view.read (Elt Ideal) X3 = kk
  generalize arg4.view.read (Elt Ideal) X4 = v
  obtain rfl | rfl : a = 0 ∨ a = 1 := by omega
  · intro hM hA hs hv
    obtain ⟨μ', h1, h2⟩ := step0 (blk q 0 1024 (by omega) 0) (blk kk (1024 * k.val) 1024 (by omega) 0) (blk v (1024 * k.val) 1024 (by omega) 0)
      (slab (arg7.view.read (Elt Ideal) f7) 0) (slab (arg8.view.read (Elt Ideal) f8) 0) r _ _ μ A hs hv hM hA
    exact ⟨μ', fun d => read_two0 arg7.view f7 _ _ _ _ r d _ (h1 d), fun d => read_two0 arg8.view f8 _ _ _ _ r d _ (h2 d)⟩
  · intro hM hA hs hv
    obtain ⟨μ', h1, h2⟩ := step1 (blk q 0 1024 (by omega) 1) (blk kk (1024 * k.val) 1024 (by omega) 1) (blk v (1024 * k.val) 1024 (by omega) 1)
      (slab (arg7.view.read (Elt Ideal) f7) 1) (slab (arg8.view.read (Elt Ideal) f8) 1) r _ _ μ A hs hv hM hA
    exact ⟨μ', fun d => read_two1 arg7.view f7 _ _ _ _ r d _ (h1 d), fun d => read_two1 arg8.view f8 _ _ _ _ r d _ (h2 d)⟩

/-- What the trips before `k` do to a row of real numbers: a running maximum, and the sum of the values weighted against it. -/
theorem loop (G7 : BufTy.Contents (Elt Ideal) arg7.view.ty) (G8 : BufTy.Contents (Elt Ideal) arg8.view.ty)
    (H : Row a r σ ν (arg2.view.read (Elt Ideal) X2) (arg3.view.read (Elt Ideal) X3) (arg4.view.read (Elt Ideal) X4))
    (μ : ℝ) (hM : ∀ d, arg7.view.read (Elt Ideal) G7 (ix3 a r d) = (μ : EReal))
    (hA : ∀ d, arg8.view.read (Elt Ideal) G8 (ix3 a r d) = (0 : EReal)) (k : ℕ) (hk : k ≤ 8) :
    ∃ μ' : ℝ, (∀ d, arg7.view.read (Elt Ideal) (arg7.view.writes (Elt Ideal) G7 (pb_k0_t1 𝒱 c bd i arg2 harg2 arg3 harg3 arg4 harg4 arg5 harg5 arg6 harg6 arg7 harg7 arg8 harg8 X2 X3 X4 G7 G8 k).1) (ix3 a r d) = (μ' : EReal))
      ∧ ∀ d, arg8.view.read (Elt Ideal) (arg8.view.writes (Elt Ideal) G8 (pb_k0_t1 𝒱 c bd i arg2 harg2 arg3 harg3 arg4 harg4 arg5 harg5 arg6 harg6 arg7 harg7 arg8 harg8 X2 X3 X4 G7 G8 k).2) (ix3 a r d)
        = ((∑ j ∈ Finset.range (1024 * k), pw (σ j - μ') * ν j d : ℝ) : EReal) := by
  induction k with
  | zero => exact ⟨μ, fun d => (by simpa [pb_k0_t1] using hM d), fun d => (by simpa [pb_k0_t1] using hA d)⟩
  | succ k ih =>
    have hk' : k < k0_t1_loop.trips := by rw [trips_eq]; omega
    obtain ⟨μ₀, h7, h8⟩ := ih (by omega)
    obtain ⟨μ', h1, h2⟩ := trip 𝒱 c bd i arg2 harg2 arg3 harg3 arg4 harg4 arg5 harg5 arg6 harg6 arg7 harg7 arg8 harg8 X2 X3 X4 ⟨k, hk'⟩ _ _ H μ₀ _ h7 h8
    have e := pb_k0_t1_succ 𝒱 c bd i arg2 harg2 arg3 harg3 arg4 harg4 arg5 harg5 arg6 harg6 arg7 harg7 arg8 harg8 X2 X3 X4 G7 G8 ⟨k, hk'⟩
    dsimp only at e
    rw [e]
    dsimp only
    refine ⟨μ', fun d => ?_, fun d => ?_⟩
    · rw [View.writes_append]; exact h1 d
    · rw [View.writes_append]
      refine (h2 d).trans (congrArg (fun x : ℝ => (x : EReal)) ?_)
      rw [show 1024 * (k + 1) = 1024 * k + 1024 by ring, Finset.sum_range_add, Finset.mul_sum]
      refine congrArg (· + _) (Finset.sum_congr rfl fun j _ => ?_)
      rw [show σ j - μ' = (μ₀ - μ') + (σ j - μ₀) by ring, pw_add, mul_assoc]

end Loop

end Cert.Proof.Fwd
end
-- ==== Proof.FwdPoint.lean ====
module

public import proofs.«01_k».proof.Proof.Gen.KernelFwdIdeal.Loops
public import proofs.«01_k».proof.Proof.FwdLoop
public import proofs.«01_k».proof.Proof.Gen.KernelFwdIdeal.Points
public import proofs.«01_k».proof.Proof.Gen.KernelFwdIdeal.Frame
public import Idealize.ShloMosaic.Lib.WritesUnit
public import Idealize.ShloMosaic.Lib.VecWindow
public import Idealize.ShloMosaic.Lib.Pointwise

@[expose] public section

set_option maxRecDepth 16384

noncomputable section

namespace Cert.Proof.Fwd

open Cert.KernelFwdIdeal Cert.KernelFwdIdeal.Gen Idealize.ShloMosaic Idealize.ShloMosaic.TcCoe Idealize.SL.Sem Cert.Proof.RealMath
open Cert.Proof.KI (col blk blk_at)

/-! ## What a grid point leaves in the output's block -/

/-- The lanes below 64. -/
theorem low_at (r : Fin 1024) (d : Fin 128) : k0_pay32 (iota .tc S1024x128 32 [1] iota_S1024x128_d1_w32) (ix2 r d) = if d.val < 64 then 1#1 else 0#1 := by
  pointwise [k0_pay32]
  revert d
  decide

/-- The first head's lanes of the output. -/
theorem pay1_at0 (x y : FVec Ideal S1024x128 .f32) (r : Fin 1024) (e : Fin 64) :
    k0_pay1 (F := Ideal) x y (k0_pay32 (iota .tc S1024x128 32 [1] iota_S1024x128_d1_w32)) (ix2 r ⟨e.val, by omega⟩) = x (ix2 r ⟨64 + e.val, by omega⟩) := by
  have h := low_at r ⟨e.val, by omega⟩
  rw [if_pos (by dsimp only; omega)] at h
  generalize k0_pay32 (iota .tc S1024x128 32 [1] iota_S1024x128_d1_w32) = m at h ⊢
  pointwise [k0_pay1]
  rw [h]
  exact congrArg (fun n => x (ix2 r n)) (Fin.ext (by dsimp only; omega))

/-- The second head's lanes of the output. -/
theorem pay1_at1 (x y : FVec Ideal S1024x128 .f32) (r : Fin 1024) (e : Fin 64) :
    k0_pay1 (F := Ideal) x y (k0_pay32 (iota .tc S1024x128 32 [1] iota_S1024x128_d1_w32)) (ix2 r ⟨64 + e.val, by omega⟩) = y (ix2 r ⟨64 + e.val, by omega⟩) := by
  have h := low_at r ⟨64 + e.val, by omega⟩
  rw [if_neg (by dsimp only; omega)] at h
  generalize k0_pay32 (iota .tc S1024x128 32 [1] iota_S1024x128_d1_w32) = m at h ⊢
  pointwise [k0_pay1]
  rw [h]
  rfl

theorem pay20_at (w : FVec Ideal S1x1024x128 .f32) (r : Fin 1024) (d : Fin 128) :
    k0_pay20 (F := Ideal) w (ix2 r d) = Ideal.div (w (ix3 0 r d)) (w (ix3 0 r 0)) := by
  pointwise [k0_pay20, k0_pay19, k0_pay18]
theorem pay30_at (w : FVec Ideal S1x1024x128 .f32) (r : Fin 1024) (d : Fin 128) :
    k0_pay30 (F := Ideal) w (ix2 r d) = Ideal.div (w (ix3 0 r d)) (w (ix3 0 r 0)) := by
  pointwise [k0_pay30, k0_pay29, k0_pay28]

/-- The real number the maximum starts from. -/
def m0 : ℝ := (Ideal.ofBits .f32 0xF149F2CA#32).toReal
theorem pay13_at (x : S2x1024x128.Idx) : k0_pay13 (F := Ideal) x = (m0 : EReal) := by
  have e : Ideal.ofBits .f32 0xF149F2CA#32 = (m0 : EReal) := by
    unfold m0
    simp [Ideal.ofBits, Ideal.ieee, -EReal.coe_mul]
  rw [← e]
  unfold k0_pay13
  rw [shapeCast_self]
  rfl
theorem pay14_at (x : S2x1024x128.Idx) : k0_pay14 (F := Ideal) x = (0 : EReal) := by
  rw [← Ideal.ofBits_zero_f32]
  unfold k0_pay14
  rw [shapeCast_self]
  rfl

/-- The values of a row weighted by two to its scores. -/
def att (σ : ℕ → ℝ) (n : ℕ → ℝ) : ℝ := (∑ j ∈ Finset.range 8192, pw (σ j) * n j) / ∑ j ∈ Finset.range 8192, pw (σ j)

/-- The quotient of the two accumulated sums does not depend on the maximum they were taken against. -/
theorem quot (σ : ℕ → ℝ) (n l : ℕ → ℝ) (hl : ∀ j, l j = 1) (μ : ℝ) :
    Ideal.div ((∑ j ∈ Finset.range 8192, pw (σ j - μ) * n j : ℝ) : EReal) ((∑ j ∈ Finset.range 8192, pw (σ j - μ) * l j : ℝ) : EReal)
      = ((att σ n : ℝ) : EReal) := by
  have e : ∀ f : ℕ → ℝ, ∑ j ∈ Finset.range 8192, pw (σ j - μ) * f j = pw (-μ) * ∑ j ∈ Finset.range 8192, pw (σ j) * f j := fun f => by
    rw [Finset.mul_sum]
    refine Finset.sum_congr rfl fun j _ => ?_
    rw [show σ j - μ = -μ + σ j by ring, pw_add, mul_assoc]
  have hp : 0 < ∑ j ∈ Finset.range 8192, pw (σ j) := Finset.sum_pos (fun j _ => pw_pos _) ⟨0, Finset.mem_range.2 (by omega)⟩
  have h1 := (pw_pos (-μ)).ne'
  rw [e, e]
  simp only [hl, mul_one]
  rw [div_real _ _ (mul_pos (pw_pos _) hp).ne', att, mul_div_mul_left _ _ h1]

section Point
variable (c : Dev nD) (i : grid0.Coords) (arg2 : Memref sig .tc .vmem S1024x256 .bf16) (harg2 : arg2.IsWhole)
  (arg3 : Memref sig .tc .vmem S8192x256 .bf16) (harg3 : arg3.IsWhole) (arg4 : Memref sig .tc .vmem S8192x256 .bf16) (harg4 : arg4.IsWhole)
  (arg5 : Memref sig .tc .vmem S1024x128 .f32) (harg5 : arg5.IsWhole) (arg6 : Memref sig .tc .vmem S1024x256 .bf16) (harg6 : arg6.IsWhole)
  (arg7 : Memref sig .tc .vmem S2x1024x128 .f32) (harg7 : arg7.IsWhole) (arg8 : Memref sig .tc .vmem S2x1024x128 .f32) (harg8 : arg8.IsWhole)
  (x0 : Vec Ideal S1024x256 .bf16) (x1 : Vec Ideal S8192x256 .bf16) (x2 : Vec Ideal S8192x256 .bf16)

theorem loop_trips : Scf.trips (0#32) (Scalar.addi 0#32 8#32) 1#32 = 8 := by decide

/-- After all the trips, a row of a head's accumulated sums. -/
theorem sums {a : Fin 2} {r : Fin 1024} {σ : ℕ → ℝ} {ν : ℕ → Fin 128 → ℝ} (H : Row a r σ ν x0 x1 x2) :
    ∃ μ : ℝ, ∀ d, arg8.view.read (Elt Ideal) (arg8.view.writes (Elt Ideal) arg8.view.junk
      ((pb_k0_t1 Variants.none c none i arg2 harg2 arg3 harg3 arg4 harg4 arg5 harg5 arg6 harg6 arg7 harg7 arg8 harg8
              (harg2.unread x0) (harg3.unread x1) (harg4.unread x2)
              (arg7.view.writes (Elt Ideal) arg7.view.junk kernelRun0_A.sl.HS0_1)
              (arg8.view.writes (Elt Ideal) arg8.view.junk kernelRun0_A.sl.HS1_1)
              (Scf.trips k0_t1_loop.lb k0_t1_loop.ub k0_t1_loop.st)).2 ++ kernelRun0_A.sl.HS1_1)) (ix3 a r d)
      = ((∑ j ∈ Finset.range 8192, pw (σ j - μ) * ν j d : ℝ) : EReal) := by
  rw [View.writes_append, show Scf.trips k0_t1_loop.lb k0_t1_loop.ub k0_t1_loop.st = 8 by decide]
  have H' : Row a r σ ν (arg2.view.read (Elt Ideal) (harg2.unread x0)) (arg3.view.read (Elt Ideal) (harg3.unread x1)) (arg4.view.read (Elt Ideal) (harg4.unread x2)) := by
    simpa only [Memref.IsWhole.read_unread] using H
  obtain ⟨μ, _, h⟩ := loop Variants.none c none i arg2 harg2 arg3 harg3 arg4 harg4 arg5 harg5 arg6 harg6 arg7 harg7 arg8 harg8
    (harg2.unread x0) (harg3.unread x1) (harg4.unread x2) (arg7.view.writes (Elt Ideal) arg7.view.junk kernelRun0_A.sl.HS0_1)
    (arg8.view.writes (Elt Ideal) arg8.view.junk kernelRun0_A.sl.HS1_1) H' m0
    (fun d => by unfold kernelRun0_A.sl.HS0_1; exact (congrFun (View.read_writes_full _ _ _ _ _) _).trans (pay13_at _))
    (fun d => by unfold kernelRun0_A.sl.HS1_1; exact (congrFun (View.read_writes_full _ _ _ _ _) _).trans (pay14_at _)) 8 le_rfl
  exact ⟨μ, h⟩

/-- The first head's lanes. -/
theorem point0 {r : Fin 1024} {σ : ℕ → ℝ} {ν : ℕ → Fin 128 → ℝ} (H : Row 0 r σ ν x0 x1 x2) (hν : ∀ j, ν j 0 = 1) (e : Fin 64) :
    out0_A_3 c i arg2 harg2 arg3 harg3 arg4 harg4 arg5 harg5 arg6 harg6 arg7 harg7 arg8 harg8 x0 x1 x2 (ix2 r ⟨e.val, by omega⟩)
      = ((att σ (fun j => ν j ⟨64 + e.val, by omega⟩) : ℝ) : EReal) := by
  unfold out0_A_3 kernelRun0_A
  dsimp only
  refine (congrFun (View.read_writes_full _ _ _ _ _) _).trans ?_
  unfold kernelRun0_A.sl.v0
  refine (pay1_at0 _ _ r e).trans ?_
  unfold kernelRun0_A.sl.r
  refine (pay20_at _ r _).trans ?_
  unfold kernelRun0_A.sl.v10
  obtain ⟨μ, h⟩ := sums c i arg2 harg2 arg3 harg3 arg4 harg4 arg5 harg5 arg6 harg6 arg7 harg7 arg8 harg8 x0 x1 x2 H
  rw [← quot σ (fun j => ν j ⟨64 + e.val, by omega⟩) (fun j => ν j 0) hν μ, ← h, ← h]
  unfold View.readCov
  rw [readAt_slab arg8.view _ inb_S2x1024x128_S1x1024x128_0_0_0 0 rfl]
  rfl

/-- The second head's lanes. -/
theorem point1 {r : Fin 1024} {σ : ℕ → ℝ} {ν : ℕ → Fin 128 → ℝ} (H : Row 1 r σ ν x0 x1 x2) (hν : ∀ j, ν j 0 = 1) (e : Fin 64) :
    out0_A_3 c i arg2 harg2 arg3 harg3 arg4 harg4 arg5 harg5 arg6 harg6 arg7 harg7 arg8 harg8 x0 x1 x2 (ix2 r ⟨64 + e.val, by omega⟩)
      = ((att σ (fun j => ν j ⟨64 + e.val, by omega⟩) : ℝ) : EReal) := by
  unfold out0_A_3 kernelRun0_A
  dsimp only
  refine (congrFun (View.read_writes_full _ _ _ _ _) _).trans ?_
  unfold kernelRun0_A.sl.v0
  refine (pay1_at1 _ _ r e).trans ?_
  unfold kernelRun0_A.sl.r_3
  refine (pay30_at _ r _).trans ?_
  unfold kernelRun0_A.sl.v39
  obtain ⟨μ, h⟩ := sums c i arg2 harg2 arg3 harg3 arg4 harg4 arg5 harg5 arg6 harg6 arg7 harg7 arg8 harg8 x0 x1 x2 H
  rw [← quot σ (fun j => ν j ⟨64 + e.val, by omega⟩) (fun j => ν j 0) hν μ, ← h, ← h]
  unfold View.readCov
  rw [readAt_slab arg8.view _ inb_S2x1024x128_S1x1024x128_1_0_0 1 rfl]
  rfl
end Point

end Cert.Proof.Fwd
end
-- ==== Proof.FwdPack.lean ====
/- The attention: what the host packs, at real arguments, and the softmax the packed products make. -/
module

public import proofs.«01_k».proof.Proof.Gen.KernelFwdIdeal.Loops
public import proofs.«01_k».proof.Proof.FwdPoint
public import proofs.«01_k».proof.Proof.Gen.KernelFwdIdeal.Points
public import proofs.«01_k».proof.Proof.Gen.KernelFwdIdeal.Frame
public import Idealize.ShloMosaic.Lib.WritesUnit
public import Idealize.ShloMosaic.Lib.VecWindow
public import Idealize.ShloMosaic.Lib.Pointwise

@[expose] public section

set_option maxRecDepth 16384

noncomputable section

namespace Cert.Proof.Fwd

open Cert.KernelFwdIdeal Cert.KernelFwdIdeal.Gen Idealize.ShloMosaic Idealize.ShloMosaic.TcCoe Idealize.SL.Sem Cert.Proof.RealMath
open Cert.Proof.KI (col blk blk_at gcol rows_at kcat_at0 kcat_at1 vcat_at0 vcat_at1 vcat_at2 up sR mR eR lR pR oR)

/-- The queries' factor. -/
def scale : FVec Ideal S_ .f32 := Host.divf (constant S_ .f32 0x3DD105EC#32) (Host.log (constant S_ .f32 0x40000000#32))

theorem scale_real (z : S_.Idx) : scale z = ((c1 / Real.log 2 : ℝ) : EReal) := by
  unfold scale
  pointwise
  rw [ofBits_c1, ofBits_two, Ideal.log_coe, if_neg (by norm_num), div_real _ _ log2_pos.ne']

/-- The packed queries. -/
def packQ (x0 : FVec Ideal S8192x8x64 .f32) (x1 : FVec Ideal S8192x8x32 .f32) : FVec Ideal S8192x1024 .bf16 :=
  shapeCast S8192x1024 (concatenate S8192x8x128 2 [⟨S8192x8x64, (truncf .bf16 (mulf x0 (broadcastInDim S8192x8x64 ![] bcast_S_S8192x8x64 scale)) bitsLt_bf16_f32 : FVec Ideal S8192x8x64 .bf16)⟩,
    ⟨S8192x8x32, (truncf .bf16 (mulf x1 (broadcastInDim S8192x8x32 ![] bcast_S_S8192x8x32 scale)) bitsLt_bf16_f32 : FVec Ideal S8192x8x32 .bf16)⟩,
    ⟨S8192x8x32, (broadcastInDim S8192x8x32 ![] bcast_S_S8192x8x32 (constant S_ .bf16 0x0000#16 : FVec Ideal S_ .bf16) : FVec Ideal S8192x8x32 .bf16)⟩]
    concatenates_S8192x8x64_S8192x8x32_S8192x8x32_S8192x8x128_d2) shapeCasts_S8192x8x128_S8192x1024

/-- The packed keys. -/
def packK (x2 : FVec Ideal S8192x8x64 .f32) (x3 : FVec Ideal S8192x32 .f32) : FVec Ideal S8192x1024 .bf16 :=
  shapeCast S8192x1024 (concatenate S8192x8x128 2 [⟨S8192x8x64, (truncf .bf16 x2 bitsLt_bf16_f32 : FVec Ideal S8192x8x64 .bf16)⟩,
    ⟨S8192x8x32, (broadcastInDim S8192x8x32 ![0, 1, 2] bcast_S8192x1x32_S8192x8x32_0_1_2 (broadcastInDim S8192x1x32 ![0, 2] bcast_S8192x32_S8192x1x32_0_2 (truncf .bf16 x3 bitsLt_bf16_f32 : FVec Ideal S8192x32 .bf16)) : FVec Ideal S8192x8x32 .bf16)⟩,
    ⟨S8192x8x2, (broadcastInDim S8192x8x2 ![] bcast_S_S8192x8x2 (constant S_ .bf16 0x3F80#16 : FVec Ideal S_ .bf16) : FVec Ideal S8192x8x2 .bf16)⟩,
    ⟨S8192x8x30, (broadcastInDim S8192x8x30 ![] bcast_S_S8192x8x30 (constant S_ .bf16 0x0000#16 : FVec Ideal S_ .bf16) : FVec Ideal S8192x8x30 .bf16)⟩]
    concatenates_S8192x8x64_S8192x8x32_S8192x8x2_S8192x8x30_S8192x8x128_d2) shapeCasts_S8192x8x128_S8192x1024

/-- The packed values. -/
def packV (x4 : FVec Ideal S8192x8x64 .f32) : FVec Ideal S8192x1024 .bf16 :=
  shapeCast S8192x1024 (concatenate S8192x8x128 2 [⟨S8192x8x2, (broadcastInDim S8192x8x2 ![] bcast_S_S8192x8x2 (constant S_ .bf16 0x3F80#16 : FVec Ideal S_ .bf16) : FVec Ideal S8192x8x2 .bf16)⟩,
    ⟨S8192x8x62, (broadcastInDim S8192x8x62 ![] bcast_S_S8192x8x62 (constant S_ .bf16 0x0000#16 : FVec Ideal S_ .bf16) : FVec Ideal S8192x8x62 .bf16)⟩,
    ⟨S8192x8x64, (truncf .bf16 x4 bitsLt_bf16_f32 : FVec Ideal S8192x8x64 .bf16)⟩]
    concatenates_S8192x8x2_S8192x8x62_S8192x8x64_S8192x8x128_d2) shapeCasts_S8192x8x128_S8192x1024

section Host

variable (m : (ℓ : Loc nD τ sig) → Buf (Elt Ideal) ℓ) (c : Dev nD)

/-- The packed queries, as the region reads them. -/
theorem V_q : V m c main_v13 = packQ (m ((c : Thread nD τ).loc main_arg0)) (m ((c : Thread nD τ).loc main_arg1)) := by
  dsimp only [V, V0, hostOps0, List.flatten_cons, List.flatten_nil, List.append_nil, List.cons_append, List.nil_append]
  after_reads_simp
  rfl

/-- The packed keys, as the region reads them. -/
theorem V_k : V m c main_v18 = packK (m ((c : Thread nD τ).loc main_arg2)) (m ((c : Thread nD τ).loc main_arg3)) := by
  dsimp only [V, V0, hostOps0, List.flatten_cons, List.flatten_nil, List.append_nil, List.cons_append, List.nil_append]
  after_reads_simp
  rfl

/-- The packed values, as the region reads them. -/
theorem V_v : V m c main_v23 = packV (m ((c : Thread nD τ).loc main_arg4)) := by
  dsimp only [V, V0, hostOps0, List.flatten_cons, List.flatten_nil, List.append_nil, List.cons_append, List.nil_append]
  after_reads_simp
  rfl

end Host

section Real

variable (a0 : S8192x8x64.Idx → ℝ) (a1 : S8192x8x32.Idx → ℝ) (a2 : S8192x8x64.Idx → ℝ) (a3 : S8192x32.Idx → ℝ)
variable (a4 : S8192x8x64.Idx → ℝ)

/-- Part 1 of three, at its columns. -/
theorem cat_at0 (x : FVec Ideal S8192x8x64 .bf16) (y z : FVec Ideal S8192x8x32 .bf16) (q : Fin 8192) (h : Fin 8) (r : Fin 64) :
    concatenate S8192x8x128 2 [⟨S8192x8x64, x⟩, ⟨S8192x8x32, y⟩, ⟨S8192x8x32, z⟩] concatenates_S8192x8x64_S8192x8x32_S8192x8x32_S8192x8x128_d2 (ix3 q h ⟨r.val, by omega⟩) = x (ix3 q h r) := by
  pointwise

/-- Part 2 of three, at its columns. -/
theorem cat_at1 (x : FVec Ideal S8192x8x64 .bf16) (y z : FVec Ideal S8192x8x32 .bf16) (q : Fin 8192) (h : Fin 8) (r : Fin 32) :
    concatenate S8192x8x128 2 [⟨S8192x8x64, x⟩, ⟨S8192x8x32, y⟩, ⟨S8192x8x32, z⟩] concatenates_S8192x8x64_S8192x8x32_S8192x8x32_S8192x8x128_d2 (ix3 q h ⟨64 + r.val, by omega⟩) = y (ix3 q h r) := by
  pointwise

/-- Part 3 of three, at its columns. -/
theorem cat_at2 (x : FVec Ideal S8192x8x64 .bf16) (y z : FVec Ideal S8192x8x32 .bf16) (q : Fin 8192) (h : Fin 8) (r : Fin 32) :
    concatenate S8192x8x128 2 [⟨S8192x8x64, x⟩, ⟨S8192x8x32, y⟩, ⟨S8192x8x32, z⟩] concatenates_S8192x8x64_S8192x8x32_S8192x8x32_S8192x8x128_d2 (ix3 q h ⟨96 + r.val, by omega⟩) = z (ix3 q h r) := by
  pointwise
  rw [dif_neg (by omega), dif_neg (by omega)]
  exact congrArg (fun t => z (ix3 q h t)) (Fin.ext (by dsimp only; omega))

/-- The scaled query without position. -/
theorem q_p0 (q : Fin 8192) (h : Fin 8) (r : Fin 64) :
    packQ (up a0) (up a1) (ix2 q (gcol h ⟨r.val, by omega⟩)) = ((a0 (ix3 q h r) * (c1 / Real.log 2) : ℝ) : EReal) := by
  unfold packQ
  refine (rows_at _ q h _).trans ((cat_at0 _ _ _ q h r).trans ?_)
  have h0 := scale_real ix0
  generalize scale = b at h0 ⊢
  pointwise
  rw [h0, EReal.coe_mul]; rfl

/-- The scaled query with position. -/
theorem q_p1 (q : Fin 8192) (h : Fin 8) (r : Fin 32) :
    packQ (up a0) (up a1) (ix2 q (gcol h ⟨64 + r.val, by omega⟩)) = ((a1 (ix3 q h r) * (c1 / Real.log 2) : ℝ) : EReal) := by
  unfold packQ
  refine (rows_at _ q h _).trans ((cat_at1 _ _ _ q h r).trans ?_)
  have h0 := scale_real ix0
  generalize scale = b at h0 ⊢
  pointwise
  rw [h0, EReal.coe_mul]; rfl

/-- The packed queries end with zeros. -/
theorem q_p2 (x0 : FVec Ideal S8192x8x64 .f32) (x1 : FVec Ideal S8192x8x32 .f32) (q : Fin 8192) (h : Fin 8) (r : Fin 32) :
    packQ x0 x1 (ix2 q (gcol h ⟨96 + r.val, by omega⟩)) = 0 := by
  unfold packQ
  refine (rows_at _ q h _).trans ((cat_at2 _ _ _ q h r).trans ?_)
  pointwise

/-- The key without position. -/
theorem k_p0 (k : Fin 8192) (h : Fin 8) (r : Fin 64) :
    packK (up a2) (up a3) (ix2 k (gcol h ⟨r.val, by omega⟩)) = ((a2 (ix3 k h r) : ℝ) : EReal) := by
  unfold packK
  refine (rows_at _ k h _).trans ((kcat_at0 _ _ _ _ k h r).trans ?_)
  pointwise
  rfl

/-- The key with position. -/
theorem k_p1 (k : Fin 8192) (h : Fin 8) (r : Fin 32) :
    packK (up a2) (up a3) (ix2 k (gcol h ⟨64 + r.val, by omega⟩)) = ((a3 (ix2 k r) : ℝ) : EReal) := by
  unfold packK
  refine (rows_at _ k h _).trans ((kcat_at1 _ _ _ _ k h r).trans ?_)
  pointwise
  rfl

/-- A packed value's columns: two ones, zeros, and the value. -/
def vals (k : Fin 8192) (h : Fin 8) (d : Fin 128) : ℝ :=
  if d.val < 2 then 1 else if hd : d.val < 64 then 0 else a4 (ix3 k h ⟨d.val - 64, by omega⟩)

/-- A packed value at its columns. -/
theorem v_at (k : Fin 8192) (h : Fin 8) (d : Fin 128) : packV (up a4) (ix2 k (gcol h d)) = ((vals a4 k h d : ℝ) : EReal) := by
  unfold packV
  refine (rows_at _ k h d).trans ?_
  by_cases h1 : d.val < 2
  · rw [vals, if_pos h1]
    refine (vcat_at0 _ _ _ k h ⟨d.val, h1⟩).trans ?_
    pointwise
    exact EReal.coe_one.symm
  · by_cases h2 : d.val < 64
    · rw [vals, if_neg h1, dif_pos h2]
      have e : d = ⟨2 + (⟨d.val - 2, by omega⟩ : Fin 62).val, by dsimp only; omega⟩ := Fin.ext (by dsimp only; omega)
      rw [e]
      refine (vcat_at1 _ _ _ k h ⟨d.val - 2, by omega⟩).trans ?_
      pointwise
      exact EReal.coe_zero.symm
    · rw [vals, if_neg h1, dif_neg h2]
      have e : d = ⟨64 + (⟨d.val - 64, by omega⟩ : Fin 64).val, by dsimp only; omega⟩ := Fin.ext (by dsimp only; omega)
      refine (congrArg (fun t => concatenate S8192x8x128 2 _ _ (ix3 k h t)) e).trans ?_
      refine (vcat_at2 _ _ _ k h ⟨d.val - 64, by omega⟩).trans ?_
      pointwise
      rfl

/-- A sum over a head's columns, in three parts. -/
theorem sum_three {M : Type} [AddCommMonoid M] (f : Fin 128 → M) :
    ∑ d, f d = (∑ d : Fin 64, f ⟨d.val, by omega⟩) + (∑ r : Fin 32, f ⟨64 + r.val, by omega⟩) + ∑ r : Fin 32, f ⟨96 + r.val, by omega⟩ := by
  have h1 := Fin.sum_univ_add (a := 96) (b := 32) f
  have h2 := Fin.sum_univ_add (a := 64) (b := 32) (fun i : Fin 96 => f (Fin.castAdd 32 i))
  rw [h2] at h1
  exact h1

/-- The product of a packed query and a packed key: the score in base two. -/
theorem score (q k : Fin 8192) (h : Fin 8) :
    ∑ d, packQ (up a0) (up a1) (ix2 q (gcol h d)) * packK (up a2) (up a3) (ix2 k (gcol h d)) = ((sR a0 a1 a2 a3 h q k / Real.log 2 : ℝ) : EReal) := by
  rw [sum_three]
  simp only [q_p0, q_p1, q_p2, k_p0, k_p1, zero_mul, Finset.sum_const_zero, add_zero, ← EReal.coe_mul, ← coe_sum, ← EReal.coe_add]
  congr 1
  rw [sR, add_mul, add_div, Finset.sum_mul, Finset.sum_mul, Finset.sum_div, Finset.sum_div]
  exact congrArg₂ (· + ·) (Finset.sum_congr rfl fun d _ => by ring) (Finset.sum_congr rfl fun r _ => by ring)

/-- A row's scores in base two, by key. -/
def sig2 (h : Fin 8) (q : Fin 8192) (j : ℕ) : ℝ := if hj : j < 8192 then sR a0 a1 a2 a3 h q ⟨j, hj⟩ / Real.log 2 else 0
/-- A head's packed values, by key. -/
def nu2 (h : Fin 8) (j : ℕ) (d : Fin 128) : ℝ := if hj : j < 8192 then vals a4 ⟨j, hj⟩ h d else 1

theorem nu2_zero (h : Fin 8) (j : ℕ) : nu2 a4 h j 0 = 1 := by
  unfold nu2 vals
  split
  · exact if_pos (by decide)
  · rfl

/-- A power of two of a score in base two is the score's exponential. -/
theorem pw_log (s : ℝ) : pw (s / Real.log 2) = Real.exp s := by
  have h := log2_pos.ne'
  show (2 : ℝ) ^ (s / Real.log 2) = Real.exp s
  rw [Real.rpow_def_of_pos (by norm_num), mul_div_cancel₀ _ h]

/-- The quotient of the sums is the softmax attention. -/
theorem att_eq (q : Fin 8192) (h : Fin 8) (e : Fin 64) :
    att (sig2 a0 a1 a2 a3 h q) (fun j => nu2 a4 h j ⟨64 + e.val, by omega⟩) = oR a0 a1 a2 a3 a4 q h e := by
  unfold att
  rw [Finset.sum_range, Finset.sum_range]
  have hs : ∀ j : Fin 8192, pw (sig2 a0 a1 a2 a3 h q j.val) = Real.exp (sR a0 a1 a2 a3 h q j) := fun j => by
    rw [sig2, dif_pos j.isLt, pw_log]
  have hn : ∀ j : Fin 8192, nu2 a4 h j.val ⟨64 + e.val, by omega⟩ = a4 (ix3 j h e) := fun j => by
    rw [nu2, dif_pos j.isLt, vals, if_neg (by dsimp only; omega), dif_neg (by dsimp only; omega)]
    exact congrArg (fun t => a4 (ix3 j h t)) (Fin.ext (by dsimp only; omega))
  simp only [hs, hn]
  have hE : ∀ j, Real.exp (sR a0 a1 a2 a3 h q j) = Real.exp (mR a0 a1 a2 a3 h q) * eR a0 a1 a2 a3 h q j := fun j => by
    rw [eR, ← Real.exp_add]; congr 1; ring
  have hM := (Real.exp_pos (mR a0 a1 a2 a3 h q)).ne'
  simp only [hE, mul_assoc, ← Finset.mul_sum]
  rw [mul_div_mul_left _ _ hM, oR, Finset.sum_div]
  refine Finset.sum_congr rfl fun j _ => ?_
  rw [pR, lR]; ring

end Real

end Cert.Proof.Fwd

end
-- ==== Proof.FwdRef.lean ====
/- The attention's reference at real arguments, and what its precondition says. -/
module

public import proofs.«01_k».proof.Proof.Sums
public import proofs.«01_k».proof.Proof.Finite
public import proofs.«01_k».proof.Pre_finite17
public import proofs.«01_k».proof.Proof.Gen.ReferenceFwdIdeal.Read

@[expose] public section

set_option maxRecDepth 65536

noncomputable section

namespace Cert.Proof.FwdRef

section Reference

open Cert.ReferenceFwdIdeal Cert.ReferenceFwdIdeal.Gen Cert.ReferenceFwdIdeal.Read Idealize.ShloMosaic Idealize.ShloMosaic.TcCoe Cert.Proof.RealMath
open Cert.Proof.KI (up sR mR eR lR pR oR mR_coe lR_pos)

variable (a0 : S8192x8x64.Idx → ℝ) (a1 : S8192x8x32.Idx → ℝ) (a2 : S8192x8x64.Idx → ℝ) (a3 : S8192x32.Idx → ℝ)
variable (a4 : S8192x8x64.Idx → ℝ)

/-- The scores. -/
theorem v5_real (h : Fin 8) (q k : Fin 8192) :
    val_main_v5 (F := Ideal) (up (w := .f32) a0) (up (w := .f32) a1) (up (w := .f32) a2) (up (w := .f32) a3) (ix3 h q k) = ((sR a0 a1 a2 a3 h q k : ℝ) : EReal) := by
  pointwise [val_main_v5, val_main_v4, val_main_v3, val_main_v2, val_main_v1, val_main_v0, val_main_cst]
  rw [ofBits_c1]
  simp only [sR, up, EReal.coe_mul, EReal.coe_add, coe_sum]

/-- The greatest element of a row, at an index. -/
theorem rowmax_at (s : FVec Ideal S8x8192x8192 .f32) (h : Fin 8) (q : Fin 8192) :
    Host.reduce FloatOps.maximumf s (constant S_ .f32 0xFF800000#32) reducesTo_S8x8192x8192_S8x8192_d2 h_S_ (ix2 h q)
      = Finset.fold max (⊥ : EReal) (fun k => s (ix3 h q k)) Finset.univ := by
  rw [← ofBits_bot]
  pointwise

/-- The greatest of a number and minus infinity, at an index. -/
theorem floor_at (x : FVec Ideal S8x8192 .f32) (h : Fin 8) (q : Fin 8192) :
    (broadcastInDim S8x8192x1 ![0, 1] bcast_S8x8192_S8x8192x1_0_1)
      (maximumf ((broadcastInDim S8x8192 ![] bcast_S_S8x8192) (constant S_ .f32 0xFF800000#32)) x) (ix3 h q 0) = x (ix2 h q) := by
  have e : max (⊥ : EReal) (x (ix2 h q)) = x (ix2 h q) := max_eq_right bot_le
  rw [← e, ← ofBits_bot]
  pointwise

/-- The row's greatest score. -/
theorem v9_real (h : Fin 8) (q : Fin 8192) :
    val_main_v9 (F := Ideal) (up (w := .f32) a0) (up (w := .f32) a1) (up (w := .f32) a2) (up (w := .f32) a3) (ix3 h q 0) = ((mR a0 a1 a2 a3 h q : ℝ) : EReal) := by
  have h6 := v5_real a0 a1 a2 a3 h q
  unfold val_main_v9 val_main_v8 val_main_v7 val_main_cst_1
  rw [floor_at]
  unfold val_main_v6 val_main_cst_0
  rw [rowmax_at, ← mR_coe]
  exact congrArg (fun f => Finset.fold max (⊥ : EReal) f Finset.univ) (funext h6)

/-- The exponential of a difference, at an index. -/
theorem expsub_at (s : FVec Ideal S8x8192x8192 .f32) (w : FVec Ideal S8x8192x1 .f32) (h : Fin 8) (q k : Fin 8192) :
    Host.exp (subf s ((broadcastInDim S8x8192x8192 ![0, 1, 2] bcast_S8x8192x1_S8x8192x8192_0_1_2) w)) (ix3 h q k)
      = Ideal.exp (s (ix3 h q k) - w (ix3 h q 0)) := by
  pointwise

/-- The weights before division. -/
theorem v12_real (h : Fin 8) (q k : Fin 8192) :
    val_main_v12 (F := Ideal) (up (w := .f32) a0) (up (w := .f32) a1) (up (w := .f32) a2) (up (w := .f32) a3) (ix3 h q k) = ((eR a0 a1 a2 a3 h q k : ℝ) : EReal) := by
  unfold val_main_v12 val_main_v11 val_main_v10
  rw [expsub_at, v5_real, v9_real, ← EReal.coe_sub, Ideal.exp_coe, eR]

/-- The sum of a row, at an index. -/
theorem rowsum_at (s : FVec Ideal S8x8192x8192 .f32) (h : Fin 8) (q : Fin 8192) :
    (broadcastInDim S8x8192x1 ![0, 1] bcast_S8x8192_S8x8192x1_0_1)
      (Host.reduceAdd s (constant S_ .f32 0x00000000#32) reducesTo_S8x8192x8192_S8x8192_d2 h_S_) (ix3 h q 0)
      = ∑ k, s (ix3 h q k) := by
  pointwise

/-- The row's sum. -/
theorem v14_real (h : Fin 8) (q : Fin 8192) :
    val_main_v14 (F := Ideal) (up (w := .f32) a0) (up (w := .f32) a1) (up (w := .f32) a2) (up (w := .f32) a3) (ix3 h q 0) = ((lR a0 a1 a2 a3 h q : ℝ) : EReal) := by
  unfold val_main_v14 val_main_v13 val_main_cst_2
  rw [rowsum_at]
  simp only [v12_real]
  rw [← coe_sum, lR]

/-- A quotient by a row's number, at an index. -/
theorem divrow_at (s : FVec Ideal S8x8192x8192 .f32) (w : FVec Ideal S8x8192x1 .f32) (h : Fin 8) (q k : Fin 8192) :
    Host.divf s ((broadcastInDim S8x8192x8192 ![0, 1, 2] bcast_S8x8192x1_S8x8192x8192_0_1_2) w) (ix3 h q k)
      = Ideal.div (s (ix3 h q k)) (w (ix3 h q 0)) := by
  pointwise

/-- The softmax weight. -/
theorem v16_real (h : Fin 8) (q k : Fin 8192) :
    val_main_v16 (F := Ideal) (up (w := .f32) a0) (up (w := .f32) a1) (up (w := .f32) a2) (up (w := .f32) a3) (ix3 h q k) = ((pR a0 a1 a2 a3 h q k : ℝ) : EReal) := by
  unfold val_main_v16 val_main_v15
  rw [divrow_at, v12_real, v14_real, div_real _ _ (lR_pos a0 a1 a2 a3 h q).ne', pR]

/-- The attention's output. -/
theorem v18_real (q : Fin 8192) (h : Fin 8) (d : Fin 64) :
    val_main_v18 (F := Ideal) (up (w := .f32) a0) (up (w := .f32) a1) (up (w := .f32) a2) (up (w := .f32) a3) (up (w := .f32) a4) (ix3 q h d)
      = ((oR a0 a1 a2 a3 a4 q h d : ℝ) : EReal) := by
  unfold oR
  rw [coe_sum]
  simp only [EReal.coe_mul, ← v16_real]
  unfold val_main_v18 val_main_v17
  generalize val_main_v16 (F := Ideal) (up (w := .f32) a0) (up (w := .f32) a1) (up (w := .f32) a2) (up (w := .f32) a3) = s
  pointwise
  rfl

end Reference

section Finite

open Cert.Pre_finite17 Idealize.ShloMosaic Idealize.ShloMosaic.TcCoe
open Cert.Proof.KI (up)

/-- The side conditions of the precondition's text. -/
theorem facts : Cert.Pre_finite17.Facts where
  bcast_S_S8192x8x64 := by decide
  reducesTo_S8192x8x64_S_d0_1_2 := by decide
  h_S_ := by decide
  bcast_S_S8192x8x32 := by decide
  reducesTo_S8192x8x32_S_d0_1_2 := by decide
  bcast_S_S8192x32 := by decide
  reducesTo_S8192x32_S_d0_1 := by decide

variable [Cert.Pre_finite17.Facts]
open Cert.Pre_finite17.Facts

/-- The precondition makes each argument an array of real numbers. -/
theorem reals (x0 : FVec Ideal S8192x8x64 .f32) (x1 : FVec Ideal S8192x8x32 .f32) (x2 : FVec Ideal S8192x8x64 .f32)
    (x3 : FVec Ideal S8192x32 .f32) (x4 : FVec Ideal S8192x8x64 .f32)
    (h : Cert.Pre_finite17.fn x0 x1 x2 x3 x4 = fun _ => 1#1) :
    x0 = up (fun i => (x0 i).toReal) ∧ x1 = up (fun i => (x1 i).toReal) ∧ x2 = up (fun i => (x2 i).toReal)
      ∧ x3 = up (fun i => (x3 i).toReal) ∧ x4 = up (fun i => (x4 i).toReal) := by
  have j : S_.Idx := fun i => i.elim0
  have hj := congrFun h j
  dsimp only [Cert.Pre_finite17.fn, Cert.Pre_finite17.fn_part1] at hj
  obtain ⟨h3, h4⟩ := IntOp.andi_eq_one.1 hj
  obtain ⟨h2, h3⟩ := IntOp.andi_eq_one.1 h3
  obtain ⟨h1, h2⟩ := IntOp.andi_eq_one.1 h2
  obtain ⟨h0, h1⟩ := IntOp.andi_eq_one.1 h1
  exact ⟨Finite.real_of_all x0 _ _ _ j h0, Finite.real_of_all x1 _ _ _ j h1, Finite.real_of_all x2 _ _ _ j h2,
    Finite.real_of_all x3 _ _ _ j h3, Finite.real_of_all x4 _ _ _ j h4⟩

end Finite

end Cert.Proof.FwdRef

end
-- ==== Proof.Fwd.lean ====
/- The attention of the forward pass: what the whole run leaves is the softmax attention. -/
module

public import proofs.«01_k».proof.Proof.Gen.KernelFwdIdeal.Loops
public import proofs.«01_k».proof.Proof.FwdPack
public import proofs.«01_k».proof.Proof.Gen.KernelFwdIdeal.Points
public import proofs.«01_k».proof.Proof.Gen.KernelFwdIdeal.Frame
public import proofs.«01_k».proof.Proof.FwdRef
public import proofs.«01_k».proof.Proof.Gen.KernelFwd.Frame
public import proofs.«01_k».proof.Proof.Gen.ReferenceFwdIdeal.Run
public import proofs.«01_k».proof.Defs
public import Idealize.ShloMosaic.Lib.Pipeline.ValueKit
public import Idealize.ShloMosaic.Lib.Pipeline.ReadBack
public import Idealize.ShloMosaic.Lib.StableHlo.RunRead
public import Idealize.ShloMosaic.Lib.Claim
public import Idealize.ShloMosaic.Lib.Quiescent
public import Idealize.ShloMosaic.Lib.WritesUnit
public import Idealize.ShloMosaic.Lib.VecWindow
public import Idealize.ShloMosaic.Lib.Pointwise

@[expose] public section

set_option maxRecDepth 16384

noncomputable section

namespace Cert.Proof.Fwd

open Cert.KernelFwdIdeal Cert.KernelFwdIdeal.Gen Idealize.ShloMosaic Idealize.ShloMosaic.TcCoe Idealize.SL.Sem Cert.Proof.RealMath
open Cert.Proof.KI (col blk blk_at gcol rows_at kcat_at0 kcat_at1 vcat_at0 vcat_at1 vcat_at2 up sR mR eR lR pR oR)

variable (m : (ℓ : Loc nD τ sig) → Buf (Elt Ideal) ℓ) (c : Dev nD)

/-- The queries' block at a point. -/
theorem index_q : ∀ t : Fin cfg0.N, win0_0.index t = ![t.val % 8, t.val / 8] :=
  (by decide +kernel : ∀ t : Fin grid0.N, _)

/-- The keys' block at a point. -/
theorem index_k : ∀ t : Fin cfg0.N, win0_1.index t = ![0, t.val / 8] :=
  (by decide +kernel : ∀ t : Fin grid0.N, _)

/-- The values' block at a point. -/
theorem index_v : ∀ t : Fin cfg0.N, win0_2.index t = ![0, t.val / 8] :=
  (by decide +kernel : ∀ t : Fin grid0.N, _)

/-- The result's block at a point. -/
theorem index_o : ∀ t : Fin cfg0.N, win0_3.index t = ![t.val % 8, t.val / 8] :=
  (by decide +kernel : ∀ t : Fin grid0.N, _)

/-- The number of points. -/
theorem points (t : Fin cfg0.N) : t.val < 32 := lt_of_lt_of_eq t.isLt N_0

/-- A row of a point's block. -/
def row (t : Fin cfg0.N) (r : Fin 1024) : Fin 8192 := ⟨t.val % 8 * 1024 + r.val, by have := points t; omega⟩
/-- A head of a point's pair. -/
def hd (t : Fin cfg0.N) (a : Fin 2) : Fin 8 := ⟨2 * (t.val / 8) + a.val, by have := points t; omega⟩

/-- A block of the queries at an entry. -/
theorem read_q (X : Vec Ideal S8192x1024 .bf16) (t : Fin cfg0.N) (r : Fin 1024) (a : Fin 2) (d : Fin 128) :
    ((win0_0.blk t).view.read (Elt Ideal) X : Vec Ideal S1024x256 .bf16) (ix2 r (col a d)) = X (ix2 (row t r) (gcol (hd t a) d)) := by
  have h : gcol (hd t a) d = ⟨t.val / 8 * 256 + (col a d).val, by have := points t; omega⟩ := Fin.ext (by
    show 128 * (2 * (t.val / 8) + a.val) + d.val = t.val / 8 * 256 + (128 * a.val + d.val); omega)
  rw [h, row]
  blk_ext [index_q t]

/-- A block of the keys at an entry. -/
theorem read_k (X : Vec Ideal S8192x1024 .bf16) (t : Fin cfg0.N) (j : Fin 8192) (a : Fin 2) (d : Fin 128) :
    ((win0_1.blk t).view.read (Elt Ideal) X : Vec Ideal S8192x256 .bf16) (ix2 j (col a d)) = X (ix2 j (gcol (hd t a) d)) := by
  have h : gcol (hd t a) d = ⟨t.val / 8 * 256 + (col a d).val, by have := points t; omega⟩ := Fin.ext (by
    show 128 * (2 * (t.val / 8) + a.val) + d.val = t.val / 8 * 256 + (128 * a.val + d.val); omega)
  rw [h]
  blk_ext [index_k t]

/-- A block of the values at an entry. -/
theorem read_v (X : Vec Ideal S8192x1024 .bf16) (t : Fin cfg0.N) (j : Fin 8192) (a : Fin 2) (d : Fin 128) :
    ((win0_2.blk t).view.read (Elt Ideal) X : Vec Ideal S8192x256 .bf16) (ix2 j (col a d)) = X (ix2 j (gcol (hd t a) d)) := by
  have h : gcol (hd t a) d = ⟨t.val / 8 * 256 + (col a d).val, by have := points t; omega⟩ := Fin.ext (by
    show 128 * (2 * (t.val / 8) + a.val) + d.val = t.val / 8 * 256 + (128 * a.val + d.val); omega)
  rw [h]
  blk_ext [index_v t]

/-- The arguments of a device are these real numbers. -/
structure At (a0 : S8192x8x64.Idx → ℝ) (a1 : S8192x8x32.Idx → ℝ) (a2 : S8192x8x64.Idx → ℝ) (a3 : S8192x32.Idx → ℝ) (a4 : S8192x8x64.Idx → ℝ) : Prop where
  e0 : m ((c : Thread nD τ).loc main_arg0) = up (w := .f32) a0
  e1 : m ((c : Thread nD τ).loc main_arg1) = up (w := .f32) a1
  e2 : m ((c : Thread nD τ).loc main_arg2) = up (w := .f32) a2
  e3 : m ((c : Thread nD τ).loc main_arg3) = up (w := .f32) a3
  e4 : m ((c : Thread nD τ).loc main_arg4) = up (w := .f32) a4

variable {m c}
variable {a0 : S8192x8x64.Idx → ℝ} {a1 : S8192x8x32.Idx → ℝ} {a2 : S8192x8x64.Idx → ℝ} {a3 : S8192x32.Idx → ℝ} {a4 : S8192x8x64.Idx → ℝ}

/-- A row of a point's blocks: its scores and values. -/
theorem row_at (A : At m c a0 a1 a2 a3 a4) (t : Fin cfg0.N) (a : Fin 2) (r : Fin 1024) :
    Row a r (sig2 a0 a1 a2 a3 (hd t a) (row t r)) (nu2 a4 (hd t a)) (iblk m c 0 t) (iblk m c 1 t) (iblk m c 2 t) where
  hs := fun j hj => by
    refine (Finset.sum_congr rfl fun d _ => congrArg₂ (fun x y : EReal => x * y)
      ((read_q (V m c main_v13) t r a d).trans (congrFun (V_q m c) _)) ((read_k (V m c main_v18) t ⟨j, hj⟩ a d).trans (congrFun (V_k m c) _))).trans ?_
    rw [A.e0, A.e1, A.e2, A.e3, sig2, dif_pos hj]
    exact score a0 a1 a2 a3 (row t r) ⟨j, hj⟩ (hd t a)
  hv := fun j hj d => by
    refine ((read_v (V m c main_v23) t ⟨j, hj⟩ a d).trans (congrFun (V_v m c) _)).trans ?_
    rw [A.e4, nu2, dif_pos hj]
    exact v_at a4 ⟨j, hj⟩ (hd t a) d

/-- The attention's output, its heads side by side. -/
def flat (a0 : S8192x8x64.Idx → ℝ) (a1 : S8192x8x32.Idx → ℝ) (a2 : S8192x8x64.Idx → ℝ) (a3 : S8192x32.Idx → ℝ) (a4 : S8192x8x64.Idx → ℝ) : Vec Ideal S8192x512 .f32 :=
  fun y => ((oR a0 a1 a2 a3 a4 (y 0) ⟨(y 1).val / 64, by have : (y 1).val < 512 := (y 1).isLt; omega⟩ ⟨(y 1).val % 64, Nat.mod_lt _ (by decide)⟩ : ℝ) : EReal)

theorem flat_at (q : Fin 8192) (h : Fin 8) (e : Fin 64) (n : Fin 512) (hn : n.val = 64 * h.val + e.val) :
    flat a0 a1 a2 a3 a4 (ix2 q n) = ((oR a0 a1 a2 a3 a4 q h e : ℝ) : EReal) := by
  have h1 : ∀ (u : Fin 8) (v : Fin 64), u = h → v = e → ((oR a0 a1 a2 a3 a4 q u v : ℝ) : EReal) = ((oR a0 a1 a2 a3 a4 q h e : ℝ) : EReal) := by
    intro u v hu hv; rw [hu, hv]
  exact h1 _ _ (Fin.ext (by show n.val / 64 = h.val; omega)) (Fin.ext (by show n.val % 64 = e.val; omega))

/-- What a point stores, in the first head's columns. -/
theorem out_0 (A : At m c a0 a1 a2 a3 a4) (t : Fin cfg0.N) (r : Fin 1024) (e : Fin 64) :
    (outsAt0 m c t).1 (ix2 r ⟨e.val, by omega⟩) = ((oR a0 a1 a2 a3 a4 (row t r) (hd t 0) e : ℝ) : EReal) := by
  rw [← att_eq]
  dsimp only [outsAt0]
  exact point0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (row_at A t 0 r) (nu2_zero a4 _) e

/-- What a point stores, in the second head's columns. -/
theorem out_1 (A : At m c a0 a1 a2 a3 a4) (t : Fin cfg0.N) (r : Fin 1024) (e : Fin 64) :
    (outsAt0 m c t).1 (ix2 r ⟨64 + e.val, by omega⟩) = ((oR a0 a1 a2 a3 a4 (row t r) (hd t 1) e : ℝ) : EReal) := by
  rw [← att_eq]
  dsimp only [outsAt0]
  exact point1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (row_at A t 1 r) (nu2_zero a4 _) e

/-- The output in the array after the run. -/
theorem final (A : At m c a0 a1 a2 a3 a4) : (dats m 0 c).arrAt 3 cfg0.N = flat a0 a1 a2 a3 a4 := by
  refine (dats m 0 c).arrAt_eq_of_covers 3 _ (by decide +kernel) fun t hf y => ?_
  have hN := points t
  obtain ⟨r, n, rfl⟩ : ∃ (r : Fin 1024) (n : Fin 128), y = ix2 r n := ⟨y 0, y 1, eq_ix2 y⟩
  blk_simp
  rw [after0_3]
  have e : ((win0_3.blk t).view.emb (ix2 r n) : S8192x512.Idx) = ix2 (row t r) ⟨t.val / 8 * 128 + n.val, by omega⟩ := by
    rw [row]
    blk_ext [index_o t]
  refine Eq.trans ?_ (congrArg (flat a0 a1 a2 a3 a4) e).symm
  by_cases hn : n.val < 64
  · refine Eq.trans ?_ (flat_at (row t r) (hd t 0) ⟨n.val, hn⟩ _ ?_).symm
    · exact out_0 A t r ⟨n.val, hn⟩
    · show t.val / 8 * 128 + n.val = 64 * (2 * (t.val / 8) + 0) + n.val; omega
  · obtain ⟨e, he⟩ : ∃ e : Fin 64, n = (⟨64 + e.val, by have := e.isLt; omega⟩ : Fin 128) := ⟨⟨n.val - 64, by have := n.isLt; omega⟩, Fin.ext (by dsimp only; omega)⟩
    refine Eq.trans ?_ (flat_at (row t r) (hd t 1) e _ ?_).symm
    · rw [he]; exact out_1 A t r e
    · show t.val / 8 * 128 + n.val = 64 * (2 * (t.val / 8) + 1) + e.val; have := congrArg Fin.val he; dsimp only at this; omega

/-- No two of the region's arrays are the same. -/
theorem arr_inj : Function.Injective (Pipeline.arrRef (cfgs 0).spec) := by
  intro a b; revert a b; decide

/-- The line after the region. -/
theorem line (W : Valuation τ sig (Elt Ideal)) : StableHlo.after hostOps1 W (Proc.devRef .tc main_v25)
    = shapeCast S8192x8x64 (W (Proc.devRef .tc main_v24_0) : Vec Ideal S8192x512 .f32) shapeCasts_S8192x512_S8192x8x64 := by
  dsimp only [hostOps1]
  after_reads_simp
  rfl

/-- The heads apart, at an index. -/
theorem apart_at (x : Vec Ideal S8192x512 .f32) (q : Fin 8192) (h : Fin 8) (e : Fin 64) :
    shapeCast S8192x8x64 x shapeCasts_S8192x512_S8192x8x64 (ix3 q h e) = x (ix2 q ⟨h.val * 64 + e.val, by omega⟩) := by
  pointwise

/-- The output at the end of the program. -/
theorem last (A : At m c a0 a1 a2 a3 a4) : Pipeline.afterTail₀ cfgs (dats m) 0 (V0 m) [hostOps1] c main_v25
    = shapeCast S8192x8x64 (flat a0 a1 a2 a3 a4) shapeCasts_S8192x512_S8192x8x64 := by
  unfold Pipeline.afterTail₀
  simp only [List.flatten_cons, List.flatten_nil, List.append_nil]
  rw [line]
  exact congrArg (fun x : Vec Ideal S8192x512 .f32 => shapeCast S8192x8x64 x shapeCasts_S8192x512_S8192x8x64)
    ((Pipeline.withArrays_arr (cfgs 0).spec arr_inj c (V0 m c) _ 3).trans (final A))

/-- The kernel's output is the reference's. -/
theorem equal : shapeCast S8192x8x64 (flat a0 a1 a2 a3 a4) shapeCasts_S8192x512_S8192x8x64
    = Cert.ReferenceFwdIdeal.Read.val_main_v18 (F := Ideal) (up (w := .f32) a0) (up (w := .f32) a1) (up (w := .f32) a2) (up (w := .f32) a3) (up (w := .f32) a4) := by
  funext y
  obtain ⟨q, h, e, rfl⟩ : ∃ (q : Fin 8192) (h : Fin 8) (e : Fin 64), y = ix3 q h e := ⟨y 0, y 1, y 2, eq_ix3 y⟩
  rw [apart_at, flat_at q h e _ (by show h.val * 64 + e.val = 64 * h.val + e.val; omega)]
  exact (Cert.Proof.FwdRef.v18_real a0 a1 a2 a3 a4 q h e).symm

/-- The attention's reference runs, changes no argument and leaves no counter. -/
theorem frame_reference : Cert.quiescent_ReferenceFwdIdeal := fun m ρ _ =>
  (θ_run Cert.ReferenceFwdIdeal.defs _ _).mono
    (fun r h => ⟨fun c => (h c).2, Idealize.ShloMosaic.sem_eq_zero_of_no_sems (by decide) r.2⟩)
    (Cert.ReferenceFwdIdeal.Value.run (F := Ideal) m ρ)

/-- The attention and its reference end with equal outputs, when the arguments are real numbers. -/
theorem value [Cert.Pre_finite17.Facts] : Cert.algebraic_KernelFwdIdeal_ReferenceFwdIdeal_pre_finite17 := by
  intro m g m' g' hp ha
  have HA : ∀ c : Dev nD, ∃ a0 a1 a2 a3 a4, At m c a0 a1 a2 a3 a4 := fun c => by
    obtain ⟨e0, e1, e2, e3, e4⟩ := Cert.Proof.FwdRef.reals _ _ _ _ _ (hp c)
    exact ⟨_, _, _, _, _, ⟨e0, e1, e2, e3, e4⟩⟩
  refine ⟨fun c => Pipeline.afterTail₀ cfgs (dats m) 0 (V0 m) [hostOps1] c main_v25, ?_, ?_⟩
  · exact (θ_run defs _ _).mono
      (fun r h c => ⟨(h.1 c).2 main_v25 (Pipeline.mem_restRefs_of main_v25 (by decide) (by decide)), h.2 c⟩)
      (θ_run_and (run_main m g) (unchanged m g))
  · refine (θ_run Cert.ReferenceFwdIdeal.defs _ _).mono (fun r h c => ?_) (Cert.ReferenceFwdIdeal.Value.run (F := Ideal) m' g')
    obtain ⟨h0, hk⟩ := h c
    obtain ⟨b0, b1, b2, b3, b4⟩ := ha c
    obtain ⟨a0, a1, a2, a3, a4, A⟩ := HA c
    refine ⟨?_, hk⟩
    rw [h0, Cert.ReferenceFwdIdeal.Read.val_main_v18_eq, b0, b1, b2, b3, b4]
    refine Eq.trans ?_ (last A).symm
    rw [equal]
    exact congr (congr (congr (congr (congrArg _ A.e0) A.e1) A.e2) A.e3) A.e4

end Cert.Proof.Fwd

end
-- ==== Proof.lean ====
/- The certificate's proof: the frames of the three programs and the equality of the kernel's and the reference's five results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import proofs.«01_k».proof.Proof.Finite
public import proofs.«01_k».proof.Proof.Dh2
public import proofs.«01_k».proof.Proof.Dwup
public import proofs.«01_k».proof.Proof.Dact
public import proofs.«01_k».proof.Proof.Dwdown
public import proofs.«01_k».proof.Proof.Dyn
public import proofs.«01_k».proof.Proof.Dwo
public import proofs.«01_k».proof.Proof.Dwin
public import proofs.«01_k».proof.Proof.Dh1
public import proofs.«01_k».proof.Proof.AdamWo
public import proofs.«01_k».proof.Proof.AdamWdown
public import proofs.«01_k».proof.Proof.AdamWukv
public import proofs.«01_k».proof.Proof.AdamWuq
public import proofs.«01_k».proof.Proof.AdamWin
public import proofs.«01_k».proof.Proof.AdamWup
public import proofs.«01_k».proof.Proof.AdamConv
public import proofs.«01_k».proof.Proof.AdamSmall
public import proofs.«01_k».proof.Proof.Mix
public import proofs.«01_k».proof.Proof.Fwd
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

/-- The reference program changes no argument and leaves no counter: its run says so. -/
theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

section Kernel

open Cert.KernelIdeal Cert.KernelIdeal.Gen Cert.Proof.KI Idealize.ShloMosaic.TcCoe

/-- The kernel program's run: its five results are the lines after the region applied to the gradients' arrays, and its arguments stay. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v72) = t72 (G4 m c)
      ∧ r.2.mem ((c.tc : Thread nD τ).loc main_v73) = t73 (G4 m c)
      ∧ r.2.mem ((c.tc : Thread nD τ).loc main_v74) = t74 (G5 m c) stv0
      ∧ r.2.mem ((c.tc : Thread nD τ).loc main_v76) = t76 (G5 m c) stv0
      ∧ r.2.mem ((c.tc : Thread nD τ).loc main_v78) = t78 (G6 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨⟨((h.1 c).2 main_v72 (Pipeline.mem_restRefs_of main_v72 (by decide) (by decide))).trans (end72 m c),
      ((h.1 c).2 main_v73 (Pipeline.mem_restRefs_of main_v73 (by decide) (by decide))).trans (end73 m c),
      ((h.1 c).2 main_v74 (Pipeline.mem_restRefs_of main_v74 (by decide) (by decide))).trans (end74 m c),
      ((h.1 c).2 main_v76 (Pipeline.mem_restRefs_of main_v76 (by decide) (by decide))).trans (end76 m c),
      ((h.1 c).2 main_v78 (Pipeline.mem_restRefs_of main_v78 (by decide) (by decide))).trans (end78 m c)⟩, h.2 c⟩)
    (θ_run_and (run_main m ρ) (unchanged m ρ))

end Kernel

section Reference

open Cert.ReferenceIdeal Cert.ReferenceIdeal.Gen Cert.ReferenceIdeal.Read

/-- The reference's run: its five results are its last lines' values, and its arguments stay. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v60) = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v39) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨⟨(h c).1.trans (val_main_v60_eq m c), (h c).2.1.trans (val_main_v55_eq m c), (h c).2.2.1.trans (val_main_v58_eq m c),
      (h c).2.2.2.1.trans (val_main_v56_eq m c), (h c).2.2.2.2.1.trans (val_main_v39_eq _ _ _ _ _)⟩, (h c).2.2.2.2.2⟩)
    (Cert.ReferenceIdeal.Value.run (F := Ideal) m ρ)

end Reference

section Value

variable [Cert.Pre_finite.Facts]

/-- The kernel program and the reference end with equal results, when the arguments are real numbers. -/
theorem value : Cert.algebraic_KernelIdeal_ReferenceIdeal_pre_finite := by
  intro m g m' g' hp ha
  have HA : ∀ c : Dev Cert.KernelIdeal.nD, ∃ a0 a1 a2 a3 a4 a5, Cert.Proof.Equal.At m c a0 a1 a2 a3 a4 a5 := fun c => by
    obtain ⟨e0, e1, e2, e3, e4, e5⟩ := Cert.Proof.Finite.reals _ _ _ _ _ _ (hp c)
    exact ⟨_, _, _, _, _, _, ⟨e0, e1, e2, e3, e4, e5⟩⟩
  refine ⟨fun c => Cert.Proof.KI.t72 (Cert.Proof.KI.G4 m c), fun c => Cert.Proof.KI.t73 (Cert.Proof.KI.G4 m c),
    fun c => Cert.Proof.KI.t74 (Cert.Proof.KI.G5 m c) Cert.Proof.KI.stv0, fun c => Cert.Proof.KI.t76 (Cert.Proof.KI.G5 m c) Cert.Proof.KI.stv0,
    fun c => Cert.Proof.KI.t78 (Cert.Proof.KI.G6 m c), ?_, ?_⟩
  · refine (θ_run Cert.KernelIdeal.defs _ _).mono (fun r h c => ?_) (run_kernel m g)
    obtain ⟨⟨h0, h1, h2, h3, h4⟩, hk⟩ := h c
    exact ⟨h0, h1, h2, h3, h4, hk⟩
  · refine (θ_run Cert.ReferenceIdeal.defs _ _).mono (fun r h c => ?_) (run_reference m' g')
    obtain ⟨⟨h0, h1, h2, h3, h4⟩, hk⟩ := h c
    obtain ⟨b0, b1, b2, b3, b4, b5⟩ := ha c
    obtain ⟨a0, a1, a2, a3, a4, a5, H⟩ := HA c
    rw [b0, b1, b2, b3, b4, b5, H.e0, H.e1, H.e2, H.e3, H.e4, H.e5] at h0 h1 h2 h3
    rw [b0, b1, b2, b3, b5, H.e0, H.e1, H.e2, H.e3, H.e5] at h4
    exact ⟨h0.trans (Cert.Proof.Equal.equal0 H).symm, h1.trans (Cert.Proof.Equal.equal1 H).symm, h2.trans (Cert.Proof.Equal.equal2 H).symm,
      h3.trans (Cert.Proof.Equal.equal3 H).symm, h4.trans (Cert.Proof.Equal.equal4 H).symm, hk⟩

end Value

/-- The claims of the certificate. -/
theorem claim : Cert.Claim :=
  ⟨Cert.Kernel.Gen.facts, Cert.KernelIdeal.Gen.facts, Cert.ReferenceIdeal.Gen.facts,
    Cert.KernelDh2.Gen.facts, Cert.KernelDh2Ideal.Gen.facts, Cert.ReferenceDh2Ideal.Gen.facts,
    Cert.KernelDwup.Gen.facts, Cert.KernelDwupIdeal.Gen.facts, Cert.ReferenceDwupIdeal.Gen.facts,
    Cert.KernelDact.Gen.facts, Cert.KernelDactIdeal.Gen.facts, Cert.ReferenceDactIdeal.Gen.facts,
    Cert.KernelDwdown.Gen.facts, Cert.KernelDwdownIdeal.Gen.facts, Cert.ReferenceDwdownIdeal.Gen.facts,
    Cert.KernelDyn.Gen.facts, Cert.KernelDynIdeal.Gen.facts, Cert.ReferenceDynIdeal.Gen.facts,
    Cert.KernelDwo.Gen.facts, Cert.KernelDwoIdeal.Gen.facts, Cert.ReferenceDwoIdeal.Gen.facts,
    Cert.KernelDwin.Gen.facts, Cert.KernelDwinIdeal.Gen.facts, Cert.ReferenceDwinIdeal.Gen.facts,
    Cert.KernelDh1.Gen.facts, Cert.KernelDh1Ideal.Gen.facts, Cert.ReferenceDh1Ideal.Gen.facts,
    Cert.KernelAdamWo.Gen.facts, Cert.KernelAdamWoIdeal.Gen.facts, Cert.ReferenceAdamWoIdeal.Gen.facts,
    Cert.KernelAdamWdown.Gen.facts, Cert.KernelAdamWdownIdeal.Gen.facts, Cert.ReferenceAdamWdownIdeal.Gen.facts,
    Cert.KernelAdamWukv.Gen.facts, Cert.KernelAdamWukvIdeal.Gen.facts, Cert.ReferenceAdamWukvIdeal.Gen.facts,
    Cert.KernelAdamWuq.Gen.facts, Cert.KernelAdamWuqIdeal.Gen.facts, Cert.ReferenceAdamWuqIdeal.Gen.facts,
    Cert.KernelAdamWin.Gen.facts, Cert.KernelAdamWinIdeal.Gen.facts, Cert.ReferenceAdamWinIdeal.Gen.facts,
    Cert.KernelAdamWup.Gen.facts, Cert.KernelAdamWupIdeal.Gen.facts, Cert.ReferenceAdamWupIdeal.Gen.facts,
    Cert.KernelAdamConv.Gen.facts, Cert.KernelAdamConvIdeal.Gen.facts, Cert.ReferenceAdamConvIdeal.Gen.facts,
    Cert.KernelFwd.Gen.facts, Cert.KernelFwdIdeal.Gen.facts, Cert.ReferenceFwdIdeal.Gen.facts,
    Cert.KernelMix.Gen.facts, Cert.KernelMixIdeal.Gen.facts, Cert.ReferenceMixIdeal.Gen.facts,
    Cert.KernelAdamSmall.Gen.facts, Cert.KernelAdamSmallIdeal.Gen.facts, Cert.ReferenceAdamSmallIdeal.Gen.facts,
    Cert.Proof.Finite.facts, Cert.Proof.FwdRef.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.KernelDh2.Gen.frame m ρ, fun m ρ _ => Cert.KernelDh2Ideal.Gen.frame m ρ, Cert.Proof.Dh2.frame_reference,
    fun m ρ _ => Cert.KernelDwup.Gen.frame m ρ, fun m ρ _ => Cert.KernelDwupIdeal.Gen.frame m ρ, Cert.Proof.Dwup.frame_reference,
    fun m ρ _ => Cert.KernelDact.Gen.frame m ρ, fun m ρ _ => Cert.KernelDactIdeal.Gen.frame m ρ, Cert.Proof.Dact.frame_reference,
    fun m ρ _ => Cert.KernelDwdown.Gen.frame m ρ, fun m ρ _ => Cert.KernelDwdownIdeal.Gen.frame m ρ, Cert.Proof.Dwdown.frame_reference,
    fun m ρ _ => Cert.KernelDyn.Gen.frame m ρ, fun m ρ _ => Cert.KernelDynIdeal.Gen.frame m ρ, Cert.Proof.Dyn.frame_reference,
    fun m ρ _ => Cert.KernelDwo.Gen.frame m ρ, fun m ρ _ => Cert.KernelDwoIdeal.Gen.frame m ρ, Cert.Proof.Dwo.frame_reference,
    fun m ρ _ => Cert.KernelDwin.Gen.frame m ρ, fun m ρ _ => Cert.KernelDwinIdeal.Gen.frame m ρ, Cert.Proof.Dwin.frame_reference,
    fun m ρ _ => Cert.KernelDh1.Gen.frame m ρ, fun m ρ _ => Cert.KernelDh1Ideal.Gen.frame m ρ, Cert.Proof.Dh1.frame_reference,
    fun m ρ _ => Cert.KernelAdamWo.Gen.frame m ρ, fun m ρ _ => Cert.KernelAdamWoIdeal.Gen.frame m ρ, Cert.Proof.AdamWo.frame_reference,
    fun m ρ _ => Cert.KernelAdamWdown.Gen.frame m ρ, fun m ρ _ => Cert.KernelAdamWdownIdeal.Gen.frame m ρ, Cert.Proof.AdamWdown.frame_reference,
    fun m ρ _ => Cert.KernelAdamWukv.Gen.frame m ρ, fun m ρ _ => Cert.KernelAdamWukvIdeal.Gen.frame m ρ, Cert.Proof.AdamWukv.frame_reference,
    fun m ρ _ => Cert.KernelAdamWuq.Gen.frame m ρ, fun m ρ _ => Cert.KernelAdamWuqIdeal.Gen.frame m ρ, Cert.Proof.AdamWuq.frame_reference,
    fun m ρ _ => Cert.KernelAdamWin.Gen.frame m ρ, fun m ρ _ => Cert.KernelAdamWinIdeal.Gen.frame m ρ, Cert.Proof.AdamWin.frame_reference,
    fun m ρ _ => Cert.KernelAdamWup.Gen.frame m ρ, fun m ρ _ => Cert.KernelAdamWupIdeal.Gen.frame m ρ, Cert.Proof.AdamWup.frame_reference,
    fun m ρ _ => Cert.KernelAdamConv.Gen.frame m ρ, fun m ρ _ => Cert.KernelAdamConvIdeal.Gen.frame m ρ, Cert.Proof.AdamConv.frame_reference,
    fun m ρ _ => Cert.KernelFwd.Gen.frame m ρ, fun m ρ _ => Cert.KernelFwdIdeal.Gen.frame m ρ, fun m ρ _ => Cert.KernelFwdIdeal.Gen.frame m ρ,
    Cert.Proof.Fwd.frame_reference, fun m ρ _ => Cert.Proof.Fwd.frame_reference m ρ trivial,
    fun m ρ _ => Cert.KernelMix.Gen.frame m ρ, fun m ρ _ => Cert.KernelMixIdeal.Gen.frame m ρ, Cert.Proof.Mix.frame_reference,
    fun m ρ _ => Cert.KernelAdamSmall.Gen.frame m ρ, fun m ρ _ => Cert.KernelAdamSmallIdeal.Gen.frame m ρ, Cert.Proof.AdamSmall.frame_reference,
    trivial,
    haveI := Cert.Proof.Finite.facts; value,
    trivial, Cert.Proof.Dh2.value, trivial, Cert.Proof.Dwup.value,
    trivial, Cert.Proof.Dact.value, trivial, Cert.Proof.Dwdown.value, trivial, Cert.Proof.Dyn.value, trivial, Cert.Proof.Dwo.value, trivial, Cert.Proof.Dwin.value, trivial, Cert.Proof.Dh1.value,
    trivial, Cert.Proof.AdamWo.value,
    trivial, Cert.Proof.AdamWdown.value,
    trivial, Cert.Proof.AdamWukv.value,
    trivial, Cert.Proof.AdamWuq.value,
    trivial, Cert.Proof.AdamWin.value,
    trivial, Cert.Proof.AdamWup.value,
    trivial, Cert.Proof.AdamConv.value,
    trivial, (haveI := Cert.Proof.FwdRef.facts; Cert.Proof.Fwd.value),
    trivial, Cert.Proof.Mix.value,
    trivial, Cert.Proof.AdamSmall.value⟩

end Cert.Proof

end
